-- ==== Defs.lean ====
def Pre_Kernel [hPre_in_image : Cert.Pre_in_image.Facts] (m : (ℓ : Loc Cert.Kernel.nD Cert.Kernel.τ Cert.Kernel.sig) → Buf (Elt Bits) ℓ) : Prop :=
  ∀ c : Dev Cert.Kernel.nD,
    (Cert.Pre_in_image.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_image : Cert.Pre_in_image.Facts] (m : (ℓ : Loc Cert.KernelIdeal.nD Cert.KernelIdeal.τ Cert.KernelIdeal.sig) → Buf (Elt Ideal) ℓ) : Prop :=
  ∀ c : Dev Cert.KernelIdeal.nD,
    (Cert.Pre_in_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_image [hPre_in_image : Cert.Pre_in_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_image : Cert.Pre_in_image.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_image : Cert.Pre_in_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_image [hReferenceIdeal : Cert.ReferenceIdeal.Facts] [hPre_in_image : Cert.Pre_in_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_image : Cert.Pre_in_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_image : Cert.Pre_in_image.Facts),
    quiescent_Kernel (hKernel := hKernel) (hPre_in_image := hPre_in_image)
    ∧ quiescent_KernelIdeal (hKernelIdeal := hKernelIdeal) (hPre_in_image := hPre_in_image)
    ∧ quiescent_ReferenceIdeal (hReferenceIdeal := hReferenceIdeal)
    ∧ quiescent_ReferenceIdeal_pre_in_image (hReferenceIdeal := hReferenceIdeal) (hPre_in_image := hPre_in_image)
    ∧ preserves_Kernel_KernelIdeal
    ∧ algebraic_KernelIdeal_ReferenceIdeal (hKernelIdeal := hKernelIdeal) (hReferenceIdeal := hReferenceIdeal) (hPre_in_image := hPre_in_image)
-- ==== Pre_in_image.lean ====
abbrev S256x3x224x224 : Shape := ⟨4, ![256, 3, 224, 224]⟩
abbrev S1x3x30x30 : Shape := ⟨4, ![1, 3, 30, 30]⟩
abbrev S256x2 : Shape := ⟨2, ![256, 2]⟩
abbrev S_ : Shape := ⟨0, ![]⟩

class Facts : Prop where
  bcast_S_S256x2 : S_.BroadcastsInDim S256x2 (![] : Fin 0 → Fin S256x2.rank)
  reducesTo_S256x2_S_d0_1 : S256x2.ReducesTo [0, 1] S_
  h_S_ : 0 < S_.numel

variable [Facts]

def fn {F : FTy → Type} [FloatOps F] (main_arg0 : FVec F S256x3x224x224 .f32) (main_arg1 : FVec F S1x3x30x30 .f32) (main_arg2 : IVec S256x2 32) : IVec S_ 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 1 := constantI S_ 1 1#1
  let main_v2 : IVec S_ 1 := (fun x v => Host.reduce IntOp.andi x v reducesTo_S256x2_S_d0_1 h_S_) main_v1 main_c_0
  let main_c_1 : IVec S_ 32 := constantI S_ 32 194#32
  let main_v3 : IVec S256x2 32 := broadcastInDim S256x2 ![] bcast_S_S256x2 main_c_1
  let main_v4 : IVec S256x2 1 := cmpi .slt main_arg2 main_v3
  let main_c_2 : IVec S_ 1 := constantI S_ 1 1#1
  let main_v5 : IVec S_ 1 := (fun x v => Host.reduce IntOp.andi x v reducesTo_S256x2_S_d0_1 h_S_) main_v4 main_c_2
  let main_v6 : IVec S_ 1 := andi main_v2 main_v5
  main_v6
-- ==== Kernel.lean ====
abbrev S256x3x224x224 : Shape := ⟨4, ![256, 3, 224, 224]⟩
abbrev S1x3x30x30 : Shape := ⟨4, ![1, 3, 30, 30]⟩
abbrev S256x2 : Shape := ⟨2, ![256, 2]⟩
abbrev S_ : Shape := ⟨0, ![]⟩
abbrev S1x3x40x224 : Shape := ⟨4, ![1, 3, 40, 224]⟩
abbrev S4x16x3x40x224 : Shape := ⟨5, ![4, 16, 3, 40, 224]⟩
abbrev S4x16 : Shape := ⟨2, ![4, 16]⟩
abbrev S1x1 : Shape := ⟨2, ![1, 1]⟩
abbrev S3x40x224 : Shape := ⟨3, ![3, 40, 224]⟩
abbrev S1x1x3x40x224 : Shape := ⟨5, ![1, 1, 3, 40, 224]⟩

abbrev nBuf : Space → Nat
  | .hbm => 10
  | .vmem => 2
  | .smem => 1
  | _ => 0

abbrev bufTy : (tb : Table) → Fin (tcTables nBuf tb) → BufTy
  | .hbm, ⟨0, _⟩ => ⟨S256x3x224x224, .f32⟩
  | .hbm, ⟨1, _⟩ => ⟨S1x3x30x30, .f32⟩
  | .hbm, ⟨2, _⟩ => ⟨S_, .f32⟩
  | .hbm, ⟨3, _⟩ => ⟨S1x3x40x224, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x3x40x224, .f32⟩
  | .hbm, ⟨9, _⟩ => ⟨S256x3x224x224, .f32⟩
  | .local _ .vmem, ⟨0, _⟩ => ⟨S1x3x40x224, .f32⟩
  | .local _ .vmem, ⟨1, _⟩ => ⟨S4x16x3x40x224, .f32⟩
  | .local _ .smem, ⟨0, _⟩ => ⟨S256x2, .i32⟩
  | _, _ => ⟨S256x3x224x224, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 129 → Bool
  | ⟨i, _⟩ => dmaSemScopedAt i

abbrev sig : RefSig :=
  ofTc nBuf bufTy 0 129 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_arg2 : Ref sig .tc := ⟨.smem, 0, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := ⟨1, ![18], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32 : BitVec 32 := 4#32
  let v12 : BitVec 1 := Scalar.cmpi .sge arg0 c4_i32
  let v13 : BitVec 32 := Scalar.extui v12
  let c0_i32_4 : BitVec 32 := 0#32
  let v14 : BitVec 1 := Scalar.cmpi .ne v13 c0_i32_4
  v14

def k0_off1 (i : grid0.Coords) : Fin 2 → Nat :=
  let arg0 : BitVec 32 := BitVec.ofNat 32 (i 0).val
  let c4_i32_310 : BitVec 32 := 4#32
  let v511 : BitVec 32 := Scalar.subi arg0 c4_i32_310
  let c16_i32_312 : BitVec 32 := 16#32
  let v513 : BitVec 32 := Scalar.muli v511 c16_i32_312
  let c0_i32_313 : BitVec 32 := 0#32
  let v514 : BitVec 32 := Scalar.addi v513 c0_i32_313
  let v515 : Index := Scalar.indexCast v514
  let c0_314 : Index := 0#32
  ![v515.toNat, 0]
def k0_mult1 (v516 : BitVec 32) : BitVec 32 :=
  let c0_i32_316 : BitVec 32 := 0#32
  let v518 : BitVec 1 := Scalar.cmpi .sgt v516 c0_i32_316
  let v519 : BitVec 32 := Scalar.extui v518
  let c0_i32_317 : BitVec 32 := 0#32
  let v520 : BitVec 1 := Scalar.cmpi .slt v516 c0_i32_317
  let v521 : BitVec 32 := Scalar.extui v520
  let v522 : BitVec 32 := Scalar.subi v519 v521
  let c8_i32_315 : BitVec 32 := 8#32
  let c0_i32_318 : BitVec 32 := 0#32
  let v523 : BitVec 1 := Scalar.cmpi .sgt c8_i32_315 c0_i32_318
  let v524 : BitVec 32 := Scalar.extui v523
  let c0_i32_319 : BitVec 32 := 0#32
  let v525 : BitVec 1 := Scalar.cmpi .slt c8_i32_315 c0_i32_319
  let v526 : BitVec 32 := Scalar.extui v525
  let v527 : BitVec 32 := Scalar.subi v524 v526
  let v528 : BitVec 1 := Scalar.cmpi .ne v522 v527
  let v529 : BitVec 32 := Scalar.remsi v516 c8_i32_315
  let c0_i32_320 : BitVec 32 := 0#32
  let v530 : BitVec 1 := Scalar.cmpi .ne v529 c0_i32_320
  let v531 : BitVec 1 := Scalar.andi v528 v530
  let v517 : BitVec 32 := Scalar.divsi v516 c8_i32_315
  let c1_i32_321 : BitVec 32 := 1#32
  let v532 : BitVec 32 := Scalar.subi v517 c1_i32_321
  let v533 : BitVec 32 := Scalar.select v531 v532 v517
  let c8_i32_322 : BitVec 32 := 8#32
  let v534 : BitVec 32 := Scalar.muli v533 c8_i32_322
  let c184_i32_323 : BitVec 32 := 184#32
  let v535 : BitVec 32 := Scalar.minsi v534 c184_i32_323
  v535

def k0_off2 (i : grid0.Coords) : Fin 2 → Nat :=
  let arg0 : BitVec 32 := BitVec.ofNat 32 (i 0).val
  let c4_i32_310 : BitVec 32 := 4#32
  let v511 : BitVec 32 := Scalar.subi arg0 c4_i32_310
  let c4_i32_311 : BitVec 32 := 4#32
  let v512 : BitVec 32 := Scalar.remsi v511 c4_i32_311
  let c0_i32_325 : BitVec 32 := 0#32
  ![v512.toNat, 0]
def k0_off3 (i : grid0.Coords) (v516 : BitVec 32) : Fin 4 → Nat :=
  let arg0 : BitVec 32 := BitVec.ofNat 32 (i 0).val
  let c4_i32_310 : BitVec 32 := 4#32
  let v511 : BitVec 32 := Scalar.subi arg0 c4_i32_310
  let c16_i32_312 : BitVec 32 := 16#32
  let v513 : BitVec 32 := Scalar.muli v511 c16_i32_312
  let c0_i32_313 : BitVec 32 := 0#32
  let v514 : BitVec 32 := Scalar.addi v513 c0_i32_313
  let c0_i32_326 : BitVec 32 := 0#32
  let c0_i32_316 : BitVec 32 := 0#32
  let v518 : BitVec 1 := Scalar.cmpi .sgt v516 c0_i32_316
  let v519 : BitVec 32 := Scalar.extui v518
  let c0_i32_317 : BitVec 32 := 0#32
  let v520 : BitVec 1 := Scalar.cmpi .slt v516 c0_i32_317
  let v521 : BitVec 32 := Scalar.extui v520
  let v522 : BitVec 32 := Scalar.subi v519 v521
  let c8_i32_315 : BitVec 32 := 8#32
  let c0_i32_318 : BitVec 32 := 0#32
  let v523 : BitVec 1 := Scalar.cmpi .sgt c8_i32_315 c0_i32_318
  let v524 : BitVec 32 := Scalar.extui v523
  let c0_i32_319 : BitVec 32 := 0#32
  let v525 : BitVec 1 := Scalar.cmpi .slt c8_i32_315 c0_i32_319
  let v526 : BitVec 32 := Scalar.extui v525
  let v527 : BitVec 32 := Scalar.subi v524 v526
  let v528 : BitVec 1 := Scalar.cmpi .ne v522 v527
  let v529 : BitVec 32 := Scalar.remsi v516 c8_i32_315
  let c0_i32_320 : BitVec 32 := 0#32
  let v530 : BitVec 1 := Scalar.cmpi .ne v529 c0_i32_320
  let v531 : BitVec 1 := Scalar.andi v528 v530
  let v517 : BitVec 32 := Scalar.divsi v516 c8_i32_315
  let c1_i32_321 : BitVec 32 := 1#32
  let v532 : BitVec 32 := Scalar.subi v517 c1_i32_321
  let v533 : BitVec 32 := Scalar.select v531 v532 v517
  let c8_i32_322 : BitVec 32 := 8#32
  let v534 : BitVec 32 := Scalar.muli v533 c8_i32_322
  let c184_i32_323 : BitVec 32 := 184#32
  let v535 : BitVec 32 := Scalar.minsi v534 c184_i32_323
  let v536 : BitVec 32 := v535
  let c0_i32_327 : BitVec 32 := 0#32
  ![v514.toNat, 0, v536.toNat, 0]

def k0_chk1 (i : grid0.Coords) (v516 : BitVec 32) : Prop :=
  (∀ (k0_h1 : k0_cond1 i = 1#1), ∀ (k0_h2 : k0_cond2 i = 1#1), 8 ∣ (k0_mult1 v516).toNat) ∧
  (∀ (k0_h1 : k0_cond1 i = 1#1), ∀ (k0_h2 : k0_cond2 i = 1#1), ∀ a, (k0_off3 i v516) a + S1x3x40x224.size a ≤ S256x3x224x224.size a)
theorem k0_mult1_dvd : ∀ (i : grid0.Coords) (v516 : BitVec 32) (k0_hw1 : k0_chk1 i v516), ∀ (k0_h1 : k0_cond1 i = 1#1), ∀ (k0_h2 : k0_cond2 i = 1#1), 8 ∣ (k0_mult1 v516).toNat := fun i v516 k0_hw1 k0_h1 k0_h2 => k0_hw1.1 k0_h1 k0_h2
theorem k0_off3_inb : ∀ (i : grid0.Coords) (v516 : BitVec 32) (k0_hw1 : k0_chk1 i v516), ∀ (k0_h1 : k0_cond1 i = 1#1), ∀ (k0_h2 : k0_cond2 i = 1#1), ∀ a, (k0_off3 i v516) a + S1x3x40x224.size a ≤ S256x3x224x224.size a := fun i v516 k0_hw1 k0_h1 k0_h2 => k0_hw1.2 k0_h1 k0_h2

def k0_off4 (i : grid0.Coords) : Fin 5 → Nat :=
  let arg0 : BitVec 32 := BitVec.ofNat 32 (i 0).val
  let c4_i32_310 : BitVec 32 := 4#32
  let v511 : BitVec 32 := Scalar.subi arg0 c4_i32_310
  let c4_i32_311 : BitVec 32 := 4#32
  let v512 : BitVec 32 := Scalar.remsi v511 c4_i32_311
  let c0_i32_324 : BitVec 32 := 0#32
  let c0_i32_328 : BitVec 32 := 0#32
  let c0_i32_329 : BitVec 32 := 0#32
  let c0_i32_330 : BitVec 32 := 0#32
  ![v512.toNat, 0, 0, 0, 0]
def k0_off5 (i : grid0.Coords) : Fin 2 → Nat :=
  let arg0 : BitVec 32 := BitVec.ofNat 32 (i 0).val
  let c4_i32_331 : BitVec 32 := 4#32
  let v543 : BitVec 32 := Scalar.subi arg0 c4_i32_331
  let c16_i32_333 : BitVec 32 := 16#32
  let v545 : BitVec 32 := Scalar.muli v543 c16_i32_333
  let c1_i32_334 : BitVec 32 := 1#32
  let v546 : BitVec 32 := Scalar.addi v545 c1_i32_334
  let v547 : Index := Scalar.indexCast v546
  let c0_335 : Index := 0#32
  ![v547.toNat, 0]
def k0_mult2 (v548 : BitVec 32) : BitVec 32 :=
  let c0_i32_337 : BitVec 32 := 0#32
  let v550 : BitVec 1 := Scalar.cmpi .sgt v548 c0_i32_337
  let v551 : BitVec 32 := Scalar.extui v550
  let c0_i32_338 : BitVec 32 := 0#32
  let v552 : BitVec 1 := Scalar.cmpi .slt v548 c0_i32_338
  let v553 : BitVec 32 := Scalar.extui v552
  let v554 : BitVec 32 := Scalar.subi v551 v553
  let c8_i32_336 : BitVec 32 := 8#32
  let c0_i32_339 : BitVec 32 := 0#32
  let v555 : BitVec 1 := Scalar.cmpi .sgt c8_i32_336 c0_i32_339
  let v556 : BitVec 32 := Scalar.extui v555
  let c0_i32_340 : BitVec 32 := 0#32
  let v557 : BitVec 1 := Scalar.cmpi .slt c8_i32_336 c0_i32_340
  let v558 : BitVec 32 := Scalar.extui v557
  let v559 : BitVec 32 := Scalar.subi v556 v558
  let v560 : BitVec 1 := Scalar.cmpi .ne v554 v559
  let v561 : BitVec 32 := Scalar.remsi v548 c8_i32_336
  let c0_i32_341 : BitVec 32 := 0#32
  let v562 : BitVec 1 := Scalar.cmpi .ne v561 c0_i32_341
  let v563 : BitVec 1 := Scalar.andi v560 v562
  let v549 : BitVec 32 := Scalar.divsi v548 c8_i32_336
  let c1_i32_342 : BitVec 32 := 1#32
  let v564 : BitVec 32 := Scalar.subi v549 c1_i32_342
  let v565 : BitVec 32 := Scalar.select v563 v564 v549
  let c8_i32_343 : BitVec 32 := 8#32
  let v566 : BitVec 32 := Scalar.muli v565 c8_i32_343
  let c184_i32_344 : BitVec 32 := 184#32
  let v567 : BitVec 32 := Scalar.minsi v566 c184_i32_344
  v567

def k0_off6 (i : grid0.Coords) : Fin 2 → Nat :=
  let arg0 : BitVec 32 := BitVec.ofNat 32 (i 0).val
  let c4_i32_331 : BitVec 32 := 4#32
  let v543 : BitVec 32 := Scalar.subi arg0 c4_i32_331
  let c4_i32_332 : BitVec 32 := 4#32
  let v544 : BitVec 32 := Scalar.remsi v543 c4_i32_332
  let c1_i32_346 : BitVec 32 := 1#32
  ![v544.toNat, 1]
def k0_off7 (i : grid0.Coords) (v548 : BitVec 32) : Fin 4 → Nat :=
  let arg0 : BitVec 32 := BitVec.ofNat 32 (i 0).val
  let c4_i32_331 : BitVec 32 := 4#32
  let v543 : BitVec 32 := Scalar.subi arg0 c4_i32_331
  let c16_i32_333 : BitVec 32 := 16#32
  let v545 : BitVec 32 := Scalar.muli v543 c16_i32_333
  let c1_i32_334 : BitVec 32 := 1#32
  let v546 : BitVec 32 := Scalar.addi v545 c1_i32_334
  let c0_i32_347 : BitVec 32 := 0#32
  let c0_i32_337 : BitVec 32 := 0#32
  let v550 : BitVec 1 := Scalar.cmpi .sgt v548 c0_i32_337
  let v551 : BitVec 32 := Scalar.extui v550
  let c0_i32_338 : BitVec 32 := 0#32
  let v552 : BitVec 1 := Scalar.cmpi .slt v548 c0_i32_338
  let v553 : BitVec 32 := Scalar.extui v552
  let v554 : BitVec 32 := Scalar.subi v551 v553
  let c8_i32_336 : BitVec 32 := 8#32
  let c0_i32_339 : BitVec 32 := 0#32
  let v555 : BitVec 1 := Scalar.cmpi .sgt c8_i32_336 c0_i32_339
  let v556 : BitVec 32 := Scalar.extui v555
  let c0_i32_340 : BitVec 32 := 0#32
  let v557 : BitVec 1 := Scalar.cmpi .slt c8_i32_336 c0_i32_340
  let v558 : BitVec 32 := Scalar.extui v557
  let v559 : BitVec 32 := Scalar.subi v556 v558
  let v560 : BitVec 1 := Scalar.cmpi .ne v554 v559
  let v561 : BitVec 32 := Scalar.remsi v548 c8_i32_336
  let c0_i32_341 : BitVec 32 := 0#32
  let v562 : BitVec 1 := Scalar.cmpi .ne v561 c0_i32_341
  let v563 : BitVec 1 := Scalar.andi v560 v562
  let v549 : BitVec 32 := Scalar.divsi v548 c8_i32_336
  let c1_i32_342 : BitVec 32 := 1#32
  let v564 : BitVec 32 := Scalar.subi v549 c1_i32_342
  let v565 : BitVec 32 := Scalar.select v563 v564 v549
  let c8_i32_343 : BitVec 32 := 8#32
  let v566 : BitVec 32 := Scalar.muli v565 c8_i32_343
  let c184_i32_344 : BitVec 32 := 184#32
  let v567 : BitVec 32 := Scalar.minsi v566 c184_i32_344
  let v568 : BitVec 32 := v567
  let c0_i32_348 : BitVec 32 := 0#32
  ![v546.toNat, 0, v568.toNat, 0]

def k0_chk2 (i : grid0.Coords) (v548 : BitVec 32) : Prop :=
  (∀ (k0_h1 : k0_cond1 i = 1#1), ∀ (k0_h2 : k0_cond2 i = 1#1), 8 ∣ (k0_mult2 v548).toNat) ∧
  (∀ (k0_h1 : k0_cond1 i = 1#1), ∀ (k0_h2 : k0_cond2 i = 1#1), ∀ a, (k0_off7 i v548) a + S1x3x40x224.size a ≤ S256x3x224x224.size a)
theorem k0_mult2_dvd : ∀ (i : grid0.Coords) (v548 : BitVec 32) (k0_hw2 : k0_chk2 i v548), ∀ (k0_h1 : k0_cond1 i = 1#1), ∀ (k0_h2 : k0_cond2 i = 1#1), 8 ∣ (k0_mult2 v548).toNat := fun i v548 k0_hw2 k0_h1 k0_h2 => k0_hw2.1 k0_h1 k0_h2
theorem k0_off7_inb : ∀ (i : grid0.Coords) (v548 : BitVec 32) (k0_hw2 : k0_chk2 i v548), ∀ (k0_h1 : k0_cond1 i = 1#1), ∀ (k0_h2 : k0_cond2 i = 1#1), ∀ a, (k0_off7 i v548) a + S1x3x40x224.size a ≤ S256x3x224x224.size a := fun i v548 k0_hw2 k0_h1 k0_h2 => k0_hw2.2 k0_h1 k0_h2

def k0_off8 (i : grid0.Coords) : Fin 5 → Nat :=
  let arg0 : BitVec 32 := BitVec.ofNat 32 (i 0).val
  let c4_i32_331 : BitVec 32 := 4#32
  let v543 : BitVec 32 := Scalar.subi arg0 c4_i32_331
  let c4_i32_332 : BitVec 32 := 4#32
  let v544 : BitVec 32 := Scalar.remsi v543 c4_i32_332
  let c1_i32_345 : BitVec 32 := 1#32
  let c0_i32_349 : BitVec 32 := 0#32
  let c0_i32_350 : BitVec 32 := 0#32
  let c0_i32_351 : BitVec 32 := 0#32
  ![v544.toNat, 1, 0, 0, 0]
def k0_off9 (i : grid0.Coords) : Fin 2 → Nat :=
  let arg0 : BitVec 32 := BitVec.ofNat 32 (i 0).val
  let c4_i32_352 : BitVec 32 := 4#32
  let v575 : BitVec 32 := Scalar.subi arg0 c4_i32_352
  let c16_i32_354 : BitVec 32 := 16#32
  let v577 : BitVec 32 := Scalar.muli v575 c16_i32_354
  let c2_i32_355 : BitVec 32 := 2#32
  let v578 : BitVec 32 := Scalar.addi v577 c2_i32_355
  let v579 : Index := Scalar.indexCast v578
  let c0_356 : Index := 0#32
  ![v579.toNat, 0]
def k0_mult3 (v580 : BitVec 32) : BitVec 32 :=
  let c0_i32_358 : BitVec 32 := 0#32
  let v582 : BitVec 1 := Scalar.cmpi .sgt v580 c0_i32_358
  let v583 : BitVec 32 := Scalar.extui v582
  let c0_i32_359 : BitVec 32 := 0#32
  let v584 : BitVec 1 := Scalar.cmpi .slt v580 c0_i32_359
  let v585 : BitVec 32 := Scalar.extui v584
  let v586 : BitVec 32 := Scalar.subi v583 v585
  let c8_i32_357 : BitVec 32 := 8#32
  let c0_i32_360 : BitVec 32 := 0#32
  let v587 : BitVec 1 := Scalar.cmpi .sgt c8_i32_357 c0_i32_360
  let v588 : BitVec 32 := Scalar.extui v587
  let c0_i32_361 : BitVec 32 := 0#32
  let v589 : BitVec 1 := Scalar.cmpi .slt c8_i32_357 c0_i32_361
  let v590 : BitVec 32 := Scalar.extui v589
  let v591 : BitVec 32 := Scalar.subi v588 v590
  let v592 : BitVec 1 := Scalar.cmpi .ne v586 v591
  let v593 : BitVec 32 := Scalar.remsi v580 c8_i32_357
  let c0_i32_362 : BitVec 32 := 0#32
  let v594 : BitVec 1 := Scalar.cmpi .ne v593 c0_i32_362
  let v595 : BitVec 1 := Scalar.andi v592 v594
  let v581 : BitVec 32 := Scalar.divsi v580 c8_i32_357
  let c1_i32_363 : BitVec 32 := 1#32
  let v596 : BitVec 32 := Scalar.subi v581 c1_i32_363
  let v597 : BitVec 32 := Scalar.select v595 v596 v581
  let c8_i32_364 : BitVec 32 := 8#32
  let v598 : BitVec 32 := Scalar.muli v597 c8_i32_364
  let c184_i32_365 : BitVec 32 := 184#32
  let v599 : BitVec 32 := Scalar.minsi v598 c184_i32_365
  v599

def k0_off10 (i : grid0.Coords) : Fin 2 → Nat :=
  let arg0 : BitVec 32 := BitVec.ofNat 32 (i 0).val
  let c4_i32_352 : BitVec 32 := 4#32
  let v575 : BitVec 32 := Scalar.subi arg0 c4_i32_352
  let c4_i32_353 : BitVec 32 := 4#32
  let v576 : BitVec 32 := Scalar.remsi v575 c4_i32_353
  let c2_i32_367 : BitVec 32 := 2#32
  ![v576.toNat, 2]
def k0_off11 (i : grid0.Coords) (v580 : BitVec 32) : Fin 4 → Nat :=
  let arg0 : BitVec 32 := BitVec.ofNat 32 (i 0).val
  let c4_i32_352 : BitVec 32 := 4#32
  let v575 : BitVec 32 := Scalar.subi arg0 c4_i32_352
  let c16_i32_354 : BitVec 32 := 16#32
  let v577 : BitVec 32 := Scalar.muli v575 c16_i32_354
  let c2_i32_355 : BitVec 32 := 2#32
  let v578 : BitVec 32 := Scalar.addi v577 c2_i32_355
  let c0_i32_368 : BitVec 32 := 0#32
  let c0_i32_358 : BitVec 32 := 0#32
  let v582 : BitVec 1 := Scalar.cmpi .sgt v580 c0_i32_358
  let v583 : BitVec 32 := Scalar.extui v582
  let c0_i32_359 : BitVec 32 := 0#32
  let v584 : BitVec 1 := Scalar.cmpi .slt v580 c0_i32_359
  let v585 : BitVec 32 := Scalar.extui v584
  let v586 : BitVec 32 := Scalar.subi v583 v585
  let c8_i32_357 : BitVec 32 := 8#32
  let c0_i32_360 : BitVec 32 := 0#32
  let v587 : BitVec 1 := Scalar.cmpi .sgt c8_i32_357 c0_i32_360
  let v588 : BitVec 32 := Scalar.extui v587
  let c0_i32_361 : BitVec 32 := 0#32
  let v589 : BitVec 1 := Scalar.cmpi .slt c8_i32_357 c0_i32_361
  let v590 : BitVec 32 := Scalar.extui v589
  let v591 : BitVec 32 := Scalar.subi v588 v590
  let v592 : BitVec 1 := Scalar.cmpi .ne v586 v591
  let v593 : BitVec 32 := Scalar.remsi v580 c8_i32_357
  let c0_i32_362 : BitVec 32 := 0#32
  let v594 : BitVec 1 := Scalar.cmpi .ne v593 c0_i32_362
  let v595 : BitVec 1 := Scalar.andi v592 v594
  let v581 : BitVec 32 := Scalar.divsi v580 c8_i32_357
  let c1_i32_363 : BitVec 32 := 1#32
  let v596 : BitVec 32 := Scalar.subi v581 c1_i32_363
  let v597 : BitVec 32 := Scalar.select v595 v596 v581
  let c8_i32_364 : BitVec 32 := 8#32
  let v598 : BitVec 32 := Scalar.muli v597 c8_i32_364
  let c184_i32_365 : BitVec 32 := 184#32
  let v599 : BitVec 32 := Scalar.minsi v598 c184_i32_365
  let v600 : BitVec 32 := v599
  let c0_i32_369 : BitVec 32 := 0#32
  ![v578.toNat, 0, v600.toNat, 0]

def k0_chk3 (i : grid0.Coords) (v580 : BitVec 32) : Prop :=
  (∀ (k0_h1 : k0_cond1 i = 1#1), ∀ (k0_h2 : k0_cond2 i = 1#1), 8 ∣ (k0_mult3 v580).toNat) ∧
  (∀ (k0_h1 : k0_cond1 i = 1#1), ∀ (k0_h2 : k0_cond2 i = 1#1), ∀ a, (k0_off11 i v580) a + S1x3x40x224.size a ≤ S256x3x224x224.size a)
theorem k0_mult3_dvd : ∀ (i : grid0.Coords) (v580 : BitVec 32) (k0_hw3 : k0_chk3 i v580), ∀ (k0_h1 : k0_cond1 i = 1#1), ∀ (k0_h2 : k0_cond2 i = 1#1), 8 ∣ (k0_mult3 v580).toNat := fun i v580 k0_hw3 k0_h1 k0_h2 => k0_hw3.1 k0_h1 k0_h2
theorem k0_off11_inb : ∀ (i : grid0.Coords) (v580 : BitVec 32) (k0_hw3 : k0_chk3 i v580), ∀ (k0_h1 : k0_cond1 i = 1#1), ∀ (k0_h2 : k0_cond2 i = 1#1), ∀ a, (k0_off11 i v580) a + S1x3x40x224.size a ≤ S256x3x224x224.size a := fun i v580 k0_hw3 k0_h1 k0_h2 => k0_hw3.2 k0_h1 k0_h2

def k0_off12 (i : grid0.Coords) : Fin 5 → Nat :=
  let arg0 : BitVec 32 := BitVec.ofNat 32 (i 0).val
  let c4_i32_352 : BitVec 32 := 4#32
  let v575 : BitVec 32 := Scalar.subi arg0 c4_i32_352
  let c4_i32_353 : BitVec 32 := 4#32
  let v576 : BitVec 32 := Scalar.remsi v575 c4_i32_353
  let c2_i32_366 : BitVec 32 := 2#32
  let c0_i32_370 : BitVec 32 := 0#32
  let c0_i32_371 : BitVec 32 := 0#32
  let c0_i32_372 : BitVec 32 := 0#32
  ![v576.toNat, 2, 0, 0, 0]
def k0_off13 (i : grid0.Coords) : Fin 2 → Nat :=
  let arg0 : BitVec 32 := BitVec.ofNat 32 (i 0).val
  let c4_i32_373 : BitVec 32 := 4#32
  let v607 : BitVec 32 := Scalar.subi arg0 c4_i32_373
  let c16_i32_375 : BitVec 32 := 16#32
  let v609 : BitVec 32 := Scalar.muli v607 c16_i32_375
  let c3_i32_376 : BitVec 32 := 3#32
  let v610 : BitVec 32 := Scalar.addi v609 c3_i32_376
  let v611 : Index := Scalar.indexCast v610
  let c0_377 : Index := 0#32
  ![v611.toNat, 0]
def k0_mult4 (v612 : BitVec 32) : BitVec 32 :=
  let c0_i32_379 : BitVec 32 := 0#32
  let v614 : BitVec 1 := Scalar.cmpi .sgt v612 c0_i32_379
  let v615 : BitVec 32 := Scalar.extui v614
  let c0_i32_380 : BitVec 32 := 0#32
  let v616 : BitVec 1 := Scalar.cmpi .slt v612 c0_i32_380
  let v617 : BitVec 32 := Scalar.extui v616
  let v618 : BitVec 32 := Scalar.subi v615 v617
  let c8_i32_378 : BitVec 32 := 8#32
  let c0_i32_381 : BitVec 32 := 0#32
  let v619 : BitVec 1 := Scalar.cmpi .sgt c8_i32_378 c0_i32_381
  let v620 : BitVec 32 := Scalar.extui v619
  let c0_i32_382 : BitVec 32 := 0#32
  let v621 : BitVec 1 := Scalar.cmpi .slt c8_i32_378 c0_i32_382
  let v622 : BitVec 32 := Scalar.extui v621
  let v623 : BitVec 32 := Scalar.subi v620 v622
  let v624 : BitVec 1 := Scalar.cmpi .ne v618 v623
  let v625 : BitVec 32 := Scalar.remsi v612 c8_i32_378
  let c0_i32_383 : BitVec 32 := 0#32
  let v626 : BitVec 1 := Scalar.cmpi .ne v625 c0_i32_383
  let v627 : BitVec 1 := Scalar.andi v624 v626
  let v613 : BitVec 32 := Scalar.divsi v612 c8_i32_378
  let c1_i32_384 : BitVec 32 := 1#32
  let v628 : BitVec 32 := Scalar.subi v613 c1_i32_384
  let v629 : BitVec 32 := Scalar.select v627 v628 v613
  let c8_i32_385 : BitVec 32 := 8#32
  let v630 : BitVec 32 := Scalar.muli v629 c8_i32_385
  let c184_i32_386 : BitVec 32 := 184#32
  let v631 : BitVec 32 := Scalar.minsi v630 c184_i32_386
  v631

def k0_off14 (i : grid0.Coords) : Fin 2 → Nat :=
  let arg0 : BitVec 32 := BitVec.ofNat 32 (i 0).val
  let c4_i32_373 : BitVec 32 := 4#32
  let v607 : BitVec 32 := Scalar.subi arg0 c4_i32_373
  let c4_i32_374 : BitVec 32 := 4#32
  let v608 : BitVec 32 := Scalar.remsi v607 c4_i32_374
  let c3_i32_388 : BitVec 32 := 3#32
  ![v608.toNat, 3]
def k0_off15 (i : grid0.Coords) (v612 : BitVec 32) : Fin 4 → Nat :=
  let arg0 : BitVec 32 := BitVec.ofNat 32 (i 0).val
  let c4_i32_373 : BitVec 32 := 4#32
  let v607 : BitVec 32 := Scalar.subi arg0 c4_i32_373
  let c16_i32_375 : BitVec 32 := 16#32
  let v609 : BitVec 32 := Scalar.muli v607 c16_i32_375
  let c3_i32_376 : BitVec 32 := 3#32
  let v610 : BitVec 32 := Scalar.addi v609 c3_i32_376
  let c0_i32_389 : BitVec 32 := 0#32
  let c0_i32_379 : BitVec 32 := 0#32
  let v614 : BitVec 1 := Scalar.cmpi .sgt v612 c0_i32_379
  let v615 : BitVec 32 := Scalar.extui v614
  let c0_i32_380 : BitVec 32 := 0#32
  let v616 : BitVec 1 := Scalar.cmpi .slt v612 c0_i32_380
  let v617 : BitVec 32 := Scalar.extui v616
  let v618 : BitVec 32 := Scalar.subi v615 v617
  let c8_i32_378 : BitVec 32 := 8#32
  let c0_i32_381 : BitVec 32 := 0#32
  let v619 : BitVec 1 := Scalar.cmpi .sgt c8_i32_378 c0_i32_381
  let v620 : BitVec 32 := Scalar.extui v619
  let c0_i32_382 : BitVec 32 := 0#32
  let v621 : BitVec 1 := Scalar.cmpi .slt c8_i32_378 c0_i32_382
  let v622 : BitVec 32 := Scalar.extui v621
  let v623 : BitVec 32 := Scalar.subi v620 v622
  let v624 : BitVec 1 := Scalar.cmpi .ne v618 v623
  let v625 : BitVec 32 := Scalar.remsi v612 c8_i32_378
  let c0_i32_383 : BitVec 32 := 0#32
  let v626 : BitVec 1 := Scalar.cmpi .ne v625 c0_i32_383
  let v627 : BitVec 1 := Scalar.andi v624 v626
  let v613 : BitVec 32 := Scalar.divsi v612 c8_i32_378
  let c1_i32_384 : BitVec 32 := 1#32
  let v628 : BitVec 32 := Scalar.subi v613 c1_i32_384
  let v629 : BitVec 32 := Scalar.select v627 v628 v613
  let c8_i32_385 : BitVec 32 := 8#32
  let v630 : BitVec 32 := Scalar.muli v629 c8_i32_385
  let c184_i32_386 : BitVec 32 := 184#32
  let v631 : BitVec 32 := Scalar.minsi v630 c184_i32_386
  let v632 : BitVec 32 := v631
  let c0_i32_390 : BitVec 32 := 0#32
  ![v610.toNat, 0, v632.toNat, 0]

def k0_chk4 (i : grid0.Coords) (v612 : BitVec 32) : Prop :=
  (∀ (k0_h1 : k0_cond1 i = 1#1), ∀ (k0_h2 : k0_cond2 i = 1#1), 8 ∣ (k0_mult4 v612).toNat) ∧
  (∀ (k0_h1 : k0_cond1 i = 1#1), ∀ (k0_h2 : k0_cond2 i = 1#1), ∀ a, (k0_off15 i v612) a + S1x3x40x224.size a ≤ S256x3x224x224.size a)
theorem k0_mult4_dvd : ∀ (i : grid0.Coords) (v612 : BitVec 32) (k0_hw4 : k0_chk4 i v612), ∀ (k0_h1 : k0_cond1 i = 1#1), ∀ (k0_h2 : k0_cond2 i = 1#1), 8 ∣ (k0_mult4 v612).toNat := fun i v612 k0_hw4 k0_h1 k0_h2 => k0_hw4.1 k0_h1 k0_h2
theorem k0_off15_inb : ∀ (i : grid0.Coords) (v612 : BitVec 32) (k0_hw4 : k0_chk4 i v612), ∀ (k0_h1 : k0_cond1 i = 1#1), ∀ (k0_h2 : k0_cond2 i = 1#1), ∀ a, (k0_off15 i v612) a + S1x3x40x224.size a ≤ S256x3x224x224.size a := fun i v612 k0_hw4 k0_h1 k0_h2 => k0_hw4.2 k0_h1 k0_h2

def k0_off16 (i : grid0.Coords) : Fin 5 → Nat :=
  let arg0 : BitVec 32 := BitVec.ofNat 32 (i 0).val
  let c4_i32_373 : BitVec 32 := 4#32
  let v607 : BitVec 32 := Scalar.subi arg0 c4_i32_373
  let c4_i32_374 : BitVec 32 := 4#32
  let v608 : BitVec 32 := Scalar.remsi v607 c4_i32_374
  let c3_i32_387 : BitVec 32 := 3#32
  let c0_i32_391 : BitVec 32 := 0#32
  let c0_i32_392 : BitVec 32 := 0#32
  let c0_i32_393 : BitVec 32 := 0#32
  ![v608.toNat, 3, 0, 0, 0]
def k0_off17 (i : grid0.Coords) : Fin 2 → Nat :=
  let arg0 : BitVec 32 := BitVec.ofNat 32 (i 0).val
  let c4_i32_394 : BitVec 32 := 4#32
  let v639 : BitVec 32 := Scalar.subi arg0 c4_i32_394
  let c16_i32_396 : BitVec 32 := 16#32
  let v641 : BitVec 32 := Scalar.muli v639 c16_i32_396
  let c4_i32_397 : BitVec 32 := 4#32
  let v642 : BitVec 32 := Scalar.addi v641 c4_i32_397
  let v643 : Index := Scalar.indexCast v642
  let c0_398 : Index := 0#32
  ![v643.toNat, 0]
def k0_mult5 (v644 : BitVec 32) : BitVec 32 :=
  let c0_i32_400 : BitVec 32 := 0#32
  let v646 : BitVec 1 := Scalar.cmpi .sgt v644 c0_i32_400
  let v647 : BitVec 32 := Scalar.extui v646
  let c0_i32_401 : BitVec 32 := 0#32
  let v648 : BitVec 1 := Scalar.cmpi .slt v644 c0_i32_401
  let v649 : BitVec 32 := Scalar.extui v648
  let v650 : BitVec 32 := Scalar.subi v647 v649
  let c8_i32_399 : BitVec 32 := 8#32
  let c0_i32_402 : BitVec 32 := 0#32
  let v651 : BitVec 1 := Scalar.cmpi .sgt c8_i32_399 c0_i32_402
  let v652 : BitVec 32 := Scalar.extui v651
  let c0_i32_403 : BitVec 32 := 0#32
  let v653 : BitVec 1 := Scalar.cmpi .slt c8_i32_399 c0_i32_403
  let v654 : BitVec 32 := Scalar.extui v653
  let v655 : BitVec 32 := Scalar.subi v652 v654
  let v656 : BitVec 1 := Scalar.cmpi .ne v650 v655
  let v657 : BitVec 32 := Scalar.remsi v644 c8_i32_399
  let c0_i32_404 : BitVec 32 := 0#32
  let v658 : BitVec 1 := Scalar.cmpi .ne v657 c0_i32_404
  let v659 : BitVec 1 := Scalar.andi v656 v658
  let v645 : BitVec 32 := Scalar.divsi v644 c8_i32_399
  let c1_i32_405 : BitVec 32 := 1#32
  let v660 : BitVec 32 := Scalar.subi v645 c1_i32_405
  let v661 : BitVec 32 := Scalar.select v659 v660 v645
  let c8_i32_406 : BitVec 32 := 8#32
  let v662 : BitVec 32 := Scalar.muli v661 c8_i32_406
  let c184_i32_407 : BitVec 32 := 184#32
  let v663 : BitVec 32 := Scalar.minsi v662 c184_i32_407
  v663

def k0_off18 (i : grid0.Coords) : Fin 2 → Nat :=
  let arg0 : BitVec 32 := BitVec.ofNat 32 (i 0).val
  let c4_i32_394 : BitVec 32 := 4#32
  let v639 : BitVec 32 := Scalar.subi arg0 c4_i32_394
  let c4_i32_395 : BitVec 32 := 4#32
  let v640 : BitVec 32 := Scalar.remsi v639 c4_i32_395
  let c4_i32_409 : BitVec 32 := 4#32
  ![v640.toNat, 4]
def k0_off19 (i : grid0.Coords) (v644 : BitVec 32) : Fin 4 → Nat :=
  let arg0 : BitVec 32 := BitVec.ofNat 32 (i 0).val
  let c4_i32_394 : BitVec 32 := 4#32
  let v639 : BitVec 32 := Scalar.subi arg0 c4_i32_394
  let c16_i32_396 : BitVec 32 := 16#32
  let v641 : BitVec 32 := Scalar.muli v639 c16_i32_396
  let c4_i32_397 : BitVec 32 := 4#32
  let v642 : BitVec 32 := Scalar.addi v641 c4_i32_397
  let c0_i32_410 : BitVec 32 := 0#32
  let c0_i32_400 : BitVec 32 := 0#32
  let v646 : BitVec 1 := Scalar.cmpi .sgt v644 c0_i32_400
  let v647 : BitVec 32 := Scalar.extui v646
  let c0_i32_401 : BitVec 32 := 0#32
  let v648 : BitVec 1 := Scalar.cmpi .slt v644 c0_i32_401
  let v649 : BitVec 32 := Scalar.extui v648
  let v650 : BitVec 32 := Scalar.subi v647 v649
  let c8_i32_399 : BitVec 32 := 8#32
  let c0_i32_402 : BitVec 32 := 0#32
  let v651 : BitVec 1 := Scalar.cmpi .sgt c8_i32_399 c0_i32_402
  let v652 : BitVec 32 := Scalar.extui v651
  let c0_i32_403 : BitVec 32 := 0#32
  let v653 : BitVec 1 := Scalar.cmpi .slt c8_i32_399 c0_i32_403
  let v654 : BitVec 32 := Scalar.extui v653
  let v655 : BitVec 32 := Scalar.subi v652 v654
  let v656 : BitVec 1 := Scalar.cmpi .ne v650 v655
  let v657 : BitVec 32 := Scalar.remsi v644 c8_i32_399
  let c0_i32_404 : BitVec 32 := 0#32
  let v658 : BitVec 1 := Scalar.cmpi .ne v657 c0_i32_404
  let v659 : BitVec 1 := Scalar.andi v656 v658
  let v645 : BitVec 32 := Scalar.divsi v644 c8_i32_399
  let c1_i32_405 : BitVec 32 := 1#32
  let v660 : BitVec 32 := Scalar.subi v645 c1_i32_405
  let v661 : BitVec 32 := Scalar.select v659 v660 v645
  let c8_i32_406 : BitVec 32 := 8#32
  let v662 : BitVec 32 := Scalar.muli v661 c8_i32_406
  let c184_i32_407 : BitVec 32 := 184#32
  let v663 : BitVec 32 := Scalar.minsi v662 c184_i32_407
  let v664 : BitVec 32 := v663
  let c0_i32_411 : BitVec 32 := 0#32
  ![v642.toNat, 0, v664.toNat, 0]

def k0_chk5 (i : grid0.Coords) (v644 : BitVec 32) : Prop :=
  (∀ (k0_h1 : k0_cond1 i = 1#1), ∀ (k0_h2 : k0_cond2 i = 1#1), 8 ∣ (k0_mult5 v644).toNat) ∧
  (∀ (k0_h1 : k0_cond1 i = 1#1), ∀ (k0_h2 : k0_cond2 i = 1#1), ∀ a, (k0_off19 i v644) a + S1x3x40x224.size a ≤ S256x3x224x224.size a)
theorem k0_mult5_dvd : ∀ (i : grid0.Coords) (v644 : BitVec 32) (k0_hw5 : k0_chk5 i v644), ∀ (k0_h1 : k0_cond1 i = 1#1), ∀ (k0_h2 : k0_cond2 i = 1#1), 8 ∣ (k0_mult5 v644).toNat := fun i v644 k0_hw5 k0_h1 k0_h2 => k0_hw5.1 k0_h1 k0_h2
theorem k0_off19_inb : ∀ (i : grid0.Coords) (v644 : BitVec 32) (k0_hw5 : k0_chk5 i v644), ∀ (k0_h1 : k0_cond1 i = 1#1), ∀ (k0_h2 : k0_cond2 i = 1#1), ∀ a, (k0_off19 i v644) a + S1x3x40x224.size a ≤ S256x3x224x224.size a := fun i v644 k0_hw5 k0_h1 k0_h2 => k0_hw5.2 k0_h1 k0_h2

def k0_off20 (i : grid0.Coords) : Fin 5 → Nat :=
  let arg0 : BitVec 32 := BitVec.ofNat 32 (i 0).val
  let c4_i32_394 : BitVec 32 := 4#32
  let v639 : BitVec 32 := Scalar.subi arg0 c4_i32_394
  let c4_i32_395 : BitVec 32 := 4#32
  let v640 : BitVec 32 := Scalar.remsi v639 c4_i32_395
  let c4_i32_408 : BitVec 32 := 4#32
  let c0_i32_412 : BitVec 32 := 0#32
  let c0_i32_413 : BitVec 32 := 0#32
  let c0_i32_414 : BitVec 32 := 0#32
  ![v640.toNat, 4, 0, 0, 0]
def k0_off21 (i : grid0.Coords) : Fin 2 → Nat :=
  let arg0 : BitVec 32 := BitVec.ofNat 32 (i 0).val
  let c4_i32_415 : BitVec 32 := 4#32
  let v671 : BitVec 32 := Scalar.subi arg0 c4_i32_415
  let c16_i32_417 : BitVec 32 := 16#32
  let v673 : BitVec 32 := Scalar.muli v671 c16_i32_417
  let c5_i32_418 : BitVec 32 := 5#32
  let v674 : BitVec 32 := Scalar.addi v673 c5_i32_418
  let v675 : Index := Scalar.indexCast v674
  let c0_419 : Index := 0#32
  ![v675.toNat, 0]
def k0_mult6 (v676 : BitVec 32) : BitVec 32 :=
  let c0_i32_421 : BitVec 32 := 0#32
  let v678 : BitVec 1 := Scalar.cmpi .sgt v676 c0_i32_421
  let v679 : BitVec 32 := Scalar.extui v678
  let c0_i32_422 : BitVec 32 := 0#32
  let v680 : BitVec 1 := Scalar.cmpi .slt v676 c0_i32_422
  let v681 : BitVec 32 := Scalar.extui v680
  let v682 : BitVec 32 := Scalar.subi v679 v681
  let c8_i32_420 : BitVec 32 := 8#32
  let c0_i32_423 : BitVec 32 := 0#32
  let v683 : BitVec 1 := Scalar.cmpi .sgt c8_i32_420 c0_i32_423
  let v684 : BitVec 32 := Scalar.extui v683
  let c0_i32_424 : BitVec 32 := 0#32
  let v685 : BitVec 1 := Scalar.cmpi .slt c8_i32_420 c0_i32_424
  let v686 : BitVec 32 := Scalar.extui v685
  let v687 : BitVec 32 := Scalar.subi v684 v686
  let v688 : BitVec 1 := Scalar.cmpi .ne v682 v687
  let v689 : BitVec 32 := Scalar.remsi v676 c8_i32_420
  let c0_i32_425 : BitVec 32 := 0#32
  let v690 : BitVec 1 := Scalar.cmpi .ne v689 c0_i32_425
  let v691 : BitVec 1 := Scalar.andi v688 v690
  let v677 : BitVec 32 := Scalar.divsi v676 c8_i32_420
  let c1_i32_426 : BitVec 32 := 1#32
  let v692 : BitVec 32 := Scalar.subi v677 c1_i32_426
  let v693 : BitVec 32 := Scalar.select v691 v692 v677
  let c8_i32_427 : BitVec 32 := 8#32
  let v694 : BitVec 32 := Scalar.muli v693 c8_i32_427
  let c184_i32_428 : BitVec 32 := 184#32
  let v695 : BitVec 32 := Scalar.minsi v694 c184_i32_428
  v695

def k0_off22 (i : grid0.Coords) : Fin 2 → Nat :=
  let arg0 : BitVec 32 := BitVec.ofNat 32 (i 0).val
  let c4_i32_415 : BitVec 32 := 4#32
  let v671 : BitVec 32 := Scalar.subi arg0 c4_i32_415
  let c4_i32_416 : BitVec 32 := 4#32
  let v672 : BitVec 32 := Scalar.remsi v671 c4_i32_416
  let c5_i32_430 : BitVec 32 := 5#32
  ![v672.toNat, 5]
def k0_off23 (i : grid0.Coords) (v676 : BitVec 32) : Fin 4 → Nat :=
  let arg0 : BitVec 32 := BitVec.ofNat 32 (i 0).val
  let c4_i32_415 : BitVec 32 := 4#32
  let v671 : BitVec 32 := Scalar.subi arg0 c4_i32_415
  let c16_i32_417 : BitVec 32 := 16#32
  let v673 : BitVec 32 := Scalar.muli v671 c16_i32_417
  let c5_i32_418 : BitVec 32 := 5#32
  let v674 : BitVec 32 := Scalar.addi v673 c5_i32_418
  let c0_i32_431 : BitVec 32 := 0#32
  let c0_i32_421 : BitVec 32 := 0#32
  let v678 : BitVec 1 := Scalar.cmpi .sgt v676 c0_i32_421
  let v679 : BitVec 32 := Scalar.extui v678
  let c0_i32_422 : BitVec 32 := 0#32
  let v680 : BitVec 1 := Scalar.cmpi .slt v676 c0_i32_422
  let v681 : BitVec 32 := Scalar.extui v680
  let v682 : BitVec 32 := Scalar.subi v679 v681
  let c8_i32_420 : BitVec 32 := 8#32
  let c0_i32_423 : BitVec 32 := 0#32
  let v683 : BitVec 1 := Scalar.cmpi .sgt c8_i32_420 c0_i32_423
  let v684 : BitVec 32 := Scalar.extui v683
  let c0_i32_424 : BitVec 32 := 0#32
  let v685 : BitVec 1 := Scalar.cmpi .slt c8_i32_420 c0_i32_424
  let v686 : BitVec 32 := Scalar.extui v685
  let v687 : BitVec 32 := Scalar.subi v684 v686
  let v688 : BitVec 1 := Scalar.cmpi .ne v682 v687
  let v689 : BitVec 32 := Scalar.remsi v676 c8_i32_420
  let c0_i32_425 : BitVec 32 := 0#32
  let v690 : BitVec 1 := Scalar.cmpi .ne v689 c0_i32_425
  let v691 : BitVec 1 := Scalar.andi v688 v690
  let v677 : BitVec 32 := Scalar.divsi v676 c8_i32_420
  let c1_i32_426 : BitVec 32 := 1#32
  let v692 : BitVec 32 := Scalar.subi v677 c1_i32_426
  let v693 : BitVec 32 := Scalar.select v691 v692 v677
  let c8_i32_427 : BitVec 32 := 8#32
  let v694 : BitVec 32 := Scalar.muli v693 c8_i32_427
  let c184_i32_428 : BitVec 32 := 184#32
  let v695 : BitVec 32 := Scalar.minsi v694 c184_i32_428
  let v696 : BitVec 32 := v695
  let c0_i32_432 : BitVec 32 := 0#32
  ![v674.toNat, 0, v696.toNat, 0]

def k0_chk6 (i : grid0.Coords) (v676 : BitVec 32) : Prop :=
  (∀ (k0_h1 : k0_cond1 i = 1#1), ∀ (k0_h2 : k0_cond2 i = 1#1), 8 ∣ (k0_mult6 v676).toNat) ∧
  (∀ (k0_h1 : k0_cond1 i = 1#1), ∀ (k0_h2 : k0_cond2 i = 1#1), ∀ a, (k0_off23 i v676) a + S1x3x40x224.size a ≤ S256x3x224x224.size a)
theorem k0_mult6_dvd : ∀ (i : grid0.Coords) (v676 : BitVec 32) (k0_hw6 : k0_chk6 i v676), ∀ (k0_h1 : k0_cond1 i = 1#1), ∀ (k0_h2 : k0_cond2 i = 1#1), 8 ∣ (k0_mult6 v676).toNat := fun i v676 k0_hw6 k0_h1 k0_h2 => k0_hw6.1 k0_h1 k0_h2
theorem k0_off23_inb : ∀ (i : grid0.Coords) (v676 : BitVec 32) (k0_hw6 : k0_chk6 i v676), ∀ (k0_h1 : k0_cond1 i = 1#1), ∀ (k0_h2 : k0_cond2 i = 1#1), ∀ a, (k0_off23 i v676) a + S1x3x40x224.size a ≤ S256x3x224x224.size a := fun i v676 k0_hw6 k0_h1 k0_h2 => k0_hw6.2 k0_h1 k0_h2

def k0_off24 (i : grid0.Coords) : Fin 5 → Nat :=
  let arg0 : BitVec 32 := BitVec.ofNat 32 (i 0).val
  let c4_i32_415 : BitVec 32 := 4#32
  let v671 : BitVec 32 := Scalar.subi arg0 c4_i32_415
  let c4_i32_416 : BitVec 32 := 4#32
  let v672 : BitVec 32 := Scalar.remsi v671 c4_i32_416
  let c5_i32_429 : BitVec 32 := 5#32
  let c0_i32_433 : BitVec 32 := 0#32
  let c0_i32_434 : BitVec 32 := 0#32
  let c0_i32_435 : BitVec 32 := 0#32
  ![v672.toNat, 5, 0, 0, 0]
def k0_off25 (i : grid0.Coords) : Fin 2 → Nat :=
  let arg0 : BitVec 32 := BitVec.ofNat 32 (i 0).val
  let c4_i32_436 : BitVec 32 := 4#32
  let v703 : BitVec 32 := Scalar.subi arg0 c4_i32_436
  let c16_i32_438 : BitVec 32 := 16#32
  let v705 : BitVec 32 := Scalar.muli v703 c16_i32_438
  let c6_i32_439 : BitVec 32 := 6#32
  let v706 : BitVec 32 := Scalar.addi v705 c6_i32_439
  let v707 : Index := Scalar.indexCast v706
  let c0_440 : Index := 0#32
  ![v707.toNat, 0]
def k0_mult7 (v708 : BitVec 32) : BitVec 32 :=
  let c0_i32_442 : BitVec 32 := 0#32
  let v710 : BitVec 1 := Scalar.cmpi .sgt v708 c0_i32_442
  let v711 : BitVec 32 := Scalar.extui v710
  let c0_i32_443 : BitVec 32 := 0#32
  let v712 : BitVec 1 := Scalar.cmpi .slt v708 c0_i32_443
  let v713 : BitVec 32 := Scalar.extui v712
  let v714 : BitVec 32 := Scalar.subi v711 v713
  let c8_i32_441 : BitVec 32 := 8#32
  let c0_i32_444 : BitVec 32 := 0#32
  let v715 : BitVec 1 := Scalar.cmpi .sgt c8_i32_441 c0_i32_444
  let v716 : BitVec 32 := Scalar.extui v715
  let c0_i32_445 : BitVec 32 := 0#32
  let v717 : BitVec 1 := Scalar.cmpi .slt c8_i32_441 c0_i32_445
  let v718 : BitVec 32 := Scalar.extui v717
  let v719 : BitVec 32 := Scalar.subi v716 v718
  let v720 : BitVec 1 := Scalar.cmpi .ne v714 v719
  let v721 : BitVec 32 := Scalar.remsi v708 c8_i32_441
  let c0_i32_446 : BitVec 32 := 0#32
  let v722 : BitVec 1 := Scalar.cmpi .ne v721 c0_i32_446
  let v723 : BitVec 1 := Scalar.andi v720 v722
  let v709 : BitVec 32 := Scalar.divsi v708 c8_i32_441
  let c1_i32_447 : BitVec 32 := 1#32
  let v724 : BitVec 32 := Scalar.subi v709 c1_i32_447
  let v725 : BitVec 32 := Scalar.select v723 v724 v709
  let c8_i32_448 : BitVec 32 := 8#32
  let v726 : BitVec 32 := Scalar.muli v725 c8_i32_448
  let c184_i32_449 : BitVec 32 := 184#32
  let v727 : BitVec 32 := Scalar.minsi v726 c184_i32_449
  v727

def k0_off26 (i : grid0.Coords) : Fin 2 → Nat :=
  let arg0 : BitVec 32 := BitVec.ofNat 32 (i 0).val
  let c4_i32_436 : BitVec 32 := 4#32
  let v703 : BitVec 32 := Scalar.subi arg0 c4_i32_436
  let c4_i32_437 : BitVec 32 := 4#32
  let v704 : BitVec 32 := Scalar.remsi v703 c4_i32_437
  let c6_i32_451 : BitVec 32 := 6#32
  ![v704.toNat, 6]
def k0_off27 (i : grid0.Coords) (v708 : BitVec 32) : Fin 4 → Nat :=
  let arg0 : BitVec 32 := BitVec.ofNat 32 (i 0).val
  let c4_i32_436 : BitVec 32 := 4#32
  let v703 : BitVec 32 := Scalar.subi arg0 c4_i32_436
  let c16_i32_438 : BitVec 32 := 16#32
  let v705 : BitVec 32 := Scalar.muli v703 c16_i32_438
  let c6_i32_439 : BitVec 32 := 6#32
  let v706 : BitVec 32 := Scalar.addi v705 c6_i32_439
  let c0_i32_452 : BitVec 32 := 0#32
  let c0_i32_442 : BitVec 32 := 0#32
  let v710 : BitVec 1 := Scalar.cmpi .sgt v708 c0_i32_442
  let v711 : BitVec 32 := Scalar.extui v710
  let c0_i32_443 : BitVec 32 := 0#32
  let v712 : BitVec 1 := Scalar.cmpi .slt v708 c0_i32_443
  let v713 : BitVec 32 := Scalar.extui v712
  let v714 : BitVec 32 := Scalar.subi v711 v713
  let c8_i32_441 : BitVec 32 := 8#32
  let c0_i32_444 : BitVec 32 := 0#32
  let v715 : BitVec 1 := Scalar.cmpi .sgt c8_i32_441 c0_i32_444
  let v716 : BitVec 32 := Scalar.extui v715
  let c0_i32_445 : BitVec 32 := 0#32
  let v717 : BitVec 1 := Scalar.cmpi .slt c8_i32_441 c0_i32_445
  let v718 : BitVec 32 := Scalar.extui v717
  let v719 : BitVec 32 := Scalar.subi v716 v718
  let v720 : BitVec 1 := Scalar.cmpi .ne v714 v719
  let v721 : BitVec 32 := Scalar.remsi v708 c8_i32_441
  let c0_i32_446 : BitVec 32 := 0#32
  let v722 : BitVec 1 := Scalar.cmpi .ne v721 c0_i32_446
  let v723 : BitVec 1 := Scalar.andi v720 v722
  let v709 : BitVec 32 := Scalar.divsi v708 c8_i32_441
  let c1_i32_447 : BitVec 32 := 1#32
  let v724 : BitVec 32 := Scalar.subi v709 c1_i32_447
  let v725 : BitVec 32 := Scalar.select v723 v724 v709
  let c8_i32_448 : BitVec 32 := 8#32
  let v726 : BitVec 32 := Scalar.muli v725 c8_i32_448
  let c184_i32_449 : BitVec 32 := 184#32
  let v727 : BitVec 32 := Scalar.minsi v726 c184_i32_449
  let v728 : BitVec 32 := v727
  let c0_i32_453 : BitVec 32 := 0#32
  ![v706.toNat, 0, v728.toNat, 0]

def k0_chk7 (i : grid0.Coords) (v708 : BitVec 32) : Prop :=
  (∀ (k0_h1 : k0_cond1 i = 1#1), ∀ (k0_h2 : k0_cond2 i = 1#1), 8 ∣ (k0_mult7 v708).toNat) ∧
  (∀ (k0_h1 : k0_cond1 i = 1#1), ∀ (k0_h2 : k0_cond2 i = 1#1), ∀ a, (k0_off27 i v708) a + S1x3x40x224.size a ≤ S256x3x224x224.size a)
theorem k0_mult7_dvd : ∀ (i : grid0.Coords) (v708 : BitVec 32) (k0_hw7 : k0_chk7 i v708), ∀ (k0_h1 : k0_cond1 i = 1#1), ∀ (k0_h2 : k0_cond2 i = 1#1), 8 ∣ (k0_mult7 v708).toNat := fun i v708 k0_hw7 k0_h1 k0_h2 => k0_hw7.1 k0_h1 k0_h2
theorem k0_off27_inb : ∀ (i : grid0.Coords) (v708 : BitVec 32) (k0_hw7 : k0_chk7 i v708), ∀ (k0_h1 : k0_cond1 i = 1#1), ∀ (k0_h2 : k0_cond2 i = 1#1), ∀ a, (k0_off27 i v708) a + S1x3x40x224.size a ≤ S256x3x224x224.size a := fun i v708 k0_hw7 k0_h1 k0_h2 => k0_hw7.2 k0_h1 k0_h2

def k0_off28 (i : grid0.Coords) : Fin 5 → Nat :=
  let arg0 : BitVec 32 := BitVec.ofNat 32 (i 0).val
  let c4_i32_436 : BitVec 32 := 4#32
  let v703 : BitVec 32 := Scalar.subi arg0 c4_i32_436
  let c4_i32_437 : BitVec 32 := 4#32
  let v704 : BitVec 32 := Scalar.remsi v703 c4_i32_437
  let c6_i32_450 : BitVec 32 := 6#32
  let c0_i32_454 : BitVec 32 := 0#32
  let c0_i32_455 : BitVec 32 := 0#32
  let c0_i32_456 : BitVec 32 := 0#32
  ![v704.toNat, 6, 0, 0, 0]
def k0_off29 (i : grid0.Coords) : Fin 2 → Nat :=
  let arg0 : BitVec 32 := BitVec.ofNat 32 (i 0).val
  let c4_i32_457 : BitVec 32 := 4#32
  let v735 : BitVec 32 := Scalar.subi arg0 c4_i32_457
  let c16_i32_459 : BitVec 32 := 16#32
  let v737 : BitVec 32 := Scalar.muli v735 c16_i32_459
  let c7_i32_460 : BitVec 32 := 7#32
  let v738 : BitVec 32 := Scalar.addi v737 c7_i32_460
  let v739 : Index := Scalar.indexCast v738
  let c0_461 : Index := 0#32
  ![v739.toNat, 0]
def k0_mult8 (v740 : BitVec 32) : BitVec 32 :=
  let c0_i32_463 : BitVec 32 := 0#32
  let v742 : BitVec 1 := Scalar.cmpi .sgt v740 c0_i32_463
  let v743 : BitVec 32 := Scalar.extui v742
  let c0_i32_464 : BitVec 32 := 0#32
  let v744 : BitVec 1 := Scalar.cmpi .slt v740 c0_i32_464
  let v745 : BitVec 32 := Scalar.extui v744
  let v746 : BitVec 32 := Scalar.subi v743 v745
  let c8_i32_462 : BitVec 32 := 8#32
  let c0_i32_465 : BitVec 32 := 0#32
  let v747 : BitVec 1 := Scalar.cmpi .sgt c8_i32_462 c0_i32_465
  let v748 : BitVec 32 := Scalar.extui v747
  let c0_i32_466 : BitVec 32 := 0#32
  let v749 : BitVec 1 := Scalar.cmpi .slt c8_i32_462 c0_i32_466
  let v750 : BitVec 32 := Scalar.extui v749
  let v751 : BitVec 32 := Scalar.subi v748 v750
  let v752 : BitVec 1 := Scalar.cmpi .ne v746 v751
  let v753 : BitVec 32 := Scalar.remsi v740 c8_i32_462
  let c0_i32_467 : BitVec 32 := 0#32
  let v754 : BitVec 1 := Scalar.cmpi .ne v753 c0_i32_467
  let v755 : BitVec 1 := Scalar.andi v752 v754
  let v741 : BitVec 32 := Scalar.divsi v740 c8_i32_462
  let c1_i32_468 : BitVec 32 := 1#32
  let v756 : BitVec 32 := Scalar.subi v741 c1_i32_468
  let v757 : BitVec 32 := Scalar.select v755 v756 v741
  let c8_i32_469 : BitVec 32 := 8#32
  let v758 : BitVec 32 := Scalar.muli v757 c8_i32_469
  let c184_i32_470 : BitVec 32 := 184#32
  let v759 : BitVec 32 := Scalar.minsi v758 c184_i32_470
  v759

def k0_off30 (i : grid0.Coords) : Fin 2 → Nat :=
  let arg0 : BitVec 32 := BitVec.ofNat 32 (i 0).val
  let c4_i32_457 : BitVec 32 := 4#32
  let v735 : BitVec 32 := Scalar.subi arg0 c4_i32_457
  let c4_i32_458 : BitVec 32 := 4#32
  let v736 : BitVec 32 := Scalar.remsi v735 c4_i32_458
  let c7_i32_472 : BitVec 32 := 7#32
  ![v736.toNat, 7]
def k0_off31 (i : grid0.Coords) (v740 : BitVec 32) : Fin 4 → Nat :=
  let arg0 : BitVec 32 := BitVec.ofNat 32 (i 0).val
  let c4_i32_457 : BitVec 32 := 4#32
  let v735 : BitVec 32 := Scalar.subi arg0 c4_i32_457
  let c16_i32_459 : BitVec 32 := 16#32
  let v737 : BitVec 32 := Scalar.muli v735 c16_i32_459
  let c7_i32_460 : BitVec 32 := 7#32
  let v738 : BitVec 32 := Scalar.addi v737 c7_i32_460
  let c0_i32_473 : BitVec 32 := 0#32
  let c0_i32_463 : BitVec 32 := 0#32
  let v742 : BitVec 1 := Scalar.cmpi .sgt v740 c0_i32_463
  let v743 : BitVec 32 := Scalar.extui v742
  let c0_i32_464 : BitVec 32 := 0#32
  let v744 : BitVec 1 := Scalar.cmpi .slt v740 c0_i32_464
  let v745 : BitVec 32 := Scalar.extui v744
  let v746 : BitVec 32 := Scalar.subi v743 v745
  let c8_i32_462 : BitVec 32 := 8#32
  let c0_i32_465 : BitVec 32 := 0#32
  let v747 : BitVec 1 := Scalar.cmpi .sgt c8_i32_462 c0_i32_465
  let v748 : BitVec 32 := Scalar.extui v747
  let c0_i32_466 : BitVec 32 := 0#32
  let v749 : BitVec 1 := Scalar.cmpi .slt c8_i32_462 c0_i32_466
  let v750 : BitVec 32 := Scalar.extui v749
  let v751 : BitVec 32 := Scalar.subi v748 v750
  let v752 : BitVec 1 := Scalar.cmpi .ne v746 v751
  let v753 : BitVec 32 := Scalar.remsi v740 c8_i32_462
  let c0_i32_467 : BitVec 32 := 0#32
  let v754 : BitVec 1 := Scalar.cmpi .ne v753 c0_i32_467
  let v755 : BitVec 1 := Scalar.andi v752 v754
  let v741 : BitVec 32 := Scalar.divsi v740 c8_i32_462
  let c1_i32_468 : BitVec 32 := 1#32
  let v756 : BitVec 32 := Scalar.subi v741 c1_i32_468
  let v757 : BitVec 32 := Scalar.select v755 v756 v741
  let c8_i32_469 : BitVec 32 := 8#32
  let v758 : BitVec 32 := Scalar.muli v757 c8_i32_469
  let c184_i32_470 : BitVec 32 := 184#32
  let v759 : BitVec 32 := Scalar.minsi v758 c184_i32_470
  let v760 : BitVec 32 := v759
  let c0_i32_474 : BitVec 32 := 0#32
  ![v738.toNat, 0, v760.toNat, 0]

def k0_chk8 (i : grid0.Coords) (v740 : BitVec 32) : Prop :=
  (∀ (k0_h1 : k0_cond1 i = 1#1), ∀ (k0_h2 : k0_cond2 i = 1#1), 8 ∣ (k0_mult8 v740).toNat) ∧
  (∀ (k0_h1 : k0_cond1 i = 1#1), ∀ (k0_h2 : k0_cond2 i = 1#1), ∀ a, (k0_off31 i v740) a + S1x3x40x224.size a ≤ S256x3x224x224.size a)
theorem k0_mult8_dvd : ∀ (i : grid0.Coords) (v740 : BitVec 32) (k0_hw8 : k0_chk8 i v740), ∀ (k0_h1 : k0_cond1 i = 1#1), ∀ (k0_h2 : k0_cond2 i = 1#1), 8 ∣ (k0_mult8 v740).toNat := fun i v740 k0_hw8 k0_h1 k0_h2 => k0_hw8.1 k0_h1 k0_h2
theorem k0_off31_inb : ∀ (i : grid0.Coords) (v740 : BitVec 32) (k0_hw8 : k0_chk8 i v740), ∀ (k0_h1 : k0_cond1 i = 1#1), ∀ (k0_h2 : k0_cond2 i = 1#1), ∀ a, (k0_off31 i v740) a + S1x3x40x224.size a ≤ S256x3x224x224.size a := fun i v740 k0_hw8 k0_h1 k0_h2 => k0_hw8.2 k0_h1 k0_h2

def k0_off32 (i : grid0.Coords) : Fin 5 → Nat :=
  let arg0 : BitVec 32 := BitVec.ofNat 32 (i 0).val
  let c4_i32_457 : BitVec 32 := 4#32
  let v735 : BitVec 32 := Scalar.subi arg0 c4_i32_457
  let c4_i32_458 : BitVec 32 := 4#32
  let v736 : BitVec 32 := Scalar.remsi v735 c4_i32_458
  let c7_i32_471 : BitVec 32 := 7#32
  let c0_i32_475 : BitVec 32 := 0#32
  let c0_i32_476 : BitVec 32 := 0#32
  let c0_i32_477 : BitVec 32 := 0#32
  ![v736.toNat, 7, 0, 0, 0]
def k0_off33 (i : grid0.Coords) : Fin 2 → Nat :=
  let arg0 : BitVec 32 := BitVec.ofNat 32 (i 0).val
  let c4_i32_478 : BitVec 32 := 4#32
  let v767 : BitVec 32 := Scalar.subi arg0 c4_i32_478
  let c16_i32_480 : BitVec 32 := 16#32
  let v769 : BitVec 32 := Scalar.muli v767 c16_i32_480
  let c8_i32_481 : BitVec 32 := 8#32
  let v770 : BitVec 32 := Scalar.addi v769 c8_i32_481
  let v771 : Index := Scalar.indexCast v770
  let c0_482 : Index := 0#32
  ![v771.toNat, 0]
def k0_mult9 (v772 : BitVec 32) : BitVec 32 :=
  let c0_i32_484 : BitVec 32 := 0#32
  let v774 : BitVec 1 := Scalar.cmpi .sgt v772 c0_i32_484
  let v775 : BitVec 32 := Scalar.extui v774
  let c0_i32_485 : BitVec 32 := 0#32
  let v776 : BitVec 1 := Scalar.cmpi .slt v772 c0_i32_485
  let v777 : BitVec 32 := Scalar.extui v776
  let v778 : BitVec 32 := Scalar.subi v775 v777
  let c8_i32_483 : BitVec 32 := 8#32
  let c0_i32_486 : BitVec 32 := 0#32
  let v779 : BitVec 1 := Scalar.cmpi .sgt c8_i32_483 c0_i32_486
  let v780 : BitVec 32 := Scalar.extui v779
  let c0_i32_487 : BitVec 32 := 0#32
  let v781 : BitVec 1 := Scalar.cmpi .slt c8_i32_483 c0_i32_487
  let v782 : BitVec 32 := Scalar.extui v781
  let v783 : BitVec 32 := Scalar.subi v780 v782
  let v784 : BitVec 1 := Scalar.cmpi .ne v778 v783
  let v785 : BitVec 32 := Scalar.remsi v772 c8_i32_483
  let c0_i32_488 : BitVec 32 := 0#32
  let v786 : BitVec 1 := Scalar.cmpi .ne v785 c0_i32_488
  let v787 : BitVec 1 := Scalar.andi v784 v786
  let v773 : BitVec 32 := Scalar.divsi v772 c8_i32_483
  let c1_i32_489 : BitVec 32 := 1#32
  let v788 : BitVec 32 := Scalar.subi v773 c1_i32_489
  let v789 : BitVec 32 := Scalar.select v787 v788 v773
  let c8_i32_490 : BitVec 32 := 8#32
  let v790 : BitVec 32 := Scalar.muli v789 c8_i32_490
  let c184_i32_491 : BitVec 32 := 184#32
  let v791 : BitVec 32 := Scalar.minsi v790 c184_i32_491
  v791

def k0_off34 (i : grid0.Coords) : Fin 2 → Nat :=
  let arg0 : BitVec 32 := BitVec.ofNat 32 (i 0).val
  let c4_i32_478 : BitVec 32 := 4#32
  let v767 : BitVec 32 := Scalar.subi arg0 c4_i32_478
  let c4_i32_479 : BitVec 32 := 4#32
  let v768 : BitVec 32 := Scalar.remsi v767 c4_i32_479
  let c8_i32_493 : BitVec 32 := 8#32
  ![v768.toNat, 8]
def k0_off35 (i : grid0.Coords) (v772 : BitVec 32) : Fin 4 → Nat :=
  let arg0 : BitVec 32 := BitVec.ofNat 32 (i 0).val
  let c4_i32_478 : BitVec 32 := 4#32
  let v767 : BitVec 32 := Scalar.subi arg0 c4_i32_478
  let c16_i32_480 : BitVec 32 := 16#32
  let v769 : BitVec 32 := Scalar.muli v767 c16_i32_480
  let c8_i32_481 : BitVec 32 := 8#32
  let v770 : BitVec 32 := Scalar.addi v769 c8_i32_481
  let c0_i32_494 : BitVec 32 := 0#32
  let c0_i32_484 : BitVec 32 := 0#32
  let v774 : BitVec 1 := Scalar.cmpi .sgt v772 c0_i32_484
  let v775 : BitVec 32 := Scalar.extui v774
  let c0_i32_485 : BitVec 32 := 0#32
  let v776 : BitVec 1 := Scalar.cmpi .slt v772 c0_i32_485
  let v777 : BitVec 32 := Scalar.extui v776
  let v778 : BitVec 32 := Scalar.subi v775 v777
  let c8_i32_483 : BitVec 32 := 8#32
  let c0_i32_486 : BitVec 32 := 0#32
  let v779 : BitVec 1 := Scalar.cmpi .sgt c8_i32_483 c0_i32_486
  let v780 : BitVec 32 := Scalar.extui v779
  let c0_i32_487 : BitVec 32 := 0#32
  let v781 : BitVec 1 := Scalar.cmpi .slt c8_i32_483 c0_i32_487
  let v782 : BitVec 32 := Scalar.extui v781
  let v783 : BitVec 32 := Scalar.subi v780 v782
  let v784 : BitVec 1 := Scalar.cmpi .ne v778 v783
  let v785 : BitVec 32 := Scalar.remsi v772 c8_i32_483
  let c0_i32_488 : BitVec 32 := 0#32
  let v786 : BitVec 1 := Scalar.cmpi .ne v785 c0_i32_488
  let v787 : BitVec 1 := Scalar.andi v784 v786
  let v773 : BitVec 32 := Scalar.divsi v772 c8_i32_483
  let c1_i32_489 : BitVec 32 := 1#32
  let v788 : BitVec 32 := Scalar.subi v773 c1_i32_489
  let v789 : BitVec 32 := Scalar.select v787 v788 v773
  let c8_i32_490 : BitVec 32 := 8#32
  let v790 : BitVec 32 := Scalar.muli v789 c8_i32_490
  let c184_i32_491 : BitVec 32 := 184#32
  let v791 : BitVec 32 := Scalar.minsi v790 c184_i32_491
  let v792 : BitVec 32 := v791
  let c0_i32_495 : BitVec 32 := 0#32
  ![v770.toNat, 0, v792.toNat, 0]

def k0_chk9 (i : grid0.Coords) (v772 : BitVec 32) : Prop :=
  (∀ (k0_h1 : k0_cond1 i = 1#1), ∀ (k0_h2 : k0_cond2 i = 1#1), 8 ∣ (k0_mult9 v772).toNat) ∧
  (∀ (k0_h1 : k0_cond1 i = 1#1), ∀ (k0_h2 : k0_cond2 i = 1#1), ∀ a, (k0_off35 i v772) a + S1x3x40x224.size a ≤ S256x3x224x224.size a)
theorem k0_mult9_dvd : ∀ (i : grid0.Coords) (v772 : BitVec 32) (k0_hw9 : k0_chk9 i v772), ∀ (k0_h1 : k0_cond1 i = 1#1), ∀ (k0_h2 : k0_cond2 i = 1#1), 8 ∣ (k0_mult9 v772).toNat := fun i v772 k0_hw9 k0_h1 k0_h2 => k0_hw9.1 k0_h1 k0_h2
theorem k0_off35_inb : ∀ (i : grid0.Coords) (v772 : BitVec 32) (k0_hw9 : k0_chk9 i v772), ∀ (k0_h1 : k0_cond1 i = 1#1), ∀ (k0_h2 : k0_cond2 i = 1#1), ∀ a, (k0_off35 i v772) a + S1x3x40x224.size a ≤ S256x3x224x224.size a := fun i v772 k0_hw9 k0_h1 k0_h2 => k0_hw9.2 k0_h1 k0_h2

def k0_off36 (i : grid0.Coords) : Fin 5 → Nat :=
  let arg0 : BitVec 32 := BitVec.ofNat 32 (i 0).val
  let c4_i32_478 : BitVec 32 := 4#32
  let v767 : BitVec 32 := Scalar.subi arg0 c4_i32_478
  let c4_i32_479 : BitVec 32 := 4#32
  let v768 : BitVec 32 := Scalar.remsi v767 c4_i32_479
  let c8_i32_492 : BitVec 32 := 8#32
  let c0_i32_496 : BitVec 32 := 0#32
  let c0_i32_497 : BitVec 32 := 0#32
  let c0_i32_498 : BitVec 32 := 0#32
  ![v768.toNat, 8, 0, 0, 0]
def k0_off37 (i : grid0.Coords) : Fin 2 → Nat :=
  let arg0 : BitVec 32 := BitVec.ofNat 32 (i 0).val
  let c4_i32_499 : BitVec 32 := 4#32
  let v799 : BitVec 32 := Scalar.subi arg0 c4_i32_499
  let c16_i32_501 : BitVec 32 := 16#32
  let v801 : BitVec 32 := Scalar.muli v799 c16_i32_501
  let c9_i32_502 : BitVec 32 := 9#32
  let v802 : BitVec 32 := Scalar.addi v801 c9_i32_502
  let v803 : Index := Scalar.indexCast v802
  let c0_503 : Index := 0#32
  ![v803.toNat, 0]
def k0_mult10 (v804 : BitVec 32) : BitVec 32 :=
  let c0_i32_505 : BitVec 32 := 0#32
  let v806 : BitVec 1 := Scalar.cmpi .sgt v804 c0_i32_505
  let v807 : BitVec 32 := Scalar.extui v806
  let c0_i32_506 : BitVec 32 := 0#32
  let v808 : BitVec 1 := Scalar.cmpi .slt v804 c0_i32_506
  let v809 : BitVec 32 := Scalar.extui v808
  let v810 : BitVec 32 := Scalar.subi v807 v809
  let c8_i32_504 : BitVec 32 := 8#32
  let c0_i32_507 : BitVec 32 := 0#32
  let v811 : BitVec 1 := Scalar.cmpi .sgt c8_i32_504 c0_i32_507
  let v812 : BitVec 32 := Scalar.extui v811
  let c0_i32_508 : BitVec 32 := 0#32
  let v813 : BitVec 1 := Scalar.cmpi .slt c8_i32_504 c0_i32_508
  let v814 : BitVec 32 := Scalar.extui v813
  let v815 : BitVec 32 := Scalar.subi v812 v814
  let v816 : BitVec 1 := Scalar.cmpi .ne v810 v815
  let v817 : BitVec 32 := Scalar.remsi v804 c8_i32_504
  let c0_i32_509 : BitVec 32 := 0#32
  let v818 : BitVec 1 := Scalar.cmpi .ne v817 c0_i32_509
  let v819 : BitVec 1 := Scalar.andi v816 v818
  let v805 : BitVec 32 := Scalar.divsi v804 c8_i32_504
  let c1_i32_510 : BitVec 32 := 1#32
  let v820 : BitVec 32 := Scalar.subi v805 c1_i32_510
  let v821 : BitVec 32 := Scalar.select v819 v820 v805
  let c8_i32_511 : BitVec 32 := 8#32
  let v822 : BitVec 32 := Scalar.muli v821 c8_i32_511
  let c184_i32_512 : BitVec 32 := 184#32
  let v823 : BitVec 32 := Scalar.minsi v822 c184_i32_512
  v823

def k0_off38 (i : grid0.Coords) : Fin 2 → Nat :=
  let arg0 : BitVec 32 := BitVec.ofNat 32 (i 0).val
  let c4_i32_499 : BitVec 32 := 4#32
  let v799 : BitVec 32 := Scalar.subi arg0 c4_i32_499
  let c4_i32_500 : BitVec 32 := 4#32
  let v800 : BitVec 32 := Scalar.remsi v799 c4_i32_500
  let c9_i32_514 : BitVec 32 := 9#32
  ![v800.toNat, 9]
def k0_off39 (i : grid0.Coords) (v804 : BitVec 32) : Fin 4 → Nat :=
  let arg0 : BitVec 32 := BitVec.ofNat 32 (i 0).val
  let c4_i32_499 : BitVec 32 := 4#32
  let v799 : BitVec 32 := Scalar.subi arg0 c4_i32_499
  let c16_i32_501 : BitVec 32 := 16#32
  let v801 : BitVec 32 := Scalar.muli v799 c16_i32_501
  let c9_i32_502 : BitVec 32 := 9#32
  let v802 : BitVec 32 := Scalar.addi v801 c9_i32_502
  let c0_i32_515 : BitVec 32 := 0#32
  let c0_i32_505 : BitVec 32 := 0#32
  let v806 : BitVec 1 := Scalar.cmpi .sgt v804 c0_i32_505
  let v807 : BitVec 32 := Scalar.extui v806
  let c0_i32_506 : BitVec 32 := 0#32
  let v808 : BitVec 1 := Scalar.cmpi .slt v804 c0_i32_506
  let v809 : BitVec 32 := Scalar.extui v808
  let v810 : BitVec 32 := Scalar.subi v807 v809
  let c8_i32_504 : BitVec 32 := 8#32
  let c0_i32_507 : BitVec 32 := 0#32
  let v811 : BitVec 1 := Scalar.cmpi .sgt c8_i32_504 c0_i32_507
  let v812 : BitVec 32 := Scalar.extui v811
  let c0_i32_508 : BitVec 32 := 0#32
  let v813 : BitVec 1 := Scalar.cmpi .slt c8_i32_504 c0_i32_508
  let v814 : BitVec 32 := Scalar.extui v813
  let v815 : BitVec 32 := Scalar.subi v812 v814
  let v816 : BitVec 1 := Scalar.cmpi .ne v810 v815
  let v817 : BitVec 32 := Scalar.remsi v804 c8_i32_504
  let c0_i32_509 : BitVec 32 := 0#32
  let v818 : BitVec 1 := Scalar.cmpi .ne v817 c0_i32_509
  let v819 : BitVec 1 := Scalar.andi v816 v818
  let v805 : BitVec 32 := Scalar.divsi v804 c8_i32_504
  let c1_i32_510 : BitVec 32 := 1#32
  let v820 : BitVec 32 := Scalar.subi v805 c1_i32_510
  let v821 : BitVec 32 := Scalar.select v819 v820 v805
  let c8_i32_511 : BitVec 32 := 8#32
  let v822 : BitVec 32 := Scalar.muli v821 c8_i32_511
  let c184_i32_512 : BitVec 32 := 184#32
  let v823 : BitVec 32 := Scalar.minsi v822 c184_i32_512
  let v824 : BitVec 32 := v823
  let c0_i32_516 : BitVec 32 := 0#32
  ![v802.toNat, 0, v824.toNat, 0]

def k0_chk10 (i : grid0.Coords) (v804 : BitVec 32) : Prop :=
  (∀ (k0_h1 : k0_cond1 i = 1#1), ∀ (k0_h2 : k0_cond2 i = 1#1), 8 ∣ (k0_mult10 v804).toNat) ∧
  (∀ (k0_h1 : k0_cond1 i = 1#1), ∀ (k0_h2 : k0_cond2 i = 1#1), ∀ a, (k0_off39 i v804) a + S1x3x40x224.size a ≤ S256x3x224x224.size a)
theorem k0_mult10_dvd : ∀ (i : grid0.Coords) (v804 : BitVec 32) (k0_hw10 : k0_chk10 i v804), ∀ (k0_h1 : k0_cond1 i = 1#1), ∀ (k0_h2 : k0_cond2 i = 1#1), 8 ∣ (k0_mult10 v804).toNat := fun i v804 k0_hw10 k0_h1 k0_h2 => k0_hw10.1 k0_h1 k0_h2
theorem k0_off39_inb : ∀ (i : grid0.Coords) (v804 : BitVec 32) (k0_hw10 : k0_chk10 i v804), ∀ (k0_h1 : k0_cond1 i = 1#1), ∀ (k0_h2 : k0_cond2 i = 1#1), ∀ a, (k0_off39 i v804) a + S1x3x40x224.size a ≤ S256x3x224x224.size a := fun i v804 k0_hw10 k0_h1 k0_h2 => k0_hw10.2 k0_h1 k0_h2

def k0_off40 (i : grid0.Coords) : Fin 5 → Nat :=
  let arg0 : BitVec 32 := BitVec.ofNat 32 (i 0).val
  let c4_i32_499 : BitVec 32 := 4#32
  let v799 : BitVec 32 := Scalar.subi arg0 c4_i32_499
  let c4_i32_500 : BitVec 32 := 4#32
  let v800 : BitVec 32 := Scalar.remsi v799 c4_i32_500
  let c9_i32_513 : BitVec 32 := 9#32
  let c0_i32_517 : BitVec 32 := 0#32
  let c0_i32_518 : BitVec 32 := 0#32
  let c0_i32_519 : BitVec 32 := 0#32
  ![v800.toNat, 9, 0, 0, 0]
def k0_off41 (i : grid0.Coords) : Fin 2 → Nat :=
  let arg0 : BitVec 32 := BitVec.ofNat 32 (i 0).val
  let c4_i32_520 : BitVec 32 := 4#32
  let v831 : BitVec 32 := Scalar.subi arg0 c4_i32_520
  let c16_i32_522 : BitVec 32 := 16#32
  let v833 : BitVec 32 := Scalar.muli v831 c16_i32_522
  let c10_i32_523 : BitVec 32 := 10#32
  let v834 : BitVec 32 := Scalar.addi v833 c10_i32_523
  let v835 : Index := Scalar.indexCast v834
  let c0_524 : Index := 0#32
  ![v835.toNat, 0]
def k0_mult11 (v836 : BitVec 32) : BitVec 32 :=
  let c0_i32_526 : BitVec 32 := 0#32
  let v838 : BitVec 1 := Scalar.cmpi .sgt v836 c0_i32_526
  let v839 : BitVec 32 := Scalar.extui v838
  let c0_i32_527 : BitVec 32 := 0#32
  let v840 : BitVec 1 := Scalar.cmpi .slt v836 c0_i32_527
  let v841 : BitVec 32 := Scalar.extui v840
  let v842 : BitVec 32 := Scalar.subi v839 v841
  let c8_i32_525 : BitVec 32 := 8#32
  let c0_i32_528 : BitVec 32 := 0#32
  let v843 : BitVec 1 := Scalar.cmpi .sgt c8_i32_525 c0_i32_528
  let v844 : BitVec 32 := Scalar.extui v843
  let c0_i32_529 : BitVec 32 := 0#32
  let v845 : BitVec 1 := Scalar.cmpi .slt c8_i32_525 c0_i32_529
  let v846 : BitVec 32 := Scalar.extui v845
  let v847 : BitVec 32 := Scalar.subi v844 v846
  let v848 : BitVec 1 := Scalar.cmpi .ne v842 v847
  let v849 : BitVec 32 := Scalar.remsi v836 c8_i32_525
  let c0_i32_530 : BitVec 32 := 0#32
  let v850 : BitVec 1 := Scalar.cmpi .ne v849 c0_i32_530
  let v851 : BitVec 1 := Scalar.andi v848 v850
  let v837 : BitVec 32 := Scalar.divsi v836 c8_i32_525
  let c1_i32_531 : BitVec 32 := 1#32
  let v852 : BitVec 32 := Scalar.subi v837 c1_i32_531
  let v853 : BitVec 32 := Scalar.select v851 v852 v837
  let c8_i32_532 : BitVec 32 := 8#32
  let v854 : BitVec 32 := Scalar.muli v853 c8_i32_532
  let c184_i32_533 : BitVec 32 := 184#32
  let v855 : BitVec 32 := Scalar.minsi v854 c184_i32_533
  v855

def k0_off42 (i : grid0.Coords) : Fin 2 → Nat :=
  let arg0 : BitVec 32 := BitVec.ofNat 32 (i 0).val
  let c4_i32_520 : BitVec 32 := 4#32
  let v831 : BitVec 32 := Scalar.subi arg0 c4_i32_520
  let c4_i32_521 : BitVec 32 := 4#32
  let v832 : BitVec 32 := Scalar.remsi v831 c4_i32_521
  let c10_i32_535 : BitVec 32 := 10#32
  ![v832.toNat, 10]
def k0_off43 (i : grid0.Coords) (v836 : BitVec 32) : Fin 4 → Nat :=
  let arg0 : BitVec 32 := BitVec.ofNat 32 (i 0).val
  let c4_i32_520 : BitVec 32 := 4#32
  let v831 : BitVec 32 := Scalar.subi arg0 c4_i32_520
  let c16_i32_522 : BitVec 32 := 16#32
  let v833 : BitVec 32 := Scalar.muli v831 c16_i32_522
  let c10_i32_523 : BitVec 32 := 10#32
  let v834 : BitVec 32 := Scalar.addi v833 c10_i32_523
  let c0_i32_536 : BitVec 32 := 0#32
  let c0_i32_526 : BitVec 32 := 0#32
  let v838 : BitVec 1 := Scalar.cmpi .sgt v836 c0_i32_526
  let v839 : BitVec 32 := Scalar.extui v838
  let c0_i32_527 : BitVec 32 := 0#32
  let v840 : BitVec 1 := Scalar.cmpi .slt v836 c0_i32_527
  let v841 : BitVec 32 := Scalar.extui v840
  let v842 : BitVec 32 := Scalar.subi v839 v841
  let c8_i32_525 : BitVec 32 := 8#32
  let c0_i32_528 : BitVec 32 := 0#32
  let v843 : BitVec 1 := Scalar.cmpi .sgt c8_i32_525 c0_i32_528
  let v844 : BitVec 32 := Scalar.extui v843
  let c0_i32_529 : BitVec 32 := 0#32
  let v845 : BitVec 1 := Scalar.cmpi .slt c8_i32_525 c0_i32_529
  let v846 : BitVec 32 := Scalar.extui v845
  let v847 : BitVec 32 := Scalar.subi v844 v846
  let v848 : BitVec 1 := Scalar.cmpi .ne v842 v847
  let v849 : BitVec 32 := Scalar.remsi v836 c8_i32_525
  let c0_i32_530 : BitVec 32 := 0#32
  let v850 : BitVec 1 := Scalar.cmpi .ne v849 c0_i32_530
  let v851 : BitVec 1 := Scalar.andi v848 v850
  let v837 : BitVec 32 := Scalar.divsi v836 c8_i32_525
  let c1_i32_531 : BitVec 32 := 1#32
  let v852 : BitVec 32 := Scalar.subi v837 c1_i32_531
  let v853 : BitVec 32 := Scalar.select v851 v852 v837
  let c8_i32_532 : BitVec 32 := 8#32
  let v854 : BitVec 32 := Scalar.muli v853 c8_i32_532
  let c184_i32_533 : BitVec 32 := 184#32
  let v855 : BitVec 32 := Scalar.minsi v854 c184_i32_533
  let v856 : BitVec 32 := v855
  let c0_i32_537 : BitVec 32 := 0#32
  ![v834.toNat, 0, v856.toNat, 0]

def k0_chk11 (i : grid0.Coords) (v836 : BitVec 32) : Prop :=
  (∀ (k0_h1 : k0_cond1 i = 1#1), ∀ (k0_h2 : k0_cond2 i = 1#1), 8 ∣ (k0_mult11 v836).toNat) ∧
  (∀ (k0_h1 : k0_cond1 i = 1#1), ∀ (k0_h2 : k0_cond2 i = 1#1), ∀ a, (k0_off43 i v836) a + S1x3x40x224.size a ≤ S256x3x224x224.size a)
theorem k0_mult11_dvd : ∀ (i : grid0.Coords) (v836 : BitVec 32) (k0_hw11 : k0_chk11 i v836), ∀ (k0_h1 : k0_cond1 i = 1#1), ∀ (k0_h2 : k0_cond2 i = 1#1), 8 ∣ (k0_mult11 v836).toNat := fun i v836 k0_hw11 k0_h1 k0_h2 => k0_hw11.1 k0_h1 k0_h2
theorem k0_off43_inb : ∀ (i : grid0.Coords) (v836 : BitVec 32) (k0_hw11 : k0_chk11 i v836), ∀ (k0_h1 : k0_cond1 i = 1#1), ∀ (k0_h2 : k0_cond2 i = 1#1), ∀ a, (k0_off43 i v836) a + S1x3x40x224.size a ≤ S256x3x224x224.size a := fun i v836 k0_hw11 k0_h1 k0_h2 => k0_hw11.2 k0_h1 k0_h2

def k0_off44 (i : grid0.Coords) : Fin 5 → Nat :=
  let arg0 : BitVec 32 := BitVec.ofNat 32 (i 0).val
  let c4_i32_520 : BitVec 32 := 4#32
  let v831 : BitVec 32 := Scalar.subi arg0 c4_i32_520
  let c4_i32_521 : BitVec 32 := 4#32
  let v832 : BitVec 32 := Scalar.remsi v831 c4_i32_521
  let c10_i32_534 : BitVec 32 := 10#32
  let c0_i32_538 : BitVec 32 := 0#32
  let c0_i32_539 : BitVec 32 := 0#32
  let c0_i32_540 : BitVec 32 := 0#32
  ![v832.toNat, 10, 0, 0, 0]
def k0_off45 (i : grid0.Coords) : Fin 2 → Nat :=
  let arg0 : BitVec 32 := BitVec.ofNat 32 (i 0).val
  let c4_i32_541 : BitVec 32 := 4#32
  let v863 : BitVec 32 := Scalar.subi arg0 c4_i32_541
  let c16_i32_543 : BitVec 32 := 16#32
  let v865 : BitVec 32 := Scalar.muli v863 c16_i32_543
  let c11_i32_544 : BitVec 32 := 11#32
  let v866 : BitVec 32 := Scalar.addi v865 c11_i32_544
  let v867 : Index := Scalar.indexCast v866
  let c0_545 : Index := 0#32
  ![v867.toNat, 0]
def k0_mult12 (v868 : BitVec 32) : BitVec 32 :=
  let c0_i32_547 : BitVec 32 := 0#32
  let v870 : BitVec 1 := Scalar.cmpi .sgt v868 c0_i32_547
  let v871 : BitVec 32 := Scalar.extui v870
  let c0_i32_548 : BitVec 32 := 0#32
  let v872 : BitVec 1 := Scalar.cmpi .slt v868 c0_i32_548
  let v873 : BitVec 32 := Scalar.extui v872
  let v874 : BitVec 32 := Scalar.subi v871 v873
  let c8_i32_546 : BitVec 32 := 8#32
  let c0_i32_549 : BitVec 32 := 0#32
  let v875 : BitVec 1 := Scalar.cmpi .sgt c8_i32_546 c0_i32_549
  let v876 : BitVec 32 := Scalar.extui v875
  let c0_i32_550 : BitVec 32 := 0#32
  let v877 : BitVec 1 := Scalar.cmpi .slt c8_i32_546 c0_i32_550
  let v878 : BitVec 32 := Scalar.extui v877
  let v879 : BitVec 32 := Scalar.subi v876 v878
  let v880 : BitVec 1 := Scalar.cmpi .ne v874 v879
  let v881 : BitVec 32 := Scalar.remsi v868 c8_i32_546
  let c0_i32_551 : BitVec 32 := 0#32
  let v882 : BitVec 1 := Scalar.cmpi .ne v881 c0_i32_551
  let v883 : BitVec 1 := Scalar.andi v880 v882
  let v869 : BitVec 32 := Scalar.divsi v868 c8_i32_546
  let c1_i32_552 : BitVec 32 := 1#32
  let v884 : BitVec 32 := Scalar.subi v869 c1_i32_552
  let v885 : BitVec 32 := Scalar.select v883 v884 v869
  let c8_i32_553 : BitVec 32 := 8#32
  let v886 : BitVec 32 := Scalar.muli v885 c8_i32_553
  let c184_i32_554 : BitVec 32 := 184#32
  let v887 : BitVec 32 := Scalar.minsi v886 c184_i32_554
  v887

def k0_off46 (i : grid0.Coords) : Fin 2 → Nat :=
  let arg0 : BitVec 32 := BitVec.ofNat 32 (i 0).val
  let c4_i32_541 : BitVec 32 := 4#32
  let v863 : BitVec 32 := Scalar.subi arg0 c4_i32_541
  let c4_i32_542 : BitVec 32 := 4#32
  let v864 : BitVec 32 := Scalar.remsi v863 c4_i32_542
  let c11_i32_556 : BitVec 32 := 11#32
  ![v864.toNat, 11]
def k0_off47 (i : grid0.Coords) (v868 : BitVec 32) : Fin 4 → Nat :=
  let arg0 : BitVec 32 := BitVec.ofNat 32 (i 0).val
  let c4_i32_541 : BitVec 32 := 4#32
  let v863 : BitVec 32 := Scalar.subi arg0 c4_i32_541
  let c16_i32_543 : BitVec 32 := 16#32
  let v865 : BitVec 32 := Scalar.muli v863 c16_i32_543
  let c11_i32_544 : BitVec 32 := 11#32
  let v866 : BitVec 32 := Scalar.addi v865 c11_i32_544
  let c0_i32_557 : BitVec 32 := 0#32
  let c0_i32_547 : BitVec 32 := 0#32
  let v870 : BitVec 1 := Scalar.cmpi .sgt v868 c0_i32_547
  let v871 : BitVec 32 := Scalar.extui v870
  let c0_i32_548 : BitVec 32 := 0#32
  let v872 : BitVec 1 := Scalar.cmpi .slt v868 c0_i32_548
  let v873 : BitVec 32 := Scalar.extui v872
  let v874 : BitVec 32 := Scalar.subi v871 v873
  let c8_i32_546 : BitVec 32 := 8#32
  let c0_i32_549 : BitVec 32 := 0#32
  let v875 : BitVec 1 := Scalar.cmpi .sgt c8_i32_546 c0_i32_549
  let v876 : BitVec 32 := Scalar.extui v875
  let c0_i32_550 : BitVec 32 := 0#32
  let v877 : BitVec 1 := Scalar.cmpi .slt c8_i32_546 c0_i32_550
  let v878 : BitVec 32 := Scalar.extui v877
  let v879 : BitVec 32 := Scalar.subi v876 v878
  let v880 : BitVec 1 := Scalar.cmpi .ne v874 v879
  let v881 : BitVec 32 := Scalar.remsi v868 c8_i32_546
  let c0_i32_551 : BitVec 32 := 0#32
  let v882 : BitVec 1 := Scalar.cmpi .ne v881 c0_i32_551
  let v883 : BitVec 1 := Scalar.andi v880 v882
  let v869 : BitVec 32 := Scalar.divsi v868 c8_i32_546
  let c1_i32_552 : BitVec 32 := 1#32
  let v884 : BitVec 32 := Scalar.subi v869 c1_i32_552
  let v885 : BitVec 32 := Scalar.select v883 v884 v869
  let c8_i32_553 : BitVec 32 := 8#32
  let v886 : BitVec 32 := Scalar.muli v885 c8_i32_553
  let c184_i32_554 : BitVec 32 := 184#32
  let v887 : BitVec 32 := Scalar.minsi v886 c184_i32_554
  let v888 : BitVec 32 := v887
  let c0_i32_558 : BitVec 32 := 0#32
  ![v866.toNat, 0, v888.toNat, 0]

def k0_chk12 (i : grid0.Coords) (v868 : BitVec 32) : Prop :=
  (∀ (k0_h1 : k0_cond1 i = 1#1), ∀ (k0_h2 : k0_cond2 i = 1#1), 8 ∣ (k0_mult12 v868).toNat) ∧
  (∀ (k0_h1 : k0_cond1 i = 1#1), ∀ (k0_h2 : k0_cond2 i = 1#1), ∀ a, (k0_off47 i v868) a + S1x3x40x224.size a ≤ S256x3x224x224.size a)
theorem k0_mult12_dvd : ∀ (i : grid0.Coords) (v868 : BitVec 32) (k0_hw12 : k0_chk12 i v868), ∀ (k0_h1 : k0_cond1 i = 1#1), ∀ (k0_h2 : k0_cond2 i = 1#1), 8 ∣ (k0_mult12 v868).toNat := fun i v868 k0_hw12 k0_h1 k0_h2 => k0_hw12.1 k0_h1 k0_h2
theorem k0_off47_inb : ∀ (i : grid0.Coords) (v868 : BitVec 32) (k0_hw12 : k0_chk12 i v868), ∀ (k0_h1 : k0_cond1 i = 1#1), ∀ (k0_h2 : k0_cond2 i = 1#1), ∀ a, (k0_off47 i v868) a + S1x3x40x224.size a ≤ S256x3x224x224.size a := fun i v868 k0_hw12 k0_h1 k0_h2 => k0_hw12.2 k0_h1 k0_h2

def k0_off48 (i : grid0.Coords) : Fin 5 → Nat :=
  let arg0 : BitVec 32 := BitVec.ofNat 32 (i 0).val
  let c4_i32_541 : BitVec 32 := 4#32
  let v863 : BitVec 32 := Scalar.subi arg0 c4_i32_541
  let c4_i32_542 : BitVec 32 := 4#32
  let v864 : BitVec 32 := Scalar.remsi v863 c4_i32_542
  let c11_i32_555 : BitVec 32 := 11#32
  let c0_i32_559 : BitVec 32 := 0#32
  let c0_i32_560 : BitVec 32 := 0#32
  let c0_i32_561 : BitVec 32 := 0#32
  ![v864.toNat, 11, 0, 0, 0]
def k0_off49 (i : grid0.Coords) : Fin 2 → Nat :=
  let arg0 : BitVec 32 := BitVec.ofNat 32 (i 0).val
  let c4_i32_562 : BitVec 32 := 4#32
  let v895 : BitVec 32 := Scalar.subi arg0 c4_i32_562
  let c16_i32_564 : BitVec 32 := 16#32
  let v897 : BitVec 32 := Scalar.muli v895 c16_i32_564
  let c12_i32_565 : BitVec 32 := 12#32
  let v898 : BitVec 32 := Scalar.addi v897 c12_i32_565
  let v899 : Index := Scalar.indexCast v898
  let c0_566 : Index := 0#32
  ![v899.toNat, 0]
def k0_mult13 (v900 : BitVec 32) : BitVec 32 :=
  let c0_i32_568 : BitVec 32 := 0#32
  let v902 : BitVec 1 := Scalar.cmpi .sgt v900 c0_i32_568
  let v903 : BitVec 32 := Scalar.extui v902
  let c0_i32_569 : BitVec 32 := 0#32
  let v904 : BitVec 1 := Scalar.cmpi .slt v900 c0_i32_569
  let v905 : BitVec 32 := Scalar.extui v904
  let v906 : BitVec 32 := Scalar.subi v903 v905
  let c8_i32_567 : BitVec 32 := 8#32
  let c0_i32_570 : BitVec 32 := 0#32
  let v907 : BitVec 1 := Scalar.cmpi .sgt c8_i32_567 c0_i32_570
  let v908 : BitVec 32 := Scalar.extui v907
  let c0_i32_571 : BitVec 32 := 0#32
  let v909 : BitVec 1 := Scalar.cmpi .slt c8_i32_567 c0_i32_571
  let v910 : BitVec 32 := Scalar.extui v909
  let v911 : BitVec 32 := Scalar.subi v908 v910
  let v912 : BitVec 1 := Scalar.cmpi .ne v906 v911
  let v913 : BitVec 32 := Scalar.remsi v900 c8_i32_567
  let c0_i32_572 : BitVec 32 := 0#32
  let v914 : BitVec 1 := Scalar.cmpi .ne v913 c0_i32_572
  let v915 : BitVec 1 := Scalar.andi v912 v914
  let v901 : BitVec 32 := Scalar.divsi v900 c8_i32_567
  let c1_i32_573 : BitVec 32 := 1#32
  let v916 : BitVec 32 := Scalar.subi v901 c1_i32_573
  let v917 : BitVec 32 := Scalar.select v915 v916 v901
  let c8_i32_574 : BitVec 32 := 8#32
  let v918 : BitVec 32 := Scalar.muli v917 c8_i32_574
  let c184_i32_575 : BitVec 32 := 184#32
  let v919 : BitVec 32 := Scalar.minsi v918 c184_i32_575
  v919

def k0_off50 (i : grid0.Coords) : Fin 2 → Nat :=
  let arg0 : BitVec 32 := BitVec.ofNat 32 (i 0).val
  let c4_i32_562 : BitVec 32 := 4#32
  let v895 : BitVec 32 := Scalar.subi arg0 c4_i32_562
  let c4_i32_563 : BitVec 32 := 4#32
  let v896 : BitVec 32 := Scalar.remsi v895 c4_i32_563
  let c12_i32_577 : BitVec 32 := 12#32
  ![v896.toNat, 12]
def k0_off51 (i : grid0.Coords) (v900 : BitVec 32) : Fin 4 → Nat :=
  let arg0 : BitVec 32 := BitVec.ofNat 32 (i 0).val
  let c4_i32_562 : BitVec 32 := 4#32
  let v895 : BitVec 32 := Scalar.subi arg0 c4_i32_562
  let c16_i32_564 : BitVec 32 := 16#32
  let v897 : BitVec 32 := Scalar.muli v895 c16_i32_564
  let c12_i32_565 : BitVec 32 := 12#32
  let v898 : BitVec 32 := Scalar.addi v897 c12_i32_565
  let c0_i32_578 : BitVec 32 := 0#32
  let c0_i32_568 : BitVec 32 := 0#32
  let v902 : BitVec 1 := Scalar.cmpi .sgt v900 c0_i32_568
  let v903 : BitVec 32 := Scalar.extui v902
  let c0_i32_569 : BitVec 32 := 0#32
  let v904 : BitVec 1 := Scalar.cmpi .slt v900 c0_i32_569
  let v905 : BitVec 32 := Scalar.extui v904
  let v906 : BitVec 32 := Scalar.subi v903 v905
  let c8_i32_567 : BitVec 32 := 8#32
  let c0_i32_570 : BitVec 32 := 0#32
  let v907 : BitVec 1 := Scalar.cmpi .sgt c8_i32_567 c0_i32_570
  let v908 : BitVec 32 := Scalar.extui v907
  let c0_i32_571 : BitVec 32 := 0#32
  let v909 : BitVec 1 := Scalar.cmpi .slt c8_i32_567 c0_i32_571
  let v910 : BitVec 32 := Scalar.extui v909
  let v911 : BitVec 32 := Scalar.subi v908 v910
  let v912 : BitVec 1 := Scalar.cmpi .ne v906 v911
  let v913 : BitVec 32 := Scalar.remsi v900 c8_i32_567
  let c0_i32_572 : BitVec 32 := 0#32
  let v914 : BitVec 1 := Scalar.cmpi .ne v913 c0_i32_572
  let v915 : BitVec 1 := Scalar.andi v912 v914
  let v901 : BitVec 32 := Scalar.divsi v900 c8_i32_567
  let c1_i32_573 : BitVec 32 := 1#32
  let v916 : BitVec 32 := Scalar.subi v901 c1_i32_573
  let v917 : BitVec 32 := Scalar.select v915 v916 v901
  let c8_i32_574 : BitVec 32 := 8#32
  let v918 : BitVec 32 := Scalar.muli v917 c8_i32_574
  let c184_i32_575 : BitVec 32 := 184#32
  let v919 : BitVec 32 := Scalar.minsi v918 c184_i32_575
  let v920 : BitVec 32 := v919
  let c0_i32_579 : BitVec 32 := 0#32
  ![v898.toNat, 0, v920.toNat, 0]

def k0_chk13 (i : grid0.Coords) (v900 : BitVec 32) : Prop :=
  (∀ (k0_h1 : k0_cond1 i = 1#1), ∀ (k0_h2 : k0_cond2 i = 1#1), 8 ∣ (k0_mult13 v900).toNat) ∧
  (∀ (k0_h1 : k0_cond1 i = 1#1), ∀ (k0_h2 : k0_cond2 i = 1#1), ∀ a, (k0_off51 i v900) a + S1x3x40x224.size a ≤ S256x3x224x224.size a)
theorem k0_mult13_dvd : ∀ (i : grid0.Coords) (v900 : BitVec 32) (k0_hw13 : k0_chk13 i v900), ∀ (k0_h1 : k0_cond1 i = 1#1), ∀ (k0_h2 : k0_cond2 i = 1#1), 8 ∣ (k0_mult13 v900).toNat := fun i v900 k0_hw13 k0_h1 k0_h2 => k0_hw13.1 k0_h1 k0_h2
theorem k0_off51_inb : ∀ (i : grid0.Coords) (v900 : BitVec 32) (k0_hw13 : k0_chk13 i v900), ∀ (k0_h1 : k0_cond1 i = 1#1), ∀ (k0_h2 : k0_cond2 i = 1#1), ∀ a, (k0_off51 i v900) a + S1x3x40x224.size a ≤ S256x3x224x224.size a := fun i v900 k0_hw13 k0_h1 k0_h2 => k0_hw13.2 k0_h1 k0_h2

def k0_off52 (i : grid0.Coords) : Fin 5 → Nat :=
  let arg0 : BitVec 32 := BitVec.ofNat 32 (i 0).val
  let c4_i32_562 : BitVec 32 := 4#32
  let v895 : BitVec 32 := Scalar.subi arg0 c4_i32_562
  let c4_i32_563 : BitVec 32 := 4#32
  let v896 : BitVec 32 := Scalar.remsi v895 c4_i32_563
  let c12_i32_576 : BitVec 32 := 12#32
  let c0_i32_580 : BitVec 32 := 0#32
  let c0_i32_581 : BitVec 32 := 0#32
  let c0_i32_582 : BitVec 32 := 0#32
  ![v896.toNat, 12, 0, 0, 0]
def k0_off53 (i : grid0.Coords) : Fin 2 → Nat :=
  let arg0 : BitVec 32 := BitVec.ofNat 32 (i 0).val
  let c4_i32_583 : BitVec 32 := 4#32
  let v927 : BitVec 32 := Scalar.subi arg0 c4_i32_583
  let c16_i32_585 : BitVec 32 := 16#32
  let v929 : BitVec 32 := Scalar.muli v927 c16_i32_585
  let c13_i32_586 : BitVec 32 := 13#32
  let v930 : BitVec 32 := Scalar.addi v929 c13_i32_586
  let v931 : Index := Scalar.indexCast v930
  let c0_587 : Index := 0#32
  ![v931.toNat, 0]
def k0_mult14 (v932 : BitVec 32) : BitVec 32 :=
  let c0_i32_589 : BitVec 32 := 0#32
  let v934 : BitVec 1 := Scalar.cmpi .sgt v932 c0_i32_589
  let v935 : BitVec 32 := Scalar.extui v934
  let c0_i32_590 : BitVec 32 := 0#32
  let v936 : BitVec 1 := Scalar.cmpi .slt v932 c0_i32_590
  let v937 : BitVec 32 := Scalar.extui v936
  let v938 : BitVec 32 := Scalar.subi v935 v937
  let c8_i32_588 : BitVec 32 := 8#32
  let c0_i32_591 : BitVec 32 := 0#32
  let v939 : BitVec 1 := Scalar.cmpi .sgt c8_i32_588 c0_i32_591
  let v940 : BitVec 32 := Scalar.extui v939
  let c0_i32_592 : BitVec 32 := 0#32
  let v941 : BitVec 1 := Scalar.cmpi .slt c8_i32_588 c0_i32_592
  let v942 : BitVec 32 := Scalar.extui v941
  let v943 : BitVec 32 := Scalar.subi v940 v942
  let v944 : BitVec 1 := Scalar.cmpi .ne v938 v943
  let v945 : BitVec 32 := Scalar.remsi v932 c8_i32_588
  let c0_i32_593 : BitVec 32 := 0#32
  let v946 : BitVec 1 := Scalar.cmpi .ne v945 c0_i32_593
  let v947 : BitVec 1 := Scalar.andi v944 v946
  let v933 : BitVec 32 := Scalar.divsi v932 c8_i32_588
  let c1_i32_594 : BitVec 32 := 1#32
  let v948 : BitVec 32 := Scalar.subi v933 c1_i32_594
  let v949 : BitVec 32 := Scalar.select v947 v948 v933
  let c8_i32_595 : BitVec 32 := 8#32
  let v950 : BitVec 32 := Scalar.muli v949 c8_i32_595
  let c184_i32_596 : BitVec 32 := 184#32
  let v951 : BitVec 32 := Scalar.minsi v950 c184_i32_596
  v951

def k0_off54 (i : grid0.Coords) : Fin 2 → Nat :=
  let arg0 : BitVec 32 := BitVec.ofNat 32 (i 0).val
  let c4_i32_583 : BitVec 32 := 4#32
  let v927 : BitVec 32 := Scalar.subi arg0 c4_i32_583
  let c4_i32_584 : BitVec 32 := 4#32
  let v928 : BitVec 32 := Scalar.remsi v927 c4_i32_584
  let c13_i32_598 : BitVec 32 := 13#32
  ![v928.toNat, 13]
def k0_off55 (i : grid0.Coords) (v932 : BitVec 32) : Fin 4 → Nat :=
  let arg0 : BitVec 32 := BitVec.ofNat 32 (i 0).val
  let c4_i32_583 : BitVec 32 := 4#32
  let v927 : BitVec 32 := Scalar.subi arg0 c4_i32_583
  let c16_i32_585 : BitVec 32 := 16#32
  let v929 : BitVec 32 := Scalar.muli v927 c16_i32_585
  let c13_i32_586 : BitVec 32 := 13#32
  let v930 : BitVec 32 := Scalar.addi v929 c13_i32_586
  let c0_i32_599 : BitVec 32 := 0#32
  let c0_i32_589 : BitVec 32 := 0#32
  let v934 : BitVec 1 := Scalar.cmpi .sgt v932 c0_i32_589
  let v935 : BitVec 32 := Scalar.extui v934
  let c0_i32_590 : BitVec 32 := 0#32
  let v936 : BitVec 1 := Scalar.cmpi .slt v932 c0_i32_590
  let v937 : BitVec 32 := Scalar.extui v936
  let v938 : BitVec 32 := Scalar.subi v935 v937
  let c8_i32_588 : BitVec 32 := 8#32
  let c0_i32_591 : BitVec 32 := 0#32
  let v939 : BitVec 1 := Scalar.cmpi .sgt c8_i32_588 c0_i32_591
  let v940 : BitVec 32 := Scalar.extui v939
  let c0_i32_592 : BitVec 32 := 0#32
  let v941 : BitVec 1 := Scalar.cmpi .slt c8_i32_588 c0_i32_592
  let v942 : BitVec 32 := Scalar.extui v941
  let v943 : BitVec 32 := Scalar.subi v940 v942
  let v944 : BitVec 1 := Scalar.cmpi .ne v938 v943
  let v945 : BitVec 32 := Scalar.remsi v932 c8_i32_588
  let c0_i32_593 : BitVec 32 := 0#32
  let v946 : BitVec 1 := Scalar.cmpi .ne v945 c0_i32_593
  let v947 : BitVec 1 := Scalar.andi v944 v946
  let v933 : BitVec 32 := Scalar.divsi v932 c8_i32_588
  let c1_i32_594 : BitVec 32 := 1#32
  let v948 : BitVec 32 := Scalar.subi v933 c1_i32_594
  let v949 : BitVec 32 := Scalar.select v947 v948 v933
  let c8_i32_595 : BitVec 32 := 8#32
  let v950 : BitVec 32 := Scalar.muli v949 c8_i32_595
  let c184_i32_596 : BitVec 32 := 184#32
  let v951 : BitVec 32 := Scalar.minsi v950 c184_i32_596
  let v952 : BitVec 32 := v951
  let c0_i32_600 : BitVec 32 := 0#32
  ![v930.toNat, 0, v952.toNat, 0]

def k0_chk14 (i : grid0.Coords) (v932 : BitVec 32) : Prop :=
  (∀ (k0_h1 : k0_cond1 i = 1#1), ∀ (k0_h2 : k0_cond2 i = 1#1), 8 ∣ (k0_mult14 v932).toNat) ∧
  (∀ (k0_h1 : k0_cond1 i = 1#1), ∀ (k0_h2 : k0_cond2 i = 1#1), ∀ a, (k0_off55 i v932) a + S1x3x40x224.size a ≤ S256x3x224x224.size a)
theorem k0_mult14_dvd : ∀ (i : grid0.Coords) (v932 : BitVec 32) (k0_hw14 : k0_chk14 i v932), ∀ (k0_h1 : k0_cond1 i = 1#1), ∀ (k0_h2 : k0_cond2 i = 1#1), 8 ∣ (k0_mult14 v932).toNat := fun i v932 k0_hw14 k0_h1 k0_h2 => k0_hw14.1 k0_h1 k0_h2
theorem k0_off55_inb : ∀ (i : grid0.Coords) (v932 : BitVec 32) (k0_hw14 : k0_chk14 i v932), ∀ (k0_h1 : k0_cond1 i = 1#1), ∀ (k0_h2 : k0_cond2 i = 1#1), ∀ a, (k0_off55 i v932) a + S1x3x40x224.size a ≤ S256x3x224x224.size a := fun i v932 k0_hw14 k0_h1 k0_h2 => k0_hw14.2 k0_h1 k0_h2

def k0_off56 (i : grid0.Coords) : Fin 5 → Nat :=
  let arg0 : BitVec 32 := BitVec.ofNat 32 (i 0).val
  let c4_i32_583 : BitVec 32 := 4#32
  let v927 : BitVec 32 := Scalar.subi arg0 c4_i32_583
  let c4_i32_584 : BitVec 32 := 4#32
  let v928 : BitVec 32 := Scalar.remsi v927 c4_i32_584
  let c13_i32_597 : BitVec 32 := 13#32
  let c0_i32_601 : BitVec 32 := 0#32
  let c0_i32_602 : BitVec 32 := 0#32
  let c0_i32_603 : BitVec 32 := 0#32
  ![v928.toNat, 13, 0, 0, 0]
def k0_off57 (i : grid0.Coords) : Fin 2 → Nat :=
  let arg0 : BitVec 32 := BitVec.ofNat 32 (i 0).val
  let c4_i32_604 : BitVec 32 := 4#32
  let v959 : BitVec 32 := Scalar.subi arg0 c4_i32_604
  let c16_i32_606 : BitVec 32 := 16#32
  let v961 : BitVec 32 := Scalar.muli v959 c16_i32_606
  let c14_i32_607 : BitVec 32 := 14#32
  let v962 : BitVec 32 := Scalar.addi v961 c14_i32_607
  let v963 : Index := Scalar.indexCast v962
  let c0_608 : Index := 0#32
  ![v963.toNat, 0]
def k0_mult15 (v964 : BitVec 32) : BitVec 32 :=
  let c0_i32_610 : BitVec 32 := 0#32
  let v966 : BitVec 1 := Scalar.cmpi .sgt v964 c0_i32_610
  let v967 : BitVec 32 := Scalar.extui v966
  let c0_i32_611 : BitVec 32 := 0#32
  let v968 : BitVec 1 := Scalar.cmpi .slt v964 c0_i32_611
  let v969 : BitVec 32 := Scalar.extui v968
  let v970 : BitVec 32 := Scalar.subi v967 v969
  let c8_i32_609 : BitVec 32 := 8#32
  let c0_i32_612 : BitVec 32 := 0#32
  let v971 : BitVec 1 := Scalar.cmpi .sgt c8_i32_609 c0_i32_612
  let v972 : BitVec 32 := Scalar.extui v971
  let c0_i32_613 : BitVec 32 := 0#32
  let v973 : BitVec 1 := Scalar.cmpi .slt c8_i32_609 c0_i32_613
  let v974 : BitVec 32 := Scalar.extui v973
  let v975 : BitVec 32 := Scalar.subi v972 v974
  let v976 : BitVec 1 := Scalar.cmpi .ne v970 v975
  let v977 : BitVec 32 := Scalar.remsi v964 c8_i32_609
  let c0_i32_614 : BitVec 32 := 0#32
  let v978 : BitVec 1 := Scalar.cmpi .ne v977 c0_i32_614
  let v979 : BitVec 1 := Scalar.andi v976 v978
  let v965 : BitVec 32 := Scalar.divsi v964 c8_i32_609
  let c1_i32_615 : BitVec 32 := 1#32
  let v980 : BitVec 32 := Scalar.subi v965 c1_i32_615
  let v981 : BitVec 32 := Scalar.select v979 v980 v965
  let c8_i32_616 : BitVec 32 := 8#32
  let v982 : BitVec 32 := Scalar.muli v981 c8_i32_616
  let c184_i32_617 : BitVec 32 := 184#32
  let v983 : BitVec 32 := Scalar.minsi v982 c184_i32_617
  v983

def k0_off58 (i : grid0.Coords) : Fin 2 → Nat :=
  let arg0 : BitVec 32 := BitVec.ofNat 32 (i 0).val
  let c4_i32_604 : BitVec 32 := 4#32
  let v959 : BitVec 32 := Scalar.subi arg0 c4_i32_604
  let c4_i32_605 : BitVec 32 := 4#32
  let v960 : BitVec 32 := Scalar.remsi v959 c4_i32_605
  let c14_i32_619 : BitVec 32 := 14#32
  ![v960.toNat, 14]
def k0_off59 (i : grid0.Coords) (v964 : BitVec 32) : Fin 4 → Nat :=
  let arg0 : BitVec 32 := BitVec.ofNat 32 (i 0).val
  let c4_i32_604 : BitVec 32 := 4#32
  let v959 : BitVec 32 := Scalar.subi arg0 c4_i32_604
  let c16_i32_606 : BitVec 32 := 16#32
  let v961 : BitVec 32 := Scalar.muli v959 c16_i32_606
  let c14_i32_607 : BitVec 32 := 14#32
  let v962 : BitVec 32 := Scalar.addi v961 c14_i32_607
  let c0_i32_620 : BitVec 32 := 0#32
  let c0_i32_610 : BitVec 32 := 0#32
  let v966 : BitVec 1 := Scalar.cmpi .sgt v964 c0_i32_610
  let v967 : BitVec 32 := Scalar.extui v966
  let c0_i32_611 : BitVec 32 := 0#32
  let v968 : BitVec 1 := Scalar.cmpi .slt v964 c0_i32_611
  let v969 : BitVec 32 := Scalar.extui v968
  let v970 : BitVec 32 := Scalar.subi v967 v969
  let c8_i32_609 : BitVec 32 := 8#32
  let c0_i32_612 : BitVec 32 := 0#32
  let v971 : BitVec 1 := Scalar.cmpi .sgt c8_i32_609 c0_i32_612
  let v972 : BitVec 32 := Scalar.extui v971
  let c0_i32_613 : BitVec 32 := 0#32
  let v973 : BitVec 1 := Scalar.cmpi .slt c8_i32_609 c0_i32_613
  let v974 : BitVec 32 := Scalar.extui v973
  let v975 : BitVec 32 := Scalar.subi v972 v974
  let v976 : BitVec 1 := Scalar.cmpi .ne v970 v975
  let v977 : BitVec 32 := Scalar.remsi v964 c8_i32_609
  let c0_i32_614 : BitVec 32 := 0#32
  let v978 : BitVec 1 := Scalar.cmpi .ne v977 c0_i32_614
  let v979 : BitVec 1 := Scalar.andi v976 v978
  let v965 : BitVec 32 := Scalar.divsi v964 c8_i32_609
  let c1_i32_615 : BitVec 32 := 1#32
  let v980 : BitVec 32 := Scalar.subi v965 c1_i32_615
  let v981 : BitVec 32 := Scalar.select v979 v980 v965
  let c8_i32_616 : BitVec 32 := 8#32
  let v982 : BitVec 32 := Scalar.muli v981 c8_i32_616
  let c184_i32_617 : BitVec 32 := 184#32
  let v983 : BitVec 32 := Scalar.minsi v982 c184_i32_617
  let v984 : BitVec 32 := v983
  let c0_i32_621 : BitVec 32 := 0#32
  ![v962.toNat, 0, v984.toNat, 0]

def k0_chk15 (i : grid0.Coords) (v964 : BitVec 32) : Prop :=
  (∀ (k0_h1 : k0_cond1 i = 1#1), ∀ (k0_h2 : k0_cond2 i = 1#1), 8 ∣ (k0_mult15 v964).toNat) ∧
  (∀ (k0_h1 : k0_cond1 i = 1#1), ∀ (k0_h2 : k0_cond2 i = 1#1), ∀ a, (k0_off59 i v964) a + S1x3x40x224.size a ≤ S256x3x224x224.size a)
theorem k0_mult15_dvd : ∀ (i : grid0.Coords) (v964 : BitVec 32) (k0_hw15 : k0_chk15 i v964), ∀ (k0_h1 : k0_cond1 i = 1#1), ∀ (k0_h2 : k0_cond2 i = 1#1), 8 ∣ (k0_mult15 v964).toNat := fun i v964 k0_hw15 k0_h1 k0_h2 => k0_hw15.1 k0_h1 k0_h2
theorem k0_off59_inb : ∀ (i : grid0.Coords) (v964 : BitVec 32) (k0_hw15 : k0_chk15 i v964), ∀ (k0_h1 : k0_cond1 i = 1#1), ∀ (k0_h2 : k0_cond2 i = 1#1), ∀ a, (k0_off59 i v964) a + S1x3x40x224.size a ≤ S256x3x224x224.size a := fun i v964 k0_hw15 k0_h1 k0_h2 => k0_hw15.2 k0_h1 k0_h2

def k0_off60 (i : grid0.Coords) : Fin 5 → Nat :=
  let arg0 : BitVec 32 := BitVec.ofNat 32 (i 0).val
  let c4_i32_604 : BitVec 32 := 4#32
  let v959 : BitVec 32 := Scalar.subi arg0 c4_i32_604
  let c4_i32_605 : BitVec 32 := 4#32
  let v960 : BitVec 32 := Scalar.remsi v959 c4_i32_605
  let c14_i32_618 : BitVec 32 := 14#32
  let c0_i32_622 : BitVec 32 := 0#32
  let c0_i32_623 : BitVec 32 := 0#32
  let c0_i32_624 : BitVec 32 := 0#32
  ![v960.toNat, 14, 0, 0, 0]
def k0_off61 (i : grid0.Coords) : Fin 2 → Nat :=
  let arg0 : BitVec 32 := BitVec.ofNat 32 (i 0).val
  let c4_i32_625 : BitVec 32 := 4#32
  let v991 : BitVec 32 := Scalar.subi arg0 c4_i32_625
  let c16_i32_627 : BitVec 32 := 16#32
  let v993 : BitVec 32 := Scalar.muli v991 c16_i32_627
  let c15_i32_628 : BitVec 32 := 15#32
  let v994 : BitVec 32 := Scalar.addi v993 c15_i32_628
  let v995 : Index := Scalar.indexCast v994
  let c0_629 : Index := 0#32
  ![v995.toNat, 0]
def k0_mult16 (v996 : BitVec 32) : BitVec 32 :=
  let c0_i32_631 : BitVec 32 := 0#32
  let v998 : BitVec 1 := Scalar.cmpi .sgt v996 c0_i32_631
  let v999 : BitVec 32 := Scalar.extui v998
  let c0_i32_632 : BitVec 32 := 0#32
  let v1000 : BitVec 1 := Scalar.cmpi .slt v996 c0_i32_632
  let v1001 : BitVec 32 := Scalar.extui v1000
  let v1002 : BitVec 32 := Scalar.subi v999 v1001
  let c8_i32_630 : BitVec 32 := 8#32
  let c0_i32_633 : BitVec 32 := 0#32
  let v1003 : BitVec 1 := Scalar.cmpi .sgt c8_i32_630 c0_i32_633
  let v1004 : BitVec 32 := Scalar.extui v1003
  let c0_i32_634 : BitVec 32 := 0#32
  let v1005 : BitVec 1 := Scalar.cmpi .slt c8_i32_630 c0_i32_634
  let v1006 : BitVec 32 := Scalar.extui v1005
  let v1007 : BitVec 32 := Scalar.subi v1004 v1006
  let v1008 : BitVec 1 := Scalar.cmpi .ne v1002 v1007
  let v1009 : BitVec 32 := Scalar.remsi v996 c8_i32_630
  let c0_i32_635 : BitVec 32 := 0#32
  let v1010 : BitVec 1 := Scalar.cmpi .ne v1009 c0_i32_635
  let v1011 : BitVec 1 := Scalar.andi v1008 v1010
  let v997 : BitVec 32 := Scalar.divsi v996 c8_i32_630
  let c1_i32_636 : BitVec 32 := 1#32
  let v1012 : BitVec 32 := Scalar.subi v997 c1_i32_636
  let v1013 : BitVec 32 := Scalar.select v1011 v1012 v997
  let c8_i32_637 : BitVec 32 := 8#32
  let v1014 : BitVec 32 := Scalar.muli v1013 c8_i32_637
  let c184_i32_638 : BitVec 32 := 184#32
  let v1015 : BitVec 32 := Scalar.minsi v1014 c184_i32_638
  v1015

def k0_off62 (i : grid0.Coords) : Fin 2 → Nat :=
  let arg0 : BitVec 32 := BitVec.ofNat 32 (i 0).val
  let c4_i32_625 : BitVec 32 := 4#32
  let v991 : BitVec 32 := Scalar.subi arg0 c4_i32_625
  let c4_i32_626 : BitVec 32 := 4#32
  let v992 : BitVec 32 := Scalar.remsi v991 c4_i32_626
  let c15_i32_640 : BitVec 32 := 15#32
  ![v992.toNat, 15]
def k0_off63 (i : grid0.Coords) (v996 : BitVec 32) : Fin 4 → Nat :=
  let arg0 : BitVec 32 := BitVec.ofNat 32 (i 0).val
  let c4_i32_625 : BitVec 32 := 4#32
  let v991 : BitVec 32 := Scalar.subi arg0 c4_i32_625
  let c16_i32_627 : BitVec 32 := 16#32
  let v993 : BitVec 32 := Scalar.muli v991 c16_i32_627
  let c15_i32_628 : BitVec 32 := 15#32
  let v994 : BitVec 32 := Scalar.addi v993 c15_i32_628
  let c0_i32_641 : BitVec 32 := 0#32
  let c0_i32_631 : BitVec 32 := 0#32
  let v998 : BitVec 1 := Scalar.cmpi .sgt v996 c0_i32_631
  let v999 : BitVec 32 := Scalar.extui v998
  let c0_i32_632 : BitVec 32 := 0#32
  let v1000 : BitVec 1 := Scalar.cmpi .slt v996 c0_i32_632
  let v1001 : BitVec 32 := Scalar.extui v1000
  let v1002 : BitVec 32 := Scalar.subi v999 v1001
  let c8_i32_630 : BitVec 32 := 8#32
  let c0_i32_633 : BitVec 32 := 0#32
  let v1003 : BitVec 1 := Scalar.cmpi .sgt c8_i32_630 c0_i32_633
  let v1004 : BitVec 32 := Scalar.extui v1003
  let c0_i32_634 : BitVec 32 := 0#32
  let v1005 : BitVec 1 := Scalar.cmpi .slt c8_i32_630 c0_i32_634
  let v1006 : BitVec 32 := Scalar.extui v1005
  let v1007 : BitVec 32 := Scalar.subi v1004 v1006
  let v1008 : BitVec 1 := Scalar.cmpi .ne v1002 v1007
  let v1009 : BitVec 32 := Scalar.remsi v996 c8_i32_630
  let c0_i32_635 : BitVec 32 := 0#32
  let v1010 : BitVec 1 := Scalar.cmpi .ne v1009 c0_i32_635
  let v1011 : BitVec 1 := Scalar.andi v1008 v1010
  let v997 : BitVec 32 := Scalar.divsi v996 c8_i32_630
  let c1_i32_636 : BitVec 32 := 1#32
  let v1012 : BitVec 32 := Scalar.subi v997 c1_i32_636
  let v1013 : BitVec 32 := Scalar.select v1011 v1012 v997
  let c8_i32_637 : BitVec 32 := 8#32
  let v1014 : BitVec 32 := Scalar.muli v1013 c8_i32_637
  let c184_i32_638 : BitVec 32 := 184#32
  let v1015 : BitVec 32 := Scalar.minsi v1014 c184_i32_638
  let v1016 : BitVec 32 := v1015
  let c0_i32_642 : BitVec 32 := 0#32
  ![v994.toNat, 0, v1016.toNat, 0]

def k0_chk16 (i : grid0.Coords) (v996 : BitVec 32) : Prop :=
  (∀ (k0_h1 : k0_cond1 i = 1#1), ∀ (k0_h2 : k0_cond2 i = 1#1), 8 ∣ (k0_mult16 v996).toNat) ∧
  (∀ (k0_h1 : k0_cond1 i = 1#1), ∀ (k0_h2 : k0_cond2 i = 1#1), ∀ a, (k0_off63 i v996) a + S1x3x40x224.size a ≤ S256x3x224x224.size a)
theorem k0_mult16_dvd : ∀ (i : grid0.Coords) (v996 : BitVec 32) (k0_hw16 : k0_chk16 i v996), ∀ (k0_h1 : k0_cond1 i = 1#1), ∀ (k0_h2 : k0_cond2 i = 1#1), 8 ∣ (k0_mult16 v996).toNat := fun i v996 k0_hw16 k0_h1 k0_h2 => k0_hw16.1 k0_h1 k0_h2
theorem k0_off63_inb : ∀ (i : grid0.Coords) (v996 : BitVec 32) (k0_hw16 : k0_chk16 i v996), ∀ (k0_h1 : k0_cond1 i = 1#1), ∀ (k0_h2 : k0_cond2 i = 1#1), ∀ a, (k0_off63 i v996) a + S1x3x40x224.size a ≤ S256x3x224x224.size a := fun i v996 k0_hw16 k0_h1 k0_h2 => k0_hw16.2 k0_h1 k0_h2

def k0_off64 (i : grid0.Coords) : Fin 5 → Nat :=
  let arg0 : BitVec 32 := BitVec.ofNat 32 (i 0).val
  let c4_i32_625 : BitVec 32 := 4#32
  let v991 : BitVec 32 := Scalar.subi arg0 c4_i32_625
  let c4_i32_626 : BitVec 32 := 4#32
  let v992 : BitVec 32 := Scalar.remsi v991 c4_i32_626
  let c15_i32_639 : BitVec 32 := 15#32
  let c0_i32_643 : BitVec 32 := 0#32
  let c0_i32_644 : BitVec 32 := 0#32
  let c0_i32_645 : BitVec 32 := 0#32
  ![v992.toNat, 15, 0, 0, 0]
def k0_off65 (i : grid0.Coords) : Fin 2 → Nat :=
  let arg0 : BitVec 32 := BitVec.ofNat 32 (i 0).val
  let c16_i32_6 : BitVec 32 := 16#32
  let v16 : BitVec 32 := Scalar.muli arg0 c16_i32_6
  let c0_i32_7 : BitVec 32 := 0#32
  let v17 : BitVec 32 := Scalar.addi v16 c0_i32_7
  let v18 : Index := Scalar.indexCast v17
  let c0 : Index := 0#32
  ![v18.toNat, 0]
def k0_mult17 (v19 : BitVec 32) : BitVec 32 :=
  let c0_i32_8 : BitVec 32 := 0#32
  let v21 : BitVec 1 := Scalar.cmpi .sgt v19 c0_i32_8
  let v22 : BitVec 32 := Scalar.extui v21
  let c0_i32_9 : BitVec 32 := 0#32
  let v23 : BitVec 1 := Scalar.cmpi .slt v19 c0_i32_9
  let v24 : BitVec 32 := Scalar.extui v23
  let v25 : BitVec 32 := Scalar.subi v22 v24
  let c8_i32 : BitVec 32 := 8#32
  let c0_i32_10 : BitVec 32 := 0#32
  let v26 : BitVec 1 := Scalar.cmpi .sgt c8_i32 c0_i32_10
  let v27 : BitVec 32 := Scalar.extui v26
  let c0_i32_11 : BitVec 32 := 0#32
  let v28 : BitVec 1 := Scalar.cmpi .slt c8_i32 c0_i32_11
  let v29 : BitVec 32 := Scalar.extui v28
  let v30 : BitVec 32 := Scalar.subi v27 v29
  let v31 : BitVec 1 := Scalar.cmpi .ne v25 v30
  let v32 : BitVec 32 := Scalar.remsi v19 c8_i32
  let c0_i32_12 : BitVec 32 := 0#32
  let v33 : BitVec 1 := Scalar.cmpi .ne v32 c0_i32_12
  let v34 : BitVec 1 := Scalar.andi v31 v33
  let v20 : BitVec 32 := Scalar.divsi v19 c8_i32
  let c1_i32 : BitVec 32 := 1#32
  let v35 : BitVec 32 := Scalar.subi v20 c1_i32
  let v36 : BitVec 32 := Scalar.select v34 v35 v20
  let c8_i32_13 : BitVec 32 := 8#32
  let v37 : BitVec 32 := Scalar.muli v36 c8_i32_13
  let c184_i32 : BitVec 32 := 184#32
  let v38 : BitVec 32 := Scalar.minsi v37 c184_i32
  v38

def k0_off66 (i : grid0.Coords) : Fin 2 → Nat :=
  let arg0 : BitVec 32 := BitVec.ofNat 32 (i 0).val
  let c4_i32_5 : BitVec 32 := 4#32
  let v15 : BitVec 32 := Scalar.remsi arg0 c4_i32_5
  let c0_i32_15 : BitVec 32 := 0#32
  ![v15.toNat, 0]
def k0_off67 (i : grid0.Coords) : Fin 5 → Nat :=
  let arg0 : BitVec 32 := BitVec.ofNat 32 (i 0).val
  let c4_i32_5 : BitVec 32 := 4#32
  let v15 : BitVec 32 := Scalar.remsi arg0 c4_i32_5
  let c0_i32_14 : BitVec 32 := 0#32
  let c0_i32_16 : BitVec 32 := 0#32
  let c0_i32_17 : BitVec 32 := 0#32
  let c0_i32_18 : BitVec 32 := 0#32
  ![v15.toNat, 0, 0, 0, 0]
def k0_off68 (i : grid0.Coords) (v19 : BitVec 32) : Fin 4 → Nat :=
  let arg0 : BitVec 32 := BitVec.ofNat 32 (i 0).val
  let c16_i32_6 : BitVec 32 := 16#32
  let v16 : BitVec 32 := Scalar.muli arg0 c16_i32_6
  let c0_i32_7 : BitVec 32 := 0#32
  let v17 : BitVec 32 := Scalar.addi v16 c0_i32_7
  let c0_i32_19 : BitVec 32 := 0#32
  let c0_i32_8 : BitVec 32 := 0#32
  let v21 : BitVec 1 := Scalar.cmpi .sgt v19 c0_i32_8
  let v22 : BitVec 32 := Scalar.extui v21
  let c0_i32_9 : BitVec 32 := 0#32
  let v23 : BitVec 1 := Scalar.cmpi .slt v19 c0_i32_9
  let v24 : BitVec 32 := Scalar.extui v23
  let v25 : BitVec 32 := Scalar.subi v22 v24
  let c8_i32 : BitVec 32 := 8#32
  let c0_i32_10 : BitVec 32 := 0#32
  let v26 : BitVec 1 := Scalar.cmpi .sgt c8_i32 c0_i32_10
  let v27 : BitVec 32 := Scalar.extui v26
  let c0_i32_11 : BitVec 32 := 0#32
  let v28 : BitVec 1 := Scalar.cmpi .slt c8_i32 c0_i32_11
  let v29 : BitVec 32 := Scalar.extui v28
  let v30 : BitVec 32 := Scalar.subi v27 v29
  let v31 : BitVec 1 := Scalar.cmpi .ne v25 v30
  let v32 : BitVec 32 := Scalar.remsi v19 c8_i32
  let c0_i32_12 : BitVec 32 := 0#32
  let v33 : BitVec 1 := Scalar.cmpi .ne v32 c0_i32_12
  let v34 : BitVec 1 := Scalar.andi v31 v33
  let v20 : BitVec 32 := Scalar.divsi v19 c8_i32
  let c1_i32 : BitVec 32 := 1#32
  let v35 : BitVec 32 := Scalar.subi v20 c1_i32
  let v36 : BitVec 32 := Scalar.select v34 v35 v20
  let c8_i32_13 : BitVec 32 := 8#32
  let v37 : BitVec 32 := Scalar.muli v36 c8_i32_13
  let c184_i32 : BitVec 32 := 184#32
  let v38 : BitVec 32 := Scalar.minsi v37 c184_i32
  let v39 : BitVec 32 := v38
  let c0_i32_20 : BitVec 32 := 0#32
  ![v17.toNat, 0, v39.toNat, 0]

def k0_chk17 (i : grid0.Coords) (v19 : BitVec 32) : Prop :=
  (∀ (k0_h1 : k0_cond1 i = 1#1), 8 ∣ (k0_mult17 v19).toNat) ∧
  (∀ (k0_h1 : k0_cond1 i = 1#1), ∀ a, (k0_off68 i v19) a + S1x3x40x224.size a ≤ S256x3x224x224.size a)
theorem k0_mult17_dvd : ∀ (i : grid0.Coords) (v19 : BitVec 32) (k0_hw17 : k0_chk17 i v19), ∀ (k0_h1 : k0_cond1 i = 1#1), 8 ∣ (k0_mult17 v19).toNat := fun i v19 k0_hw17 k0_h1 => k0_hw17.1 k0_h1
theorem k0_off68_inb : ∀ (i : grid0.Coords) (v19 : BitVec 32) (k0_hw17 : k0_chk17 i v19), ∀ (k0_h1 : k0_cond1 i = 1#1), ∀ a, (k0_off68 i v19) a + S1x3x40x224.size a ≤ S256x3x224x224.size a := fun i v19 k0_hw17 k0_h1 => k0_hw17.2 k0_h1

def k0_off69 (i : grid0.Coords) : Fin 2 → Nat :=
  let arg0 : BitVec 32 := BitVec.ofNat 32 (i 0).val
  let c16_i32_22 : BitVec 32 := 16#32
  let v47 : BitVec 32 := Scalar.muli arg0 c16_i32_22
  let c1_i32_23 : BitVec 32 := 1#32
  let v48 : BitVec 32 := Scalar.addi v47 c1_i32_23
  let v49 : Index := Scalar.indexCast v48
  let c0_24 : Index := 0#32
  ![v49.toNat, 0]
def k0_mult18 (v50 : BitVec 32) : BitVec 32 :=
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c8_i32_25 : BitVec 32 := 8#32
  let c0_i32_28 : BitVec 32 := 0#32
  let v57 : BitVec 1 := Scalar.cmpi .sgt c8_i32_25 c0_i32_28
  let v58 : BitVec 32 := Scalar.extui v57
  let c0_i32_29 : BitVec 32 := 0#32
  let v59 : BitVec 1 := Scalar.cmpi .slt c8_i32_25 c0_i32_29
  let v60 : BitVec 32 := Scalar.extui v59
  let v61 : BitVec 32 := Scalar.subi v58 v60
  let v62 : BitVec 1 := Scalar.cmpi .ne v56 v61
  let v63 : BitVec 32 := Scalar.remsi v50 c8_i32_25
  let c0_i32_30 : BitVec 32 := 0#32
  let v64 : BitVec 1 := Scalar.cmpi .ne v63 c0_i32_30
  let v65 : BitVec 1 := Scalar.andi v62 v64
  let v51 : BitVec 32 := Scalar.divsi v50 c8_i32_25
  let c1_i32_31 : BitVec 32 := 1#32
  let v66 : BitVec 32 := Scalar.subi v51 c1_i32_31
  let v67 : BitVec 32 := Scalar.select v65 v66 v51
  let c8_i32_32 : BitVec 32 := 8#32
  let v68 : BitVec 32 := Scalar.muli v67 c8_i32_32
  let c184_i32_33 : BitVec 32 := 184#32
  let v69 : BitVec 32 := Scalar.minsi v68 c184_i32_33
  v69

def k0_off70 (i : grid0.Coords) : Fin 2 → Nat :=
  let arg0 : BitVec 32 := BitVec.ofNat 32 (i 0).val
  let c4_i32_21 : BitVec 32 := 4#32
  let v46 : BitVec 32 := Scalar.remsi arg0 c4_i32_21
  let c1_i32_35 : BitVec 32 := 1#32
  ![v46.toNat, 1]
def k0_off71 (i : grid0.Coords) : Fin 5 → Nat :=
  let arg0 : BitVec 32 := BitVec.ofNat 32 (i 0).val
  let c4_i32_21 : BitVec 32 := 4#32
  let v46 : BitVec 32 := Scalar.remsi arg0 c4_i32_21
  let c1_i32_34 : BitVec 32 := 1#32
  let c0_i32_36 : BitVec 32 := 0#32
  let c0_i32_37 : BitVec 32 := 0#32
  let c0_i32_38 : BitVec 32 := 0#32
  ![v46.toNat, 1, 0, 0, 0]
def k0_off72 (i : grid0.Coords) (v50 : BitVec 32) : Fin 4 → Nat :=
  let arg0 : BitVec 32 := BitVec.ofNat 32 (i 0).val
  let c16_i32_22 : BitVec 32 := 16#32
  let v47 : BitVec 32 := Scalar.muli arg0 c16_i32_22
  let c1_i32_23 : BitVec 32 := 1#32
  let v48 : BitVec 32 := Scalar.addi v47 c1_i32_23
  let c0_i32_39 : BitVec 32 := 0#32
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c8_i32_25 : BitVec 32 := 8#32
  let c0_i32_28 : BitVec 32 := 0#32
  let v57 : BitVec 1 := Scalar.cmpi .sgt c8_i32_25 c0_i32_28
  let v58 : BitVec 32 := Scalar.extui v57
  let c0_i32_29 : BitVec 32 := 0#32
  let v59 : BitVec 1 := Scalar.cmpi .slt c8_i32_25 c0_i32_29
  let v60 : BitVec 32 := Scalar.extui v59
  let v61 : BitVec 32 := Scalar.subi v58 v60
  let v62 : BitVec 1 := Scalar.cmpi .ne v56 v61
  let v63 : BitVec 32 := Scalar.remsi v50 c8_i32_25
  let c0_i32_30 : BitVec 32 := 0#32
  let v64 : BitVec 1 := Scalar.cmpi .ne v63 c0_i32_30
  let v65 : BitVec 1 := Scalar.andi v62 v64
  let v51 : BitVec 32 := Scalar.divsi v50 c8_i32_25
  let c1_i32_31 : BitVec 32 := 1#32
  let v66 : BitVec 32 := Scalar.subi v51 c1_i32_31
  let v67 : BitVec 32 := Scalar.select v65 v66 v51
  let c8_i32_32 : BitVec 32 := 8#32
  let v68 : BitVec 32 := Scalar.muli v67 c8_i32_32
  let c184_i32_33 : BitVec 32 := 184#32
  let v69 : BitVec 32 := Scalar.minsi v68 c184_i32_33
  let v70 : BitVec 32 := v69
  let c0_i32_40 : BitVec 32 := 0#32
  ![v48.toNat, 0, v70.toNat, 0]

def k0_chk18 (i : grid0.Coords) (v50 : BitVec 32) : Prop :=
  (∀ (k0_h1 : k0_cond1 i = 1#1), 8 ∣ (k0_mult18 v50).toNat) ∧
  (∀ (k0_h1 : k0_cond1 i = 1#1), ∀ a, (k0_off72 i v50) a + S1x3x40x224.size a ≤ S256x3x224x224.size a)
theorem k0_mult18_dvd : ∀ (i : grid0.Coords) (v50 : BitVec 32) (k0_hw18 : k0_chk18 i v50), ∀ (k0_h1 : k0_cond1 i = 1#1), 8 ∣ (k0_mult18 v50).toNat := fun i v50 k0_hw18 k0_h1 => k0_hw18.1 k0_h1
theorem k0_off72_inb : ∀ (i : grid0.Coords) (v50 : BitVec 32) (k0_hw18 : k0_chk18 i v50), ∀ (k0_h1 : k0_cond1 i = 1#1), ∀ a, (k0_off72 i v50) a + S1x3x40x224.size a ≤ S256x3x224x224.size a := fun i v50 k0_hw18 k0_h1 => k0_hw18.2 k0_h1

def k0_off73 (i : grid0.Coords) : Fin 2 → Nat :=
  let arg0 : BitVec 32 := BitVec.ofNat 32 (i 0).val
  let c16_i32_42 : BitVec 32 := 16#32
  let v78 : BitVec 32 := Scalar.muli arg0 c16_i32_42
  let c2_i32_43 : BitVec 32 := 2#32
  let v79 : BitVec 32 := Scalar.addi v78 c2_i32_43
  let v80 : Index := Scalar.indexCast v79
  let c0_44 : Index := 0#32
  ![v80.toNat, 0]
def k0_mult19 (v81 : BitVec 32) : BitVec 32 :=
  let c0_i32_46 : BitVec 32 := 0#32
  let v83 : BitVec 1 := Scalar.cmpi .sgt v81 c0_i32_46
  let v84 : BitVec 32 := Scalar.extui v83
  let c0_i32_47 : BitVec 32 := 0#32
  let v85 : BitVec 1 := Scalar.cmpi .slt v81 c0_i32_47
  let v86 : BitVec 32 := Scalar.extui v85
  let v87 : BitVec 32 := Scalar.subi v84 v86
  let c8_i32_45 : BitVec 32 := 8#32
  let c0_i32_48 : BitVec 32 := 0#32
  let v88 : BitVec 1 := Scalar.cmpi .sgt c8_i32_45 c0_i32_48
  let v89 : BitVec 32 := Scalar.extui v88
  let c0_i32_49 : BitVec 32 := 0#32
  let v90 : BitVec 1 := Scalar.cmpi .slt c8_i32_45 c0_i32_49
  let v91 : BitVec 32 := Scalar.extui v90
  let v92 : BitVec 32 := Scalar.subi v89 v91
  let v93 : BitVec 1 := Scalar.cmpi .ne v87 v92
  let v94 : BitVec 32 := Scalar.remsi v81 c8_i32_45
  let c0_i32_50 : BitVec 32 := 0#32
  let v95 : BitVec 1 := Scalar.cmpi .ne v94 c0_i32_50
  let v96 : BitVec 1 := Scalar.andi v93 v95
  let v82 : BitVec 32 := Scalar.divsi v81 c8_i32_45
  let c1_i32_51 : BitVec 32 := 1#32
  let v97 : BitVec 32 := Scalar.subi v82 c1_i32_51
  let v98 : BitVec 32 := Scalar.select v96 v97 v82
  let c8_i32_52 : BitVec 32 := 8#32
  let v99 : BitVec 32 := Scalar.muli v98 c8_i32_52
  let c184_i32_53 : BitVec 32 := 184#32
  let v100 : BitVec 32 := Scalar.minsi v99 c184_i32_53
  v100

def k0_off74 (i : grid0.Coords) : Fin 2 → Nat :=
  let arg0 : BitVec 32 := BitVec.ofNat 32 (i 0).val
  let c4_i32_41 : BitVec 32 := 4#32
  let v77 : BitVec 32 := Scalar.remsi arg0 c4_i32_41
  let c2_i32_55 : BitVec 32 := 2#32
  ![v77.toNat, 2]
def k0_off75 (i : grid0.Coords) : Fin 5 → Nat :=
  let arg0 : BitVec 32 := BitVec.ofNat 32 (i 0).val
  let c4_i32_41 : BitVec 32 := 4#32
  let v77 : BitVec 32 := Scalar.remsi arg0 c4_i32_41
  let c2_i32_54 : BitVec 32 := 2#32
  let c0_i32_56 : BitVec 32 := 0#32
  let c0_i32_57 : BitVec 32 := 0#32
  let c0_i32_58 : BitVec 32 := 0#32
  ![v77.toNat, 2, 0, 0, 0]
def k0_off76 (i : grid0.Coords) (v81 : BitVec 32) : Fin 4 → Nat :=
  let arg0 : BitVec 32 := BitVec.ofNat 32 (i 0).val
  let c16_i32_42 : BitVec 32 := 16#32
  let v78 : BitVec 32 := Scalar.muli arg0 c16_i32_42
  let c2_i32_43 : BitVec 32 := 2#32
  let v79 : BitVec 32 := Scalar.addi v78 c2_i32_43
  let c0_i32_59 : BitVec 32 := 0#32
  let c0_i32_46 : BitVec 32 := 0#32
  let v83 : BitVec 1 := Scalar.cmpi .sgt v81 c0_i32_46
  let v84 : BitVec 32 := Scalar.extui v83
  let c0_i32_47 : BitVec 32 := 0#32
  let v85 : BitVec 1 := Scalar.cmpi .slt v81 c0_i32_47
  let v86 : BitVec 32 := Scalar.extui v85
  let v87 : BitVec 32 := Scalar.subi v84 v86
  let c8_i32_45 : BitVec 32 := 8#32
  let c0_i32_48 : BitVec 32 := 0#32
  let v88 : BitVec 1 := Scalar.cmpi .sgt c8_i32_45 c0_i32_48
  let v89 : BitVec 32 := Scalar.extui v88
  let c0_i32_49 : BitVec 32 := 0#32
  let v90 : BitVec 1 := Scalar.cmpi .slt c8_i32_45 c0_i32_49
  let v91 : BitVec 32 := Scalar.extui v90
  let v92 : BitVec 32 := Scalar.subi v89 v91
  let v93 : BitVec 1 := Scalar.cmpi .ne v87 v92
  let v94 : BitVec 32 := Scalar.remsi v81 c8_i32_45
  let c0_i32_50 : BitVec 32 := 0#32
  let v95 : BitVec 1 := Scalar.cmpi .ne v94 c0_i32_50
  let v96 : BitVec 1 := Scalar.andi v93 v95
  let v82 : BitVec 32 := Scalar.divsi v81 c8_i32_45
  let c1_i32_51 : BitVec 32 := 1#32
  let v97 : BitVec 32 := Scalar.subi v82 c1_i32_51
  let v98 : BitVec 32 := Scalar.select v96 v97 v82
  let c8_i32_52 : BitVec 32 := 8#32
  let v99 : BitVec 32 := Scalar.muli v98 c8_i32_52
  let c184_i32_53 : BitVec 32 := 184#32
  let v100 : BitVec 32 := Scalar.minsi v99 c184_i32_53
  let v101 : BitVec 32 := v100
  let c0_i32_60 : BitVec 32 := 0#32
  ![v79.toNat, 0, v101.toNat, 0]

def k0_chk19 (i : grid0.Coords) (v81 : BitVec 32) : Prop :=
  (∀ (k0_h1 : k0_cond1 i = 1#1), 8 ∣ (k0_mult19 v81).toNat) ∧
  (∀ (k0_h1 : k0_cond1 i = 1#1), ∀ a, (k0_off76 i v81) a + S1x3x40x224.size a ≤ S256x3x224x224.size a)
theorem k0_mult19_dvd : ∀ (i : grid0.Coords) (v81 : BitVec 32) (k0_hw19 : k0_chk19 i v81), ∀ (k0_h1 : k0_cond1 i = 1#1), 8 ∣ (k0_mult19 v81).toNat := fun i v81 k0_hw19 k0_h1 => k0_hw19.1 k0_h1
theorem k0_off76_inb : ∀ (i : grid0.Coords) (v81 : BitVec 32) (k0_hw19 : k0_chk19 i v81), ∀ (k0_h1 : k0_cond1 i = 1#1), ∀ a, (k0_off76 i v81) a + S1x3x40x224.size a ≤ S256x3x224x224.size a := fun i v81 k0_hw19 k0_h1 => k0_hw19.2 k0_h1

def k0_off77 (i : grid0.Coords) : Fin 2 → Nat :=
  let arg0 : BitVec 32 := BitVec.ofNat 32 (i 0).val
  let c16_i32_62 : BitVec 32 := 16#32
  let v109 : BitVec 32 := Scalar.muli arg0 c16_i32_62
  let c3_i32 : BitVec 32 := 3#32
  let v110 : BitVec 32 := Scalar.addi v109 c3_i32
  let v111 : Index := Scalar.indexCast v110
  let c0_63 : Index := 0#32
  ![v111.toNat, 0]
def k0_mult20 (v112 : BitVec 32) : BitVec 32 :=
  let c0_i32_65 : BitVec 32 := 0#32
  let v114 : BitVec 1 := Scalar.cmpi .sgt v112 c0_i32_65
  let v115 : BitVec 32 := Scalar.extui v114
  let c0_i32_66 : BitVec 32 := 0#32
  let v116 : BitVec 1 := Scalar.cmpi .slt v112 c0_i32_66
  let v117 : BitVec 32 := Scalar.extui v116
  let v118 : BitVec 32 := Scalar.subi v115 v117
  let c8_i32_64 : BitVec 32 := 8#32
  let c0_i32_67 : BitVec 32 := 0#32
  let v119 : BitVec 1 := Scalar.cmpi .sgt c8_i32_64 c0_i32_67
  let v120 : BitVec 32 := Scalar.extui v119
  let c0_i32_68 : BitVec 32 := 0#32
  let v121 : BitVec 1 := Scalar.cmpi .slt c8_i32_64 c0_i32_68
  let v122 : BitVec 32 := Scalar.extui v121
  let v123 : BitVec 32 := Scalar.subi v120 v122
  let v124 : BitVec 1 := Scalar.cmpi .ne v118 v123
  let v125 : BitVec 32 := Scalar.remsi v112 c8_i32_64
  let c0_i32_69 : BitVec 32 := 0#32
  let v126 : BitVec 1 := Scalar.cmpi .ne v125 c0_i32_69
  let v127 : BitVec 1 := Scalar.andi v124 v126
  let v113 : BitVec 32 := Scalar.divsi v112 c8_i32_64
  let c1_i32_70 : BitVec 32 := 1#32
  let v128 : BitVec 32 := Scalar.subi v113 c1_i32_70
  let v129 : BitVec 32 := Scalar.select v127 v128 v113
  let c8_i32_71 : BitVec 32 := 8#32
  let v130 : BitVec 32 := Scalar.muli v129 c8_i32_71
  let c184_i32_72 : BitVec 32 := 184#32
  let v131 : BitVec 32 := Scalar.minsi v130 c184_i32_72
  v131

def k0_off78 (i : grid0.Coords) : Fin 2 → Nat :=
  let arg0 : BitVec 32 := BitVec.ofNat 32 (i 0).val
  let c4_i32_61 : BitVec 32 := 4#32
  let v108 : BitVec 32 := Scalar.remsi arg0 c4_i32_61
  let c3_i32_74 : BitVec 32 := 3#32
  ![v108.toNat, 3]
def k0_off79 (i : grid0.Coords) : Fin 5 → Nat :=
  let arg0 : BitVec 32 := BitVec.ofNat 32 (i 0).val
  let c4_i32_61 : BitVec 32 := 4#32
  let v108 : BitVec 32 := Scalar.remsi arg0 c4_i32_61
  let c3_i32_73 : BitVec 32 := 3#32
  let c0_i32_75 : BitVec 32 := 0#32
  let c0_i32_76 : BitVec 32 := 0#32
  let c0_i32_77 : BitVec 32 := 0#32
  ![v108.toNat, 3, 0, 0, 0]
def k0_off80 (i : grid0.Coords) (v112 : BitVec 32) : Fin 4 → Nat :=
  let arg0 : BitVec 32 := BitVec.ofNat 32 (i 0).val
  let c16_i32_62 : BitVec 32 := 16#32
  let v109 : BitVec 32 := Scalar.muli arg0 c16_i32_62
  let c3_i32 : BitVec 32 := 3#32
  let v110 : BitVec 32 := Scalar.addi v109 c3_i32
  let c0_i32_78 : BitVec 32 := 0#32
  let c0_i32_65 : BitVec 32 := 0#32
  let v114 : BitVec 1 := Scalar.cmpi .sgt v112 c0_i32_65
  let v115 : BitVec 32 := Scalar.extui v114
  let c0_i32_66 : BitVec 32 := 0#32
  let v116 : BitVec 1 := Scalar.cmpi .slt v112 c0_i32_66
  let v117 : BitVec 32 := Scalar.extui v116
  let v118 : BitVec 32 := Scalar.subi v115 v117
  let c8_i32_64 : BitVec 32 := 8#32
  let c0_i32_67 : BitVec 32 := 0#32
  let v119 : BitVec 1 := Scalar.cmpi .sgt c8_i32_64 c0_i32_67
  let v120 : BitVec 32 := Scalar.extui v119
  let c0_i32_68 : BitVec 32 := 0#32
  let v121 : BitVec 1 := Scalar.cmpi .slt c8_i32_64 c0_i32_68
  let v122 : BitVec 32 := Scalar.extui v121
  let v123 : BitVec 32 := Scalar.subi v120 v122
  let v124 : BitVec 1 := Scalar.cmpi .ne v118 v123
  let v125 : BitVec 32 := Scalar.remsi v112 c8_i32_64
  let c0_i32_69 : BitVec 32 := 0#32
  let v126 : BitVec 1 := Scalar.cmpi .ne v125 c0_i32_69
  let v127 : BitVec 1 := Scalar.andi v124 v126
  let v113 : BitVec 32 := Scalar.divsi v112 c8_i32_64
  let c1_i32_70 : BitVec 32 := 1#32
  let v128 : BitVec 32 := Scalar.subi v113 c1_i32_70
  let v129 : BitVec 32 := Scalar.select v127 v128 v113
  let c8_i32_71 : BitVec 32 := 8#32
  let v130 : BitVec 32 := Scalar.muli v129 c8_i32_71
  let c184_i32_72 : BitVec 32 := 184#32
  let v131 : BitVec 32 := Scalar.minsi v130 c184_i32_72
  let v132 : BitVec 32 := v131
  let c0_i32_79 : BitVec 32 := 0#32
  ![v110.toNat, 0, v132.toNat, 0]

def k0_chk20 (i : grid0.Coords) (v112 : BitVec 32) : Prop :=
  (∀ (k0_h1 : k0_cond1 i = 1#1), 8 ∣ (k0_mult20 v112).toNat) ∧
  (∀ (k0_h1 : k0_cond1 i = 1#1), ∀ a, (k0_off80 i v112) a + S1x3x40x224.size a ≤ S256x3x224x224.size a)
theorem k0_mult20_dvd : ∀ (i : grid0.Coords) (v112 : BitVec 32) (k0_hw20 : k0_chk20 i v112), ∀ (k0_h1 : k0_cond1 i = 1#1), 8 ∣ (k0_mult20 v112).toNat := fun i v112 k0_hw20 k0_h1 => k0_hw20.1 k0_h1
theorem k0_off80_inb : ∀ (i : grid0.Coords) (v112 : BitVec 32) (k0_hw20 : k0_chk20 i v112), ∀ (k0_h1 : k0_cond1 i = 1#1), ∀ a, (k0_off80 i v112) a + S1x3x40x224.size a ≤ S256x3x224x224.size a := fun i v112 k0_hw20 k0_h1 => k0_hw20.2 k0_h1

def k0_off81 (i : grid0.Coords) : Fin 2 → Nat :=
  let arg0 : BitVec 32 := BitVec.ofNat 32 (i 0).val
  let c16_i32_81 : BitVec 32 := 16#32
  let v140 : BitVec 32 := Scalar.muli arg0 c16_i32_81
  let c4_i32_82 : BitVec 32 := 4#32
  let v141 : BitVec 32 := Scalar.addi v140 c4_i32_82
  let v142 : Index := Scalar.indexCast v141
  let c0_83 : Index := 0#32
  ![v142.toNat, 0]
def k0_mult21 (v143 : BitVec 32) : BitVec 32 :=
  let c0_i32_85 : BitVec 32 := 0#32
  let v145 : BitVec 1 := Scalar.cmpi .sgt v143 c0_i32_85
  let v146 : BitVec 32 := Scalar.extui v145
  let c0_i32_86 : BitVec 32 := 0#32
  let v147 : BitVec 1 := Scalar.cmpi .slt v143 c0_i32_86
  let v148 : BitVec 32 := Scalar.extui v147
  let v149 : BitVec 32 := Scalar.subi v146 v148
  let c8_i32_84 : BitVec 32 := 8#32
  let c0_i32_87 : BitVec 32 := 0#32
  let v150 : BitVec 1 := Scalar.cmpi .sgt c8_i32_84 c0_i32_87
  let v151 : BitVec 32 := Scalar.extui v150
  let c0_i32_88 : BitVec 32 := 0#32
  let v152 : BitVec 1 := Scalar.cmpi .slt c8_i32_84 c0_i32_88
  let v153 : BitVec 32 := Scalar.extui v152
  let v154 : BitVec 32 := Scalar.subi v151 v153
  let v155 : BitVec 1 := Scalar.cmpi .ne v149 v154
  let v156 : BitVec 32 := Scalar.remsi v143 c8_i32_84
  let c0_i32_89 : BitVec 32 := 0#32
  let v157 : BitVec 1 := Scalar.cmpi .ne v156 c0_i32_89
  let v158 : BitVec 1 := Scalar.andi v155 v157
  let v144 : BitVec 32 := Scalar.divsi v143 c8_i32_84
  let c1_i32_90 : BitVec 32 := 1#32
  let v159 : BitVec 32 := Scalar.subi v144 c1_i32_90
  let v160 : BitVec 32 := Scalar.select v158 v159 v144
  let c8_i32_91 : BitVec 32 := 8#32
  let v161 : BitVec 32 := Scalar.muli v160 c8_i32_91
  let c184_i32_92 : BitVec 32 := 184#32
  let v162 : BitVec 32 := Scalar.minsi v161 c184_i32_92
  v162

def k0_off82 (i : grid0.Coords) : Fin 2 → Nat :=
  let arg0 : BitVec 32 := BitVec.ofNat 32 (i 0).val
  let c4_i32_80 : BitVec 32 := 4#32
  let v139 : BitVec 32 := Scalar.remsi arg0 c4_i32_80
  let c4_i32_94 : BitVec 32 := 4#32
  ![v139.toNat, 4]
def k0_off83 (i : grid0.Coords) : Fin 5 → Nat :=
  let arg0 : BitVec 32 := BitVec.ofNat 32 (i 0).val
  let c4_i32_80 : BitVec 32 := 4#32
  let v139 : BitVec 32 := Scalar.remsi arg0 c4_i32_80
  let c4_i32_93 : BitVec 32 := 4#32
  let c0_i32_95 : BitVec 32 := 0#32
  let c0_i32_96 : BitVec 32 := 0#32
  let c0_i32_97 : BitVec 32 := 0#32
  ![v139.toNat, 4, 0, 0, 0]
def k0_off84 (i : grid0.Coords) (v143 : BitVec 32) : Fin 4 → Nat :=
  let arg0 : BitVec 32 := BitVec.ofNat 32 (i 0).val
  let c16_i32_81 : BitVec 32 := 16#32
  let v140 : BitVec 32 := Scalar.muli arg0 c16_i32_81
  let c4_i32_82 : BitVec 32 := 4#32
  let v141 : BitVec 32 := Scalar.addi v140 c4_i32_82
  let c0_i32_98 : BitVec 32 := 0#32
  let c0_i32_85 : BitVec 32 := 0#32
  let v145 : BitVec 1 := Scalar.cmpi .sgt v143 c0_i32_85
  let v146 : BitVec 32 := Scalar.extui v145
  let c0_i32_86 : BitVec 32 := 0#32
  let v147 : BitVec 1 := Scalar.cmpi .slt v143 c0_i32_86
  let v148 : BitVec 32 := Scalar.extui v147
  let v149 : BitVec 32 := Scalar.subi v146 v148
  let c8_i32_84 : BitVec 32 := 8#32
  let c0_i32_87 : BitVec 32 := 0#32
  let v150 : BitVec 1 := Scalar.cmpi .sgt c8_i32_84 c0_i32_87
  let v151 : BitVec 32 := Scalar.extui v150
  let c0_i32_88 : BitVec 32 := 0#32
  let v152 : BitVec 1 := Scalar.cmpi .slt c8_i32_84 c0_i32_88
  let v153 : BitVec 32 := Scalar.extui v152
  let v154 : BitVec 32 := Scalar.subi v151 v153
  let v155 : BitVec 1 := Scalar.cmpi .ne v149 v154
  let v156 : BitVec 32 := Scalar.remsi v143 c8_i32_84
  let c0_i32_89 : BitVec 32 := 0#32
  let v157 : BitVec 1 := Scalar.cmpi .ne v156 c0_i32_89
  let v158 : BitVec 1 := Scalar.andi v155 v157
  let v144 : BitVec 32 := Scalar.divsi v143 c8_i32_84
  let c1_i32_90 : BitVec 32 := 1#32
  let v159 : BitVec 32 := Scalar.subi v144 c1_i32_90
  let v160 : BitVec 32 := Scalar.select v158 v159 v144
  let c8_i32_91 : BitVec 32 := 8#32
  let v161 : BitVec 32 := Scalar.muli v160 c8_i32_91
  let c184_i32_92 : BitVec 32 := 184#32
  let v162 : BitVec 32 := Scalar.minsi v161 c184_i32_92
  let v163 : BitVec 32 := v162
  let c0_i32_99 : BitVec 32 := 0#32
  ![v141.toNat, 0, v163.toNat, 0]

def k0_chk21 (i : grid0.Coords) (v143 : BitVec 32) : Prop :=
  (∀ (k0_h1 : k0_cond1 i = 1#1), 8 ∣ (k0_mult21 v143).toNat) ∧
  (∀ (k0_h1 : k0_cond1 i = 1#1), ∀ a, (k0_off84 i v143) a + S1x3x40x224.size a ≤ S256x3x224x224.size a)
theorem k0_mult21_dvd : ∀ (i : grid0.Coords) (v143 : BitVec 32) (k0_hw21 : k0_chk21 i v143), ∀ (k0_h1 : k0_cond1 i = 1#1), 8 ∣ (k0_mult21 v143).toNat := fun i v143 k0_hw21 k0_h1 => k0_hw21.1 k0_h1
theorem k0_off84_inb : ∀ (i : grid0.Coords) (v143 : BitVec 32) (k0_hw21 : k0_chk21 i v143), ∀ (k0_h1 : k0_cond1 i = 1#1), ∀ a, (k0_off84 i v143) a + S1x3x40x224.size a ≤ S256x3x224x224.size a := fun i v143 k0_hw21 k0_h1 => k0_hw21.2 k0_h1

def k0_off85 (i : grid0.Coords) : Fin 2 → Nat :=
  let arg0 : BitVec 32 := BitVec.ofNat 32 (i 0).val
  let c16_i32_101 : BitVec 32 := 16#32
  let v171 : BitVec 32 := Scalar.muli arg0 c16_i32_101
  let c5_i32 : BitVec 32 := 5#32
  let v172 : BitVec 32 := Scalar.addi v171 c5_i32
  let v173 : Index := Scalar.indexCast v172
  let c0_102 : Index := 0#32
  ![v173.toNat, 0]
def k0_mult22 (v174 : BitVec 32) : BitVec 32 :=
  let c0_i32_104 : BitVec 32 := 0#32
  let v176 : BitVec 1 := Scalar.cmpi .sgt v174 c0_i32_104
  let v177 : BitVec 32 := Scalar.extui v176
  let c0_i32_105 : BitVec 32 := 0#32
  let v178 : BitVec 1 := Scalar.cmpi .slt v174 c0_i32_105
  let v179 : BitVec 32 := Scalar.extui v178
  let v180 : BitVec 32 := Scalar.subi v177 v179
  let c8_i32_103 : BitVec 32 := 8#32
  let c0_i32_106 : BitVec 32 := 0#32
  let v181 : BitVec 1 := Scalar.cmpi .sgt c8_i32_103 c0_i32_106
  let v182 : BitVec 32 := Scalar.extui v181
  let c0_i32_107 : BitVec 32 := 0#32
  let v183 : BitVec 1 := Scalar.cmpi .slt c8_i32_103 c0_i32_107
  let v184 : BitVec 32 := Scalar.extui v183
  let v185 : BitVec 32 := Scalar.subi v182 v184
  let v186 : BitVec 1 := Scalar.cmpi .ne v180 v185
  let v187 : BitVec 32 := Scalar.remsi v174 c8_i32_103
  let c0_i32_108 : BitVec 32 := 0#32
  let v188 : BitVec 1 := Scalar.cmpi .ne v187 c0_i32_108
  let v189 : BitVec 1 := Scalar.andi v186 v188
  let v175 : BitVec 32 := Scalar.divsi v174 c8_i32_103
  let c1_i32_109 : BitVec 32 := 1#32
  let v190 : BitVec 32 := Scalar.subi v175 c1_i32_109
  let v191 : BitVec 32 := Scalar.select v189 v190 v175
  let c8_i32_110 : BitVec 32 := 8#32
  let v192 : BitVec 32 := Scalar.muli v191 c8_i32_110
  let c184_i32_111 : BitVec 32 := 184#32
  let v193 : BitVec 32 := Scalar.minsi v192 c184_i32_111
  v193

def k0_off86 (i : grid0.Coords) : Fin 2 → Nat :=
  let arg0 : BitVec 32 := BitVec.ofNat 32 (i 0).val
  let c4_i32_100 : BitVec 32 := 4#32
  let v170 : BitVec 32 := Scalar.remsi arg0 c4_i32_100
  let c5_i32_113 : BitVec 32 := 5#32
  ![v170.toNat, 5]
def k0_off87 (i : grid0.Coords) : Fin 5 → Nat :=
  let arg0 : BitVec 32 := BitVec.ofNat 32 (i 0).val
  let c4_i32_100 : BitVec 32 := 4#32
  let v170 : BitVec 32 := Scalar.remsi arg0 c4_i32_100
  let c5_i32_112 : BitVec 32 := 5#32
  let c0_i32_114 : BitVec 32 := 0#32
  let c0_i32_115 : BitVec 32 := 0#32
  let c0_i32_116 : BitVec 32 := 0#32
  ![v170.toNat, 5, 0, 0, 0]
def k0_off88 (i : grid0.Coords) (v174 : BitVec 32) : Fin 4 → Nat :=
  let arg0 : BitVec 32 := BitVec.ofNat 32 (i 0).val
  let c16_i32_101 : BitVec 32 := 16#32
  let v171 : BitVec 32 := Scalar.muli arg0 c16_i32_101
  let c5_i32 : BitVec 32 := 5#32
  let v172 : BitVec 32 := Scalar.addi v171 c5_i32
  let c0_i32_117 : BitVec 32 := 0#32
  let c0_i32_104 : BitVec 32 := 0#32
  let v176 : BitVec 1 := Scalar.cmpi .sgt v174 c0_i32_104
  let v177 : BitVec 32 := Scalar.extui v176
  let c0_i32_105 : BitVec 32 := 0#32
  let v178 : BitVec 1 := Scalar.cmpi .slt v174 c0_i32_105
  let v179 : BitVec 32 := Scalar.extui v178
  let v180 : BitVec 32 := Scalar.subi v177 v179
  let c8_i32_103 : BitVec 32 := 8#32
  let c0_i32_106 : BitVec 32 := 0#32
  let v181 : BitVec 1 := Scalar.cmpi .sgt c8_i32_103 c0_i32_106
  let v182 : BitVec 32 := Scalar.extui v181
  let c0_i32_107 : BitVec 32 := 0#32
  let v183 : BitVec 1 := Scalar.cmpi .slt c8_i32_103 c0_i32_107
  let v184 : BitVec 32 := Scalar.extui v183
  let v185 : BitVec 32 := Scalar.subi v182 v184
  let v186 : BitVec 1 := Scalar.cmpi .ne v180 v185
  let v187 : BitVec 32 := Scalar.remsi v174 c8_i32_103
  let c0_i32_108 : BitVec 32 := 0#32
  let v188 : BitVec 1 := Scalar.cmpi .ne v187 c0_i32_108
  let v189 : BitVec 1 := Scalar.andi v186 v188
  let v175 : BitVec 32 := Scalar.divsi v174 c8_i32_103
  let c1_i32_109 : BitVec 32 := 1#32
  let v190 : BitVec 32 := Scalar.subi v175 c1_i32_109
  let v191 : BitVec 32 := Scalar.select v189 v190 v175
  let c8_i32_110 : BitVec 32 := 8#32
  let v192 : BitVec 32 := Scalar.muli v191 c8_i32_110
  let c184_i32_111 : BitVec 32 := 184#32
  let v193 : BitVec 32 := Scalar.minsi v192 c184_i32_111
  let v194 : BitVec 32 := v193
  let c0_i32_118 : BitVec 32 := 0#32
  ![v172.toNat, 0, v194.toNat, 0]

def k0_chk22 (i : grid0.Coords) (v174 : BitVec 32) : Prop :=
  (∀ (k0_h1 : k0_cond1 i = 1#1), 8 ∣ (k0_mult22 v174).toNat) ∧
  (∀ (k0_h1 : k0_cond1 i = 1#1), ∀ a, (k0_off88 i v174) a + S1x3x40x224.size a ≤ S256x3x224x224.size a)
theorem k0_mult22_dvd : ∀ (i : grid0.Coords) (v174 : BitVec 32) (k0_hw22 : k0_chk22 i v174), ∀ (k0_h1 : k0_cond1 i = 1#1), 8 ∣ (k0_mult22 v174).toNat := fun i v174 k0_hw22 k0_h1 => k0_hw22.1 k0_h1
theorem k0_off88_inb : ∀ (i : grid0.Coords) (v174 : BitVec 32) (k0_hw22 : k0_chk22 i v174), ∀ (k0_h1 : k0_cond1 i = 1#1), ∀ a, (k0_off88 i v174) a + S1x3x40x224.size a ≤ S256x3x224x224.size a := fun i v174 k0_hw22 k0_h1 => k0_hw22.2 k0_h1

def k0_off89 (i : grid0.Coords) : Fin 2 → Nat :=
  let arg0 : BitVec 32 := BitVec.ofNat 32 (i 0).val
  let c16_i32_120 : BitVec 32 := 16#32
  let v202 : BitVec 32 := Scalar.muli arg0 c16_i32_120
  let c6_i32 : BitVec 32 := 6#32
  let v203 : BitVec 32 := Scalar.addi v202 c6_i32
  let v204 : Index := Scalar.indexCast v203
  let c0_121 : Index := 0#32
  ![v204.toNat, 0]
def k0_mult23 (v205 : BitVec 32) : BitVec 32 :=
  let c0_i32_123 : BitVec 32 := 0#32
  let v207 : BitVec 1 := Scalar.cmpi .sgt v205 c0_i32_123
  let v208 : BitVec 32 := Scalar.extui v207
  let c0_i32_124 : BitVec 32 := 0#32
  let v209 : BitVec 1 := Scalar.cmpi .slt v205 c0_i32_124
  let v210 : BitVec 32 := Scalar.extui v209
  let v211 : BitVec 32 := Scalar.subi v208 v210
  let c8_i32_122 : BitVec 32 := 8#32
  let c0_i32_125 : BitVec 32 := 0#32
  let v212 : BitVec 1 := Scalar.cmpi .sgt c8_i32_122 c0_i32_125
  let v213 : BitVec 32 := Scalar.extui v212
  let c0_i32_126 : BitVec 32 := 0#32
  let v214 : BitVec 1 := Scalar.cmpi .slt c8_i32_122 c0_i32_126
  let v215 : BitVec 32 := Scalar.extui v214
  let v216 : BitVec 32 := Scalar.subi v213 v215
  let v217 : BitVec 1 := Scalar.cmpi .ne v211 v216
  let v218 : BitVec 32 := Scalar.remsi v205 c8_i32_122
  let c0_i32_127 : BitVec 32 := 0#32
  let v219 : BitVec 1 := Scalar.cmpi .ne v218 c0_i32_127
  let v220 : BitVec 1 := Scalar.andi v217 v219
  let v206 : BitVec 32 := Scalar.divsi v205 c8_i32_122
  let c1_i32_128 : BitVec 32 := 1#32
  let v221 : BitVec 32 := Scalar.subi v206 c1_i32_128
  let v222 : BitVec 32 := Scalar.select v220 v221 v206
  let c8_i32_129 : BitVec 32 := 8#32
  let v223 : BitVec 32 := Scalar.muli v222 c8_i32_129
  let c184_i32_130 : BitVec 32 := 184#32
  let v224 : BitVec 32 := Scalar.minsi v223 c184_i32_130
  v224

def k0_off90 (i : grid0.Coords) : Fin 2 → Nat :=
  let arg0 : BitVec 32 := BitVec.ofNat 32 (i 0).val
  let c4_i32_119 : BitVec 32 := 4#32
  let v201 : BitVec 32 := Scalar.remsi arg0 c4_i32_119
  let c6_i32_132 : BitVec 32 := 6#32
  ![v201.toNat, 6]
def k0_off91 (i : grid0.Coords) : Fin 5 → Nat :=
  let arg0 : BitVec 32 := BitVec.ofNat 32 (i 0).val
  let c4_i32_119 : BitVec 32 := 4#32
  let v201 : BitVec 32 := Scalar.remsi arg0 c4_i32_119
  let c6_i32_131 : BitVec 32 := 6#32
  let c0_i32_133 : BitVec 32 := 0#32
  let c0_i32_134 : BitVec 32 := 0#32
  let c0_i32_135 : BitVec 32 := 0#32
  ![v201.toNat, 6, 0, 0, 0]
def k0_off92 (i : grid0.Coords) (v205 : BitVec 32) : Fin 4 → Nat :=
  let arg0 : BitVec 32 := BitVec.ofNat 32 (i 0).val
  let c16_i32_120 : BitVec 32 := 16#32
  let v202 : BitVec 32 := Scalar.muli arg0 c16_i32_120
  let c6_i32 : BitVec 32 := 6#32
  let v203 : BitVec 32 := Scalar.addi v202 c6_i32
  let c0_i32_136 : BitVec 32 := 0#32
  let c0_i32_123 : BitVec 32 := 0#32
  let v207 : BitVec 1 := Scalar.cmpi .sgt v205 c0_i32_123
  let v208 : BitVec 32 := Scalar.extui v207
  let c0_i32_124 : BitVec 32 := 0#32
  let v209 : BitVec 1 := Scalar.cmpi .slt v205 c0_i32_124
  let v210 : BitVec 32 := Scalar.extui v209
  let v211 : BitVec 32 := Scalar.subi v208 v210
  let c8_i32_122 : BitVec 32 := 8#32
  let c0_i32_125 : BitVec 32 := 0#32
  let v212 : BitVec 1 := Scalar.cmpi .sgt c8_i32_122 c0_i32_125
  let v213 : BitVec 32 := Scalar.extui v212
  let c0_i32_126 : BitVec 32 := 0#32
  let v214 : BitVec 1 := Scalar.cmpi .slt c8_i32_122 c0_i32_126
  let v215 : BitVec 32 := Scalar.extui v214
  let v216 : BitVec 32 := Scalar.subi v213 v215
  let v217 : BitVec 1 := Scalar.cmpi .ne v211 v216
  let v218 : BitVec 32 := Scalar.remsi v205 c8_i32_122
  let c0_i32_127 : BitVec 32 := 0#32
  let v219 : BitVec 1 := Scalar.cmpi .ne v218 c0_i32_127
  let v220 : BitVec 1 := Scalar.andi v217 v219
  let v206 : BitVec 32 := Scalar.divsi v205 c8_i32_122
  let c1_i32_128 : BitVec 32 := 1#32
  let v221 : BitVec 32 := Scalar.subi v206 c1_i32_128
  let v222 : BitVec 32 := Scalar.select v220 v221 v206
  let c8_i32_129 : BitVec 32 := 8#32
  let v223 : BitVec 32 := Scalar.muli v222 c8_i32_129
  let c184_i32_130 : BitVec 32 := 184#32
  let v224 : BitVec 32 := Scalar.minsi v223 c184_i32_130
  let v225 : BitVec 32 := v224
  let c0_i32_137 : BitVec 32 := 0#32
  ![v203.toNat, 0, v225.toNat, 0]

def k0_chk23 (i : grid0.Coords) (v205 : BitVec 32) : Prop :=
  (∀ (k0_h1 : k0_cond1 i = 1#1), 8 ∣ (k0_mult23 v205).toNat) ∧
  (∀ (k0_h1 : k0_cond1 i = 1#1), ∀ a, (k0_off92 i v205) a + S1x3x40x224.size a ≤ S256x3x224x224.size a)
theorem k0_mult23_dvd : ∀ (i : grid0.Coords) (v205 : BitVec 32) (k0_hw23 : k0_chk23 i v205), ∀ (k0_h1 : k0_cond1 i = 1#1), 8 ∣ (k0_mult23 v205).toNat := fun i v205 k0_hw23 k0_h1 => k0_hw23.1 k0_h1
theorem k0_off92_inb : ∀ (i : grid0.Coords) (v205 : BitVec 32) (k0_hw23 : k0_chk23 i v205), ∀ (k0_h1 : k0_cond1 i = 1#1), ∀ a, (k0_off92 i v205) a + S1x3x40x224.size a ≤ S256x3x224x224.size a := fun i v205 k0_hw23 k0_h1 => k0_hw23.2 k0_h1

def k0_off93 (i : grid0.Coords) : Fin 2 → Nat :=
  let arg0 : BitVec 32 := BitVec.ofNat 32 (i 0).val
  let c16_i32_139 : BitVec 32 := 16#32
  let v233 : BitVec 32 := Scalar.muli arg0 c16_i32_139
  let c7_i32 : BitVec 32 := 7#32
  let v234 : BitVec 32 := Scalar.addi v233 c7_i32
  let v235 : Index := Scalar.indexCast v234
  let c0_140 : Index := 0#32
  ![v235.toNat, 0]
def k0_mult24 (v236 : BitVec 32) : BitVec 32 :=
  let c0_i32_142 : BitVec 32 := 0#32
  let v238 : BitVec 1 := Scalar.cmpi .sgt v236 c0_i32_142
  let v239 : BitVec 32 := Scalar.extui v238
  let c0_i32_143 : BitVec 32 := 0#32
  let v240 : BitVec 1 := Scalar.cmpi .slt v236 c0_i32_143
  let v241 : BitVec 32 := Scalar.extui v240
  let v242 : BitVec 32 := Scalar.subi v239 v241
  let c8_i32_141 : BitVec 32 := 8#32
  let c0_i32_144 : BitVec 32 := 0#32
  let v243 : BitVec 1 := Scalar.cmpi .sgt c8_i32_141 c0_i32_144
  let v244 : BitVec 32 := Scalar.extui v243
  let c0_i32_145 : BitVec 32 := 0#32
  let v245 : BitVec 1 := Scalar.cmpi .slt c8_i32_141 c0_i32_145
  let v246 : BitVec 32 := Scalar.extui v245
  let v247 : BitVec 32 := Scalar.subi v244 v246
  let v248 : BitVec 1 := Scalar.cmpi .ne v242 v247
  let v249 : BitVec 32 := Scalar.remsi v236 c8_i32_141
  let c0_i32_146 : BitVec 32 := 0#32
  let v250 : BitVec 1 := Scalar.cmpi .ne v249 c0_i32_146
  let v251 : BitVec 1 := Scalar.andi v248 v250
  let v237 : BitVec 32 := Scalar.divsi v236 c8_i32_141
  let c1_i32_147 : BitVec 32 := 1#32
  let v252 : BitVec 32 := Scalar.subi v237 c1_i32_147
  let v253 : BitVec 32 := Scalar.select v251 v252 v237
  let c8_i32_148 : BitVec 32 := 8#32
  let v254 : BitVec 32 := Scalar.muli v253 c8_i32_148
  let c184_i32_149 : BitVec 32 := 184#32
  let v255 : BitVec 32 := Scalar.minsi v254 c184_i32_149
  v255

def k0_off94 (i : grid0.Coords) : Fin 2 → Nat :=
  let arg0 : BitVec 32 := BitVec.ofNat 32 (i 0).val
  let c4_i32_138 : BitVec 32 := 4#32
  let v232 : BitVec 32 := Scalar.remsi arg0 c4_i32_138
  let c7_i32_151 : BitVec 32 := 7#32
  ![v232.toNat, 7]
def k0_off95 (i : grid0.Coords) : Fin 5 → Nat :=
  let arg0 : BitVec 32 := BitVec.ofNat 32 (i 0).val
  let c4_i32_138 : BitVec 32 := 4#32
  let v232 : BitVec 32 := Scalar.remsi arg0 c4_i32_138
  let c7_i32_150 : BitVec 32 := 7#32
  let c0_i32_152 : BitVec 32 := 0#32
  let c0_i32_153 : BitVec 32 := 0#32
  let c0_i32_154 : BitVec 32 := 0#32
  ![v232.toNat, 7, 0, 0, 0]
def k0_off96 (i : grid0.Coords) (v236 : BitVec 32) : Fin 4 → Nat :=
  let arg0 : BitVec 32 := BitVec.ofNat 32 (i 0).val
  let c16_i32_139 : BitVec 32 := 16#32
  let v233 : BitVec 32 := Scalar.muli arg0 c16_i32_139
  let c7_i32 : BitVec 32 := 7#32
  let v234 : BitVec 32 := Scalar.addi v233 c7_i32
  let c0_i32_155 : BitVec 32 := 0#32
  let c0_i32_142 : BitVec 32 := 0#32
  let v238 : BitVec 1 := Scalar.cmpi .sgt v236 c0_i32_142
  let v239 : BitVec 32 := Scalar.extui v238
  let c0_i32_143 : BitVec 32 := 0#32
  let v240 : BitVec 1 := Scalar.cmpi .slt v236 c0_i32_143
  let v241 : BitVec 32 := Scalar.extui v240
  let v242 : BitVec 32 := Scalar.subi v239 v241
  let c8_i32_141 : BitVec 32 := 8#32
  let c0_i32_144 : BitVec 32 := 0#32
  let v243 : BitVec 1 := Scalar.cmpi .sgt c8_i32_141 c0_i32_144
  let v244 : BitVec 32 := Scalar.extui v243
  let c0_i32_145 : BitVec 32 := 0#32
  let v245 : BitVec 1 := Scalar.cmpi .slt c8_i32_141 c0_i32_145
  let v246 : BitVec 32 := Scalar.extui v245
  let v247 : BitVec 32 := Scalar.subi v244 v246
  let v248 : BitVec 1 := Scalar.cmpi .ne v242 v247
  let v249 : BitVec 32 := Scalar.remsi v236 c8_i32_141
  let c0_i32_146 : BitVec 32 := 0#32
  let v250 : BitVec 1 := Scalar.cmpi .ne v249 c0_i32_146
  let v251 : BitVec 1 := Scalar.andi v248 v250
  let v237 : BitVec 32 := Scalar.divsi v236 c8_i32_141
  let c1_i32_147 : BitVec 32 := 1#32
  let v252 : BitVec 32 := Scalar.subi v237 c1_i32_147
  let v253 : BitVec 32 := Scalar.select v251 v252 v237
  let c8_i32_148 : BitVec 32 := 8#32
  let v254 : BitVec 32 := Scalar.muli v253 c8_i32_148
  let c184_i32_149 : BitVec 32 := 184#32
  let v255 : BitVec 32 := Scalar.minsi v254 c184_i32_149
  let v256 : BitVec 32 := v255
  let c0_i32_156 : BitVec 32 := 0#32
  ![v234.toNat, 0, v256.toNat, 0]

def k0_chk24 (i : grid0.Coords) (v236 : BitVec 32) : Prop :=
  (∀ (k0_h1 : k0_cond1 i = 1#1), 8 ∣ (k0_mult24 v236).toNat) ∧
  (∀ (k0_h1 : k0_cond1 i = 1#1), ∀ a, (k0_off96 i v236) a + S1x3x40x224.size a ≤ S256x3x224x224.size a)
theorem k0_mult24_dvd : ∀ (i : grid0.Coords) (v236 : BitVec 32) (k0_hw24 : k0_chk24 i v236), ∀ (k0_h1 : k0_cond1 i = 1#1), 8 ∣ (k0_mult24 v236).toNat := fun i v236 k0_hw24 k0_h1 => k0_hw24.1 k0_h1
theorem k0_off96_inb : ∀ (i : grid0.Coords) (v236 : BitVec 32) (k0_hw24 : k0_chk24 i v236), ∀ (k0_h1 : k0_cond1 i = 1#1), ∀ a, (k0_off96 i v236) a + S1x3x40x224.size a ≤ S256x3x224x224.size a := fun i v236 k0_hw24 k0_h1 => k0_hw24.2 k0_h1

def k0_off97 (i : grid0.Coords) : Fin 2 → Nat :=
  let arg0 : BitVec 32 := BitVec.ofNat 32 (i 0).val
  let c16_i32_158 : BitVec 32 := 16#32
  let v264 : BitVec 32 := Scalar.muli arg0 c16_i32_158
  let c8_i32_159 : BitVec 32 := 8#32
  let v265 : BitVec 32 := Scalar.addi v264 c8_i32_159
  let v266 : Index := Scalar.indexCast v265
  let c0_160 : Index := 0#32
  ![v266.toNat, 0]
def k0_mult25 (v267 : BitVec 32) : BitVec 32 :=
  let c0_i32_162 : BitVec 32 := 0#32
  let v269 : BitVec 1 := Scalar.cmpi .sgt v267 c0_i32_162
  let v270 : BitVec 32 := Scalar.extui v269
  let c0_i32_163 : BitVec 32 := 0#32
  let v271 : BitVec 1 := Scalar.cmpi .slt v267 c0_i32_163
  let v272 : BitVec 32 := Scalar.extui v271
  let v273 : BitVec 32 := Scalar.subi v270 v272
  let c8_i32_161 : BitVec 32 := 8#32
  let c0_i32_164 : BitVec 32 := 0#32
  let v274 : BitVec 1 := Scalar.cmpi .sgt c8_i32_161 c0_i32_164
  let v275 : BitVec 32 := Scalar.extui v274
  let c0_i32_165 : BitVec 32 := 0#32
  let v276 : BitVec 1 := Scalar.cmpi .slt c8_i32_161 c0_i32_165
  let v277 : BitVec 32 := Scalar.extui v276
  let v278 : BitVec 32 := Scalar.subi v275 v277
  let v279 : BitVec 1 := Scalar.cmpi .ne v273 v278
  let v280 : BitVec 32 := Scalar.remsi v267 c8_i32_161
  let c0_i32_166 : BitVec 32 := 0#32
  let v281 : BitVec 1 := Scalar.cmpi .ne v280 c0_i32_166
  let v282 : BitVec 1 := Scalar.andi v279 v281
  let v268 : BitVec 32 := Scalar.divsi v267 c8_i32_161
  let c1_i32_167 : BitVec 32 := 1#32
  let v283 : BitVec 32 := Scalar.subi v268 c1_i32_167
  let v284 : BitVec 32 := Scalar.select v282 v283 v268
  let c8_i32_168 : BitVec 32 := 8#32
  let v285 : BitVec 32 := Scalar.muli v284 c8_i32_168
  let c184_i32_169 : BitVec 32 := 184#32
  let v286 : BitVec 32 := Scalar.minsi v285 c184_i32_169
  v286

def k0_off98 (i : grid0.Coords) : Fin 2 → Nat :=
  let arg0 : BitVec 32 := BitVec.ofNat 32 (i 0).val
  let c4_i32_157 : BitVec 32 := 4#32
  let v263 : BitVec 32 := Scalar.remsi arg0 c4_i32_157
  let c8_i32_171 : BitVec 32 := 8#32
  ![v263.toNat, 8]
def k0_off99 (i : grid0.Coords) : Fin 5 → Nat :=
  let arg0 : BitVec 32 := BitVec.ofNat 32 (i 0).val
  let c4_i32_157 : BitVec 32 := 4#32
  let v263 : BitVec 32 := Scalar.remsi arg0 c4_i32_157
  let c8_i32_170 : BitVec 32 := 8#32
  let c0_i32_172 : BitVec 32 := 0#32
  let c0_i32_173 : BitVec 32 := 0#32
  let c0_i32_174 : BitVec 32 := 0#32
  ![v263.toNat, 8, 0, 0, 0]
def k0_off100 (i : grid0.Coords) (v267 : BitVec 32) : Fin 4 → Nat :=
  let arg0 : BitVec 32 := BitVec.ofNat 32 (i 0).val
  let c16_i32_158 : BitVec 32 := 16#32
  let v264 : BitVec 32 := Scalar.muli arg0 c16_i32_158
  let c8_i32_159 : BitVec 32 := 8#32
  let v265 : BitVec 32 := Scalar.addi v264 c8_i32_159
  let c0_i32_175 : BitVec 32 := 0#32
  let c0_i32_162 : BitVec 32 := 0#32
  let v269 : BitVec 1 := Scalar.cmpi .sgt v267 c0_i32_162
  let v270 : BitVec 32 := Scalar.extui v269
  let c0_i32_163 : BitVec 32 := 0#32
  let v271 : BitVec 1 := Scalar.cmpi .slt v267 c0_i32_163
  let v272 : BitVec 32 := Scalar.extui v271
  let v273 : BitVec 32 := Scalar.subi v270 v272
  let c8_i32_161 : BitVec 32 := 8#32
  let c0_i32_164 : BitVec 32 := 0#32
  let v274 : BitVec 1 := Scalar.cmpi .sgt c8_i32_161 c0_i32_164
  let v275 : BitVec 32 := Scalar.extui v274
  let c0_i32_165 : BitVec 32 := 0#32
  let v276 : BitVec 1 := Scalar.cmpi .slt c8_i32_161 c0_i32_165
  let v277 : BitVec 32 := Scalar.extui v276
  let v278 : BitVec 32 := Scalar.subi v275 v277
  let v279 : BitVec 1 := Scalar.cmpi .ne v273 v278
  let v280 : BitVec 32 := Scalar.remsi v267 c8_i32_161
  let c0_i32_166 : BitVec 32 := 0#32
  let v281 : BitVec 1 := Scalar.cmpi .ne v280 c0_i32_166
  let v282 : BitVec 1 := Scalar.andi v279 v281
  let v268 : BitVec 32 := Scalar.divsi v267 c8_i32_161
  let c1_i32_167 : BitVec 32 := 1#32
  let v283 : BitVec 32 := Scalar.subi v268 c1_i32_167
  let v284 : BitVec 32 := Scalar.select v282 v283 v268
  let c8_i32_168 : BitVec 32 := 8#32
  let v285 : BitVec 32 := Scalar.muli v284 c8_i32_168
  let c184_i32_169 : BitVec 32 := 184#32
  let v286 : BitVec 32 := Scalar.minsi v285 c184_i32_169
  let v287 : BitVec 32 := v286
  let c0_i32_176 : BitVec 32 := 0#32
  ![v265.toNat, 0, v287.toNat, 0]

def k0_chk25 (i : grid0.Coords) (v267 : BitVec 32) : Prop :=
  (∀ (k0_h1 : k0_cond1 i = 1#1), 8 ∣ (k0_mult25 v267).toNat) ∧
  (∀ (k0_h1 : k0_cond1 i = 1#1), ∀ a, (k0_off100 i v267) a + S1x3x40x224.size a ≤ S256x3x224x224.size a)
theorem k0_mult25_dvd : ∀ (i : grid0.Coords) (v267 : BitVec 32) (k0_hw25 : k0_chk25 i v267), ∀ (k0_h1 : k0_cond1 i = 1#1), 8 ∣ (k0_mult25 v267).toNat := fun i v267 k0_hw25 k0_h1 => k0_hw25.1 k0_h1
theorem k0_off100_inb : ∀ (i : grid0.Coords) (v267 : BitVec 32) (k0_hw25 : k0_chk25 i v267), ∀ (k0_h1 : k0_cond1 i = 1#1), ∀ a, (k0_off100 i v267) a + S1x3x40x224.size a ≤ S256x3x224x224.size a := fun i v267 k0_hw25 k0_h1 => k0_hw25.2 k0_h1

def k0_off101 (i : grid0.Coords) : Fin 2 → Nat :=
  let arg0 : BitVec 32 := BitVec.ofNat 32 (i 0).val
  let c16_i32_178 : BitVec 32 := 16#32
  let v295 : BitVec 32 := Scalar.muli arg0 c16_i32_178
  let c9_i32 : BitVec 32 := 9#32
  let v296 : BitVec 32 := Scalar.addi v295 c9_i32
  let v297 : Index := Scalar.indexCast v296
  let c0_179 : Index := 0#32
  ![v297.toNat, 0]
def k0_mult26 (v298 : BitVec 32) : BitVec 32 :=
  let c0_i32_181 : BitVec 32 := 0#32
  let v300 : BitVec 1 := Scalar.cmpi .sgt v298 c0_i32_181
  let v301 : BitVec 32 := Scalar.extui v300
  let c0_i32_182 : BitVec 32 := 0#32
  let v302 : BitVec 1 := Scalar.cmpi .slt v298 c0_i32_182
  let v303 : BitVec 32 := Scalar.extui v302
  let v304 : BitVec 32 := Scalar.subi v301 v303
  let c8_i32_180 : BitVec 32 := 8#32
  let c0_i32_183 : BitVec 32 := 0#32
  let v305 : BitVec 1 := Scalar.cmpi .sgt c8_i32_180 c0_i32_183
  let v306 : BitVec 32 := Scalar.extui v305
  let c0_i32_184 : BitVec 32 := 0#32
  let v307 : BitVec 1 := Scalar.cmpi .slt c8_i32_180 c0_i32_184
  let v308 : BitVec 32 := Scalar.extui v307
  let v309 : BitVec 32 := Scalar.subi v306 v308
  let v310 : BitVec 1 := Scalar.cmpi .ne v304 v309
  let v311 : BitVec 32 := Scalar.remsi v298 c8_i32_180
  let c0_i32_185 : BitVec 32 := 0#32
  let v312 : BitVec 1 := Scalar.cmpi .ne v311 c0_i32_185
  let v313 : BitVec 1 := Scalar.andi v310 v312
  let v299 : BitVec 32 := Scalar.divsi v298 c8_i32_180
  let c1_i32_186 : BitVec 32 := 1#32
  let v314 : BitVec 32 := Scalar.subi v299 c1_i32_186
  let v315 : BitVec 32 := Scalar.select v313 v314 v299
  let c8_i32_187 : BitVec 32 := 8#32
  let v316 : BitVec 32 := Scalar.muli v315 c8_i32_187
  let c184_i32_188 : BitVec 32 := 184#32
  let v317 : BitVec 32 := Scalar.minsi v316 c184_i32_188
  v317

def k0_off102 (i : grid0.Coords) : Fin 2 → Nat :=
  let arg0 : BitVec 32 := BitVec.ofNat 32 (i 0).val
  let c4_i32_177 : BitVec 32 := 4#32
  let v294 : BitVec 32 := Scalar.remsi arg0 c4_i32_177
  let c9_i32_190 : BitVec 32 := 9#32
  ![v294.toNat, 9]
def k0_off103 (i : grid0.Coords) : Fin 5 → Nat :=
  let arg0 : BitVec 32 := BitVec.ofNat 32 (i 0).val
  let c4_i32_177 : BitVec 32 := 4#32
  let v294 : BitVec 32 := Scalar.remsi arg0 c4_i32_177
  let c9_i32_189 : BitVec 32 := 9#32
  let c0_i32_191 : BitVec 32 := 0#32
  let c0_i32_192 : BitVec 32 := 0#32
  let c0_i32_193 : BitVec 32 := 0#32
  ![v294.toNat, 9, 0, 0, 0]
def k0_off104 (i : grid0.Coords) (v298 : BitVec 32) : Fin 4 → Nat :=
  let arg0 : BitVec 32 := BitVec.ofNat 32 (i 0).val
  let c16_i32_178 : BitVec 32 := 16#32
  let v295 : BitVec 32 := Scalar.muli arg0 c16_i32_178
  let c9_i32 : BitVec 32 := 9#32
  let v296 : BitVec 32 := Scalar.addi v295 c9_i32
  let c0_i32_194 : BitVec 32 := 0#32
  let c0_i32_181 : BitVec 32 := 0#32
  let v300 : BitVec 1 := Scalar.cmpi .sgt v298 c0_i32_181
  let v301 : BitVec 32 := Scalar.extui v300
  let c0_i32_182 : BitVec 32 := 0#32
  let v302 : BitVec 1 := Scalar.cmpi .slt v298 c0_i32_182
  let v303 : BitVec 32 := Scalar.extui v302
  let v304 : BitVec 32 := Scalar.subi v301 v303
  let c8_i32_180 : BitVec 32 := 8#32
  let c0_i32_183 : BitVec 32 := 0#32
  let v305 : BitVec 1 := Scalar.cmpi .sgt c8_i32_180 c0_i32_183
  let v306 : BitVec 32 := Scalar.extui v305
  let c0_i32_184 : BitVec 32 := 0#32
  let v307 : BitVec 1 := Scalar.cmpi .slt c8_i32_180 c0_i32_184
  let v308 : BitVec 32 := Scalar.extui v307
  let v309 : BitVec 32 := Scalar.subi v306 v308
  let v310 : BitVec 1 := Scalar.cmpi .ne v304 v309
  let v311 : BitVec 32 := Scalar.remsi v298 c8_i32_180
  let c0_i32_185 : BitVec 32 := 0#32
  let v312 : BitVec 1 := Scalar.cmpi .ne v311 c0_i32_185
  let v313 : BitVec 1 := Scalar.andi v310 v312
  let v299 : BitVec 32 := Scalar.divsi v298 c8_i32_180
  let c1_i32_186 : BitVec 32 := 1#32
  let v314 : BitVec 32 := Scalar.subi v299 c1_i32_186
  let v315 : BitVec 32 := Scalar.select v313 v314 v299
  let c8_i32_187 : BitVec 32 := 8#32
  let v316 : BitVec 32 := Scalar.muli v315 c8_i32_187
  let c184_i32_188 : BitVec 32 := 184#32
  let v317 : BitVec 32 := Scalar.minsi v316 c184_i32_188
  let v318 : BitVec 32 := v317
  let c0_i32_195 : BitVec 32 := 0#32
  ![v296.toNat, 0, v318.toNat, 0]

def k0_chk26 (i : grid0.Coords) (v298 : BitVec 32) : Prop :=
  (∀ (k0_h1 : k0_cond1 i = 1#1), 8 ∣ (k0_mult26 v298).toNat) ∧
  (∀ (k0_h1 : k0_cond1 i = 1#1), ∀ a, (k0_off104 i v298) a + S1x3x40x224.size a ≤ S256x3x224x224.size a)
theorem k0_mult26_dvd : ∀ (i : grid0.Coords) (v298 : BitVec 32) (k0_hw26 : k0_chk26 i v298), ∀ (k0_h1 : k0_cond1 i = 1#1), 8 ∣ (k0_mult26 v298).toNat := fun i v298 k0_hw26 k0_h1 => k0_hw26.1 k0_h1
theorem k0_off104_inb : ∀ (i : grid0.Coords) (v298 : BitVec 32) (k0_hw26 : k0_chk26 i v298), ∀ (k0_h1 : k0_cond1 i = 1#1), ∀ a, (k0_off104 i v298) a + S1x3x40x224.size a ≤ S256x3x224x224.size a := fun i v298 k0_hw26 k0_h1 => k0_hw26.2 k0_h1

def k0_off105 (i : grid0.Coords) : Fin 2 → Nat :=
  let arg0 : BitVec 32 := BitVec.ofNat 32 (i 0).val
  let c16_i32_197 : BitVec 32 := 16#32
  let v326 : BitVec 32 := Scalar.muli arg0 c16_i32_197
  let c10_i32 : BitVec 32 := 10#32
  let v327 : BitVec 32 := Scalar.addi v326 c10_i32
  let v328 : Index := Scalar.indexCast v327
  let c0_198 : Index := 0#32
  ![v328.toNat, 0]
def k0_mult27 (v329 : BitVec 32) : BitVec 32 :=
  let c0_i32_200 : BitVec 32 := 0#32
  let v331 : BitVec 1 := Scalar.cmpi .sgt v329 c0_i32_200
  let v332 : BitVec 32 := Scalar.extui v331
  let c0_i32_201 : BitVec 32 := 0#32
  let v333 : BitVec 1 := Scalar.cmpi .slt v329 c0_i32_201
  let v334 : BitVec 32 := Scalar.extui v333
  let v335 : BitVec 32 := Scalar.subi v332 v334
  let c8_i32_199 : BitVec 32 := 8#32
  let c0_i32_202 : BitVec 32 := 0#32
  let v336 : BitVec 1 := Scalar.cmpi .sgt c8_i32_199 c0_i32_202
  let v337 : BitVec 32 := Scalar.extui v336
  let c0_i32_203 : BitVec 32 := 0#32
  let v338 : BitVec 1 := Scalar.cmpi .slt c8_i32_199 c0_i32_203
  let v339 : BitVec 32 := Scalar.extui v338
  let v340 : BitVec 32 := Scalar.subi v337 v339
  let v341 : BitVec 1 := Scalar.cmpi .ne v335 v340
  let v342 : BitVec 32 := Scalar.remsi v329 c8_i32_199
  let c0_i32_204 : BitVec 32 := 0#32
  let v343 : BitVec 1 := Scalar.cmpi .ne v342 c0_i32_204
  let v344 : BitVec 1 := Scalar.andi v341 v343
  let v330 : BitVec 32 := Scalar.divsi v329 c8_i32_199
  let c1_i32_205 : BitVec 32 := 1#32
  let v345 : BitVec 32 := Scalar.subi v330 c1_i32_205
  let v346 : BitVec 32 := Scalar.select v344 v345 v330
  let c8_i32_206 : BitVec 32 := 8#32
  let v347 : BitVec 32 := Scalar.muli v346 c8_i32_206
  let c184_i32_207 : BitVec 32 := 184#32
  let v348 : BitVec 32 := Scalar.minsi v347 c184_i32_207
  v348

def k0_off106 (i : grid0.Coords) : Fin 2 → Nat :=
  let arg0 : BitVec 32 := BitVec.ofNat 32 (i 0).val
  let c4_i32_196 : BitVec 32 := 4#32
  let v325 : BitVec 32 := Scalar.remsi arg0 c4_i32_196
  let c10_i32_209 : BitVec 32 := 10#32
  ![v325.toNat, 10]
def k0_off107 (i : grid0.Coords) : Fin 5 → Nat :=
  let arg0 : BitVec 32 := BitVec.ofNat 32 (i 0).val
  let c4_i32_196 : BitVec 32 := 4#32
  let v325 : BitVec 32 := Scalar.remsi arg0 c4_i32_196
  let c10_i32_208 : BitVec 32 := 10#32
  let c0_i32_210 : BitVec 32 := 0#32
  let c0_i32_211 : BitVec 32 := 0#32
  let c0_i32_212 : BitVec 32 := 0#32
  ![v325.toNat, 10, 0, 0, 0]
def k0_off108 (i : grid0.Coords) (v329 : BitVec 32) : Fin 4 → Nat :=
  let arg0 : BitVec 32 := BitVec.ofNat 32 (i 0).val
  let c16_i32_197 : BitVec 32 := 16#32
  let v326 : BitVec 32 := Scalar.muli arg0 c16_i32_197
  let c10_i32 : BitVec 32 := 10#32
  let v327 : BitVec 32 := Scalar.addi v326 c10_i32
  let c0_i32_213 : BitVec 32 := 0#32
  let c0_i32_200 : BitVec 32 := 0#32
  let v331 : BitVec 1 := Scalar.cmpi .sgt v329 c0_i32_200
  let v332 : BitVec 32 := Scalar.extui v331
  let c0_i32_201 : BitVec 32 := 0#32
  let v333 : BitVec 1 := Scalar.cmpi .slt v329 c0_i32_201
  let v334 : BitVec 32 := Scalar.extui v333
  let v335 : BitVec 32 := Scalar.subi v332 v334
  let c8_i32_199 : BitVec 32 := 8#32
  let c0_i32_202 : BitVec 32 := 0#32
  let v336 : BitVec 1 := Scalar.cmpi .sgt c8_i32_199 c0_i32_202
  let v337 : BitVec 32 := Scalar.extui v336
  let c0_i32_203 : BitVec 32 := 0#32
  let v338 : BitVec 1 := Scalar.cmpi .slt c8_i32_199 c0_i32_203
  let v339 : BitVec 32 := Scalar.extui v338
  let v340 : BitVec 32 := Scalar.subi v337 v339
  let v341 : BitVec 1 := Scalar.cmpi .ne v335 v340
  let v342 : BitVec 32 := Scalar.remsi v329 c8_i32_199
  let c0_i32_204 : BitVec 32 := 0#32
  let v343 : BitVec 1 := Scalar.cmpi .ne v342 c0_i32_204
  let v344 : BitVec 1 := Scalar.andi v341 v343
  let v330 : BitVec 32 := Scalar.divsi v329 c8_i32_199
  let c1_i32_205 : BitVec 32 := 1#32
  let v345 : BitVec 32 := Scalar.subi v330 c1_i32_205
  let v346 : BitVec 32 := Scalar.select v344 v345 v330
  let c8_i32_206 : BitVec 32 := 8#32
  let v347 : BitVec 32 := Scalar.muli v346 c8_i32_206
  let c184_i32_207 : BitVec 32 := 184#32
  let v348 : BitVec 32 := Scalar.minsi v347 c184_i32_207
  let v349 : BitVec 32 := v348
  let c0_i32_214 : BitVec 32 := 0#32
  ![v327.toNat, 0, v349.toNat, 0]

def k0_chk27 (i : grid0.Coords) (v329 : BitVec 32) : Prop :=
  (∀ (k0_h1 : k0_cond1 i = 1#1), 8 ∣ (k0_mult27 v329).toNat) ∧
  (∀ (k0_h1 : k0_cond1 i = 1#1), ∀ a, (k0_off108 i v329) a + S1x3x40x224.size a ≤ S256x3x224x224.size a)
theorem k0_mult27_dvd : ∀ (i : grid0.Coords) (v329 : BitVec 32) (k0_hw27 : k0_chk27 i v329), ∀ (k0_h1 : k0_cond1 i = 1#1), 8 ∣ (k0_mult27 v329).toNat := fun i v329 k0_hw27 k0_h1 => k0_hw27.1 k0_h1
theorem k0_off108_inb : ∀ (i : grid0.Coords) (v329 : BitVec 32) (k0_hw27 : k0_chk27 i v329), ∀ (k0_h1 : k0_cond1 i = 1#1), ∀ a, (k0_off108 i v329) a + S1x3x40x224.size a ≤ S256x3x224x224.size a := fun i v329 k0_hw27 k0_h1 => k0_hw27.2 k0_h1

def k0_off109 (i : grid0.Coords) : Fin 2 → Nat :=
  let arg0 : BitVec 32 := BitVec.ofNat 32 (i 0).val
  let c16_i32_216 : BitVec 32 := 16#32
  let v357 : BitVec 32 := Scalar.muli arg0 c16_i32_216
  let c11_i32 : BitVec 32 := 11#32
  let v358 : BitVec 32 := Scalar.addi v357 c11_i32
  let v359 : Index := Scalar.indexCast v358
  let c0_217 : Index := 0#32
  ![v359.toNat, 0]
def k0_mult28 (v360 : BitVec 32) : BitVec 32 :=
  let c0_i32_219 : BitVec 32 := 0#32
  let v362 : BitVec 1 := Scalar.cmpi .sgt v360 c0_i32_219
  let v363 : BitVec 32 := Scalar.extui v362
  let c0_i32_220 : BitVec 32 := 0#32
  let v364 : BitVec 1 := Scalar.cmpi .slt v360 c0_i32_220
  let v365 : BitVec 32 := Scalar.extui v364
  let v366 : BitVec 32 := Scalar.subi v363 v365
  let c8_i32_218 : BitVec 32 := 8#32
  let c0_i32_221 : BitVec 32 := 0#32
  let v367 : BitVec 1 := Scalar.cmpi .sgt c8_i32_218 c0_i32_221
  let v368 : BitVec 32 := Scalar.extui v367
  let c0_i32_222 : BitVec 32 := 0#32
  let v369 : BitVec 1 := Scalar.cmpi .slt c8_i32_218 c0_i32_222
  let v370 : BitVec 32 := Scalar.extui v369
  let v371 : BitVec 32 := Scalar.subi v368 v370
  let v372 : BitVec 1 := Scalar.cmpi .ne v366 v371
  let v373 : BitVec 32 := Scalar.remsi v360 c8_i32_218
  let c0_i32_223 : BitVec 32 := 0#32
  let v374 : BitVec 1 := Scalar.cmpi .ne v373 c0_i32_223
  let v375 : BitVec 1 := Scalar.andi v372 v374
  let v361 : BitVec 32 := Scalar.divsi v360 c8_i32_218
  let c1_i32_224 : BitVec 32 := 1#32
  let v376 : BitVec 32 := Scalar.subi v361 c1_i32_224
  let v377 : BitVec 32 := Scalar.select v375 v376 v361
  let c8_i32_225 : BitVec 32 := 8#32
  let v378 : BitVec 32 := Scalar.muli v377 c8_i32_225
  let c184_i32_226 : BitVec 32 := 184#32
  let v379 : BitVec 32 := Scalar.minsi v378 c184_i32_226
  v379

def k0_off110 (i : grid0.Coords) : Fin 2 → Nat :=
  let arg0 : BitVec 32 := BitVec.ofNat 32 (i 0).val
  let c4_i32_215 : BitVec 32 := 4#32
  let v356 : BitVec 32 := Scalar.remsi arg0 c4_i32_215
  let c11_i32_228 : BitVec 32 := 11#32
  ![v356.toNat, 11]
def k0_off111 (i : grid0.Coords) : Fin 5 → Nat :=
  let arg0 : BitVec 32 := BitVec.ofNat 32 (i 0).val
  let c4_i32_215 : BitVec 32 := 4#32
  let v356 : BitVec 32 := Scalar.remsi arg0 c4_i32_215
  let c11_i32_227 : BitVec 32 := 11#32
  let c0_i32_229 : BitVec 32 := 0#32
  let c0_i32_230 : BitVec 32 := 0#32
  let c0_i32_231 : BitVec 32 := 0#32
  ![v356.toNat, 11, 0, 0, 0]
def k0_off112 (i : grid0.Coords) (v360 : BitVec 32) : Fin 4 → Nat :=
  let arg0 : BitVec 32 := BitVec.ofNat 32 (i 0).val
  let c16_i32_216 : BitVec 32 := 16#32
  let v357 : BitVec 32 := Scalar.muli arg0 c16_i32_216
  let c11_i32 : BitVec 32 := 11#32
  let v358 : BitVec 32 := Scalar.addi v357 c11_i32
  let c0_i32_232 : BitVec 32 := 0#32
  let c0_i32_219 : BitVec 32 := 0#32
  let v362 : BitVec 1 := Scalar.cmpi .sgt v360 c0_i32_219
  let v363 : BitVec 32 := Scalar.extui v362
  let c0_i32_220 : BitVec 32 := 0#32
  let v364 : BitVec 1 := Scalar.cmpi .slt v360 c0_i32_220
  let v365 : BitVec 32 := Scalar.extui v364
  let v366 : BitVec 32 := Scalar.subi v363 v365
  let c8_i32_218 : BitVec 32 := 8#32
  let c0_i32_221 : BitVec 32 := 0#32
  let v367 : BitVec 1 := Scalar.cmpi .sgt c8_i32_218 c0_i32_221
  let v368 : BitVec 32 := Scalar.extui v367
  let c0_i32_222 : BitVec 32 := 0#32
  let v369 : BitVec 1 := Scalar.cmpi .slt c8_i32_218 c0_i32_222
  let v370 : BitVec 32 := Scalar.extui v369
  let v371 : BitVec 32 := Scalar.subi v368 v370
  let v372 : BitVec 1 := Scalar.cmpi .ne v366 v371
  let v373 : BitVec 32 := Scalar.remsi v360 c8_i32_218
  let c0_i32_223 : BitVec 32 := 0#32
  let v374 : BitVec 1 := Scalar.cmpi .ne v373 c0_i32_223
  let v375 : BitVec 1 := Scalar.andi v372 v374
  let v361 : BitVec 32 := Scalar.divsi v360 c8_i32_218
  let c1_i32_224 : BitVec 32 := 1#32
  let v376 : BitVec 32 := Scalar.subi v361 c1_i32_224
  let v377 : BitVec 32 := Scalar.select v375 v376 v361
  let c8_i32_225 : BitVec 32 := 8#32
  let v378 : BitVec 32 := Scalar.muli v377 c8_i32_225
  let c184_i32_226 : BitVec 32 := 184#32
  let v379 : BitVec 32 := Scalar.minsi v378 c184_i32_226
  let v380 : BitVec 32 := v379
  let c0_i32_233 : BitVec 32 := 0#32
  ![v358.toNat, 0, v380.toNat, 0]

def k0_chk28 (i : grid0.Coords) (v360 : BitVec 32) : Prop :=
  (∀ (k0_h1 : k0_cond1 i = 1#1), 8 ∣ (k0_mult28 v360).toNat) ∧
  (∀ (k0_h1 : k0_cond1 i = 1#1), ∀ a, (k0_off112 i v360) a + S1x3x40x224.size a ≤ S256x3x224x224.size a)
theorem k0_mult28_dvd : ∀ (i : grid0.Coords) (v360 : BitVec 32) (k0_hw28 : k0_chk28 i v360), ∀ (k0_h1 : k0_cond1 i = 1#1), 8 ∣ (k0_mult28 v360).toNat := fun i v360 k0_hw28 k0_h1 => k0_hw28.1 k0_h1
theorem k0_off112_inb : ∀ (i : grid0.Coords) (v360 : BitVec 32) (k0_hw28 : k0_chk28 i v360), ∀ (k0_h1 : k0_cond1 i = 1#1), ∀ a, (k0_off112 i v360) a + S1x3x40x224.size a ≤ S256x3x224x224.size a := fun i v360 k0_hw28 k0_h1 => k0_hw28.2 k0_h1

def k0_off113 (i : grid0.Coords) : Fin 2 → Nat :=
  let arg0 : BitVec 32 := BitVec.ofNat 32 (i 0).val
  let c16_i32_235 : BitVec 32 := 16#32
  let v388 : BitVec 32 := Scalar.muli arg0 c16_i32_235
  let c12_i32 : BitVec 32 := 12#32
  let v389 : BitVec 32 := Scalar.addi v388 c12_i32
  let v390 : Index := Scalar.indexCast v389
  let c0_236 : Index := 0#32
  ![v390.toNat, 0]
def k0_mult29 (v391 : BitVec 32) : BitVec 32 :=
  let c0_i32_238 : BitVec 32 := 0#32
  let v393 : BitVec 1 := Scalar.cmpi .sgt v391 c0_i32_238
  let v394 : BitVec 32 := Scalar.extui v393
  let c0_i32_239 : BitVec 32 := 0#32
  let v395 : BitVec 1 := Scalar.cmpi .slt v391 c0_i32_239
  let v396 : BitVec 32 := Scalar.extui v395
  let v397 : BitVec 32 := Scalar.subi v394 v396
  let c8_i32_237 : BitVec 32 := 8#32
  let c0_i32_240 : BitVec 32 := 0#32
  let v398 : BitVec 1 := Scalar.cmpi .sgt c8_i32_237 c0_i32_240
  let v399 : BitVec 32 := Scalar.extui v398
  let c0_i32_241 : BitVec 32 := 0#32
  let v400 : BitVec 1 := Scalar.cmpi .slt c8_i32_237 c0_i32_241
  let v401 : BitVec 32 := Scalar.extui v400
  let v402 : BitVec 32 := Scalar.subi v399 v401
  let v403 : BitVec 1 := Scalar.cmpi .ne v397 v402
  let v404 : BitVec 32 := Scalar.remsi v391 c8_i32_237
  let c0_i32_242 : BitVec 32 := 0#32
  let v405 : BitVec 1 := Scalar.cmpi .ne v404 c0_i32_242
  let v406 : BitVec 1 := Scalar.andi v403 v405
  let v392 : BitVec 32 := Scalar.divsi v391 c8_i32_237
  let c1_i32_243 : BitVec 32 := 1#32
  let v407 : BitVec 32 := Scalar.subi v392 c1_i32_243
  let v408 : BitVec 32 := Scalar.select v406 v407 v392
  let c8_i32_244 : BitVec 32 := 8#32
  let v409 : BitVec 32 := Scalar.muli v408 c8_i32_244
  let c184_i32_245 : BitVec 32 := 184#32
  let v410 : BitVec 32 := Scalar.minsi v409 c184_i32_245
  v410

def k0_off114 (i : grid0.Coords) : Fin 2 → Nat :=
  let arg0 : BitVec 32 := BitVec.ofNat 32 (i 0).val
  let c4_i32_234 : BitVec 32 := 4#32
  let v387 : BitVec 32 := Scalar.remsi arg0 c4_i32_234
  let c12_i32_247 : BitVec 32 := 12#32
  ![v387.toNat, 12]
def k0_off115 (i : grid0.Coords) : Fin 5 → Nat :=
  let arg0 : BitVec 32 := BitVec.ofNat 32 (i 0).val
  let c4_i32_234 : BitVec 32 := 4#32
  let v387 : BitVec 32 := Scalar.remsi arg0 c4_i32_234
  let c12_i32_246 : BitVec 32 := 12#32
  let c0_i32_248 : BitVec 32 := 0#32
  let c0_i32_249 : BitVec 32 := 0#32
  let c0_i32_250 : BitVec 32 := 0#32
  ![v387.toNat, 12, 0, 0, 0]
def k0_off116 (i : grid0.Coords) (v391 : BitVec 32) : Fin 4 → Nat :=
  let arg0 : BitVec 32 := BitVec.ofNat 32 (i 0).val
  let c16_i32_235 : BitVec 32 := 16#32
  let v388 : BitVec 32 := Scalar.muli arg0 c16_i32_235
  let c12_i32 : BitVec 32 := 12#32
  let v389 : BitVec 32 := Scalar.addi v388 c12_i32
  let c0_i32_251 : BitVec 32 := 0#32
  let c0_i32_238 : BitVec 32 := 0#32
  let v393 : BitVec 1 := Scalar.cmpi .sgt v391 c0_i32_238
  let v394 : BitVec 32 := Scalar.extui v393
  let c0_i32_239 : BitVec 32 := 0#32
  let v395 : BitVec 1 := Scalar.cmpi .slt v391 c0_i32_239
  let v396 : BitVec 32 := Scalar.extui v395
  let v397 : BitVec 32 := Scalar.subi v394 v396
  let c8_i32_237 : BitVec 32 := 8#32
  let c0_i32_240 : BitVec 32 := 0#32
  let v398 : BitVec 1 := Scalar.cmpi .sgt c8_i32_237 c0_i32_240
  let v399 : BitVec 32 := Scalar.extui v398
  let c0_i32_241 : BitVec 32 := 0#32
  let v400 : BitVec 1 := Scalar.cmpi .slt c8_i32_237 c0_i32_241
  let v401 : BitVec 32 := Scalar.extui v400
  let v402 : BitVec 32 := Scalar.subi v399 v401
  let v403 : BitVec 1 := Scalar.cmpi .ne v397 v402
  let v404 : BitVec 32 := Scalar.remsi v391 c8_i32_237
  let c0_i32_242 : BitVec 32 := 0#32
  let v405 : BitVec 1 := Scalar.cmpi .ne v404 c0_i32_242
  let v406 : BitVec 1 := Scalar.andi v403 v405
  let v392 : BitVec 32 := Scalar.divsi v391 c8_i32_237
  let c1_i32_243 : BitVec 32 := 1#32
  let v407 : BitVec 32 := Scalar.subi v392 c1_i32_243
  let v408 : BitVec 32 := Scalar.select v406 v407 v392
  let c8_i32_244 : BitVec 32 := 8#32
  let v409 : BitVec 32 := Scalar.muli v408 c8_i32_244
  let c184_i32_245 : BitVec 32 := 184#32
  let v410 : BitVec 32 := Scalar.minsi v409 c184_i32_245
  let v411 : BitVec 32 := v410
  let c0_i32_252 : BitVec 32 := 0#32
  ![v389.toNat, 0, v411.toNat, 0]

def k0_chk29 (i : grid0.Coords) (v391 : BitVec 32) : Prop :=
  (∀ (k0_h1 : k0_cond1 i = 1#1), 8 ∣ (k0_mult29 v391).toNat) ∧
  (∀ (k0_h1 : k0_cond1 i = 1#1), ∀ a, (k0_off116 i v391) a + S1x3x40x224.size a ≤ S256x3x224x224.size a)
theorem k0_mult29_dvd : ∀ (i : grid0.Coords) (v391 : BitVec 32) (k0_hw29 : k0_chk29 i v391), ∀ (k0_h1 : k0_cond1 i = 1#1), 8 ∣ (k0_mult29 v391).toNat := fun i v391 k0_hw29 k0_h1 => k0_hw29.1 k0_h1
theorem k0_off116_inb : ∀ (i : grid0.Coords) (v391 : BitVec 32) (k0_hw29 : k0_chk29 i v391), ∀ (k0_h1 : k0_cond1 i = 1#1), ∀ a, (k0_off116 i v391) a + S1x3x40x224.size a ≤ S256x3x224x224.size a := fun i v391 k0_hw29 k0_h1 => k0_hw29.2 k0_h1

def k0_off117 (i : grid0.Coords) : Fin 2 → Nat :=
  let arg0 : BitVec 32 := BitVec.ofNat 32 (i 0).val
  let c16_i32_254 : BitVec 32 := 16#32
  let v419 : BitVec 32 := Scalar.muli arg0 c16_i32_254
  let c13_i32 : BitVec 32 := 13#32
  let v420 : BitVec 32 := Scalar.addi v419 c13_i32
  let v421 : Index := Scalar.indexCast v420
  let c0_255 : Index := 0#32
  ![v421.toNat, 0]
def k0_mult30 (v422 : BitVec 32) : BitVec 32 :=
  let c0_i32_257 : BitVec 32 := 0#32
  let v424 : BitVec 1 := Scalar.cmpi .sgt v422 c0_i32_257
  let v425 : BitVec 32 := Scalar.extui v424
  let c0_i32_258 : BitVec 32 := 0#32
  let v426 : BitVec 1 := Scalar.cmpi .slt v422 c0_i32_258
  let v427 : BitVec 32 := Scalar.extui v426
  let v428 : BitVec 32 := Scalar.subi v425 v427
  let c8_i32_256 : BitVec 32 := 8#32
  let c0_i32_259 : BitVec 32 := 0#32
  let v429 : BitVec 1 := Scalar.cmpi .sgt c8_i32_256 c0_i32_259
  let v430 : BitVec 32 := Scalar.extui v429
  let c0_i32_260 : BitVec 32 := 0#32
  let v431 : BitVec 1 := Scalar.cmpi .slt c8_i32_256 c0_i32_260
  let v432 : BitVec 32 := Scalar.extui v431
  let v433 : BitVec 32 := Scalar.subi v430 v432
  let v434 : BitVec 1 := Scalar.cmpi .ne v428 v433
  let v435 : BitVec 32 := Scalar.remsi v422 c8_i32_256
  let c0_i32_261 : BitVec 32 := 0#32
  let v436 : BitVec 1 := Scalar.cmpi .ne v435 c0_i32_261
  let v437 : BitVec 1 := Scalar.andi v434 v436
  let v423 : BitVec 32 := Scalar.divsi v422 c8_i32_256
  let c1_i32_262 : BitVec 32 := 1#32
  let v438 : BitVec 32 := Scalar.subi v423 c1_i32_262
  let v439 : BitVec 32 := Scalar.select v437 v438 v423
  let c8_i32_263 : BitVec 32 := 8#32
  let v440 : BitVec 32 := Scalar.muli v439 c8_i32_263
  let c184_i32_264 : BitVec 32 := 184#32
  let v441 : BitVec 32 := Scalar.minsi v440 c184_i32_264
  v441

def k0_off118 (i : grid0.Coords) : Fin 2 → Nat :=
  let arg0 : BitVec 32 := BitVec.ofNat 32 (i 0).val
  let c4_i32_253 : BitVec 32 := 4#32
  let v418 : BitVec 32 := Scalar.remsi arg0 c4_i32_253
  let c13_i32_266 : BitVec 32 := 13#32
  ![v418.toNat, 13]
def k0_off119 (i : grid0.Coords) : Fin 5 → Nat :=
  let arg0 : BitVec 32 := BitVec.ofNat 32 (i 0).val
  let c4_i32_253 : BitVec 32 := 4#32
  let v418 : BitVec 32 := Scalar.remsi arg0 c4_i32_253
  let c13_i32_265 : BitVec 32 := 13#32
  let c0_i32_267 : BitVec 32 := 0#32
  let c0_i32_268 : BitVec 32 := 0#32
  let c0_i32_269 : BitVec 32 := 0#32
  ![v418.toNat, 13, 0, 0, 0]
def k0_off120 (i : grid0.Coords) (v422 : BitVec 32) : Fin 4 → Nat :=
  let arg0 : BitVec 32 := BitVec.ofNat 32 (i 0).val
  let c16_i32_254 : BitVec 32 := 16#32
  let v419 : BitVec 32 := Scalar.muli arg0 c16_i32_254
  let c13_i32 : BitVec 32 := 13#32
  let v420 : BitVec 32 := Scalar.addi v419 c13_i32
  let c0_i32_270 : BitVec 32 := 0#32
  let c0_i32_257 : BitVec 32 := 0#32
  let v424 : BitVec 1 := Scalar.cmpi .sgt v422 c0_i32_257
  let v425 : BitVec 32 := Scalar.extui v424
  let c0_i32_258 : BitVec 32 := 0#32
  let v426 : BitVec 1 := Scalar.cmpi .slt v422 c0_i32_258
  let v427 : BitVec 32 := Scalar.extui v426
  let v428 : BitVec 32 := Scalar.subi v425 v427
  let c8_i32_256 : BitVec 32 := 8#32
  let c0_i32_259 : BitVec 32 := 0#32
  let v429 : BitVec 1 := Scalar.cmpi .sgt c8_i32_256 c0_i32_259
  let v430 : BitVec 32 := Scalar.extui v429
  let c0_i32_260 : BitVec 32 := 0#32
  let v431 : BitVec 1 := Scalar.cmpi .slt c8_i32_256 c0_i32_260
  let v432 : BitVec 32 := Scalar.extui v431
  let v433 : BitVec 32 := Scalar.subi v430 v432
  let v434 : BitVec 1 := Scalar.cmpi .ne v428 v433
  let v435 : BitVec 32 := Scalar.remsi v422 c8_i32_256
  let c0_i32_261 : BitVec 32 := 0#32
  let v436 : BitVec 1 := Scalar.cmpi .ne v435 c0_i32_261
  let v437 : BitVec 1 := Scalar.andi v434 v436
  let v423 : BitVec 32 := Scalar.divsi v422 c8_i32_256
  let c1_i32_262 : BitVec 32 := 1#32
  let v438 : BitVec 32 := Scalar.subi v423 c1_i32_262
  let v439 : BitVec 32 := Scalar.select v437 v438 v423
  let c8_i32_263 : BitVec 32 := 8#32
  let v440 : BitVec 32 := Scalar.muli v439 c8_i32_263
  let c184_i32_264 : BitVec 32 := 184#32
  let v441 : BitVec 32 := Scalar.minsi v440 c184_i32_264
  let v442 : BitVec 32 := v441
  let c0_i32_271 : BitVec 32 := 0#32
  ![v420.toNat, 0, v442.toNat, 0]

def k0_chk30 (i : grid0.Coords) (v422 : BitVec 32) : Prop :=
  (∀ (k0_h1 : k0_cond1 i = 1#1), 8 ∣ (k0_mult30 v422).toNat) ∧
  (∀ (k0_h1 : k0_cond1 i = 1#1), ∀ a, (k0_off120 i v422) a + S1x3x40x224.size a ≤ S256x3x224x224.size a)
theorem k0_mult30_dvd : ∀ (i : grid0.Coords) (v422 : BitVec 32) (k0_hw30 : k0_chk30 i v422), ∀ (k0_h1 : k0_cond1 i = 1#1), 8 ∣ (k0_mult30 v422).toNat := fun i v422 k0_hw30 k0_h1 => k0_hw30.1 k0_h1
theorem k0_off120_inb : ∀ (i : grid0.Coords) (v422 : BitVec 32) (k0_hw30 : k0_chk30 i v422), ∀ (k0_h1 : k0_cond1 i = 1#1), ∀ a, (k0_off120 i v422) a + S1x3x40x224.size a ≤ S256x3x224x224.size a := fun i v422 k0_hw30 k0_h1 => k0_hw30.2 k0_h1

def k0_off121 (i : grid0.Coords) : Fin 2 → Nat :=
  let arg0 : BitVec 32 := BitVec.ofNat 32 (i 0).val
  let c16_i32_273 : BitVec 32 := 16#32
  let v450 : BitVec 32 := Scalar.muli arg0 c16_i32_273
  let c14_i32 : BitVec 32 := 14#32
  let v451 : BitVec 32 := Scalar.addi v450 c14_i32
  let v452 : Index := Scalar.indexCast v451
  let c0_274 : Index := 0#32
  ![v452.toNat, 0]
def k0_mult31 (v453 : BitVec 32) : BitVec 32 :=
  let c0_i32_276 : BitVec 32 := 0#32
  let v455 : BitVec 1 := Scalar.cmpi .sgt v453 c0_i32_276
  let v456 : BitVec 32 := Scalar.extui v455
  let c0_i32_277 : BitVec 32 := 0#32
  let v457 : BitVec 1 := Scalar.cmpi .slt v453 c0_i32_277
  let v458 : BitVec 32 := Scalar.extui v457
  let v459 : BitVec 32 := Scalar.subi v456 v458
  let c8_i32_275 : BitVec 32 := 8#32
  let c0_i32_278 : BitVec 32 := 0#32
  let v460 : BitVec 1 := Scalar.cmpi .sgt c8_i32_275 c0_i32_278
  let v461 : BitVec 32 := Scalar.extui v460
  let c0_i32_279 : BitVec 32 := 0#32
  let v462 : BitVec 1 := Scalar.cmpi .slt c8_i32_275 c0_i32_279
  let v463 : BitVec 32 := Scalar.extui v462
  let v464 : BitVec 32 := Scalar.subi v461 v463
  let v465 : BitVec 1 := Scalar.cmpi .ne v459 v464
  let v466 : BitVec 32 := Scalar.remsi v453 c8_i32_275
  let c0_i32_280 : BitVec 32 := 0#32
  let v467 : BitVec 1 := Scalar.cmpi .ne v466 c0_i32_280
  let v468 : BitVec 1 := Scalar.andi v465 v467
  let v454 : BitVec 32 := Scalar.divsi v453 c8_i32_275
  let c1_i32_281 : BitVec 32 := 1#32
  let v469 : BitVec 32 := Scalar.subi v454 c1_i32_281
  let v470 : BitVec 32 := Scalar.select v468 v469 v454
  let c8_i32_282 : BitVec 32 := 8#32
  let v471 : BitVec 32 := Scalar.muli v470 c8_i32_282
  let c184_i32_283 : BitVec 32 := 184#32
  let v472 : BitVec 32 := Scalar.minsi v471 c184_i32_283
  v472

def k0_off122 (i : grid0.Coords) : Fin 2 → Nat :=
  let arg0 : BitVec 32 := BitVec.ofNat 32 (i 0).val
  let c4_i32_272 : BitVec 32 := 4#32
  let v449 : BitVec 32 := Scalar.remsi arg0 c4_i32_272
  let c14_i32_285 : BitVec 32 := 14#32
  ![v449.toNat, 14]
def k0_off123 (i : grid0.Coords) : Fin 5 → Nat :=
  let arg0 : BitVec 32 := BitVec.ofNat 32 (i 0).val
  let c4_i32_272 : BitVec 32 := 4#32
  let v449 : BitVec 32 := Scalar.remsi arg0 c4_i32_272
  let c14_i32_284 : BitVec 32 := 14#32
  let c0_i32_286 : BitVec 32 := 0#32
  let c0_i32_287 : BitVec 32 := 0#32
  let c0_i32_288 : BitVec 32 := 0#32
  ![v449.toNat, 14, 0, 0, 0]
def k0_off124 (i : grid0.Coords) (v453 : BitVec 32) : Fin 4 → Nat :=
  let arg0 : BitVec 32 := BitVec.ofNat 32 (i 0).val
  let c16_i32_273 : BitVec 32 := 16#32
  let v450 : BitVec 32 := Scalar.muli arg0 c16_i32_273
  let c14_i32 : BitVec 32 := 14#32
  let v451 : BitVec 32 := Scalar.addi v450 c14_i32
  let c0_i32_289 : BitVec 32 := 0#32
  let c0_i32_276 : BitVec 32 := 0#32
  let v455 : BitVec 1 := Scalar.cmpi .sgt v453 c0_i32_276
  let v456 : BitVec 32 := Scalar.extui v455
  let c0_i32_277 : BitVec 32 := 0#32
  let v457 : BitVec 1 := Scalar.cmpi .slt v453 c0_i32_277
  let v458 : BitVec 32 := Scalar.extui v457
  let v459 : BitVec 32 := Scalar.subi v456 v458
  let c8_i32_275 : BitVec 32 := 8#32
  let c0_i32_278 : BitVec 32 := 0#32
  let v460 : BitVec 1 := Scalar.cmpi .sgt c8_i32_275 c0_i32_278
  let v461 : BitVec 32 := Scalar.extui v460
  let c0_i32_279 : BitVec 32 := 0#32
  let v462 : BitVec 1 := Scalar.cmpi .slt c8_i32_275 c0_i32_279
  let v463 : BitVec 32 := Scalar.extui v462
  let v464 : BitVec 32 := Scalar.subi v461 v463
  let v465 : BitVec 1 := Scalar.cmpi .ne v459 v464
  let v466 : BitVec 32 := Scalar.remsi v453 c8_i32_275
  let c0_i32_280 : BitVec 32 := 0#32
  let v467 : BitVec 1 := Scalar.cmpi .ne v466 c0_i32_280
  let v468 : BitVec 1 := Scalar.andi v465 v467
  let v454 : BitVec 32 := Scalar.divsi v453 c8_i32_275
  let c1_i32_281 : BitVec 32 := 1#32
  let v469 : BitVec 32 := Scalar.subi v454 c1_i32_281
  let v470 : BitVec 32 := Scalar.select v468 v469 v454
  let c8_i32_282 : BitVec 32 := 8#32
  let v471 : BitVec 32 := Scalar.muli v470 c8_i32_282
  let c184_i32_283 : BitVec 32 := 184#32
  let v472 : BitVec 32 := Scalar.minsi v471 c184_i32_283
  let v473 : BitVec 32 := v472
  let c0_i32_290 : BitVec 32 := 0#32
  ![v451.toNat, 0, v473.toNat, 0]

def k0_chk31 (i : grid0.Coords) (v453 : BitVec 32) : Prop :=
  (∀ (k0_h1 : k0_cond1 i = 1#1), 8 ∣ (k0_mult31 v453).toNat) ∧
  (∀ (k0_h1 : k0_cond1 i = 1#1), ∀ a, (k0_off124 i v453) a + S1x3x40x224.size a ≤ S256x3x224x224.size a)
theorem k0_mult31_dvd : ∀ (i : grid0.Coords) (v453 : BitVec 32) (k0_hw31 : k0_chk31 i v453), ∀ (k0_h1 : k0_cond1 i = 1#1), 8 ∣ (k0_mult31 v453).toNat := fun i v453 k0_hw31 k0_h1 => k0_hw31.1 k0_h1
theorem k0_off124_inb : ∀ (i : grid0.Coords) (v453 : BitVec 32) (k0_hw31 : k0_chk31 i v453), ∀ (k0_h1 : k0_cond1 i = 1#1), ∀ a, (k0_off124 i v453) a + S1x3x40x224.size a ≤ S256x3x224x224.size a := fun i v453 k0_hw31 k0_h1 => k0_hw31.2 k0_h1

def k0_off125 (i : grid0.Coords) : Fin 2 → Nat :=
  let arg0 : BitVec 32 := BitVec.ofNat 32 (i 0).val
  let c16_i32_292 : BitVec 32 := 16#32
  let v481 : BitVec 32 := Scalar.muli arg0 c16_i32_292
  let c15_i32 : BitVec 32 := 15#32
  let v482 : BitVec 32 := Scalar.addi v481 c15_i32
  let v483 : Index := Scalar.indexCast v482
  let c0_293 : Index := 0#32
  ![v483.toNat, 0]
def k0_mult32 (v484 : BitVec 32) : BitVec 32 :=
  let c0_i32_295 : BitVec 32 := 0#32
  let v486 : BitVec 1 := Scalar.cmpi .sgt v484 c0_i32_295
  let v487 : BitVec 32 := Scalar.extui v486
  let c0_i32_296 : BitVec 32 := 0#32
  let v488 : BitVec 1 := Scalar.cmpi .slt v484 c0_i32_296
  let v489 : BitVec 32 := Scalar.extui v488
  let v490 : BitVec 32 := Scalar.subi v487 v489
  let c8_i32_294 : BitVec 32 := 8#32
  let c0_i32_297 : BitVec 32 := 0#32
  let v491 : BitVec 1 := Scalar.cmpi .sgt c8_i32_294 c0_i32_297
  let v492 : BitVec 32 := Scalar.extui v491
  let c0_i32_298 : BitVec 32 := 0#32
  let v493 : BitVec 1 := Scalar.cmpi .slt c8_i32_294 c0_i32_298
  let v494 : BitVec 32 := Scalar.extui v493
  let v495 : BitVec 32 := Scalar.subi v492 v494
  let v496 : BitVec 1 := Scalar.cmpi .ne v490 v495
  let v497 : BitVec 32 := Scalar.remsi v484 c8_i32_294
  let c0_i32_299 : BitVec 32 := 0#32
  let v498 : BitVec 1 := Scalar.cmpi .ne v497 c0_i32_299
  let v499 : BitVec 1 := Scalar.andi v496 v498
  let v485 : BitVec 32 := Scalar.divsi v484 c8_i32_294
  let c1_i32_300 : BitVec 32 := 1#32
  let v500 : BitVec 32 := Scalar.subi v485 c1_i32_300
  let v501 : BitVec 32 := Scalar.select v499 v500 v485
  let c8_i32_301 : BitVec 32 := 8#32
  let v502 : BitVec 32 := Scalar.muli v501 c8_i32_301
  let c184_i32_302 : BitVec 32 := 184#32
  let v503 : BitVec 32 := Scalar.minsi v502 c184_i32_302
  v503

def k0_off126 (i : grid0.Coords) : Fin 2 → Nat :=
  let arg0 : BitVec 32 := BitVec.ofNat 32 (i 0).val
  let c4_i32_291 : BitVec 32 := 4#32
  let v480 : BitVec 32 := Scalar.remsi arg0 c4_i32_291
  let c15_i32_304 : BitVec 32 := 15#32
  ![v480.toNat, 15]
def k0_off127 (i : grid0.Coords) : Fin 5 → Nat :=
  let arg0 : BitVec 32 := BitVec.ofNat 32 (i 0).val
  let c4_i32_291 : BitVec 32 := 4#32
  let v480 : BitVec 32 := Scalar.remsi arg0 c4_i32_291
  let c15_i32_303 : BitVec 32 := 15#32
  let c0_i32_305 : BitVec 32 := 0#32
  let c0_i32_306 : BitVec 32 := 0#32
  let c0_i32_307 : BitVec 32 := 0#32
  ![v480.toNat, 15, 0, 0, 0]
def k0_off128 (i : grid0.Coords) (v484 : BitVec 32) : Fin 4 → Nat :=
  let arg0 : BitVec 32 := BitVec.ofNat 32 (i 0).val
  let c16_i32_292 : BitVec 32 := 16#32
  let v481 : BitVec 32 := Scalar.muli arg0 c16_i32_292
  let c15_i32 : BitVec 32 := 15#32
  let v482 : BitVec 32 := Scalar.addi v481 c15_i32
  let c0_i32_308 : BitVec 32 := 0#32
  let c0_i32_295 : BitVec 32 := 0#32
  let v486 : BitVec 1 := Scalar.cmpi .sgt v484 c0_i32_295
  let v487 : BitVec 32 := Scalar.extui v486
  let c0_i32_296 : BitVec 32 := 0#32
  let v488 : BitVec 1 := Scalar.cmpi .slt v484 c0_i32_296
  let v489 : BitVec 32 := Scalar.extui v488
  let v490 : BitVec 32 := Scalar.subi v487 v489
  let c8_i32_294 : BitVec 32 := 8#32
  let c0_i32_297 : BitVec 32 := 0#32
  let v491 : BitVec 1 := Scalar.cmpi .sgt c8_i32_294 c0_i32_297
  let v492 : BitVec 32 := Scalar.extui v491
  let c0_i32_298 : BitVec 32 := 0#32
  let v493 : BitVec 1 := Scalar.cmpi .slt c8_i32_294 c0_i32_298
  let v494 : BitVec 32 := Scalar.extui v493
  let v495 : BitVec 32 := Scalar.subi v492 v494
  let v496 : BitVec 1 := Scalar.cmpi .ne v490 v495
  let v497 : BitVec 32 := Scalar.remsi v484 c8_i32_294
  let c0_i32_299 : BitVec 32 := 0#32
  let v498 : BitVec 1 := Scalar.cmpi .ne v497 c0_i32_299
  let v499 : BitVec 1 := Scalar.andi v496 v498
  let v485 : BitVec 32 := Scalar.divsi v484 c8_i32_294
  let c1_i32_300 : BitVec 32 := 1#32
  let v500 : BitVec 32 := Scalar.subi v485 c1_i32_300
  let v501 : BitVec 32 := Scalar.select v499 v500 v485
  let c8_i32_301 : BitVec 32 := 8#32
  let v502 : BitVec 32 := Scalar.muli v501 c8_i32_301
  let c184_i32_302 : BitVec 32 := 184#32
  let v503 : BitVec 32 := Scalar.minsi v502 c184_i32_302
  let v504 : BitVec 32 := v503
  let c0_i32_309 : BitVec 32 := 0#32
  ![v482.toNat, 0, v504.toNat, 0]

def k0_chk32 (i : grid0.Coords) (v484 : BitVec 32) : Prop :=
  (∀ (k0_h1 : k0_cond1 i = 1#1), 8 ∣ (k0_mult32 v484).toNat) ∧
  (∀ (k0_h1 : k0_cond1 i = 1#1), ∀ a, (k0_off128 i v484) a + S1x3x40x224.size a ≤ S256x3x224x224.size a)
theorem k0_mult32_dvd : ∀ (i : grid0.Coords) (v484 : BitVec 32) (k0_hw32 : k0_chk32 i v484), ∀ (k0_h1 : k0_cond1 i = 1#1), 8 ∣ (k0_mult32 v484).toNat := fun i v484 k0_hw32 k0_h1 => k0_hw32.1 k0_h1
theorem k0_off128_inb : ∀ (i : grid0.Coords) (v484 : BitVec 32) (k0_hw32 : k0_chk32 i v484), ∀ (k0_h1 : k0_cond1 i = 1#1), ∀ a, (k0_off128 i v484) a + S1x3x40x224.size a ≤ S256x3x224x224.size a := fun i v484 k0_hw32 k0_h1 => k0_hw32.2 k0_h1

def k0_cond3 (i : grid0.Coords) : BitVec 1 :=
  let arg0 : BitVec 32 := BitVec.ofNat 32 (i 0).val
  let c2_i32 : BitVec 32 := 2#32
  let v3 : BitVec 32 := Scalar.subi arg0 c2_i32
  let c0_i32_0 : BitVec 32 := 0#32
  let v4 : BitVec 1 := Scalar.cmpi .sge v3 c0_i32_0
  let c16_i32_1 : BitVec 32 := 16#32
  let v5 : BitVec 1 := Scalar.cmpi .slt v3 c16_i32_1
  let v6 : BitVec 1 := Scalar.andi v4 v5
  let v7 : BitVec 32 := Scalar.extui v6
  let c0_i32_2 : BitVec 32 := 0#32
  let v8 : BitVec 1 := Scalar.cmpi .ne v7 c0_i32_2
  v8

def k0_off129 (i : grid0.Coords) : Fin 2 → Nat :=
  let arg0 : BitVec 32 := BitVec.ofNat 32 (i 0).val
  let c2_i32 : BitVec 32 := 2#32
  let v3 : BitVec 32 := Scalar.subi arg0 c2_i32
  let c16_i32_5 : BitVec 32 := 16#32
  let v14 : BitVec 32 := Scalar.muli v3 c16_i32_5
  let c0_i32_6 : BitVec 32 := 0#32
  let v15 : BitVec 32 := Scalar.addi v14 c0_i32_6
  let v16 : Index := Scalar.indexCast v15
  let c0 : Index := 0#32
  ![v16.toNat, 0]
def k0_mult33 (v17 : BitVec 32) : BitVec 32 :=
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32 : BitVec 32 := 8#32
  let c0_i32_9 : BitVec 32 := 0#32
  let v24 : BitVec 1 := Scalar.cmpi .sgt c8_i32 c0_i32_9
  let v25 : BitVec 32 := Scalar.extui v24
  let c0_i32_10 : BitVec 32 := 0#32
  let v26 : BitVec 1 := Scalar.cmpi .slt c8_i32 c0_i32_10
  let v27 : BitVec 32 := Scalar.extui v26
  let v28 : BitVec 32 := Scalar.subi v25 v27
  let v29 : BitVec 1 := Scalar.cmpi .ne v23 v28
  let v30 : BitVec 32 := Scalar.remsi v17 c8_i32
  let c0_i32_11 : BitVec 32 := 0#32
  let v31 : BitVec 1 := Scalar.cmpi .ne v30 c0_i32_11
  let v32 : BitVec 1 := Scalar.andi v29 v31
  let v18 : BitVec 32 := Scalar.divsi v17 c8_i32
  let c1_i32 : BitVec 32 := 1#32
  let v33 : BitVec 32 := Scalar.subi v18 c1_i32
  let v34 : BitVec 32 := Scalar.select v32 v33 v18
  let c8_i32_12 : BitVec 32 := 8#32
  let v35 : BitVec 32 := Scalar.muli v34 c8_i32_12
  let c184_i32 : BitVec 32 := 184#32
  let v36 : BitVec 32 := Scalar.minsi v35 c184_i32
  v36

def k0_off130 (i : grid0.Coords) : Fin 2 → Nat :=
  let arg0 : BitVec 32 := BitVec.ofNat 32 (i 0).val
  let c2_i32 : BitVec 32 := 2#32
  let v3 : BitVec 32 := Scalar.subi arg0 c2_i32
  let c4_i32_4 : BitVec 32 := 4#32
  let v13 : BitVec 32 := Scalar.remsi v3 c4_i32_4
  let c0_i32_14 : BitVec 32 := 0#32
  ![v13.toNat, 0]
def k0_off131 (i : grid0.Coords) : Fin 5 → Nat :=
  let arg0 : BitVec 32 := BitVec.ofNat 32 (i 0).val
  let c2_i32 : BitVec 32 := 2#32
  let v3 : BitVec 32 := Scalar.subi arg0 c2_i32
  let c4_i32_4 : BitVec 32 := 4#32
  let v13 : BitVec 32 := Scalar.remsi v3 c4_i32_4
  let c0_i32_13 : BitVec 32 := 0#32
  let c0_i32_15 : BitVec 32 := 0#32
  let c0_i32_16 : BitVec 32 := 0#32
  let c0_i32_17 : BitVec 32 := 0#32
  ![v13.toNat, 0, 0, 0, 0]
def k0_off132 (i : grid0.Coords) (v17 : BitVec 32) : Fin 4 → Nat :=
  let arg0 : BitVec 32 := BitVec.ofNat 32 (i 0).val
  let c2_i32 : BitVec 32 := 2#32
  let v3 : BitVec 32 := Scalar.subi arg0 c2_i32
  let c16_i32_5 : BitVec 32 := 16#32
  let v14 : BitVec 32 := Scalar.muli v3 c16_i32_5
  let c0_i32_6 : BitVec 32 := 0#32
  let v15 : BitVec 32 := Scalar.addi v14 c0_i32_6
  let c0_i32_18 : BitVec 32 := 0#32
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32 : BitVec 32 := 8#32
  let c0_i32_9 : BitVec 32 := 0#32
  let v24 : BitVec 1 := Scalar.cmpi .sgt c8_i32 c0_i32_9
  let v25 : BitVec 32 := Scalar.extui v24
  let c0_i32_10 : BitVec 32 := 0#32
  let v26 : BitVec 1 := Scalar.cmpi .slt c8_i32 c0_i32_10
  let v27 : BitVec 32 := Scalar.extui v26
  let v28 : BitVec 32 := Scalar.subi v25 v27
  let v29 : BitVec 1 := Scalar.cmpi .ne v23 v28
  let v30 : BitVec 32 := Scalar.remsi v17 c8_i32
  let c0_i32_11 : BitVec 32 := 0#32
  let v31 : BitVec 1 := Scalar.cmpi .ne v30 c0_i32_11
  let v32 : BitVec 1 := Scalar.andi v29 v31
  let v18 : BitVec 32 := Scalar.divsi v17 c8_i32
  let c1_i32 : BitVec 32 := 1#32
  let v33 : BitVec 32 := Scalar.subi v18 c1_i32
  let v34 : BitVec 32 := Scalar.select v32 v33 v18
  let c8_i32_12 : BitVec 32 := 8#32
  let v35 : BitVec 32 := Scalar.muli v34 c8_i32_12
  let c184_i32 : BitVec 32 := 184#32
  let v36 : BitVec 32 := Scalar.minsi v35 c184_i32
  let v37 : BitVec 32 := v36
  let c0_i32_19 : BitVec 32 := 0#32
  ![v15.toNat, 0, v37.toNat, 0]

def k0_chk33 (i : grid0.Coords) (v17 : BitVec 32) : Prop :=
  (∀ (k0_h3 : k0_cond3 i = 1#1), 8 ∣ (k0_mult33 v17).toNat) ∧
  (∀ (k0_h3 : k0_cond3 i = 1#1), ∀ a, (k0_off132 i v17) a + S1x3x40x224.size a ≤ S256x3x224x224.size a)
theorem k0_mult33_dvd : ∀ (i : grid0.Coords) (v17 : BitVec 32) (k0_hw33 : k0_chk33 i v17), ∀ (k0_h3 : k0_cond3 i = 1#1), 8 ∣ (k0_mult33 v17).toNat := fun i v17 k0_hw33 k0_h3 => k0_hw33.1 k0_h3
theorem k0_off132_inb : ∀ (i : grid0.Coords) (v17 : BitVec 32) (k0_hw33 : k0_chk33 i v17), ∀ (k0_h3 : k0_cond3 i = 1#1), ∀ a, (k0_off132 i v17) a + S1x3x40x224.size a ≤ S256x3x224x224.size a := fun i v17 k0_hw33 k0_h3 => k0_hw33.2 k0_h3

def k0_off133 (i : grid0.Coords) : Fin 2 → Nat :=
  let arg0 : BitVec 32 := BitVec.ofNat 32 (i 0).val
  let c2_i32 : BitVec 32 := 2#32
  let v3 : BitVec 32 := Scalar.subi arg0 c2_i32
  let c16_i32_20 : BitVec 32 := 16#32
  let v44 : BitVec 32 := Scalar.muli v3 c16_i32_20
  let c0_i32_21 : BitVec 32 := 0#32
  let v45 : BitVec 32 := Scalar.addi v44 c0_i32_21
  let v46 : Index := Scalar.indexCast v45
  let c0_22 : Index := 0#32
  ![v46.toNat, 0]
def k0_off134 (i : grid0.Coords) : Fin 2 → Nat :=
  let arg0 : BitVec 32 := BitVec.ofNat 32 (i 0).val
  let c2_i32 : BitVec 32 := 2#32
  let v3 : BitVec 32 := Scalar.subi arg0 c2_i32
  let c16_i32_20 : BitVec 32 := 16#32
  let v44 : BitVec 32 := Scalar.muli v3 c16_i32_20
  let c0_i32_21 : BitVec 32 := 0#32
  let v45 : BitVec 32 := Scalar.addi v44 c0_i32_21
  let v48 : Index := Scalar.indexCast v45
  let c1 : Index := 1#32
  ![v48.toNat, 1]
def k0_mult34 (v47 : BitVec 32) : BitVec 32 :=
  let c0_i32_24 : BitVec 32 := 0#32
  let v51 : BitVec 1 := Scalar.cmpi .sgt v47 c0_i32_24
  let v52 : BitVec 32 := Scalar.extui v51
  let c0_i32_25 : BitVec 32 := 0#32
  let v53 : BitVec 1 := Scalar.cmpi .slt v47 c0_i32_25
  let v54 : BitVec 32 := Scalar.extui v53
  let v55 : BitVec 32 := Scalar.subi v52 v54
  let c8_i32_23 : BitVec 32 := 8#32
  let c0_i32_26 : BitVec 32 := 0#32
  let v56 : BitVec 1 := Scalar.cmpi .sgt c8_i32_23 c0_i32_26
  let v57 : BitVec 32 := Scalar.extui v56
  let c0_i32_27 : BitVec 32 := 0#32
  let v58 : BitVec 1 := Scalar.cmpi .slt c8_i32_23 c0_i32_27
  let v59 : BitVec 32 := Scalar.extui v58
  let v60 : BitVec 32 := Scalar.subi v57 v59
  let v61 : BitVec 1 := Scalar.cmpi .ne v55 v60
  let v62 : BitVec 32 := Scalar.remsi v47 c8_i32_23
  let c0_i32_28 : BitVec 32 := 0#32
  let v63 : BitVec 1 := Scalar.cmpi .ne v62 c0_i32_28
  let v64 : BitVec 1 := Scalar.andi v61 v63
  let v50 : BitVec 32 := Scalar.divsi v47 c8_i32_23
  let c1_i32_29 : BitVec 32 := 1#32
  let v65 : BitVec 32 := Scalar.subi v50 c1_i32_29
  let v66 : BitVec 32 := Scalar.select v64 v65 v50
  let c8_i32_30 : BitVec 32 := 8#32
  let v67 : BitVec 32 := Scalar.muli v66 c8_i32_30
  let c184_i32_31 : BitVec 32 := 184#32
  let v68 : BitVec 32 := Scalar.minsi v67 c184_i32_31
  v68

def k0_chk34 (i : grid0.Coords) (v47 : BitVec 32) : Prop :=
  (∀ (k0_h3 : k0_cond3 i = 1#1), 8 ∣ (k0_mult34 v47).toNat)
theorem k0_mult34_dvd : ∀ (i : grid0.Coords) (v47 : BitVec 32) (k0_hw34 : k0_chk34 i v47), ∀ (k0_h3 : k0_cond3 i = 1#1), 8 ∣ (k0_mult34 v47).toNat := fun i v47 k0_hw34 k0_h3 => k0_hw34 k0_h3

def k0_off135 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v75 : Index := Scalar.indexCast v12
  let c0_36 : Index := 0#32
  let c0_37 : Index := 0#32
  let c0_38 : Index := 0#32
  let c0_39 : Index := 0#32
  ![v75.toNat, 0, 0, 0, 0]
def k0_off136 (i : grid0.Coords) : Fin 2 → Nat :=
  let arg0 : BitVec 32 := BitVec.ofNat 32 (i 0).val
  let c2_i32 : BitVec 32 := 2#32
  let v3 : BitVec 32 := Scalar.subi arg0 c2_i32
  let c16_i32_45 : BitVec 32 := 16#32
  let v84 : BitVec 32 := Scalar.muli v3 c16_i32_45
  let c0_i32_46 : BitVec 32 := 0#32
  let v85 : BitVec 32 := Scalar.addi v84 c0_i32_46
  let v86 : Index := Scalar.indexCast v85
  let c0_47 : Index := 0#32
  ![v86.toNat, 0]
def k0_mult35 (v87 : BitVec 32) : BitVec 32 :=
  let c0_i32_49 : BitVec 32 := 0#32
  let v89 : BitVec 1 := Scalar.cmpi .sgt v87 c0_i32_49
  let v90 : BitVec 32 := Scalar.extui v89
  let c0_i32_50 : BitVec 32 := 0#32
  let v91 : BitVec 1 := Scalar.cmpi .slt v87 c0_i32_50
  let v92 : BitVec 32 := Scalar.extui v91
  let v93 : BitVec 32 := Scalar.subi v90 v92
  let c8_i32_48 : BitVec 32 := 8#32
  let c0_i32_51 : BitVec 32 := 0#32
  let v94 : BitVec 1 := Scalar.cmpi .sgt c8_i32_48 c0_i32_51
  let v95 : BitVec 32 := Scalar.extui v94
  let c0_i32_52 : BitVec 32 := 0#32
  let v96 : BitVec 1 := Scalar.cmpi .slt c8_i32_48 c0_i32_52
  let v97 : BitVec 32 := Scalar.extui v96
  let v98 : BitVec 32 := Scalar.subi v95 v97
  let v99 : BitVec 1 := Scalar.cmpi .ne v93 v98
  let v100 : BitVec 32 := Scalar.remsi v87 c8_i32_48
  let c0_i32_53 : BitVec 32 := 0#32
  let v101 : BitVec 1 := Scalar.cmpi .ne v100 c0_i32_53
  let v102 : BitVec 1 := Scalar.andi v99 v101
  let v88 : BitVec 32 := Scalar.divsi v87 c8_i32_48
  let c1_i32_54 : BitVec 32 := 1#32
  let v103 : BitVec 32 := Scalar.subi v88 c1_i32_54
  let v104 : BitVec 32 := Scalar.select v102 v103 v88
  let c8_i32_55 : BitVec 32 := 8#32
  let v105 : BitVec 32 := Scalar.muli v104 c8_i32_55
  let c184_i32_56 : BitVec 32 := 184#32
  let v106 : BitVec 32 := Scalar.minsi v105 c184_i32_56
  v106

def k0_off137 (i : grid0.Coords) : Fin 2 → Nat :=
  let arg0 : BitVec 32 := BitVec.ofNat 32 (i 0).val
  let c2_i32 : BitVec 32 := 2#32
  let v3 : BitVec 32 := Scalar.subi arg0 c2_i32
  let c4_i32_44 : BitVec 32 := 4#32
  let v83 : BitVec 32 := Scalar.remsi v3 c4_i32_44
  let c0_i32_58 : BitVec 32 := 0#32
  ![v83.toNat, 0]
def k0_off138 (i : grid0.Coords) (v87 : BitVec 32) : Fin 4 → Nat :=
  let arg0 : BitVec 32 := BitVec.ofNat 32 (i 0).val
  let c2_i32 : BitVec 32 := 2#32
  let v3 : BitVec 32 := Scalar.subi arg0 c2_i32
  let c16_i32_45 : BitVec 32 := 16#32
  let v84 : BitVec 32 := Scalar.muli v3 c16_i32_45
  let c0_i32_46 : BitVec 32 := 0#32
  let v85 : BitVec 32 := Scalar.addi v84 c0_i32_46
  let c0_i32_59 : BitVec 32 := 0#32
  let c0_i32_49 : BitVec 32 := 0#32
  let v89 : BitVec 1 := Scalar.cmpi .sgt v87 c0_i32_49
  let v90 : BitVec 32 := Scalar.extui v89
  let c0_i32_50 : BitVec 32 := 0#32
  let v91 : BitVec 1 := Scalar.cmpi .slt v87 c0_i32_50
  let v92 : BitVec 32 := Scalar.extui v91
  let v93 : BitVec 32 := Scalar.subi v90 v92
  let c8_i32_48 : BitVec 32 := 8#32
  let c0_i32_51 : BitVec 32 := 0#32
  let v94 : BitVec 1 := Scalar.cmpi .sgt c8_i32_48 c0_i32_51
  let v95 : BitVec 32 := Scalar.extui v94
  let c0_i32_52 : BitVec 32 := 0#32
  let v96 : BitVec 1 := Scalar.cmpi .slt c8_i32_48 c0_i32_52
  let v97 : BitVec 32 := Scalar.extui v96
  let v98 : BitVec 32 := Scalar.subi v95 v97
  let v99 : BitVec 1 := Scalar.cmpi .ne v93 v98
  let v100 : BitVec 32 := Scalar.remsi v87 c8_i32_48
  let c0_i32_53 : BitVec 32 := 0#32
  let v101 : BitVec 1 := Scalar.cmpi .ne v100 c0_i32_53
  let v102 : BitVec 1 := Scalar.andi v99 v101
  let v88 : BitVec 32 := Scalar.divsi v87 c8_i32_48
  let c1_i32_54 : BitVec 32 := 1#32
  let v103 : BitVec 32 := Scalar.subi v88 c1_i32_54
  let v104 : BitVec 32 := Scalar.select v102 v103 v88
  let c8_i32_55 : BitVec 32 := 8#32
  let v105 : BitVec 32 := Scalar.muli v104 c8_i32_55
  let c184_i32_56 : BitVec 32 := 184#32
  let v106 : BitVec 32 := Scalar.minsi v105 c184_i32_56
  let v107 : BitVec 32 := v106
  let c0_i32_60 : BitVec 32 := 0#32
  ![v85.toNat, 0, v107.toNat, 0]

def k0_chk35 (i : grid0.Coords) (v87 : BitVec 32) : Prop :=
  (∀ (k0_h3 : k0_cond3 i = 1#1), 8 ∣ (k0_mult35 v87).toNat) ∧
  (∀ (k0_h3 : k0_cond3 i = 1#1), ∀ a, (k0_off138 i v87) a + S1x3x40x224.size a ≤ S256x3x224x224.size a)
theorem k0_mult35_dvd : ∀ (i : grid0.Coords) (v87 : BitVec 32) (k0_hw35 : k0_chk35 i v87), ∀ (k0_h3 : k0_cond3 i = 1#1), 8 ∣ (k0_mult35 v87).toNat := fun i v87 k0_hw35 k0_h3 => k0_hw35.1 k0_h3
theorem k0_off138_inb : ∀ (i : grid0.Coords) (v87 : BitVec 32) (k0_hw35 : k0_chk35 i v87), ∀ (k0_h3 : k0_cond3 i = 1#1), ∀ a, (k0_off138 i v87) a + S1x3x40x224.size a ≤ S256x3x224x224.size a := fun i v87 k0_hw35 k0_h3 => k0_hw35.2 k0_h3

def k0_off139 (i : grid0.Coords) : Fin 5 → Nat :=
  let arg0 : BitVec 32 := BitVec.ofNat 32 (i 0).val
  let c2_i32 : BitVec 32 := 2#32
  let v3 : BitVec 32 := Scalar.subi arg0 c2_i32
  let c4_i32_44 : BitVec 32 := 4#32
  let v83 : BitVec 32 := Scalar.remsi v3 c4_i32_44
  let c0_i32_57 : BitVec 32 := 0#32
  let c0_i32_61 : BitVec 32 := 0#32
  let c0_i32_62 : BitVec 32 := 0#32
  let c0_i32_63 : BitVec 32 := 0#32
  ![v83.toNat, 0, 0, 0, 0]
def k0_off140 (i : grid0.Coords) : Fin 2 → Nat :=
  let arg0 : BitVec 32 := BitVec.ofNat 32 (i 0).val
  let c2_i32 : BitVec 32 := 2#32
  let v3 : BitVec 32 := Scalar.subi arg0 c2_i32
  let c16_i32_65 : BitVec 32 := 16#32
  let v115 : BitVec 32 := Scalar.muli v3 c16_i32_65
  let c1_i32_66 : BitVec 32 := 1#32
  let v116 : BitVec 32 := Scalar.addi v115 c1_i32_66
  let v117 : Index := Scalar.indexCast v116
  let c0_67 : Index := 0#32
  ![v117.toNat, 0]
def k0_mult36 (v118 : BitVec 32) : BitVec 32 :=
  let c0_i32_69 : BitVec 32 := 0#32
  let v120 : BitVec 1 := Scalar.cmpi .sgt v118 c0_i32_69
  let v121 : BitVec 32 := Scalar.extui v120
  let c0_i32_70 : BitVec 32 := 0#32
  let v122 : BitVec 1 := Scalar.cmpi .slt v118 c0_i32_70
  let v123 : BitVec 32 := Scalar.extui v122
  let v124 : BitVec 32 := Scalar.subi v121 v123
  let c8_i32_68 : BitVec 32 := 8#32
  let c0_i32_71 : BitVec 32 := 0#32
  let v125 : BitVec 1 := Scalar.cmpi .sgt c8_i32_68 c0_i32_71
  let v126 : BitVec 32 := Scalar.extui v125
  let c0_i32_72 : BitVec 32 := 0#32
  let v127 : BitVec 1 := Scalar.cmpi .slt c8_i32_68 c0_i32_72
  let v128 : BitVec 32 := Scalar.extui v127
  let v129 : BitVec 32 := Scalar.subi v126 v128
  let v130 : BitVec 1 := Scalar.cmpi .ne v124 v129
  let v131 : BitVec 32 := Scalar.remsi v118 c8_i32_68
  let c0_i32_73 : BitVec 32 := 0#32
  let v132 : BitVec 1 := Scalar.cmpi .ne v131 c0_i32_73
  let v133 : BitVec 1 := Scalar.andi v130 v132
  let v119 : BitVec 32 := Scalar.divsi v118 c8_i32_68
  let c1_i32_74 : BitVec 32 := 1#32
  let v134 : BitVec 32 := Scalar.subi v119 c1_i32_74
  let v135 : BitVec 32 := Scalar.select v133 v134 v119
  let c8_i32_75 : BitVec 32 := 8#32
  let v136 : BitVec 32 := Scalar.muli v135 c8_i32_75
  let c184_i32_76 : BitVec 32 := 184#32
  let v137 : BitVec 32 := Scalar.minsi v136 c184_i32_76
  v137

def k0_off141 (i : grid0.Coords) : Fin 2 → Nat :=
  let arg0 : BitVec 32 := BitVec.ofNat 32 (i 0).val
  let c2_i32 : BitVec 32 := 2#32
  let v3 : BitVec 32 := Scalar.subi arg0 c2_i32
  let c4_i32_64 : BitVec 32 := 4#32
  let v114 : BitVec 32 := Scalar.remsi v3 c4_i32_64
  let c1_i32_78 : BitVec 32 := 1#32
  ![v114.toNat, 1]
def k0_off142 (i : grid0.Coords) : Fin 5 → Nat :=
  let arg0 : BitVec 32 := BitVec.ofNat 32 (i 0).val
  let c2_i32 : BitVec 32 := 2#32
  let v3 : BitVec 32 := Scalar.subi arg0 c2_i32
  let c4_i32_64 : BitVec 32 := 4#32
  let v114 : BitVec 32 := Scalar.remsi v3 c4_i32_64
  let c1_i32_77 : BitVec 32 := 1#32
  let c0_i32_79 : BitVec 32 := 0#32
  let c0_i32_80 : BitVec 32 := 0#32
  let c0_i32_81 : BitVec 32 := 0#32
  ![v114.toNat, 1, 0, 0, 0]
def k0_off143 (i : grid0.Coords) (v118 : BitVec 32) : Fin 4 → Nat :=
  let arg0 : BitVec 32 := BitVec.ofNat 32 (i 0).val
  let c2_i32 : BitVec 32 := 2#32
  let v3 : BitVec 32 := Scalar.subi arg0 c2_i32
  let c16_i32_65 : BitVec 32 := 16#32
  let v115 : BitVec 32 := Scalar.muli v3 c16_i32_65
  let c1_i32_66 : BitVec 32 := 1#32
  let v116 : BitVec 32 := Scalar.addi v115 c1_i32_66
  let c0_i32_82 : BitVec 32 := 0#32
  let c0_i32_69 : BitVec 32 := 0#32
  let v120 : BitVec 1 := Scalar.cmpi .sgt v118 c0_i32_69
  let v121 : BitVec 32 := Scalar.extui v120
  let c0_i32_70 : BitVec 32 := 0#32
  let v122 : BitVec 1 := Scalar.cmpi .slt v118 c0_i32_70
  let v123 : BitVec 32 := Scalar.extui v122
  let v124 : BitVec 32 := Scalar.subi v121 v123
  let c8_i32_68 : BitVec 32 := 8#32
  let c0_i32_71 : BitVec 32 := 0#32
  let v125 : BitVec 1 := Scalar.cmpi .sgt c8_i32_68 c0_i32_71
  let v126 : BitVec 32 := Scalar.extui v125
  let c0_i32_72 : BitVec 32 := 0#32
  let v127 : BitVec 1 := Scalar.cmpi .slt c8_i32_68 c0_i32_72
  let v128 : BitVec 32 := Scalar.extui v127
  let v129 : BitVec 32 := Scalar.subi v126 v128
  let v130 : BitVec 1 := Scalar.cmpi .ne v124 v129
  let v131 : BitVec 32 := Scalar.remsi v118 c8_i32_68
  let c0_i32_73 : BitVec 32 := 0#32
  let v132 : BitVec 1 := Scalar.cmpi .ne v131 c0_i32_73
  let v133 : BitVec 1 := Scalar.andi v130 v132
  let v119 : BitVec 32 := Scalar.divsi v118 c8_i32_68
  let c1_i32_74 : BitVec 32 := 1#32
  let v134 : BitVec 32 := Scalar.subi v119 c1_i32_74
  let v135 : BitVec 32 := Scalar.select v133 v134 v119
  let c8_i32_75 : BitVec 32 := 8#32
  let v136 : BitVec 32 := Scalar.muli v135 c8_i32_75
  let c184_i32_76 : BitVec 32 := 184#32
  let v137 : BitVec 32 := Scalar.minsi v136 c184_i32_76
  let v138 : BitVec 32 := v137
  let c0_i32_83 : BitVec 32 := 0#32
  ![v116.toNat, 0, v138.toNat, 0]

def k0_chk36 (i : grid0.Coords) (v118 : BitVec 32) : Prop :=
  (∀ (k0_h3 : k0_cond3 i = 1#1), 8 ∣ (k0_mult36 v118).toNat) ∧
  (∀ (k0_h3 : k0_cond3 i = 1#1), ∀ a, (k0_off143 i v118) a + S1x3x40x224.size a ≤ S256x3x224x224.size a)
theorem k0_mult36_dvd : ∀ (i : grid0.Coords) (v118 : BitVec 32) (k0_hw36 : k0_chk36 i v118), ∀ (k0_h3 : k0_cond3 i = 1#1), 8 ∣ (k0_mult36 v118).toNat := fun i v118 k0_hw36 k0_h3 => k0_hw36.1 k0_h3
theorem k0_off143_inb : ∀ (i : grid0.Coords) (v118 : BitVec 32) (k0_hw36 : k0_chk36 i v118), ∀ (k0_h3 : k0_cond3 i = 1#1), ∀ a, (k0_off143 i v118) a + S1x3x40x224.size a ≤ S256x3x224x224.size a := fun i v118 k0_hw36 k0_h3 => k0_hw36.2 k0_h3

def k0_off144 (i : grid0.Coords) : Fin 2 → Nat :=
  let arg0 : BitVec 32 := BitVec.ofNat 32 (i 0).val
  let c2_i32 : BitVec 32 := 2#32
  let v3 : BitVec 32 := Scalar.subi arg0 c2_i32
  let c16_i32_84 : BitVec 32 := 16#32
  let v145 : BitVec 32 := Scalar.muli v3 c16_i32_84
  let c1_i32_85 : BitVec 32 := 1#32
  let v146 : BitVec 32 := Scalar.addi v145 c1_i32_85
  let v147 : Index := Scalar.indexCast v146
  let c0_86 : Index := 0#32
  ![v147.toNat, 0]
def k0_off145 (i : grid0.Coords) : Fin 2 → Nat :=
  let arg0 : BitVec 32 := BitVec.ofNat 32 (i 0).val
  let c2_i32 : BitVec 32 := 2#32
  let v3 : BitVec 32 := Scalar.subi arg0 c2_i32
  let c16_i32_84 : BitVec 32 := 16#32
  let v145 : BitVec 32 := Scalar.muli v3 c16_i32_84
  let c1_i32_85 : BitVec 32 := 1#32
  let v146 : BitVec 32 := Scalar.addi v145 c1_i32_85
  let v149 : Index := Scalar.indexCast v146
  let c1_87 : Index := 1#32
  ![v149.toNat, 1]
def k0_mult37 (v148 : BitVec 32) : BitVec 32 :=
  let c0_i32_89 : BitVec 32 := 0#32
  let v152 : BitVec 1 := Scalar.cmpi .sgt v148 c0_i32_89
  let v153 : BitVec 32 := Scalar.extui v152
  let c0_i32_90 : BitVec 32 := 0#32
  let v154 : BitVec 1 := Scalar.cmpi .slt v148 c0_i32_90
  let v155 : BitVec 32 := Scalar.extui v154
  let v156 : BitVec 32 := Scalar.subi v153 v155
  let c8_i32_88 : BitVec 32 := 8#32
  let c0_i32_91 : BitVec 32 := 0#32
  let v157 : BitVec 1 := Scalar.cmpi .sgt c8_i32_88 c0_i32_91
  let v158 : BitVec 32 := Scalar.extui v157
  let c0_i32_92 : BitVec 32 := 0#32
  let v159 : BitVec 1 := Scalar.cmpi .slt c8_i32_88 c0_i32_92
  let v160 : BitVec 32 := Scalar.extui v159
  let v161 : BitVec 32 := Scalar.subi v158 v160
  let v162 : BitVec 1 := Scalar.cmpi .ne v156 v161
  let v163 : BitVec 32 := Scalar.remsi v148 c8_i32_88
  let c0_i32_93 : BitVec 32 := 0#32
  let v164 : BitVec 1 := Scalar.cmpi .ne v163 c0_i32_93
  let v165 : BitVec 1 := Scalar.andi v162 v164
  let v151 : BitVec 32 := Scalar.divsi v148 c8_i32_88
  let c1_i32_94 : BitVec 32 := 1#32
  let v166 : BitVec 32 := Scalar.subi v151 c1_i32_94
  let v167 : BitVec 32 := Scalar.select v165 v166 v151
  let c8_i32_95 : BitVec 32 := 8#32
  let v168 : BitVec 32 := Scalar.muli v167 c8_i32_95
  let c184_i32_96 : BitVec 32 := 184#32
  let v169 : BitVec 32 := Scalar.minsi v168 c184_i32_96
  v169

def k0_chk37 (i : grid0.Coords) (v148 : BitVec 32) : Prop :=
  (∀ (k0_h3 : k0_cond3 i = 1#1), 8 ∣ (k0_mult37 v148).toNat)
theorem k0_mult37_dvd : ∀ (i : grid0.Coords) (v148 : BitVec 32) (k0_hw37 : k0_chk37 i v148), ∀ (k0_h3 : k0_cond3 i = 1#1), 8 ∣ (k0_mult37 v148).toNat := fun i v148 k0_hw37 k0_h3 => k0_hw37 k0_h3

def k0_off146 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v176 : Index := Scalar.indexCast v12
  let c1_101 : Index := 1#32
  let c0_102 : Index := 0#32
  let c0_103 : Index := 0#32
  let c0_104 : Index := 0#32
  ![v176.toNat, 1, 0, 0, 0]
def k0_off147 (i : grid0.Coords) : Fin 2 → Nat :=
  let arg0 : BitVec 32 := BitVec.ofNat 32 (i 0).val
  let c2_i32 : BitVec 32 := 2#32
  let v3 : BitVec 32 := Scalar.subi arg0 c2_i32
  let c16_i32_110 : BitVec 32 := 16#32
  let v185 : BitVec 32 := Scalar.muli v3 c16_i32_110
  let c1_i32_111 : BitVec 32 := 1#32
  let v186 : BitVec 32 := Scalar.addi v185 c1_i32_111
  let v187 : Index := Scalar.indexCast v186
  let c0_112 : Index := 0#32
  ![v187.toNat, 0]
def k0_mult38 (v188 : BitVec 32) : BitVec 32 :=
  let c0_i32_114 : BitVec 32 := 0#32
  let v190 : BitVec 1 := Scalar.cmpi .sgt v188 c0_i32_114
  let v191 : BitVec 32 := Scalar.extui v190
  let c0_i32_115 : BitVec 32 := 0#32
  let v192 : BitVec 1 := Scalar.cmpi .slt v188 c0_i32_115
  let v193 : BitVec 32 := Scalar.extui v192
  let v194 : BitVec 32 := Scalar.subi v191 v193
  let c8_i32_113 : BitVec 32 := 8#32
  let c0_i32_116 : BitVec 32 := 0#32
  let v195 : BitVec 1 := Scalar.cmpi .sgt c8_i32_113 c0_i32_116
  let v196 : BitVec 32 := Scalar.extui v195
  let c0_i32_117 : BitVec 32 := 0#32
  let v197 : BitVec 1 := Scalar.cmpi .slt c8_i32_113 c0_i32_117
  let v198 : BitVec 32 := Scalar.extui v197
  let v199 : BitVec 32 := Scalar.subi v196 v198
  let v200 : BitVec 1 := Scalar.cmpi .ne v194 v199
  let v201 : BitVec 32 := Scalar.remsi v188 c8_i32_113
  let c0_i32_118 : BitVec 32 := 0#32
  let v202 : BitVec 1 := Scalar.cmpi .ne v201 c0_i32_118
  let v203 : BitVec 1 := Scalar.andi v200 v202
  let v189 : BitVec 32 := Scalar.divsi v188 c8_i32_113
  let c1_i32_119 : BitVec 32 := 1#32
  let v204 : BitVec 32 := Scalar.subi v189 c1_i32_119
  let v205 : BitVec 32 := Scalar.select v203 v204 v189
  let c8_i32_120 : BitVec 32 := 8#32
  let v206 : BitVec 32 := Scalar.muli v205 c8_i32_120
  let c184_i32_121 : BitVec 32 := 184#32
  let v207 : BitVec 32 := Scalar.minsi v206 c184_i32_121
  v207

def k0_off148 (i : grid0.Coords) : Fin 2 → Nat :=
  let arg0 : BitVec 32 := BitVec.ofNat 32 (i 0).val
  let c2_i32 : BitVec 32 := 2#32
  let v3 : BitVec 32 := Scalar.subi arg0 c2_i32
  let c4_i32_109 : BitVec 32 := 4#32
  let v184 : BitVec 32 := Scalar.remsi v3 c4_i32_109
  let c1_i32_123 : BitVec 32 := 1#32
  ![v184.toNat, 1]
def k0_off149 (i : grid0.Coords) (v188 : BitVec 32) : Fin 4 → Nat :=
  let arg0 : BitVec 32 := BitVec.ofNat 32 (i 0).val
  let c2_i32 : BitVec 32 := 2#32
  let v3 : BitVec 32 := Scalar.subi arg0 c2_i32
  let c16_i32_110 : BitVec 32 := 16#32
  let v185 : BitVec 32 := Scalar.muli v3 c16_i32_110
  let c1_i32_111 : BitVec 32 := 1#32
  let v186 : BitVec 32 := Scalar.addi v185 c1_i32_111
  let c0_i32_124 : BitVec 32 := 0#32
  let c0_i32_114 : BitVec 32 := 0#32
  let v190 : BitVec 1 := Scalar.cmpi .sgt v188 c0_i32_114
  let v191 : BitVec 32 := Scalar.extui v190
  let c0_i32_115 : BitVec 32 := 0#32
  let v192 : BitVec 1 := Scalar.cmpi .slt v188 c0_i32_115
  let v193 : BitVec 32 := Scalar.extui v192
  let v194 : BitVec 32 := Scalar.subi v191 v193
  let c8_i32_113 : BitVec 32 := 8#32
  let c0_i32_116 : BitVec 32 := 0#32
  let v195 : BitVec 1 := Scalar.cmpi .sgt c8_i32_113 c0_i32_116
  let v196 : BitVec 32 := Scalar.extui v195
  let c0_i32_117 : BitVec 32 := 0#32
  let v197 : BitVec 1 := Scalar.cmpi .slt c8_i32_113 c0_i32_117
  let v198 : BitVec 32 := Scalar.extui v197
  let v199 : BitVec 32 := Scalar.subi v196 v198
  let v200 : BitVec 1 := Scalar.cmpi .ne v194 v199
  let v201 : BitVec 32 := Scalar.remsi v188 c8_i32_113
  let c0_i32_118 : BitVec 32 := 0#32
  let v202 : BitVec 1 := Scalar.cmpi .ne v201 c0_i32_118
  let v203 : BitVec 1 := Scalar.andi v200 v202
  let v189 : BitVec 32 := Scalar.divsi v188 c8_i32_113
  let c1_i32_119 : BitVec 32 := 1#32
  let v204 : BitVec 32 := Scalar.subi v189 c1_i32_119
  let v205 : BitVec 32 := Scalar.select v203 v204 v189
  let c8_i32_120 : BitVec 32 := 8#32
  let v206 : BitVec 32 := Scalar.muli v205 c8_i32_120
  let c184_i32_121 : BitVec 32 := 184#32
  let v207 : BitVec 32 := Scalar.minsi v206 c184_i32_121
  let v208 : BitVec 32 := v207
  let c0_i32_125 : BitVec 32 := 0#32
  ![v186.toNat, 0, v208.toNat, 0]

def k0_chk38 (i : grid0.Coords) (v188 : BitVec 32) : Prop :=
  (∀ (k0_h3 : k0_cond3 i = 1#1), 8 ∣ (k0_mult38 v188).toNat) ∧
  (∀ (k0_h3 : k0_cond3 i = 1#1), ∀ a, (k0_off149 i v188) a + S1x3x40x224.size a ≤ S256x3x224x224.size a)
theorem k0_mult38_dvd : ∀ (i : grid0.Coords) (v188 : BitVec 32) (k0_hw38 : k0_chk38 i v188), ∀ (k0_h3 : k0_cond3 i = 1#1), 8 ∣ (k0_mult38 v188).toNat := fun i v188 k0_hw38 k0_h3 => k0_hw38.1 k0_h3
theorem k0_off149_inb : ∀ (i : grid0.Coords) (v188 : BitVec 32) (k0_hw38 : k0_chk38 i v188), ∀ (k0_h3 : k0_cond3 i = 1#1), ∀ a, (k0_off149 i v188) a + S1x3x40x224.size a ≤ S256x3x224x224.size a := fun i v188 k0_hw38 k0_h3 => k0_hw38.2 k0_h3

def k0_off150 (i : grid0.Coords) : Fin 5 → Nat :=
  let arg0 : BitVec 32 := BitVec.ofNat 32 (i 0).val
  let c2_i32 : BitVec 32 := 2#32
  let v3 : BitVec 32 := Scalar.subi arg0 c2_i32
  let c4_i32_109 : BitVec 32 := 4#32
  let v184 : BitVec 32 := Scalar.remsi v3 c4_i32_109
  let c1_i32_122 : BitVec 32 := 1#32
  let c0_i32_126 : BitVec 32 := 0#32
  let c0_i32_127 : BitVec 32 := 0#32
  let c0_i32_128 : BitVec 32 := 0#32
  ![v184.toNat, 1, 0, 0, 0]
def k0_off151 (i : grid0.Coords) : Fin 2 → Nat :=
  let arg0 : BitVec 32 := BitVec.ofNat 32 (i 0).val
  let c2_i32 : BitVec 32 := 2#32
  let v3 : BitVec 32 := Scalar.subi arg0 c2_i32
  let c16_i32_130 : BitVec 32 := 16#32
  let v216 : BitVec 32 := Scalar.muli v3 c16_i32_130
  let c2_i32_131 : BitVec 32 := 2#32
  let v217 : BitVec 32 := Scalar.addi v216 c2_i32_131
  let v218 : Index := Scalar.indexCast v217
  let c0_132 : Index := 0#32
  ![v218.toNat, 0]
def k0_mult39 (v219 : BitVec 32) : BitVec 32 :=
  let c0_i32_134 : BitVec 32 := 0#32
  let v221 : BitVec 1 := Scalar.cmpi .sgt v219 c0_i32_134
  let v222 : BitVec 32 := Scalar.extui v221
  let c0_i32_135 : BitVec 32 := 0#32
  let v223 : BitVec 1 := Scalar.cmpi .slt v219 c0_i32_135
  let v224 : BitVec 32 := Scalar.extui v223
  let v225 : BitVec 32 := Scalar.subi v222 v224
  let c8_i32_133 : BitVec 32 := 8#32
  let c0_i32_136 : BitVec 32 := 0#32
  let v226 : BitVec 1 := Scalar.cmpi .sgt c8_i32_133 c0_i32_136
  let v227 : BitVec 32 := Scalar.extui v226
  let c0_i32_137 : BitVec 32 := 0#32
  let v228 : BitVec 1 := Scalar.cmpi .slt c8_i32_133 c0_i32_137
  let v229 : BitVec 32 := Scalar.extui v228
  let v230 : BitVec 32 := Scalar.subi v227 v229
  let v231 : BitVec 1 := Scalar.cmpi .ne v225 v230
  let v232 : BitVec 32 := Scalar.remsi v219 c8_i32_133
  let c0_i32_138 : BitVec 32 := 0#32
  let v233 : BitVec 1 := Scalar.cmpi .ne v232 c0_i32_138
  let v234 : BitVec 1 := Scalar.andi v231 v233
  let v220 : BitVec 32 := Scalar.divsi v219 c8_i32_133
  let c1_i32_139 : BitVec 32 := 1#32
  let v235 : BitVec 32 := Scalar.subi v220 c1_i32_139
  let v236 : BitVec 32 := Scalar.select v234 v235 v220
  let c8_i32_140 : BitVec 32 := 8#32
  let v237 : BitVec 32 := Scalar.muli v236 c8_i32_140
  let c184_i32_141 : BitVec 32 := 184#32
  let v238 : BitVec 32 := Scalar.minsi v237 c184_i32_141
  v238

def k0_off152 (i : grid0.Coords) : Fin 2 → Nat :=
  let arg0 : BitVec 32 := BitVec.ofNat 32 (i 0).val
  let c2_i32 : BitVec 32 := 2#32
  let v3 : BitVec 32 := Scalar.subi arg0 c2_i32
  let c4_i32_129 : BitVec 32 := 4#32
  let v215 : BitVec 32 := Scalar.remsi v3 c4_i32_129
  let c2_i32_143 : BitVec 32 := 2#32
  ![v215.toNat, 2]
def k0_off153 (i : grid0.Coords) : Fin 5 → Nat :=
  let arg0 : BitVec 32 := BitVec.ofNat 32 (i 0).val
  let c2_i32 : BitVec 32 := 2#32
  let v3 : BitVec 32 := Scalar.subi arg0 c2_i32
  let c4_i32_129 : BitVec 32 := 4#32
  let v215 : BitVec 32 := Scalar.remsi v3 c4_i32_129
  let c2_i32_142 : BitVec 32 := 2#32
  let c0_i32_144 : BitVec 32 := 0#32
  let c0_i32_145 : BitVec 32 := 0#32
  let c0_i32_146 : BitVec 32 := 0#32
  ![v215.toNat, 2, 0, 0, 0]
def k0_off154 (i : grid0.Coords) (v219 : BitVec 32) : Fin 4 → Nat :=
  let arg0 : BitVec 32 := BitVec.ofNat 32 (i 0).val
  let c2_i32 : BitVec 32 := 2#32
  let v3 : BitVec 32 := Scalar.subi arg0 c2_i32
  let c16_i32_130 : BitVec 32 := 16#32
  let v216 : BitVec 32 := Scalar.muli v3 c16_i32_130
  let c2_i32_131 : BitVec 32 := 2#32
  let v217 : BitVec 32 := Scalar.addi v216 c2_i32_131
  let c0_i32_147 : BitVec 32 := 0#32
  let c0_i32_134 : BitVec 32 := 0#32
  let v221 : BitVec 1 := Scalar.cmpi .sgt v219 c0_i32_134
  let v222 : BitVec 32 := Scalar.extui v221
  let c0_i32_135 : BitVec 32 := 0#32
  let v223 : BitVec 1 := Scalar.cmpi .slt v219 c0_i32_135
  let v224 : BitVec 32 := Scalar.extui v223
  let v225 : BitVec 32 := Scalar.subi v222 v224
  let c8_i32_133 : BitVec 32 := 8#32
  let c0_i32_136 : BitVec 32 := 0#32
  let v226 : BitVec 1 := Scalar.cmpi .sgt c8_i32_133 c0_i32_136
  let v227 : BitVec 32 := Scalar.extui v226
  let c0_i32_137 : BitVec 32 := 0#32
  let v228 : BitVec 1 := Scalar.cmpi .slt c8_i32_133 c0_i32_137
  let v229 : BitVec 32 := Scalar.extui v228
  let v230 : BitVec 32 := Scalar.subi v227 v229
  let v231 : BitVec 1 := Scalar.cmpi .ne v225 v230
  let v232 : BitVec 32 := Scalar.remsi v219 c8_i32_133
  let c0_i32_138 : BitVec 32 := 0#32
  let v233 : BitVec 1 := Scalar.cmpi .ne v232 c0_i32_138
  let v234 : BitVec 1 := Scalar.andi v231 v233
  let v220 : BitVec 32 := Scalar.divsi v219 c8_i32_133
  let c1_i32_139 : BitVec 32 := 1#32
  let v235 : BitVec 32 := Scalar.subi v220 c1_i32_139
  let v236 : BitVec 32 := Scalar.select v234 v235 v220
  let c8_i32_140 : BitVec 32 := 8#32
  let v237 : BitVec 32 := Scalar.muli v236 c8_i32_140
  let c184_i32_141 : BitVec 32 := 184#32
  let v238 : BitVec 32 := Scalar.minsi v237 c184_i32_141
  let v239 : BitVec 32 := v238
  let c0_i32_148 : BitVec 32 := 0#32
  ![v217.toNat, 0, v239.toNat, 0]

def k0_chk39 (i : grid0.Coords) (v219 : BitVec 32) : Prop :=
  (∀ (k0_h3 : k0_cond3 i = 1#1), 8 ∣ (k0_mult39 v219).toNat) ∧
  (∀ (k0_h3 : k0_cond3 i = 1#1), ∀ a, (k0_off154 i v219) a + S1x3x40x224.size a ≤ S256x3x224x224.size a)
theorem k0_mult39_dvd : ∀ (i : grid0.Coords) (v219 : BitVec 32) (k0_hw39 : k0_chk39 i v219), ∀ (k0_h3 : k0_cond3 i = 1#1), 8 ∣ (k0_mult39 v219).toNat := fun i v219 k0_hw39 k0_h3 => k0_hw39.1 k0_h3
theorem k0_off154_inb : ∀ (i : grid0.Coords) (v219 : BitVec 32) (k0_hw39 : k0_chk39 i v219), ∀ (k0_h3 : k0_cond3 i = 1#1), ∀ a, (k0_off154 i v219) a + S1x3x40x224.size a ≤ S256x3x224x224.size a := fun i v219 k0_hw39 k0_h3 => k0_hw39.2 k0_h3

def k0_off155 (i : grid0.Coords) : Fin 2 → Nat :=
  let arg0 : BitVec 32 := BitVec.ofNat 32 (i 0).val
  let c2_i32 : BitVec 32 := 2#32
  let v3 : BitVec 32 := Scalar.subi arg0 c2_i32
  let c16_i32_149 : BitVec 32 := 16#32
  let v246 : BitVec 32 := Scalar.muli v3 c16_i32_149
  let c2_i32_150 : BitVec 32 := 2#32
  let v247 : BitVec 32 := Scalar.addi v246 c2_i32_150
  let v248 : Index := Scalar.indexCast v247
  let c0_151 : Index := 0#32
  ![v248.toNat, 0]
def k0_off156 (i : grid0.Coords) : Fin 2 → Nat :=
  let arg0 : BitVec 32 := BitVec.ofNat 32 (i 0).val
  let c2_i32 : BitVec 32 := 2#32
  let v3 : BitVec 32 := Scalar.subi arg0 c2_i32
  let c16_i32_149 : BitVec 32 := 16#32
  let v246 : BitVec 32 := Scalar.muli v3 c16_i32_149
  let c2_i32_150 : BitVec 32 := 2#32
  let v247 : BitVec 32 := Scalar.addi v246 c2_i32_150
  let v250 : Index := Scalar.indexCast v247
  let c1_152 : Index := 1#32
  ![v250.toNat, 1]
def k0_mult40 (v249 : BitVec 32) : BitVec 32 :=
  let c0_i32_154 : BitVec 32 := 0#32
  let v253 : BitVec 1 := Scalar.cmpi .sgt v249 c0_i32_154
  let v254 : BitVec 32 := Scalar.extui v253
  let c0_i32_155 : BitVec 32 := 0#32
  let v255 : BitVec 1 := Scalar.cmpi .slt v249 c0_i32_155
  let v256 : BitVec 32 := Scalar.extui v255
  let v257 : BitVec 32 := Scalar.subi v254 v256
  let c8_i32_153 : BitVec 32 := 8#32
  let c0_i32_156 : BitVec 32 := 0#32
  let v258 : BitVec 1 := Scalar.cmpi .sgt c8_i32_153 c0_i32_156
  let v259 : BitVec 32 := Scalar.extui v258
  let c0_i32_157 : BitVec 32 := 0#32
  let v260 : BitVec 1 := Scalar.cmpi .slt c8_i32_153 c0_i32_157
  let v261 : BitVec 32 := Scalar.extui v260
  let v262 : BitVec 32 := Scalar.subi v259 v261
  let v263 : BitVec 1 := Scalar.cmpi .ne v257 v262
  let v264 : BitVec 32 := Scalar.remsi v249 c8_i32_153
  let c0_i32_158 : BitVec 32 := 0#32
  let v265 : BitVec 1 := Scalar.cmpi .ne v264 c0_i32_158
  let v266 : BitVec 1 := Scalar.andi v263 v265
  let v252 : BitVec 32 := Scalar.divsi v249 c8_i32_153
  let c1_i32_159 : BitVec 32 := 1#32
  let v267 : BitVec 32 := Scalar.subi v252 c1_i32_159
  let v268 : BitVec 32 := Scalar.select v266 v267 v252
  let c8_i32_160 : BitVec 32 := 8#32
  let v269 : BitVec 32 := Scalar.muli v268 c8_i32_160
  let c184_i32_161 : BitVec 32 := 184#32
  let v270 : BitVec 32 := Scalar.minsi v269 c184_i32_161
  v270

def k0_chk40 (i : grid0.Coords) (v249 : BitVec 32) : Prop :=
  (∀ (k0_h3 : k0_cond3 i = 1#1), 8 ∣ (k0_mult40 v249).toNat)
theorem k0_mult40_dvd : ∀ (i : grid0.Coords) (v249 : BitVec 32) (k0_hw40 : k0_chk40 i v249), ∀ (k0_h3 : k0_cond3 i = 1#1), 8 ∣ (k0_mult40 v249).toNat := fun i v249 k0_hw40 k0_h3 => k0_hw40 k0_h3

def k0_off157 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v277 : Index := Scalar.indexCast v12
  let c2 : Index := 2#32
  let c0_166 : Index := 0#32
  let c0_167 : Index := 0#32
  let c0_168 : Index := 0#32
  ![v277.toNat, 2, 0, 0, 0]
def k0_off158 (i : grid0.Coords) : Fin 2 → Nat :=
  let arg0 : BitVec 32 := BitVec.ofNat 32 (i 0).val
  let c2_i32 : BitVec 32 := 2#32
  let v3 : BitVec 32 := Scalar.subi arg0 c2_i32
  let c16_i32_174 : BitVec 32 := 16#32
  let v286 : BitVec 32 := Scalar.muli v3 c16_i32_174
  let c2_i32_175 : BitVec 32 := 2#32
  let v287 : BitVec 32 := Scalar.addi v286 c2_i32_175
  let v288 : Index := Scalar.indexCast v287
  let c0_176 : Index := 0#32
  ![v288.toNat, 0]
def k0_mult41 (v289 : BitVec 32) : BitVec 32 :=
  let c0_i32_178 : BitVec 32 := 0#32
  let v291 : BitVec 1 := Scalar.cmpi .sgt v289 c0_i32_178
  let v292 : BitVec 32 := Scalar.extui v291
  let c0_i32_179 : BitVec 32 := 0#32
  let v293 : BitVec 1 := Scalar.cmpi .slt v289 c0_i32_179
  let v294 : BitVec 32 := Scalar.extui v293
  let v295 : BitVec 32 := Scalar.subi v292 v294
  let c8_i32_177 : BitVec 32 := 8#32
  let c0_i32_180 : BitVec 32 := 0#32
  let v296 : BitVec 1 := Scalar.cmpi .sgt c8_i32_177 c0_i32_180
  let v297 : BitVec 32 := Scalar.extui v296
  let c0_i32_181 : BitVec 32 := 0#32
  let v298 : BitVec 1 := Scalar.cmpi .slt c8_i32_177 c0_i32_181
  let v299 : BitVec 32 := Scalar.extui v298
  let v300 : BitVec 32 := Scalar.subi v297 v299
  let v301 : BitVec 1 := Scalar.cmpi .ne v295 v300
  let v302 : BitVec 32 := Scalar.remsi v289 c8_i32_177
  let c0_i32_182 : BitVec 32 := 0#32
  let v303 : BitVec 1 := Scalar.cmpi .ne v302 c0_i32_182
  let v304 : BitVec 1 := Scalar.andi v301 v303
  let v290 : BitVec 32 := Scalar.divsi v289 c8_i32_177
  let c1_i32_183 : BitVec 32 := 1#32
  let v305 : BitVec 32 := Scalar.subi v290 c1_i32_183
  let v306 : BitVec 32 := Scalar.select v304 v305 v290
  let c8_i32_184 : BitVec 32 := 8#32
  let v307 : BitVec 32 := Scalar.muli v306 c8_i32_184
  let c184_i32_185 : BitVec 32 := 184#32
  let v308 : BitVec 32 := Scalar.minsi v307 c184_i32_185
  v308

def k0_off159 (i : grid0.Coords) : Fin 2 → Nat :=
  let arg0 : BitVec 32 := BitVec.ofNat 32 (i 0).val
  let c2_i32 : BitVec 32 := 2#32
  let v3 : BitVec 32 := Scalar.subi arg0 c2_i32
  let c4_i32_173 : BitVec 32 := 4#32
  let v285 : BitVec 32 := Scalar.remsi v3 c4_i32_173
  let c2_i32_187 : BitVec 32 := 2#32
  ![v285.toNat, 2]
def k0_off160 (i : grid0.Coords) (v289 : BitVec 32) : Fin 4 → Nat :=
  let arg0 : BitVec 32 := BitVec.ofNat 32 (i 0).val
  let c2_i32 : BitVec 32 := 2#32
  let v3 : BitVec 32 := Scalar.subi arg0 c2_i32
  let c16_i32_174 : BitVec 32 := 16#32
  let v286 : BitVec 32 := Scalar.muli v3 c16_i32_174
  let c2_i32_175 : BitVec 32 := 2#32
  let v287 : BitVec 32 := Scalar.addi v286 c2_i32_175
  let c0_i32_188 : BitVec 32 := 0#32
  let c0_i32_178 : BitVec 32 := 0#32
  let v291 : BitVec 1 := Scalar.cmpi .sgt v289 c0_i32_178
  let v292 : BitVec 32 := Scalar.extui v291
  let c0_i32_179 : BitVec 32 := 0#32
  let v293 : BitVec 1 := Scalar.cmpi .slt v289 c0_i32_179
  let v294 : BitVec 32 := Scalar.extui v293
  let v295 : BitVec 32 := Scalar.subi v292 v294
  let c8_i32_177 : BitVec 32 := 8#32
  let c0_i32_180 : BitVec 32 := 0#32
  let v296 : BitVec 1 := Scalar.cmpi .sgt c8_i32_177 c0_i32_180
  let v297 : BitVec 32 := Scalar.extui v296
  let c0_i32_181 : BitVec 32 := 0#32
  let v298 : BitVec 1 := Scalar.cmpi .slt c8_i32_177 c0_i32_181
  let v299 : BitVec 32 := Scalar.extui v298
  let v300 : BitVec 32 := Scalar.subi v297 v299
  let v301 : BitVec 1 := Scalar.cmpi .ne v295 v300
  let v302 : BitVec 32 := Scalar.remsi v289 c8_i32_177
  let c0_i32_182 : BitVec 32 := 0#32
  let v303 : BitVec 1 := Scalar.cmpi .ne v302 c0_i32_182
  let v304 : BitVec 1 := Scalar.andi v301 v303
  let v290 : BitVec 32 := Scalar.divsi v289 c8_i32_177
  let c1_i32_183 : BitVec 32 := 1#32
  let v305 : BitVec 32 := Scalar.subi v290 c1_i32_183
  let v306 : BitVec 32 := Scalar.select v304 v305 v290
  let c8_i32_184 : BitVec 32 := 8#32
  let v307 : BitVec 32 := Scalar.muli v306 c8_i32_184
  let c184_i32_185 : BitVec 32 := 184#32
  let v308 : BitVec 32 := Scalar.minsi v307 c184_i32_185
  let v309 : BitVec 32 := v308
  let c0_i32_189 : BitVec 32 := 0#32
  ![v287.toNat, 0, v309.toNat, 0]

def k0_chk41 (i : grid0.Coords) (v289 : BitVec 32) : Prop :=
  (∀ (k0_h3 : k0_cond3 i = 1#1), 8 ∣ (k0_mult41 v289).toNat) ∧
  (∀ (k0_h3 : k0_cond3 i = 1#1), ∀ a, (k0_off160 i v289) a + S1x3x40x224.size a ≤ S256x3x224x224.size a)
theorem k0_mult41_dvd : ∀ (i : grid0.Coords) (v289 : BitVec 32) (k0_hw41 : k0_chk41 i v289), ∀ (k0_h3 : k0_cond3 i = 1#1), 8 ∣ (k0_mult41 v289).toNat := fun i v289 k0_hw41 k0_h3 => k0_hw41.1 k0_h3
theorem k0_off160_inb : ∀ (i : grid0.Coords) (v289 : BitVec 32) (k0_hw41 : k0_chk41 i v289), ∀ (k0_h3 : k0_cond3 i = 1#1), ∀ a, (k0_off160 i v289) a + S1x3x40x224.size a ≤ S256x3x224x224.size a := fun i v289 k0_hw41 k0_h3 => k0_hw41.2 k0_h3

def k0_off161 (i : grid0.Coords) : Fin 5 → Nat :=
  let arg0 : BitVec 32 := BitVec.ofNat 32 (i 0).val
  let c2_i32 : BitVec 32 := 2#32
  let v3 : BitVec 32 := Scalar.subi arg0 c2_i32
  let c4_i32_173 : BitVec 32 := 4#32
  let v285 : BitVec 32 := Scalar.remsi v3 c4_i32_173
  let c2_i32_186 : BitVec 32 := 2#32
  let c0_i32_190 : BitVec 32 := 0#32
  let c0_i32_191 : BitVec 32 := 0#32
  let c0_i32_192 : BitVec 32 := 0#32
  ![v285.toNat, 2, 0, 0, 0]
def k0_off162 (i : grid0.Coords) : Fin 2 → Nat :=
  let arg0 : BitVec 32 := BitVec.ofNat 32 (i 0).val
  let c2_i32 : BitVec 32 := 2#32
  let v3 : BitVec 32 := Scalar.subi arg0 c2_i32
  let c16_i32_194 : BitVec 32 := 16#32
  let v317 : BitVec 32 := Scalar.muli v3 c16_i32_194
  let c3_i32 : BitVec 32 := 3#32
  let v318 : BitVec 32 := Scalar.addi v317 c3_i32
  let v319 : Index := Scalar.indexCast v318
  let c0_195 : Index := 0#32
  ![v319.toNat, 0]
def k0_mult42 (v320 : BitVec 32) : BitVec 32 :=
  let c0_i32_197 : BitVec 32 := 0#32
  let v322 : BitVec 1 := Scalar.cmpi .sgt v320 c0_i32_197
  let v323 : BitVec 32 := Scalar.extui v322
  let c0_i32_198 : BitVec 32 := 0#32
  let v324 : BitVec 1 := Scalar.cmpi .slt v320 c0_i32_198
  let v325 : BitVec 32 := Scalar.extui v324
  let v326 : BitVec 32 := Scalar.subi v323 v325
  let c8_i32_196 : BitVec 32 := 8#32
  let c0_i32_199 : BitVec 32 := 0#32
  let v327 : BitVec 1 := Scalar.cmpi .sgt c8_i32_196 c0_i32_199
  let v328 : BitVec 32 := Scalar.extui v327
  let c0_i32_200 : BitVec 32 := 0#32
  let v329 : BitVec 1 := Scalar.cmpi .slt c8_i32_196 c0_i32_200
  let v330 : BitVec 32 := Scalar.extui v329
  let v331 : BitVec 32 := Scalar.subi v328 v330
  let v332 : BitVec 1 := Scalar.cmpi .ne v326 v331
  let v333 : BitVec 32 := Scalar.remsi v320 c8_i32_196
  let c0_i32_201 : BitVec 32 := 0#32
  let v334 : BitVec 1 := Scalar.cmpi .ne v333 c0_i32_201
  let v335 : BitVec 1 := Scalar.andi v332 v334
  let v321 : BitVec 32 := Scalar.divsi v320 c8_i32_196
  let c1_i32_202 : BitVec 32 := 1#32
  let v336 : BitVec 32 := Scalar.subi v321 c1_i32_202
  let v337 : BitVec 32 := Scalar.select v335 v336 v321
  let c8_i32_203 : BitVec 32 := 8#32
  let v338 : BitVec 32 := Scalar.muli v337 c8_i32_203
  let c184_i32_204 : BitVec 32 := 184#32
  let v339 : BitVec 32 := Scalar.minsi v338 c184_i32_204
  v339

def k0_off163 (i : grid0.Coords) : Fin 2 → Nat :=
  let arg0 : BitVec 32 := BitVec.ofNat 32 (i 0).val
  let c2_i32 : BitVec 32 := 2#32
  let v3 : BitVec 32 := Scalar.subi arg0 c2_i32
  let c4_i32_193 : BitVec 32 := 4#32
  let v316 : BitVec 32 := Scalar.remsi v3 c4_i32_193
  let c3_i32_206 : BitVec 32 := 3#32
  ![v316.toNat, 3]
def k0_off164 (i : grid0.Coords) : Fin 5 → Nat :=
  let arg0 : BitVec 32 := BitVec.ofNat 32 (i 0).val
  let c2_i32 : BitVec 32 := 2#32
  let v3 : BitVec 32 := Scalar.subi arg0 c2_i32
  let c4_i32_193 : BitVec 32 := 4#32
  let v316 : BitVec 32 := Scalar.remsi v3 c4_i32_193
  let c3_i32_205 : BitVec 32 := 3#32
  let c0_i32_207 : BitVec 32 := 0#32
  let c0_i32_208 : BitVec 32 := 0#32
  let c0_i32_209 : BitVec 32 := 0#32
  ![v316.toNat, 3, 0, 0, 0]
def k0_off165 (i : grid0.Coords) (v320 : BitVec 32) : Fin 4 → Nat :=
  let arg0 : BitVec 32 := BitVec.ofNat 32 (i 0).val
  let c2_i32 : BitVec 32 := 2#32
  let v3 : BitVec 32 := Scalar.subi arg0 c2_i32
  let c16_i32_194 : BitVec 32 := 16#32
  let v317 : BitVec 32 := Scalar.muli v3 c16_i32_194
  let c3_i32 : BitVec 32 := 3#32
  let v318 : BitVec 32 := Scalar.addi v317 c3_i32
  let c0_i32_210 : BitVec 32 := 0#32
  let c0_i32_197 : BitVec 32 := 0#32
  let v322 : BitVec 1 := Scalar.cmpi .sgt v320 c0_i32_197
  let v323 : BitVec 32 := Scalar.extui v322
  let c0_i32_198 : BitVec 32 := 0#32
  let v324 : BitVec 1 := Scalar.cmpi .slt v320 c0_i32_198
  let v325 : BitVec 32 := Scalar.extui v324
  let v326 : BitVec 32 := Scalar.subi v323 v325
  let c8_i32_196 : BitVec 32 := 8#32
  let c0_i32_199 : BitVec 32 := 0#32
  let v327 : BitVec 1 := Scalar.cmpi .sgt c8_i32_196 c0_i32_199
  let v328 : BitVec 32 := Scalar.extui v327
  let c0_i32_200 : BitVec 32 := 0#32
  let v329 : BitVec 1 := Scalar.cmpi .slt c8_i32_196 c0_i32_200
  let v330 : BitVec 32 := Scalar.extui v329
  let v331 : BitVec 32 := Scalar.subi v328 v330
  let v332 : BitVec 1 := Scalar.cmpi .ne v326 v331
  let v333 : BitVec 32 := Scalar.remsi v320 c8_i32_196
  let c0_i32_201 : BitVec 32 := 0#32
  let v334 : BitVec 1 := Scalar.cmpi .ne v333 c0_i32_201
  let v335 : BitVec 1 := Scalar.andi v332 v334
  let v321 : BitVec 32 := Scalar.divsi v320 c8_i32_196
  let c1_i32_202 : BitVec 32 := 1#32
  let v336 : BitVec 32 := Scalar.subi v321 c1_i32_202
  let v337 : BitVec 32 := Scalar.select v335 v336 v321
  let c8_i32_203 : BitVec 32 := 8#32
  let v338 : BitVec 32 := Scalar.muli v337 c8_i32_203
  let c184_i32_204 : BitVec 32 := 184#32
  let v339 : BitVec 32 := Scalar.minsi v338 c184_i32_204
  let v340 : BitVec 32 := v339
  let c0_i32_211 : BitVec 32 := 0#32
  ![v318.toNat, 0, v340.toNat, 0]

def k0_chk42 (i : grid0.Coords) (v320 : BitVec 32) : Prop :=
  (∀ (k0_h3 : k0_cond3 i = 1#1), 8 ∣ (k0_mult42 v320).toNat) ∧
  (∀ (k0_h3 : k0_cond3 i = 1#1), ∀ a, (k0_off165 i v320) a + S1x3x40x224.size a ≤ S256x3x224x224.size a)
theorem k0_mult42_dvd : ∀ (i : grid0.Coords) (v320 : BitVec 32) (k0_hw42 : k0_chk42 i v320), ∀ (k0_h3 : k0_cond3 i = 1#1), 8 ∣ (k0_mult42 v320).toNat := fun i v320 k0_hw42 k0_h3 => k0_hw42.1 k0_h3
theorem k0_off165_inb : ∀ (i : grid0.Coords) (v320 : BitVec 32) (k0_hw42 : k0_chk42 i v320), ∀ (k0_h3 : k0_cond3 i = 1#1), ∀ a, (k0_off165 i v320) a + S1x3x40x224.size a ≤ S256x3x224x224.size a := fun i v320 k0_hw42 k0_h3 => k0_hw42.2 k0_h3

def k0_off166 (i : grid0.Coords) : Fin 2 → Nat :=
  let arg0 : BitVec 32 := BitVec.ofNat 32 (i 0).val
  let c2_i32 : BitVec 32 := 2#32
  let v3 : BitVec 32 := Scalar.subi arg0 c2_i32
  let c16_i32_212 : BitVec 32 := 16#32
  let v347 : BitVec 32 := Scalar.muli v3 c16_i32_212
  let c3_i32_213 : BitVec 32 := 3#32
  let v348 : BitVec 32 := Scalar.addi v347 c3_i32_213
  let v349 : Index := Scalar.indexCast v348
  let c0_214 : Index := 0#32
  ![v349.toNat, 0]
def k0_off167 (i : grid0.Coords) : Fin 2 → Nat :=
  let arg0 : BitVec 32 := BitVec.ofNat 32 (i 0).val
  let c2_i32 : BitVec 32 := 2#32
  let v3 : BitVec 32 := Scalar.subi arg0 c2_i32
  let c16_i32_212 : BitVec 32 := 16#32
  let v347 : BitVec 32 := Scalar.muli v3 c16_i32_212
  let c3_i32_213 : BitVec 32 := 3#32
  let v348 : BitVec 32 := Scalar.addi v347 c3_i32_213
  let v351 : Index := Scalar.indexCast v348
  let c1_215 : Index := 1#32
  ![v351.toNat, 1]
def k0_mult43 (v350 : BitVec 32) : BitVec 32 :=
  let c0_i32_217 : BitVec 32 := 0#32
  let v354 : BitVec 1 := Scalar.cmpi .sgt v350 c0_i32_217
  let v355 : BitVec 32 := Scalar.extui v354
  let c0_i32_218 : BitVec 32 := 0#32
  let v356 : BitVec 1 := Scalar.cmpi .slt v350 c0_i32_218
  let v357 : BitVec 32 := Scalar.extui v356
  let v358 : BitVec 32 := Scalar.subi v355 v357
  let c8_i32_216 : BitVec 32 := 8#32
  let c0_i32_219 : BitVec 32 := 0#32
  let v359 : BitVec 1 := Scalar.cmpi .sgt c8_i32_216 c0_i32_219
  let v360 : BitVec 32 := Scalar.extui v359
  let c0_i32_220 : BitVec 32 := 0#32
  let v361 : BitVec 1 := Scalar.cmpi .slt c8_i32_216 c0_i32_220
  let v362 : BitVec 32 := Scalar.extui v361
  let v363 : BitVec 32 := Scalar.subi v360 v362
  let v364 : BitVec 1 := Scalar.cmpi .ne v358 v363
  let v365 : BitVec 32 := Scalar.remsi v350 c8_i32_216
  let c0_i32_221 : BitVec 32 := 0#32
  let v366 : BitVec 1 := Scalar.cmpi .ne v365 c0_i32_221
  let v367 : BitVec 1 := Scalar.andi v364 v366
  let v353 : BitVec 32 := Scalar.divsi v350 c8_i32_216
  let c1_i32_222 : BitVec 32 := 1#32
  let v368 : BitVec 32 := Scalar.subi v353 c1_i32_222
  let v369 : BitVec 32 := Scalar.select v367 v368 v353
  let c8_i32_223 : BitVec 32 := 8#32
  let v370 : BitVec 32 := Scalar.muli v369 c8_i32_223
  let c184_i32_224 : BitVec 32 := 184#32
  let v371 : BitVec 32 := Scalar.minsi v370 c184_i32_224
  v371

def k0_chk43 (i : grid0.Coords) (v350 : BitVec 32) : Prop :=
  (∀ (k0_h3 : k0_cond3 i = 1#1), 8 ∣ (k0_mult43 v350).toNat)
theorem k0_mult43_dvd : ∀ (i : grid0.Coords) (v350 : BitVec 32) (k0_hw43 : k0_chk43 i v350), ∀ (k0_h3 : k0_cond3 i = 1#1), 8 ∣ (k0_mult43 v350).toNat := fun i v350 k0_hw43 k0_h3 => k0_hw43 k0_h3

def k0_off168 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v378 : Index := Scalar.indexCast v12
  let c3 : Index := 3#32
  let c0_229 : Index := 0#32
  let c0_230 : Index := 0#32
  let c0_231 : Index := 0#32
  ![v378.toNat, 3, 0, 0, 0]
def k0_off169 (i : grid0.Coords) : Fin 2 → Nat :=
  let arg0 : BitVec 32 := BitVec.ofNat 32 (i 0).val
  let c2_i32 : BitVec 32 := 2#32
  let v3 : BitVec 32 := Scalar.subi arg0 c2_i32
  let c16_i32_237 : BitVec 32 := 16#32
  let v387 : BitVec 32 := Scalar.muli v3 c16_i32_237
  let c3_i32_238 : BitVec 32 := 3#32
  let v388 : BitVec 32 := Scalar.addi v387 c3_i32_238
  let v389 : Index := Scalar.indexCast v388
  let c0_239 : Index := 0#32
  ![v389.toNat, 0]
def k0_mult44 (v390 : BitVec 32) : BitVec 32 :=
  let c0_i32_241 : BitVec 32 := 0#32
  let v392 : BitVec 1 := Scalar.cmpi .sgt v390 c0_i32_241
  let v393 : BitVec 32 := Scalar.extui v392
  let c0_i32_242 : BitVec 32 := 0#32
  let v394 : BitVec 1 := Scalar.cmpi .slt v390 c0_i32_242
  let v395 : BitVec 32 := Scalar.extui v394
  let v396 : BitVec 32 := Scalar.subi v393 v395
  let c8_i32_240 : BitVec 32 := 8#32
  let c0_i32_243 : BitVec 32 := 0#32
  let v397 : BitVec 1 := Scalar.cmpi .sgt c8_i32_240 c0_i32_243
  let v398 : BitVec 32 := Scalar.extui v397
  let c0_i32_244 : BitVec 32 := 0#32
  let v399 : BitVec 1 := Scalar.cmpi .slt c8_i32_240 c0_i32_244
  let v400 : BitVec 32 := Scalar.extui v399
  let v401 : BitVec 32 := Scalar.subi v398 v400
  let v402 : BitVec 1 := Scalar.cmpi .ne v396 v401
  let v403 : BitVec 32 := Scalar.remsi v390 c8_i32_240
  let c0_i32_245 : BitVec 32 := 0#32
  let v404 : BitVec 1 := Scalar.cmpi .ne v403 c0_i32_245
  let v405 : BitVec 1 := Scalar.andi v402 v404
  let v391 : BitVec 32 := Scalar.divsi v390 c8_i32_240
  let c1_i32_246 : BitVec 32 := 1#32
  let v406 : BitVec 32 := Scalar.subi v391 c1_i32_246
  let v407 : BitVec 32 := Scalar.select v405 v406 v391
  let c8_i32_247 : BitVec 32 := 8#32
  let v408 : BitVec 32 := Scalar.muli v407 c8_i32_247
  let c184_i32_248 : BitVec 32 := 184#32
  let v409 : BitVec 32 := Scalar.minsi v408 c184_i32_248
  v409

def k0_off170 (i : grid0.Coords) : Fin 2 → Nat :=
  let arg0 : BitVec 32 := BitVec.ofNat 32 (i 0).val
  let c2_i32 : BitVec 32 := 2#32
  let v3 : BitVec 32 := Scalar.subi arg0 c2_i32
  let c4_i32_236 : BitVec 32 := 4#32
  let v386 : BitVec 32 := Scalar.remsi v3 c4_i32_236
  let c3_i32_250 : BitVec 32 := 3#32
  ![v386.toNat, 3]
def k0_off171 (i : grid0.Coords) (v390 : BitVec 32) : Fin 4 → Nat :=
  let arg0 : BitVec 32 := BitVec.ofNat 32 (i 0).val
  let c2_i32 : BitVec 32 := 2#32
  let v3 : BitVec 32 := Scalar.subi arg0 c2_i32
  let c16_i32_237 : BitVec 32 := 16#32
  let v387 : BitVec 32 := Scalar.muli v3 c16_i32_237
  let c3_i32_238 : BitVec 32 := 3#32
  let v388 : BitVec 32 := Scalar.addi v387 c3_i32_238
  let c0_i32_251 : BitVec 32 := 0#32
  let c0_i32_241 : BitVec 32 := 0#32
  let v392 : BitVec 1 := Scalar.cmpi .sgt v390 c0_i32_241
  let v393 : BitVec 32 := Scalar.extui v392
  let c0_i32_242 : BitVec 32 := 0#32
  let v394 : BitVec 1 := Scalar.cmpi .slt v390 c0_i32_242
  let v395 : BitVec 32 := Scalar.extui v394
  let v396 : BitVec 32 := Scalar.subi v393 v395
  let c8_i32_240 : BitVec 32 := 8#32
  let c0_i32_243 : BitVec 32 := 0#32
  let v397 : BitVec 1 := Scalar.cmpi .sgt c8_i32_240 c0_i32_243
  let v398 : BitVec 32 := Scalar.extui v397
  let c0_i32_244 : BitVec 32 := 0#32
  let v399 : BitVec 1 := Scalar.cmpi .slt c8_i32_240 c0_i32_244
  let v400 : BitVec 32 := Scalar.extui v399
  let v401 : BitVec 32 := Scalar.subi v398 v400
  let v402 : BitVec 1 := Scalar.cmpi .ne v396 v401
  let v403 : BitVec 32 := Scalar.remsi v390 c8_i32_240
  let c0_i32_245 : BitVec 32 := 0#32
  let v404 : BitVec 1 := Scalar.cmpi .ne v403 c0_i32_245
  let v405 : BitVec 1 := Scalar.andi v402 v404
  let v391 : BitVec 32 := Scalar.divsi v390 c8_i32_240
  let c1_i32_246 : BitVec 32 := 1#32
  let v406 : BitVec 32 := Scalar.subi v391 c1_i32_246
  let v407 : BitVec 32 := Scalar.select v405 v406 v391
  let c8_i32_247 : BitVec 32 := 8#32
  let v408 : BitVec 32 := Scalar.muli v407 c8_i32_247
  let c184_i32_248 : BitVec 32 := 184#32
  let v409 : BitVec 32 := Scalar.minsi v408 c184_i32_248
  let v410 : BitVec 32 := v409
  let c0_i32_252 : BitVec 32 := 0#32
  ![v388.toNat, 0, v410.toNat, 0]

def k0_chk44 (i : grid0.Coords) (v390 : BitVec 32) : Prop :=
  (∀ (k0_h3 : k0_cond3 i = 1#1), 8 ∣ (k0_mult44 v390).toNat) ∧
  (∀ (k0_h3 : k0_cond3 i = 1#1), ∀ a, (k0_off171 i v390) a + S1x3x40x224.size a ≤ S256x3x224x224.size a)
theorem k0_mult44_dvd : ∀ (i : grid0.Coords) (v390 : BitVec 32) (k0_hw44 : k0_chk44 i v390), ∀ (k0_h3 : k0_cond3 i = 1#1), 8 ∣ (k0_mult44 v390).toNat := fun i v390 k0_hw44 k0_h3 => k0_hw44.1 k0_h3
theorem k0_off171_inb : ∀ (i : grid0.Coords) (v390 : BitVec 32) (k0_hw44 : k0_chk44 i v390), ∀ (k0_h3 : k0_cond3 i = 1#1), ∀ a, (k0_off171 i v390) a + S1x3x40x224.size a ≤ S256x3x224x224.size a := fun i v390 k0_hw44 k0_h3 => k0_hw44.2 k0_h3

def k0_off172 (i : grid0.Coords) : Fin 5 → Nat :=
  let arg0 : BitVec 32 := BitVec.ofNat 32 (i 0).val
  let c2_i32 : BitVec 32 := 2#32
  let v3 : BitVec 32 := Scalar.subi arg0 c2_i32
  let c4_i32_236 : BitVec 32 := 4#32
  let v386 : BitVec 32 := Scalar.remsi v3 c4_i32_236
  let c3_i32_249 : BitVec 32 := 3#32
  let c0_i32_253 : BitVec 32 := 0#32
  let c0_i32_254 : BitVec 32 := 0#32
  let c0_i32_255 : BitVec 32 := 0#32
  ![v386.toNat, 3, 0, 0, 0]
def k0_off173 (i : grid0.Coords) : Fin 2 → Nat :=
  let arg0 : BitVec 32 := BitVec.ofNat 32 (i 0).val
  let c2_i32 : BitVec 32 := 2#32
  let v3 : BitVec 32 := Scalar.subi arg0 c2_i32
  let c16_i32_257 : BitVec 32 := 16#32
  let v418 : BitVec 32 := Scalar.muli v3 c16_i32_257
  let c4_i32_258 : BitVec 32 := 4#32
  let v419 : BitVec 32 := Scalar.addi v418 c4_i32_258
  let v420 : Index := Scalar.indexCast v419
  let c0_259 : Index := 0#32
  ![v420.toNat, 0]
def k0_mult45 (v421 : BitVec 32) : BitVec 32 :=
  let c0_i32_261 : BitVec 32 := 0#32
  let v423 : BitVec 1 := Scalar.cmpi .sgt v421 c0_i32_261
  let v424 : BitVec 32 := Scalar.extui v423
  let c0_i32_262 : BitVec 32 := 0#32
  let v425 : BitVec 1 := Scalar.cmpi .slt v421 c0_i32_262
  let v426 : BitVec 32 := Scalar.extui v425
  let v427 : BitVec 32 := Scalar.subi v424 v426
  let c8_i32_260 : BitVec 32 := 8#32
  let c0_i32_263 : BitVec 32 := 0#32
  let v428 : BitVec 1 := Scalar.cmpi .sgt c8_i32_260 c0_i32_263
  let v429 : BitVec 32 := Scalar.extui v428
  let c0_i32_264 : BitVec 32 := 0#32
  let v430 : BitVec 1 := Scalar.cmpi .slt c8_i32_260 c0_i32_264
  let v431 : BitVec 32 := Scalar.extui v430
  let v432 : BitVec 32 := Scalar.subi v429 v431
  let v433 : BitVec 1 := Scalar.cmpi .ne v427 v432
  let v434 : BitVec 32 := Scalar.remsi v421 c8_i32_260
  let c0_i32_265 : BitVec 32 := 0#32
  let v435 : BitVec 1 := Scalar.cmpi .ne v434 c0_i32_265
  let v436 : BitVec 1 := Scalar.andi v433 v435
  let v422 : BitVec 32 := Scalar.divsi v421 c8_i32_260
  let c1_i32_266 : BitVec 32 := 1#32
  let v437 : BitVec 32 := Scalar.subi v422 c1_i32_266
  let v438 : BitVec 32 := Scalar.select v436 v437 v422
  let c8_i32_267 : BitVec 32 := 8#32
  let v439 : BitVec 32 := Scalar.muli v438 c8_i32_267
  let c184_i32_268 : BitVec 32 := 184#32
  let v440 : BitVec 32 := Scalar.minsi v439 c184_i32_268
  v440

def k0_off174 (i : grid0.Coords) : Fin 2 → Nat :=
  let arg0 : BitVec 32 := BitVec.ofNat 32 (i 0).val
  let c2_i32 : BitVec 32 := 2#32
  let v3 : BitVec 32 := Scalar.subi arg0 c2_i32
  let c4_i32_256 : BitVec 32 := 4#32
  let v417 : BitVec 32 := Scalar.remsi v3 c4_i32_256
  let c4_i32_270 : BitVec 32 := 4#32
  ![v417.toNat, 4]
def k0_off175 (i : grid0.Coords) : Fin 5 → Nat :=
  let arg0 : BitVec 32 := BitVec.ofNat 32 (i 0).val
  let c2_i32 : BitVec 32 := 2#32
  let v3 : BitVec 32 := Scalar.subi arg0 c2_i32
  let c4_i32_256 : BitVec 32 := 4#32
  let v417 : BitVec 32 := Scalar.remsi v3 c4_i32_256
  let c4_i32_269 : BitVec 32 := 4#32
  let c0_i32_271 : BitVec 32 := 0#32
  let c0_i32_272 : BitVec 32 := 0#32
  let c0_i32_273 : BitVec 32 := 0#32
  ![v417.toNat, 4, 0, 0, 0]
def k0_off176 (i : grid0.Coords) (v421 : BitVec 32) : Fin 4 → Nat :=
  let arg0 : BitVec 32 := BitVec.ofNat 32 (i 0).val
  let c2_i32 : BitVec 32 := 2#32
  let v3 : BitVec 32 := Scalar.subi arg0 c2_i32
  let c16_i32_257 : BitVec 32 := 16#32
  let v418 : BitVec 32 := Scalar.muli v3 c16_i32_257
  let c4_i32_258 : BitVec 32 := 4#32
  let v419 : BitVec 32 := Scalar.addi v418 c4_i32_258
  let c0_i32_274 : BitVec 32 := 0#32
  let c0_i32_261 : BitVec 32 := 0#32
  let v423 : BitVec 1 := Scalar.cmpi .sgt v421 c0_i32_261
  let v424 : BitVec 32 := Scalar.extui v423
  let c0_i32_262 : BitVec 32 := 0#32
  let v425 : BitVec 1 := Scalar.cmpi .slt v421 c0_i32_262
  let v426 : BitVec 32 := Scalar.extui v425
  let v427 : BitVec 32 := Scalar.subi v424 v426
  let c8_i32_260 : BitVec 32 := 8#32
  let c0_i32_263 : BitVec 32 := 0#32
  let v428 : BitVec 1 := Scalar.cmpi .sgt c8_i32_260 c0_i32_263
  let v429 : BitVec 32 := Scalar.extui v428
  let c0_i32_264 : BitVec 32 := 0#32
  let v430 : BitVec 1 := Scalar.cmpi .slt c8_i32_260 c0_i32_264
  let v431 : BitVec 32 := Scalar.extui v430
  let v432 : BitVec 32 := Scalar.subi v429 v431
  let v433 : BitVec 1 := Scalar.cmpi .ne v427 v432
  let v434 : BitVec 32 := Scalar.remsi v421 c8_i32_260
  let c0_i32_265 : BitVec 32 := 0#32
  let v435 : BitVec 1 := Scalar.cmpi .ne v434 c0_i32_265
  let v436 : BitVec 1 := Scalar.andi v433 v435
  let v422 : BitVec 32 := Scalar.divsi v421 c8_i32_260
  let c1_i32_266 : BitVec 32 := 1#32
  let v437 : BitVec 32 := Scalar.subi v422 c1_i32_266
  let v438 : BitVec 32 := Scalar.select v436 v437 v422
  let c8_i32_267 : BitVec 32 := 8#32
  let v439 : BitVec 32 := Scalar.muli v438 c8_i32_267
  let c184_i32_268 : BitVec 32 := 184#32
  let v440 : BitVec 32 := Scalar.minsi v439 c184_i32_268
  let v441 : BitVec 32 := v440
  let c0_i32_275 : BitVec 32 := 0#32
  ![v419.toNat, 0, v441.toNat, 0]

def k0_chk45 (i : grid0.Coords) (v421 : BitVec 32) : Prop :=
  (∀ (k0_h3 : k0_cond3 i = 1#1), 8 ∣ (k0_mult45 v421).toNat) ∧
  (∀ (k0_h3 : k0_cond3 i = 1#1), ∀ a, (k0_off176 i v421) a + S1x3x40x224.size a ≤ S256x3x224x224.size a)
theorem k0_mult45_dvd : ∀ (i : grid0.Coords) (v421 : BitVec 32) (k0_hw45 : k0_chk45 i v421), ∀ (k0_h3 : k0_cond3 i = 1#1), 8 ∣ (k0_mult45 v421).toNat := fun i v421 k0_hw45 k0_h3 => k0_hw45.1 k0_h3
theorem k0_off176_inb : ∀ (i : grid0.Coords) (v421 : BitVec 32) (k0_hw45 : k0_chk45 i v421), ∀ (k0_h3 : k0_cond3 i = 1#1), ∀ a, (k0_off176 i v421) a + S1x3x40x224.size a ≤ S256x3x224x224.size a := fun i v421 k0_hw45 k0_h3 => k0_hw45.2 k0_h3

def k0_off177 (i : grid0.Coords) : Fin 2 → Nat :=
  let arg0 : BitVec 32 := BitVec.ofNat 32 (i 0).val
  let c2_i32 : BitVec 32 := 2#32
  let v3 : BitVec 32 := Scalar.subi arg0 c2_i32
  let c16_i32_276 : BitVec 32 := 16#32
  let v448 : BitVec 32 := Scalar.muli v3 c16_i32_276
  let c4_i32_277 : BitVec 32 := 4#32
  let v449 : BitVec 32 := Scalar.addi v448 c4_i32_277
  let v450 : Index := Scalar.indexCast v449
  let c0_278 : Index := 0#32
  ![v450.toNat, 0]
def k0_off178 (i : grid0.Coords) : Fin 2 → Nat :=
  let arg0 : BitVec 32 := BitVec.ofNat 32 (i 0).val
  let c2_i32 : BitVec 32 := 2#32
  let v3 : BitVec 32 := Scalar.subi arg0 c2_i32
  let c16_i32_276 : BitVec 32 := 16#32
  let v448 : BitVec 32 := Scalar.muli v3 c16_i32_276
  let c4_i32_277 : BitVec 32 := 4#32
  let v449 : BitVec 32 := Scalar.addi v448 c4_i32_277
  let v452 : Index := Scalar.indexCast v449
  let c1_279 : Index := 1#32
  ![v452.toNat, 1]
def k0_mult46 (v451 : BitVec 32) : BitVec 32 :=
  let c0_i32_281 : BitVec 32 := 0#32
  let v455 : BitVec 1 := Scalar.cmpi .sgt v451 c0_i32_281
  let v456 : BitVec 32 := Scalar.extui v455
  let c0_i32_282 : BitVec 32 := 0#32
  let v457 : BitVec 1 := Scalar.cmpi .slt v451 c0_i32_282
  let v458 : BitVec 32 := Scalar.extui v457
  let v459 : BitVec 32 := Scalar.subi v456 v458
  let c8_i32_280 : BitVec 32 := 8#32
  let c0_i32_283 : BitVec 32 := 0#32
  let v460 : BitVec 1 := Scalar.cmpi .sgt c8_i32_280 c0_i32_283
  let v461 : BitVec 32 := Scalar.extui v460
  let c0_i32_284 : BitVec 32 := 0#32
  let v462 : BitVec 1 := Scalar.cmpi .slt c8_i32_280 c0_i32_284
  let v463 : BitVec 32 := Scalar.extui v462
  let v464 : BitVec 32 := Scalar.subi v461 v463
  let v465 : BitVec 1 := Scalar.cmpi .ne v459 v464
  let v466 : BitVec 32 := Scalar.remsi v451 c8_i32_280
  let c0_i32_285 : BitVec 32 := 0#32
  let v467 : BitVec 1 := Scalar.cmpi .ne v466 c0_i32_285
  let v468 : BitVec 1 := Scalar.andi v465 v467
  let v454 : BitVec 32 := Scalar.divsi v451 c8_i32_280
  let c1_i32_286 : BitVec 32 := 1#32
  let v469 : BitVec 32 := Scalar.subi v454 c1_i32_286
  let v470 : BitVec 32 := Scalar.select v468 v469 v454
  let c8_i32_287 : BitVec 32 := 8#32
  let v471 : BitVec 32 := Scalar.muli v470 c8_i32_287
  let c184_i32_288 : BitVec 32 := 184#32
  let v472 : BitVec 32 := Scalar.minsi v471 c184_i32_288
  v472

def k0_chk46 (i : grid0.Coords) (v451 : BitVec 32) : Prop :=
  (∀ (k0_h3 : k0_cond3 i = 1#1), 8 ∣ (k0_mult46 v451).toNat)
theorem k0_mult46_dvd : ∀ (i : grid0.Coords) (v451 : BitVec 32) (k0_hw46 : k0_chk46 i v451), ∀ (k0_h3 : k0_cond3 i = 1#1), 8 ∣ (k0_mult46 v451).toNat := fun i v451 k0_hw46 k0_h3 => k0_hw46 k0_h3

def k0_off179 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v479 : Index := Scalar.indexCast v12
  let c4 : Index := 4#32
  let c0_293 : Index := 0#32
  let c0_294 : Index := 0#32
  let c0_295 : Index := 0#32
  ![v479.toNat, 4, 0, 0, 0]
def k0_off180 (i : grid0.Coords) : Fin 2 → Nat :=
  let arg0 : BitVec 32 := BitVec.ofNat 32 (i 0).val
  let c2_i32 : BitVec 32 := 2#32
  let v3 : BitVec 32 := Scalar.subi arg0 c2_i32
  let c16_i32_301 : BitVec 32 := 16#32
  let v488 : BitVec 32 := Scalar.muli v3 c16_i32_301
  let c4_i32_302 : BitVec 32 := 4#32
  let v489 : BitVec 32 := Scalar.addi v488 c4_i32_302
  let v490 : Index := Scalar.indexCast v489
  let c0_303 : Index := 0#32
  ![v490.toNat, 0]
def k0_mult47 (v491 : BitVec 32) : BitVec 32 :=
  let c0_i32_305 : BitVec 32 := 0#32
  let v493 : BitVec 1 := Scalar.cmpi .sgt v491 c0_i32_305
  let v494 : BitVec 32 := Scalar.extui v493
  let c0_i32_306 : BitVec 32 := 0#32
  let v495 : BitVec 1 := Scalar.cmpi .slt v491 c0_i32_306
  let v496 : BitVec 32 := Scalar.extui v495
  let v497 : BitVec 32 := Scalar.subi v494 v496
  let c8_i32_304 : BitVec 32 := 8#32
  let c0_i32_307 : BitVec 32 := 0#32
  let v498 : BitVec 1 := Scalar.cmpi .sgt c8_i32_304 c0_i32_307
  let v499 : BitVec 32 := Scalar.extui v498
  let c0_i32_308 : BitVec 32 := 0#32
  let v500 : BitVec 1 := Scalar.cmpi .slt c8_i32_304 c0_i32_308
  let v501 : BitVec 32 := Scalar.extui v500
  let v502 : BitVec 32 := Scalar.subi v499 v501
  let v503 : BitVec 1 := Scalar.cmpi .ne v497 v502
  let v504 : BitVec 32 := Scalar.remsi v491 c8_i32_304
  let c0_i32_309 : BitVec 32 := 0#32
  let v505 : BitVec 1 := Scalar.cmpi .ne v504 c0_i32_309
  let v506 : BitVec 1 := Scalar.andi v503 v505
  let v492 : BitVec 32 := Scalar.divsi v491 c8_i32_304
  let c1_i32_310 : BitVec 32 := 1#32
  let v507 : BitVec 32 := Scalar.subi v492 c1_i32_310
  let v508 : BitVec 32 := Scalar.select v506 v507 v492
  let c8_i32_311 : BitVec 32 := 8#32
  let v509 : BitVec 32 := Scalar.muli v508 c8_i32_311
  let c184_i32_312 : BitVec 32 := 184#32
  let v510 : BitVec 32 := Scalar.minsi v509 c184_i32_312
  v510

def k0_off181 (i : grid0.Coords) : Fin 2 → Nat :=
  let arg0 : BitVec 32 := BitVec.ofNat 32 (i 0).val
  let c2_i32 : BitVec 32 := 2#32
  let v3 : BitVec 32 := Scalar.subi arg0 c2_i32
  let c4_i32_300 : BitVec 32 := 4#32
  let v487 : BitVec 32 := Scalar.remsi v3 c4_i32_300
  let c4_i32_314 : BitVec 32 := 4#32
  ![v487.toNat, 4]
def k0_off182 (i : grid0.Coords) (v491 : BitVec 32) : Fin 4 → Nat :=
  let arg0 : BitVec 32 := BitVec.ofNat 32 (i 0).val
  let c2_i32 : BitVec 32 := 2#32
  let v3 : BitVec 32 := Scalar.subi arg0 c2_i32
  let c16_i32_301 : BitVec 32 := 16#32
  let v488 : BitVec 32 := Scalar.muli v3 c16_i32_301
  let c4_i32_302 : BitVec 32 := 4#32
  let v489 : BitVec 32 := Scalar.addi v488 c4_i32_302
  let c0_i32_315 : BitVec 32 := 0#32
  let c0_i32_305 : BitVec 32 := 0#32
  let v493 : BitVec 1 := Scalar.cmpi .sgt v491 c0_i32_305
  let v494 : BitVec 32 := Scalar.extui v493
  let c0_i32_306 : BitVec 32 := 0#32
  let v495 : BitVec 1 := Scalar.cmpi .slt v491 c0_i32_306
  let v496 : BitVec 32 := Scalar.extui v495
  let v497 : BitVec 32 := Scalar.subi v494 v496
  let c8_i32_304 : BitVec 32 := 8#32
  let c0_i32_307 : BitVec 32 := 0#32
  let v498 : BitVec 1 := Scalar.cmpi .sgt c8_i32_304 c0_i32_307
  let v499 : BitVec 32 := Scalar.extui v498
  let c0_i32_308 : BitVec 32 := 0#32
  let v500 : BitVec 1 := Scalar.cmpi .slt c8_i32_304 c0_i32_308
  let v501 : BitVec 32 := Scalar.extui v500
  let v502 : BitVec 32 := Scalar.subi v499 v501
  let v503 : BitVec 1 := Scalar.cmpi .ne v497 v502
  let v504 : BitVec 32 := Scalar.remsi v491 c8_i32_304
  let c0_i32_309 : BitVec 32 := 0#32
  let v505 : BitVec 1 := Scalar.cmpi .ne v504 c0_i32_309
  let v506 : BitVec 1 := Scalar.andi v503 v505
  let v492 : BitVec 32 := Scalar.divsi v491 c8_i32_304
  let c1_i32_310 : BitVec 32 := 1#32
  let v507 : BitVec 32 := Scalar.subi v492 c1_i32_310
  let v508 : BitVec 32 := Scalar.select v506 v507 v492
  let c8_i32_311 : BitVec 32 := 8#32
  let v509 : BitVec 32 := Scalar.muli v508 c8_i32_311
  let c184_i32_312 : BitVec 32 := 184#32
  let v510 : BitVec 32 := Scalar.minsi v509 c184_i32_312
  let v511 : BitVec 32 := v510
  let c0_i32_316 : BitVec 32 := 0#32
  ![v489.toNat, 0, v511.toNat, 0]

def k0_chk47 (i : grid0.Coords) (v491 : BitVec 32) : Prop :=
  (∀ (k0_h3 : k0_cond3 i = 1#1), 8 ∣ (k0_mult47 v491).toNat) ∧
  (∀ (k0_h3 : k0_cond3 i = 1#1), ∀ a, (k0_off182 i v491) a + S1x3x40x224.size a ≤ S256x3x224x224.size a)
theorem k0_mult47_dvd : ∀ (i : grid0.Coords) (v491 : BitVec 32) (k0_hw47 : k0_chk47 i v491), ∀ (k0_h3 : k0_cond3 i = 1#1), 8 ∣ (k0_mult47 v491).toNat := fun i v491 k0_hw47 k0_h3 => k0_hw47.1 k0_h3
theorem k0_off182_inb : ∀ (i : grid0.Coords) (v491 : BitVec 32) (k0_hw47 : k0_chk47 i v491), ∀ (k0_h3 : k0_cond3 i = 1#1), ∀ a, (k0_off182 i v491) a + S1x3x40x224.size a ≤ S256x3x224x224.size a := fun i v491 k0_hw47 k0_h3 => k0_hw47.2 k0_h3

def k0_off183 (i : grid0.Coords) : Fin 5 → Nat :=
  let arg0 : BitVec 32 := BitVec.ofNat 32 (i 0).val
  let c2_i32 : BitVec 32 := 2#32
  let v3 : BitVec 32 := Scalar.subi arg0 c2_i32
  let c4_i32_300 : BitVec 32 := 4#32
  let v487 : BitVec 32 := Scalar.remsi v3 c4_i32_300
  let c4_i32_313 : BitVec 32 := 4#32
  let c0_i32_317 : BitVec 32 := 0#32
  let c0_i32_318 : BitVec 32 := 0#32
  let c0_i32_319 : BitVec 32 := 0#32
  ![v487.toNat, 4, 0, 0, 0]
def k0_off184 (i : grid0.Coords) : Fin 2 → Nat :=
  let arg0 : BitVec 32 := BitVec.ofNat 32 (i 0).val
  let c2_i32 : BitVec 32 := 2#32
  let v3 : BitVec 32 := Scalar.subi arg0 c2_i32
  let c16_i32_321 : BitVec 32 := 16#32
  let v519 : BitVec 32 := Scalar.muli v3 c16_i32_321
  let c5_i32 : BitVec 32 := 5#32
  let v520 : BitVec 32 := Scalar.addi v519 c5_i32
  let v521 : Index := Scalar.indexCast v520
  let c0_322 : Index := 0#32
  ![v521.toNat, 0]
def k0_mult48 (v522 : BitVec 32) : BitVec 32 :=
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c8_i32_323 : BitVec 32 := 8#32
  let c0_i32_326 : BitVec 32 := 0#32
  let v529 : BitVec 1 := Scalar.cmpi .sgt c8_i32_323 c0_i32_326
  let v530 : BitVec 32 := Scalar.extui v529
  let c0_i32_327 : BitVec 32 := 0#32
  let v531 : BitVec 1 := Scalar.cmpi .slt c8_i32_323 c0_i32_327
  let v532 : BitVec 32 := Scalar.extui v531
  let v533 : BitVec 32 := Scalar.subi v530 v532
  let v534 : BitVec 1 := Scalar.cmpi .ne v528 v533
  let v535 : BitVec 32 := Scalar.remsi v522 c8_i32_323
  let c0_i32_328 : BitVec 32 := 0#32
  let v536 : BitVec 1 := Scalar.cmpi .ne v535 c0_i32_328
  let v537 : BitVec 1 := Scalar.andi v534 v536
  let v523 : BitVec 32 := Scalar.divsi v522 c8_i32_323
  let c1_i32_329 : BitVec 32 := 1#32
  let v538 : BitVec 32 := Scalar.subi v523 c1_i32_329
  let v539 : BitVec 32 := Scalar.select v537 v538 v523
  let c8_i32_330 : BitVec 32 := 8#32
  let v540 : BitVec 32 := Scalar.muli v539 c8_i32_330
  let c184_i32_331 : BitVec 32 := 184#32
  let v541 : BitVec 32 := Scalar.minsi v540 c184_i32_331
  v541

def k0_off185 (i : grid0.Coords) : Fin 2 → Nat :=
  let arg0 : BitVec 32 := BitVec.ofNat 32 (i 0).val
  let c2_i32 : BitVec 32 := 2#32
  let v3 : BitVec 32 := Scalar.subi arg0 c2_i32
  let c4_i32_320 : BitVec 32 := 4#32
  let v518 : BitVec 32 := Scalar.remsi v3 c4_i32_320
  let c5_i32_333 : BitVec 32 := 5#32
  ![v518.toNat, 5]
def k0_off186 (i : grid0.Coords) : Fin 5 → Nat :=
  let arg0 : BitVec 32 := BitVec.ofNat 32 (i 0).val
  let c2_i32 : BitVec 32 := 2#32
  let v3 : BitVec 32 := Scalar.subi arg0 c2_i32
  let c4_i32_320 : BitVec 32 := 4#32
  let v518 : BitVec 32 := Scalar.remsi v3 c4_i32_320
  let c5_i32_332 : BitVec 32 := 5#32
  let c0_i32_334 : BitVec 32 := 0#32
  let c0_i32_335 : BitVec 32 := 0#32
  let c0_i32_336 : BitVec 32 := 0#32
  ![v518.toNat, 5, 0, 0, 0]
def k0_off187 (i : grid0.Coords) (v522 : BitVec 32) : Fin 4 → Nat :=
  let arg0 : BitVec 32 := BitVec.ofNat 32 (i 0).val
  let c2_i32 : BitVec 32 := 2#32
  let v3 : BitVec 32 := Scalar.subi arg0 c2_i32
  let c16_i32_321 : BitVec 32 := 16#32
  let v519 : BitVec 32 := Scalar.muli v3 c16_i32_321
  let c5_i32 : BitVec 32 := 5#32
  let v520 : BitVec 32 := Scalar.addi v519 c5_i32
  let c0_i32_337 : BitVec 32 := 0#32
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c8_i32_323 : BitVec 32 := 8#32
  let c0_i32_326 : BitVec 32 := 0#32
  let v529 : BitVec 1 := Scalar.cmpi .sgt c8_i32_323 c0_i32_326
  let v530 : BitVec 32 := Scalar.extui v529
  let c0_i32_327 : BitVec 32 := 0#32
  let v531 : BitVec 1 := Scalar.cmpi .slt c8_i32_323 c0_i32_327
  let v532 : BitVec 32 := Scalar.extui v531
  let v533 : BitVec 32 := Scalar.subi v530 v532
  let v534 : BitVec 1 := Scalar.cmpi .ne v528 v533
  let v535 : BitVec 32 := Scalar.remsi v522 c8_i32_323
  let c0_i32_328 : BitVec 32 := 0#32
  let v536 : BitVec 1 := Scalar.cmpi .ne v535 c0_i32_328
  let v537 : BitVec 1 := Scalar.andi v534 v536
  let v523 : BitVec 32 := Scalar.divsi v522 c8_i32_323
  let c1_i32_329 : BitVec 32 := 1#32
  let v538 : BitVec 32 := Scalar.subi v523 c1_i32_329
  let v539 : BitVec 32 := Scalar.select v537 v538 v523
  let c8_i32_330 : BitVec 32 := 8#32
  let v540 : BitVec 32 := Scalar.muli v539 c8_i32_330
  let c184_i32_331 : BitVec 32 := 184#32
  let v541 : BitVec 32 := Scalar.minsi v540 c184_i32_331
  let v542 : BitVec 32 := v541
  let c0_i32_338 : BitVec 32 := 0#32
  ![v520.toNat, 0, v542.toNat, 0]

def k0_chk48 (i : grid0.Coords) (v522 : BitVec 32) : Prop :=
  (∀ (k0_h3 : k0_cond3 i = 1#1), 8 ∣ (k0_mult48 v522).toNat) ∧
  (∀ (k0_h3 : k0_cond3 i = 1#1), ∀ a, (k0_off187 i v522) a + S1x3x40x224.size a ≤ S256x3x224x224.size a)
theorem k0_mult48_dvd : ∀ (i : grid0.Coords) (v522 : BitVec 32) (k0_hw48 : k0_chk48 i v522), ∀ (k0_h3 : k0_cond3 i = 1#1), 8 ∣ (k0_mult48 v522).toNat := fun i v522 k0_hw48 k0_h3 => k0_hw48.1 k0_h3
theorem k0_off187_inb : ∀ (i : grid0.Coords) (v522 : BitVec 32) (k0_hw48 : k0_chk48 i v522), ∀ (k0_h3 : k0_cond3 i = 1#1), ∀ a, (k0_off187 i v522) a + S1x3x40x224.size a ≤ S256x3x224x224.size a := fun i v522 k0_hw48 k0_h3 => k0_hw48.2 k0_h3

def k0_off188 (i : grid0.Coords) : Fin 2 → Nat :=
  let arg0 : BitVec 32 := BitVec.ofNat 32 (i 0).val
  let c2_i32 : BitVec 32 := 2#32
  let v3 : BitVec 32 := Scalar.subi arg0 c2_i32
  let c16_i32_339 : BitVec 32 := 16#32
  let v549 : BitVec 32 := Scalar.muli v3 c16_i32_339
  let c5_i32_340 : BitVec 32 := 5#32
  let v550 : BitVec 32 := Scalar.addi v549 c5_i32_340
  let v551 : Index := Scalar.indexCast v550
  let c0_341 : Index := 0#32
  ![v551.toNat, 0]
def k0_off189 (i : grid0.Coords) : Fin 2 → Nat :=
  let arg0 : BitVec 32 := BitVec.ofNat 32 (i 0).val
  let c2_i32 : BitVec 32 := 2#32
  let v3 : BitVec 32 := Scalar.subi arg0 c2_i32
  let c16_i32_339 : BitVec 32 := 16#32
  let v549 : BitVec 32 := Scalar.muli v3 c16_i32_339
  let c5_i32_340 : BitVec 32 := 5#32
  let v550 : BitVec 32 := Scalar.addi v549 c5_i32_340
  let v553 : Index := Scalar.indexCast v550
  let c1_342 : Index := 1#32
  ![v553.toNat, 1]
def k0_mult49 (v552 : BitVec 32) : BitVec 32 :=
  let c0_i32_344 : BitVec 32 := 0#32
  let v556 : BitVec 1 := Scalar.cmpi .sgt v552 c0_i32_344
  let v557 : BitVec 32 := Scalar.extui v556
  let c0_i32_345 : BitVec 32 := 0#32
  let v558 : BitVec 1 := Scalar.cmpi .slt v552 c0_i32_345
  let v559 : BitVec 32 := Scalar.extui v558
  let v560 : BitVec 32 := Scalar.subi v557 v559
  let c8_i32_343 : BitVec 32 := 8#32
  let c0_i32_346 : BitVec 32 := 0#32
  let v561 : BitVec 1 := Scalar.cmpi .sgt c8_i32_343 c0_i32_346
  let v562 : BitVec 32 := Scalar.extui v561
  let c0_i32_347 : BitVec 32 := 0#32
  let v563 : BitVec 1 := Scalar.cmpi .slt c8_i32_343 c0_i32_347
  let v564 : BitVec 32 := Scalar.extui v563
  let v565 : BitVec 32 := Scalar.subi v562 v564
  let v566 : BitVec 1 := Scalar.cmpi .ne v560 v565
  let v567 : BitVec 32 := Scalar.remsi v552 c8_i32_343
  let c0_i32_348 : BitVec 32 := 0#32
  let v568 : BitVec 1 := Scalar.cmpi .ne v567 c0_i32_348
  let v569 : BitVec 1 := Scalar.andi v566 v568
  let v555 : BitVec 32 := Scalar.divsi v552 c8_i32_343
  let c1_i32_349 : BitVec 32 := 1#32
  let v570 : BitVec 32 := Scalar.subi v555 c1_i32_349
  let v571 : BitVec 32 := Scalar.select v569 v570 v555
  let c8_i32_350 : BitVec 32 := 8#32
  let v572 : BitVec 32 := Scalar.muli v571 c8_i32_350
  let c184_i32_351 : BitVec 32 := 184#32
  let v573 : BitVec 32 := Scalar.minsi v572 c184_i32_351
  v573

def k0_chk49 (i : grid0.Coords) (v552 : BitVec 32) : Prop :=
  (∀ (k0_h3 : k0_cond3 i = 1#1), 8 ∣ (k0_mult49 v552).toNat)
theorem k0_mult49_dvd : ∀ (i : grid0.Coords) (v552 : BitVec 32) (k0_hw49 : k0_chk49 i v552), ∀ (k0_h3 : k0_cond3 i = 1#1), 8 ∣ (k0_mult49 v552).toNat := fun i v552 k0_hw49 k0_h3 => k0_hw49 k0_h3

def k0_off190 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v580 : Index := Scalar.indexCast v12
  let c5 : Index := 5#32
  let c0_356 : Index := 0#32
  let c0_357 : Index := 0#32
  let c0_358 : Index := 0#32
  ![v580.toNat, 5, 0, 0, 0]
def k0_off191 (i : grid0.Coords) : Fin 2 → Nat :=
  let arg0 : BitVec 32 := BitVec.ofNat 32 (i 0).val
  let c2_i32 : BitVec 32 := 2#32
  let v3 : BitVec 32 := Scalar.subi arg0 c2_i32
  let c16_i32_364 : BitVec 32 := 16#32
  let v589 : BitVec 32 := Scalar.muli v3 c16_i32_364
  let c5_i32_365 : BitVec 32 := 5#32
  let v590 : BitVec 32 := Scalar.addi v589 c5_i32_365
  let v591 : Index := Scalar.indexCast v590
  let c0_366 : Index := 0#32
  ![v591.toNat, 0]
def k0_mult50 (v592 : BitVec 32) : BitVec 32 :=
  let c0_i32_368 : BitVec 32 := 0#32
  let v594 : BitVec 1 := Scalar.cmpi .sgt v592 c0_i32_368
  let v595 : BitVec 32 := Scalar.extui v594
  let c0_i32_369 : BitVec 32 := 0#32
  let v596 : BitVec 1 := Scalar.cmpi .slt v592 c0_i32_369
  let v597 : BitVec 32 := Scalar.extui v596
  let v598 : BitVec 32 := Scalar.subi v595 v597
  let c8_i32_367 : BitVec 32 := 8#32
  let c0_i32_370 : BitVec 32 := 0#32
  let v599 : BitVec 1 := Scalar.cmpi .sgt c8_i32_367 c0_i32_370
  let v600 : BitVec 32 := Scalar.extui v599
  let c0_i32_371 : BitVec 32 := 0#32
  let v601 : BitVec 1 := Scalar.cmpi .slt c8_i32_367 c0_i32_371
  let v602 : BitVec 32 := Scalar.extui v601
  let v603 : BitVec 32 := Scalar.subi v600 v602
  let v604 : BitVec 1 := Scalar.cmpi .ne v598 v603
  let v605 : BitVec 32 := Scalar.remsi v592 c8_i32_367
  let c0_i32_372 : BitVec 32 := 0#32
  let v606 : BitVec 1 := Scalar.cmpi .ne v605 c0_i32_372
  let v607 : BitVec 1 := Scalar.andi v604 v606
  let v593 : BitVec 32 := Scalar.divsi v592 c8_i32_367
  let c1_i32_373 : BitVec 32 := 1#32
  let v608 : BitVec 32 := Scalar.subi v593 c1_i32_373
  let v609 : BitVec 32 := Scalar.select v607 v608 v593
  let c8_i32_374 : BitVec 32 := 8#32
  let v610 : BitVec 32 := Scalar.muli v609 c8_i32_374
  let c184_i32_375 : BitVec 32 := 184#32
  let v611 : BitVec 32 := Scalar.minsi v610 c184_i32_375
  v611

def k0_off192 (i : grid0.Coords) : Fin 2 → Nat :=
  let arg0 : BitVec 32 := BitVec.ofNat 32 (i 0).val
  let c2_i32 : BitVec 32 := 2#32
  let v3 : BitVec 32 := Scalar.subi arg0 c2_i32
  let c4_i32_363 : BitVec 32 := 4#32
  let v588 : BitVec 32 := Scalar.remsi v3 c4_i32_363
  let c5_i32_377 : BitVec 32 := 5#32
  ![v588.toNat, 5]
def k0_off193 (i : grid0.Coords) (v592 : BitVec 32) : Fin 4 → Nat :=
  let arg0 : BitVec 32 := BitVec.ofNat 32 (i 0).val
  let c2_i32 : BitVec 32 := 2#32
  let v3 : BitVec 32 := Scalar.subi arg0 c2_i32
  let c16_i32_364 : BitVec 32 := 16#32
  let v589 : BitVec 32 := Scalar.muli v3 c16_i32_364
  let c5_i32_365 : BitVec 32 := 5#32
  let v590 : BitVec 32 := Scalar.addi v589 c5_i32_365
  let c0_i32_378 : BitVec 32 := 0#32
  let c0_i32_368 : BitVec 32 := 0#32
  let v594 : BitVec 1 := Scalar.cmpi .sgt v592 c0_i32_368
  let v595 : BitVec 32 := Scalar.extui v594
  let c0_i32_369 : BitVec 32 := 0#32
  let v596 : BitVec 1 := Scalar.cmpi .slt v592 c0_i32_369
  let v597 : BitVec 32 := Scalar.extui v596
  let v598 : BitVec 32 := Scalar.subi v595 v597
  let c8_i32_367 : BitVec 32 := 8#32
  let c0_i32_370 : BitVec 32 := 0#32
  let v599 : BitVec 1 := Scalar.cmpi .sgt c8_i32_367 c0_i32_370
  let v600 : BitVec 32 := Scalar.extui v599
  let c0_i32_371 : BitVec 32 := 0#32
  let v601 : BitVec 1 := Scalar.cmpi .slt c8_i32_367 c0_i32_371
  let v602 : BitVec 32 := Scalar.extui v601
  let v603 : BitVec 32 := Scalar.subi v600 v602
  let v604 : BitVec 1 := Scalar.cmpi .ne v598 v603
  let v605 : BitVec 32 := Scalar.remsi v592 c8_i32_367
  let c0_i32_372 : BitVec 32 := 0#32
  let v606 : BitVec 1 := Scalar.cmpi .ne v605 c0_i32_372
  let v607 : BitVec 1 := Scalar.andi v604 v606
  let v593 : BitVec 32 := Scalar.divsi v592 c8_i32_367
  let c1_i32_373 : BitVec 32 := 1#32
  let v608 : BitVec 32 := Scalar.subi v593 c1_i32_373
  let v609 : BitVec 32 := Scalar.select v607 v608 v593
  let c8_i32_374 : BitVec 32 := 8#32
  let v610 : BitVec 32 := Scalar.muli v609 c8_i32_374
  let c184_i32_375 : BitVec 32 := 184#32
  let v611 : BitVec 32 := Scalar.minsi v610 c184_i32_375
  let v612 : BitVec 32 := v611
  let c0_i32_379 : BitVec 32 := 0#32
  ![v590.toNat, 0, v612.toNat, 0]

def k0_chk50 (i : grid0.Coords) (v592 : BitVec 32) : Prop :=
  (∀ (k0_h3 : k0_cond3 i = 1#1), 8 ∣ (k0_mult50 v592).toNat) ∧
  (∀ (k0_h3 : k0_cond3 i = 1#1), ∀ a, (k0_off193 i v592) a + S1x3x40x224.size a ≤ S256x3x224x224.size a)
theorem k0_mult50_dvd : ∀ (i : grid0.Coords) (v592 : BitVec 32) (k0_hw50 : k0_chk50 i v592), ∀ (k0_h3 : k0_cond3 i = 1#1), 8 ∣ (k0_mult50 v592).toNat := fun i v592 k0_hw50 k0_h3 => k0_hw50.1 k0_h3
theorem k0_off193_inb : ∀ (i : grid0.Coords) (v592 : BitVec 32) (k0_hw50 : k0_chk50 i v592), ∀ (k0_h3 : k0_cond3 i = 1#1), ∀ a, (k0_off193 i v592) a + S1x3x40x224.size a ≤ S256x3x224x224.size a := fun i v592 k0_hw50 k0_h3 => k0_hw50.2 k0_h3

def k0_off194 (i : grid0.Coords) : Fin 5 → Nat :=
  let arg0 : BitVec 32 := BitVec.ofNat 32 (i 0).val
  let c2_i32 : BitVec 32 := 2#32
  let v3 : BitVec 32 := Scalar.subi arg0 c2_i32
  let c4_i32_363 : BitVec 32 := 4#32
  let v588 : BitVec 32 := Scalar.remsi v3 c4_i32_363
  let c5_i32_376 : BitVec 32 := 5#32
  let c0_i32_380 : BitVec 32 := 0#32
  let c0_i32_381 : BitVec 32 := 0#32
  let c0_i32_382 : BitVec 32 := 0#32
  ![v588.toNat, 5, 0, 0, 0]
def k0_off195 (i : grid0.Coords) : Fin 2 → Nat :=
  let arg0 : BitVec 32 := BitVec.ofNat 32 (i 0).val
  let c2_i32 : BitVec 32 := 2#32
  let v3 : BitVec 32 := Scalar.subi arg0 c2_i32
  let c16_i32_384 : BitVec 32 := 16#32
  let v620 : BitVec 32 := Scalar.muli v3 c16_i32_384
  let c6_i32 : BitVec 32 := 6#32
  let v621 : BitVec 32 := Scalar.addi v620 c6_i32
  let v622 : Index := Scalar.indexCast v621
  let c0_385 : Index := 0#32
  ![v622.toNat, 0]
def k0_mult51 (v623 : BitVec 32) : BitVec 32 :=
  let c0_i32_387 : BitVec 32 := 0#32
  let v625 : BitVec 1 := Scalar.cmpi .sgt v623 c0_i32_387
  let v626 : BitVec 32 := Scalar.extui v625
  let c0_i32_388 : BitVec 32 := 0#32
  let v627 : BitVec 1 := Scalar.cmpi .slt v623 c0_i32_388
  let v628 : BitVec 32 := Scalar.extui v627
  let v629 : BitVec 32 := Scalar.subi v626 v628
  let c8_i32_386 : BitVec 32 := 8#32
  let c0_i32_389 : BitVec 32 := 0#32
  let v630 : BitVec 1 := Scalar.cmpi .sgt c8_i32_386 c0_i32_389
  let v631 : BitVec 32 := Scalar.extui v630
  let c0_i32_390 : BitVec 32 := 0#32
  let v632 : BitVec 1 := Scalar.cmpi .slt c8_i32_386 c0_i32_390
  let v633 : BitVec 32 := Scalar.extui v632
  let v634 : BitVec 32 := Scalar.subi v631 v633
  let v635 : BitVec 1 := Scalar.cmpi .ne v629 v634
  let v636 : BitVec 32 := Scalar.remsi v623 c8_i32_386
  let c0_i32_391 : BitVec 32 := 0#32
  let v637 : BitVec 1 := Scalar.cmpi .ne v636 c0_i32_391
  let v638 : BitVec 1 := Scalar.andi v635 v637
  let v624 : BitVec 32 := Scalar.divsi v623 c8_i32_386
  let c1_i32_392 : BitVec 32 := 1#32
  let v639 : BitVec 32 := Scalar.subi v624 c1_i32_392
  let v640 : BitVec 32 := Scalar.select v638 v639 v624
  let c8_i32_393 : BitVec 32 := 8#32
  let v641 : BitVec 32 := Scalar.muli v640 c8_i32_393
  let c184_i32_394 : BitVec 32 := 184#32
  let v642 : BitVec 32 := Scalar.minsi v641 c184_i32_394
  v642

def k0_off196 (i : grid0.Coords) : Fin 2 → Nat :=
  let arg0 : BitVec 32 := BitVec.ofNat 32 (i 0).val
  let c2_i32 : BitVec 32 := 2#32
  let v3 : BitVec 32 := Scalar.subi arg0 c2_i32
  let c4_i32_383 : BitVec 32 := 4#32
  let v619 : BitVec 32 := Scalar.remsi v3 c4_i32_383
  let c6_i32_396 : BitVec 32 := 6#32
  ![v619.toNat, 6]
def k0_off197 (i : grid0.Coords) : Fin 5 → Nat :=
  let arg0 : BitVec 32 := BitVec.ofNat 32 (i 0).val
  let c2_i32 : BitVec 32 := 2#32
  let v3 : BitVec 32 := Scalar.subi arg0 c2_i32
  let c4_i32_383 : BitVec 32 := 4#32
  let v619 : BitVec 32 := Scalar.remsi v3 c4_i32_383
  let c6_i32_395 : BitVec 32 := 6#32
  let c0_i32_397 : BitVec 32 := 0#32
  let c0_i32_398 : BitVec 32 := 0#32
  let c0_i32_399 : BitVec 32 := 0#32
  ![v619.toNat, 6, 0, 0, 0]
def k0_off198 (i : grid0.Coords) (v623 : BitVec 32) : Fin 4 → Nat :=
  let arg0 : BitVec 32 := BitVec.ofNat 32 (i 0).val
  let c2_i32 : BitVec 32 := 2#32
  let v3 : BitVec 32 := Scalar.subi arg0 c2_i32
  let c16_i32_384 : BitVec 32 := 16#32
  let v620 : BitVec 32 := Scalar.muli v3 c16_i32_384
  let c6_i32 : BitVec 32 := 6#32
  let v621 : BitVec 32 := Scalar.addi v620 c6_i32
  let c0_i32_400 : BitVec 32 := 0#32
  let c0_i32_387 : BitVec 32 := 0#32
  let v625 : BitVec 1 := Scalar.cmpi .sgt v623 c0_i32_387
  let v626 : BitVec 32 := Scalar.extui v625
  let c0_i32_388 : BitVec 32 := 0#32
  let v627 : BitVec 1 := Scalar.cmpi .slt v623 c0_i32_388
  let v628 : BitVec 32 := Scalar.extui v627
  let v629 : BitVec 32 := Scalar.subi v626 v628
  let c8_i32_386 : BitVec 32 := 8#32
  let c0_i32_389 : BitVec 32 := 0#32
  let v630 : BitVec 1 := Scalar.cmpi .sgt c8_i32_386 c0_i32_389
  let v631 : BitVec 32 := Scalar.extui v630
  let c0_i32_390 : BitVec 32 := 0#32
  let v632 : BitVec 1 := Scalar.cmpi .slt c8_i32_386 c0_i32_390
  let v633 : BitVec 32 := Scalar.extui v632
  let v634 : BitVec 32 := Scalar.subi v631 v633
  let v635 : BitVec 1 := Scalar.cmpi .ne v629 v634
  let v636 : BitVec 32 := Scalar.remsi v623 c8_i32_386
  let c0_i32_391 : BitVec 32 := 0#32
  let v637 : BitVec 1 := Scalar.cmpi .ne v636 c0_i32_391
  let v638 : BitVec 1 := Scalar.andi v635 v637
  let v624 : BitVec 32 := Scalar.divsi v623 c8_i32_386
  let c1_i32_392 : BitVec 32 := 1#32
  let v639 : BitVec 32 := Scalar.subi v624 c1_i32_392
  let v640 : BitVec 32 := Scalar.select v638 v639 v624
  let c8_i32_393 : BitVec 32 := 8#32
  let v641 : BitVec 32 := Scalar.muli v640 c8_i32_393
  let c184_i32_394 : BitVec 32 := 184#32
  let v642 : BitVec 32 := Scalar.minsi v641 c184_i32_394
  let v643 : BitVec 32 := v642
  let c0_i32_401 : BitVec 32 := 0#32
  ![v621.toNat, 0, v643.toNat, 0]

def k0_chk51 (i : grid0.Coords) (v623 : BitVec 32) : Prop :=
  (∀ (k0_h3 : k0_cond3 i = 1#1), 8 ∣ (k0_mult51 v623).toNat) ∧
  (∀ (k0_h3 : k0_cond3 i = 1#1), ∀ a, (k0_off198 i v623) a + S1x3x40x224.size a ≤ S256x3x224x224.size a)
theorem k0_mult51_dvd : ∀ (i : grid0.Coords) (v623 : BitVec 32) (k0_hw51 : k0_chk51 i v623), ∀ (k0_h3 : k0_cond3 i = 1#1), 8 ∣ (k0_mult51 v623).toNat := fun i v623 k0_hw51 k0_h3 => k0_hw51.1 k0_h3
theorem k0_off198_inb : ∀ (i : grid0.Coords) (v623 : BitVec 32) (k0_hw51 : k0_chk51 i v623), ∀ (k0_h3 : k0_cond3 i = 1#1), ∀ a, (k0_off198 i v623) a + S1x3x40x224.size a ≤ S256x3x224x224.size a := fun i v623 k0_hw51 k0_h3 => k0_hw51.2 k0_h3

def k0_off199 (i : grid0.Coords) : Fin 2 → Nat :=
  let arg0 : BitVec 32 := BitVec.ofNat 32 (i 0).val
  let c2_i32 : BitVec 32 := 2#32
  let v3 : BitVec 32 := Scalar.subi arg0 c2_i32
  let c16_i32_402 : BitVec 32 := 16#32
  let v650 : BitVec 32 := Scalar.muli v3 c16_i32_402
  let c6_i32_403 : BitVec 32 := 6#32
  let v651 : BitVec 32 := Scalar.addi v650 c6_i32_403
  let v652 : Index := Scalar.indexCast v651
  let c0_404 : Index := 0#32
  ![v652.toNat, 0]
def k0_off200 (i : grid0.Coords) : Fin 2 → Nat :=
  let arg0 : BitVec 32 := BitVec.ofNat 32 (i 0).val
  let c2_i32 : BitVec 32 := 2#32
  let v3 : BitVec 32 := Scalar.subi arg0 c2_i32
  let c16_i32_402 : BitVec 32 := 16#32
  let v650 : BitVec 32 := Scalar.muli v3 c16_i32_402
  let c6_i32_403 : BitVec 32 := 6#32
  let v651 : BitVec 32 := Scalar.addi v650 c6_i32_403
  let v654 : Index := Scalar.indexCast v651
  let c1_405 : Index := 1#32
  ![v654.toNat, 1]
def k0_mult52 (v653 : BitVec 32) : BitVec 32 :=
  let c0_i32_407 : BitVec 32 := 0#32
  let v657 : BitVec 1 := Scalar.cmpi .sgt v653 c0_i32_407
  let v658 : BitVec 32 := Scalar.extui v657
  let c0_i32_408 : BitVec 32 := 0#32
  let v659 : BitVec 1 := Scalar.cmpi .slt v653 c0_i32_408
  let v660 : BitVec 32 := Scalar.extui v659
  let v661 : BitVec 32 := Scalar.subi v658 v660
  let c8_i32_406 : BitVec 32 := 8#32
  let c0_i32_409 : BitVec 32 := 0#32
  let v662 : BitVec 1 := Scalar.cmpi .sgt c8_i32_406 c0_i32_409
  let v663 : BitVec 32 := Scalar.extui v662
  let c0_i32_410 : BitVec 32 := 0#32
  let v664 : BitVec 1 := Scalar.cmpi .slt c8_i32_406 c0_i32_410
  let v665 : BitVec 32 := Scalar.extui v664
  let v666 : BitVec 32 := Scalar.subi v663 v665
  let v667 : BitVec 1 := Scalar.cmpi .ne v661 v666
  let v668 : BitVec 32 := Scalar.remsi v653 c8_i32_406
  let c0_i32_411 : BitVec 32 := 0#32
  let v669 : BitVec 1 := Scalar.cmpi .ne v668 c0_i32_411
  let v670 : BitVec 1 := Scalar.andi v667 v669
  let v656 : BitVec 32 := Scalar.divsi v653 c8_i32_406
  let c1_i32_412 : BitVec 32 := 1#32
  let v671 : BitVec 32 := Scalar.subi v656 c1_i32_412
  let v672 : BitVec 32 := Scalar.select v670 v671 v656
  let c8_i32_413 : BitVec 32 := 8#32
  let v673 : BitVec 32 := Scalar.muli v672 c8_i32_413
  let c184_i32_414 : BitVec 32 := 184#32
  let v674 : BitVec 32 := Scalar.minsi v673 c184_i32_414
  v674

def k0_chk52 (i : grid0.Coords) (v653 : BitVec 32) : Prop :=
  (∀ (k0_h3 : k0_cond3 i = 1#1), 8 ∣ (k0_mult52 v653).toNat)
theorem k0_mult52_dvd : ∀ (i : grid0.Coords) (v653 : BitVec 32) (k0_hw52 : k0_chk52 i v653), ∀ (k0_h3 : k0_cond3 i = 1#1), 8 ∣ (k0_mult52 v653).toNat := fun i v653 k0_hw52 k0_h3 => k0_hw52 k0_h3

def k0_off201 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v681 : Index := Scalar.indexCast v12
  let c6 : Index := 6#32
  let c0_419 : Index := 0#32
  let c0_420 : Index := 0#32
  let c0_421 : Index := 0#32
  ![v681.toNat, 6, 0, 0, 0]
def k0_off202 (i : grid0.Coords) : Fin 2 → Nat :=
  let arg0 : BitVec 32 := BitVec.ofNat 32 (i 0).val
  let c2_i32 : BitVec 32 := 2#32
  let v3 : BitVec 32 := Scalar.subi arg0 c2_i32
  let c16_i32_427 : BitVec 32 := 16#32
  let v690 : BitVec 32 := Scalar.muli v3 c16_i32_427
  let c6_i32_428 : BitVec 32 := 6#32
  let v691 : BitVec 32 := Scalar.addi v690 c6_i32_428
  let v692 : Index := Scalar.indexCast v691
  let c0_429 : Index := 0#32
  ![v692.toNat, 0]
def k0_mult53 (v693 : BitVec 32) : BitVec 32 :=
  let c0_i32_431 : BitVec 32 := 0#32
  let v695 : BitVec 1 := Scalar.cmpi .sgt v693 c0_i32_431
  let v696 : BitVec 32 := Scalar.extui v695
  let c0_i32_432 : BitVec 32 := 0#32
  let v697 : BitVec 1 := Scalar.cmpi .slt v693 c0_i32_432
  let v698 : BitVec 32 := Scalar.extui v697
  let v699 : BitVec 32 := Scalar.subi v696 v698
  let c8_i32_430 : BitVec 32 := 8#32
  let c0_i32_433 : BitVec 32 := 0#32
  let v700 : BitVec 1 := Scalar.cmpi .sgt c8_i32_430 c0_i32_433
  let v701 : BitVec 32 := Scalar.extui v700
  let c0_i32_434 : BitVec 32 := 0#32
  let v702 : BitVec 1 := Scalar.cmpi .slt c8_i32_430 c0_i32_434
  let v703 : BitVec 32 := Scalar.extui v702
  let v704 : BitVec 32 := Scalar.subi v701 v703
  let v705 : BitVec 1 := Scalar.cmpi .ne v699 v704
  let v706 : BitVec 32 := Scalar.remsi v693 c8_i32_430
  let c0_i32_435 : BitVec 32 := 0#32
  let v707 : BitVec 1 := Scalar.cmpi .ne v706 c0_i32_435
  let v708 : BitVec 1 := Scalar.andi v705 v707
  let v694 : BitVec 32 := Scalar.divsi v693 c8_i32_430
  let c1_i32_436 : BitVec 32 := 1#32
  let v709 : BitVec 32 := Scalar.subi v694 c1_i32_436
  let v710 : BitVec 32 := Scalar.select v708 v709 v694
  let c8_i32_437 : BitVec 32 := 8#32
  let v711 : BitVec 32 := Scalar.muli v710 c8_i32_437
  let c184_i32_438 : BitVec 32 := 184#32
  let v712 : BitVec 32 := Scalar.minsi v711 c184_i32_438
  v712

def k0_off203 (i : grid0.Coords) : Fin 2 → Nat :=
  let arg0 : BitVec 32 := BitVec.ofNat 32 (i 0).val
  let c2_i32 : BitVec 32 := 2#32
  let v3 : BitVec 32 := Scalar.subi arg0 c2_i32
  let c4_i32_426 : BitVec 32 := 4#32
  let v689 : BitVec 32 := Scalar.remsi v3 c4_i32_426
  let c6_i32_440 : BitVec 32 := 6#32
  ![v689.toNat, 6]
def k0_off204 (i : grid0.Coords) (v693 : BitVec 32) : Fin 4 → Nat :=
  let arg0 : BitVec 32 := BitVec.ofNat 32 (i 0).val
  let c2_i32 : BitVec 32 := 2#32
  let v3 : BitVec 32 := Scalar.subi arg0 c2_i32
  let c16_i32_427 : BitVec 32 := 16#32
  let v690 : BitVec 32 := Scalar.muli v3 c16_i32_427
  let c6_i32_428 : BitVec 32 := 6#32
  let v691 : BitVec 32 := Scalar.addi v690 c6_i32_428
  let c0_i32_441 : BitVec 32 := 0#32
  let c0_i32_431 : BitVec 32 := 0#32
  let v695 : BitVec 1 := Scalar.cmpi .sgt v693 c0_i32_431
  let v696 : BitVec 32 := Scalar.extui v695
  let c0_i32_432 : BitVec 32 := 0#32
  let v697 : BitVec 1 := Scalar.cmpi .slt v693 c0_i32_432
  let v698 : BitVec 32 := Scalar.extui v697
  let v699 : BitVec 32 := Scalar.subi v696 v698
  let c8_i32_430 : BitVec 32 := 8#32
  let c0_i32_433 : BitVec 32 := 0#32
  let v700 : BitVec 1 := Scalar.cmpi .sgt c8_i32_430 c0_i32_433
  let v701 : BitVec 32 := Scalar.extui v700
  let c0_i32_434 : BitVec 32 := 0#32
  let v702 : BitVec 1 := Scalar.cmpi .slt c8_i32_430 c0_i32_434
  let v703 : BitVec 32 := Scalar.extui v702
  let v704 : BitVec 32 := Scalar.subi v701 v703
  let v705 : BitVec 1 := Scalar.cmpi .ne v699 v704
  let v706 : BitVec 32 := Scalar.remsi v693 c8_i32_430
  let c0_i32_435 : BitVec 32 := 0#32
  let v707 : BitVec 1 := Scalar.cmpi .ne v706 c0_i32_435
  let v708 : BitVec 1 := Scalar.andi v705 v707
  let v694 : BitVec 32 := Scalar.divsi v693 c8_i32_430
  let c1_i32_436 : BitVec 32 := 1#32
  let v709 : BitVec 32 := Scalar.subi v694 c1_i32_436
  let v710 : BitVec 32 := Scalar.select v708 v709 v694
  let c8_i32_437 : BitVec 32 := 8#32
  let v711 : BitVec 32 := Scalar.muli v710 c8_i32_437
  let c184_i32_438 : BitVec 32 := 184#32
  let v712 : BitVec 32 := Scalar.minsi v711 c184_i32_438
  let v713 : BitVec 32 := v712
  let c0_i32_442 : BitVec 32 := 0#32
  ![v691.toNat, 0, v713.toNat, 0]

def k0_chk53 (i : grid0.Coords) (v693 : BitVec 32) : Prop :=
  (∀ (k0_h3 : k0_cond3 i = 1#1), 8 ∣ (k0_mult53 v693).toNat) ∧
  (∀ (k0_h3 : k0_cond3 i = 1#1), ∀ a, (k0_off204 i v693) a + S1x3x40x224.size a ≤ S256x3x224x224.size a)
theorem k0_mult53_dvd : ∀ (i : grid0.Coords) (v693 : BitVec 32) (k0_hw53 : k0_chk53 i v693), ∀ (k0_h3 : k0_cond3 i = 1#1), 8 ∣ (k0_mult53 v693).toNat := fun i v693 k0_hw53 k0_h3 => k0_hw53.1 k0_h3
theorem k0_off204_inb : ∀ (i : grid0.Coords) (v693 : BitVec 32) (k0_hw53 : k0_chk53 i v693), ∀ (k0_h3 : k0_cond3 i = 1#1), ∀ a, (k0_off204 i v693) a + S1x3x40x224.size a ≤ S256x3x224x224.size a := fun i v693 k0_hw53 k0_h3 => k0_hw53.2 k0_h3

def k0_off205 (i : grid0.Coords) : Fin 5 → Nat :=
  let arg0 : BitVec 32 := BitVec.ofNat 32 (i 0).val
  let c2_i32 : BitVec 32 := 2#32
  let v3 : BitVec 32 := Scalar.subi arg0 c2_i32
  let c4_i32_426 : BitVec 32 := 4#32
  let v689 : BitVec 32 := Scalar.remsi v3 c4_i32_426
  let c6_i32_439 : BitVec 32 := 6#32
  let c0_i32_443 : BitVec 32 := 0#32
  let c0_i32_444 : BitVec 32 := 0#32
  let c0_i32_445 : BitVec 32 := 0#32
  ![v689.toNat, 6, 0, 0, 0]
def k0_off206 (i : grid0.Coords) : Fin 2 → Nat :=
  let arg0 : BitVec 32 := BitVec.ofNat 32 (i 0).val
  let c2_i32 : BitVec 32 := 2#32
  let v3 : BitVec 32 := Scalar.subi arg0 c2_i32
  let c16_i32_447 : BitVec 32 := 16#32
  let v721 : BitVec 32 := Scalar.muli v3 c16_i32_447
  let c7_i32 : BitVec 32 := 7#32
  let v722 : BitVec 32 := Scalar.addi v721 c7_i32
  let v723 : Index := Scalar.indexCast v722
  let c0_448 : Index := 0#32
  ![v723.toNat, 0]
def k0_mult54 (v724 : BitVec 32) : BitVec 32 :=
  let c0_i32_450 : BitVec 32 := 0#32
  let v726 : BitVec 1 := Scalar.cmpi .sgt v724 c0_i32_450
  let v727 : BitVec 32 := Scalar.extui v726
  let c0_i32_451 : BitVec 32 := 0#32
  let v728 : BitVec 1 := Scalar.cmpi .slt v724 c0_i32_451
  let v729 : BitVec 32 := Scalar.extui v728
  let v730 : BitVec 32 := Scalar.subi v727 v729
  let c8_i32_449 : BitVec 32 := 8#32
  let c0_i32_452 : BitVec 32 := 0#32
  let v731 : BitVec 1 := Scalar.cmpi .sgt c8_i32_449 c0_i32_452
  let v732 : BitVec 32 := Scalar.extui v731
  let c0_i32_453 : BitVec 32 := 0#32
  let v733 : BitVec 1 := Scalar.cmpi .slt c8_i32_449 c0_i32_453
  let v734 : BitVec 32 := Scalar.extui v733
  let v735 : BitVec 32 := Scalar.subi v732 v734
  let v736 : BitVec 1 := Scalar.cmpi .ne v730 v735
  let v737 : BitVec 32 := Scalar.remsi v724 c8_i32_449
  let c0_i32_454 : BitVec 32 := 0#32
  let v738 : BitVec 1 := Scalar.cmpi .ne v737 c0_i32_454
  let v739 : BitVec 1 := Scalar.andi v736 v738
  let v725 : BitVec 32 := Scalar.divsi v724 c8_i32_449
  let c1_i32_455 : BitVec 32 := 1#32
  let v740 : BitVec 32 := Scalar.subi v725 c1_i32_455
  let v741 : BitVec 32 := Scalar.select v739 v740 v725
  let c8_i32_456 : BitVec 32 := 8#32
  let v742 : BitVec 32 := Scalar.muli v741 c8_i32_456
  let c184_i32_457 : BitVec 32 := 184#32
  let v743 : BitVec 32 := Scalar.minsi v742 c184_i32_457
  v743

def k0_off207 (i : grid0.Coords) : Fin 2 → Nat :=
  let arg0 : BitVec 32 := BitVec.ofNat 32 (i 0).val
  let c2_i32 : BitVec 32 := 2#32
  let v3 : BitVec 32 := Scalar.subi arg0 c2_i32
  let c4_i32_446 : BitVec 32 := 4#32
  let v720 : BitVec 32 := Scalar.remsi v3 c4_i32_446
  let c7_i32_459 : BitVec 32 := 7#32
  ![v720.toNat, 7]
def k0_off208 (i : grid0.Coords) : Fin 5 → Nat :=
  let arg0 : BitVec 32 := BitVec.ofNat 32 (i 0).val
  let c2_i32 : BitVec 32 := 2#32
  let v3 : BitVec 32 := Scalar.subi arg0 c2_i32
  let c4_i32_446 : BitVec 32 := 4#32
  let v720 : BitVec 32 := Scalar.remsi v3 c4_i32_446
  let c7_i32_458 : BitVec 32 := 7#32
  let c0_i32_460 : BitVec 32 := 0#32
  let c0_i32_461 : BitVec 32 := 0#32
  let c0_i32_462 : BitVec 32 := 0#32
  ![v720.toNat, 7, 0, 0, 0]
def k0_off209 (i : grid0.Coords) (v724 : BitVec 32) : Fin 4 → Nat :=
  let arg0 : BitVec 32 := BitVec.ofNat 32 (i 0).val
  let c2_i32 : BitVec 32 := 2#32
  let v3 : BitVec 32 := Scalar.subi arg0 c2_i32
  let c16_i32_447 : BitVec 32 := 16#32
  let v721 : BitVec 32 := Scalar.muli v3 c16_i32_447
  let c7_i32 : BitVec 32 := 7#32
  let v722 : BitVec 32 := Scalar.addi v721 c7_i32
  let c0_i32_463 : BitVec 32 := 0#32
  let c0_i32_450 : BitVec 32 := 0#32
  let v726 : BitVec 1 := Scalar.cmpi .sgt v724 c0_i32_450
  let v727 : BitVec 32 := Scalar.extui v726
  let c0_i32_451 : BitVec 32 := 0#32
  let v728 : BitVec 1 := Scalar.cmpi .slt v724 c0_i32_451
  let v729 : BitVec 32 := Scalar.extui v728
  let v730 : BitVec 32 := Scalar.subi v727 v729
  let c8_i32_449 : BitVec 32 := 8#32
  let c0_i32_452 : BitVec 32 := 0#32
  let v731 : BitVec 1 := Scalar.cmpi .sgt c8_i32_449 c0_i32_452
  let v732 : BitVec 32 := Scalar.extui v731
  let c0_i32_453 : BitVec 32 := 0#32
  let v733 : BitVec 1 := Scalar.cmpi .slt c8_i32_449 c0_i32_453
  let v734 : BitVec 32 := Scalar.extui v733
  let v735 : BitVec 32 := Scalar.subi v732 v734
  let v736 : BitVec 1 := Scalar.cmpi .ne v730 v735
  let v737 : BitVec 32 := Scalar.remsi v724 c8_i32_449
  let c0_i32_454 : BitVec 32 := 0#32
  let v738 : BitVec 1 := Scalar.cmpi .ne v737 c0_i32_454
  let v739 : BitVec 1 := Scalar.andi v736 v738
  let v725 : BitVec 32 := Scalar.divsi v724 c8_i32_449
  let c1_i32_455 : BitVec 32 := 1#32
  let v740 : BitVec 32 := Scalar.subi v725 c1_i32_455
  let v741 : BitVec 32 := Scalar.select v739 v740 v725
  let c8_i32_456 : BitVec 32 := 8#32
  let v742 : BitVec 32 := Scalar.muli v741 c8_i32_456
  let c184_i32_457 : BitVec 32 := 184#32
  let v743 : BitVec 32 := Scalar.minsi v742 c184_i32_457
  let v744 : BitVec 32 := v743
  let c0_i32_464 : BitVec 32 := 0#32
  ![v722.toNat, 0, v744.toNat, 0]

def k0_chk54 (i : grid0.Coords) (v724 : BitVec 32) : Prop :=
  (∀ (k0_h3 : k0_cond3 i = 1#1), 8 ∣ (k0_mult54 v724).toNat) ∧
  (∀ (k0_h3 : k0_cond3 i = 1#1), ∀ a, (k0_off209 i v724) a + S1x3x40x224.size a ≤ S256x3x224x224.size a)
theorem k0_mult54_dvd : ∀ (i : grid0.Coords) (v724 : BitVec 32) (k0_hw54 : k0_chk54 i v724), ∀ (k0_h3 : k0_cond3 i = 1#1), 8 ∣ (k0_mult54 v724).toNat := fun i v724 k0_hw54 k0_h3 => k0_hw54.1 k0_h3
theorem k0_off209_inb : ∀ (i : grid0.Coords) (v724 : BitVec 32) (k0_hw54 : k0_chk54 i v724), ∀ (k0_h3 : k0_cond3 i = 1#1), ∀ a, (k0_off209 i v724) a + S1x3x40x224.size a ≤ S256x3x224x224.size a := fun i v724 k0_hw54 k0_h3 => k0_hw54.2 k0_h3

def k0_off210 (i : grid0.Coords) : Fin 2 → Nat :=
  let arg0 : BitVec 32 := BitVec.ofNat 32 (i 0).val
  let c2_i32 : BitVec 32 := 2#32
  let v3 : BitVec 32 := Scalar.subi arg0 c2_i32
  let c16_i32_465 : BitVec 32 := 16#32
  let v751 : BitVec 32 := Scalar.muli v3 c16_i32_465
  let c7_i32_466 : BitVec 32 := 7#32
  let v752 : BitVec 32 := Scalar.addi v751 c7_i32_466
  let v753 : Index := Scalar.indexCast v752
  let c0_467 : Index := 0#32
  ![v753.toNat, 0]
def k0_off211 (i : grid0.Coords) : Fin 2 → Nat :=
  let arg0 : BitVec 32 := BitVec.ofNat 32 (i 0).val
  let c2_i32 : BitVec 32 := 2#32
  let v3 : BitVec 32 := Scalar.subi arg0 c2_i32
  let c16_i32_465 : BitVec 32 := 16#32
  let v751 : BitVec 32 := Scalar.muli v3 c16_i32_465
  let c7_i32_466 : BitVec 32 := 7#32
  let v752 : BitVec 32 := Scalar.addi v751 c7_i32_466
  let v755 : Index := Scalar.indexCast v752
  let c1_468 : Index := 1#32
  ![v755.toNat, 1]
def k0_mult55 (v754 : BitVec 32) : BitVec 32 :=
  let c0_i32_470 : BitVec 32 := 0#32
  let v758 : BitVec 1 := Scalar.cmpi .sgt v754 c0_i32_470
  let v759 : BitVec 32 := Scalar.extui v758
  let c0_i32_471 : BitVec 32 := 0#32
  let v760 : BitVec 1 := Scalar.cmpi .slt v754 c0_i32_471
  let v761 : BitVec 32 := Scalar.extui v760
  let v762 : BitVec 32 := Scalar.subi v759 v761
  let c8_i32_469 : BitVec 32 := 8#32
  let c0_i32_472 : BitVec 32 := 0#32
  let v763 : BitVec 1 := Scalar.cmpi .sgt c8_i32_469 c0_i32_472
  let v764 : BitVec 32 := Scalar.extui v763
  let c0_i32_473 : BitVec 32 := 0#32
  let v765 : BitVec 1 := Scalar.cmpi .slt c8_i32_469 c0_i32_473
  let v766 : BitVec 32 := Scalar.extui v765
  let v767 : BitVec 32 := Scalar.subi v764 v766
  let v768 : BitVec 1 := Scalar.cmpi .ne v762 v767
  let v769 : BitVec 32 := Scalar.remsi v754 c8_i32_469
  let c0_i32_474 : BitVec 32 := 0#32
  let v770 : BitVec 1 := Scalar.cmpi .ne v769 c0_i32_474
  let v771 : BitVec 1 := Scalar.andi v768 v770
  let v757 : BitVec 32 := Scalar.divsi v754 c8_i32_469
  let c1_i32_475 : BitVec 32 := 1#32
  let v772 : BitVec 32 := Scalar.subi v757 c1_i32_475
  let v773 : BitVec 32 := Scalar.select v771 v772 v757
  let c8_i32_476 : BitVec 32 := 8#32
  let v774 : BitVec 32 := Scalar.muli v773 c8_i32_476
  let c184_i32_477 : BitVec 32 := 184#32
  let v775 : BitVec 32 := Scalar.minsi v774 c184_i32_477
  v775

def k0_chk55 (i : grid0.Coords) (v754 : BitVec 32) : Prop :=
  (∀ (k0_h3 : k0_cond3 i = 1#1), 8 ∣ (k0_mult55 v754).toNat)
theorem k0_mult55_dvd : ∀ (i : grid0.Coords) (v754 : BitVec 32) (k0_hw55 : k0_chk55 i v754), ∀ (k0_h3 : k0_cond3 i = 1#1), 8 ∣ (k0_mult55 v754).toNat := fun i v754 k0_hw55 k0_h3 => k0_hw55 k0_h3

def k0_off212 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v782 : Index := Scalar.indexCast v12
  let c7 : Index := 7#32
  let c0_482 : Index := 0#32
  let c0_483 : Index := 0#32
  let c0_484 : Index := 0#32
  ![v782.toNat, 7, 0, 0, 0]
def k0_off213 (i : grid0.Coords) : Fin 2 → Nat :=
  let arg0 : BitVec 32 := BitVec.ofNat 32 (i 0).val
  let c2_i32 : BitVec 32 := 2#32
  let v3 : BitVec 32 := Scalar.subi arg0 c2_i32
  let c16_i32_490 : BitVec 32 := 16#32
  let v791 : BitVec 32 := Scalar.muli v3 c16_i32_490
  let c7_i32_491 : BitVec 32 := 7#32
  let v792 : BitVec 32 := Scalar.addi v791 c7_i32_491
  let v793 : Index := Scalar.indexCast v792
  let c0_492 : Index := 0#32
  ![v793.toNat, 0]
def k0_mult56 (v794 : BitVec 32) : BitVec 32 :=
  let c0_i32_494 : BitVec 32 := 0#32
  let v796 : BitVec 1 := Scalar.cmpi .sgt v794 c0_i32_494
  let v797 : BitVec 32 := Scalar.extui v796
  let c0_i32_495 : BitVec 32 := 0#32
  let v798 : BitVec 1 := Scalar.cmpi .slt v794 c0_i32_495
  let v799 : BitVec 32 := Scalar.extui v798
  let v800 : BitVec 32 := Scalar.subi v797 v799
  let c8_i32_493 : BitVec 32 := 8#32
  let c0_i32_496 : BitVec 32 := 0#32
  let v801 : BitVec 1 := Scalar.cmpi .sgt c8_i32_493 c0_i32_496
  let v802 : BitVec 32 := Scalar.extui v801
  let c0_i32_497 : BitVec 32 := 0#32
  let v803 : BitVec 1 := Scalar.cmpi .slt c8_i32_493 c0_i32_497
  let v804 : BitVec 32 := Scalar.extui v803
  let v805 : BitVec 32 := Scalar.subi v802 v804
  let v806 : BitVec 1 := Scalar.cmpi .ne v800 v805
  let v807 : BitVec 32 := Scalar.remsi v794 c8_i32_493
  let c0_i32_498 : BitVec 32 := 0#32
  let v808 : BitVec 1 := Scalar.cmpi .ne v807 c0_i32_498
  let v809 : BitVec 1 := Scalar.andi v806 v808
  let v795 : BitVec 32 := Scalar.divsi v794 c8_i32_493
  let c1_i32_499 : BitVec 32 := 1#32
  let v810 : BitVec 32 := Scalar.subi v795 c1_i32_499
  let v811 : BitVec 32 := Scalar.select v809 v810 v795
  let c8_i32_500 : BitVec 32 := 8#32
  let v812 : BitVec 32 := Scalar.muli v811 c8_i32_500
  let c184_i32_501 : BitVec 32 := 184#32
  let v813 : BitVec 32 := Scalar.minsi v812 c184_i32_501
  v813

def k0_off214 (i : grid0.Coords) : Fin 2 → Nat :=
  let arg0 : BitVec 32 := BitVec.ofNat 32 (i 0).val
  let c2_i32 : BitVec 32 := 2#32
  let v3 : BitVec 32 := Scalar.subi arg0 c2_i32
  let c4_i32_489 : BitVec 32 := 4#32
  let v790 : BitVec 32 := Scalar.remsi v3 c4_i32_489
  let c7_i32_503 : BitVec 32 := 7#32
  ![v790.toNat, 7]
def k0_off215 (i : grid0.Coords) (v794 : BitVec 32) : Fin 4 → Nat :=
  let arg0 : BitVec 32 := BitVec.ofNat 32 (i 0).val
  let c2_i32 : BitVec 32 := 2#32
  let v3 : BitVec 32 := Scalar.subi arg0 c2_i32
  let c16_i32_490 : BitVec 32 := 16#32
  let v791 : BitVec 32 := Scalar.muli v3 c16_i32_490
  let c7_i32_491 : BitVec 32 := 7#32
  let v792 : BitVec 32 := Scalar.addi v791 c7_i32_491
  let c0_i32_504 : BitVec 32 := 0#32
  let c0_i32_494 : BitVec 32 := 0#32
  let v796 : BitVec 1 := Scalar.cmpi .sgt v794 c0_i32_494
  let v797 : BitVec 32 := Scalar.extui v796
  let c0_i32_495 : BitVec 32 := 0#32
  let v798 : BitVec 1 := Scalar.cmpi .slt v794 c0_i32_495
  let v799 : BitVec 32 := Scalar.extui v798
  let v800 : BitVec 32 := Scalar.subi v797 v799
  let c8_i32_493 : BitVec 32 := 8#32
  let c0_i32_496 : BitVec 32 := 0#32
  let v801 : BitVec 1 := Scalar.cmpi .sgt c8_i32_493 c0_i32_496
  let v802 : BitVec 32 := Scalar.extui v801
  let c0_i32_497 : BitVec 32 := 0#32
  let v803 : BitVec 1 := Scalar.cmpi .slt c8_i32_493 c0_i32_497
  let v804 : BitVec 32 := Scalar.extui v803
  let v805 : BitVec 32 := Scalar.subi v802 v804
  let v806 : BitVec 1 := Scalar.cmpi .ne v800 v805
  let v807 : BitVec 32 := Scalar.remsi v794 c8_i32_493
  let c0_i32_498 : BitVec 32 := 0#32
  let v808 : BitVec 1 := Scalar.cmpi .ne v807 c0_i32_498
  let v809 : BitVec 1 := Scalar.andi v806 v808
  let v795 : BitVec 32 := Scalar.divsi v794 c8_i32_493
  let c1_i32_499 : BitVec 32 := 1#32
  let v810 : BitVec 32 := Scalar.subi v795 c1_i32_499
  let v811 : BitVec 32 := Scalar.select v809 v810 v795
  let c8_i32_500 : BitVec 32 := 8#32
  let v812 : BitVec 32 := Scalar.muli v811 c8_i32_500
  let c184_i32_501 : BitVec 32 := 184#32
  let v813 : BitVec 32 := Scalar.minsi v812 c184_i32_501
  let v814 : BitVec 32 := v813
  let c0_i32_505 : BitVec 32 := 0#32
  ![v792.toNat, 0, v814.toNat, 0]

def k0_chk56 (i : grid0.Coords) (v794 : BitVec 32) : Prop :=
  (∀ (k0_h3 : k0_cond3 i = 1#1), 8 ∣ (k0_mult56 v794).toNat) ∧
  (∀ (k0_h3 : k0_cond3 i = 1#1), ∀ a, (k0_off215 i v794) a + S1x3x40x224.size a ≤ S256x3x224x224.size a)
theorem k0_mult56_dvd : ∀ (i : grid0.Coords) (v794 : BitVec 32) (k0_hw56 : k0_chk56 i v794), ∀ (k0_h3 : k0_cond3 i = 1#1), 8 ∣ (k0_mult56 v794).toNat := fun i v794 k0_hw56 k0_h3 => k0_hw56.1 k0_h3
theorem k0_off215_inb : ∀ (i : grid0.Coords) (v794 : BitVec 32) (k0_hw56 : k0_chk56 i v794), ∀ (k0_h3 : k0_cond3 i = 1#1), ∀ a, (k0_off215 i v794) a + S1x3x40x224.size a ≤ S256x3x224x224.size a := fun i v794 k0_hw56 k0_h3 => k0_hw56.2 k0_h3

def k0_off216 (i : grid0.Coords) : Fin 5 → Nat :=
  let arg0 : BitVec 32 := BitVec.ofNat 32 (i 0).val
  let c2_i32 : BitVec 32 := 2#32
  let v3 : BitVec 32 := Scalar.subi arg0 c2_i32
  let c4_i32_489 : BitVec 32 := 4#32
  let v790 : BitVec 32 := Scalar.remsi v3 c4_i32_489
  let c7_i32_502 : BitVec 32 := 7#32
  let c0_i32_506 : BitVec 32 := 0#32
  let c0_i32_507 : BitVec 32 := 0#32
  let c0_i32_508 : BitVec 32 := 0#32
  ![v790.toNat, 7, 0, 0, 0]
def k0_off217 (i : grid0.Coords) : Fin 2 → Nat :=
  let arg0 : BitVec 32 := BitVec.ofNat 32 (i 0).val
  let c2_i32 : BitVec 32 := 2#32
  let v3 : BitVec 32 := Scalar.subi arg0 c2_i32
  let c16_i32_510 : BitVec 32 := 16#32
  let v822 : BitVec 32 := Scalar.muli v3 c16_i32_510
  let c8_i32_511 : BitVec 32 := 8#32
  let v823 : BitVec 32 := Scalar.addi v822 c8_i32_511
  let v824 : Index := Scalar.indexCast v823
  let c0_512 : Index := 0#32
  ![v824.toNat, 0]
def k0_mult57 (v825 : BitVec 32) : BitVec 32 :=
  let c0_i32_514 : BitVec 32 := 0#32
  let v827 : BitVec 1 := Scalar.cmpi .sgt v825 c0_i32_514
  let v828 : BitVec 32 := Scalar.extui v827
  let c0_i32_515 : BitVec 32 := 0#32
  let v829 : BitVec 1 := Scalar.cmpi .slt v825 c0_i32_515
  let v830 : BitVec 32 := Scalar.extui v829
  let v831 : BitVec 32 := Scalar.subi v828 v830
  let c8_i32_513 : BitVec 32 := 8#32
  let c0_i32_516 : BitVec 32 := 0#32
  let v832 : BitVec 1 := Scalar.cmpi .sgt c8_i32_513 c0_i32_516
  let v833 : BitVec 32 := Scalar.extui v832
  let c0_i32_517 : BitVec 32 := 0#32
  let v834 : BitVec 1 := Scalar.cmpi .slt c8_i32_513 c0_i32_517
  let v835 : BitVec 32 := Scalar.extui v834
  let v836 : BitVec 32 := Scalar.subi v833 v835
  let v837 : BitVec 1 := Scalar.cmpi .ne v831 v836
  let v838 : BitVec 32 := Scalar.remsi v825 c8_i32_513
  let c0_i32_518 : BitVec 32 := 0#32
  let v839 : BitVec 1 := Scalar.cmpi .ne v838 c0_i32_518
  let v840 : BitVec 1 := Scalar.andi v837 v839
  let v826 : BitVec 32 := Scalar.divsi v825 c8_i32_513
  let c1_i32_519 : BitVec 32 := 1#32
  let v841 : BitVec 32 := Scalar.subi v826 c1_i32_519
  let v842 : BitVec 32 := Scalar.select v840 v841 v826
  let c8_i32_520 : BitVec 32 := 8#32
  let v843 : BitVec 32 := Scalar.muli v842 c8_i32_520
  let c184_i32_521 : BitVec 32 := 184#32
  let v844 : BitVec 32 := Scalar.minsi v843 c184_i32_521
  v844

def k0_off218 (i : grid0.Coords) : Fin 2 → Nat :=
  let arg0 : BitVec 32 := BitVec.ofNat 32 (i 0).val
  let c2_i32 : BitVec 32 := 2#32
  let v3 : BitVec 32 := Scalar.subi arg0 c2_i32
  let c4_i32_509 : BitVec 32 := 4#32
  let v821 : BitVec 32 := Scalar.remsi v3 c4_i32_509
  let c8_i32_523 : BitVec 32 := 8#32
  ![v821.toNat, 8]
def k0_off219 (i : grid0.Coords) : Fin 5 → Nat :=
  let arg0 : BitVec 32 := BitVec.ofNat 32 (i 0).val
  let c2_i32 : BitVec 32 := 2#32
  let v3 : BitVec 32 := Scalar.subi arg0 c2_i32
  let c4_i32_509 : BitVec 32 := 4#32
  let v821 : BitVec 32 := Scalar.remsi v3 c4_i32_509
  let c8_i32_522 : BitVec 32 := 8#32
  let c0_i32_524 : BitVec 32 := 0#32
  let c0_i32_525 : BitVec 32 := 0#32
  let c0_i32_526 : BitVec 32 := 0#32
  ![v821.toNat, 8, 0, 0, 0]
def k0_off220 (i : grid0.Coords) (v825 : BitVec 32) : Fin 4 → Nat :=
  let arg0 : BitVec 32 := BitVec.ofNat 32 (i 0).val
  let c2_i32 : BitVec 32 := 2#32
  let v3 : BitVec 32 := Scalar.subi arg0 c2_i32
  let c16_i32_510 : BitVec 32 := 16#32
  let v822 : BitVec 32 := Scalar.muli v3 c16_i32_510
  let c8_i32_511 : BitVec 32 := 8#32
  let v823 : BitVec 32 := Scalar.addi v822 c8_i32_511
  let c0_i32_527 : BitVec 32 := 0#32
  let c0_i32_514 : BitVec 32 := 0#32
  let v827 : BitVec 1 := Scalar.cmpi .sgt v825 c0_i32_514
  let v828 : BitVec 32 := Scalar.extui v827
  let c0_i32_515 : BitVec 32 := 0#32
  let v829 : BitVec 1 := Scalar.cmpi .slt v825 c0_i32_515
  let v830 : BitVec 32 := Scalar.extui v829
  let v831 : BitVec 32 := Scalar.subi v828 v830
  let c8_i32_513 : BitVec 32 := 8#32
  let c0_i32_516 : BitVec 32 := 0#32
  let v832 : BitVec 1 := Scalar.cmpi .sgt c8_i32_513 c0_i32_516
  let v833 : BitVec 32 := Scalar.extui v832
  let c0_i32_517 : BitVec 32 := 0#32
  let v834 : BitVec 1 := Scalar.cmpi .slt c8_i32_513 c0_i32_517
  let v835 : BitVec 32 := Scalar.extui v834
  let v836 : BitVec 32 := Scalar.subi v833 v835
  let v837 : BitVec 1 := Scalar.cmpi .ne v831 v836
  let v838 : BitVec 32 := Scalar.remsi v825 c8_i32_513
  let c0_i32_518 : BitVec 32 := 0#32
  let v839 : BitVec 1 := Scalar.cmpi .ne v838 c0_i32_518
  let v840 : BitVec 1 := Scalar.andi v837 v839
  let v826 : BitVec 32 := Scalar.divsi v825 c8_i32_513
  let c1_i32_519 : BitVec 32 := 1#32
  let v841 : BitVec 32 := Scalar.subi v826 c1_i32_519
  let v842 : BitVec 32 := Scalar.select v840 v841 v826
  let c8_i32_520 : BitVec 32 := 8#32
  let v843 : BitVec 32 := Scalar.muli v842 c8_i32_520
  let c184_i32_521 : BitVec 32 := 184#32
  let v844 : BitVec 32 := Scalar.minsi v843 c184_i32_521
  let v845 : BitVec 32 := v844
  let c0_i32_528 : BitVec 32 := 0#32
  ![v823.toNat, 0, v845.toNat, 0]

def k0_chk57 (i : grid0.Coords) (v825 : BitVec 32) : Prop :=
  (∀ (k0_h3 : k0_cond3 i = 1#1), 8 ∣ (k0_mult57 v825).toNat) ∧
  (∀ (k0_h3 : k0_cond3 i = 1#1), ∀ a, (k0_off220 i v825) a + S1x3x40x224.size a ≤ S256x3x224x224.size a)
theorem k0_mult57_dvd : ∀ (i : grid0.Coords) (v825 : BitVec 32) (k0_hw57 : k0_chk57 i v825), ∀ (k0_h3 : k0_cond3 i = 1#1), 8 ∣ (k0_mult57 v825).toNat := fun i v825 k0_hw57 k0_h3 => k0_hw57.1 k0_h3
theorem k0_off220_inb : ∀ (i : grid0.Coords) (v825 : BitVec 32) (k0_hw57 : k0_chk57 i v825), ∀ (k0_h3 : k0_cond3 i = 1#1), ∀ a, (k0_off220 i v825) a + S1x3x40x224.size a ≤ S256x3x224x224.size a := fun i v825 k0_hw57 k0_h3 => k0_hw57.2 k0_h3

def k0_off221 (i : grid0.Coords) : Fin 2 → Nat :=
  let arg0 : BitVec 32 := BitVec.ofNat 32 (i 0).val
  let c2_i32 : BitVec 32 := 2#32
  let v3 : BitVec 32 := Scalar.subi arg0 c2_i32
  let c16_i32_529 : BitVec 32 := 16#32
  let v852 : BitVec 32 := Scalar.muli v3 c16_i32_529
  let c8_i32_530 : BitVec 32 := 8#32
  let v853 : BitVec 32 := Scalar.addi v852 c8_i32_530
  let v854 : Index := Scalar.indexCast v853
  let c0_531 : Index := 0#32
  ![v854.toNat, 0]
def k0_off222 (i : grid0.Coords) : Fin 2 → Nat :=
  let arg0 : BitVec 32 := BitVec.ofNat 32 (i 0).val
  let c2_i32 : BitVec 32 := 2#32
  let v3 : BitVec 32 := Scalar.subi arg0 c2_i32
  let c16_i32_529 : BitVec 32 := 16#32
  let v852 : BitVec 32 := Scalar.muli v3 c16_i32_529
  let c8_i32_530 : BitVec 32 := 8#32
  let v853 : BitVec 32 := Scalar.addi v852 c8_i32_530
  let v856 : Index := Scalar.indexCast v853
  let c1_532 : Index := 1#32
  ![v856.toNat, 1]
def k0_mult58 (v855 : BitVec 32) : BitVec 32 :=
  let c0_i32_534 : BitVec 32 := 0#32
  let v859 : BitVec 1 := Scalar.cmpi .sgt v855 c0_i32_534
  let v860 : BitVec 32 := Scalar.extui v859
  let c0_i32_535 : BitVec 32 := 0#32
  let v861 : BitVec 1 := Scalar.cmpi .slt v855 c0_i32_535
  let v862 : BitVec 32 := Scalar.extui v861
  let v863 : BitVec 32 := Scalar.subi v860 v862
  let c8_i32_533 : BitVec 32 := 8#32
  let c0_i32_536 : BitVec 32 := 0#32
  let v864 : BitVec 1 := Scalar.cmpi .sgt c8_i32_533 c0_i32_536
  let v865 : BitVec 32 := Scalar.extui v864
  let c0_i32_537 : BitVec 32 := 0#32
  let v866 : BitVec 1 := Scalar.cmpi .slt c8_i32_533 c0_i32_537
  let v867 : BitVec 32 := Scalar.extui v866
  let v868 : BitVec 32 := Scalar.subi v865 v867
  let v869 : BitVec 1 := Scalar.cmpi .ne v863 v868
  let v870 : BitVec 32 := Scalar.remsi v855 c8_i32_533
  let c0_i32_538 : BitVec 32 := 0#32
  let v871 : BitVec 1 := Scalar.cmpi .ne v870 c0_i32_538
  let v872 : BitVec 1 := Scalar.andi v869 v871
  let v858 : BitVec 32 := Scalar.divsi v855 c8_i32_533
  let c1_i32_539 : BitVec 32 := 1#32
  let v873 : BitVec 32 := Scalar.subi v858 c1_i32_539
  let v874 : BitVec 32 := Scalar.select v872 v873 v858
  let c8_i32_540 : BitVec 32 := 8#32
  let v875 : BitVec 32 := Scalar.muli v874 c8_i32_540
  let c184_i32_541 : BitVec 32 := 184#32
  let v876 : BitVec 32 := Scalar.minsi v875 c184_i32_541
  v876

def k0_chk58 (i : grid0.Coords) (v855 : BitVec 32) : Prop :=
  (∀ (k0_h3 : k0_cond3 i = 1#1), 8 ∣ (k0_mult58 v855).toNat)
theorem k0_mult58_dvd : ∀ (i : grid0.Coords) (v855 : BitVec 32) (k0_hw58 : k0_chk58 i v855), ∀ (k0_h3 : k0_cond3 i = 1#1), 8 ∣ (k0_mult58 v855).toNat := fun i v855 k0_hw58 k0_h3 => k0_hw58 k0_h3

def k0_off223 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v883 : Index := Scalar.indexCast v12
  let c8 : Index := 8#32
  let c0_546 : Index := 0#32
  let c0_547 : Index := 0#32
  let c0_548 : Index := 0#32
  ![v883.toNat, 8, 0, 0, 0]
def k0_off224 (i : grid0.Coords) : Fin 2 → Nat :=
  let arg0 : BitVec 32 := BitVec.ofNat 32 (i 0).val
  let c2_i32 : BitVec 32 := 2#32
  let v3 : BitVec 32 := Scalar.subi arg0 c2_i32
  let c16_i32_554 : BitVec 32 := 16#32
  let v892 : BitVec 32 := Scalar.muli v3 c16_i32_554
  let c8_i32_555 : BitVec 32 := 8#32
  let v893 : BitVec 32 := Scalar.addi v892 c8_i32_555
  let v894 : Index := Scalar.indexCast v893
  let c0_556 : Index := 0#32
  ![v894.toNat, 0]
def k0_mult59 (v895 : BitVec 32) : BitVec 32 :=
  let c0_i32_558 : BitVec 32 := 0#32
  let v897 : BitVec 1 := Scalar.cmpi .sgt v895 c0_i32_558
  let v898 : BitVec 32 := Scalar.extui v897
  let c0_i32_559 : BitVec 32 := 0#32
  let v899 : BitVec 1 := Scalar.cmpi .slt v895 c0_i32_559
  let v900 : BitVec 32 := Scalar.extui v899
  let v901 : BitVec 32 := Scalar.subi v898 v900
  let c8_i32_557 : BitVec 32 := 8#32
  let c0_i32_560 : BitVec 32 := 0#32
  let v902 : BitVec 1 := Scalar.cmpi .sgt c8_i32_557 c0_i32_560
  let v903 : BitVec 32 := Scalar.extui v902
  let c0_i32_561 : BitVec 32 := 0#32
  let v904 : BitVec 1 := Scalar.cmpi .slt c8_i32_557 c0_i32_561
  let v905 : BitVec 32 := Scalar.extui v904
  let v906 : BitVec 32 := Scalar.subi v903 v905
  let v907 : BitVec 1 := Scalar.cmpi .ne v901 v906
  let v908 : BitVec 32 := Scalar.remsi v895 c8_i32_557
  let c0_i32_562 : BitVec 32 := 0#32
  let v909 : BitVec 1 := Scalar.cmpi .ne v908 c0_i32_562
  let v910 : BitVec 1 := Scalar.andi v907 v909
  let v896 : BitVec 32 := Scalar.divsi v895 c8_i32_557
  let c1_i32_563 : BitVec 32 := 1#32
  let v911 : BitVec 32 := Scalar.subi v896 c1_i32_563
  let v912 : BitVec 32 := Scalar.select v910 v911 v896
  let c8_i32_564 : BitVec 32 := 8#32
  let v913 : BitVec 32 := Scalar.muli v912 c8_i32_564
  let c184_i32_565 : BitVec 32 := 184#32
  let v914 : BitVec 32 := Scalar.minsi v913 c184_i32_565
  v914

def k0_off225 (i : grid0.Coords) : Fin 2 → Nat :=
  let arg0 : BitVec 32 := BitVec.ofNat 32 (i 0).val
  let c2_i32 : BitVec 32 := 2#32
  let v3 : BitVec 32 := Scalar.subi arg0 c2_i32
  let c4_i32_553 : BitVec 32 := 4#32
  let v891 : BitVec 32 := Scalar.remsi v3 c4_i32_553
  let c8_i32_567 : BitVec 32 := 8#32
  ![v891.toNat, 8]
def k0_off226 (i : grid0.Coords) (v895 : BitVec 32) : Fin 4 → Nat :=
  let arg0 : BitVec 32 := BitVec.ofNat 32 (i 0).val
  let c2_i32 : BitVec 32 := 2#32
  let v3 : BitVec 32 := Scalar.subi arg0 c2_i32
  let c16_i32_554 : BitVec 32 := 16#32
  let v892 : BitVec 32 := Scalar.muli v3 c16_i32_554
  let c8_i32_555 : BitVec 32 := 8#32
  let v893 : BitVec 32 := Scalar.addi v892 c8_i32_555
  let c0_i32_568 : BitVec 32 := 0#32
  let c0_i32_558 : BitVec 32 := 0#32
  let v897 : BitVec 1 := Scalar.cmpi .sgt v895 c0_i32_558
  let v898 : BitVec 32 := Scalar.extui v897
  let c0_i32_559 : BitVec 32 := 0#32
  let v899 : BitVec 1 := Scalar.cmpi .slt v895 c0_i32_559
  let v900 : BitVec 32 := Scalar.extui v899
  let v901 : BitVec 32 := Scalar.subi v898 v900
  let c8_i32_557 : BitVec 32 := 8#32
  let c0_i32_560 : BitVec 32 := 0#32
  let v902 : BitVec 1 := Scalar.cmpi .sgt c8_i32_557 c0_i32_560
  let v903 : BitVec 32 := Scalar.extui v902
  let c0_i32_561 : BitVec 32 := 0#32
  let v904 : BitVec 1 := Scalar.cmpi .slt c8_i32_557 c0_i32_561
  let v905 : BitVec 32 := Scalar.extui v904
  let v906 : BitVec 32 := Scalar.subi v903 v905
  let v907 : BitVec 1 := Scalar.cmpi .ne v901 v906
  let v908 : BitVec 32 := Scalar.remsi v895 c8_i32_557
  let c0_i32_562 : BitVec 32 := 0#32
  let v909 : BitVec 1 := Scalar.cmpi .ne v908 c0_i32_562
  let v910 : BitVec 1 := Scalar.andi v907 v909
  let v896 : BitVec 32 := Scalar.divsi v895 c8_i32_557
  let c1_i32_563 : BitVec 32 := 1#32
  let v911 : BitVec 32 := Scalar.subi v896 c1_i32_563
  let v912 : BitVec 32 := Scalar.select v910 v911 v896
  let c8_i32_564 : BitVec 32 := 8#32
  let v913 : BitVec 32 := Scalar.muli v912 c8_i32_564
  let c184_i32_565 : BitVec 32 := 184#32
  let v914 : BitVec 32 := Scalar.minsi v913 c184_i32_565
  let v915 : BitVec 32 := v914
  let c0_i32_569 : BitVec 32 := 0#32
  ![v893.toNat, 0, v915.toNat, 0]

def k0_chk59 (i : grid0.Coords) (v895 : BitVec 32) : Prop :=
  (∀ (k0_h3 : k0_cond3 i = 1#1), 8 ∣ (k0_mult59 v895).toNat) ∧
  (∀ (k0_h3 : k0_cond3 i = 1#1), ∀ a, (k0_off226 i v895) a + S1x3x40x224.size a ≤ S256x3x224x224.size a)
theorem k0_mult59_dvd : ∀ (i : grid0.Coords) (v895 : BitVec 32) (k0_hw59 : k0_chk59 i v895), ∀ (k0_h3 : k0_cond3 i = 1#1), 8 ∣ (k0_mult59 v895).toNat := fun i v895 k0_hw59 k0_h3 => k0_hw59.1 k0_h3
theorem k0_off226_inb : ∀ (i : grid0.Coords) (v895 : BitVec 32) (k0_hw59 : k0_chk59 i v895), ∀ (k0_h3 : k0_cond3 i = 1#1), ∀ a, (k0_off226 i v895) a + S1x3x40x224.size a ≤ S256x3x224x224.size a := fun i v895 k0_hw59 k0_h3 => k0_hw59.2 k0_h3

def k0_off227 (i : grid0.Coords) : Fin 5 → Nat :=
  let arg0 : BitVec 32 := BitVec.ofNat 32 (i 0).val
  let c2_i32 : BitVec 32 := 2#32
  let v3 : BitVec 32 := Scalar.subi arg0 c2_i32
  let c4_i32_553 : BitVec 32 := 4#32
  let v891 : BitVec 32 := Scalar.remsi v3 c4_i32_553
  let c8_i32_566 : BitVec 32 := 8#32
  let c0_i32_570 : BitVec 32 := 0#32
  let c0_i32_571 : BitVec 32 := 0#32
  let c0_i32_572 : BitVec 32 := 0#32
  ![v891.toNat, 8, 0, 0, 0]
def k0_off228 (i : grid0.Coords) : Fin 2 → Nat :=
  let arg0 : BitVec 32 := BitVec.ofNat 32 (i 0).val
  let c2_i32 : BitVec 32 := 2#32
  let v3 : BitVec 32 := Scalar.subi arg0 c2_i32
  let c16_i32_574 : BitVec 32 := 16#32
  let v923 : BitVec 32 := Scalar.muli v3 c16_i32_574
  let c9_i32 : BitVec 32 := 9#32
  let v924 : BitVec 32 := Scalar.addi v923 c9_i32
  let v925 : Index := Scalar.indexCast v924
  let c0_575 : Index := 0#32
  ![v925.toNat, 0]
def k0_mult60 (v926 : BitVec 32) : BitVec 32 :=
  let c0_i32_577 : BitVec 32 := 0#32
  let v928 : BitVec 1 := Scalar.cmpi .sgt v926 c0_i32_577
  let v929 : BitVec 32 := Scalar.extui v928
  let c0_i32_578 : BitVec 32 := 0#32
  let v930 : BitVec 1 := Scalar.cmpi .slt v926 c0_i32_578
  let v931 : BitVec 32 := Scalar.extui v930
  let v932 : BitVec 32 := Scalar.subi v929 v931
  let c8_i32_576 : BitVec 32 := 8#32
  let c0_i32_579 : BitVec 32 := 0#32
  let v933 : BitVec 1 := Scalar.cmpi .sgt c8_i32_576 c0_i32_579
  let v934 : BitVec 32 := Scalar.extui v933
  let c0_i32_580 : BitVec 32 := 0#32
  let v935 : BitVec 1 := Scalar.cmpi .slt c8_i32_576 c0_i32_580
  let v936 : BitVec 32 := Scalar.extui v935
  let v937 : BitVec 32 := Scalar.subi v934 v936
  let v938 : BitVec 1 := Scalar.cmpi .ne v932 v937
  let v939 : BitVec 32 := Scalar.remsi v926 c8_i32_576
  let c0_i32_581 : BitVec 32 := 0#32
  let v940 : BitVec 1 := Scalar.cmpi .ne v939 c0_i32_581
  let v941 : BitVec 1 := Scalar.andi v938 v940
  let v927 : BitVec 32 := Scalar.divsi v926 c8_i32_576
  let c1_i32_582 : BitVec 32 := 1#32
  let v942 : BitVec 32 := Scalar.subi v927 c1_i32_582
  let v943 : BitVec 32 := Scalar.select v941 v942 v927
  let c8_i32_583 : BitVec 32 := 8#32
  let v944 : BitVec 32 := Scalar.muli v943 c8_i32_583
  let c184_i32_584 : BitVec 32 := 184#32
  let v945 : BitVec 32 := Scalar.minsi v944 c184_i32_584
  v945

def k0_off229 (i : grid0.Coords) : Fin 2 → Nat :=
  let arg0 : BitVec 32 := BitVec.ofNat 32 (i 0).val
  let c2_i32 : BitVec 32 := 2#32
  let v3 : BitVec 32 := Scalar.subi arg0 c2_i32
  let c4_i32_573 : BitVec 32 := 4#32
  let v922 : BitVec 32 := Scalar.remsi v3 c4_i32_573
  let c9_i32_586 : BitVec 32 := 9#32
  ![v922.toNat, 9]
def k0_off230 (i : grid0.Coords) : Fin 5 → Nat :=
  let arg0 : BitVec 32 := BitVec.ofNat 32 (i 0).val
  let c2_i32 : BitVec 32 := 2#32
  let v3 : BitVec 32 := Scalar.subi arg0 c2_i32
  let c4_i32_573 : BitVec 32 := 4#32
  let v922 : BitVec 32 := Scalar.remsi v3 c4_i32_573
  let c9_i32_585 : BitVec 32 := 9#32
  let c0_i32_587 : BitVec 32 := 0#32
  let c0_i32_588 : BitVec 32 := 0#32
  let c0_i32_589 : BitVec 32 := 0#32
  ![v922.toNat, 9, 0, 0, 0]
def k0_off231 (i : grid0.Coords) (v926 : BitVec 32) : Fin 4 → Nat :=
  let arg0 : BitVec 32 := BitVec.ofNat 32 (i 0).val
  let c2_i32 : BitVec 32 := 2#32
  let v3 : BitVec 32 := Scalar.subi arg0 c2_i32
  let c16_i32_574 : BitVec 32 := 16#32
  let v923 : BitVec 32 := Scalar.muli v3 c16_i32_574
  let c9_i32 : BitVec 32 := 9#32
  let v924 : BitVec 32 := Scalar.addi v923 c9_i32
  let c0_i32_590 : BitVec 32 := 0#32
  let c0_i32_577 : BitVec 32 := 0#32
  let v928 : BitVec 1 := Scalar.cmpi .sgt v926 c0_i32_577
  let v929 : BitVec 32 := Scalar.extui v928
  let c0_i32_578 : BitVec 32 := 0#32
  let v930 : BitVec 1 := Scalar.cmpi .slt v926 c0_i32_578
  let v931 : BitVec 32 := Scalar.extui v930
  let v932 : BitVec 32 := Scalar.subi v929 v931
  let c8_i32_576 : BitVec 32 := 8#32
  let c0_i32_579 : BitVec 32 := 0#32
  let v933 : BitVec 1 := Scalar.cmpi .sgt c8_i32_576 c0_i32_579
  let v934 : BitVec 32 := Scalar.extui v933
  let c0_i32_580 : BitVec 32 := 0#32
  let v935 : BitVec 1 := Scalar.cmpi .slt c8_i32_576 c0_i32_580
  let v936 : BitVec 32 := Scalar.extui v935
  let v937 : BitVec 32 := Scalar.subi v934 v936
  let v938 : BitVec 1 := Scalar.cmpi .ne v932 v937
  let v939 : BitVec 32 := Scalar.remsi v926 c8_i32_576
  let c0_i32_581 : BitVec 32 := 0#32
  let v940 : BitVec 1 := Scalar.cmpi .ne v939 c0_i32_581
  let v941 : BitVec 1 := Scalar.andi v938 v940
  let v927 : BitVec 32 := Scalar.divsi v926 c8_i32_576
  let c1_i32_582 : BitVec 32 := 1#32
  let v942 : BitVec 32 := Scalar.subi v927 c1_i32_582
  let v943 : BitVec 32 := Scalar.select v941 v942 v927
  let c8_i32_583 : BitVec 32 := 8#32
  let v944 : BitVec 32 := Scalar.muli v943 c8_i32_583
  let c184_i32_584 : BitVec 32 := 184#32
  let v945 : BitVec 32 := Scalar.minsi v944 c184_i32_584
  let v946 : BitVec 32 := v945
  let c0_i32_591 : BitVec 32 := 0#32
  ![v924.toNat, 0, v946.toNat, 0]

def k0_chk60 (i : grid0.Coords) (v926 : BitVec 32) : Prop :=
  (∀ (k0_h3 : k0_cond3 i = 1#1), 8 ∣ (k0_mult60 v926).toNat) ∧
  (∀ (k0_h3 : k0_cond3 i = 1#1), ∀ a, (k0_off231 i v926) a + S1x3x40x224.size a ≤ S256x3x224x224.size a)
theorem k0_mult60_dvd : ∀ (i : grid0.Coords) (v926 : BitVec 32) (k0_hw60 : k0_chk60 i v926), ∀ (k0_h3 : k0_cond3 i = 1#1), 8 ∣ (k0_mult60 v926).toNat := fun i v926 k0_hw60 k0_h3 => k0_hw60.1 k0_h3
theorem k0_off231_inb : ∀ (i : grid0.Coords) (v926 : BitVec 32) (k0_hw60 : k0_chk60 i v926), ∀ (k0_h3 : k0_cond3 i = 1#1), ∀ a, (k0_off231 i v926) a + S1x3x40x224.size a ≤ S256x3x224x224.size a := fun i v926 k0_hw60 k0_h3 => k0_hw60.2 k0_h3

def k0_off232 (i : grid0.Coords) : Fin 2 → Nat :=
  let arg0 : BitVec 32 := BitVec.ofNat 32 (i 0).val
  let c2_i32 : BitVec 32 := 2#32
  let v3 : BitVec 32 := Scalar.subi arg0 c2_i32
  let c16_i32_592 : BitVec 32 := 16#32
  let v953 : BitVec 32 := Scalar.muli v3 c16_i32_592
  let c9_i32_593 : BitVec 32 := 9#32
  let v954 : BitVec 32 := Scalar.addi v953 c9_i32_593
  let v955 : Index := Scalar.indexCast v954
  let c0_594 : Index := 0#32
  ![v955.toNat, 0]
def k0_off233 (i : grid0.Coords) : Fin 2 → Nat :=
  let arg0 : BitVec 32 := BitVec.ofNat 32 (i 0).val
  let c2_i32 : BitVec 32 := 2#32
  let v3 : BitVec 32 := Scalar.subi arg0 c2_i32
  let c16_i32_592 : BitVec 32 := 16#32
  let v953 : BitVec 32 := Scalar.muli v3 c16_i32_592
  let c9_i32_593 : BitVec 32 := 9#32
  let v954 : BitVec 32 := Scalar.addi v953 c9_i32_593
  let v957 : Index := Scalar.indexCast v954
  let c1_595 : Index := 1#32
  ![v957.toNat, 1]
def k0_mult61 (v956 : BitVec 32) : BitVec 32 :=
  let c0_i32_597 : BitVec 32 := 0#32
  let v960 : BitVec 1 := Scalar.cmpi .sgt v956 c0_i32_597
  let v961 : BitVec 32 := Scalar.extui v960
  let c0_i32_598 : BitVec 32 := 0#32
  let v962 : BitVec 1 := Scalar.cmpi .slt v956 c0_i32_598
  let v963 : BitVec 32 := Scalar.extui v962
  let v964 : BitVec 32 := Scalar.subi v961 v963
  let c8_i32_596 : BitVec 32 := 8#32
  let c0_i32_599 : BitVec 32 := 0#32
  let v965 : BitVec 1 := Scalar.cmpi .sgt c8_i32_596 c0_i32_599
  let v966 : BitVec 32 := Scalar.extui v965
  let c0_i32_600 : BitVec 32 := 0#32
  let v967 : BitVec 1 := Scalar.cmpi .slt c8_i32_596 c0_i32_600
  let v968 : BitVec 32 := Scalar.extui v967
  let v969 : BitVec 32 := Scalar.subi v966 v968
  let v970 : BitVec 1 := Scalar.cmpi .ne v964 v969
  let v971 : BitVec 32 := Scalar.remsi v956 c8_i32_596
  let c0_i32_601 : BitVec 32 := 0#32
  let v972 : BitVec 1 := Scalar.cmpi .ne v971 c0_i32_601
  let v973 : BitVec 1 := Scalar.andi v970 v972
  let v959 : BitVec 32 := Scalar.divsi v956 c8_i32_596
  let c1_i32_602 : BitVec 32 := 1#32
  let v974 : BitVec 32 := Scalar.subi v959 c1_i32_602
  let v975 : BitVec 32 := Scalar.select v973 v974 v959
  let c8_i32_603 : BitVec 32 := 8#32
  let v976 : BitVec 32 := Scalar.muli v975 c8_i32_603
  let c184_i32_604 : BitVec 32 := 184#32
  let v977 : BitVec 32 := Scalar.minsi v976 c184_i32_604
  v977

def k0_chk61 (i : grid0.Coords) (v956 : BitVec 32) : Prop :=
  (∀ (k0_h3 : k0_cond3 i = 1#1), 8 ∣ (k0_mult61 v956).toNat)
theorem k0_mult61_dvd : ∀ (i : grid0.Coords) (v956 : BitVec 32) (k0_hw61 : k0_chk61 i v956), ∀ (k0_h3 : k0_cond3 i = 1#1), 8 ∣ (k0_mult61 v956).toNat := fun i v956 k0_hw61 k0_h3 => k0_hw61 k0_h3

def k0_off234 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v984 : Index := Scalar.indexCast v12
  let c9 : Index := 9#32
  let c0_609 : Index := 0#32
  let c0_610 : Index := 0#32
  let c0_611 : Index := 0#32
  ![v984.toNat, 9, 0, 0, 0]
def k0_off235 (i : grid0.Coords) : Fin 2 → Nat :=
  let arg0 : BitVec 32 := BitVec.ofNat 32 (i 0).val
  let c2_i32 : BitVec 32 := 2#32
  let v3 : BitVec 32 := Scalar.subi arg0 c2_i32
  let c16_i32_617 : BitVec 32 := 16#32
  let v993 : BitVec 32 := Scalar.muli v3 c16_i32_617
  let c9_i32_618 : BitVec 32 := 9#32
  let v994 : BitVec 32 := Scalar.addi v993 c9_i32_618
  let v995 : Index := Scalar.indexCast v994
  let c0_619 : Index := 0#32
  ![v995.toNat, 0]
def k0_mult62 (v996 : BitVec 32) : BitVec 32 :=
  let c0_i32_621 : BitVec 32 := 0#32
  let v998 : BitVec 1 := Scalar.cmpi .sgt v996 c0_i32_621
  let v999 : BitVec 32 := Scalar.extui v998
  let c0_i32_622 : BitVec 32 := 0#32
  let v1000 : BitVec 1 := Scalar.cmpi .slt v996 c0_i32_622
  let v1001 : BitVec 32 := Scalar.extui v1000
  let v1002 : BitVec 32 := Scalar.subi v999 v1001
  let c8_i32_620 : BitVec 32 := 8#32
  let c0_i32_623 : BitVec 32 := 0#32
  let v1003 : BitVec 1 := Scalar.cmpi .sgt c8_i32_620 c0_i32_623
  let v1004 : BitVec 32 := Scalar.extui v1003
  let c0_i32_624 : BitVec 32 := 0#32
  let v1005 : BitVec 1 := Scalar.cmpi .slt c8_i32_620 c0_i32_624
  let v1006 : BitVec 32 := Scalar.extui v1005
  let v1007 : BitVec 32 := Scalar.subi v1004 v1006
  let v1008 : BitVec 1 := Scalar.cmpi .ne v1002 v1007
  let v1009 : BitVec 32 := Scalar.remsi v996 c8_i32_620
  let c0_i32_625 : BitVec 32 := 0#32
  let v1010 : BitVec 1 := Scalar.cmpi .ne v1009 c0_i32_625
  let v1011 : BitVec 1 := Scalar.andi v1008 v1010
  let v997 : BitVec 32 := Scalar.divsi v996 c8_i32_620
  let c1_i32_626 : BitVec 32 := 1#32
  let v1012 : BitVec 32 := Scalar.subi v997 c1_i32_626
  let v1013 : BitVec 32 := Scalar.select v1011 v1012 v997
  let c8_i32_627 : BitVec 32 := 8#32
  let v1014 : BitVec 32 := Scalar.muli v1013 c8_i32_627
  let c184_i32_628 : BitVec 32 := 184#32
  let v1015 : BitVec 32 := Scalar.minsi v1014 c184_i32_628
  v1015

def k0_off236 (i : grid0.Coords) : Fin 2 → Nat :=
  let arg0 : BitVec 32 := BitVec.ofNat 32 (i 0).val
  let c2_i32 : BitVec 32 := 2#32
  let v3 : BitVec 32 := Scalar.subi arg0 c2_i32
  let c4_i32_616 : BitVec 32 := 4#32
  let v992 : BitVec 32 := Scalar.remsi v3 c4_i32_616
  let c9_i32_630 : BitVec 32 := 9#32
  ![v992.toNat, 9]
def k0_off237 (i : grid0.Coords) (v996 : BitVec 32) : Fin 4 → Nat :=
  let arg0 : BitVec 32 := BitVec.ofNat 32 (i 0).val
  let c2_i32 : BitVec 32 := 2#32
  let v3 : BitVec 32 := Scalar.subi arg0 c2_i32
  let c16_i32_617 : BitVec 32 := 16#32
  let v993 : BitVec 32 := Scalar.muli v3 c16_i32_617
  let c9_i32_618 : BitVec 32 := 9#32
  let v994 : BitVec 32 := Scalar.addi v993 c9_i32_618
  let c0_i32_631 : BitVec 32 := 0#32
  let c0_i32_621 : BitVec 32 := 0#32
  let v998 : BitVec 1 := Scalar.cmpi .sgt v996 c0_i32_621
  let v999 : BitVec 32 := Scalar.extui v998
  let c0_i32_622 : BitVec 32 := 0#32
  let v1000 : BitVec 1 := Scalar.cmpi .slt v996 c0_i32_622
  let v1001 : BitVec 32 := Scalar.extui v1000
  let v1002 : BitVec 32 := Scalar.subi v999 v1001
  let c8_i32_620 : BitVec 32 := 8#32
  let c0_i32_623 : BitVec 32 := 0#32
  let v1003 : BitVec 1 := Scalar.cmpi .sgt c8_i32_620 c0_i32_623
  let v1004 : BitVec 32 := Scalar.extui v1003
  let c0_i32_624 : BitVec 32 := 0#32
  let v1005 : BitVec 1 := Scalar.cmpi .slt c8_i32_620 c0_i32_624
  let v1006 : BitVec 32 := Scalar.extui v1005
  let v1007 : BitVec 32 := Scalar.subi v1004 v1006
  let v1008 : BitVec 1 := Scalar.cmpi .ne v1002 v1007
  let v1009 : BitVec 32 := Scalar.remsi v996 c8_i32_620
  let c0_i32_625 : BitVec 32 := 0#32
  let v1010 : BitVec 1 := Scalar.cmpi .ne v1009 c0_i32_625
  let v1011 : BitVec 1 := Scalar.andi v1008 v1010
  let v997 : BitVec 32 := Scalar.divsi v996 c8_i32_620
  let c1_i32_626 : BitVec 32 := 1#32
  let v1012 : BitVec 32 := Scalar.subi v997 c1_i32_626
  let v1013 : BitVec 32 := Scalar.select v1011 v1012 v997
  let c8_i32_627 : BitVec 32 := 8#32
  let v1014 : BitVec 32 := Scalar.muli v1013 c8_i32_627
  let c184_i32_628 : BitVec 32 := 184#32
  let v1015 : BitVec 32 := Scalar.minsi v1014 c184_i32_628
  let v1016 : BitVec 32 := v1015
  let c0_i32_632 : BitVec 32 := 0#32
  ![v994.toNat, 0, v1016.toNat, 0]

def k0_chk62 (i : grid0.Coords) (v996 : BitVec 32) : Prop :=
  (∀ (k0_h3 : k0_cond3 i = 1#1), 8 ∣ (k0_mult62 v996).toNat) ∧
  (∀ (k0_h3 : k0_cond3 i = 1#1), ∀ a, (k0_off237 i v996) a + S1x3x40x224.size a ≤ S256x3x224x224.size a)
theorem k0_mult62_dvd : ∀ (i : grid0.Coords) (v996 : BitVec 32) (k0_hw62 : k0_chk62 i v996), ∀ (k0_h3 : k0_cond3 i = 1#1), 8 ∣ (k0_mult62 v996).toNat := fun i v996 k0_hw62 k0_h3 => k0_hw62.1 k0_h3
theorem k0_off237_inb : ∀ (i : grid0.Coords) (v996 : BitVec 32) (k0_hw62 : k0_chk62 i v996), ∀ (k0_h3 : k0_cond3 i = 1#1), ∀ a, (k0_off237 i v996) a + S1x3x40x224.size a ≤ S256x3x224x224.size a := fun i v996 k0_hw62 k0_h3 => k0_hw62.2 k0_h3

def k0_off238 (i : grid0.Coords) : Fin 5 → Nat :=
  let arg0 : BitVec 32 := BitVec.ofNat 32 (i 0).val
  let c2_i32 : BitVec 32 := 2#32
  let v3 : BitVec 32 := Scalar.subi arg0 c2_i32
  let c4_i32_616 : BitVec 32 := 4#32
  let v992 : BitVec 32 := Scalar.remsi v3 c4_i32_616
  let c9_i32_629 : BitVec 32 := 9#32
  let c0_i32_633 : BitVec 32 := 0#32
  let c0_i32_634 : BitVec 32 := 0#32
  let c0_i32_635 : BitVec 32 := 0#32
  ![v992.toNat, 9, 0, 0, 0]
def k0_off239 (i : grid0.Coords) : Fin 2 → Nat :=
  let arg0 : BitVec 32 := BitVec.ofNat 32 (i 0).val
  let c2_i32 : BitVec 32 := 2#32
  let v3 : BitVec 32 := Scalar.subi arg0 c2_i32
  let c16_i32_637 : BitVec 32 := 16#32
  let v1024 : BitVec 32 := Scalar.muli v3 c16_i32_637
  let c10_i32 : BitVec 32 := 10#32
  let v1025 : BitVec 32 := Scalar.addi v1024 c10_i32
  let v1026 : Index := Scalar.indexCast v1025
  let c0_638 : Index := 0#32
  ![v1026.toNat, 0]
def k0_mult63 (v1027 : BitVec 32) : BitVec 32 :=
  let c0_i32_640 : BitVec 32 := 0#32
  let v1029 : BitVec 1 := Scalar.cmpi .sgt v1027 c0_i32_640
  let v1030 : BitVec 32 := Scalar.extui v1029
  let c0_i32_641 : BitVec 32 := 0#32
  let v1031 : BitVec 1 := Scalar.cmpi .slt v1027 c0_i32_641
  let v1032 : BitVec 32 := Scalar.extui v1031
  let v1033 : BitVec 32 := Scalar.subi v1030 v1032
  let c8_i32_639 : BitVec 32 := 8#32
  let c0_i32_642 : BitVec 32 := 0#32
  let v1034 : BitVec 1 := Scalar.cmpi .sgt c8_i32_639 c0_i32_642
  let v1035 : BitVec 32 := Scalar.extui v1034
  let c0_i32_643 : BitVec 32 := 0#32
  let v1036 : BitVec 1 := Scalar.cmpi .slt c8_i32_639 c0_i32_643
  let v1037 : BitVec 32 := Scalar.extui v1036
  let v1038 : BitVec 32 := Scalar.subi v1035 v1037
  let v1039 : BitVec 1 := Scalar.cmpi .ne v1033 v1038
  let v1040 : BitVec 32 := Scalar.remsi v1027 c8_i32_639
  let c0_i32_644 : BitVec 32 := 0#32
  let v1041 : BitVec 1 := Scalar.cmpi .ne v1040 c0_i32_644
  let v1042 : BitVec 1 := Scalar.andi v1039 v1041
  let v1028 : BitVec 32 := Scalar.divsi v1027 c8_i32_639
  let c1_i32_645 : BitVec 32 := 1#32
  let v1043 : BitVec 32 := Scalar.subi v1028 c1_i32_645
  let v1044 : BitVec 32 := Scalar.select v1042 v1043 v1028
  let c8_i32_646 : BitVec 32 := 8#32
  let v1045 : BitVec 32 := Scalar.muli v1044 c8_i32_646
  let c184_i32_647 : BitVec 32 := 184#32
  let v1046 : BitVec 32 := Scalar.minsi v1045 c184_i32_647
  v1046

def k0_off240 (i : grid0.Coords) : Fin 2 → Nat :=
  let arg0 : BitVec 32 := BitVec.ofNat 32 (i 0).val
  let c2_i32 : BitVec 32 := 2#32
  let v3 : BitVec 32 := Scalar.subi arg0 c2_i32
  let c4_i32_636 : BitVec 32 := 4#32
  let v1023 : BitVec 32 := Scalar.remsi v3 c4_i32_636
  let c10_i32_649 : BitVec 32 := 10#32
  ![v1023.toNat, 10]
def k0_off241 (i : grid0.Coords) : Fin 5 → Nat :=
  let arg0 : BitVec 32 := BitVec.ofNat 32 (i 0).val
  let c2_i32 : BitVec 32 := 2#32
  let v3 : BitVec 32 := Scalar.subi arg0 c2_i32
  let c4_i32_636 : BitVec 32 := 4#32
  let v1023 : BitVec 32 := Scalar.remsi v3 c4_i32_636
  let c10_i32_648 : BitVec 32 := 10#32
  let c0_i32_650 : BitVec 32 := 0#32
  let c0_i32_651 : BitVec 32 := 0#32
  let c0_i32_652 : BitVec 32 := 0#32
  ![v1023.toNat, 10, 0, 0, 0]
def k0_off242 (i : grid0.Coords) (v1027 : BitVec 32) : Fin 4 → Nat :=
  let arg0 : BitVec 32 := BitVec.ofNat 32 (i 0).val
  let c2_i32 : BitVec 32 := 2#32
  let v3 : BitVec 32 := Scalar.subi arg0 c2_i32
  let c16_i32_637 : BitVec 32 := 16#32
  let v1024 : BitVec 32 := Scalar.muli v3 c16_i32_637
  let c10_i32 : BitVec 32 := 10#32
  let v1025 : BitVec 32 := Scalar.addi v1024 c10_i32
  let c0_i32_653 : BitVec 32 := 0#32
  let c0_i32_640 : BitVec 32 := 0#32
  let v1029 : BitVec 1 := Scalar.cmpi .sgt v1027 c0_i32_640
  let v1030 : BitVec 32 := Scalar.extui v1029
  let c0_i32_641 : BitVec 32 := 0#32
  let v1031 : BitVec 1 := Scalar.cmpi .slt v1027 c0_i32_641
  let v1032 : BitVec 32 := Scalar.extui v1031
  let v1033 : BitVec 32 := Scalar.subi v1030 v1032
  let c8_i32_639 : BitVec 32 := 8#32
  let c0_i32_642 : BitVec 32 := 0#32
  let v1034 : BitVec 1 := Scalar.cmpi .sgt c8_i32_639 c0_i32_642
  let v1035 : BitVec 32 := Scalar.extui v1034
  let c0_i32_643 : BitVec 32 := 0#32
  let v1036 : BitVec 1 := Scalar.cmpi .slt c8_i32_639 c0_i32_643
  let v1037 : BitVec 32 := Scalar.extui v1036
  let v1038 : BitVec 32 := Scalar.subi v1035 v1037
  let v1039 : BitVec 1 := Scalar.cmpi .ne v1033 v1038
  let v1040 : BitVec 32 := Scalar.remsi v1027 c8_i32_639
  let c0_i32_644 : BitVec 32 := 0#32
  let v1041 : BitVec 1 := Scalar.cmpi .ne v1040 c0_i32_644
  let v1042 : BitVec 1 := Scalar.andi v1039 v1041
  let v1028 : BitVec 32 := Scalar.divsi v1027 c8_i32_639
  let c1_i32_645 : BitVec 32 := 1#32
  let v1043 : BitVec 32 := Scalar.subi v1028 c1_i32_645
  let v1044 : BitVec 32 := Scalar.select v1042 v1043 v1028
  let c8_i32_646 : BitVec 32 := 8#32
  let v1045 : BitVec 32 := Scalar.muli v1044 c8_i32_646
  let c184_i32_647 : BitVec 32 := 184#32
  let v1046 : BitVec 32 := Scalar.minsi v1045 c184_i32_647
  let v1047 : BitVec 32 := v1046
  let c0_i32_654 : BitVec 32 := 0#32
  ![v1025.toNat, 0, v1047.toNat, 0]

def k0_chk63 (i : grid0.Coords) (v1027 : BitVec 32) : Prop :=
  (∀ (k0_h3 : k0_cond3 i = 1#1), 8 ∣ (k0_mult63 v1027).toNat) ∧
  (∀ (k0_h3 : k0_cond3 i = 1#1), ∀ a, (k0_off242 i v1027) a + S1x3x40x224.size a ≤ S256x3x224x224.size a)
theorem k0_mult63_dvd : ∀ (i : grid0.Coords) (v1027 : BitVec 32) (k0_hw63 : k0_chk63 i v1027), ∀ (k0_h3 : k0_cond3 i = 1#1), 8 ∣ (k0_mult63 v1027).toNat := fun i v1027 k0_hw63 k0_h3 => k0_hw63.1 k0_h3
theorem k0_off242_inb : ∀ (i : grid0.Coords) (v1027 : BitVec 32) (k0_hw63 : k0_chk63 i v1027), ∀ (k0_h3 : k0_cond3 i = 1#1), ∀ a, (k0_off242 i v1027) a + S1x3x40x224.size a ≤ S256x3x224x224.size a := fun i v1027 k0_hw63 k0_h3 => k0_hw63.2 k0_h3

def k0_off243 (i : grid0.Coords) : Fin 2 → Nat :=
  let arg0 : BitVec 32 := BitVec.ofNat 32 (i 0).val
  let c2_i32 : BitVec 32 := 2#32
  let v3 : BitVec 32 := Scalar.subi arg0 c2_i32
  let c16_i32_655 : BitVec 32 := 16#32
  let v1054 : BitVec 32 := Scalar.muli v3 c16_i32_655
  let c10_i32_656 : BitVec 32 := 10#32
  let v1055 : BitVec 32 := Scalar.addi v1054 c10_i32_656
  let v1056 : Index := Scalar.indexCast v1055
  let c0_657 : Index := 0#32
  ![v1056.toNat, 0]
def k0_off244 (i : grid0.Coords) : Fin 2 → Nat :=
  let arg0 : BitVec 32 := BitVec.ofNat 32 (i 0).val
  let c2_i32 : BitVec 32 := 2#32
  let v3 : BitVec 32 := Scalar.subi arg0 c2_i32
  let c16_i32_655 : BitVec 32 := 16#32
  let v1054 : BitVec 32 := Scalar.muli v3 c16_i32_655
  let c10_i32_656 : BitVec 32 := 10#32
  let v1055 : BitVec 32 := Scalar.addi v1054 c10_i32_656
  let v1058 : Index := Scalar.indexCast v1055
  let c1_658 : Index := 1#32
  ![v1058.toNat, 1]
def k0_mult64 (v1057 : BitVec 32) : BitVec 32 :=
  let c0_i32_660 : BitVec 32 := 0#32
  let v1061 : BitVec 1 := Scalar.cmpi .sgt v1057 c0_i32_660
  let v1062 : BitVec 32 := Scalar.extui v1061
  let c0_i32_661 : BitVec 32 := 0#32
  let v1063 : BitVec 1 := Scalar.cmpi .slt v1057 c0_i32_661
  let v1064 : BitVec 32 := Scalar.extui v1063
  let v1065 : BitVec 32 := Scalar.subi v1062 v1064
  let c8_i32_659 : BitVec 32 := 8#32
  let c0_i32_662 : BitVec 32 := 0#32
  let v1066 : BitVec 1 := Scalar.cmpi .sgt c8_i32_659 c0_i32_662
  let v1067 : BitVec 32 := Scalar.extui v1066
  let c0_i32_663 : BitVec 32 := 0#32
  let v1068 : BitVec 1 := Scalar.cmpi .slt c8_i32_659 c0_i32_663
  let v1069 : BitVec 32 := Scalar.extui v1068
  let v1070 : BitVec 32 := Scalar.subi v1067 v1069
  let v1071 : BitVec 1 := Scalar.cmpi .ne v1065 v1070
  let v1072 : BitVec 32 := Scalar.remsi v1057 c8_i32_659
  let c0_i32_664 : BitVec 32 := 0#32
  let v1073 : BitVec 1 := Scalar.cmpi .ne v1072 c0_i32_664
  let v1074 : BitVec 1 := Scalar.andi v1071 v1073
  let v1060 : BitVec 32 := Scalar.divsi v1057 c8_i32_659
  let c1_i32_665 : BitVec 32 := 1#32
  let v1075 : BitVec 32 := Scalar.subi v1060 c1_i32_665
  let v1076 : BitVec 32 := Scalar.select v1074 v1075 v1060
  let c8_i32_666 : BitVec 32 := 8#32
  let v1077 : BitVec 32 := Scalar.muli v1076 c8_i32_666
  let c184_i32_667 : BitVec 32 := 184#32
  let v1078 : BitVec 32 := Scalar.minsi v1077 c184_i32_667
  v1078

def k0_chk64 (i : grid0.Coords) (v1057 : BitVec 32) : Prop :=
  (∀ (k0_h3 : k0_cond3 i = 1#1), 8 ∣ (k0_mult64 v1057).toNat)
theorem k0_mult64_dvd : ∀ (i : grid0.Coords) (v1057 : BitVec 32) (k0_hw64 : k0_chk64 i v1057), ∀ (k0_h3 : k0_cond3 i = 1#1), 8 ∣ (k0_mult64 v1057).toNat := fun i v1057 k0_hw64 k0_h3 => k0_hw64 k0_h3

def k0_off245 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v1085 : Index := Scalar.indexCast v12
  let c10 : Index := 10#32
  let c0_672 : Index := 0#32
  let c0_673 : Index := 0#32
  let c0_674 : Index := 0#32
  ![v1085.toNat, 10, 0, 0, 0]
def k0_off246 (i : grid0.Coords) : Fin 2 → Nat :=
  let arg0 : BitVec 32 := BitVec.ofNat 32 (i 0).val
  let c2_i32 : BitVec 32 := 2#32
  let v3 : BitVec 32 := Scalar.subi arg0 c2_i32
  let c16_i32_680 : BitVec 32 := 16#32
  let v1094 : BitVec 32 := Scalar.muli v3 c16_i32_680
  let c10_i32_681 : BitVec 32 := 10#32
  let v1095 : BitVec 32 := Scalar.addi v1094 c10_i32_681
  let v1096 : Index := Scalar.indexCast v1095
  let c0_682 : Index := 0#32
  ![v1096.toNat, 0]
def k0_mult65 (v1097 : BitVec 32) : BitVec 32 :=
  let c0_i32_684 : BitVec 32 := 0#32
  let v1099 : BitVec 1 := Scalar.cmpi .sgt v1097 c0_i32_684
  let v1100 : BitVec 32 := Scalar.extui v1099
  let c0_i32_685 : BitVec 32 := 0#32
  let v1101 : BitVec 1 := Scalar.cmpi .slt v1097 c0_i32_685
  let v1102 : BitVec 32 := Scalar.extui v1101
  let v1103 : BitVec 32 := Scalar.subi v1100 v1102
  let c8_i32_683 : BitVec 32 := 8#32
  let c0_i32_686 : BitVec 32 := 0#32
  let v1104 : BitVec 1 := Scalar.cmpi .sgt c8_i32_683 c0_i32_686
  let v1105 : BitVec 32 := Scalar.extui v1104
  let c0_i32_687 : BitVec 32 := 0#32
  let v1106 : BitVec 1 := Scalar.cmpi .slt c8_i32_683 c0_i32_687
  let v1107 : BitVec 32 := Scalar.extui v1106
  let v1108 : BitVec 32 := Scalar.subi v1105 v1107
  let v1109 : BitVec 1 := Scalar.cmpi .ne v1103 v1108
  let v1110 : BitVec 32 := Scalar.remsi v1097 c8_i32_683
  let c0_i32_688 : BitVec 32 := 0#32
  let v1111 : BitVec 1 := Scalar.cmpi .ne v1110 c0_i32_688
  let v1112 : BitVec 1 := Scalar.andi v1109 v1111
  let v1098 : BitVec 32 := Scalar.divsi v1097 c8_i32_683
  let c1_i32_689 : BitVec 32 := 1#32
  let v1113 : BitVec 32 := Scalar.subi v1098 c1_i32_689
  let v1114 : BitVec 32 := Scalar.select v1112 v1113 v1098
  let c8_i32_690 : BitVec 32 := 8#32
  let v1115 : BitVec 32 := Scalar.muli v1114 c8_i32_690
  let c184_i32_691 : BitVec 32 := 184#32
  let v1116 : BitVec 32 := Scalar.minsi v1115 c184_i32_691
  v1116

def k0_off247 (i : grid0.Coords) : Fin 2 → Nat :=
  let arg0 : BitVec 32 := BitVec.ofNat 32 (i 0).val
  let c2_i32 : BitVec 32 := 2#32
  let v3 : BitVec 32 := Scalar.subi arg0 c2_i32
  let c4_i32_679 : BitVec 32 := 4#32
  let v1093 : BitVec 32 := Scalar.remsi v3 c4_i32_679
  let c10_i32_693 : BitVec 32 := 10#32
  ![v1093.toNat, 10]
def k0_off248 (i : grid0.Coords) (v1097 : BitVec 32) : Fin 4 → Nat :=
  let arg0 : BitVec 32 := BitVec.ofNat 32 (i 0).val
  let c2_i32 : BitVec 32 := 2#32
  let v3 : BitVec 32 := Scalar.subi arg0 c2_i32
  let c16_i32_680 : BitVec 32 := 16#32
  let v1094 : BitVec 32 := Scalar.muli v3 c16_i32_680
  let c10_i32_681 : BitVec 32 := 10#32
  let v1095 : BitVec 32 := Scalar.addi v1094 c10_i32_681
  let c0_i32_694 : BitVec 32 := 0#32
  let c0_i32_684 : BitVec 32 := 0#32
  let v1099 : BitVec 1 := Scalar.cmpi .sgt v1097 c0_i32_684
  let v1100 : BitVec 32 := Scalar.extui v1099
  let c0_i32_685 : BitVec 32 := 0#32
  let v1101 : BitVec 1 := Scalar.cmpi .slt v1097 c0_i32_685
  let v1102 : BitVec 32 := Scalar.extui v1101
  let v1103 : BitVec 32 := Scalar.subi v1100 v1102
  let c8_i32_683 : BitVec 32 := 8#32
  let c0_i32_686 : BitVec 32 := 0#32
  let v1104 : BitVec 1 := Scalar.cmpi .sgt c8_i32_683 c0_i32_686
  let v1105 : BitVec 32 := Scalar.extui v1104
  let c0_i32_687 : BitVec 32 := 0#32
  let v1106 : BitVec 1 := Scalar.cmpi .slt c8_i32_683 c0_i32_687
  let v1107 : BitVec 32 := Scalar.extui v1106
  let v1108 : BitVec 32 := Scalar.subi v1105 v1107
  let v1109 : BitVec 1 := Scalar.cmpi .ne v1103 v1108
  let v1110 : BitVec 32 := Scalar.remsi v1097 c8_i32_683
  let c0_i32_688 : BitVec 32 := 0#32
  let v1111 : BitVec 1 := Scalar.cmpi .ne v1110 c0_i32_688
  let v1112 : BitVec 1 := Scalar.andi v1109 v1111
  let v1098 : BitVec 32 := Scalar.divsi v1097 c8_i32_683
  let c1_i32_689 : BitVec 32 := 1#32
  let v1113 : BitVec 32 := Scalar.subi v1098 c1_i32_689
  let v1114 : BitVec 32 := Scalar.select v1112 v1113 v1098
  let c8_i32_690 : BitVec 32 := 8#32
  let v1115 : BitVec 32 := Scalar.muli v1114 c8_i32_690
  let c184_i32_691 : BitVec 32 := 184#32
  let v1116 : BitVec 32 := Scalar.minsi v1115 c184_i32_691
  let v1117 : BitVec 32 := v1116
  let c0_i32_695 : BitVec 32 := 0#32
  ![v1095.toNat, 0, v1117.toNat, 0]

def k0_chk65 (i : grid0.Coords) (v1097 : BitVec 32) : Prop :=
  (∀ (k0_h3 : k0_cond3 i = 1#1), 8 ∣ (k0_mult65 v1097).toNat) ∧
  (∀ (k0_h3 : k0_cond3 i = 1#1), ∀ a, (k0_off248 i v1097) a + S1x3x40x224.size a ≤ S256x3x224x224.size a)
theorem k0_mult65_dvd : ∀ (i : grid0.Coords) (v1097 : BitVec 32) (k0_hw65 : k0_chk65 i v1097), ∀ (k0_h3 : k0_cond3 i = 1#1), 8 ∣ (k0_mult65 v1097).toNat := fun i v1097 k0_hw65 k0_h3 => k0_hw65.1 k0_h3
theorem k0_off248_inb : ∀ (i : grid0.Coords) (v1097 : BitVec 32) (k0_hw65 : k0_chk65 i v1097), ∀ (k0_h3 : k0_cond3 i = 1#1), ∀ a, (k0_off248 i v1097) a + S1x3x40x224.size a ≤ S256x3x224x224.size a := fun i v1097 k0_hw65 k0_h3 => k0_hw65.2 k0_h3

def k0_off249 (i : grid0.Coords) : Fin 5 → Nat :=
  let arg0 : BitVec 32 := BitVec.ofNat 32 (i 0).val
  let c2_i32 : BitVec 32 := 2#32
  let v3 : BitVec 32 := Scalar.subi arg0 c2_i32
  let c4_i32_679 : BitVec 32 := 4#32
  let v1093 : BitVec 32 := Scalar.remsi v3 c4_i32_679
  let c10_i32_692 : BitVec 32 := 10#32
  let c0_i32_696 : BitVec 32 := 0#32
  let c0_i32_697 : BitVec 32 := 0#32
  let c0_i32_698 : BitVec 32 := 0#32
  ![v1093.toNat, 10, 0, 0, 0]
def k0_off250 (i : grid0.Coords) : Fin 2 → Nat :=
  let arg0 : BitVec 32 := BitVec.ofNat 32 (i 0).val
  let c2_i32 : BitVec 32 := 2#32
  let v3 : BitVec 32 := Scalar.subi arg0 c2_i32
  let c16_i32_700 : BitVec 32 := 16#32
  let v1125 : BitVec 32 := Scalar.muli v3 c16_i32_700
  let c11_i32 : BitVec 32 := 11#32
  let v1126 : BitVec 32 := Scalar.addi v1125 c11_i32
  let v1127 : Index := Scalar.indexCast v1126
  let c0_701 : Index := 0#32
  ![v1127.toNat, 0]
def k0_mult66 (v1128 : BitVec 32) : BitVec 32 :=
  let c0_i32_703 : BitVec 32 := 0#32
  let v1130 : BitVec 1 := Scalar.cmpi .sgt v1128 c0_i32_703
  let v1131 : BitVec 32 := Scalar.extui v1130
  let c0_i32_704 : BitVec 32 := 0#32
  let v1132 : BitVec 1 := Scalar.cmpi .slt v1128 c0_i32_704
  let v1133 : BitVec 32 := Scalar.extui v1132
  let v1134 : BitVec 32 := Scalar.subi v1131 v1133
  let c8_i32_702 : BitVec 32 := 8#32
  let c0_i32_705 : BitVec 32 := 0#32
  let v1135 : BitVec 1 := Scalar.cmpi .sgt c8_i32_702 c0_i32_705
  let v1136 : BitVec 32 := Scalar.extui v1135
  let c0_i32_706 : BitVec 32 := 0#32
  let v1137 : BitVec 1 := Scalar.cmpi .slt c8_i32_702 c0_i32_706
  let v1138 : BitVec 32 := Scalar.extui v1137
  let v1139 : BitVec 32 := Scalar.subi v1136 v1138
  let v1140 : BitVec 1 := Scalar.cmpi .ne v1134 v1139
  let v1141 : BitVec 32 := Scalar.remsi v1128 c8_i32_702
  let c0_i32_707 : BitVec 32 := 0#32
  let v1142 : BitVec 1 := Scalar.cmpi .ne v1141 c0_i32_707
  let v1143 : BitVec 1 := Scalar.andi v1140 v1142
  let v1129 : BitVec 32 := Scalar.divsi v1128 c8_i32_702
  let c1_i32_708 : BitVec 32 := 1#32
  let v1144 : BitVec 32 := Scalar.subi v1129 c1_i32_708
  let v1145 : BitVec 32 := Scalar.select v1143 v1144 v1129
  let c8_i32_709 : BitVec 32 := 8#32
  let v1146 : BitVec 32 := Scalar.muli v1145 c8_i32_709
  let c184_i32_710 : BitVec 32 := 184#32
  let v1147 : BitVec 32 := Scalar.minsi v1146 c184_i32_710
  v1147

def k0_off251 (i : grid0.Coords) : Fin 2 → Nat :=
  let arg0 : BitVec 32 := BitVec.ofNat 32 (i 0).val
  let c2_i32 : BitVec 32 := 2#32
  let v3 : BitVec 32 := Scalar.subi arg0 c2_i32
  let c4_i32_699 : BitVec 32 := 4#32
  let v1124 : BitVec 32 := Scalar.remsi v3 c4_i32_699
  let c11_i32_712 : BitVec 32 := 11#32
  ![v1124.toNat, 11]
def k0_off252 (i : grid0.Coords) : Fin 5 → Nat :=
  let arg0 : BitVec 32 := BitVec.ofNat 32 (i 0).val
  let c2_i32 : BitVec 32 := 2#32
  let v3 : BitVec 32 := Scalar.subi arg0 c2_i32
  let c4_i32_699 : BitVec 32 := 4#32
  let v1124 : BitVec 32 := Scalar.remsi v3 c4_i32_699
  let c11_i32_711 : BitVec 32 := 11#32
  let c0_i32_713 : BitVec 32 := 0#32
  let c0_i32_714 : BitVec 32 := 0#32
  let c0_i32_715 : BitVec 32 := 0#32
  ![v1124.toNat, 11, 0, 0, 0]
def k0_off253 (i : grid0.Coords) (v1128 : BitVec 32) : Fin 4 → Nat :=
  let arg0 : BitVec 32 := BitVec.ofNat 32 (i 0).val
  let c2_i32 : BitVec 32 := 2#32
  let v3 : BitVec 32 := Scalar.subi arg0 c2_i32
  let c16_i32_700 : BitVec 32 := 16#32
  let v1125 : BitVec 32 := Scalar.muli v3 c16_i32_700
  let c11_i32 : BitVec 32 := 11#32
  let v1126 : BitVec 32 := Scalar.addi v1125 c11_i32
  let c0_i32_716 : BitVec 32 := 0#32
  let c0_i32_703 : BitVec 32 := 0#32
  let v1130 : BitVec 1 := Scalar.cmpi .sgt v1128 c0_i32_703
  let v1131 : BitVec 32 := Scalar.extui v1130
  let c0_i32_704 : BitVec 32 := 0#32
  let v1132 : BitVec 1 := Scalar.cmpi .slt v1128 c0_i32_704
  let v1133 : BitVec 32 := Scalar.extui v1132
  let v1134 : BitVec 32 := Scalar.subi v1131 v1133
  let c8_i32_702 : BitVec 32 := 8#32
  let c0_i32_705 : BitVec 32 := 0#32
  let v1135 : BitVec 1 := Scalar.cmpi .sgt c8_i32_702 c0_i32_705
  let v1136 : BitVec 32 := Scalar.extui v1135
  let c0_i32_706 : BitVec 32 := 0#32
  let v1137 : BitVec 1 := Scalar.cmpi .slt c8_i32_702 c0_i32_706
  let v1138 : BitVec 32 := Scalar.extui v1137
  let v1139 : BitVec 32 := Scalar.subi v1136 v1138
  let v1140 : BitVec 1 := Scalar.cmpi .ne v1134 v1139
  let v1141 : BitVec 32 := Scalar.remsi v1128 c8_i32_702
  let c0_i32_707 : BitVec 32 := 0#32
  let v1142 : BitVec 1 := Scalar.cmpi .ne v1141 c0_i32_707
  let v1143 : BitVec 1 := Scalar.andi v1140 v1142
  let v1129 : BitVec 32 := Scalar.divsi v1128 c8_i32_702
  let c1_i32_708 : BitVec 32 := 1#32
  let v1144 : BitVec 32 := Scalar.subi v1129 c1_i32_708
  let v1145 : BitVec 32 := Scalar.select v1143 v1144 v1129
  let c8_i32_709 : BitVec 32 := 8#32
  let v1146 : BitVec 32 := Scalar.muli v1145 c8_i32_709
  let c184_i32_710 : BitVec 32 := 184#32
  let v1147 : BitVec 32 := Scalar.minsi v1146 c184_i32_710
  let v1148 : BitVec 32 := v1147
  let c0_i32_717 : BitVec 32 := 0#32
  ![v1126.toNat, 0, v1148.toNat, 0]

def k0_chk66 (i : grid0.Coords) (v1128 : BitVec 32) : Prop :=
  (∀ (k0_h3 : k0_cond3 i = 1#1), 8 ∣ (k0_mult66 v1128).toNat) ∧
  (∀ (k0_h3 : k0_cond3 i = 1#1), ∀ a, (k0_off253 i v1128) a + S1x3x40x224.size a ≤ S256x3x224x224.size a)
theorem k0_mult66_dvd : ∀ (i : grid0.Coords) (v1128 : BitVec 32) (k0_hw66 : k0_chk66 i v1128), ∀ (k0_h3 : k0_cond3 i = 1#1), 8 ∣ (k0_mult66 v1128).toNat := fun i v1128 k0_hw66 k0_h3 => k0_hw66.1 k0_h3
theorem k0_off253_inb : ∀ (i : grid0.Coords) (v1128 : BitVec 32) (k0_hw66 : k0_chk66 i v1128), ∀ (k0_h3 : k0_cond3 i = 1#1), ∀ a, (k0_off253 i v1128) a + S1x3x40x224.size a ≤ S256x3x224x224.size a := fun i v1128 k0_hw66 k0_h3 => k0_hw66.2 k0_h3

def k0_off254 (i : grid0.Coords) : Fin 2 → Nat :=
  let arg0 : BitVec 32 := BitVec.ofNat 32 (i 0).val
  let c2_i32 : BitVec 32 := 2#32
  let v3 : BitVec 32 := Scalar.subi arg0 c2_i32
  let c16_i32_718 : BitVec 32 := 16#32
  let v1155 : BitVec 32 := Scalar.muli v3 c16_i32_718
  let c11_i32_719 : BitVec 32 := 11#32
  let v1156 : BitVec 32 := Scalar.addi v1155 c11_i32_719
  let v1157 : Index := Scalar.indexCast v1156
  let c0_720 : Index := 0#32
  ![v1157.toNat, 0]
def k0_off255 (i : grid0.Coords) : Fin 2 → Nat :=
  let arg0 : BitVec 32 := BitVec.ofNat 32 (i 0).val
  let c2_i32 : BitVec 32 := 2#32
  let v3 : BitVec 32 := Scalar.subi arg0 c2_i32
  let c16_i32_718 : BitVec 32 := 16#32
  let v1155 : BitVec 32 := Scalar.muli v3 c16_i32_718
  let c11_i32_719 : BitVec 32 := 11#32
  let v1156 : BitVec 32 := Scalar.addi v1155 c11_i32_719
  let v1159 : Index := Scalar.indexCast v1156
  let c1_721 : Index := 1#32
  ![v1159.toNat, 1]
def k0_mult67 (v1158 : BitVec 32) : BitVec 32 :=
  let c0_i32_723 : BitVec 32 := 0#32
  let v1162 : BitVec 1 := Scalar.cmpi .sgt v1158 c0_i32_723
  let v1163 : BitVec 32 := Scalar.extui v1162
  let c0_i32_724 : BitVec 32 := 0#32
  let v1164 : BitVec 1 := Scalar.cmpi .slt v1158 c0_i32_724
  let v1165 : BitVec 32 := Scalar.extui v1164
  let v1166 : BitVec 32 := Scalar.subi v1163 v1165
  let c8_i32_722 : BitVec 32 := 8#32
  let c0_i32_725 : BitVec 32 := 0#32
  let v1167 : BitVec 1 := Scalar.cmpi .sgt c8_i32_722 c0_i32_725
  let v1168 : BitVec 32 := Scalar.extui v1167
  let c0_i32_726 : BitVec 32 := 0#32
  let v1169 : BitVec 1 := Scalar.cmpi .slt c8_i32_722 c0_i32_726
  let v1170 : BitVec 32 := Scalar.extui v1169
  let v1171 : BitVec 32 := Scalar.subi v1168 v1170
  let v1172 : BitVec 1 := Scalar.cmpi .ne v1166 v1171
  let v1173 : BitVec 32 := Scalar.remsi v1158 c8_i32_722
  let c0_i32_727 : BitVec 32 := 0#32
  let v1174 : BitVec 1 := Scalar.cmpi .ne v1173 c0_i32_727
  let v1175 : BitVec 1 := Scalar.andi v1172 v1174
  let v1161 : BitVec 32 := Scalar.divsi v1158 c8_i32_722
  let c1_i32_728 : BitVec 32 := 1#32
  let v1176 : BitVec 32 := Scalar.subi v1161 c1_i32_728
  let v1177 : BitVec 32 := Scalar.select v1175 v1176 v1161
  let c8_i32_729 : BitVec 32 := 8#32
  let v1178 : BitVec 32 := Scalar.muli v1177 c8_i32_729
  let c184_i32_730 : BitVec 32 := 184#32
  let v1179 : BitVec 32 := Scalar.minsi v1178 c184_i32_730
  v1179

def k0_chk67 (i : grid0.Coords) (v1158 : BitVec 32) : Prop :=
  (∀ (k0_h3 : k0_cond3 i = 1#1), 8 ∣ (k0_mult67 v1158).toNat)
theorem k0_mult67_dvd : ∀ (i : grid0.Coords) (v1158 : BitVec 32) (k0_hw67 : k0_chk67 i v1158), ∀ (k0_h3 : k0_cond3 i = 1#1), 8 ∣ (k0_mult67 v1158).toNat := fun i v1158 k0_hw67 k0_h3 => k0_hw67 k0_h3

def k0_off256 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v1186 : Index := Scalar.indexCast v12
  let c11 : Index := 11#32
  let c0_735 : Index := 0#32
  let c0_736 : Index := 0#32
  let c0_737 : Index := 0#32
  ![v1186.toNat, 11, 0, 0, 0]
def k0_off257 (i : grid0.Coords) : Fin 2 → Nat :=
  let arg0 : BitVec 32 := BitVec.ofNat 32 (i 0).val
  let c2_i32 : BitVec 32 := 2#32
  let v3 : BitVec 32 := Scalar.subi arg0 c2_i32
  let c16_i32_743 : BitVec 32 := 16#32
  let v1195 : BitVec 32 := Scalar.muli v3 c16_i32_743
  let c11_i32_744 : BitVec 32 := 11#32
  let v1196 : BitVec 32 := Scalar.addi v1195 c11_i32_744
  let v1197 : Index := Scalar.indexCast v1196
  let c0_745 : Index := 0#32
  ![v1197.toNat, 0]
def k0_mult68 (v1198 : BitVec 32) : BitVec 32 :=
  let c0_i32_747 : BitVec 32 := 0#32
  let v1200 : BitVec 1 := Scalar.cmpi .sgt v1198 c0_i32_747
  let v1201 : BitVec 32 := Scalar.extui v1200
  let c0_i32_748 : BitVec 32 := 0#32
  let v1202 : BitVec 1 := Scalar.cmpi .slt v1198 c0_i32_748
  let v1203 : BitVec 32 := Scalar.extui v1202
  let v1204 : BitVec 32 := Scalar.subi v1201 v1203
  let c8_i32_746 : BitVec 32 := 8#32
  let c0_i32_749 : BitVec 32 := 0#32
  let v1205 : BitVec 1 := Scalar.cmpi .sgt c8_i32_746 c0_i32_749
  let v1206 : BitVec 32 := Scalar.extui v1205
  let c0_i32_750 : BitVec 32 := 0#32
  let v1207 : BitVec 1 := Scalar.cmpi .slt c8_i32_746 c0_i32_750
  let v1208 : BitVec 32 := Scalar.extui v1207
  let v1209 : BitVec 32 := Scalar.subi v1206 v1208
  let v1210 : BitVec 1 := Scalar.cmpi .ne v1204 v1209
  let v1211 : BitVec 32 := Scalar.remsi v1198 c8_i32_746
  let c0_i32_751 : BitVec 32 := 0#32
  let v1212 : BitVec 1 := Scalar.cmpi .ne v1211 c0_i32_751
  let v1213 : BitVec 1 := Scalar.andi v1210 v1212
  let v1199 : BitVec 32 := Scalar.divsi v1198 c8_i32_746
  let c1_i32_752 : BitVec 32 := 1#32
  let v1214 : BitVec 32 := Scalar.subi v1199 c1_i32_752
  let v1215 : BitVec 32 := Scalar.select v1213 v1214 v1199
  let c8_i32_753 : BitVec 32 := 8#32
  let v1216 : BitVec 32 := Scalar.muli v1215 c8_i32_753
  let c184_i32_754 : BitVec 32 := 184#32
  let v1217 : BitVec 32 := Scalar.minsi v1216 c184_i32_754
  v1217

def k0_off258 (i : grid0.Coords) : Fin 2 → Nat :=
  let arg0 : BitVec 32 := BitVec.ofNat 32 (i 0).val
  let c2_i32 : BitVec 32 := 2#32
  let v3 : BitVec 32 := Scalar.subi arg0 c2_i32
  let c4_i32_742 : BitVec 32 := 4#32
  let v1194 : BitVec 32 := Scalar.remsi v3 c4_i32_742
  let c11_i32_756 : BitVec 32 := 11#32
  ![v1194.toNat, 11]
def k0_off259 (i : grid0.Coords) (v1198 : BitVec 32) : Fin 4 → Nat :=
  let arg0 : BitVec 32 := BitVec.ofNat 32 (i 0).val
  let c2_i32 : BitVec 32 := 2#32
  let v3 : BitVec 32 := Scalar.subi arg0 c2_i32
  let c16_i32_743 : BitVec 32 := 16#32
  let v1195 : BitVec 32 := Scalar.muli v3 c16_i32_743
  let c11_i32_744 : BitVec 32 := 11#32
  let v1196 : BitVec 32 := Scalar.addi v1195 c11_i32_744
  let c0_i32_757 : BitVec 32 := 0#32
  let c0_i32_747 : BitVec 32 := 0#32
  let v1200 : BitVec 1 := Scalar.cmpi .sgt v1198 c0_i32_747
  let v1201 : BitVec 32 := Scalar.extui v1200
  let c0_i32_748 : BitVec 32 := 0#32
  let v1202 : BitVec 1 := Scalar.cmpi .slt v1198 c0_i32_748
  let v1203 : BitVec 32 := Scalar.extui v1202
  let v1204 : BitVec 32 := Scalar.subi v1201 v1203
  let c8_i32_746 : BitVec 32 := 8#32
  let c0_i32_749 : BitVec 32 := 0#32
  let v1205 : BitVec 1 := Scalar.cmpi .sgt c8_i32_746 c0_i32_749
  let v1206 : BitVec 32 := Scalar.extui v1205
  let c0_i32_750 : BitVec 32 := 0#32
  let v1207 : BitVec 1 := Scalar.cmpi .slt c8_i32_746 c0_i32_750
  let v1208 : BitVec 32 := Scalar.extui v1207
  let v1209 : BitVec 32 := Scalar.subi v1206 v1208
  let v1210 : BitVec 1 := Scalar.cmpi .ne v1204 v1209
  let v1211 : BitVec 32 := Scalar.remsi v1198 c8_i32_746
  let c0_i32_751 : BitVec 32 := 0#32
  let v1212 : BitVec 1 := Scalar.cmpi .ne v1211 c0_i32_751
  let v1213 : BitVec 1 := Scalar.andi v1210 v1212
  let v1199 : BitVec 32 := Scalar.divsi v1198 c8_i32_746
  let c1_i32_752 : BitVec 32 := 1#32
  let v1214 : BitVec 32 := Scalar.subi v1199 c1_i32_752
  let v1215 : BitVec 32 := Scalar.select v1213 v1214 v1199
  let c8_i32_753 : BitVec 32 := 8#32
  let v1216 : BitVec 32 := Scalar.muli v1215 c8_i32_753
  let c184_i32_754 : BitVec 32 := 184#32
  let v1217 : BitVec 32 := Scalar.minsi v1216 c184_i32_754
  let v1218 : BitVec 32 := v1217
  let c0_i32_758 : BitVec 32 := 0#32
  ![v1196.toNat, 0, v1218.toNat, 0]

def k0_chk68 (i : grid0.Coords) (v1198 : BitVec 32) : Prop :=
  (∀ (k0_h3 : k0_cond3 i = 1#1), 8 ∣ (k0_mult68 v1198).toNat) ∧
  (∀ (k0_h3 : k0_cond3 i = 1#1), ∀ a, (k0_off259 i v1198) a + S1x3x40x224.size a ≤ S256x3x224x224.size a)
theorem k0_mult68_dvd : ∀ (i : grid0.Coords) (v1198 : BitVec 32) (k0_hw68 : k0_chk68 i v1198), ∀ (k0_h3 : k0_cond3 i = 1#1), 8 ∣ (k0_mult68 v1198).toNat := fun i v1198 k0_hw68 k0_h3 => k0_hw68.1 k0_h3
theorem k0_off259_inb : ∀ (i : grid0.Coords) (v1198 : BitVec 32) (k0_hw68 : k0_chk68 i v1198), ∀ (k0_h3 : k0_cond3 i = 1#1), ∀ a, (k0_off259 i v1198) a + S1x3x40x224.size a ≤ S256x3x224x224.size a := fun i v1198 k0_hw68 k0_h3 => k0_hw68.2 k0_h3

def k0_off260 (i : grid0.Coords) : Fin 5 → Nat :=
  let arg0 : BitVec 32 := BitVec.ofNat 32 (i 0).val
  let c2_i32 : BitVec 32 := 2#32
  let v3 : BitVec 32 := Scalar.subi arg0 c2_i32
  let c4_i32_742 : BitVec 32 := 4#32
  let v1194 : BitVec 32 := Scalar.remsi v3 c4_i32_742
  let c11_i32_755 : BitVec 32 := 11#32
  let c0_i32_759 : BitVec 32 := 0#32
  let c0_i32_760 : BitVec 32 := 0#32
  let c0_i32_761 : BitVec 32 := 0#32
  ![v1194.toNat, 11, 0, 0, 0]
def k0_off261 (i : grid0.Coords) : Fin 2 → Nat :=
  let arg0 : BitVec 32 := BitVec.ofNat 32 (i 0).val
  let c2_i32 : BitVec 32 := 2#32
  let v3 : BitVec 32 := Scalar.subi arg0 c2_i32
  let c16_i32_763 : BitVec 32 := 16#32
  let v1226 : BitVec 32 := Scalar.muli v3 c16_i32_763
  let c12_i32 : BitVec 32 := 12#32
  let v1227 : BitVec 32 := Scalar.addi v1226 c12_i32
  let v1228 : Index := Scalar.indexCast v1227
  let c0_764 : Index := 0#32
  ![v1228.toNat, 0]
def k0_mult69 (v1229 : BitVec 32) : BitVec 32 :=
  let c0_i32_766 : BitVec 32 := 0#32
  let v1231 : BitVec 1 := Scalar.cmpi .sgt v1229 c0_i32_766
  let v1232 : BitVec 32 := Scalar.extui v1231
  let c0_i32_767 : BitVec 32 := 0#32
  let v1233 : BitVec 1 := Scalar.cmpi .slt v1229 c0_i32_767
  let v1234 : BitVec 32 := Scalar.extui v1233
  let v1235 : BitVec 32 := Scalar.subi v1232 v1234
  let c8_i32_765 : BitVec 32 := 8#32
  let c0_i32_768 : BitVec 32 := 0#32
  let v1236 : BitVec 1 := Scalar.cmpi .sgt c8_i32_765 c0_i32_768
  let v1237 : BitVec 32 := Scalar.extui v1236
  let c0_i32_769 : BitVec 32 := 0#32
  let v1238 : BitVec 1 := Scalar.cmpi .slt c8_i32_765 c0_i32_769
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_765
  let c0_i32_770 : BitVec 32 := 0#32
  let v1243 : BitVec 1 := Scalar.cmpi .ne v1242 c0_i32_770
  let v1244 : BitVec 1 := Scalar.andi v1241 v1243
  let v1230 : BitVec 32 := Scalar.divsi v1229 c8_i32_765
  let c1_i32_771 : BitVec 32 := 1#32
  let v1245 : BitVec 32 := Scalar.subi v1230 c1_i32_771
  let v1246 : BitVec 32 := Scalar.select v1244 v1245 v1230
  let c8_i32_772 : BitVec 32 := 8#32
  let v1247 : BitVec 32 := Scalar.muli v1246 c8_i32_772
  let c184_i32_773 : BitVec 32 := 184#32
  let v1248 : BitVec 32 := Scalar.minsi v1247 c184_i32_773
  v1248

def k0_off262 (i : grid0.Coords) : Fin 2 → Nat :=
  let arg0 : BitVec 32 := BitVec.ofNat 32 (i 0).val
  let c2_i32 : BitVec 32 := 2#32
  let v3 : BitVec 32 := Scalar.subi arg0 c2_i32
  let c4_i32_762 : BitVec 32 := 4#32
  let v1225 : BitVec 32 := Scalar.remsi v3 c4_i32_762
  let c12_i32_775 : BitVec 32 := 12#32
  ![v1225.toNat, 12]
def k0_off263 (i : grid0.Coords) : Fin 5 → Nat :=
  let arg0 : BitVec 32 := BitVec.ofNat 32 (i 0).val
  let c2_i32 : BitVec 32 := 2#32
  let v3 : BitVec 32 := Scalar.subi arg0 c2_i32
  let c4_i32_762 : BitVec 32 := 4#32
  let v1225 : BitVec 32 := Scalar.remsi v3 c4_i32_762
  let c12_i32_774 : BitVec 32 := 12#32
  let c0_i32_776 : BitVec 32 := 0#32
  let c0_i32_777 : BitVec 32 := 0#32
  let c0_i32_778 : BitVec 32 := 0#32
  ![v1225.toNat, 12, 0, 0, 0]
def k0_off264 (i : grid0.Coords) (v1229 : BitVec 32) : Fin 4 → Nat :=
  let arg0 : BitVec 32 := BitVec.ofNat 32 (i 0).val
  let c2_i32 : BitVec 32 := 2#32
  let v3 : BitVec 32 := Scalar.subi arg0 c2_i32
  let c16_i32_763 : BitVec 32 := 16#32
  let v1226 : BitVec 32 := Scalar.muli v3 c16_i32_763
  let c12_i32 : BitVec 32 := 12#32
  let v1227 : BitVec 32 := Scalar.addi v1226 c12_i32
  let c0_i32_779 : BitVec 32 := 0#32
  let c0_i32_766 : BitVec 32 := 0#32
  let v1231 : BitVec 1 := Scalar.cmpi .sgt v1229 c0_i32_766
  let v1232 : BitVec 32 := Scalar.extui v1231
  let c0_i32_767 : BitVec 32 := 0#32
  let v1233 : BitVec 1 := Scalar.cmpi .slt v1229 c0_i32_767
  let v1234 : BitVec 32 := Scalar.extui v1233
  let v1235 : BitVec 32 := Scalar.subi v1232 v1234
  let c8_i32_765 : BitVec 32 := 8#32
  let c0_i32_768 : BitVec 32 := 0#32
  let v1236 : BitVec 1 := Scalar.cmpi .sgt c8_i32_765 c0_i32_768
  let v1237 : BitVec 32 := Scalar.extui v1236
  let c0_i32_769 : BitVec 32 := 0#32
  let v1238 : BitVec 1 := Scalar.cmpi .slt c8_i32_765 c0_i32_769
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_765
  let c0_i32_770 : BitVec 32 := 0#32
  let v1243 : BitVec 1 := Scalar.cmpi .ne v1242 c0_i32_770
  let v1244 : BitVec 1 := Scalar.andi v1241 v1243
  let v1230 : BitVec 32 := Scalar.divsi v1229 c8_i32_765
  let c1_i32_771 : BitVec 32 := 1#32
  let v1245 : BitVec 32 := Scalar.subi v1230 c1_i32_771
  let v1246 : BitVec 32 := Scalar.select v1244 v1245 v1230
  let c8_i32_772 : BitVec 32 := 8#32
  let v1247 : BitVec 32 := Scalar.muli v1246 c8_i32_772
  let c184_i32_773 : BitVec 32 := 184#32
  let v1248 : BitVec 32 := Scalar.minsi v1247 c184_i32_773
  let v1249 : BitVec 32 := v1248
  let c0_i32_780 : BitVec 32 := 0#32
  ![v1227.toNat, 0, v1249.toNat, 0]

def k0_chk69 (i : grid0.Coords) (v1229 : BitVec 32) : Prop :=
  (∀ (k0_h3 : k0_cond3 i = 1#1), 8 ∣ (k0_mult69 v1229).toNat) ∧
  (∀ (k0_h3 : k0_cond3 i = 1#1), ∀ a, (k0_off264 i v1229) a + S1x3x40x224.size a ≤ S256x3x224x224.size a)
theorem k0_mult69_dvd : ∀ (i : grid0.Coords) (v1229 : BitVec 32) (k0_hw69 : k0_chk69 i v1229), ∀ (k0_h3 : k0_cond3 i = 1#1), 8 ∣ (k0_mult69 v1229).toNat := fun i v1229 k0_hw69 k0_h3 => k0_hw69.1 k0_h3
theorem k0_off264_inb : ∀ (i : grid0.Coords) (v1229 : BitVec 32) (k0_hw69 : k0_chk69 i v1229), ∀ (k0_h3 : k0_cond3 i = 1#1), ∀ a, (k0_off264 i v1229) a + S1x3x40x224.size a ≤ S256x3x224x224.size a := fun i v1229 k0_hw69 k0_h3 => k0_hw69.2 k0_h3

def k0_off265 (i : grid0.Coords) : Fin 2 → Nat :=
  let arg0 : BitVec 32 := BitVec.ofNat 32 (i 0).val
  let c2_i32 : BitVec 32 := 2#32
  let v3 : BitVec 32 := Scalar.subi arg0 c2_i32
  let c16_i32_781 : BitVec 32 := 16#32
  let v1256 : BitVec 32 := Scalar.muli v3 c16_i32_781
  let c12_i32_782 : BitVec 32 := 12#32
  let v1257 : BitVec 32 := Scalar.addi v1256 c12_i32_782
  let v1258 : Index := Scalar.indexCast v1257
  let c0_783 : Index := 0#32
  ![v1258.toNat, 0]
def k0_off266 (i : grid0.Coords) : Fin 2 → Nat :=
  let arg0 : BitVec 32 := BitVec.ofNat 32 (i 0).val
  let c2_i32 : BitVec 32 := 2#32
  let v3 : BitVec 32 := Scalar.subi arg0 c2_i32
  let c16_i32_781 : BitVec 32 := 16#32
  let v1256 : BitVec 32 := Scalar.muli v3 c16_i32_781
  let c12_i32_782 : BitVec 32 := 12#32
  let v1257 : BitVec 32 := Scalar.addi v1256 c12_i32_782
  let v1260 : Index := Scalar.indexCast v1257
  let c1_784 : Index := 1#32
  ![v1260.toNat, 1]
def k0_mult70 (v1259 : BitVec 32) : BitVec 32 :=
  let c0_i32_786 : BitVec 32 := 0#32
  let v1263 : BitVec 1 := Scalar.cmpi .sgt v1259 c0_i32_786
  let v1264 : BitVec 32 := Scalar.extui v1263
  let c0_i32_787 : BitVec 32 := 0#32
  let v1265 : BitVec 1 := Scalar.cmpi .slt v1259 c0_i32_787
  let v1266 : BitVec 32 := Scalar.extui v1265
  let v1267 : BitVec 32 := Scalar.subi v1264 v1266
  let c8_i32_785 : BitVec 32 := 8#32
  let c0_i32_788 : BitVec 32 := 0#32
  let v1268 : BitVec 1 := Scalar.cmpi .sgt c8_i32_785 c0_i32_788
  let v1269 : BitVec 32 := Scalar.extui v1268
  let c0_i32_789 : BitVec 32 := 0#32
  let v1270 : BitVec 1 := Scalar.cmpi .slt c8_i32_785 c0_i32_789
  let v1271 : BitVec 32 := Scalar.extui v1270
  let v1272 : BitVec 32 := Scalar.subi v1269 v1271
  let v1273 : BitVec 1 := Scalar.cmpi .ne v1267 v1272
  let v1274 : BitVec 32 := Scalar.remsi v1259 c8_i32_785
  let c0_i32_790 : BitVec 32 := 0#32
  let v1275 : BitVec 1 := Scalar.cmpi .ne v1274 c0_i32_790
  let v1276 : BitVec 1 := Scalar.andi v1273 v1275
  let v1262 : BitVec 32 := Scalar.divsi v1259 c8_i32_785
  let c1_i32_791 : BitVec 32 := 1#32
  let v1277 : BitVec 32 := Scalar.subi v1262 c1_i32_791
  let v1278 : BitVec 32 := Scalar.select v1276 v1277 v1262
  let c8_i32_792 : BitVec 32 := 8#32
  let v1279 : BitVec 32 := Scalar.muli v1278 c8_i32_792
  let c184_i32_793 : BitVec 32 := 184#32
  let v1280 : BitVec 32 := Scalar.minsi v1279 c184_i32_793
  v1280

def k0_chk70 (i : grid0.Coords) (v1259 : BitVec 32) : Prop :=
  (∀ (k0_h3 : k0_cond3 i = 1#1), 8 ∣ (k0_mult70 v1259).toNat)
theorem k0_mult70_dvd : ∀ (i : grid0.Coords) (v1259 : BitVec 32) (k0_hw70 : k0_chk70 i v1259), ∀ (k0_h3 : k0_cond3 i = 1#1), 8 ∣ (k0_mult70 v1259).toNat := fun i v1259 k0_hw70 k0_h3 => k0_hw70 k0_h3

def k0_off267 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v1287 : Index := Scalar.indexCast v12
  let c12 : Index := 12#32
  let c0_798 : Index := 0#32
  let c0_799 : Index := 0#32
  let c0_800 : Index := 0#32
  ![v1287.toNat, 12, 0, 0, 0]
def k0_off268 (i : grid0.Coords) : Fin 2 → Nat :=
  let arg0 : BitVec 32 := BitVec.ofNat 32 (i 0).val
  let c2_i32 : BitVec 32 := 2#32
  let v3 : BitVec 32 := Scalar.subi arg0 c2_i32
  let c16_i32_806 : BitVec 32 := 16#32
  let v1296 : BitVec 32 := Scalar.muli v3 c16_i32_806
  let c12_i32_807 : BitVec 32 := 12#32
  let v1297 : BitVec 32 := Scalar.addi v1296 c12_i32_807
  let v1298 : Index := Scalar.indexCast v1297
  let c0_808 : Index := 0#32
  ![v1298.toNat, 0]
def k0_mult71 (v1299 : BitVec 32) : BitVec 32 :=
  let c0_i32_810 : BitVec 32 := 0#32
  let v1301 : BitVec 1 := Scalar.cmpi .sgt v1299 c0_i32_810
  let v1302 : BitVec 32 := Scalar.extui v1301
  let c0_i32_811 : BitVec 32 := 0#32
  let v1303 : BitVec 1 := Scalar.cmpi .slt v1299 c0_i32_811
  let v1304 : BitVec 32 := Scalar.extui v1303
  let v1305 : BitVec 32 := Scalar.subi v1302 v1304
  let c8_i32_809 : BitVec 32 := 8#32
  let c0_i32_812 : BitVec 32 := 0#32
  let v1306 : BitVec 1 := Scalar.cmpi .sgt c8_i32_809 c0_i32_812
  let v1307 : BitVec 32 := Scalar.extui v1306
  let c0_i32_813 : BitVec 32 := 0#32
  let v1308 : BitVec 1 := Scalar.cmpi .slt c8_i32_809 c0_i32_813
  let v1309 : BitVec 32 := Scalar.extui v1308
  let v1310 : BitVec 32 := Scalar.subi v1307 v1309
  let v1311 : BitVec 1 := Scalar.cmpi .ne v1305 v1310
  let v1312 : BitVec 32 := Scalar.remsi v1299 c8_i32_809
  let c0_i32_814 : BitVec 32 := 0#32
  let v1313 : BitVec 1 := Scalar.cmpi .ne v1312 c0_i32_814
  let v1314 : BitVec 1 := Scalar.andi v1311 v1313
  let v1300 : BitVec 32 := Scalar.divsi v1299 c8_i32_809
  let c1_i32_815 : BitVec 32 := 1#32
  let v1315 : BitVec 32 := Scalar.subi v1300 c1_i32_815
  let v1316 : BitVec 32 := Scalar.select v1314 v1315 v1300
  let c8_i32_816 : BitVec 32 := 8#32
  let v1317 : BitVec 32 := Scalar.muli v1316 c8_i32_816
  let c184_i32_817 : BitVec 32 := 184#32
  let v1318 : BitVec 32 := Scalar.minsi v1317 c184_i32_817
  v1318

def k0_off269 (i : grid0.Coords) : Fin 2 → Nat :=
  let arg0 : BitVec 32 := BitVec.ofNat 32 (i 0).val
  let c2_i32 : BitVec 32 := 2#32
  let v3 : BitVec 32 := Scalar.subi arg0 c2_i32
  let c4_i32_805 : BitVec 32 := 4#32
  let v1295 : BitVec 32 := Scalar.remsi v3 c4_i32_805
  let c12_i32_819 : BitVec 32 := 12#32
  ![v1295.toNat, 12]
def k0_off270 (i : grid0.Coords) (v1299 : BitVec 32) : Fin 4 → Nat :=
  let arg0 : BitVec 32 := BitVec.ofNat 32 (i 0).val
  let c2_i32 : BitVec 32 := 2#32
  let v3 : BitVec 32 := Scalar.subi arg0 c2_i32
  let c16_i32_806 : BitVec 32 := 16#32
  let v1296 : BitVec 32 := Scalar.muli v3 c16_i32_806
  let c12_i32_807 : BitVec 32 := 12#32
  let v1297 : BitVec 32 := Scalar.addi v1296 c12_i32_807
  let c0_i32_820 : BitVec 32 := 0#32
  let c0_i32_810 : BitVec 32 := 0#32
  let v1301 : BitVec 1 := Scalar.cmpi .sgt v1299 c0_i32_810
  let v1302 : BitVec 32 := Scalar.extui v1301
  let c0_i32_811 : BitVec 32 := 0#32
  let v1303 : BitVec 1 := Scalar.cmpi .slt v1299 c0_i32_811
  let v1304 : BitVec 32 := Scalar.extui v1303
  let v1305 : BitVec 32 := Scalar.subi v1302 v1304
  let c8_i32_809 : BitVec 32 := 8#32
  let c0_i32_812 : BitVec 32 := 0#32
  let v1306 : BitVec 1 := Scalar.cmpi .sgt c8_i32_809 c0_i32_812
  let v1307 : BitVec 32 := Scalar.extui v1306
  let c0_i32_813 : BitVec 32 := 0#32
  let v1308 : BitVec 1 := Scalar.cmpi .slt c8_i32_809 c0_i32_813
  let v1309 : BitVec 32 := Scalar.extui v1308
  let v1310 : BitVec 32 := Scalar.subi v1307 v1309
  let v1311 : BitVec 1 := Scalar.cmpi .ne v1305 v1310
  let v1312 : BitVec 32 := Scalar.remsi v1299 c8_i32_809
  let c0_i32_814 : BitVec 32 := 0#32
  let v1313 : BitVec 1 := Scalar.cmpi .ne v1312 c0_i32_814
  let v1314 : BitVec 1 := Scalar.andi v1311 v1313
  let v1300 : BitVec 32 := Scalar.divsi v1299 c8_i32_809
  let c1_i32_815 : BitVec 32 := 1#32
  let v1315 : BitVec 32 := Scalar.subi v1300 c1_i32_815
  let v1316 : BitVec 32 := Scalar.select v1314 v1315 v1300
  let c8_i32_816 : BitVec 32 := 8#32
  let v1317 : BitVec 32 := Scalar.muli v1316 c8_i32_816
  let c184_i32_817 : BitVec 32 := 184#32
  let v1318 : BitVec 32 := Scalar.minsi v1317 c184_i32_817
  let v1319 : BitVec 32 := v1318
  let c0_i32_821 : BitVec 32 := 0#32
  ![v1297.toNat, 0, v1319.toNat, 0]

def k0_chk71 (i : grid0.Coords) (v1299 : BitVec 32) : Prop :=
  (∀ (k0_h3 : k0_cond3 i = 1#1), 8 ∣ (k0_mult71 v1299).toNat) ∧
  (∀ (k0_h3 : k0_cond3 i = 1#1), ∀ a, (k0_off270 i v1299) a + S1x3x40x224.size a ≤ S256x3x224x224.size a)
theorem k0_mult71_dvd : ∀ (i : grid0.Coords) (v1299 : BitVec 32) (k0_hw71 : k0_chk71 i v1299), ∀ (k0_h3 : k0_cond3 i = 1#1), 8 ∣ (k0_mult71 v1299).toNat := fun i v1299 k0_hw71 k0_h3 => k0_hw71.1 k0_h3
theorem k0_off270_inb : ∀ (i : grid0.Coords) (v1299 : BitVec 32) (k0_hw71 : k0_chk71 i v1299), ∀ (k0_h3 : k0_cond3 i = 1#1), ∀ a, (k0_off270 i v1299) a + S1x3x40x224.size a ≤ S256x3x224x224.size a := fun i v1299 k0_hw71 k0_h3 => k0_hw71.2 k0_h3

def k0_off271 (i : grid0.Coords) : Fin 5 → Nat :=
  let arg0 : BitVec 32 := BitVec.ofNat 32 (i 0).val
  let c2_i32 : BitVec 32 := 2#32
  let v3 : BitVec 32 := Scalar.subi arg0 c2_i32
  let c4_i32_805 : BitVec 32 := 4#32
  let v1295 : BitVec 32 := Scalar.remsi v3 c4_i32_805
  let c12_i32_818 : BitVec 32 := 12#32
  let c0_i32_822 : BitVec 32 := 0#32
  let c0_i32_823 : BitVec 32 := 0#32
  let c0_i32_824 : BitVec 32 := 0#32
  ![v1295.toNat, 12, 0, 0, 0]
def k0_off272 (i : grid0.Coords) : Fin 2 → Nat :=
  let arg0 : BitVec 32 := BitVec.ofNat 32 (i 0).val
  let c2_i32 : BitVec 32 := 2#32
  let v3 : BitVec 32 := Scalar.subi arg0 c2_i32
  let c16_i32_826 : BitVec 32 := 16#32
  let v1327 : BitVec 32 := Scalar.muli v3 c16_i32_826
  let c13_i32 : BitVec 32 := 13#32
  let v1328 : BitVec 32 := Scalar.addi v1327 c13_i32
  let v1329 : Index := Scalar.indexCast v1328
  let c0_827 : Index := 0#32
  ![v1329.toNat, 0]
def k0_mult72 (v1330 : BitVec 32) : BitVec 32 :=
  let c0_i32_829 : BitVec 32 := 0#32
  let v1332 : BitVec 1 := Scalar.cmpi .sgt v1330 c0_i32_829
  let v1333 : BitVec 32 := Scalar.extui v1332
  let c0_i32_830 : BitVec 32 := 0#32
  let v1334 : BitVec 1 := Scalar.cmpi .slt v1330 c0_i32_830
  let v1335 : BitVec 32 := Scalar.extui v1334
  let v1336 : BitVec 32 := Scalar.subi v1333 v1335
  let c8_i32_828 : BitVec 32 := 8#32
  let c0_i32_831 : BitVec 32 := 0#32
  let v1337 : BitVec 1 := Scalar.cmpi .sgt c8_i32_828 c0_i32_831
  let v1338 : BitVec 32 := Scalar.extui v1337
  let c0_i32_832 : BitVec 32 := 0#32
  let v1339 : BitVec 1 := Scalar.cmpi .slt c8_i32_828 c0_i32_832
  let v1340 : BitVec 32 := Scalar.extui v1339
  let v1341 : BitVec 32 := Scalar.subi v1338 v1340
  let v1342 : BitVec 1 := Scalar.cmpi .ne v1336 v1341
  let v1343 : BitVec 32 := Scalar.remsi v1330 c8_i32_828
  let c0_i32_833 : BitVec 32 := 0#32
  let v1344 : BitVec 1 := Scalar.cmpi .ne v1343 c0_i32_833
  let v1345 : BitVec 1 := Scalar.andi v1342 v1344
  let v1331 : BitVec 32 := Scalar.divsi v1330 c8_i32_828
  let c1_i32_834 : BitVec 32 := 1#32
  let v1346 : BitVec 32 := Scalar.subi v1331 c1_i32_834
  let v1347 : BitVec 32 := Scalar.select v1345 v1346 v1331
  let c8_i32_835 : BitVec 32 := 8#32
  let v1348 : BitVec 32 := Scalar.muli v1347 c8_i32_835
  let c184_i32_836 : BitVec 32 := 184#32
  let v1349 : BitVec 32 := Scalar.minsi v1348 c184_i32_836
  v1349

def k0_off273 (i : grid0.Coords) : Fin 2 → Nat :=
  let arg0 : BitVec 32 := BitVec.ofNat 32 (i 0).val
  let c2_i32 : BitVec 32 := 2#32
  let v3 : BitVec 32 := Scalar.subi arg0 c2_i32
  let c4_i32_825 : BitVec 32 := 4#32
  let v1326 : BitVec 32 := Scalar.remsi v3 c4_i32_825
  let c13_i32_838 : BitVec 32 := 13#32
  ![v1326.toNat, 13]
def k0_off274 (i : grid0.Coords) : Fin 5 → Nat :=
  let arg0 : BitVec 32 := BitVec.ofNat 32 (i 0).val
  let c2_i32 : BitVec 32 := 2#32
  let v3 : BitVec 32 := Scalar.subi arg0 c2_i32
  let c4_i32_825 : BitVec 32 := 4#32
  let v1326 : BitVec 32 := Scalar.remsi v3 c4_i32_825
  let c13_i32_837 : BitVec 32 := 13#32
  let c0_i32_839 : BitVec 32 := 0#32
  let c0_i32_840 : BitVec 32 := 0#32
  let c0_i32_841 : BitVec 32 := 0#32
  ![v1326.toNat, 13, 0, 0, 0]
def k0_off275 (i : grid0.Coords) (v1330 : BitVec 32) : Fin 4 → Nat :=
  let arg0 : BitVec 32 := BitVec.ofNat 32 (i 0).val
  let c2_i32 : BitVec 32 := 2#32
  let v3 : BitVec 32 := Scalar.subi arg0 c2_i32
  let c16_i32_826 : BitVec 32 := 16#32
  let v1327 : BitVec 32 := Scalar.muli v3 c16_i32_826
  let c13_i32 : BitVec 32 := 13#32
  let v1328 : BitVec 32 := Scalar.addi v1327 c13_i32
  let c0_i32_842 : BitVec 32 := 0#32
  let c0_i32_829 : BitVec 32 := 0#32
  let v1332 : BitVec 1 := Scalar.cmpi .sgt v1330 c0_i32_829
  let v1333 : BitVec 32 := Scalar.extui v1332
  let c0_i32_830 : BitVec 32 := 0#32
  let v1334 : BitVec 1 := Scalar.cmpi .slt v1330 c0_i32_830
  let v1335 : BitVec 32 := Scalar.extui v1334
  let v1336 : BitVec 32 := Scalar.subi v1333 v1335
  let c8_i32_828 : BitVec 32 := 8#32
  let c0_i32_831 : BitVec 32 := 0#32
  let v1337 : BitVec 1 := Scalar.cmpi .sgt c8_i32_828 c0_i32_831
  let v1338 : BitVec 32 := Scalar.extui v1337
  let c0_i32_832 : BitVec 32 := 0#32
  let v1339 : BitVec 1 := Scalar.cmpi .slt c8_i32_828 c0_i32_832
  let v1340 : BitVec 32 := Scalar.extui v1339
  let v1341 : BitVec 32 := Scalar.subi v1338 v1340
  let v1342 : BitVec 1 := Scalar.cmpi .ne v1336 v1341
  let v1343 : BitVec 32 := Scalar.remsi v1330 c8_i32_828
  let c0_i32_833 : BitVec 32 := 0#32
  let v1344 : BitVec 1 := Scalar.cmpi .ne v1343 c0_i32_833
  let v1345 : BitVec 1 := Scalar.andi v1342 v1344
  let v1331 : BitVec 32 := Scalar.divsi v1330 c8_i32_828
  let c1_i32_834 : BitVec 32 := 1#32
  let v1346 : BitVec 32 := Scalar.subi v1331 c1_i32_834
  let v1347 : BitVec 32 := Scalar.select v1345 v1346 v1331
  let c8_i32_835 : BitVec 32 := 8#32
  let v1348 : BitVec 32 := Scalar.muli v1347 c8_i32_835
  let c184_i32_836 : BitVec 32 := 184#32
  let v1349 : BitVec 32 := Scalar.minsi v1348 c184_i32_836
  let v1350 : BitVec 32 := v1349
  let c0_i32_843 : BitVec 32 := 0#32
  ![v1328.toNat, 0, v1350.toNat, 0]

def k0_chk72 (i : grid0.Coords) (v1330 : BitVec 32) : Prop :=
  (∀ (k0_h3 : k0_cond3 i = 1#1), 8 ∣ (k0_mult72 v1330).toNat) ∧
  (∀ (k0_h3 : k0_cond3 i = 1#1), ∀ a, (k0_off275 i v1330) a + S1x3x40x224.size a ≤ S256x3x224x224.size a)
theorem k0_mult72_dvd : ∀ (i : grid0.Coords) (v1330 : BitVec 32) (k0_hw72 : k0_chk72 i v1330), ∀ (k0_h3 : k0_cond3 i = 1#1), 8 ∣ (k0_mult72 v1330).toNat := fun i v1330 k0_hw72 k0_h3 => k0_hw72.1 k0_h3
theorem k0_off275_inb : ∀ (i : grid0.Coords) (v1330 : BitVec 32) (k0_hw72 : k0_chk72 i v1330), ∀ (k0_h3 : k0_cond3 i = 1#1), ∀ a, (k0_off275 i v1330) a + S1x3x40x224.size a ≤ S256x3x224x224.size a := fun i v1330 k0_hw72 k0_h3 => k0_hw72.2 k0_h3

def k0_off276 (i : grid0.Coords) : Fin 2 → Nat :=
  let arg0 : BitVec 32 := BitVec.ofNat 32 (i 0).val
  let c2_i32 : BitVec 32 := 2#32
  let v3 : BitVec 32 := Scalar.subi arg0 c2_i32
  let c16_i32_844 : BitVec 32 := 16#32
  let v1357 : BitVec 32 := Scalar.muli v3 c16_i32_844
  let c13_i32_845 : BitVec 32 := 13#32
  let v1358 : BitVec 32 := Scalar.addi v1357 c13_i32_845
  let v1359 : Index := Scalar.indexCast v1358
  let c0_846 : Index := 0#32
  ![v1359.toNat, 0]
def k0_off277 (i : grid0.Coords) : Fin 2 → Nat :=
  let arg0 : BitVec 32 := BitVec.ofNat 32 (i 0).val
  let c2_i32 : BitVec 32 := 2#32
  let v3 : BitVec 32 := Scalar.subi arg0 c2_i32
  let c16_i32_844 : BitVec 32 := 16#32
  let v1357 : BitVec 32 := Scalar.muli v3 c16_i32_844
  let c13_i32_845 : BitVec 32 := 13#32
  let v1358 : BitVec 32 := Scalar.addi v1357 c13_i32_845
  let v1361 : Index := Scalar.indexCast v1358
  let c1_847 : Index := 1#32
  ![v1361.toNat, 1]
def k0_mult73 (v1360 : BitVec 32) : BitVec 32 :=
  let c0_i32_849 : BitVec 32 := 0#32
  let v1364 : BitVec 1 := Scalar.cmpi .sgt v1360 c0_i32_849
  let v1365 : BitVec 32 := Scalar.extui v1364
  let c0_i32_850 : BitVec 32 := 0#32
  let v1366 : BitVec 1 := Scalar.cmpi .slt v1360 c0_i32_850
  let v1367 : BitVec 32 := Scalar.extui v1366
  let v1368 : BitVec 32 := Scalar.subi v1365 v1367
  let c8_i32_848 : BitVec 32 := 8#32
  let c0_i32_851 : BitVec 32 := 0#32
  let v1369 : BitVec 1 := Scalar.cmpi .sgt c8_i32_848 c0_i32_851
  let v1370 : BitVec 32 := Scalar.extui v1369
  let c0_i32_852 : BitVec 32 := 0#32
  let v1371 : BitVec 1 := Scalar.cmpi .slt c8_i32_848 c0_i32_852
  let v1372 : BitVec 32 := Scalar.extui v1371
  let v1373 : BitVec 32 := Scalar.subi v1370 v1372
  let v1374 : BitVec 1 := Scalar.cmpi .ne v1368 v1373
  let v1375 : BitVec 32 := Scalar.remsi v1360 c8_i32_848
  let c0_i32_853 : BitVec 32 := 0#32
  let v1376 : BitVec 1 := Scalar.cmpi .ne v1375 c0_i32_853
  let v1377 : BitVec 1 := Scalar.andi v1374 v1376
  let v1363 : BitVec 32 := Scalar.divsi v1360 c8_i32_848
  let c1_i32_854 : BitVec 32 := 1#32
  let v1378 : BitVec 32 := Scalar.subi v1363 c1_i32_854
  let v1379 : BitVec 32 := Scalar.select v1377 v1378 v1363
  let c8_i32_855 : BitVec 32 := 8#32
  let v1380 : BitVec 32 := Scalar.muli v1379 c8_i32_855
  let c184_i32_856 : BitVec 32 := 184#32
  let v1381 : BitVec 32 := Scalar.minsi v1380 c184_i32_856
  v1381

def k0_chk73 (i : grid0.Coords) (v1360 : BitVec 32) : Prop :=
  (∀ (k0_h3 : k0_cond3 i = 1#1), 8 ∣ (k0_mult73 v1360).toNat)
theorem k0_mult73_dvd : ∀ (i : grid0.Coords) (v1360 : BitVec 32) (k0_hw73 : k0_chk73 i v1360), ∀ (k0_h3 : k0_cond3 i = 1#1), 8 ∣ (k0_mult73 v1360).toNat := fun i v1360 k0_hw73 k0_h3 => k0_hw73 k0_h3

def k0_off278 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v1388 : Index := Scalar.indexCast v12
  let c13 : Index := 13#32
  let c0_861 : Index := 0#32
  let c0_862 : Index := 0#32
  let c0_863 : Index := 0#32
  ![v1388.toNat, 13, 0, 0, 0]
def k0_off279 (i : grid0.Coords) : Fin 2 → Nat :=
  let arg0 : BitVec 32 := BitVec.ofNat 32 (i 0).val
  let c2_i32 : BitVec 32 := 2#32
  let v3 : BitVec 32 := Scalar.subi arg0 c2_i32
  let c16_i32_869 : BitVec 32 := 16#32
  let v1397 : BitVec 32 := Scalar.muli v3 c16_i32_869
  let c13_i32_870 : BitVec 32 := 13#32
  let v1398 : BitVec 32 := Scalar.addi v1397 c13_i32_870
  let v1399 : Index := Scalar.indexCast v1398
  let c0_871 : Index := 0#32
  ![v1399.toNat, 0]
def k0_mult74 (v1400 : BitVec 32) : BitVec 32 :=
  let c0_i32_873 : BitVec 32 := 0#32
  let v1402 : BitVec 1 := Scalar.cmpi .sgt v1400 c0_i32_873
  let v1403 : BitVec 32 := Scalar.extui v1402
  let c0_i32_874 : BitVec 32 := 0#32
  let v1404 : BitVec 1 := Scalar.cmpi .slt v1400 c0_i32_874
  let v1405 : BitVec 32 := Scalar.extui v1404
  let v1406 : BitVec 32 := Scalar.subi v1403 v1405
  let c8_i32_872 : BitVec 32 := 8#32
  let c0_i32_875 : BitVec 32 := 0#32
  let v1407 : BitVec 1 := Scalar.cmpi .sgt c8_i32_872 c0_i32_875
  let v1408 : BitVec 32 := Scalar.extui v1407
  let c0_i32_876 : BitVec 32 := 0#32
  let v1409 : BitVec 1 := Scalar.cmpi .slt c8_i32_872 c0_i32_876
  let v1410 : BitVec 32 := Scalar.extui v1409
  let v1411 : BitVec 32 := Scalar.subi v1408 v1410
  let v1412 : BitVec 1 := Scalar.cmpi .ne v1406 v1411
  let v1413 : BitVec 32 := Scalar.remsi v1400 c8_i32_872
  let c0_i32_877 : BitVec 32 := 0#32
  let v1414 : BitVec 1 := Scalar.cmpi .ne v1413 c0_i32_877
  let v1415 : BitVec 1 := Scalar.andi v1412 v1414
  let v1401 : BitVec 32 := Scalar.divsi v1400 c8_i32_872
  let c1_i32_878 : BitVec 32 := 1#32
  let v1416 : BitVec 32 := Scalar.subi v1401 c1_i32_878
  let v1417 : BitVec 32 := Scalar.select v1415 v1416 v1401
  let c8_i32_879 : BitVec 32 := 8#32
  let v1418 : BitVec 32 := Scalar.muli v1417 c8_i32_879
  let c184_i32_880 : BitVec 32 := 184#32
  let v1419 : BitVec 32 := Scalar.minsi v1418 c184_i32_880
  v1419

def k0_off280 (i : grid0.Coords) : Fin 2 → Nat :=
  let arg0 : BitVec 32 := BitVec.ofNat 32 (i 0).val
  let c2_i32 : BitVec 32 := 2#32
  let v3 : BitVec 32 := Scalar.subi arg0 c2_i32
  let c4_i32_868 : BitVec 32 := 4#32
  let v1396 : BitVec 32 := Scalar.remsi v3 c4_i32_868
  let c13_i32_882 : BitVec 32 := 13#32
  ![v1396.toNat, 13]
def k0_off281 (i : grid0.Coords) (v1400 : BitVec 32) : Fin 4 → Nat :=
  let arg0 : BitVec 32 := BitVec.ofNat 32 (i 0).val
  let c2_i32 : BitVec 32 := 2#32
  let v3 : BitVec 32 := Scalar.subi arg0 c2_i32
  let c16_i32_869 : BitVec 32 := 16#32
  let v1397 : BitVec 32 := Scalar.muli v3 c16_i32_869
  let c13_i32_870 : BitVec 32 := 13#32
  let v1398 : BitVec 32 := Scalar.addi v1397 c13_i32_870
  let c0_i32_883 : BitVec 32 := 0#32
  let c0_i32_873 : BitVec 32 := 0#32
  let v1402 : BitVec 1 := Scalar.cmpi .sgt v1400 c0_i32_873
  let v1403 : BitVec 32 := Scalar.extui v1402
  let c0_i32_874 : BitVec 32 := 0#32
  let v1404 : BitVec 1 := Scalar.cmpi .slt v1400 c0_i32_874
  let v1405 : BitVec 32 := Scalar.extui v1404
  let v1406 : BitVec 32 := Scalar.subi v1403 v1405
  let c8_i32_872 : BitVec 32 := 8#32
  let c0_i32_875 : BitVec 32 := 0#32
  let v1407 : BitVec 1 := Scalar.cmpi .sgt c8_i32_872 c0_i32_875
  let v1408 : BitVec 32 := Scalar.extui v1407
  let c0_i32_876 : BitVec 32 := 0#32
  let v1409 : BitVec 1 := Scalar.cmpi .slt c8_i32_872 c0_i32_876
  let v1410 : BitVec 32 := Scalar.extui v1409
  let v1411 : BitVec 32 := Scalar.subi v1408 v1410
  let v1412 : BitVec 1 := Scalar.cmpi .ne v1406 v1411
  let v1413 : BitVec 32 := Scalar.remsi v1400 c8_i32_872
  let c0_i32_877 : BitVec 32 := 0#32
  let v1414 : BitVec 1 := Scalar.cmpi .ne v1413 c0_i32_877
  let v1415 : BitVec 1 := Scalar.andi v1412 v1414
  let v1401 : BitVec 32 := Scalar.divsi v1400 c8_i32_872
  let c1_i32_878 : BitVec 32 := 1#32
  let v1416 : BitVec 32 := Scalar.subi v1401 c1_i32_878
  let v1417 : BitVec 32 := Scalar.select v1415 v1416 v1401
  let c8_i32_879 : BitVec 32 := 8#32
  let v1418 : BitVec 32 := Scalar.muli v1417 c8_i32_879
  let c184_i32_880 : BitVec 32 := 184#32
  let v1419 : BitVec 32 := Scalar.minsi v1418 c184_i32_880
  let v1420 : BitVec 32 := v1419
  let c0_i32_884 : BitVec 32 := 0#32
  ![v1398.toNat, 0, v1420.toNat, 0]

def k0_chk74 (i : grid0.Coords) (v1400 : BitVec 32) : Prop :=
  (∀ (k0_h3 : k0_cond3 i = 1#1), 8 ∣ (k0_mult74 v1400).toNat) ∧
  (∀ (k0_h3 : k0_cond3 i = 1#1), ∀ a, (k0_off281 i v1400) a + S1x3x40x224.size a ≤ S256x3x224x224.size a)
theorem k0_mult74_dvd : ∀ (i : grid0.Coords) (v1400 : BitVec 32) (k0_hw74 : k0_chk74 i v1400), ∀ (k0_h3 : k0_cond3 i = 1#1), 8 ∣ (k0_mult74 v1400).toNat := fun i v1400 k0_hw74 k0_h3 => k0_hw74.1 k0_h3
theorem k0_off281_inb : ∀ (i : grid0.Coords) (v1400 : BitVec 32) (k0_hw74 : k0_chk74 i v1400), ∀ (k0_h3 : k0_cond3 i = 1#1), ∀ a, (k0_off281 i v1400) a + S1x3x40x224.size a ≤ S256x3x224x224.size a := fun i v1400 k0_hw74 k0_h3 => k0_hw74.2 k0_h3

def k0_off282 (i : grid0.Coords) : Fin 5 → Nat :=
  let arg0 : BitVec 32 := BitVec.ofNat 32 (i 0).val
  let c2_i32 : BitVec 32 := 2#32
  let v3 : BitVec 32 := Scalar.subi arg0 c2_i32
  let c4_i32_868 : BitVec 32 := 4#32
  let v1396 : BitVec 32 := Scalar.remsi v3 c4_i32_868
  let c13_i32_881 : BitVec 32 := 13#32
  let c0_i32_885 : BitVec 32 := 0#32
  let c0_i32_886 : BitVec 32 := 0#32
  let c0_i32_887 : BitVec 32 := 0#32
  ![v1396.toNat, 13, 0, 0, 0]
def k0_off283 (i : grid0.Coords) : Fin 2 → Nat :=
  let arg0 : BitVec 32 := BitVec.ofNat 32 (i 0).val
  let c2_i32 : BitVec 32 := 2#32
  let v3 : BitVec 32 := Scalar.subi arg0 c2_i32
  let c16_i32_889 : BitVec 32 := 16#32
  let v1428 : BitVec 32 := Scalar.muli v3 c16_i32_889
  let c14_i32 : BitVec 32 := 14#32
  let v1429 : BitVec 32 := Scalar.addi v1428 c14_i32
  let v1430 : Index := Scalar.indexCast v1429
  let c0_890 : Index := 0#32
  ![v1430.toNat, 0]
def k0_mult75 (v1431 : BitVec 32) : BitVec 32 :=
  let c0_i32_892 : BitVec 32 := 0#32
  let v1433 : BitVec 1 := Scalar.cmpi .sgt v1431 c0_i32_892
  let v1434 : BitVec 32 := Scalar.extui v1433
  let c0_i32_893 : BitVec 32 := 0#32
  let v1435 : BitVec 1 := Scalar.cmpi .slt v1431 c0_i32_893
  let v1436 : BitVec 32 := Scalar.extui v1435
  let v1437 : BitVec 32 := Scalar.subi v1434 v1436
  let c8_i32_891 : BitVec 32 := 8#32
  let c0_i32_894 : BitVec 32 := 0#32
  let v1438 : BitVec 1 := Scalar.cmpi .sgt c8_i32_891 c0_i32_894
  let v1439 : BitVec 32 := Scalar.extui v1438
  let c0_i32_895 : BitVec 32 := 0#32
  let v1440 : BitVec 1 := Scalar.cmpi .slt c8_i32_891 c0_i32_895
  let v1441 : BitVec 32 := Scalar.extui v1440
  let v1442 : BitVec 32 := Scalar.subi v1439 v1441
  let v1443 : BitVec 1 := Scalar.cmpi .ne v1437 v1442
  let v1444 : BitVec 32 := Scalar.remsi v1431 c8_i32_891
  let c0_i32_896 : BitVec 32 := 0#32
  let v1445 : BitVec 1 := Scalar.cmpi .ne v1444 c0_i32_896
  let v1446 : BitVec 1 := Scalar.andi v1443 v1445
  let v1432 : BitVec 32 := Scalar.divsi v1431 c8_i32_891
  let c1_i32_897 : BitVec 32 := 1#32
  let v1447 : BitVec 32 := Scalar.subi v1432 c1_i32_897
  let v1448 : BitVec 32 := Scalar.select v1446 v1447 v1432
  let c8_i32_898 : BitVec 32 := 8#32
  let v1449 : BitVec 32 := Scalar.muli v1448 c8_i32_898
  let c184_i32_899 : BitVec 32 := 184#32
  let v1450 : BitVec 32 := Scalar.minsi v1449 c184_i32_899
  v1450

def k0_off284 (i : grid0.Coords) : Fin 2 → Nat :=
  let arg0 : BitVec 32 := BitVec.ofNat 32 (i 0).val
  let c2_i32 : BitVec 32 := 2#32
  let v3 : BitVec 32 := Scalar.subi arg0 c2_i32
  let c4_i32_888 : BitVec 32 := 4#32
  let v1427 : BitVec 32 := Scalar.remsi v3 c4_i32_888
  let c14_i32_901 : BitVec 32 := 14#32
  ![v1427.toNat, 14]
def k0_off285 (i : grid0.Coords) : Fin 5 → Nat :=
  let arg0 : BitVec 32 := BitVec.ofNat 32 (i 0).val
  let c2_i32 : BitVec 32 := 2#32
  let v3 : BitVec 32 := Scalar.subi arg0 c2_i32
  let c4_i32_888 : BitVec 32 := 4#32
  let v1427 : BitVec 32 := Scalar.remsi v3 c4_i32_888
  let c14_i32_900 : BitVec 32 := 14#32
  let c0_i32_902 : BitVec 32 := 0#32
  let c0_i32_903 : BitVec 32 := 0#32
  let c0_i32_904 : BitVec 32 := 0#32
  ![v1427.toNat, 14, 0, 0, 0]
def k0_off286 (i : grid0.Coords) (v1431 : BitVec 32) : Fin 4 → Nat :=
  let arg0 : BitVec 32 := BitVec.ofNat 32 (i 0).val
  let c2_i32 : BitVec 32 := 2#32
  let v3 : BitVec 32 := Scalar.subi arg0 c2_i32
  let c16_i32_889 : BitVec 32 := 16#32
  let v1428 : BitVec 32 := Scalar.muli v3 c16_i32_889
  let c14_i32 : BitVec 32 := 14#32
  let v1429 : BitVec 32 := Scalar.addi v1428 c14_i32
  let c0_i32_905 : BitVec 32 := 0#32
  let c0_i32_892 : BitVec 32 := 0#32
  let v1433 : BitVec 1 := Scalar.cmpi .sgt v1431 c0_i32_892
  let v1434 : BitVec 32 := Scalar.extui v1433
  let c0_i32_893 : BitVec 32 := 0#32
  let v1435 : BitVec 1 := Scalar.cmpi .slt v1431 c0_i32_893
  let v1436 : BitVec 32 := Scalar.extui v1435
  let v1437 : BitVec 32 := Scalar.subi v1434 v1436
  let c8_i32_891 : BitVec 32 := 8#32
  let c0_i32_894 : BitVec 32 := 0#32
  let v1438 : BitVec 1 := Scalar.cmpi .sgt c8_i32_891 c0_i32_894
  let v1439 : BitVec 32 := Scalar.extui v1438
  let c0_i32_895 : BitVec 32 := 0#32
  let v1440 : BitVec 1 := Scalar.cmpi .slt c8_i32_891 c0_i32_895
  let v1441 : BitVec 32 := Scalar.extui v1440
  let v1442 : BitVec 32 := Scalar.subi v1439 v1441
  let v1443 : BitVec 1 := Scalar.cmpi .ne v1437 v1442
  let v1444 : BitVec 32 := Scalar.remsi v1431 c8_i32_891
  let c0_i32_896 : BitVec 32 := 0#32
  let v1445 : BitVec 1 := Scalar.cmpi .ne v1444 c0_i32_896
  let v1446 : BitVec 1 := Scalar.andi v1443 v1445
  let v1432 : BitVec 32 := Scalar.divsi v1431 c8_i32_891
  let c1_i32_897 : BitVec 32 := 1#32
  let v1447 : BitVec 32 := Scalar.subi v1432 c1_i32_897
  let v1448 : BitVec 32 := Scalar.select v1446 v1447 v1432
  let c8_i32_898 : BitVec 32 := 8#32
  let v1449 : BitVec 32 := Scalar.muli v1448 c8_i32_898
  let c184_i32_899 : BitVec 32 := 184#32
  let v1450 : BitVec 32 := Scalar.minsi v1449 c184_i32_899
  let v1451 : BitVec 32 := v1450
  let c0_i32_906 : BitVec 32 := 0#32
  ![v1429.toNat, 0, v1451.toNat, 0]

def k0_chk75 (i : grid0.Coords) (v1431 : BitVec 32) : Prop :=
  (∀ (k0_h3 : k0_cond3 i = 1#1), 8 ∣ (k0_mult75 v1431).toNat) ∧
  (∀ (k0_h3 : k0_cond3 i = 1#1), ∀ a, (k0_off286 i v1431) a + S1x3x40x224.size a ≤ S256x3x224x224.size a)
theorem k0_mult75_dvd : ∀ (i : grid0.Coords) (v1431 : BitVec 32) (k0_hw75 : k0_chk75 i v1431), ∀ (k0_h3 : k0_cond3 i = 1#1), 8 ∣ (k0_mult75 v1431).toNat := fun i v1431 k0_hw75 k0_h3 => k0_hw75.1 k0_h3
theorem k0_off286_inb : ∀ (i : grid0.Coords) (v1431 : BitVec 32) (k0_hw75 : k0_chk75 i v1431), ∀ (k0_h3 : k0_cond3 i = 1#1), ∀ a, (k0_off286 i v1431) a + S1x3x40x224.size a ≤ S256x3x224x224.size a := fun i v1431 k0_hw75 k0_h3 => k0_hw75.2 k0_h3

def k0_off287 (i : grid0.Coords) : Fin 2 → Nat :=
  let arg0 : BitVec 32 := BitVec.ofNat 32 (i 0).val
  let c2_i32 : BitVec 32 := 2#32
  let v3 : BitVec 32 := Scalar.subi arg0 c2_i32
  let c16_i32_907 : BitVec 32 := 16#32
  let v1458 : BitVec 32 := Scalar.muli v3 c16_i32_907
  let c14_i32_908 : BitVec 32 := 14#32
  let v1459 : BitVec 32 := Scalar.addi v1458 c14_i32_908
  let v1460 : Index := Scalar.indexCast v1459
  let c0_909 : Index := 0#32
  ![v1460.toNat, 0]
def k0_off288 (i : grid0.Coords) : Fin 2 → Nat :=
  let arg0 : BitVec 32 := BitVec.ofNat 32 (i 0).val
  let c2_i32 : BitVec 32 := 2#32
  let v3 : BitVec 32 := Scalar.subi arg0 c2_i32
  let c16_i32_907 : BitVec 32 := 16#32
  let v1458 : BitVec 32 := Scalar.muli v3 c16_i32_907
  let c14_i32_908 : BitVec 32 := 14#32
  let v1459 : BitVec 32 := Scalar.addi v1458 c14_i32_908
  let v1462 : Index := Scalar.indexCast v1459
  let c1_910 : Index := 1#32
  ![v1462.toNat, 1]
def k0_mult76 (v1461 : BitVec 32) : BitVec 32 :=
  let c0_i32_912 : BitVec 32 := 0#32
  let v1465 : BitVec 1 := Scalar.cmpi .sgt v1461 c0_i32_912
  let v1466 : BitVec 32 := Scalar.extui v1465
  let c0_i32_913 : BitVec 32 := 0#32
  let v1467 : BitVec 1 := Scalar.cmpi .slt v1461 c0_i32_913
  let v1468 : BitVec 32 := Scalar.extui v1467
  let v1469 : BitVec 32 := Scalar.subi v1466 v1468
  let c8_i32_911 : BitVec 32 := 8#32
  let c0_i32_914 : BitVec 32 := 0#32
  let v1470 : BitVec 1 := Scalar.cmpi .sgt c8_i32_911 c0_i32_914
  let v1471 : BitVec 32 := Scalar.extui v1470
  let c0_i32_915 : BitVec 32 := 0#32
  let v1472 : BitVec 1 := Scalar.cmpi .slt c8_i32_911 c0_i32_915
  let v1473 : BitVec 32 := Scalar.extui v1472
  let v1474 : BitVec 32 := Scalar.subi v1471 v1473
  let v1475 : BitVec 1 := Scalar.cmpi .ne v1469 v1474
  let v1476 : BitVec 32 := Scalar.remsi v1461 c8_i32_911
  let c0_i32_916 : BitVec 32 := 0#32
  let v1477 : BitVec 1 := Scalar.cmpi .ne v1476 c0_i32_916
  let v1478 : BitVec 1 := Scalar.andi v1475 v1477
  let v1464 : BitVec 32 := Scalar.divsi v1461 c8_i32_911
  let c1_i32_917 : BitVec 32 := 1#32
  let v1479 : BitVec 32 := Scalar.subi v1464 c1_i32_917
  let v1480 : BitVec 32 := Scalar.select v1478 v1479 v1464
  let c8_i32_918 : BitVec 32 := 8#32
  let v1481 : BitVec 32 := Scalar.muli v1480 c8_i32_918
  let c184_i32_919 : BitVec 32 := 184#32
  let v1482 : BitVec 32 := Scalar.minsi v1481 c184_i32_919
  v1482

def k0_chk76 (i : grid0.Coords) (v1461 : BitVec 32) : Prop :=
  (∀ (k0_h3 : k0_cond3 i = 1#1), 8 ∣ (k0_mult76 v1461).toNat)
theorem k0_mult76_dvd : ∀ (i : grid0.Coords) (v1461 : BitVec 32) (k0_hw76 : k0_chk76 i v1461), ∀ (k0_h3 : k0_cond3 i = 1#1), 8 ∣ (k0_mult76 v1461).toNat := fun i v1461 k0_hw76 k0_h3 => k0_hw76 k0_h3

def k0_off289 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v1489 : Index := Scalar.indexCast v12
  let c14 : Index := 14#32
  let c0_924 : Index := 0#32
  let c0_925 : Index := 0#32
  let c0_926 : Index := 0#32
  ![v1489.toNat, 14, 0, 0, 0]
def k0_off290 (i : grid0.Coords) : Fin 2 → Nat :=
  let arg0 : BitVec 32 := BitVec.ofNat 32 (i 0).val
  let c2_i32 : BitVec 32 := 2#32
  let v3 : BitVec 32 := Scalar.subi arg0 c2_i32
  let c16_i32_932 : BitVec 32 := 16#32
  let v1498 : BitVec 32 := Scalar.muli v3 c16_i32_932
  let c14_i32_933 : BitVec 32 := 14#32
  let v1499 : BitVec 32 := Scalar.addi v1498 c14_i32_933
  let v1500 : Index := Scalar.indexCast v1499
  let c0_934 : Index := 0#32
  ![v1500.toNat, 0]
def k0_mult77 (v1501 : BitVec 32) : BitVec 32 :=
  let c0_i32_936 : BitVec 32 := 0#32
  let v1503 : BitVec 1 := Scalar.cmpi .sgt v1501 c0_i32_936
  let v1504 : BitVec 32 := Scalar.extui v1503
  let c0_i32_937 : BitVec 32 := 0#32
  let v1505 : BitVec 1 := Scalar.cmpi .slt v1501 c0_i32_937
  let v1506 : BitVec 32 := Scalar.extui v1505
  let v1507 : BitVec 32 := Scalar.subi v1504 v1506
  let c8_i32_935 : BitVec 32 := 8#32
  let c0_i32_938 : BitVec 32 := 0#32
  let v1508 : BitVec 1 := Scalar.cmpi .sgt c8_i32_935 c0_i32_938
  let v1509 : BitVec 32 := Scalar.extui v1508
  let c0_i32_939 : BitVec 32 := 0#32
  let v1510 : BitVec 1 := Scalar.cmpi .slt c8_i32_935 c0_i32_939
  let v1511 : BitVec 32 := Scalar.extui v1510
  let v1512 : BitVec 32 := Scalar.subi v1509 v1511
  let v1513 : BitVec 1 := Scalar.cmpi .ne v1507 v1512
  let v1514 : BitVec 32 := Scalar.remsi v1501 c8_i32_935
  let c0_i32_940 : BitVec 32 := 0#32
  let v1515 : BitVec 1 := Scalar.cmpi .ne v1514 c0_i32_940
  let v1516 : BitVec 1 := Scalar.andi v1513 v1515
  let v1502 : BitVec 32 := Scalar.divsi v1501 c8_i32_935
  let c1_i32_941 : BitVec 32 := 1#32
  let v1517 : BitVec 32 := Scalar.subi v1502 c1_i32_941
  let v1518 : BitVec 32 := Scalar.select v1516 v1517 v1502
  let c8_i32_942 : BitVec 32 := 8#32
  let v1519 : BitVec 32 := Scalar.muli v1518 c8_i32_942
  let c184_i32_943 : BitVec 32 := 184#32
  let v1520 : BitVec 32 := Scalar.minsi v1519 c184_i32_943
  v1520

def k0_off291 (i : grid0.Coords) : Fin 2 → Nat :=
  let arg0 : BitVec 32 := BitVec.ofNat 32 (i 0).val
  let c2_i32 : BitVec 32 := 2#32
  let v3 : BitVec 32 := Scalar.subi arg0 c2_i32
  let c4_i32_931 : BitVec 32 := 4#32
  let v1497 : BitVec 32 := Scalar.remsi v3 c4_i32_931
  let c14_i32_945 : BitVec 32 := 14#32
  ![v1497.toNat, 14]
def k0_off292 (i : grid0.Coords) (v1501 : BitVec 32) : Fin 4 → Nat :=
  let arg0 : BitVec 32 := BitVec.ofNat 32 (i 0).val
  let c2_i32 : BitVec 32 := 2#32
  let v3 : BitVec 32 := Scalar.subi arg0 c2_i32
  let c16_i32_932 : BitVec 32 := 16#32
  let v1498 : BitVec 32 := Scalar.muli v3 c16_i32_932
  let c14_i32_933 : BitVec 32 := 14#32
  let v1499 : BitVec 32 := Scalar.addi v1498 c14_i32_933
  let c0_i32_946 : BitVec 32 := 0#32
  let c0_i32_936 : BitVec 32 := 0#32
  let v1503 : BitVec 1 := Scalar.cmpi .sgt v1501 c0_i32_936
  let v1504 : BitVec 32 := Scalar.extui v1503
  let c0_i32_937 : BitVec 32 := 0#32
  let v1505 : BitVec 1 := Scalar.cmpi .slt v1501 c0_i32_937
  let v1506 : BitVec 32 := Scalar.extui v1505
  let v1507 : BitVec 32 := Scalar.subi v1504 v1506
  let c8_i32_935 : BitVec 32 := 8#32
  let c0_i32_938 : BitVec 32 := 0#32
  let v1508 : BitVec 1 := Scalar.cmpi .sgt c8_i32_935 c0_i32_938
  let v1509 : BitVec 32 := Scalar.extui v1508
  let c0_i32_939 : BitVec 32 := 0#32
  let v1510 : BitVec 1 := Scalar.cmpi .slt c8_i32_935 c0_i32_939
  let v1511 : BitVec 32 := Scalar.extui v1510
  let v1512 : BitVec 32 := Scalar.subi v1509 v1511
  let v1513 : BitVec 1 := Scalar.cmpi .ne v1507 v1512
  let v1514 : BitVec 32 := Scalar.remsi v1501 c8_i32_935
  let c0_i32_940 : BitVec 32 := 0#32
  let v1515 : BitVec 1 := Scalar.cmpi .ne v1514 c0_i32_940
  let v1516 : BitVec 1 := Scalar.andi v1513 v1515
  let v1502 : BitVec 32 := Scalar.divsi v1501 c8_i32_935
  let c1_i32_941 : BitVec 32 := 1#32
  let v1517 : BitVec 32 := Scalar.subi v1502 c1_i32_941
  let v1518 : BitVec 32 := Scalar.select v1516 v1517 v1502
  let c8_i32_942 : BitVec 32 := 8#32
  let v1519 : BitVec 32 := Scalar.muli v1518 c8_i32_942
  let c184_i32_943 : BitVec 32 := 184#32
  let v1520 : BitVec 32 := Scalar.minsi v1519 c184_i32_943
  let v1521 : BitVec 32 := v1520
  let c0_i32_947 : BitVec 32 := 0#32
  ![v1499.toNat, 0, v1521.toNat, 0]

def k0_chk77 (i : grid0.Coords) (v1501 : BitVec 32) : Prop :=
  (∀ (k0_h3 : k0_cond3 i = 1#1), 8 ∣ (k0_mult77 v1501).toNat) ∧
  (∀ (k0_h3 : k0_cond3 i = 1#1), ∀ a, (k0_off292 i v1501) a + S1x3x40x224.size a ≤ S256x3x224x224.size a)
theorem k0_mult77_dvd : ∀ (i : grid0.Coords) (v1501 : BitVec 32) (k0_hw77 : k0_chk77 i v1501), ∀ (k0_h3 : k0_cond3 i = 1#1), 8 ∣ (k0_mult77 v1501).toNat := fun i v1501 k0_hw77 k0_h3 => k0_hw77.1 k0_h3
theorem k0_off292_inb : ∀ (i : grid0.Coords) (v1501 : BitVec 32) (k0_hw77 : k0_chk77 i v1501), ∀ (k0_h3 : k0_cond3 i = 1#1), ∀ a, (k0_off292 i v1501) a + S1x3x40x224.size a ≤ S256x3x224x224.size a := fun i v1501 k0_hw77 k0_h3 => k0_hw77.2 k0_h3

def k0_off293 (i : grid0.Coords) : Fin 5 → Nat :=
  let arg0 : BitVec 32 := BitVec.ofNat 32 (i 0).val
  let c2_i32 : BitVec 32 := 2#32
  let v3 : BitVec 32 := Scalar.subi arg0 c2_i32
  let c4_i32_931 : BitVec 32 := 4#32
  let v1497 : BitVec 32 := Scalar.remsi v3 c4_i32_931
  let c14_i32_944 : BitVec 32 := 14#32
  let c0_i32_948 : BitVec 32 := 0#32
  let c0_i32_949 : BitVec 32 := 0#32
  let c0_i32_950 : BitVec 32 := 0#32
  ![v1497.toNat, 14, 0, 0, 0]
def k0_off294 (i : grid0.Coords) : Fin 2 → Nat :=
  let arg0 : BitVec 32 := BitVec.ofNat 32 (i 0).val
  let c2_i32 : BitVec 32 := 2#32
  let v3 : BitVec 32 := Scalar.subi arg0 c2_i32
  let c16_i32_952 : BitVec 32 := 16#32
  let v1529 : BitVec 32 := Scalar.muli v3 c16_i32_952
  let c15_i32 : BitVec 32 := 15#32
  let v1530 : BitVec 32 := Scalar.addi v1529 c15_i32
  let v1531 : Index := Scalar.indexCast v1530
  let c0_953 : Index := 0#32
  ![v1531.toNat, 0]
def k0_mult78 (v1532 : BitVec 32) : BitVec 32 :=
  let c0_i32_955 : BitVec 32 := 0#32
  let v1534 : BitVec 1 := Scalar.cmpi .sgt v1532 c0_i32_955
  let v1535 : BitVec 32 := Scalar.extui v1534
  let c0_i32_956 : BitVec 32 := 0#32
  let v1536 : BitVec 1 := Scalar.cmpi .slt v1532 c0_i32_956
  let v1537 : BitVec 32 := Scalar.extui v1536
  let v1538 : BitVec 32 := Scalar.subi v1535 v1537
  let c8_i32_954 : BitVec 32 := 8#32
  let c0_i32_957 : BitVec 32 := 0#32
  let v1539 : BitVec 1 := Scalar.cmpi .sgt c8_i32_954 c0_i32_957
  let v1540 : BitVec 32 := Scalar.extui v1539
  let c0_i32_958 : BitVec 32 := 0#32
  let v1541 : BitVec 1 := Scalar.cmpi .slt c8_i32_954 c0_i32_958
  let v1542 : BitVec 32 := Scalar.extui v1541
  let v1543 : BitVec 32 := Scalar.subi v1540 v1542
  let v1544 : BitVec 1 := Scalar.cmpi .ne v1538 v1543
  let v1545 : BitVec 32 := Scalar.remsi v1532 c8_i32_954
  let c0_i32_959 : BitVec 32 := 0#32
  let v1546 : BitVec 1 := Scalar.cmpi .ne v1545 c0_i32_959
  let v1547 : BitVec 1 := Scalar.andi v1544 v1546
  let v1533 : BitVec 32 := Scalar.divsi v1532 c8_i32_954
  let c1_i32_960 : BitVec 32 := 1#32
  let v1548 : BitVec 32 := Scalar.subi v1533 c1_i32_960
  let v1549 : BitVec 32 := Scalar.select v1547 v1548 v1533
  let c8_i32_961 : BitVec 32 := 8#32
  let v1550 : BitVec 32 := Scalar.muli v1549 c8_i32_961
  let c184_i32_962 : BitVec 32 := 184#32
  let v1551 : BitVec 32 := Scalar.minsi v1550 c184_i32_962
  v1551

def k0_off295 (i : grid0.Coords) : Fin 2 → Nat :=
  let arg0 : BitVec 32 := BitVec.ofNat 32 (i 0).val
  let c2_i32 : BitVec 32 := 2#32
  let v3 : BitVec 32 := Scalar.subi arg0 c2_i32
  let c4_i32_951 : BitVec 32 := 4#32
  let v1528 : BitVec 32 := Scalar.remsi v3 c4_i32_951
  let c15_i32_964 : BitVec 32 := 15#32
  ![v1528.toNat, 15]
def k0_off296 (i : grid0.Coords) : Fin 5 → Nat :=
  let arg0 : BitVec 32 := BitVec.ofNat 32 (i 0).val
  let c2_i32 : BitVec 32 := 2#32
  let v3 : BitVec 32 := Scalar.subi arg0 c2_i32
  let c4_i32_951 : BitVec 32 := 4#32
  let v1528 : BitVec 32 := Scalar.remsi v3 c4_i32_951
  let c15_i32_963 : BitVec 32 := 15#32
  let c0_i32_965 : BitVec 32 := 0#32
  let c0_i32_966 : BitVec 32 := 0#32
  let c0_i32_967 : BitVec 32 := 0#32
  ![v1528.toNat, 15, 0, 0, 0]
def k0_off297 (i : grid0.Coords) (v1532 : BitVec 32) : Fin 4 → Nat :=
  let arg0 : BitVec 32 := BitVec.ofNat 32 (i 0).val
  let c2_i32 : BitVec 32 := 2#32
  let v3 : BitVec 32 := Scalar.subi arg0 c2_i32
  let c16_i32_952 : BitVec 32 := 16#32
  let v1529 : BitVec 32 := Scalar.muli v3 c16_i32_952
  let c15_i32 : BitVec 32 := 15#32
  let v1530 : BitVec 32 := Scalar.addi v1529 c15_i32
  let c0_i32_968 : BitVec 32 := 0#32
  let c0_i32_955 : BitVec 32 := 0#32
  let v1534 : BitVec 1 := Scalar.cmpi .sgt v1532 c0_i32_955
  let v1535 : BitVec 32 := Scalar.extui v1534
  let c0_i32_956 : BitVec 32 := 0#32
  let v1536 : BitVec 1 := Scalar.cmpi .slt v1532 c0_i32_956
  let v1537 : BitVec 32 := Scalar.extui v1536
  let v1538 : BitVec 32 := Scalar.subi v1535 v1537
  let c8_i32_954 : BitVec 32 := 8#32
  let c0_i32_957 : BitVec 32 := 0#32
  let v1539 : BitVec 1 := Scalar.cmpi .sgt c8_i32_954 c0_i32_957
  let v1540 : BitVec 32 := Scalar.extui v1539
  let c0_i32_958 : BitVec 32 := 0#32
  let v1541 : BitVec 1 := Scalar.cmpi .slt c8_i32_954 c0_i32_958
  let v1542 : BitVec 32 := Scalar.extui v1541
  let v1543 : BitVec 32 := Scalar.subi v1540 v1542
  let v1544 : BitVec 1 := Scalar.cmpi .ne v1538 v1543
  let v1545 : BitVec 32 := Scalar.remsi v1532 c8_i32_954
  let c0_i32_959 : BitVec 32 := 0#32
  let v1546 : BitVec 1 := Scalar.cmpi .ne v1545 c0_i32_959
  let v1547 : BitVec 1 := Scalar.andi v1544 v1546
  let v1533 : BitVec 32 := Scalar.divsi v1532 c8_i32_954
  let c1_i32_960 : BitVec 32 := 1#32
  let v1548 : BitVec 32 := Scalar.subi v1533 c1_i32_960
  let v1549 : BitVec 32 := Scalar.select v1547 v1548 v1533
  let c8_i32_961 : BitVec 32 := 8#32
  let v1550 : BitVec 32 := Scalar.muli v1549 c8_i32_961
  let c184_i32_962 : BitVec 32 := 184#32
  let v1551 : BitVec 32 := Scalar.minsi v1550 c184_i32_962
  let v1552 : BitVec 32 := v1551
  let c0_i32_969 : BitVec 32 := 0#32
  ![v1530.toNat, 0, v1552.toNat, 0]

def k0_chk78 (i : grid0.Coords) (v1532 : BitVec 32) : Prop :=
  (∀ (k0_h3 : k0_cond3 i = 1#1), 8 ∣ (k0_mult78 v1532).toNat) ∧
  (∀ (k0_h3 : k0_cond3 i = 1#1), ∀ a, (k0_off297 i v1532) a + S1x3x40x224.size a ≤ S256x3x224x224.size a)
theorem k0_mult78_dvd : ∀ (i : grid0.Coords) (v1532 : BitVec 32) (k0_hw78 : k0_chk78 i v1532), ∀ (k0_h3 : k0_cond3 i = 1#1), 8 ∣ (k0_mult78 v1532).toNat := fun i v1532 k0_hw78 k0_h3 => k0_hw78.1 k0_h3
theorem k0_off297_inb : ∀ (i : grid0.Coords) (v1532 : BitVec 32) (k0_hw78 : k0_chk78 i v1532), ∀ (k0_h3 : k0_cond3 i = 1#1), ∀ a, (k0_off297 i v1532) a + S1x3x40x224.size a ≤ S256x3x224x224.size a := fun i v1532 k0_hw78 k0_h3 => k0_hw78.2 k0_h3

def k0_off298 (i : grid0.Coords) : Fin 2 → Nat :=
  let arg0 : BitVec 32 := BitVec.ofNat 32 (i 0).val
  let c2_i32 : BitVec 32 := 2#32
  let v3 : BitVec 32 := Scalar.subi arg0 c2_i32
  let c16_i32_970 : BitVec 32 := 16#32
  let v1559 : BitVec 32 := Scalar.muli v3 c16_i32_970
  let c15_i32_971 : BitVec 32 := 15#32
  let v1560 : BitVec 32 := Scalar.addi v1559 c15_i32_971
  let v1561 : Index := Scalar.indexCast v1560
  let c0_972 : Index := 0#32
  ![v1561.toNat, 0]
def k0_off299 (i : grid0.Coords) : Fin 2 → Nat :=
  let arg0 : BitVec 32 := BitVec.ofNat 32 (i 0).val
  let c2_i32 : BitVec 32 := 2#32
  let v3 : BitVec 32 := Scalar.subi arg0 c2_i32
  let c16_i32_970 : BitVec 32 := 16#32
  let v1559 : BitVec 32 := Scalar.muli v3 c16_i32_970
  let c15_i32_971 : BitVec 32 := 15#32
  let v1560 : BitVec 32 := Scalar.addi v1559 c15_i32_971
  let v1563 : Index := Scalar.indexCast v1560
  let c1_973 : Index := 1#32
  ![v1563.toNat, 1]
def k0_mult79 (v1562 : BitVec 32) : BitVec 32 :=
  let c0_i32_975 : BitVec 32 := 0#32
  let v1566 : BitVec 1 := Scalar.cmpi .sgt v1562 c0_i32_975
  let v1567 : BitVec 32 := Scalar.extui v1566
  let c0_i32_976 : BitVec 32 := 0#32
  let v1568 : BitVec 1 := Scalar.cmpi .slt v1562 c0_i32_976
  let v1569 : BitVec 32 := Scalar.extui v1568
  let v1570 : BitVec 32 := Scalar.subi v1567 v1569
  let c8_i32_974 : BitVec 32 := 8#32
  let c0_i32_977 : BitVec 32 := 0#32
  let v1571 : BitVec 1 := Scalar.cmpi .sgt c8_i32_974 c0_i32_977
  let v1572 : BitVec 32 := Scalar.extui v1571
  let c0_i32_978 : BitVec 32 := 0#32
  let v1573 : BitVec 1 := Scalar.cmpi .slt c8_i32_974 c0_i32_978
  let v1574 : BitVec 32 := Scalar.extui v1573
  let v1575 : BitVec 32 := Scalar.subi v1572 v1574
  let v1576 : BitVec 1 := Scalar.cmpi .ne v1570 v1575
  let v1577 : BitVec 32 := Scalar.remsi v1562 c8_i32_974
  let c0_i32_979 : BitVec 32 := 0#32
  let v1578 : BitVec 1 := Scalar.cmpi .ne v1577 c0_i32_979
  let v1579 : BitVec 1 := Scalar.andi v1576 v1578
  let v1565 : BitVec 32 := Scalar.divsi v1562 c8_i32_974
  let c1_i32_980 : BitVec 32 := 1#32
  let v1580 : BitVec 32 := Scalar.subi v1565 c1_i32_980
  let v1581 : BitVec 32 := Scalar.select v1579 v1580 v1565
  let c8_i32_981 : BitVec 32 := 8#32
  let v1582 : BitVec 32 := Scalar.muli v1581 c8_i32_981
  let c184_i32_982 : BitVec 32 := 184#32
  let v1583 : BitVec 32 := Scalar.minsi v1582 c184_i32_982
  v1583

def k0_chk79 (i : grid0.Coords) (v1562 : BitVec 32) : Prop :=
  (∀ (k0_h3 : k0_cond3 i = 1#1), 8 ∣ (k0_mult79 v1562).toNat)
theorem k0_mult79_dvd : ∀ (i : grid0.Coords) (v1562 : BitVec 32) (k0_hw79 : k0_chk79 i v1562), ∀ (k0_h3 : k0_cond3 i = 1#1), 8 ∣ (k0_mult79 v1562).toNat := fun i v1562 k0_hw79 k0_h3 => k0_hw79 k0_h3

def k0_off300 (i : grid0.Coords) : Fin 5 → Nat :=
  let arg0 : BitVec 32 := BitVec.ofNat 32 (i 0).val
  let c2_i32 : BitVec 32 := 2#32
  let v3 : BitVec 32 := Scalar.subi arg0 c2_i32
  let c4_i32 : BitVec 32 := 4#32
  let v12 : BitVec 32 := Scalar.remsi v3 c4_i32
  let v1590 : Index := Scalar.indexCast v12
  let c15 : Index := 15#32
  let c0_987 : Index := 0#32
  let c0_988 : Index := 0#32
  let c0_989 : Index := 0#32
  ![v1590.toNat, 15, 0, 0, 0]
def k0_off301 (i : grid0.Coords) : Fin 2 → Nat :=
  let arg0 : BitVec 32 := BitVec.ofNat 32 (i 0).val
  let c2_i32 : BitVec 32 := 2#32
  let v3 : BitVec 32 := Scalar.subi arg0 c2_i32
  let c16_i32_995 : BitVec 32 := 16#32
  let v1599 : BitVec 32 := Scalar.muli v3 c16_i32_995
  let c15_i32_996 : BitVec 32 := 15#32
  let v1600 : BitVec 32 := Scalar.addi v1599 c15_i32_996
  let v1601 : Index := Scalar.indexCast v1600
  let c0_997 : Index := 0#32
  ![v1601.toNat, 0]
def k0_mult80 (v1602 : BitVec 32) : BitVec 32 :=
  let c0_i32_999 : BitVec 32 := 0#32
  let v1604 : BitVec 1 := Scalar.cmpi .sgt v1602 c0_i32_999
  let v1605 : BitVec 32 := Scalar.extui v1604
  let c0_i32_1000 : BitVec 32 := 0#32
  let v1606 : BitVec 1 := Scalar.cmpi .slt v1602 c0_i32_1000
  let v1607 : BitVec 32 := Scalar.extui v1606
  let v1608 : BitVec 32 := Scalar.subi v1605 v1607
  let c8_i32_998 : BitVec 32 := 8#32
  let c0_i32_1001 : BitVec 32 := 0#32
  let v1609 : BitVec 1 := Scalar.cmpi .sgt c8_i32_998 c0_i32_1001
  let v1610 : BitVec 32 := Scalar.extui v1609
  let c0_i32_1002 : BitVec 32 := 0#32
  let v1611 : BitVec 1 := Scalar.cmpi .slt c8_i32_998 c0_i32_1002
  let v1612 : BitVec 32 := Scalar.extui v1611
  let v1613 : BitVec 32 := Scalar.subi v1610 v1612
  let v1614 : BitVec 1 := Scalar.cmpi .ne v1608 v1613
  let v1615 : BitVec 32 := Scalar.remsi v1602 c8_i32_998
  let c0_i32_1003 : BitVec 32 := 0#32
  let v1616 : BitVec 1 := Scalar.cmpi .ne v1615 c0_i32_1003
  let v1617 : BitVec 1 := Scalar.andi v1614 v1616
  let v1603 : BitVec 32 := Scalar.divsi v1602 c8_i32_998
  let c1_i32_1004 : BitVec 32 := 1#32
  let v1618 : BitVec 32 := Scalar.subi v1603 c1_i32_1004
  let v1619 : BitVec 32 := Scalar.select v1617 v1618 v1603
  let c8_i32_1005 : BitVec 32 := 8#32
  let v1620 : BitVec 32 := Scalar.muli v1619 c8_i32_1005
  let c184_i32_1006 : BitVec 32 := 184#32
  let v1621 : BitVec 32 := Scalar.minsi v1620 c184_i32_1006
  v1621

def k0_off302 (i : grid0.Coords) : Fin 2 → Nat :=
  let arg0 : BitVec 32 := BitVec.ofNat 32 (i 0).val
  let c2_i32 : BitVec 32 := 2#32
  let v3 : BitVec 32 := Scalar.subi arg0 c2_i32
  let c4_i32_994 : BitVec 32 := 4#32
  let v1598 : BitVec 32 := Scalar.remsi v3 c4_i32_994
  let c15_i32_1008 : BitVec 32 := 15#32
  ![v1598.toNat, 15]
def k0_off303 (i : grid0.Coords) (v1602 : BitVec 32) : Fin 4 → Nat :=
  let arg0 : BitVec 32 := BitVec.ofNat 32 (i 0).val
  let c2_i32 : BitVec 32 := 2#32
  let v3 : BitVec 32 := Scalar.subi arg0 c2_i32
  let c16_i32_995 : BitVec 32 := 16#32
  let v1599 : BitVec 32 := Scalar.muli v3 c16_i32_995
  let c15_i32_996 : BitVec 32 := 15#32
  let v1600 : BitVec 32 := Scalar.addi v1599 c15_i32_996
  let c0_i32_1009 : BitVec 32 := 0#32
  let c0_i32_999 : BitVec 32 := 0#32
  let v1604 : BitVec 1 := Scalar.cmpi .sgt v1602 c0_i32_999
  let v1605 : BitVec 32 := Scalar.extui v1604
  let c0_i32_1000 : BitVec 32 := 0#32
  let v1606 : BitVec 1 := Scalar.cmpi .slt v1602 c0_i32_1000
  let v1607 : BitVec 32 := Scalar.extui v1606
  let v1608 : BitVec 32 := Scalar.subi v1605 v1607
  let c8_i32_998 : BitVec 32 := 8#32
  let c0_i32_1001 : BitVec 32 := 0#32
  let v1609 : BitVec 1 := Scalar.cmpi .sgt c8_i32_998 c0_i32_1001
  let v1610 : BitVec 32 := Scalar.extui v1609
  let c0_i32_1002 : BitVec 32 := 0#32
  let v1611 : BitVec 1 := Scalar.cmpi .slt c8_i32_998 c0_i32_1002
  let v1612 : BitVec 32 := Scalar.extui v1611
  let v1613 : BitVec 32 := Scalar.subi v1610 v1612
  let v1614 : BitVec 1 := Scalar.cmpi .ne v1608 v1613
  let v1615 : BitVec 32 := Scalar.remsi v1602 c8_i32_998
  let c0_i32_1003 : BitVec 32 := 0#32
  let v1616 : BitVec 1 := Scalar.cmpi .ne v1615 c0_i32_1003
  let v1617 : BitVec 1 := Scalar.andi v1614 v1616
  let v1603 : BitVec 32 := Scalar.divsi v1602 c8_i32_998
  let c1_i32_1004 : BitVec 32 := 1#32
  let v1618 : BitVec 32 := Scalar.subi v1603 c1_i32_1004
  let v1619 : BitVec 32 := Scalar.select v1617 v1618 v1603
  let c8_i32_1005 : BitVec 32 := 8#32
  let v1620 : BitVec 32 := Scalar.muli v1619 c8_i32_1005
  let c184_i32_1006 : BitVec 32 := 184#32
  let v1621 : BitVec 32 := Scalar.minsi v1620 c184_i32_1006
  let v1622 : BitVec 32 := v1621
  let c0_i32_1010 : BitVec 32 := 0#32
  ![v1600.toNat, 0, v1622.toNat, 0]

def k0_chk80 (i : grid0.Coords) (v1602 : BitVec 32) : Prop :=
  (∀ (k0_h3 : k0_cond3 i = 1#1), 8 ∣ (k0_mult80 v1602).toNat) ∧
  (∀ (k0_h3 : k0_cond3 i = 1#1), ∀ a, (k0_off303 i v1602) a + S1x3x40x224.size a ≤ S256x3x224x224.size a)
theorem k0_mult80_dvd : ∀ (i : grid0.Coords) (v1602 : BitVec 32) (k0_hw80 : k0_chk80 i v1602), ∀ (k0_h3 : k0_cond3 i = 1#1), 8 ∣ (k0_mult80 v1602).toNat := fun i v1602 k0_hw80 k0_h3 => k0_hw80.1 k0_h3
theorem k0_off303_inb : ∀ (i : grid0.Coords) (v1602 : BitVec 32) (k0_hw80 : k0_chk80 i v1602), ∀ (k0_h3 : k0_cond3 i = 1#1), ∀ a, (k0_off303 i v1602) a + S1x3x40x224.size a ≤ S256x3x224x224.size a := fun i v1602 k0_hw80 k0_h3 => k0_hw80.2 k0_h3

def k0_off304 (i : grid0.Coords) : Fin 5 → Nat :=
  let arg0 : BitVec 32 := BitVec.ofNat 32 (i 0).val
  let c2_i32 : BitVec 32 := 2#32
  let v3 : BitVec 32 := Scalar.subi arg0 c2_i32
  let c4_i32_994 : BitVec 32 := 4#32
  let v1598 : BitVec 32 := Scalar.remsi v3 c4_i32_994
  let c15_i32_1007 : BitVec 32 := 15#32
  let c0_i32_1011 : BitVec 32 := 0#32
  let c0_i32_1012 : BitVec 32 := 0#32
  let c0_i32_1013 : BitVec 32 := 0#32
  ![v1598.toNat, 15, 0, 0, 0]
def k0_cond4 (i : grid0.Coords) : BitVec 1 :=
  let arg0 : BitVec 32 := BitVec.ofNat 32 (i 0).val
  let c17_i32 : BitVec 32 := 17#32
  let v9 : BitVec 1 := Scalar.cmpi .eq arg0 c17_i32
  let v10 : BitVec 32 := Scalar.extui v9
  let c0_i32_3 : BitVec 32 := 0#32
  let v11 : BitVec 1 := Scalar.cmpi .ne v10 c0_i32_3
  v11

def k0_mult81 (v13 : BitVec 32) : BitVec 32 :=
  let c0_i32_4 : BitVec 32 := 0#32
  let v15 : BitVec 1 := Scalar.cmpi .sgt v13 c0_i32_4
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c8_i32 : BitVec 32 := 8#32
  let c0_i32_6 : BitVec 32 := 0#32
  let v20 : BitVec 1 := Scalar.cmpi .sgt c8_i32 c0_i32_6
  let v21 : BitVec 32 := Scalar.extui v20
  let c0_i32_7 : BitVec 32 := 0#32
  let v22 : BitVec 1 := Scalar.cmpi .slt c8_i32 c0_i32_7
  let v23 : BitVec 32 := Scalar.extui v22
  let v24 : BitVec 32 := Scalar.subi v21 v23
  let v25 : BitVec 1 := Scalar.cmpi .ne v19 v24
  let v26 : BitVec 32 := Scalar.remsi v13 c8_i32
  let c0_i32_8 : BitVec 32 := 0#32
  let v27 : BitVec 1 := Scalar.cmpi .ne v26 c0_i32_8
  let v28 : BitVec 1 := Scalar.andi v25 v27
  let v14 : BitVec 32 := Scalar.divsi v13 c8_i32
  let c1_i32 : BitVec 32 := 1#32
  let v29 : BitVec 32 := Scalar.subi v14 c1_i32
  let v30 : BitVec 32 := Scalar.select v28 v29 v14
  let c8_i32_9 : BitVec 32 := 8#32
  let v31 : BitVec 32 := Scalar.muli v30 c8_i32_9
  let c184_i32 : BitVec 32 := 184#32
  let v32 : BitVec 32 := Scalar.minsi v31 c184_i32
  v32

def k0_off305 : Fin 2 → Nat :=
  let c12_i32 : BitVec 32 := 12#32
  let c4_i32 : BitVec 32 := 4#32
  let v12 : BitVec 32 := Scalar.remsi c12_i32 c4_i32
  let c0_i32_11 : BitVec 32 := 0#32
  ![v12.toNat, 0]
def k0_off306 (v13 : BitVec 32) : Fin 4 → Nat :=
  let c192_i32 : BitVec 32 := 192#32
  let c0_i32_12 : BitVec 32 := 0#32
  let c0_i32_4 : BitVec 32 := 0#32
  let v15 : BitVec 1 := Scalar.cmpi .sgt v13 c0_i32_4
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c8_i32 : BitVec 32 := 8#32
  let c0_i32_6 : BitVec 32 := 0#32
  let v20 : BitVec 1 := Scalar.cmpi .sgt c8_i32 c0_i32_6
  let v21 : BitVec 32 := Scalar.extui v20
  let c0_i32_7 : BitVec 32 := 0#32
  let v22 : BitVec 1 := Scalar.cmpi .slt c8_i32 c0_i32_7
  let v23 : BitVec 32 := Scalar.extui v22
  let v24 : BitVec 32 := Scalar.subi v21 v23
  let v25 : BitVec 1 := Scalar.cmpi .ne v19 v24
  let v26 : BitVec 32 := Scalar.remsi v13 c8_i32
  let c0_i32_8 : BitVec 32 := 0#32
  let v27 : BitVec 1 := Scalar.cmpi .ne v26 c0_i32_8
  let v28 : BitVec 1 := Scalar.andi v25 v27
  let v14 : BitVec 32 := Scalar.divsi v13 c8_i32
  let c1_i32 : BitVec 32 := 1#32
  let v29 : BitVec 32 := Scalar.subi v14 c1_i32
  let v30 : BitVec 32 := Scalar.select v28 v29 v14
  let c8_i32_9 : BitVec 32 := 8#32
  let v31 : BitVec 32 := Scalar.muli v30 c8_i32_9
  let c184_i32 : BitVec 32 := 184#32
  let v32 : BitVec 32 := Scalar.minsi v31 c184_i32
  let v33 : BitVec 32 := v32
  let c0_i32_13 : BitVec 32 := 0#32
  ![192, 0, v33.toNat, 0]

def k0_chk81 (i : grid0.Coords) (v13 : BitVec 32) : Prop :=
  (∀ (k0_h4 : k0_cond4 i = 1#1), 8 ∣ (k0_mult81 v13).toNat) ∧
  (∀ (k0_h4 : k0_cond4 i = 1#1), ∀ a, (k0_off306 v13) a + S1x3x40x224.size a ≤ S256x3x224x224.size a)
theorem k0_mult81_dvd : ∀ (i : grid0.Coords) (v13 : BitVec 32) (k0_hw81 : k0_chk81 i v13), ∀ (k0_h4 : k0_cond4 i = 1#1), 8 ∣ (k0_mult81 v13).toNat := fun i v13 k0_hw81 k0_h4 => k0_hw81.1 k0_h4
theorem k0_off306_inb : ∀ (i : grid0.Coords) (v13 : BitVec 32) (k0_hw81 : k0_chk81 i v13), ∀ (k0_h4 : k0_cond4 i = 1#1), ∀ a, (k0_off306 v13) a + S1x3x40x224.size a ≤ S256x3x224x224.size a := fun i v13 k0_hw81 k0_h4 => k0_hw81.2 k0_h4

def k0_off307 : Fin 5 → Nat :=
  let c12_i32 : BitVec 32 := 12#32
  let c4_i32 : BitVec 32 := 4#32
  let v12 : BitVec 32 := Scalar.remsi c12_i32 c4_i32
  let c0_i32_10 : BitVec 32 := 0#32
  let c0_i32_14 : BitVec 32 := 0#32
  let c0_i32_15 : BitVec 32 := 0#32
  let c0_i32_16 : BitVec 32 := 0#32
  ![v12.toNat, 0, 0, 0, 0]
def k0_mult82 (v41 : BitVec 32) : BitVec 32 :=
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .slt v41 c0_i32_22
  let v46 : BitVec 32 := Scalar.extui v45
  let v47 : BitVec 32 := Scalar.subi v44 v46
  let c8_i32_20 : BitVec 32 := 8#32
  let c0_i32_23 : BitVec 32 := 0#32
  let v48 : BitVec 1 := Scalar.cmpi .sgt c8_i32_20 c0_i32_23
  let v49 : BitVec 32 := Scalar.extui v48
  let c0_i32_24 : BitVec 32 := 0#32
  let v50 : BitVec 1 := Scalar.cmpi .slt c8_i32_20 c0_i32_24
  let v51 : BitVec 32 := Scalar.extui v50
  let v52 : BitVec 32 := Scalar.subi v49 v51
  let v53 : BitVec 1 := Scalar.cmpi .ne v47 v52
  let v54 : BitVec 32 := Scalar.remsi v41 c8_i32_20
  let c0_i32_25 : BitVec 32 := 0#32
  let v55 : BitVec 1 := Scalar.cmpi .ne v54 c0_i32_25
  let v56 : BitVec 1 := Scalar.andi v53 v55
  let v42 : BitVec 32 := Scalar.divsi v41 c8_i32_20
  let c1_i32_26 : BitVec 32 := 1#32
  let v57 : BitVec 32 := Scalar.subi v42 c1_i32_26
  let v58 : BitVec 32 := Scalar.select v56 v57 v42
  let c8_i32_27 : BitVec 32 := 8#32
  let v59 : BitVec 32 := Scalar.muli v58 c8_i32_27
  let c184_i32_28 : BitVec 32 := 184#32
  let v60 : BitVec 32 := Scalar.minsi v59 c184_i32_28
  v60

def k0_off308 : Fin 2 → Nat :=
  let c12_i32_17 : BitVec 32 := 12#32
  let c4_i32_18 : BitVec 32 := 4#32
  let v40 : BitVec 32 := Scalar.remsi c12_i32_17 c4_i32_18
  let c1_i32_30 : BitVec 32 := 1#32
  ![v40.toNat, 1]
def k0_off309 (v41 : BitVec 32) : Fin 4 → Nat :=
  let c193_i32 : BitVec 32 := 193#32
  let c0_i32_31 : BitVec 32 := 0#32
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .slt v41 c0_i32_22
  let v46 : BitVec 32 := Scalar.extui v45
  let v47 : BitVec 32 := Scalar.subi v44 v46
  let c8_i32_20 : BitVec 32 := 8#32
  let c0_i32_23 : BitVec 32 := 0#32
  let v48 : BitVec 1 := Scalar.cmpi .sgt c8_i32_20 c0_i32_23
  let v49 : BitVec 32 := Scalar.extui v48
  let c0_i32_24 : BitVec 32 := 0#32
  let v50 : BitVec 1 := Scalar.cmpi .slt c8_i32_20 c0_i32_24
  let v51 : BitVec 32 := Scalar.extui v50
  let v52 : BitVec 32 := Scalar.subi v49 v51
  let v53 : BitVec 1 := Scalar.cmpi .ne v47 v52
  let v54 : BitVec 32 := Scalar.remsi v41 c8_i32_20
  let c0_i32_25 : BitVec 32 := 0#32
  let v55 : BitVec 1 := Scalar.cmpi .ne v54 c0_i32_25
  let v56 : BitVec 1 := Scalar.andi v53 v55
  let v42 : BitVec 32 := Scalar.divsi v41 c8_i32_20
  let c1_i32_26 : BitVec 32 := 1#32
  let v57 : BitVec 32 := Scalar.subi v42 c1_i32_26
  let v58 : BitVec 32 := Scalar.select v56 v57 v42
  let c8_i32_27 : BitVec 32 := 8#32
  let v59 : BitVec 32 := Scalar.muli v58 c8_i32_27
  let c184_i32_28 : BitVec 32 := 184#32
  let v60 : BitVec 32 := Scalar.minsi v59 c184_i32_28
  let v61 : BitVec 32 := v60
  let c0_i32_32 : BitVec 32 := 0#32
  ![193, 0, v61.toNat, 0]

def k0_chk82 (i : grid0.Coords) (v41 : BitVec 32) : Prop :=
  (∀ (k0_h4 : k0_cond4 i = 1#1), 8 ∣ (k0_mult82 v41).toNat) ∧
  (∀ (k0_h4 : k0_cond4 i = 1#1), ∀ a, (k0_off309 v41) a + S1x3x40x224.size a ≤ S256x3x224x224.size a)
theorem k0_mult82_dvd : ∀ (i : grid0.Coords) (v41 : BitVec 32) (k0_hw82 : k0_chk82 i v41), ∀ (k0_h4 : k0_cond4 i = 1#1), 8 ∣ (k0_mult82 v41).toNat := fun i v41 k0_hw82 k0_h4 => k0_hw82.1 k0_h4
theorem k0_off309_inb : ∀ (i : grid0.Coords) (v41 : BitVec 32) (k0_hw82 : k0_chk82 i v41), ∀ (k0_h4 : k0_cond4 i = 1#1), ∀ a, (k0_off309 v41) a + S1x3x40x224.size a ≤ S256x3x224x224.size a := fun i v41 k0_hw82 k0_h4 => k0_hw82.2 k0_h4

def k0_off310 : Fin 5 → Nat :=
  let c12_i32_17 : BitVec 32 := 12#32
  let c4_i32_18 : BitVec 32 := 4#32
  let v40 : BitVec 32 := Scalar.remsi c12_i32_17 c4_i32_18
  let c1_i32_29 : BitVec 32 := 1#32
  let c0_i32_33 : BitVec 32 := 0#32
  let c0_i32_34 : BitVec 32 := 0#32
  let c0_i32_35 : BitVec 32 := 0#32
  ![v40.toNat, 1, 0, 0, 0]
def k0_mult83 (v69 : BitVec 32) : BitVec 32 :=
  let c0_i32_40 : BitVec 32 := 0#32
  let v71 : BitVec 1 := Scalar.cmpi .sgt v69 c0_i32_40
  let v72 : BitVec 32 := Scalar.extui v71
  let c0_i32_41 : BitVec 32 := 0#32
  let v73 : BitVec 1 := Scalar.cmpi .slt v69 c0_i32_41
  let v74 : BitVec 32 := Scalar.extui v73
  let v75 : BitVec 32 := Scalar.subi v72 v74
  let c8_i32_39 : BitVec 32 := 8#32
  let c0_i32_42 : BitVec 32 := 0#32
  let v76 : BitVec 1 := Scalar.cmpi .sgt c8_i32_39 c0_i32_42
  let v77 : BitVec 32 := Scalar.extui v76
  let c0_i32_43 : BitVec 32 := 0#32
  let v78 : BitVec 1 := Scalar.cmpi .slt c8_i32_39 c0_i32_43
  let v79 : BitVec 32 := Scalar.extui v78
  let v80 : BitVec 32 := Scalar.subi v77 v79
  let v81 : BitVec 1 := Scalar.cmpi .ne v75 v80
  let v82 : BitVec 32 := Scalar.remsi v69 c8_i32_39
  let c0_i32_44 : BitVec 32 := 0#32
  let v83 : BitVec 1 := Scalar.cmpi .ne v82 c0_i32_44
  let v84 : BitVec 1 := Scalar.andi v81 v83
  let v70 : BitVec 32 := Scalar.divsi v69 c8_i32_39
  let c1_i32_45 : BitVec 32 := 1#32
  let v85 : BitVec 32 := Scalar.subi v70 c1_i32_45
  let v86 : BitVec 32 := Scalar.select v84 v85 v70
  let c8_i32_46 : BitVec 32 := 8#32
  let v87 : BitVec 32 := Scalar.muli v86 c8_i32_46
  let c184_i32_47 : BitVec 32 := 184#32
  let v88 : BitVec 32 := Scalar.minsi v87 c184_i32_47
  v88

def k0_off311 : Fin 2 → Nat :=
  let c12_i32_36 : BitVec 32 := 12#32
  let c4_i32_37 : BitVec 32 := 4#32
  let v68 : BitVec 32 := Scalar.remsi c12_i32_36 c4_i32_37
  let c2_i32_49 : BitVec 32 := 2#32
  ![v68.toNat, 2]
def k0_off312 (v69 : BitVec 32) : Fin 4 → Nat :=
  let c194_i32 : BitVec 32 := 194#32
  let c0_i32_50 : BitVec 32 := 0#32
  let c0_i32_40 : BitVec 32 := 0#32
  let v71 : BitVec 1 := Scalar.cmpi .sgt v69 c0_i32_40
  let v72 : BitVec 32 := Scalar.extui v71
  let c0_i32_41 : BitVec 32 := 0#32
  let v73 : BitVec 1 := Scalar.cmpi .slt v69 c0_i32_41
  let v74 : BitVec 32 := Scalar.extui v73
  let v75 : BitVec 32 := Scalar.subi v72 v74
  let c8_i32_39 : BitVec 32 := 8#32
  let c0_i32_42 : BitVec 32 := 0#32
  let v76 : BitVec 1 := Scalar.cmpi .sgt c8_i32_39 c0_i32_42
  let v77 : BitVec 32 := Scalar.extui v76
  let c0_i32_43 : BitVec 32 := 0#32
  let v78 : BitVec 1 := Scalar.cmpi .slt c8_i32_39 c0_i32_43
  let v79 : BitVec 32 := Scalar.extui v78
  let v80 : BitVec 32 := Scalar.subi v77 v79
  let v81 : BitVec 1 := Scalar.cmpi .ne v75 v80
  let v82 : BitVec 32 := Scalar.remsi v69 c8_i32_39
  let c0_i32_44 : BitVec 32 := 0#32
  let v83 : BitVec 1 := Scalar.cmpi .ne v82 c0_i32_44
  let v84 : BitVec 1 := Scalar.andi v81 v83
  let v70 : BitVec 32 := Scalar.divsi v69 c8_i32_39
  let c1_i32_45 : BitVec 32 := 1#32
  let v85 : BitVec 32 := Scalar.subi v70 c1_i32_45
  let v86 : BitVec 32 := Scalar.select v84 v85 v70
  let c8_i32_46 : BitVec 32 := 8#32
  let v87 : BitVec 32 := Scalar.muli v86 c8_i32_46
  let c184_i32_47 : BitVec 32 := 184#32
  let v88 : BitVec 32 := Scalar.minsi v87 c184_i32_47
  let v89 : BitVec 32 := v88
  let c0_i32_51 : BitVec 32 := 0#32
  ![194, 0, v89.toNat, 0]

def k0_chk83 (i : grid0.Coords) (v69 : BitVec 32) : Prop :=
  (∀ (k0_h4 : k0_cond4 i = 1#1), 8 ∣ (k0_mult83 v69).toNat) ∧
  (∀ (k0_h4 : k0_cond4 i = 1#1), ∀ a, (k0_off312 v69) a + S1x3x40x224.size a ≤ S256x3x224x224.size a)
theorem k0_mult83_dvd : ∀ (i : grid0.Coords) (v69 : BitVec 32) (k0_hw83 : k0_chk83 i v69), ∀ (k0_h4 : k0_cond4 i = 1#1), 8 ∣ (k0_mult83 v69).toNat := fun i v69 k0_hw83 k0_h4 => k0_hw83.1 k0_h4
theorem k0_off312_inb : ∀ (i : grid0.Coords) (v69 : BitVec 32) (k0_hw83 : k0_chk83 i v69), ∀ (k0_h4 : k0_cond4 i = 1#1), ∀ a, (k0_off312 v69) a + S1x3x40x224.size a ≤ S256x3x224x224.size a := fun i v69 k0_hw83 k0_h4 => k0_hw83.2 k0_h4

def k0_off313 : Fin 5 → Nat :=
  let c12_i32_36 : BitVec 32 := 12#32
  let c4_i32_37 : BitVec 32 := 4#32
  let v68 : BitVec 32 := Scalar.remsi c12_i32_36 c4_i32_37
  let c2_i32_48 : BitVec 32 := 2#32
  let c0_i32_52 : BitVec 32 := 0#32
  let c0_i32_53 : BitVec 32 := 0#32
  let c0_i32_54 : BitVec 32 := 0#32
  ![v68.toNat, 2, 0, 0, 0]
def k0_mult84 (v97 : BitVec 32) : BitVec 32 :=
  let c0_i32_59 : BitVec 32 := 0#32
  let v99 : BitVec 1 := Scalar.cmpi .sgt v97 c0_i32_59
  let v100 : BitVec 32 := Scalar.extui v99
  let c0_i32_60 : BitVec 32 := 0#32
  let v101 : BitVec 1 := Scalar.cmpi .slt v97 c0_i32_60
  let v102 : BitVec 32 := Scalar.extui v101
  let v103 : BitVec 32 := Scalar.subi v100 v102
  let c8_i32_58 : BitVec 32 := 8#32
  let c0_i32_61 : BitVec 32 := 0#32
  let v104 : BitVec 1 := Scalar.cmpi .sgt c8_i32_58 c0_i32_61
  let v105 : BitVec 32 := Scalar.extui v104
  let c0_i32_62 : BitVec 32 := 0#32
  let v106 : BitVec 1 := Scalar.cmpi .slt c8_i32_58 c0_i32_62
  let v107 : BitVec 32 := Scalar.extui v106
  let v108 : BitVec 32 := Scalar.subi v105 v107
  let v109 : BitVec 1 := Scalar.cmpi .ne v103 v108
  let v110 : BitVec 32 := Scalar.remsi v97 c8_i32_58
  let c0_i32_63 : BitVec 32 := 0#32
  let v111 : BitVec 1 := Scalar.cmpi .ne v110 c0_i32_63
  let v112 : BitVec 1 := Scalar.andi v109 v111
  let v98 : BitVec 32 := Scalar.divsi v97 c8_i32_58
  let c1_i32_64 : BitVec 32 := 1#32
  let v113 : BitVec 32 := Scalar.subi v98 c1_i32_64
  let v114 : BitVec 32 := Scalar.select v112 v113 v98
  let c8_i32_65 : BitVec 32 := 8#32
  let v115 : BitVec 32 := Scalar.muli v114 c8_i32_65
  let c184_i32_66 : BitVec 32 := 184#32
  let v116 : BitVec 32 := Scalar.minsi v115 c184_i32_66
  v116

def k0_off314 : Fin 2 → Nat :=
  let c12_i32_55 : BitVec 32 := 12#32
  let c4_i32_56 : BitVec 32 := 4#32
  let v96 : BitVec 32 := Scalar.remsi c12_i32_55 c4_i32_56
  let c3_i32_67 : BitVec 32 := 3#32
  ![v96.toNat, 3]
def k0_off315 (v97 : BitVec 32) : Fin 4 → Nat :=
  let c195_i32 : BitVec 32 := 195#32
  let c0_i32_68 : BitVec 32 := 0#32
  let c0_i32_59 : BitVec 32 := 0#32
  let v99 : BitVec 1 := Scalar.cmpi .sgt v97 c0_i32_59
  let v100 : BitVec 32 := Scalar.extui v99
  let c0_i32_60 : BitVec 32 := 0#32
  let v101 : BitVec 1 := Scalar.cmpi .slt v97 c0_i32_60
  let v102 : BitVec 32 := Scalar.extui v101
  let v103 : BitVec 32 := Scalar.subi v100 v102
  let c8_i32_58 : BitVec 32 := 8#32
  let c0_i32_61 : BitVec 32 := 0#32
  let v104 : BitVec 1 := Scalar.cmpi .sgt c8_i32_58 c0_i32_61
  let v105 : BitVec 32 := Scalar.extui v104
  let c0_i32_62 : BitVec 32 := 0#32
  let v106 : BitVec 1 := Scalar.cmpi .slt c8_i32_58 c0_i32_62
  let v107 : BitVec 32 := Scalar.extui v106
  let v108 : BitVec 32 := Scalar.subi v105 v107
  let v109 : BitVec 1 := Scalar.cmpi .ne v103 v108
  let v110 : BitVec 32 := Scalar.remsi v97 c8_i32_58
  let c0_i32_63 : BitVec 32 := 0#32
  let v111 : BitVec 1 := Scalar.cmpi .ne v110 c0_i32_63
  let v112 : BitVec 1 := Scalar.andi v109 v111
  let v98 : BitVec 32 := Scalar.divsi v97 c8_i32_58
  let c1_i32_64 : BitVec 32 := 1#32
  let v113 : BitVec 32 := Scalar.subi v98 c1_i32_64
  let v114 : BitVec 32 := Scalar.select v112 v113 v98
  let c8_i32_65 : BitVec 32 := 8#32
  let v115 : BitVec 32 := Scalar.muli v114 c8_i32_65
  let c184_i32_66 : BitVec 32 := 184#32
  let v116 : BitVec 32 := Scalar.minsi v115 c184_i32_66
  let v117 : BitVec 32 := v116
  let c0_i32_69 : BitVec 32 := 0#32
  ![195, 0, v117.toNat, 0]

def k0_chk84 (i : grid0.Coords) (v97 : BitVec 32) : Prop :=
  (∀ (k0_h4 : k0_cond4 i = 1#1), 8 ∣ (k0_mult84 v97).toNat) ∧
  (∀ (k0_h4 : k0_cond4 i = 1#1), ∀ a, (k0_off315 v97) a + S1x3x40x224.size a ≤ S256x3x224x224.size a)
theorem k0_mult84_dvd : ∀ (i : grid0.Coords) (v97 : BitVec 32) (k0_hw84 : k0_chk84 i v97), ∀ (k0_h4 : k0_cond4 i = 1#1), 8 ∣ (k0_mult84 v97).toNat := fun i v97 k0_hw84 k0_h4 => k0_hw84.1 k0_h4
theorem k0_off315_inb : ∀ (i : grid0.Coords) (v97 : BitVec 32) (k0_hw84 : k0_chk84 i v97), ∀ (k0_h4 : k0_cond4 i = 1#1), ∀ a, (k0_off315 v97) a + S1x3x40x224.size a ≤ S256x3x224x224.size a := fun i v97 k0_hw84 k0_h4 => k0_hw84.2 k0_h4

def k0_off316 : Fin 5 → Nat :=
  let c12_i32_55 : BitVec 32 := 12#32
  let c4_i32_56 : BitVec 32 := 4#32
  let v96 : BitVec 32 := Scalar.remsi c12_i32_55 c4_i32_56
  let c3_i32 : BitVec 32 := 3#32
  let c0_i32_70 : BitVec 32 := 0#32
  let c0_i32_71 : BitVec 32 := 0#32
  let c0_i32_72 : BitVec 32 := 0#32
  ![v96.toNat, 3, 0, 0, 0]
def k0_mult85 (v125 : BitVec 32) : BitVec 32 :=
  let c0_i32_77 : BitVec 32 := 0#32
  let v127 : BitVec 1 := Scalar.cmpi .sgt v125 c0_i32_77
  let v128 : BitVec 32 := Scalar.extui v127
  let c0_i32_78 : BitVec 32 := 0#32
  let v129 : BitVec 1 := Scalar.cmpi .slt v125 c0_i32_78
  let v130 : BitVec 32 := Scalar.extui v129
  let v131 : BitVec 32 := Scalar.subi v128 v130
  let c8_i32_76 : BitVec 32 := 8#32
  let c0_i32_79 : BitVec 32 := 0#32
  let v132 : BitVec 1 := Scalar.cmpi .sgt c8_i32_76 c0_i32_79
  let v133 : BitVec 32 := Scalar.extui v132
  let c0_i32_80 : BitVec 32 := 0#32
  let v134 : BitVec 1 := Scalar.cmpi .slt c8_i32_76 c0_i32_80
  let v135 : BitVec 32 := Scalar.extui v134
  let v136 : BitVec 32 := Scalar.subi v133 v135
  let v137 : BitVec 1 := Scalar.cmpi .ne v131 v136
  let v138 : BitVec 32 := Scalar.remsi v125 c8_i32_76
  let c0_i32_81 : BitVec 32 := 0#32
  let v139 : BitVec 1 := Scalar.cmpi .ne v138 c0_i32_81
  let v140 : BitVec 1 := Scalar.andi v137 v139
  let v126 : BitVec 32 := Scalar.divsi v125 c8_i32_76
  let c1_i32_82 : BitVec 32 := 1#32
  let v141 : BitVec 32 := Scalar.subi v126 c1_i32_82
  let v142 : BitVec 32 := Scalar.select v140 v141 v126
  let c8_i32_83 : BitVec 32 := 8#32
  let v143 : BitVec 32 := Scalar.muli v142 c8_i32_83
  let c184_i32_84 : BitVec 32 := 184#32
  let v144 : BitVec 32 := Scalar.minsi v143 c184_i32_84
  v144

def k0_off317 : Fin 2 → Nat :=
  let c12_i32_73 : BitVec 32 := 12#32
  let c4_i32_74 : BitVec 32 := 4#32
  let v124 : BitVec 32 := Scalar.remsi c12_i32_73 c4_i32_74
  let c4_i32_86 : BitVec 32 := 4#32
  ![v124.toNat, 4]
def k0_off318 (v125 : BitVec 32) : Fin 4 → Nat :=
  let c196_i32 : BitVec 32 := 196#32
  let c0_i32_87 : BitVec 32 := 0#32
  let c0_i32_77 : BitVec 32 := 0#32
  let v127 : BitVec 1 := Scalar.cmpi .sgt v125 c0_i32_77
  let v128 : BitVec 32 := Scalar.extui v127
  let c0_i32_78 : BitVec 32 := 0#32
  let v129 : BitVec 1 := Scalar.cmpi .slt v125 c0_i32_78
  let v130 : BitVec 32 := Scalar.extui v129
  let v131 : BitVec 32 := Scalar.subi v128 v130
  let c8_i32_76 : BitVec 32 := 8#32
  let c0_i32_79 : BitVec 32 := 0#32
  let v132 : BitVec 1 := Scalar.cmpi .sgt c8_i32_76 c0_i32_79
  let v133 : BitVec 32 := Scalar.extui v132
  let c0_i32_80 : BitVec 32 := 0#32
  let v134 : BitVec 1 := Scalar.cmpi .slt c8_i32_76 c0_i32_80
  let v135 : BitVec 32 := Scalar.extui v134
  let v136 : BitVec 32 := Scalar.subi v133 v135
  let v137 : BitVec 1 := Scalar.cmpi .ne v131 v136
  let v138 : BitVec 32 := Scalar.remsi v125 c8_i32_76
  let c0_i32_81 : BitVec 32 := 0#32
  let v139 : BitVec 1 := Scalar.cmpi .ne v138 c0_i32_81
  let v140 : BitVec 1 := Scalar.andi v137 v139
  let v126 : BitVec 32 := Scalar.divsi v125 c8_i32_76
  let c1_i32_82 : BitVec 32 := 1#32
  let v141 : BitVec 32 := Scalar.subi v126 c1_i32_82
  let v142 : BitVec 32 := Scalar.select v140 v141 v126
  let c8_i32_83 : BitVec 32 := 8#32
  let v143 : BitVec 32 := Scalar.muli v142 c8_i32_83
  let c184_i32_84 : BitVec 32 := 184#32
  let v144 : BitVec 32 := Scalar.minsi v143 c184_i32_84
  let v145 : BitVec 32 := v144
  let c0_i32_88 : BitVec 32 := 0#32
  ![196, 0, v145.toNat, 0]

def k0_chk85 (i : grid0.Coords) (v125 : BitVec 32) : Prop :=
  (∀ (k0_h4 : k0_cond4 i = 1#1), 8 ∣ (k0_mult85 v125).toNat) ∧
  (∀ (k0_h4 : k0_cond4 i = 1#1), ∀ a, (k0_off318 v125) a + S1x3x40x224.size a ≤ S256x3x224x224.size a)
theorem k0_mult85_dvd : ∀ (i : grid0.Coords) (v125 : BitVec 32) (k0_hw85 : k0_chk85 i v125), ∀ (k0_h4 : k0_cond4 i = 1#1), 8 ∣ (k0_mult85 v125).toNat := fun i v125 k0_hw85 k0_h4 => k0_hw85.1 k0_h4
theorem k0_off318_inb : ∀ (i : grid0.Coords) (v125 : BitVec 32) (k0_hw85 : k0_chk85 i v125), ∀ (k0_h4 : k0_cond4 i = 1#1), ∀ a, (k0_off318 v125) a + S1x3x40x224.size a ≤ S256x3x224x224.size a := fun i v125 k0_hw85 k0_h4 => k0_hw85.2 k0_h4

def k0_off319 : Fin 5 → Nat :=
  let c12_i32_73 : BitVec 32 := 12#32
  let c4_i32_74 : BitVec 32 := 4#32
  let v124 : BitVec 32 := Scalar.remsi c12_i32_73 c4_i32_74
  let c4_i32_85 : BitVec 32 := 4#32
  let c0_i32_89 : BitVec 32 := 0#32
  let c0_i32_90 : BitVec 32 := 0#32
  let c0_i32_91 : BitVec 32 := 0#32
  ![v124.toNat, 4, 0, 0, 0]
def k0_mult86 (v153 : BitVec 32) : BitVec 32 :=
  let c0_i32_96 : BitVec 32 := 0#32
  let v155 : BitVec 1 := Scalar.cmpi .sgt v153 c0_i32_96
  let v156 : BitVec 32 := Scalar.extui v155
  let c0_i32_97 : BitVec 32 := 0#32
  let v157 : BitVec 1 := Scalar.cmpi .slt v153 c0_i32_97
  let v158 : BitVec 32 := Scalar.extui v157
  let v159 : BitVec 32 := Scalar.subi v156 v158
  let c8_i32_95 : BitVec 32 := 8#32
  let c0_i32_98 : BitVec 32 := 0#32
  let v160 : BitVec 1 := Scalar.cmpi .sgt c8_i32_95 c0_i32_98
  let v161 : BitVec 32 := Scalar.extui v160
  let c0_i32_99 : BitVec 32 := 0#32
  let v162 : BitVec 1 := Scalar.cmpi .slt c8_i32_95 c0_i32_99
  let v163 : BitVec 32 := Scalar.extui v162
  let v164 : BitVec 32 := Scalar.subi v161 v163
  let v165 : BitVec 1 := Scalar.cmpi .ne v159 v164
  let v166 : BitVec 32 := Scalar.remsi v153 c8_i32_95
  let c0_i32_100 : BitVec 32 := 0#32
  let v167 : BitVec 1 := Scalar.cmpi .ne v166 c0_i32_100
  let v168 : BitVec 1 := Scalar.andi v165 v167
  let v154 : BitVec 32 := Scalar.divsi v153 c8_i32_95
  let c1_i32_101 : BitVec 32 := 1#32
  let v169 : BitVec 32 := Scalar.subi v154 c1_i32_101
  let v170 : BitVec 32 := Scalar.select v168 v169 v154
  let c8_i32_102 : BitVec 32 := 8#32
  let v171 : BitVec 32 := Scalar.muli v170 c8_i32_102
  let c184_i32_103 : BitVec 32 := 184#32
  let v172 : BitVec 32 := Scalar.minsi v171 c184_i32_103
  v172

def k0_off320 : Fin 2 → Nat :=
  let c12_i32_92 : BitVec 32 := 12#32
  let c4_i32_93 : BitVec 32 := 4#32
  let v152 : BitVec 32 := Scalar.remsi c12_i32_92 c4_i32_93
  let c5_i32_104 : BitVec 32 := 5#32
  ![v152.toNat, 5]
def k0_off321 (v153 : BitVec 32) : Fin 4 → Nat :=
  let c197_i32 : BitVec 32 := 197#32
  let c0_i32_105 : BitVec 32 := 0#32
  let c0_i32_96 : BitVec 32 := 0#32
  let v155 : BitVec 1 := Scalar.cmpi .sgt v153 c0_i32_96
  let v156 : BitVec 32 := Scalar.extui v155
  let c0_i32_97 : BitVec 32 := 0#32
  let v157 : BitVec 1 := Scalar.cmpi .slt v153 c0_i32_97
  let v158 : BitVec 32 := Scalar.extui v157
  let v159 : BitVec 32 := Scalar.subi v156 v158
  let c8_i32_95 : BitVec 32 := 8#32
  let c0_i32_98 : BitVec 32 := 0#32
  let v160 : BitVec 1 := Scalar.cmpi .sgt c8_i32_95 c0_i32_98
  let v161 : BitVec 32 := Scalar.extui v160
  let c0_i32_99 : BitVec 32 := 0#32
  let v162 : BitVec 1 := Scalar.cmpi .slt c8_i32_95 c0_i32_99
  let v163 : BitVec 32 := Scalar.extui v162
  let v164 : BitVec 32 := Scalar.subi v161 v163
  let v165 : BitVec 1 := Scalar.cmpi .ne v159 v164
  let v166 : BitVec 32 := Scalar.remsi v153 c8_i32_95
  let c0_i32_100 : BitVec 32 := 0#32
  let v167 : BitVec 1 := Scalar.cmpi .ne v166 c0_i32_100
  let v168 : BitVec 1 := Scalar.andi v165 v167
  let v154 : BitVec 32 := Scalar.divsi v153 c8_i32_95
  let c1_i32_101 : BitVec 32 := 1#32
  let v169 : BitVec 32 := Scalar.subi v154 c1_i32_101
  let v170 : BitVec 32 := Scalar.select v168 v169 v154
  let c8_i32_102 : BitVec 32 := 8#32
  let v171 : BitVec 32 := Scalar.muli v170 c8_i32_102
  let c184_i32_103 : BitVec 32 := 184#32
  let v172 : BitVec 32 := Scalar.minsi v171 c184_i32_103
  let v173 : BitVec 32 := v172
  let c0_i32_106 : BitVec 32 := 0#32
  ![197, 0, v173.toNat, 0]

def k0_chk86 (i : grid0.Coords) (v153 : BitVec 32) : Prop :=
  (∀ (k0_h4 : k0_cond4 i = 1#1), 8 ∣ (k0_mult86 v153).toNat) ∧
  (∀ (k0_h4 : k0_cond4 i = 1#1), ∀ a, (k0_off321 v153) a + S1x3x40x224.size a ≤ S256x3x224x224.size a)
theorem k0_mult86_dvd : ∀ (i : grid0.Coords) (v153 : BitVec 32) (k0_hw86 : k0_chk86 i v153), ∀ (k0_h4 : k0_cond4 i = 1#1), 8 ∣ (k0_mult86 v153).toNat := fun i v153 k0_hw86 k0_h4 => k0_hw86.1 k0_h4
theorem k0_off321_inb : ∀ (i : grid0.Coords) (v153 : BitVec 32) (k0_hw86 : k0_chk86 i v153), ∀ (k0_h4 : k0_cond4 i = 1#1), ∀ a, (k0_off321 v153) a + S1x3x40x224.size a ≤ S256x3x224x224.size a := fun i v153 k0_hw86 k0_h4 => k0_hw86.2 k0_h4

def k0_off322 : Fin 5 → Nat :=
  let c12_i32_92 : BitVec 32 := 12#32
  let c4_i32_93 : BitVec 32 := 4#32
  let v152 : BitVec 32 := Scalar.remsi c12_i32_92 c4_i32_93
  let c5_i32 : BitVec 32 := 5#32
  let c0_i32_107 : BitVec 32 := 0#32
  let c0_i32_108 : BitVec 32 := 0#32
  let c0_i32_109 : BitVec 32 := 0#32
  ![v152.toNat, 5, 0, 0, 0]
def k0_mult87 (v181 : BitVec 32) : BitVec 32 :=
  let c0_i32_114 : BitVec 32 := 0#32
  let v183 : BitVec 1 := Scalar.cmpi .sgt v181 c0_i32_114
  let v184 : BitVec 32 := Scalar.extui v183
  let c0_i32_115 : BitVec 32 := 0#32
  let v185 : BitVec 1 := Scalar.cmpi .slt v181 c0_i32_115
  let v186 : BitVec 32 := Scalar.extui v185
  let v187 : BitVec 32 := Scalar.subi v184 v186
  let c8_i32_113 : BitVec 32 := 8#32
  let c0_i32_116 : BitVec 32 := 0#32
  let v188 : BitVec 1 := Scalar.cmpi .sgt c8_i32_113 c0_i32_116
  let v189 : BitVec 32 := Scalar.extui v188
  let c0_i32_117 : BitVec 32 := 0#32
  let v190 : BitVec 1 := Scalar.cmpi .slt c8_i32_113 c0_i32_117
  let v191 : BitVec 32 := Scalar.extui v190
  let v192 : BitVec 32 := Scalar.subi v189 v191
  let v193 : BitVec 1 := Scalar.cmpi .ne v187 v192
  let v194 : BitVec 32 := Scalar.remsi v181 c8_i32_113
  let c0_i32_118 : BitVec 32 := 0#32
  let v195 : BitVec 1 := Scalar.cmpi .ne v194 c0_i32_118
  let v196 : BitVec 1 := Scalar.andi v193 v195
  let v182 : BitVec 32 := Scalar.divsi v181 c8_i32_113
  let c1_i32_119 : BitVec 32 := 1#32
  let v197 : BitVec 32 := Scalar.subi v182 c1_i32_119
  let v198 : BitVec 32 := Scalar.select v196 v197 v182
  let c8_i32_120 : BitVec 32 := 8#32
  let v199 : BitVec 32 := Scalar.muli v198 c8_i32_120
  let c184_i32_121 : BitVec 32 := 184#32
  let v200 : BitVec 32 := Scalar.minsi v199 c184_i32_121
  v200

def k0_off323 : Fin 2 → Nat :=
  let c12_i32_110 : BitVec 32 := 12#32
  let c4_i32_111 : BitVec 32 := 4#32
  let v180 : BitVec 32 := Scalar.remsi c12_i32_110 c4_i32_111
  let c6_i32_122 : BitVec 32 := 6#32
  ![v180.toNat, 6]
def k0_off324 (v181 : BitVec 32) : Fin 4 → Nat :=
  let c198_i32 : BitVec 32 := 198#32
  let c0_i32_123 : BitVec 32 := 0#32
  let c0_i32_114 : BitVec 32 := 0#32
  let v183 : BitVec 1 := Scalar.cmpi .sgt v181 c0_i32_114
  let v184 : BitVec 32 := Scalar.extui v183
  let c0_i32_115 : BitVec 32 := 0#32
  let v185 : BitVec 1 := Scalar.cmpi .slt v181 c0_i32_115
  let v186 : BitVec 32 := Scalar.extui v185
  let v187 : BitVec 32 := Scalar.subi v184 v186
  let c8_i32_113 : BitVec 32 := 8#32
  let c0_i32_116 : BitVec 32 := 0#32
  let v188 : BitVec 1 := Scalar.cmpi .sgt c8_i32_113 c0_i32_116
  let v189 : BitVec 32 := Scalar.extui v188
  let c0_i32_117 : BitVec 32 := 0#32
  let v190 : BitVec 1 := Scalar.cmpi .slt c8_i32_113 c0_i32_117
  let v191 : BitVec 32 := Scalar.extui v190
  let v192 : BitVec 32 := Scalar.subi v189 v191
  let v193 : BitVec 1 := Scalar.cmpi .ne v187 v192
  let v194 : BitVec 32 := Scalar.remsi v181 c8_i32_113
  let c0_i32_118 : BitVec 32 := 0#32
  let v195 : BitVec 1 := Scalar.cmpi .ne v194 c0_i32_118
  let v196 : BitVec 1 := Scalar.andi v193 v195
  let v182 : BitVec 32 := Scalar.divsi v181 c8_i32_113
  let c1_i32_119 : BitVec 32 := 1#32
  let v197 : BitVec 32 := Scalar.subi v182 c1_i32_119
  let v198 : BitVec 32 := Scalar.select v196 v197 v182
  let c8_i32_120 : BitVec 32 := 8#32
  let v199 : BitVec 32 := Scalar.muli v198 c8_i32_120
  let c184_i32_121 : BitVec 32 := 184#32
  let v200 : BitVec 32 := Scalar.minsi v199 c184_i32_121
  let v201 : BitVec 32 := v200
  let c0_i32_124 : BitVec 32 := 0#32
  ![198, 0, v201.toNat, 0]

def k0_chk87 (i : grid0.Coords) (v181 : BitVec 32) : Prop :=
  (∀ (k0_h4 : k0_cond4 i = 1#1), 8 ∣ (k0_mult87 v181).toNat) ∧
  (∀ (k0_h4 : k0_cond4 i = 1#1), ∀ a, (k0_off324 v181) a + S1x3x40x224.size a ≤ S256x3x224x224.size a)
theorem k0_mult87_dvd : ∀ (i : grid0.Coords) (v181 : BitVec 32) (k0_hw87 : k0_chk87 i v181), ∀ (k0_h4 : k0_cond4 i = 1#1), 8 ∣ (k0_mult87 v181).toNat := fun i v181 k0_hw87 k0_h4 => k0_hw87.1 k0_h4
theorem k0_off324_inb : ∀ (i : grid0.Coords) (v181 : BitVec 32) (k0_hw87 : k0_chk87 i v181), ∀ (k0_h4 : k0_cond4 i = 1#1), ∀ a, (k0_off324 v181) a + S1x3x40x224.size a ≤ S256x3x224x224.size a := fun i v181 k0_hw87 k0_h4 => k0_hw87.2 k0_h4

def k0_off325 : Fin 5 → Nat :=
  let c12_i32_110 : BitVec 32 := 12#32
  let c4_i32_111 : BitVec 32 := 4#32
  let v180 : BitVec 32 := Scalar.remsi c12_i32_110 c4_i32_111
  let c6_i32 : BitVec 32 := 6#32
  let c0_i32_125 : BitVec 32 := 0#32
  let c0_i32_126 : BitVec 32 := 0#32
  let c0_i32_127 : BitVec 32 := 0#32
  ![v180.toNat, 6, 0, 0, 0]
def k0_mult88 (v209 : BitVec 32) : BitVec 32 :=
  let c0_i32_132 : BitVec 32 := 0#32
  let v211 : BitVec 1 := Scalar.cmpi .sgt v209 c0_i32_132
  let v212 : BitVec 32 := Scalar.extui v211
  let c0_i32_133 : BitVec 32 := 0#32
  let v213 : BitVec 1 := Scalar.cmpi .slt v209 c0_i32_133
  let v214 : BitVec 32 := Scalar.extui v213
  let v215 : BitVec 32 := Scalar.subi v212 v214
  let c8_i32_131 : BitVec 32 := 8#32
  let c0_i32_134 : BitVec 32 := 0#32
  let v216 : BitVec 1 := Scalar.cmpi .sgt c8_i32_131 c0_i32_134
  let v217 : BitVec 32 := Scalar.extui v216
  let c0_i32_135 : BitVec 32 := 0#32
  let v218 : BitVec 1 := Scalar.cmpi .slt c8_i32_131 c0_i32_135
  let v219 : BitVec 32 := Scalar.extui v218
  let v220 : BitVec 32 := Scalar.subi v217 v219
  let v221 : BitVec 1 := Scalar.cmpi .ne v215 v220
  let v222 : BitVec 32 := Scalar.remsi v209 c8_i32_131
  let c0_i32_136 : BitVec 32 := 0#32
  let v223 : BitVec 1 := Scalar.cmpi .ne v222 c0_i32_136
  let v224 : BitVec 1 := Scalar.andi v221 v223
  let v210 : BitVec 32 := Scalar.divsi v209 c8_i32_131
  let c1_i32_137 : BitVec 32 := 1#32
  let v225 : BitVec 32 := Scalar.subi v210 c1_i32_137
  let v226 : BitVec 32 := Scalar.select v224 v225 v210
  let c8_i32_138 : BitVec 32 := 8#32
  let v227 : BitVec 32 := Scalar.muli v226 c8_i32_138
  let c184_i32_139 : BitVec 32 := 184#32
  let v228 : BitVec 32 := Scalar.minsi v227 c184_i32_139
  v228

def k0_off326 : Fin 2 → Nat :=
  let c12_i32_128 : BitVec 32 := 12#32
  let c4_i32_129 : BitVec 32 := 4#32
  let v208 : BitVec 32 := Scalar.remsi c12_i32_128 c4_i32_129
  let c7_i32_140 : BitVec 32 := 7#32
  ![v208.toNat, 7]
def k0_off327 (v209 : BitVec 32) : Fin 4 → Nat :=
  let c199_i32 : BitVec 32 := 199#32
  let c0_i32_141 : BitVec 32 := 0#32
  let c0_i32_132 : BitVec 32 := 0#32
  let v211 : BitVec 1 := Scalar.cmpi .sgt v209 c0_i32_132
  let v212 : BitVec 32 := Scalar.extui v211
  let c0_i32_133 : BitVec 32 := 0#32
  let v213 : BitVec 1 := Scalar.cmpi .slt v209 c0_i32_133
  let v214 : BitVec 32 := Scalar.extui v213
  let v215 : BitVec 32 := Scalar.subi v212 v214
  let c8_i32_131 : BitVec 32 := 8#32
  let c0_i32_134 : BitVec 32 := 0#32
  let v216 : BitVec 1 := Scalar.cmpi .sgt c8_i32_131 c0_i32_134
  let v217 : BitVec 32 := Scalar.extui v216
  let c0_i32_135 : BitVec 32 := 0#32
  let v218 : BitVec 1 := Scalar.cmpi .slt c8_i32_131 c0_i32_135
  let v219 : BitVec 32 := Scalar.extui v218
  let v220 : BitVec 32 := Scalar.subi v217 v219
  let v221 : BitVec 1 := Scalar.cmpi .ne v215 v220
  let v222 : BitVec 32 := Scalar.remsi v209 c8_i32_131
  let c0_i32_136 : BitVec 32 := 0#32
  let v223 : BitVec 1 := Scalar.cmpi .ne v222 c0_i32_136
  let v224 : BitVec 1 := Scalar.andi v221 v223
  let v210 : BitVec 32 := Scalar.divsi v209 c8_i32_131
  let c1_i32_137 : BitVec 32 := 1#32
  let v225 : BitVec 32 := Scalar.subi v210 c1_i32_137
  let v226 : BitVec 32 := Scalar.select v224 v225 v210
  let c8_i32_138 : BitVec 32 := 8#32
  let v227 : BitVec 32 := Scalar.muli v226 c8_i32_138
  let c184_i32_139 : BitVec 32 := 184#32
  let v228 : BitVec 32 := Scalar.minsi v227 c184_i32_139
  let v229 : BitVec 32 := v228
  let c0_i32_142 : BitVec 32 := 0#32
  ![199, 0, v229.toNat, 0]

def k0_chk88 (i : grid0.Coords) (v209 : BitVec 32) : Prop :=
  (∀ (k0_h4 : k0_cond4 i = 1#1), 8 ∣ (k0_mult88 v209).toNat) ∧
  (∀ (k0_h4 : k0_cond4 i = 1#1), ∀ a, (k0_off327 v209) a + S1x3x40x224.size a ≤ S256x3x224x224.size a)
theorem k0_mult88_dvd : ∀ (i : grid0.Coords) (v209 : BitVec 32) (k0_hw88 : k0_chk88 i v209), ∀ (k0_h4 : k0_cond4 i = 1#1), 8 ∣ (k0_mult88 v209).toNat := fun i v209 k0_hw88 k0_h4 => k0_hw88.1 k0_h4
theorem k0_off327_inb : ∀ (i : grid0.Coords) (v209 : BitVec 32) (k0_hw88 : k0_chk88 i v209), ∀ (k0_h4 : k0_cond4 i = 1#1), ∀ a, (k0_off327 v209) a + S1x3x40x224.size a ≤ S256x3x224x224.size a := fun i v209 k0_hw88 k0_h4 => k0_hw88.2 k0_h4

def k0_off328 : Fin 5 → Nat :=
  let c12_i32_128 : BitVec 32 := 12#32
  let c4_i32_129 : BitVec 32 := 4#32
  let v208 : BitVec 32 := Scalar.remsi c12_i32_128 c4_i32_129
  let c7_i32 : BitVec 32 := 7#32
  let c0_i32_143 : BitVec 32 := 0#32
  let c0_i32_144 : BitVec 32 := 0#32
  let c0_i32_145 : BitVec 32 := 0#32
  ![v208.toNat, 7, 0, 0, 0]
def k0_mult89 (v237 : BitVec 32) : BitVec 32 :=
  let c0_i32_150 : BitVec 32 := 0#32
  let v239 : BitVec 1 := Scalar.cmpi .sgt v237 c0_i32_150
  let v240 : BitVec 32 := Scalar.extui v239
  let c0_i32_151 : BitVec 32 := 0#32
  let v241 : BitVec 1 := Scalar.cmpi .slt v237 c0_i32_151
  let v242 : BitVec 32 := Scalar.extui v241
  let v243 : BitVec 32 := Scalar.subi v240 v242
  let c8_i32_149 : BitVec 32 := 8#32
  let c0_i32_152 : BitVec 32 := 0#32
  let v244 : BitVec 1 := Scalar.cmpi .sgt c8_i32_149 c0_i32_152
  let v245 : BitVec 32 := Scalar.extui v244
  let c0_i32_153 : BitVec 32 := 0#32
  let v246 : BitVec 1 := Scalar.cmpi .slt c8_i32_149 c0_i32_153
  let v247 : BitVec 32 := Scalar.extui v246
  let v248 : BitVec 32 := Scalar.subi v245 v247
  let v249 : BitVec 1 := Scalar.cmpi .ne v243 v248
  let v250 : BitVec 32 := Scalar.remsi v237 c8_i32_149
  let c0_i32_154 : BitVec 32 := 0#32
  let v251 : BitVec 1 := Scalar.cmpi .ne v250 c0_i32_154
  let v252 : BitVec 1 := Scalar.andi v249 v251
  let v238 : BitVec 32 := Scalar.divsi v237 c8_i32_149
  let c1_i32_155 : BitVec 32 := 1#32
  let v253 : BitVec 32 := Scalar.subi v238 c1_i32_155
  let v254 : BitVec 32 := Scalar.select v252 v253 v238
  let c8_i32_156 : BitVec 32 := 8#32
  let v255 : BitVec 32 := Scalar.muli v254 c8_i32_156
  let c184_i32_157 : BitVec 32 := 184#32
  let v256 : BitVec 32 := Scalar.minsi v255 c184_i32_157
  v256

def k0_off329 : Fin 2 → Nat :=
  let c12_i32_146 : BitVec 32 := 12#32
  let c4_i32_147 : BitVec 32 := 4#32
  let v236 : BitVec 32 := Scalar.remsi c12_i32_146 c4_i32_147
  let c8_i32_159 : BitVec 32 := 8#32
  ![v236.toNat, 8]
def k0_off330 (v237 : BitVec 32) : Fin 4 → Nat :=
  let c200_i32 : BitVec 32 := 200#32
  let c0_i32_160 : BitVec 32 := 0#32
  let c0_i32_150 : BitVec 32 := 0#32
  let v239 : BitVec 1 := Scalar.cmpi .sgt v237 c0_i32_150
  let v240 : BitVec 32 := Scalar.extui v239
  let c0_i32_151 : BitVec 32 := 0#32
  let v241 : BitVec 1 := Scalar.cmpi .slt v237 c0_i32_151
  let v242 : BitVec 32 := Scalar.extui v241
  let v243 : BitVec 32 := Scalar.subi v240 v242
  let c8_i32_149 : BitVec 32 := 8#32
  let c0_i32_152 : BitVec 32 := 0#32
  let v244 : BitVec 1 := Scalar.cmpi .sgt c8_i32_149 c0_i32_152
  let v245 : BitVec 32 := Scalar.extui v244
  let c0_i32_153 : BitVec 32 := 0#32
  let v246 : BitVec 1 := Scalar.cmpi .slt c8_i32_149 c0_i32_153
  let v247 : BitVec 32 := Scalar.extui v246
  let v248 : BitVec 32 := Scalar.subi v245 v247
  let v249 : BitVec 1 := Scalar.cmpi .ne v243 v248
  let v250 : BitVec 32 := Scalar.remsi v237 c8_i32_149
  let c0_i32_154 : BitVec 32 := 0#32
  let v251 : BitVec 1 := Scalar.cmpi .ne v250 c0_i32_154
  let v252 : BitVec 1 := Scalar.andi v249 v251
  let v238 : BitVec 32 := Scalar.divsi v237 c8_i32_149
  let c1_i32_155 : BitVec 32 := 1#32
  let v253 : BitVec 32 := Scalar.subi v238 c1_i32_155
  let v254 : BitVec 32 := Scalar.select v252 v253 v238
  let c8_i32_156 : BitVec 32 := 8#32
  let v255 : BitVec 32 := Scalar.muli v254 c8_i32_156
  let c184_i32_157 : BitVec 32 := 184#32
  let v256 : BitVec 32 := Scalar.minsi v255 c184_i32_157
  let v257 : BitVec 32 := v256
  let c0_i32_161 : BitVec 32 := 0#32
  ![200, 0, v257.toNat, 0]

def k0_chk89 (i : grid0.Coords) (v237 : BitVec 32) : Prop :=
  (∀ (k0_h4 : k0_cond4 i = 1#1), 8 ∣ (k0_mult89 v237).toNat) ∧
  (∀ (k0_h4 : k0_cond4 i = 1#1), ∀ a, (k0_off330 v237) a + S1x3x40x224.size a ≤ S256x3x224x224.size a)
theorem k0_mult89_dvd : ∀ (i : grid0.Coords) (v237 : BitVec 32) (k0_hw89 : k0_chk89 i v237), ∀ (k0_h4 : k0_cond4 i = 1#1), 8 ∣ (k0_mult89 v237).toNat := fun i v237 k0_hw89 k0_h4 => k0_hw89.1 k0_h4
theorem k0_off330_inb : ∀ (i : grid0.Coords) (v237 : BitVec 32) (k0_hw89 : k0_chk89 i v237), ∀ (k0_h4 : k0_cond4 i = 1#1), ∀ a, (k0_off330 v237) a + S1x3x40x224.size a ≤ S256x3x224x224.size a := fun i v237 k0_hw89 k0_h4 => k0_hw89.2 k0_h4

def k0_off331 : Fin 5 → Nat :=
  let c12_i32_146 : BitVec 32 := 12#32
  let c4_i32_147 : BitVec 32 := 4#32
  let v236 : BitVec 32 := Scalar.remsi c12_i32_146 c4_i32_147
  let c8_i32_158 : BitVec 32 := 8#32
  let c0_i32_162 : BitVec 32 := 0#32
  let c0_i32_163 : BitVec 32 := 0#32
  let c0_i32_164 : BitVec 32 := 0#32
  ![v236.toNat, 8, 0, 0, 0]
def k0_mult90 (v265 : BitVec 32) : BitVec 32 :=
  let c0_i32_169 : BitVec 32 := 0#32
  let v267 : BitVec 1 := Scalar.cmpi .sgt v265 c0_i32_169
  let v268 : BitVec 32 := Scalar.extui v267
  let c0_i32_170 : BitVec 32 := 0#32
  let v269 : BitVec 1 := Scalar.cmpi .slt v265 c0_i32_170
  let v270 : BitVec 32 := Scalar.extui v269
  let v271 : BitVec 32 := Scalar.subi v268 v270
  let c8_i32_168 : BitVec 32 := 8#32
  let c0_i32_171 : BitVec 32 := 0#32
  let v272 : BitVec 1 := Scalar.cmpi .sgt c8_i32_168 c0_i32_171
  let v273 : BitVec 32 := Scalar.extui v272
  let c0_i32_172 : BitVec 32 := 0#32
  let v274 : BitVec 1 := Scalar.cmpi .slt c8_i32_168 c0_i32_172
  let v275 : BitVec 32 := Scalar.extui v274
  let v276 : BitVec 32 := Scalar.subi v273 v275
  let v277 : BitVec 1 := Scalar.cmpi .ne v271 v276
  let v278 : BitVec 32 := Scalar.remsi v265 c8_i32_168
  let c0_i32_173 : BitVec 32 := 0#32
  let v279 : BitVec 1 := Scalar.cmpi .ne v278 c0_i32_173
  let v280 : BitVec 1 := Scalar.andi v277 v279
  let v266 : BitVec 32 := Scalar.divsi v265 c8_i32_168
  let c1_i32_174 : BitVec 32 := 1#32
  let v281 : BitVec 32 := Scalar.subi v266 c1_i32_174
  let v282 : BitVec 32 := Scalar.select v280 v281 v266
  let c8_i32_175 : BitVec 32 := 8#32
  let v283 : BitVec 32 := Scalar.muli v282 c8_i32_175
  let c184_i32_176 : BitVec 32 := 184#32
  let v284 : BitVec 32 := Scalar.minsi v283 c184_i32_176
  v284

def k0_off332 : Fin 2 → Nat :=
  let c12_i32_165 : BitVec 32 := 12#32
  let c4_i32_166 : BitVec 32 := 4#32
  let v264 : BitVec 32 := Scalar.remsi c12_i32_165 c4_i32_166
  let c9_i32_177 : BitVec 32 := 9#32
  ![v264.toNat, 9]
def k0_off333 (v265 : BitVec 32) : Fin 4 → Nat :=
  let c201_i32 : BitVec 32 := 201#32
  let c0_i32_178 : BitVec 32 := 0#32
  let c0_i32_169 : BitVec 32 := 0#32
  let v267 : BitVec 1 := Scalar.cmpi .sgt v265 c0_i32_169
  let v268 : BitVec 32 := Scalar.extui v267
  let c0_i32_170 : BitVec 32 := 0#32
  let v269 : BitVec 1 := Scalar.cmpi .slt v265 c0_i32_170
  let v270 : BitVec 32 := Scalar.extui v269
  let v271 : BitVec 32 := Scalar.subi v268 v270
  let c8_i32_168 : BitVec 32 := 8#32
  let c0_i32_171 : BitVec 32 := 0#32
  let v272 : BitVec 1 := Scalar.cmpi .sgt c8_i32_168 c0_i32_171
  let v273 : BitVec 32 := Scalar.extui v272
  let c0_i32_172 : BitVec 32 := 0#32
  let v274 : BitVec 1 := Scalar.cmpi .slt c8_i32_168 c0_i32_172
  let v275 : BitVec 32 := Scalar.extui v274
  let v276 : BitVec 32 := Scalar.subi v273 v275
  let v277 : BitVec 1 := Scalar.cmpi .ne v271 v276
  let v278 : BitVec 32 := Scalar.remsi v265 c8_i32_168
  let c0_i32_173 : BitVec 32 := 0#32
  let v279 : BitVec 1 := Scalar.cmpi .ne v278 c0_i32_173
  let v280 : BitVec 1 := Scalar.andi v277 v279
  let v266 : BitVec 32 := Scalar.divsi v265 c8_i32_168
  let c1_i32_174 : BitVec 32 := 1#32
  let v281 : BitVec 32 := Scalar.subi v266 c1_i32_174
  let v282 : BitVec 32 := Scalar.select v280 v281 v266
  let c8_i32_175 : BitVec 32 := 8#32
  let v283 : BitVec 32 := Scalar.muli v282 c8_i32_175
  let c184_i32_176 : BitVec 32 := 184#32
  let v284 : BitVec 32 := Scalar.minsi v283 c184_i32_176
  let v285 : BitVec 32 := v284
  let c0_i32_179 : BitVec 32 := 0#32
  ![201, 0, v285.toNat, 0]

def k0_chk90 (i : grid0.Coords) (v265 : BitVec 32) : Prop :=
  (∀ (k0_h4 : k0_cond4 i = 1#1), 8 ∣ (k0_mult90 v265).toNat) ∧
  (∀ (k0_h4 : k0_cond4 i = 1#1), ∀ a, (k0_off333 v265) a + S1x3x40x224.size a ≤ S256x3x224x224.size a)
theorem k0_mult90_dvd : ∀ (i : grid0.Coords) (v265 : BitVec 32) (k0_hw90 : k0_chk90 i v265), ∀ (k0_h4 : k0_cond4 i = 1#1), 8 ∣ (k0_mult90 v265).toNat := fun i v265 k0_hw90 k0_h4 => k0_hw90.1 k0_h4
theorem k0_off333_inb : ∀ (i : grid0.Coords) (v265 : BitVec 32) (k0_hw90 : k0_chk90 i v265), ∀ (k0_h4 : k0_cond4 i = 1#1), ∀ a, (k0_off333 v265) a + S1x3x40x224.size a ≤ S256x3x224x224.size a := fun i v265 k0_hw90 k0_h4 => k0_hw90.2 k0_h4

def k0_off334 : Fin 5 → Nat :=
  let c12_i32_165 : BitVec 32 := 12#32
  let c4_i32_166 : BitVec 32 := 4#32
  let v264 : BitVec 32 := Scalar.remsi c12_i32_165 c4_i32_166
  let c9_i32 : BitVec 32 := 9#32
  let c0_i32_180 : BitVec 32 := 0#32
  let c0_i32_181 : BitVec 32 := 0#32
  let c0_i32_182 : BitVec 32 := 0#32
  ![v264.toNat, 9, 0, 0, 0]
def k0_mult91 (v293 : BitVec 32) : BitVec 32 :=
  let c0_i32_187 : BitVec 32 := 0#32
  let v295 : BitVec 1 := Scalar.cmpi .sgt v293 c0_i32_187
  let v296 : BitVec 32 := Scalar.extui v295
  let c0_i32_188 : BitVec 32 := 0#32
  let v297 : BitVec 1 := Scalar.cmpi .slt v293 c0_i32_188
  let v298 : BitVec 32 := Scalar.extui v297
  let v299 : BitVec 32 := Scalar.subi v296 v298
  let c8_i32_186 : BitVec 32 := 8#32
  let c0_i32_189 : BitVec 32 := 0#32
  let v300 : BitVec 1 := Scalar.cmpi .sgt c8_i32_186 c0_i32_189
  let v301 : BitVec 32 := Scalar.extui v300
  let c0_i32_190 : BitVec 32 := 0#32
  let v302 : BitVec 1 := Scalar.cmpi .slt c8_i32_186 c0_i32_190
  let v303 : BitVec 32 := Scalar.extui v302
  let v304 : BitVec 32 := Scalar.subi v301 v303
  let v305 : BitVec 1 := Scalar.cmpi .ne v299 v304
  let v306 : BitVec 32 := Scalar.remsi v293 c8_i32_186
  let c0_i32_191 : BitVec 32 := 0#32
  let v307 : BitVec 1 := Scalar.cmpi .ne v306 c0_i32_191
  let v308 : BitVec 1 := Scalar.andi v305 v307
  let v294 : BitVec 32 := Scalar.divsi v293 c8_i32_186
  let c1_i32_192 : BitVec 32 := 1#32
  let v309 : BitVec 32 := Scalar.subi v294 c1_i32_192
  let v310 : BitVec 32 := Scalar.select v308 v309 v294
  let c8_i32_193 : BitVec 32 := 8#32
  let v311 : BitVec 32 := Scalar.muli v310 c8_i32_193
  let c184_i32_194 : BitVec 32 := 184#32
  let v312 : BitVec 32 := Scalar.minsi v311 c184_i32_194
  v312

def k0_off335 : Fin 2 → Nat :=
  let c12_i32_183 : BitVec 32 := 12#32
  let c4_i32_184 : BitVec 32 := 4#32
  let v292 : BitVec 32 := Scalar.remsi c12_i32_183 c4_i32_184
  let c10_i32_195 : BitVec 32 := 10#32
  ![v292.toNat, 10]
def k0_off336 (v293 : BitVec 32) : Fin 4 → Nat :=
  let c202_i32 : BitVec 32 := 202#32
  let c0_i32_196 : BitVec 32 := 0#32
  let c0_i32_187 : BitVec 32 := 0#32
  let v295 : BitVec 1 := Scalar.cmpi .sgt v293 c0_i32_187
  let v296 : BitVec 32 := Scalar.extui v295
  let c0_i32_188 : BitVec 32 := 0#32
  let v297 : BitVec 1 := Scalar.cmpi .slt v293 c0_i32_188
  let v298 : BitVec 32 := Scalar.extui v297
  let v299 : BitVec 32 := Scalar.subi v296 v298
  let c8_i32_186 : BitVec 32 := 8#32
  let c0_i32_189 : BitVec 32 := 0#32
  let v300 : BitVec 1 := Scalar.cmpi .sgt c8_i32_186 c0_i32_189
  let v301 : BitVec 32 := Scalar.extui v300
  let c0_i32_190 : BitVec 32 := 0#32
  let v302 : BitVec 1 := Scalar.cmpi .slt c8_i32_186 c0_i32_190
  let v303 : BitVec 32 := Scalar.extui v302
  let v304 : BitVec 32 := Scalar.subi v301 v303
  let v305 : BitVec 1 := Scalar.cmpi .ne v299 v304
  let v306 : BitVec 32 := Scalar.remsi v293 c8_i32_186
  let c0_i32_191 : BitVec 32 := 0#32
  let v307 : BitVec 1 := Scalar.cmpi .ne v306 c0_i32_191
  let v308 : BitVec 1 := Scalar.andi v305 v307
  let v294 : BitVec 32 := Scalar.divsi v293 c8_i32_186
  let c1_i32_192 : BitVec 32 := 1#32
  let v309 : BitVec 32 := Scalar.subi v294 c1_i32_192
  let v310 : BitVec 32 := Scalar.select v308 v309 v294
  let c8_i32_193 : BitVec 32 := 8#32
  let v311 : BitVec 32 := Scalar.muli v310 c8_i32_193
  let c184_i32_194 : BitVec 32 := 184#32
  let v312 : BitVec 32 := Scalar.minsi v311 c184_i32_194
  let v313 : BitVec 32 := v312
  let c0_i32_197 : BitVec 32 := 0#32
  ![202, 0, v313.toNat, 0]

def k0_chk91 (i : grid0.Coords) (v293 : BitVec 32) : Prop :=
  (∀ (k0_h4 : k0_cond4 i = 1#1), 8 ∣ (k0_mult91 v293).toNat) ∧
  (∀ (k0_h4 : k0_cond4 i = 1#1), ∀ a, (k0_off336 v293) a + S1x3x40x224.size a ≤ S256x3x224x224.size a)
theorem k0_mult91_dvd : ∀ (i : grid0.Coords) (v293 : BitVec 32) (k0_hw91 : k0_chk91 i v293), ∀ (k0_h4 : k0_cond4 i = 1#1), 8 ∣ (k0_mult91 v293).toNat := fun i v293 k0_hw91 k0_h4 => k0_hw91.1 k0_h4
theorem k0_off336_inb : ∀ (i : grid0.Coords) (v293 : BitVec 32) (k0_hw91 : k0_chk91 i v293), ∀ (k0_h4 : k0_cond4 i = 1#1), ∀ a, (k0_off336 v293) a + S1x3x40x224.size a ≤ S256x3x224x224.size a := fun i v293 k0_hw91 k0_h4 => k0_hw91.2 k0_h4

def k0_off337 : Fin 5 → Nat :=
  let c12_i32_183 : BitVec 32 := 12#32
  let c4_i32_184 : BitVec 32 := 4#32
  let v292 : BitVec 32 := Scalar.remsi c12_i32_183 c4_i32_184
  let c10_i32 : BitVec 32 := 10#32
  let c0_i32_198 : BitVec 32 := 0#32
  let c0_i32_199 : BitVec 32 := 0#32
  let c0_i32_200 : BitVec 32 := 0#32
  ![v292.toNat, 10, 0, 0, 0]
def k0_mult92 (v321 : BitVec 32) : BitVec 32 :=
  let c0_i32_205 : BitVec 32 := 0#32
  let v323 : BitVec 1 := Scalar.cmpi .sgt v321 c0_i32_205
  let v324 : BitVec 32 := Scalar.extui v323
  let c0_i32_206 : BitVec 32 := 0#32
  let v325 : BitVec 1 := Scalar.cmpi .slt v321 c0_i32_206
  let v326 : BitVec 32 := Scalar.extui v325
  let v327 : BitVec 32 := Scalar.subi v324 v326
  let c8_i32_204 : BitVec 32 := 8#32
  let c0_i32_207 : BitVec 32 := 0#32
  let v328 : BitVec 1 := Scalar.cmpi .sgt c8_i32_204 c0_i32_207
  let v329 : BitVec 32 := Scalar.extui v328
  let c0_i32_208 : BitVec 32 := 0#32
  let v330 : BitVec 1 := Scalar.cmpi .slt c8_i32_204 c0_i32_208
  let v331 : BitVec 32 := Scalar.extui v330
  let v332 : BitVec 32 := Scalar.subi v329 v331
  let v333 : BitVec 1 := Scalar.cmpi .ne v327 v332
  let v334 : BitVec 32 := Scalar.remsi v321 c8_i32_204
  let c0_i32_209 : BitVec 32 := 0#32
  let v335 : BitVec 1 := Scalar.cmpi .ne v334 c0_i32_209
  let v336 : BitVec 1 := Scalar.andi v333 v335
  let v322 : BitVec 32 := Scalar.divsi v321 c8_i32_204
  let c1_i32_210 : BitVec 32 := 1#32
  let v337 : BitVec 32 := Scalar.subi v322 c1_i32_210
  let v338 : BitVec 32 := Scalar.select v336 v337 v322
  let c8_i32_211 : BitVec 32 := 8#32
  let v339 : BitVec 32 := Scalar.muli v338 c8_i32_211
  let c184_i32_212 : BitVec 32 := 184#32
  let v340 : BitVec 32 := Scalar.minsi v339 c184_i32_212
  v340

def k0_off338 : Fin 2 → Nat :=
  let c12_i32_201 : BitVec 32 := 12#32
  let c4_i32_202 : BitVec 32 := 4#32
  let v320 : BitVec 32 := Scalar.remsi c12_i32_201 c4_i32_202
  let c11_i32_213 : BitVec 32 := 11#32
  ![v320.toNat, 11]
def k0_off339 (v321 : BitVec 32) : Fin 4 → Nat :=
  let c203_i32 : BitVec 32 := 203#32
  let c0_i32_214 : BitVec 32 := 0#32
  let c0_i32_205 : BitVec 32 := 0#32
  let v323 : BitVec 1 := Scalar.cmpi .sgt v321 c0_i32_205
  let v324 : BitVec 32 := Scalar.extui v323
  let c0_i32_206 : BitVec 32 := 0#32
  let v325 : BitVec 1 := Scalar.cmpi .slt v321 c0_i32_206
  let v326 : BitVec 32 := Scalar.extui v325
  let v327 : BitVec 32 := Scalar.subi v324 v326
  let c8_i32_204 : BitVec 32 := 8#32
  let c0_i32_207 : BitVec 32 := 0#32
  let v328 : BitVec 1 := Scalar.cmpi .sgt c8_i32_204 c0_i32_207
  let v329 : BitVec 32 := Scalar.extui v328
  let c0_i32_208 : BitVec 32 := 0#32
  let v330 : BitVec 1 := Scalar.cmpi .slt c8_i32_204 c0_i32_208
  let v331 : BitVec 32 := Scalar.extui v330
  let v332 : BitVec 32 := Scalar.subi v329 v331
  let v333 : BitVec 1 := Scalar.cmpi .ne v327 v332
  let v334 : BitVec 32 := Scalar.remsi v321 c8_i32_204
  let c0_i32_209 : BitVec 32 := 0#32
  let v335 : BitVec 1 := Scalar.cmpi .ne v334 c0_i32_209
  let v336 : BitVec 1 := Scalar.andi v333 v335
  let v322 : BitVec 32 := Scalar.divsi v321 c8_i32_204
  let c1_i32_210 : BitVec 32 := 1#32
  let v337 : BitVec 32 := Scalar.subi v322 c1_i32_210
  let v338 : BitVec 32 := Scalar.select v336 v337 v322
  let c8_i32_211 : BitVec 32 := 8#32
  let v339 : BitVec 32 := Scalar.muli v338 c8_i32_211
  let c184_i32_212 : BitVec 32 := 184#32
  let v340 : BitVec 32 := Scalar.minsi v339 c184_i32_212
  let v341 : BitVec 32 := v340
  let c0_i32_215 : BitVec 32 := 0#32
  ![203, 0, v341.toNat, 0]

def k0_chk92 (i : grid0.Coords) (v321 : BitVec 32) : Prop :=
  (∀ (k0_h4 : k0_cond4 i = 1#1), 8 ∣ (k0_mult92 v321).toNat) ∧
  (∀ (k0_h4 : k0_cond4 i = 1#1), ∀ a, (k0_off339 v321) a + S1x3x40x224.size a ≤ S256x3x224x224.size a)
theorem k0_mult92_dvd : ∀ (i : grid0.Coords) (v321 : BitVec 32) (k0_hw92 : k0_chk92 i v321), ∀ (k0_h4 : k0_cond4 i = 1#1), 8 ∣ (k0_mult92 v321).toNat := fun i v321 k0_hw92 k0_h4 => k0_hw92.1 k0_h4
theorem k0_off339_inb : ∀ (i : grid0.Coords) (v321 : BitVec 32) (k0_hw92 : k0_chk92 i v321), ∀ (k0_h4 : k0_cond4 i = 1#1), ∀ a, (k0_off339 v321) a + S1x3x40x224.size a ≤ S256x3x224x224.size a := fun i v321 k0_hw92 k0_h4 => k0_hw92.2 k0_h4

def k0_off340 : Fin 5 → Nat :=
  let c12_i32_201 : BitVec 32 := 12#32
  let c4_i32_202 : BitVec 32 := 4#32
  let v320 : BitVec 32 := Scalar.remsi c12_i32_201 c4_i32_202
  let c11_i32 : BitVec 32 := 11#32
  let c0_i32_216 : BitVec 32 := 0#32
  let c0_i32_217 : BitVec 32 := 0#32
  let c0_i32_218 : BitVec 32 := 0#32
  ![v320.toNat, 11, 0, 0, 0]
def k0_mult93 (v349 : BitVec 32) : BitVec 32 :=
  let c0_i32_223 : BitVec 32 := 0#32
  let v351 : BitVec 1 := Scalar.cmpi .sgt v349 c0_i32_223
  let v352 : BitVec 32 := Scalar.extui v351
  let c0_i32_224 : BitVec 32 := 0#32
  let v353 : BitVec 1 := Scalar.cmpi .slt v349 c0_i32_224
  let v354 : BitVec 32 := Scalar.extui v353
  let v355 : BitVec 32 := Scalar.subi v352 v354
  let c8_i32_222 : BitVec 32 := 8#32
  let c0_i32_225 : BitVec 32 := 0#32
  let v356 : BitVec 1 := Scalar.cmpi .sgt c8_i32_222 c0_i32_225
  let v357 : BitVec 32 := Scalar.extui v356
  let c0_i32_226 : BitVec 32 := 0#32
  let v358 : BitVec 1 := Scalar.cmpi .slt c8_i32_222 c0_i32_226
  let v359 : BitVec 32 := Scalar.extui v358
  let v360 : BitVec 32 := Scalar.subi v357 v359
  let v361 : BitVec 1 := Scalar.cmpi .ne v355 v360
  let v362 : BitVec 32 := Scalar.remsi v349 c8_i32_222
  let c0_i32_227 : BitVec 32 := 0#32
  let v363 : BitVec 1 := Scalar.cmpi .ne v362 c0_i32_227
  let v364 : BitVec 1 := Scalar.andi v361 v363
  let v350 : BitVec 32 := Scalar.divsi v349 c8_i32_222
  let c1_i32_228 : BitVec 32 := 1#32
  let v365 : BitVec 32 := Scalar.subi v350 c1_i32_228
  let v366 : BitVec 32 := Scalar.select v364 v365 v350
  let c8_i32_229 : BitVec 32 := 8#32
  let v367 : BitVec 32 := Scalar.muli v366 c8_i32_229
  let c184_i32_230 : BitVec 32 := 184#32
  let v368 : BitVec 32 := Scalar.minsi v367 c184_i32_230
  v368

def k0_off341 : Fin 2 → Nat :=
  let c12_i32_219 : BitVec 32 := 12#32
  let c4_i32_220 : BitVec 32 := 4#32
  let v348 : BitVec 32 := Scalar.remsi c12_i32_219 c4_i32_220
  let c12_i32_232 : BitVec 32 := 12#32
  ![v348.toNat, 12]
def k0_off342 (v349 : BitVec 32) : Fin 4 → Nat :=
  let c204_i32 : BitVec 32 := 204#32
  let c0_i32_233 : BitVec 32 := 0#32
  let c0_i32_223 : BitVec 32 := 0#32
  let v351 : BitVec 1 := Scalar.cmpi .sgt v349 c0_i32_223
  let v352 : BitVec 32 := Scalar.extui v351
  let c0_i32_224 : BitVec 32 := 0#32
  let v353 : BitVec 1 := Scalar.cmpi .slt v349 c0_i32_224
  let v354 : BitVec 32 := Scalar.extui v353
  let v355 : BitVec 32 := Scalar.subi v352 v354
  let c8_i32_222 : BitVec 32 := 8#32
  let c0_i32_225 : BitVec 32 := 0#32
  let v356 : BitVec 1 := Scalar.cmpi .sgt c8_i32_222 c0_i32_225
  let v357 : BitVec 32 := Scalar.extui v356
  let c0_i32_226 : BitVec 32 := 0#32
  let v358 : BitVec 1 := Scalar.cmpi .slt c8_i32_222 c0_i32_226
  let v359 : BitVec 32 := Scalar.extui v358
  let v360 : BitVec 32 := Scalar.subi v357 v359
  let v361 : BitVec 1 := Scalar.cmpi .ne v355 v360
  let v362 : BitVec 32 := Scalar.remsi v349 c8_i32_222
  let c0_i32_227 : BitVec 32 := 0#32
  let v363 : BitVec 1 := Scalar.cmpi .ne v362 c0_i32_227
  let v364 : BitVec 1 := Scalar.andi v361 v363
  let v350 : BitVec 32 := Scalar.divsi v349 c8_i32_222
  let c1_i32_228 : BitVec 32 := 1#32
  let v365 : BitVec 32 := Scalar.subi v350 c1_i32_228
  let v366 : BitVec 32 := Scalar.select v364 v365 v350
  let c8_i32_229 : BitVec 32 := 8#32
  let v367 : BitVec 32 := Scalar.muli v366 c8_i32_229
  let c184_i32_230 : BitVec 32 := 184#32
  let v368 : BitVec 32 := Scalar.minsi v367 c184_i32_230
  let v369 : BitVec 32 := v368
  let c0_i32_234 : BitVec 32 := 0#32
  ![204, 0, v369.toNat, 0]

def k0_chk93 (i : grid0.Coords) (v349 : BitVec 32) : Prop :=
  (∀ (k0_h4 : k0_cond4 i = 1#1), 8 ∣ (k0_mult93 v349).toNat) ∧
  (∀ (k0_h4 : k0_cond4 i = 1#1), ∀ a, (k0_off342 v349) a + S1x3x40x224.size a ≤ S256x3x224x224.size a)
theorem k0_mult93_dvd : ∀ (i : grid0.Coords) (v349 : BitVec 32) (k0_hw93 : k0_chk93 i v349), ∀ (k0_h4 : k0_cond4 i = 1#1), 8 ∣ (k0_mult93 v349).toNat := fun i v349 k0_hw93 k0_h4 => k0_hw93.1 k0_h4
theorem k0_off342_inb : ∀ (i : grid0.Coords) (v349 : BitVec 32) (k0_hw93 : k0_chk93 i v349), ∀ (k0_h4 : k0_cond4 i = 1#1), ∀ a, (k0_off342 v349) a + S1x3x40x224.size a ≤ S256x3x224x224.size a := fun i v349 k0_hw93 k0_h4 => k0_hw93.2 k0_h4

def k0_off343 : Fin 5 → Nat :=
  let c12_i32_219 : BitVec 32 := 12#32
  let c4_i32_220 : BitVec 32 := 4#32
  let v348 : BitVec 32 := Scalar.remsi c12_i32_219 c4_i32_220
  let c12_i32_231 : BitVec 32 := 12#32
  let c0_i32_235 : BitVec 32 := 0#32
  let c0_i32_236 : BitVec 32 := 0#32
  let c0_i32_237 : BitVec 32 := 0#32
  ![v348.toNat, 12, 0, 0, 0]
def k0_mult94 (v377 : BitVec 32) : BitVec 32 :=
  let c0_i32_242 : BitVec 32 := 0#32
  let v379 : BitVec 1 := Scalar.cmpi .sgt v377 c0_i32_242
  let v380 : BitVec 32 := Scalar.extui v379
  let c0_i32_243 : BitVec 32 := 0#32
  let v381 : BitVec 1 := Scalar.cmpi .slt v377 c0_i32_243
  let v382 : BitVec 32 := Scalar.extui v381
  let v383 : BitVec 32 := Scalar.subi v380 v382
  let c8_i32_241 : BitVec 32 := 8#32
  let c0_i32_244 : BitVec 32 := 0#32
  let v384 : BitVec 1 := Scalar.cmpi .sgt c8_i32_241 c0_i32_244
  let v385 : BitVec 32 := Scalar.extui v384
  let c0_i32_245 : BitVec 32 := 0#32
  let v386 : BitVec 1 := Scalar.cmpi .slt c8_i32_241 c0_i32_245
  let v387 : BitVec 32 := Scalar.extui v386
  let v388 : BitVec 32 := Scalar.subi v385 v387
  let v389 : BitVec 1 := Scalar.cmpi .ne v383 v388
  let v390 : BitVec 32 := Scalar.remsi v377 c8_i32_241
  let c0_i32_246 : BitVec 32 := 0#32
  let v391 : BitVec 1 := Scalar.cmpi .ne v390 c0_i32_246
  let v392 : BitVec 1 := Scalar.andi v389 v391
  let v378 : BitVec 32 := Scalar.divsi v377 c8_i32_241
  let c1_i32_247 : BitVec 32 := 1#32
  let v393 : BitVec 32 := Scalar.subi v378 c1_i32_247
  let v394 : BitVec 32 := Scalar.select v392 v393 v378
  let c8_i32_248 : BitVec 32 := 8#32
  let v395 : BitVec 32 := Scalar.muli v394 c8_i32_248
  let c184_i32_249 : BitVec 32 := 184#32
  let v396 : BitVec 32 := Scalar.minsi v395 c184_i32_249
  v396

def k0_off344 : Fin 2 → Nat :=
  let c12_i32_238 : BitVec 32 := 12#32
  let c4_i32_239 : BitVec 32 := 4#32
  let v376 : BitVec 32 := Scalar.remsi c12_i32_238 c4_i32_239
  let c13_i32_250 : BitVec 32 := 13#32
  ![v376.toNat, 13]
def k0_off345 (v377 : BitVec 32) : Fin 4 → Nat :=
  let c205_i32 : BitVec 32 := 205#32
  let c0_i32_251 : BitVec 32 := 0#32
  let c0_i32_242 : BitVec 32 := 0#32
  let v379 : BitVec 1 := Scalar.cmpi .sgt v377 c0_i32_242
  let v380 : BitVec 32 := Scalar.extui v379
  let c0_i32_243 : BitVec 32 := 0#32
  let v381 : BitVec 1 := Scalar.cmpi .slt v377 c0_i32_243
  let v382 : BitVec 32 := Scalar.extui v381
  let v383 : BitVec 32 := Scalar.subi v380 v382
  let c8_i32_241 : BitVec 32 := 8#32
  let c0_i32_244 : BitVec 32 := 0#32
  let v384 : BitVec 1 := Scalar.cmpi .sgt c8_i32_241 c0_i32_244
  let v385 : BitVec 32 := Scalar.extui v384
  let c0_i32_245 : BitVec 32 := 0#32
  let v386 : BitVec 1 := Scalar.cmpi .slt c8_i32_241 c0_i32_245
  let v387 : BitVec 32 := Scalar.extui v386
  let v388 : BitVec 32 := Scalar.subi v385 v387
  let v389 : BitVec 1 := Scalar.cmpi .ne v383 v388
  let v390 : BitVec 32 := Scalar.remsi v377 c8_i32_241
  let c0_i32_246 : BitVec 32 := 0#32
  let v391 : BitVec 1 := Scalar.cmpi .ne v390 c0_i32_246
  let v392 : BitVec 1 := Scalar.andi v389 v391
  let v378 : BitVec 32 := Scalar.divsi v377 c8_i32_241
  let c1_i32_247 : BitVec 32 := 1#32
  let v393 : BitVec 32 := Scalar.subi v378 c1_i32_247
  let v394 : BitVec 32 := Scalar.select v392 v393 v378
  let c8_i32_248 : BitVec 32 := 8#32
  let v395 : BitVec 32 := Scalar.muli v394 c8_i32_248
  let c184_i32_249 : BitVec 32 := 184#32
  let v396 : BitVec 32 := Scalar.minsi v395 c184_i32_249
  let v397 : BitVec 32 := v396
  let c0_i32_252 : BitVec 32 := 0#32
  ![205, 0, v397.toNat, 0]

def k0_chk94 (i : grid0.Coords) (v377 : BitVec 32) : Prop :=
  (∀ (k0_h4 : k0_cond4 i = 1#1), 8 ∣ (k0_mult94 v377).toNat) ∧
  (∀ (k0_h4 : k0_cond4 i = 1#1), ∀ a, (k0_off345 v377) a + S1x3x40x224.size a ≤ S256x3x224x224.size a)
theorem k0_mult94_dvd : ∀ (i : grid0.Coords) (v377 : BitVec 32) (k0_hw94 : k0_chk94 i v377), ∀ (k0_h4 : k0_cond4 i = 1#1), 8 ∣ (k0_mult94 v377).toNat := fun i v377 k0_hw94 k0_h4 => k0_hw94.1 k0_h4
theorem k0_off345_inb : ∀ (i : grid0.Coords) (v377 : BitVec 32) (k0_hw94 : k0_chk94 i v377), ∀ (k0_h4 : k0_cond4 i = 1#1), ∀ a, (k0_off345 v377) a + S1x3x40x224.size a ≤ S256x3x224x224.size a := fun i v377 k0_hw94 k0_h4 => k0_hw94.2 k0_h4

def k0_off346 : Fin 5 → Nat :=
  let c12_i32_238 : BitVec 32 := 12#32
  let c4_i32_239 : BitVec 32 := 4#32
  let v376 : BitVec 32 := Scalar.remsi c12_i32_238 c4_i32_239
  let c13_i32 : BitVec 32 := 13#32
  let c0_i32_253 : BitVec 32 := 0#32
  let c0_i32_254 : BitVec 32 := 0#32
  let c0_i32_255 : BitVec 32 := 0#32
  ![v376.toNat, 13, 0, 0, 0]
def k0_mult95 (v405 : BitVec 32) : BitVec 32 :=
  let c0_i32_260 : BitVec 32 := 0#32
  let v407 : BitVec 1 := Scalar.cmpi .sgt v405 c0_i32_260
  let v408 : BitVec 32 := Scalar.extui v407
  let c0_i32_261 : BitVec 32 := 0#32
  let v409 : BitVec 1 := Scalar.cmpi .slt v405 c0_i32_261
  let v410 : BitVec 32 := Scalar.extui v409
  let v411 : BitVec 32 := Scalar.subi v408 v410
  let c8_i32_259 : BitVec 32 := 8#32
  let c0_i32_262 : BitVec 32 := 0#32
  let v412 : BitVec 1 := Scalar.cmpi .sgt c8_i32_259 c0_i32_262
  let v413 : BitVec 32 := Scalar.extui v412
  let c0_i32_263 : BitVec 32 := 0#32
  let v414 : BitVec 1 := Scalar.cmpi .slt c8_i32_259 c0_i32_263
  let v415 : BitVec 32 := Scalar.extui v414
  let v416 : BitVec 32 := Scalar.subi v413 v415
  let v417 : BitVec 1 := Scalar.cmpi .ne v411 v416
  let v418 : BitVec 32 := Scalar.remsi v405 c8_i32_259
  let c0_i32_264 : BitVec 32 := 0#32
  let v419 : BitVec 1 := Scalar.cmpi .ne v418 c0_i32_264
  let v420 : BitVec 1 := Scalar.andi v417 v419
  let v406 : BitVec 32 := Scalar.divsi v405 c8_i32_259
  let c1_i32_265 : BitVec 32 := 1#32
  let v421 : BitVec 32 := Scalar.subi v406 c1_i32_265
  let v422 : BitVec 32 := Scalar.select v420 v421 v406
  let c8_i32_266 : BitVec 32 := 8#32
  let v423 : BitVec 32 := Scalar.muli v422 c8_i32_266
  let c184_i32_267 : BitVec 32 := 184#32
  let v424 : BitVec 32 := Scalar.minsi v423 c184_i32_267
  v424

def k0_off347 : Fin 2 → Nat :=
  let c12_i32_256 : BitVec 32 := 12#32
  let c4_i32_257 : BitVec 32 := 4#32
  let v404 : BitVec 32 := Scalar.remsi c12_i32_256 c4_i32_257
  let c14_i32_268 : BitVec 32 := 14#32
  ![v404.toNat, 14]
def k0_off348 (v405 : BitVec 32) : Fin 4 → Nat :=
  let c206_i32 : BitVec 32 := 206#32
  let c0_i32_269 : BitVec 32 := 0#32
  let c0_i32_260 : BitVec 32 := 0#32
  let v407 : BitVec 1 := Scalar.cmpi .sgt v405 c0_i32_260
  let v408 : BitVec 32 := Scalar.extui v407
  let c0_i32_261 : BitVec 32 := 0#32
  let v409 : BitVec 1 := Scalar.cmpi .slt v405 c0_i32_261
  let v410 : BitVec 32 := Scalar.extui v409
  let v411 : BitVec 32 := Scalar.subi v408 v410
  let c8_i32_259 : BitVec 32 := 8#32
  let c0_i32_262 : BitVec 32 := 0#32
  let v412 : BitVec 1 := Scalar.cmpi .sgt c8_i32_259 c0_i32_262
  let v413 : BitVec 32 := Scalar.extui v412
  let c0_i32_263 : BitVec 32 := 0#32
  let v414 : BitVec 1 := Scalar.cmpi .slt c8_i32_259 c0_i32_263
  let v415 : BitVec 32 := Scalar.extui v414
  let v416 : BitVec 32 := Scalar.subi v413 v415
  let v417 : BitVec 1 := Scalar.cmpi .ne v411 v416
  let v418 : BitVec 32 := Scalar.remsi v405 c8_i32_259
  let c0_i32_264 : BitVec 32 := 0#32
  let v419 : BitVec 1 := Scalar.cmpi .ne v418 c0_i32_264
  let v420 : BitVec 1 := Scalar.andi v417 v419
  let v406 : BitVec 32 := Scalar.divsi v405 c8_i32_259
  let c1_i32_265 : BitVec 32 := 1#32
  let v421 : BitVec 32 := Scalar.subi v406 c1_i32_265
  let v422 : BitVec 32 := Scalar.select v420 v421 v406
  let c8_i32_266 : BitVec 32 := 8#32
  let v423 : BitVec 32 := Scalar.muli v422 c8_i32_266
  let c184_i32_267 : BitVec 32 := 184#32
  let v424 : BitVec 32 := Scalar.minsi v423 c184_i32_267
  let v425 : BitVec 32 := v424
  let c0_i32_270 : BitVec 32 := 0#32
  ![206, 0, v425.toNat, 0]

def k0_chk95 (i : grid0.Coords) (v405 : BitVec 32) : Prop :=
  (∀ (k0_h4 : k0_cond4 i = 1#1), 8 ∣ (k0_mult95 v405).toNat) ∧
  (∀ (k0_h4 : k0_cond4 i = 1#1), ∀ a, (k0_off348 v405) a + S1x3x40x224.size a ≤ S256x3x224x224.size a)
theorem k0_mult95_dvd : ∀ (i : grid0.Coords) (v405 : BitVec 32) (k0_hw95 : k0_chk95 i v405), ∀ (k0_h4 : k0_cond4 i = 1#1), 8 ∣ (k0_mult95 v405).toNat := fun i v405 k0_hw95 k0_h4 => k0_hw95.1 k0_h4
theorem k0_off348_inb : ∀ (i : grid0.Coords) (v405 : BitVec 32) (k0_hw95 : k0_chk95 i v405), ∀ (k0_h4 : k0_cond4 i = 1#1), ∀ a, (k0_off348 v405) a + S1x3x40x224.size a ≤ S256x3x224x224.size a := fun i v405 k0_hw95 k0_h4 => k0_hw95.2 k0_h4

def k0_off349 : Fin 5 → Nat :=
  let c12_i32_256 : BitVec 32 := 12#32
  let c4_i32_257 : BitVec 32 := 4#32
  let v404 : BitVec 32 := Scalar.remsi c12_i32_256 c4_i32_257
  let c14_i32 : BitVec 32 := 14#32
  let c0_i32_271 : BitVec 32 := 0#32
  let c0_i32_272 : BitVec 32 := 0#32
  let c0_i32_273 : BitVec 32 := 0#32
  ![v404.toNat, 14, 0, 0, 0]
def k0_mult96 (v433 : BitVec 32) : BitVec 32 :=
  let c0_i32_278 : BitVec 32 := 0#32
  let v435 : BitVec 1 := Scalar.cmpi .sgt v433 c0_i32_278
  let v436 : BitVec 32 := Scalar.extui v435
  let c0_i32_279 : BitVec 32 := 0#32
  let v437 : BitVec 1 := Scalar.cmpi .slt v433 c0_i32_279
  let v438 : BitVec 32 := Scalar.extui v437
  let v439 : BitVec 32 := Scalar.subi v436 v438
  let c8_i32_277 : BitVec 32 := 8#32
  let c0_i32_280 : BitVec 32 := 0#32
  let v440 : BitVec 1 := Scalar.cmpi .sgt c8_i32_277 c0_i32_280
  let v441 : BitVec 32 := Scalar.extui v440
  let c0_i32_281 : BitVec 32 := 0#32
  let v442 : BitVec 1 := Scalar.cmpi .slt c8_i32_277 c0_i32_281
  let v443 : BitVec 32 := Scalar.extui v442
  let v444 : BitVec 32 := Scalar.subi v441 v443
  let v445 : BitVec 1 := Scalar.cmpi .ne v439 v444
  let v446 : BitVec 32 := Scalar.remsi v433 c8_i32_277
  let c0_i32_282 : BitVec 32 := 0#32
  let v447 : BitVec 1 := Scalar.cmpi .ne v446 c0_i32_282
  let v448 : BitVec 1 := Scalar.andi v445 v447
  let v434 : BitVec 32 := Scalar.divsi v433 c8_i32_277
  let c1_i32_283 : BitVec 32 := 1#32
  let v449 : BitVec 32 := Scalar.subi v434 c1_i32_283
  let v450 : BitVec 32 := Scalar.select v448 v449 v434
  let c8_i32_284 : BitVec 32 := 8#32
  let v451 : BitVec 32 := Scalar.muli v450 c8_i32_284
  let c184_i32_285 : BitVec 32 := 184#32
  let v452 : BitVec 32 := Scalar.minsi v451 c184_i32_285
  v452

def k0_off350 : Fin 2 → Nat :=
  let c12_i32_274 : BitVec 32 := 12#32
  let c4_i32_275 : BitVec 32 := 4#32
  let v432 : BitVec 32 := Scalar.remsi c12_i32_274 c4_i32_275
  let c15_i32_286 : BitVec 32 := 15#32
  ![v432.toNat, 15]
def k0_off351 (v433 : BitVec 32) : Fin 4 → Nat :=
  let c207_i32 : BitVec 32 := 207#32
  let c0_i32_287 : BitVec 32 := 0#32
  let c0_i32_278 : BitVec 32 := 0#32
  let v435 : BitVec 1 := Scalar.cmpi .sgt v433 c0_i32_278
  let v436 : BitVec 32 := Scalar.extui v435
  let c0_i32_279 : BitVec 32 := 0#32
  let v437 : BitVec 1 := Scalar.cmpi .slt v433 c0_i32_279
  let v438 : BitVec 32 := Scalar.extui v437
  let v439 : BitVec 32 := Scalar.subi v436 v438
  let c8_i32_277 : BitVec 32 := 8#32
  let c0_i32_280 : BitVec 32 := 0#32
  let v440 : BitVec 1 := Scalar.cmpi .sgt c8_i32_277 c0_i32_280
  let v441 : BitVec 32 := Scalar.extui v440
  let c0_i32_281 : BitVec 32 := 0#32
  let v442 : BitVec 1 := Scalar.cmpi .slt c8_i32_277 c0_i32_281
  let v443 : BitVec 32 := Scalar.extui v442
  let v444 : BitVec 32 := Scalar.subi v441 v443
  let v445 : BitVec 1 := Scalar.cmpi .ne v439 v444
  let v446 : BitVec 32 := Scalar.remsi v433 c8_i32_277
  let c0_i32_282 : BitVec 32 := 0#32
  let v447 : BitVec 1 := Scalar.cmpi .ne v446 c0_i32_282
  let v448 : BitVec 1 := Scalar.andi v445 v447
  let v434 : BitVec 32 := Scalar.divsi v433 c8_i32_277
  let c1_i32_283 : BitVec 32 := 1#32
  let v449 : BitVec 32 := Scalar.subi v434 c1_i32_283
  let v450 : BitVec 32 := Scalar.select v448 v449 v434
  let c8_i32_284 : BitVec 32 := 8#32
  let v451 : BitVec 32 := Scalar.muli v450 c8_i32_284
  let c184_i32_285 : BitVec 32 := 184#32
  let v452 : BitVec 32 := Scalar.minsi v451 c184_i32_285
  let v453 : BitVec 32 := v452
  let c0_i32_288 : BitVec 32 := 0#32
  ![207, 0, v453.toNat, 0]

def k0_chk96 (i : grid0.Coords) (v433 : BitVec 32) : Prop :=
  (∀ (k0_h4 : k0_cond4 i = 1#1), 8 ∣ (k0_mult96 v433).toNat) ∧
  (∀ (k0_h4 : k0_cond4 i = 1#1), ∀ a, (k0_off351 v433) a + S1x3x40x224.size a ≤ S256x3x224x224.size a)
theorem k0_mult96_dvd : ∀ (i : grid0.Coords) (v433 : BitVec 32) (k0_hw96 : k0_chk96 i v433), ∀ (k0_h4 : k0_cond4 i = 1#1), 8 ∣ (k0_mult96 v433).toNat := fun i v433 k0_hw96 k0_h4 => k0_hw96.1 k0_h4
theorem k0_off351_inb : ∀ (i : grid0.Coords) (v433 : BitVec 32) (k0_hw96 : k0_chk96 i v433), ∀ (k0_h4 : k0_cond4 i = 1#1), ∀ a, (k0_off351 v433) a + S1x3x40x224.size a ≤ S256x3x224x224.size a := fun i v433 k0_hw96 k0_h4 => k0_hw96.2 k0_h4

def k0_off352 : Fin 5 → Nat :=
  let c12_i32_274 : BitVec 32 := 12#32
  let c4_i32_275 : BitVec 32 := 4#32
  let v432 : BitVec 32 := Scalar.remsi c12_i32_274 c4_i32_275
  let c15_i32 : BitVec 32 := 15#32
  let c0_i32_289 : BitVec 32 := 0#32
  let c0_i32_290 : BitVec 32 := 0#32
  let c0_i32_291 : BitVec 32 := 0#32
  ![v432.toNat, 15, 0, 0, 0]
def k0_mult97 (v461 : BitVec 32) : BitVec 32 :=
  let c0_i32_296 : BitVec 32 := 0#32
  let v463 : BitVec 1 := Scalar.cmpi .sgt v461 c0_i32_296
  let v464 : BitVec 32 := Scalar.extui v463
  let c0_i32_297 : BitVec 32 := 0#32
  let v465 : BitVec 1 := Scalar.cmpi .slt v461 c0_i32_297
  let v466 : BitVec 32 := Scalar.extui v465
  let v467 : BitVec 32 := Scalar.subi v464 v466
  let c8_i32_295 : BitVec 32 := 8#32
  let c0_i32_298 : BitVec 32 := 0#32
  let v468 : BitVec 1 := Scalar.cmpi .sgt c8_i32_295 c0_i32_298
  let v469 : BitVec 32 := Scalar.extui v468
  let c0_i32_299 : BitVec 32 := 0#32
  let v470 : BitVec 1 := Scalar.cmpi .slt c8_i32_295 c0_i32_299
  let v471 : BitVec 32 := Scalar.extui v470
  let v472 : BitVec 32 := Scalar.subi v469 v471
  let v473 : BitVec 1 := Scalar.cmpi .ne v467 v472
  let v474 : BitVec 32 := Scalar.remsi v461 c8_i32_295
  let c0_i32_300 : BitVec 32 := 0#32
  let v475 : BitVec 1 := Scalar.cmpi .ne v474 c0_i32_300
  let v476 : BitVec 1 := Scalar.andi v473 v475
  let v462 : BitVec 32 := Scalar.divsi v461 c8_i32_295
  let c1_i32_301 : BitVec 32 := 1#32
  let v477 : BitVec 32 := Scalar.subi v462 c1_i32_301
  let v478 : BitVec 32 := Scalar.select v476 v477 v462
  let c8_i32_302 : BitVec 32 := 8#32
  let v479 : BitVec 32 := Scalar.muli v478 c8_i32_302
  let c184_i32_303 : BitVec 32 := 184#32
  let v480 : BitVec 32 := Scalar.minsi v479 c184_i32_303
  v480

def k0_off353 : Fin 2 → Nat :=
  let c13_i32_292 : BitVec 32 := 13#32
  let c4_i32_293 : BitVec 32 := 4#32
  let v460 : BitVec 32 := Scalar.remsi c13_i32_292 c4_i32_293
  let c0_i32_305 : BitVec 32 := 0#32
  ![v460.toNat, 0]
def k0_off354 (v461 : BitVec 32) : Fin 4 → Nat :=
  let c208_i32 : BitVec 32 := 208#32
  let c0_i32_306 : BitVec 32 := 0#32
  let c0_i32_296 : BitVec 32 := 0#32
  let v463 : BitVec 1 := Scalar.cmpi .sgt v461 c0_i32_296
  let v464 : BitVec 32 := Scalar.extui v463
  let c0_i32_297 : BitVec 32 := 0#32
  let v465 : BitVec 1 := Scalar.cmpi .slt v461 c0_i32_297
  let v466 : BitVec 32 := Scalar.extui v465
  let v467 : BitVec 32 := Scalar.subi v464 v466
  let c8_i32_295 : BitVec 32 := 8#32
  let c0_i32_298 : BitVec 32 := 0#32
  let v468 : BitVec 1 := Scalar.cmpi .sgt c8_i32_295 c0_i32_298
  let v469 : BitVec 32 := Scalar.extui v468
  let c0_i32_299 : BitVec 32 := 0#32
  let v470 : BitVec 1 := Scalar.cmpi .slt c8_i32_295 c0_i32_299
  let v471 : BitVec 32 := Scalar.extui v470
  let v472 : BitVec 32 := Scalar.subi v469 v471
  let v473 : BitVec 1 := Scalar.cmpi .ne v467 v472
  let v474 : BitVec 32 := Scalar.remsi v461 c8_i32_295
  let c0_i32_300 : BitVec 32 := 0#32
  let v475 : BitVec 1 := Scalar.cmpi .ne v474 c0_i32_300
  let v476 : BitVec 1 := Scalar.andi v473 v475
  let v462 : BitVec 32 := Scalar.divsi v461 c8_i32_295
  let c1_i32_301 : BitVec 32 := 1#32
  let v477 : BitVec 32 := Scalar.subi v462 c1_i32_301
  let v478 : BitVec 32 := Scalar.select v476 v477 v462
  let c8_i32_302 : BitVec 32 := 8#32
  let v479 : BitVec 32 := Scalar.muli v478 c8_i32_302
  let c184_i32_303 : BitVec 32 := 184#32
  let v480 : BitVec 32 := Scalar.minsi v479 c184_i32_303
  let v481 : BitVec 32 := v480
  let c0_i32_307 : BitVec 32 := 0#32
  ![208, 0, v481.toNat, 0]

def k0_chk97 (i : grid0.Coords) (v461 : BitVec 32) : Prop :=
  (∀ (k0_h4 : k0_cond4 i = 1#1), 8 ∣ (k0_mult97 v461).toNat) ∧
  (∀ (k0_h4 : k0_cond4 i = 1#1), ∀ a, (k0_off354 v461) a + S1x3x40x224.size a ≤ S256x3x224x224.size a)
theorem k0_mult97_dvd : ∀ (i : grid0.Coords) (v461 : BitVec 32) (k0_hw97 : k0_chk97 i v461), ∀ (k0_h4 : k0_cond4 i = 1#1), 8 ∣ (k0_mult97 v461).toNat := fun i v461 k0_hw97 k0_h4 => k0_hw97.1 k0_h4
theorem k0_off354_inb : ∀ (i : grid0.Coords) (v461 : BitVec 32) (k0_hw97 : k0_chk97 i v461), ∀ (k0_h4 : k0_cond4 i = 1#1), ∀ a, (k0_off354 v461) a + S1x3x40x224.size a ≤ S256x3x224x224.size a := fun i v461 k0_hw97 k0_h4 => k0_hw97.2 k0_h4

def k0_off355 : Fin 5 → Nat :=
  let c13_i32_292 : BitVec 32 := 13#32
  let c4_i32_293 : BitVec 32 := 4#32
  let v460 : BitVec 32 := Scalar.remsi c13_i32_292 c4_i32_293
  let c0_i32_304 : BitVec 32 := 0#32
  let c0_i32_308 : BitVec 32 := 0#32
  let c0_i32_309 : BitVec 32 := 0#32
  let c0_i32_310 : BitVec 32 := 0#32
  ![v460.toNat, 0, 0, 0, 0]
def k0_mult98 (v489 : BitVec 32) : BitVec 32 :=
  let c0_i32_315 : BitVec 32 := 0#32
  let v491 : BitVec 1 := Scalar.cmpi .sgt v489 c0_i32_315
  let v492 : BitVec 32 := Scalar.extui v491
  let c0_i32_316 : BitVec 32 := 0#32
  let v493 : BitVec 1 := Scalar.cmpi .slt v489 c0_i32_316
  let v494 : BitVec 32 := Scalar.extui v493
  let v495 : BitVec 32 := Scalar.subi v492 v494
  let c8_i32_314 : BitVec 32 := 8#32
  let c0_i32_317 : BitVec 32 := 0#32
  let v496 : BitVec 1 := Scalar.cmpi .sgt c8_i32_314 c0_i32_317
  let v497 : BitVec 32 := Scalar.extui v496
  let c0_i32_318 : BitVec 32 := 0#32
  let v498 : BitVec 1 := Scalar.cmpi .slt c8_i32_314 c0_i32_318
  let v499 : BitVec 32 := Scalar.extui v498
  let v500 : BitVec 32 := Scalar.subi v497 v499
  let v501 : BitVec 1 := Scalar.cmpi .ne v495 v500
  let v502 : BitVec 32 := Scalar.remsi v489 c8_i32_314
  let c0_i32_319 : BitVec 32 := 0#32
  let v503 : BitVec 1 := Scalar.cmpi .ne v502 c0_i32_319
  let v504 : BitVec 1 := Scalar.andi v501 v503
  let v490 : BitVec 32 := Scalar.divsi v489 c8_i32_314
  let c1_i32_320 : BitVec 32 := 1#32
  let v505 : BitVec 32 := Scalar.subi v490 c1_i32_320
  let v506 : BitVec 32 := Scalar.select v504 v505 v490
  let c8_i32_321 : BitVec 32 := 8#32
  let v507 : BitVec 32 := Scalar.muli v506 c8_i32_321
  let c184_i32_322 : BitVec 32 := 184#32
  let v508 : BitVec 32 := Scalar.minsi v507 c184_i32_322
  v508

def k0_off356 : Fin 2 → Nat :=
  let c13_i32_311 : BitVec 32 := 13#32
  let c4_i32_312 : BitVec 32 := 4#32
  let v488 : BitVec 32 := Scalar.remsi c13_i32_311 c4_i32_312
  let c1_i32_324 : BitVec 32 := 1#32
  ![v488.toNat, 1]
def k0_off357 (v489 : BitVec 32) : Fin 4 → Nat :=
  let c209_i32 : BitVec 32 := 209#32
  let c0_i32_325 : BitVec 32 := 0#32
  let c0_i32_315 : BitVec 32 := 0#32
  let v491 : BitVec 1 := Scalar.cmpi .sgt v489 c0_i32_315
  let v492 : BitVec 32 := Scalar.extui v491
  let c0_i32_316 : BitVec 32 := 0#32
  let v493 : BitVec 1 := Scalar.cmpi .slt v489 c0_i32_316
  let v494 : BitVec 32 := Scalar.extui v493
  let v495 : BitVec 32 := Scalar.subi v492 v494
  let c8_i32_314 : BitVec 32 := 8#32
  let c0_i32_317 : BitVec 32 := 0#32
  let v496 : BitVec 1 := Scalar.cmpi .sgt c8_i32_314 c0_i32_317
  let v497 : BitVec 32 := Scalar.extui v496
  let c0_i32_318 : BitVec 32 := 0#32
  let v498 : BitVec 1 := Scalar.cmpi .slt c8_i32_314 c0_i32_318
  let v499 : BitVec 32 := Scalar.extui v498
  let v500 : BitVec 32 := Scalar.subi v497 v499
  let v501 : BitVec 1 := Scalar.cmpi .ne v495 v500
  let v502 : BitVec 32 := Scalar.remsi v489 c8_i32_314
  let c0_i32_319 : BitVec 32 := 0#32
  let v503 : BitVec 1 := Scalar.cmpi .ne v502 c0_i32_319
  let v504 : BitVec 1 := Scalar.andi v501 v503
  let v490 : BitVec 32 := Scalar.divsi v489 c8_i32_314
  let c1_i32_320 : BitVec 32 := 1#32
  let v505 : BitVec 32 := Scalar.subi v490 c1_i32_320
  let v506 : BitVec 32 := Scalar.select v504 v505 v490
  let c8_i32_321 : BitVec 32 := 8#32
  let v507 : BitVec 32 := Scalar.muli v506 c8_i32_321
  let c184_i32_322 : BitVec 32 := 184#32
  let v508 : BitVec 32 := Scalar.minsi v507 c184_i32_322
  let v509 : BitVec 32 := v508
  let c0_i32_326 : BitVec 32 := 0#32
  ![209, 0, v509.toNat, 0]

def k0_chk98 (i : grid0.Coords) (v489 : BitVec 32) : Prop :=
  (∀ (k0_h4 : k0_cond4 i = 1#1), 8 ∣ (k0_mult98 v489).toNat) ∧
  (∀ (k0_h4 : k0_cond4 i = 1#1), ∀ a, (k0_off357 v489) a + S1x3x40x224.size a ≤ S256x3x224x224.size a)
theorem k0_mult98_dvd : ∀ (i : grid0.Coords) (v489 : BitVec 32) (k0_hw98 : k0_chk98 i v489), ∀ (k0_h4 : k0_cond4 i = 1#1), 8 ∣ (k0_mult98 v489).toNat := fun i v489 k0_hw98 k0_h4 => k0_hw98.1 k0_h4
theorem k0_off357_inb : ∀ (i : grid0.Coords) (v489 : BitVec 32) (k0_hw98 : k0_chk98 i v489), ∀ (k0_h4 : k0_cond4 i = 1#1), ∀ a, (k0_off357 v489) a + S1x3x40x224.size a ≤ S256x3x224x224.size a := fun i v489 k0_hw98 k0_h4 => k0_hw98.2 k0_h4

def k0_off358 : Fin 5 → Nat :=
  let c13_i32_311 : BitVec 32 := 13#32
  let c4_i32_312 : BitVec 32 := 4#32
  let v488 : BitVec 32 := Scalar.remsi c13_i32_311 c4_i32_312
  let c1_i32_323 : BitVec 32 := 1#32
  let c0_i32_327 : BitVec 32 := 0#32
  let c0_i32_328 : BitVec 32 := 0#32
  let c0_i32_329 : BitVec 32 := 0#32
  ![v488.toNat, 1, 0, 0, 0]
def k0_mult99 (v517 : BitVec 32) : BitVec 32 :=
  let c0_i32_334 : BitVec 32 := 0#32
  let v519 : BitVec 1 := Scalar.cmpi .sgt v517 c0_i32_334
  let v520 : BitVec 32 := Scalar.extui v519
  let c0_i32_335 : BitVec 32 := 0#32
  let v521 : BitVec 1 := Scalar.cmpi .slt v517 c0_i32_335
  let v522 : BitVec 32 := Scalar.extui v521
  let v523 : BitVec 32 := Scalar.subi v520 v522
  let c8_i32_333 : BitVec 32 := 8#32
  let c0_i32_336 : BitVec 32 := 0#32
  let v524 : BitVec 1 := Scalar.cmpi .sgt c8_i32_333 c0_i32_336
  let v525 : BitVec 32 := Scalar.extui v524
  let c0_i32_337 : BitVec 32 := 0#32
  let v526 : BitVec 1 := Scalar.cmpi .slt c8_i32_333 c0_i32_337
  let v527 : BitVec 32 := Scalar.extui v526
  let v528 : BitVec 32 := Scalar.subi v525 v527
  let v529 : BitVec 1 := Scalar.cmpi .ne v523 v528
  let v530 : BitVec 32 := Scalar.remsi v517 c8_i32_333
  let c0_i32_338 : BitVec 32 := 0#32
  let v531 : BitVec 1 := Scalar.cmpi .ne v530 c0_i32_338
  let v532 : BitVec 1 := Scalar.andi v529 v531
  let v518 : BitVec 32 := Scalar.divsi v517 c8_i32_333
  let c1_i32_339 : BitVec 32 := 1#32
  let v533 : BitVec 32 := Scalar.subi v518 c1_i32_339
  let v534 : BitVec 32 := Scalar.select v532 v533 v518
  let c8_i32_340 : BitVec 32 := 8#32
  let v535 : BitVec 32 := Scalar.muli v534 c8_i32_340
  let c184_i32_341 : BitVec 32 := 184#32
  let v536 : BitVec 32 := Scalar.minsi v535 c184_i32_341
  v536

def k0_off359 : Fin 2 → Nat :=
  let c13_i32_330 : BitVec 32 := 13#32
  let c4_i32_331 : BitVec 32 := 4#32
  let v516 : BitVec 32 := Scalar.remsi c13_i32_330 c4_i32_331
  let c2_i32_343 : BitVec 32 := 2#32
  ![v516.toNat, 2]
def k0_off360 (v517 : BitVec 32) : Fin 4 → Nat :=
  let c210_i32 : BitVec 32 := 210#32
  let c0_i32_344 : BitVec 32 := 0#32
  let c0_i32_334 : BitVec 32 := 0#32
  let v519 : BitVec 1 := Scalar.cmpi .sgt v517 c0_i32_334
  let v520 : BitVec 32 := Scalar.extui v519
  let c0_i32_335 : BitVec 32 := 0#32
  let v521 : BitVec 1 := Scalar.cmpi .slt v517 c0_i32_335
  let v522 : BitVec 32 := Scalar.extui v521
  let v523 : BitVec 32 := Scalar.subi v520 v522
  let c8_i32_333 : BitVec 32 := 8#32
  let c0_i32_336 : BitVec 32 := 0#32
  let v524 : BitVec 1 := Scalar.cmpi .sgt c8_i32_333 c0_i32_336
  let v525 : BitVec 32 := Scalar.extui v524
  let c0_i32_337 : BitVec 32 := 0#32
  let v526 : BitVec 1 := Scalar.cmpi .slt c8_i32_333 c0_i32_337
  let v527 : BitVec 32 := Scalar.extui v526
  let v528 : BitVec 32 := Scalar.subi v525 v527
  let v529 : BitVec 1 := Scalar.cmpi .ne v523 v528
  let v530 : BitVec 32 := Scalar.remsi v517 c8_i32_333
  let c0_i32_338 : BitVec 32 := 0#32
  let v531 : BitVec 1 := Scalar.cmpi .ne v530 c0_i32_338
  let v532 : BitVec 1 := Scalar.andi v529 v531
  let v518 : BitVec 32 := Scalar.divsi v517 c8_i32_333
  let c1_i32_339 : BitVec 32 := 1#32
  let v533 : BitVec 32 := Scalar.subi v518 c1_i32_339
  let v534 : BitVec 32 := Scalar.select v532 v533 v518
  let c8_i32_340 : BitVec 32 := 8#32
  let v535 : BitVec 32 := Scalar.muli v534 c8_i32_340
  let c184_i32_341 : BitVec 32 := 184#32
  let v536 : BitVec 32 := Scalar.minsi v535 c184_i32_341
  let v537 : BitVec 32 := v536
  let c0_i32_345 : BitVec 32 := 0#32
  ![210, 0, v537.toNat, 0]

def k0_chk99 (i : grid0.Coords) (v517 : BitVec 32) : Prop :=
  (∀ (k0_h4 : k0_cond4 i = 1#1), 8 ∣ (k0_mult99 v517).toNat) ∧
  (∀ (k0_h4 : k0_cond4 i = 1#1), ∀ a, (k0_off360 v517) a + S1x3x40x224.size a ≤ S256x3x224x224.size a)
theorem k0_mult99_dvd : ∀ (i : grid0.Coords) (v517 : BitVec 32) (k0_hw99 : k0_chk99 i v517), ∀ (k0_h4 : k0_cond4 i = 1#1), 8 ∣ (k0_mult99 v517).toNat := fun i v517 k0_hw99 k0_h4 => k0_hw99.1 k0_h4
theorem k0_off360_inb : ∀ (i : grid0.Coords) (v517 : BitVec 32) (k0_hw99 : k0_chk99 i v517), ∀ (k0_h4 : k0_cond4 i = 1#1), ∀ a, (k0_off360 v517) a + S1x3x40x224.size a ≤ S256x3x224x224.size a := fun i v517 k0_hw99 k0_h4 => k0_hw99.2 k0_h4

def k0_off361 : Fin 5 → Nat :=
  let c13_i32_330 : BitVec 32 := 13#32
  let c4_i32_331 : BitVec 32 := 4#32
  let v516 : BitVec 32 := Scalar.remsi c13_i32_330 c4_i32_331
  let c2_i32_342 : BitVec 32 := 2#32
  let c0_i32_346 : BitVec 32 := 0#32
  let c0_i32_347 : BitVec 32 := 0#32
  let c0_i32_348 : BitVec 32 := 0#32
  ![v516.toNat, 2, 0, 0, 0]
def k0_mult100 (v545 : BitVec 32) : BitVec 32 :=
  let c0_i32_353 : BitVec 32 := 0#32
  let v547 : BitVec 1 := Scalar.cmpi .sgt v545 c0_i32_353
  let v548 : BitVec 32 := Scalar.extui v547
  let c0_i32_354 : BitVec 32 := 0#32
  let v549 : BitVec 1 := Scalar.cmpi .slt v545 c0_i32_354
  let v550 : BitVec 32 := Scalar.extui v549
  let v551 : BitVec 32 := Scalar.subi v548 v550
  let c8_i32_352 : BitVec 32 := 8#32
  let c0_i32_355 : BitVec 32 := 0#32
  let v552 : BitVec 1 := Scalar.cmpi .sgt c8_i32_352 c0_i32_355
  let v553 : BitVec 32 := Scalar.extui v552
  let c0_i32_356 : BitVec 32 := 0#32
  let v554 : BitVec 1 := Scalar.cmpi .slt c8_i32_352 c0_i32_356
  let v555 : BitVec 32 := Scalar.extui v554
  let v556 : BitVec 32 := Scalar.subi v553 v555
  let v557 : BitVec 1 := Scalar.cmpi .ne v551 v556
  let v558 : BitVec 32 := Scalar.remsi v545 c8_i32_352
  let c0_i32_357 : BitVec 32 := 0#32
  let v559 : BitVec 1 := Scalar.cmpi .ne v558 c0_i32_357
  let v560 : BitVec 1 := Scalar.andi v557 v559
  let v546 : BitVec 32 := Scalar.divsi v545 c8_i32_352
  let c1_i32_358 : BitVec 32 := 1#32
  let v561 : BitVec 32 := Scalar.subi v546 c1_i32_358
  let v562 : BitVec 32 := Scalar.select v560 v561 v546
  let c8_i32_359 : BitVec 32 := 8#32
  let v563 : BitVec 32 := Scalar.muli v562 c8_i32_359
  let c184_i32_360 : BitVec 32 := 184#32
  let v564 : BitVec 32 := Scalar.minsi v563 c184_i32_360
  v564

def k0_off362 : Fin 2 → Nat :=
  let c13_i32_349 : BitVec 32 := 13#32
  let c4_i32_350 : BitVec 32 := 4#32
  let v544 : BitVec 32 := Scalar.remsi c13_i32_349 c4_i32_350
  let c3_i32_362 : BitVec 32 := 3#32
  ![v544.toNat, 3]
def k0_off363 (v545 : BitVec 32) : Fin 4 → Nat :=
  let c211_i32 : BitVec 32 := 211#32
  let c0_i32_363 : BitVec 32 := 0#32
  let c0_i32_353 : BitVec 32 := 0#32
  let v547 : BitVec 1 := Scalar.cmpi .sgt v545 c0_i32_353
  let v548 : BitVec 32 := Scalar.extui v547
  let c0_i32_354 : BitVec 32 := 0#32
  let v549 : BitVec 1 := Scalar.cmpi .slt v545 c0_i32_354
  let v550 : BitVec 32 := Scalar.extui v549
  let v551 : BitVec 32 := Scalar.subi v548 v550
  let c8_i32_352 : BitVec 32 := 8#32
  let c0_i32_355 : BitVec 32 := 0#32
  let v552 : BitVec 1 := Scalar.cmpi .sgt c8_i32_352 c0_i32_355
  let v553 : BitVec 32 := Scalar.extui v552
  let c0_i32_356 : BitVec 32 := 0#32
  let v554 : BitVec 1 := Scalar.cmpi .slt c8_i32_352 c0_i32_356
  let v555 : BitVec 32 := Scalar.extui v554
  let v556 : BitVec 32 := Scalar.subi v553 v555
  let v557 : BitVec 1 := Scalar.cmpi .ne v551 v556
  let v558 : BitVec 32 := Scalar.remsi v545 c8_i32_352
  let c0_i32_357 : BitVec 32 := 0#32
  let v559 : BitVec 1 := Scalar.cmpi .ne v558 c0_i32_357
  let v560 : BitVec 1 := Scalar.andi v557 v559
  let v546 : BitVec 32 := Scalar.divsi v545 c8_i32_352
  let c1_i32_358 : BitVec 32 := 1#32
  let v561 : BitVec 32 := Scalar.subi v546 c1_i32_358
  let v562 : BitVec 32 := Scalar.select v560 v561 v546
  let c8_i32_359 : BitVec 32 := 8#32
  let v563 : BitVec 32 := Scalar.muli v562 c8_i32_359
  let c184_i32_360 : BitVec 32 := 184#32
  let v564 : BitVec 32 := Scalar.minsi v563 c184_i32_360
  let v565 : BitVec 32 := v564
  let c0_i32_364 : BitVec 32 := 0#32
  ![211, 0, v565.toNat, 0]

def k0_chk100 (i : grid0.Coords) (v545 : BitVec 32) : Prop :=
  (∀ (k0_h4 : k0_cond4 i = 1#1), 8 ∣ (k0_mult100 v545).toNat) ∧
  (∀ (k0_h4 : k0_cond4 i = 1#1), ∀ a, (k0_off363 v545) a + S1x3x40x224.size a ≤ S256x3x224x224.size a)
theorem k0_mult100_dvd : ∀ (i : grid0.Coords) (v545 : BitVec 32) (k0_hw100 : k0_chk100 i v545), ∀ (k0_h4 : k0_cond4 i = 1#1), 8 ∣ (k0_mult100 v545).toNat := fun i v545 k0_hw100 k0_h4 => k0_hw100.1 k0_h4
theorem k0_off363_inb : ∀ (i : grid0.Coords) (v545 : BitVec 32) (k0_hw100 : k0_chk100 i v545), ∀ (k0_h4 : k0_cond4 i = 1#1), ∀ a, (k0_off363 v545) a + S1x3x40x224.size a ≤ S256x3x224x224.size a := fun i v545 k0_hw100 k0_h4 => k0_hw100.2 k0_h4

def k0_off364 : Fin 5 → Nat :=
  let c13_i32_349 : BitVec 32 := 13#32
  let c4_i32_350 : BitVec 32 := 4#32
  let v544 : BitVec 32 := Scalar.remsi c13_i32_349 c4_i32_350
  let c3_i32_361 : BitVec 32 := 3#32
  let c0_i32_365 : BitVec 32 := 0#32
  let c0_i32_366 : BitVec 32 := 0#32
  let c0_i32_367 : BitVec 32 := 0#32
  ![v544.toNat, 3, 0, 0, 0]
def k0_mult101 (v573 : BitVec 32) : BitVec 32 :=
  let c0_i32_372 : BitVec 32 := 0#32
  let v575 : BitVec 1 := Scalar.cmpi .sgt v573 c0_i32_372
  let v576 : BitVec 32 := Scalar.extui v575
  let c0_i32_373 : BitVec 32 := 0#32
  let v577 : BitVec 1 := Scalar.cmpi .slt v573 c0_i32_373
  let v578 : BitVec 32 := Scalar.extui v577
  let v579 : BitVec 32 := Scalar.subi v576 v578
  let c8_i32_371 : BitVec 32 := 8#32
  let c0_i32_374 : BitVec 32 := 0#32
  let v580 : BitVec 1 := Scalar.cmpi .sgt c8_i32_371 c0_i32_374
  let v581 : BitVec 32 := Scalar.extui v580
  let c0_i32_375 : BitVec 32 := 0#32
  let v582 : BitVec 1 := Scalar.cmpi .slt c8_i32_371 c0_i32_375
  let v583 : BitVec 32 := Scalar.extui v582
  let v584 : BitVec 32 := Scalar.subi v581 v583
  let v585 : BitVec 1 := Scalar.cmpi .ne v579 v584
  let v586 : BitVec 32 := Scalar.remsi v573 c8_i32_371
  let c0_i32_376 : BitVec 32 := 0#32
  let v587 : BitVec 1 := Scalar.cmpi .ne v586 c0_i32_376
  let v588 : BitVec 1 := Scalar.andi v585 v587
  let v574 : BitVec 32 := Scalar.divsi v573 c8_i32_371
  let c1_i32_377 : BitVec 32 := 1#32
  let v589 : BitVec 32 := Scalar.subi v574 c1_i32_377
  let v590 : BitVec 32 := Scalar.select v588 v589 v574
  let c8_i32_378 : BitVec 32 := 8#32
  let v591 : BitVec 32 := Scalar.muli v590 c8_i32_378
  let c184_i32_379 : BitVec 32 := 184#32
  let v592 : BitVec 32 := Scalar.minsi v591 c184_i32_379
  v592

def k0_off365 : Fin 2 → Nat :=
  let c13_i32_368 : BitVec 32 := 13#32
  let c4_i32_369 : BitVec 32 := 4#32
  let v572 : BitVec 32 := Scalar.remsi c13_i32_368 c4_i32_369
  let c4_i32_381 : BitVec 32 := 4#32
  ![v572.toNat, 4]
def k0_off366 (v573 : BitVec 32) : Fin 4 → Nat :=
  let c212_i32 : BitVec 32 := 212#32
  let c0_i32_382 : BitVec 32 := 0#32
  let c0_i32_372 : BitVec 32 := 0#32
  let v575 : BitVec 1 := Scalar.cmpi .sgt v573 c0_i32_372
  let v576 : BitVec 32 := Scalar.extui v575
  let c0_i32_373 : BitVec 32 := 0#32
  let v577 : BitVec 1 := Scalar.cmpi .slt v573 c0_i32_373
  let v578 : BitVec 32 := Scalar.extui v577
  let v579 : BitVec 32 := Scalar.subi v576 v578
  let c8_i32_371 : BitVec 32 := 8#32
  let c0_i32_374 : BitVec 32 := 0#32
  let v580 : BitVec 1 := Scalar.cmpi .sgt c8_i32_371 c0_i32_374
  let v581 : BitVec 32 := Scalar.extui v580
  let c0_i32_375 : BitVec 32 := 0#32
  let v582 : BitVec 1 := Scalar.cmpi .slt c8_i32_371 c0_i32_375
  let v583 : BitVec 32 := Scalar.extui v582
  let v584 : BitVec 32 := Scalar.subi v581 v583
  let v585 : BitVec 1 := Scalar.cmpi .ne v579 v584
  let v586 : BitVec 32 := Scalar.remsi v573 c8_i32_371
  let c0_i32_376 : BitVec 32 := 0#32
  let v587 : BitVec 1 := Scalar.cmpi .ne v586 c0_i32_376
  let v588 : BitVec 1 := Scalar.andi v585 v587
  let v574 : BitVec 32 := Scalar.divsi v573 c8_i32_371
  let c1_i32_377 : BitVec 32 := 1#32
  let v589 : BitVec 32 := Scalar.subi v574 c1_i32_377
  let v590 : BitVec 32 := Scalar.select v588 v589 v574
  let c8_i32_378 : BitVec 32 := 8#32
  let v591 : BitVec 32 := Scalar.muli v590 c8_i32_378
  let c184_i32_379 : BitVec 32 := 184#32
  let v592 : BitVec 32 := Scalar.minsi v591 c184_i32_379
  let v593 : BitVec 32 := v592
  let c0_i32_383 : BitVec 32 := 0#32
  ![212, 0, v593.toNat, 0]

def k0_chk101 (i : grid0.Coords) (v573 : BitVec 32) : Prop :=
  (∀ (k0_h4 : k0_cond4 i = 1#1), 8 ∣ (k0_mult101 v573).toNat) ∧
  (∀ (k0_h4 : k0_cond4 i = 1#1), ∀ a, (k0_off366 v573) a + S1x3x40x224.size a ≤ S256x3x224x224.size a)
theorem k0_mult101_dvd : ∀ (i : grid0.Coords) (v573 : BitVec 32) (k0_hw101 : k0_chk101 i v573), ∀ (k0_h4 : k0_cond4 i = 1#1), 8 ∣ (k0_mult101 v573).toNat := fun i v573 k0_hw101 k0_h4 => k0_hw101.1 k0_h4
theorem k0_off366_inb : ∀ (i : grid0.Coords) (v573 : BitVec 32) (k0_hw101 : k0_chk101 i v573), ∀ (k0_h4 : k0_cond4 i = 1#1), ∀ a, (k0_off366 v573) a + S1x3x40x224.size a ≤ S256x3x224x224.size a := fun i v573 k0_hw101 k0_h4 => k0_hw101.2 k0_h4

def k0_off367 : Fin 5 → Nat :=
  let c13_i32_368 : BitVec 32 := 13#32
  let c4_i32_369 : BitVec 32 := 4#32
  let v572 : BitVec 32 := Scalar.remsi c13_i32_368 c4_i32_369
  let c4_i32_380 : BitVec 32 := 4#32
  let c0_i32_384 : BitVec 32 := 0#32
  let c0_i32_385 : BitVec 32 := 0#32
  let c0_i32_386 : BitVec 32 := 0#32
  ![v572.toNat, 4, 0, 0, 0]
def k0_mult102 (v601 : BitVec 32) : BitVec 32 :=
  let c0_i32_391 : BitVec 32 := 0#32
  let v603 : BitVec 1 := Scalar.cmpi .sgt v601 c0_i32_391
  let v604 : BitVec 32 := Scalar.extui v603
  let c0_i32_392 : BitVec 32 := 0#32
  let v605 : BitVec 1 := Scalar.cmpi .slt v601 c0_i32_392
  let v606 : BitVec 32 := Scalar.extui v605
  let v607 : BitVec 32 := Scalar.subi v604 v606
  let c8_i32_390 : BitVec 32 := 8#32
  let c0_i32_393 : BitVec 32 := 0#32
  let v608 : BitVec 1 := Scalar.cmpi .sgt c8_i32_390 c0_i32_393
  let v609 : BitVec 32 := Scalar.extui v608
  let c0_i32_394 : BitVec 32 := 0#32
  let v610 : BitVec 1 := Scalar.cmpi .slt c8_i32_390 c0_i32_394
  let v611 : BitVec 32 := Scalar.extui v610
  let v612 : BitVec 32 := Scalar.subi v609 v611
  let v613 : BitVec 1 := Scalar.cmpi .ne v607 v612
  let v614 : BitVec 32 := Scalar.remsi v601 c8_i32_390
  let c0_i32_395 : BitVec 32 := 0#32
  let v615 : BitVec 1 := Scalar.cmpi .ne v614 c0_i32_395
  let v616 : BitVec 1 := Scalar.andi v613 v615
  let v602 : BitVec 32 := Scalar.divsi v601 c8_i32_390
  let c1_i32_396 : BitVec 32 := 1#32
  let v617 : BitVec 32 := Scalar.subi v602 c1_i32_396
  let v618 : BitVec 32 := Scalar.select v616 v617 v602
  let c8_i32_397 : BitVec 32 := 8#32
  let v619 : BitVec 32 := Scalar.muli v618 c8_i32_397
  let c184_i32_398 : BitVec 32 := 184#32
  let v620 : BitVec 32 := Scalar.minsi v619 c184_i32_398
  v620

def k0_off368 : Fin 2 → Nat :=
  let c13_i32_387 : BitVec 32 := 13#32
  let c4_i32_388 : BitVec 32 := 4#32
  let v600 : BitVec 32 := Scalar.remsi c13_i32_387 c4_i32_388
  let c5_i32_400 : BitVec 32 := 5#32
  ![v600.toNat, 5]
def k0_off369 (v601 : BitVec 32) : Fin 4 → Nat :=
  let c213_i32 : BitVec 32 := 213#32
  let c0_i32_401 : BitVec 32 := 0#32
  let c0_i32_391 : BitVec 32 := 0#32
  let v603 : BitVec 1 := Scalar.cmpi .sgt v601 c0_i32_391
  let v604 : BitVec 32 := Scalar.extui v603
  let c0_i32_392 : BitVec 32 := 0#32
  let v605 : BitVec 1 := Scalar.cmpi .slt v601 c0_i32_392
  let v606 : BitVec 32 := Scalar.extui v605
  let v607 : BitVec 32 := Scalar.subi v604 v606
  let c8_i32_390 : BitVec 32 := 8#32
  let c0_i32_393 : BitVec 32 := 0#32
  let v608 : BitVec 1 := Scalar.cmpi .sgt c8_i32_390 c0_i32_393
  let v609 : BitVec 32 := Scalar.extui v608
  let c0_i32_394 : BitVec 32 := 0#32
  let v610 : BitVec 1 := Scalar.cmpi .slt c8_i32_390 c0_i32_394
  let v611 : BitVec 32 := Scalar.extui v610
  let v612 : BitVec 32 := Scalar.subi v609 v611
  let v613 : BitVec 1 := Scalar.cmpi .ne v607 v612
  let v614 : BitVec 32 := Scalar.remsi v601 c8_i32_390
  let c0_i32_395 : BitVec 32 := 0#32
  let v615 : BitVec 1 := Scalar.cmpi .ne v614 c0_i32_395
  let v616 : BitVec 1 := Scalar.andi v613 v615
  let v602 : BitVec 32 := Scalar.divsi v601 c8_i32_390
  let c1_i32_396 : BitVec 32 := 1#32
  let v617 : BitVec 32 := Scalar.subi v602 c1_i32_396
  let v618 : BitVec 32 := Scalar.select v616 v617 v602
  let c8_i32_397 : BitVec 32 := 8#32
  let v619 : BitVec 32 := Scalar.muli v618 c8_i32_397
  let c184_i32_398 : BitVec 32 := 184#32
  let v620 : BitVec 32 := Scalar.minsi v619 c184_i32_398
  let v621 : BitVec 32 := v620
  let c0_i32_402 : BitVec 32 := 0#32
  ![213, 0, v621.toNat, 0]

def k0_chk102 (i : grid0.Coords) (v601 : BitVec 32) : Prop :=
  (∀ (k0_h4 : k0_cond4 i = 1#1), 8 ∣ (k0_mult102 v601).toNat) ∧
  (∀ (k0_h4 : k0_cond4 i = 1#1), ∀ a, (k0_off369 v601) a + S1x3x40x224.size a ≤ S256x3x224x224.size a)
theorem k0_mult102_dvd : ∀ (i : grid0.Coords) (v601 : BitVec 32) (k0_hw102 : k0_chk102 i v601), ∀ (k0_h4 : k0_cond4 i = 1#1), 8 ∣ (k0_mult102 v601).toNat := fun i v601 k0_hw102 k0_h4 => k0_hw102.1 k0_h4
theorem k0_off369_inb : ∀ (i : grid0.Coords) (v601 : BitVec 32) (k0_hw102 : k0_chk102 i v601), ∀ (k0_h4 : k0_cond4 i = 1#1), ∀ a, (k0_off369 v601) a + S1x3x40x224.size a ≤ S256x3x224x224.size a := fun i v601 k0_hw102 k0_h4 => k0_hw102.2 k0_h4

def k0_off370 : Fin 5 → Nat :=
  let c13_i32_387 : BitVec 32 := 13#32
  let c4_i32_388 : BitVec 32 := 4#32
  let v600 : BitVec 32 := Scalar.remsi c13_i32_387 c4_i32_388
  let c5_i32_399 : BitVec 32 := 5#32
  let c0_i32_403 : BitVec 32 := 0#32
  let c0_i32_404 : BitVec 32 := 0#32
  let c0_i32_405 : BitVec 32 := 0#32
  ![v600.toNat, 5, 0, 0, 0]
def k0_mult103 (v629 : BitVec 32) : BitVec 32 :=
  let c0_i32_410 : BitVec 32 := 0#32
  let v631 : BitVec 1 := Scalar.cmpi .sgt v629 c0_i32_410
  let v632 : BitVec 32 := Scalar.extui v631
  let c0_i32_411 : BitVec 32 := 0#32
  let v633 : BitVec 1 := Scalar.cmpi .slt v629 c0_i32_411
  let v634 : BitVec 32 := Scalar.extui v633
  let v635 : BitVec 32 := Scalar.subi v632 v634
  let c8_i32_409 : BitVec 32 := 8#32
  let c0_i32_412 : BitVec 32 := 0#32
  let v636 : BitVec 1 := Scalar.cmpi .sgt c8_i32_409 c0_i32_412
  let v637 : BitVec 32 := Scalar.extui v636
  let c0_i32_413 : BitVec 32 := 0#32
  let v638 : BitVec 1 := Scalar.cmpi .slt c8_i32_409 c0_i32_413
  let v639 : BitVec 32 := Scalar.extui v638
  let v640 : BitVec 32 := Scalar.subi v637 v639
  let v641 : BitVec 1 := Scalar.cmpi .ne v635 v640
  let v642 : BitVec 32 := Scalar.remsi v629 c8_i32_409
  let c0_i32_414 : BitVec 32 := 0#32
  let v643 : BitVec 1 := Scalar.cmpi .ne v642 c0_i32_414
  let v644 : BitVec 1 := Scalar.andi v641 v643
  let v630 : BitVec 32 := Scalar.divsi v629 c8_i32_409
  let c1_i32_415 : BitVec 32 := 1#32
  let v645 : BitVec 32 := Scalar.subi v630 c1_i32_415
  let v646 : BitVec 32 := Scalar.select v644 v645 v630
  let c8_i32_416 : BitVec 32 := 8#32
  let v647 : BitVec 32 := Scalar.muli v646 c8_i32_416
  let c184_i32_417 : BitVec 32 := 184#32
  let v648 : BitVec 32 := Scalar.minsi v647 c184_i32_417
  v648

def k0_off371 : Fin 2 → Nat :=
  let c13_i32_406 : BitVec 32 := 13#32
  let c4_i32_407 : BitVec 32 := 4#32
  let v628 : BitVec 32 := Scalar.remsi c13_i32_406 c4_i32_407
  let c6_i32_419 : BitVec 32 := 6#32
  ![v628.toNat, 6]
def k0_off372 (v629 : BitVec 32) : Fin 4 → Nat :=
  let c214_i32 : BitVec 32 := 214#32
  let c0_i32_420 : BitVec 32 := 0#32
  let c0_i32_410 : BitVec 32 := 0#32
  let v631 : BitVec 1 := Scalar.cmpi .sgt v629 c0_i32_410
  let v632 : BitVec 32 := Scalar.extui v631
  let c0_i32_411 : BitVec 32 := 0#32
  let v633 : BitVec 1 := Scalar.cmpi .slt v629 c0_i32_411
  let v634 : BitVec 32 := Scalar.extui v633
  let v635 : BitVec 32 := Scalar.subi v632 v634
  let c8_i32_409 : BitVec 32 := 8#32
  let c0_i32_412 : BitVec 32 := 0#32
  let v636 : BitVec 1 := Scalar.cmpi .sgt c8_i32_409 c0_i32_412
  let v637 : BitVec 32 := Scalar.extui v636
  let c0_i32_413 : BitVec 32 := 0#32
  let v638 : BitVec 1 := Scalar.cmpi .slt c8_i32_409 c0_i32_413
  let v639 : BitVec 32 := Scalar.extui v638
  let v640 : BitVec 32 := Scalar.subi v637 v639
  let v641 : BitVec 1 := Scalar.cmpi .ne v635 v640
  let v642 : BitVec 32 := Scalar.remsi v629 c8_i32_409
  let c0_i32_414 : BitVec 32 := 0#32
  let v643 : BitVec 1 := Scalar.cmpi .ne v642 c0_i32_414
  let v644 : BitVec 1 := Scalar.andi v641 v643
  let v630 : BitVec 32 := Scalar.divsi v629 c8_i32_409
  let c1_i32_415 : BitVec 32 := 1#32
  let v645 : BitVec 32 := Scalar.subi v630 c1_i32_415
  let v646 : BitVec 32 := Scalar.select v644 v645 v630
  let c8_i32_416 : BitVec 32 := 8#32
  let v647 : BitVec 32 := Scalar.muli v646 c8_i32_416
  let c184_i32_417 : BitVec 32 := 184#32
  let v648 : BitVec 32 := Scalar.minsi v647 c184_i32_417
  let v649 : BitVec 32 := v648
  let c0_i32_421 : BitVec 32 := 0#32
  ![214, 0, v649.toNat, 0]

def k0_chk103 (i : grid0.Coords) (v629 : BitVec 32) : Prop :=
  (∀ (k0_h4 : k0_cond4 i = 1#1), 8 ∣ (k0_mult103 v629).toNat) ∧
  (∀ (k0_h4 : k0_cond4 i = 1#1), ∀ a, (k0_off372 v629) a + S1x3x40x224.size a ≤ S256x3x224x224.size a)
theorem k0_mult103_dvd : ∀ (i : grid0.Coords) (v629 : BitVec 32) (k0_hw103 : k0_chk103 i v629), ∀ (k0_h4 : k0_cond4 i = 1#1), 8 ∣ (k0_mult103 v629).toNat := fun i v629 k0_hw103 k0_h4 => k0_hw103.1 k0_h4
theorem k0_off372_inb : ∀ (i : grid0.Coords) (v629 : BitVec 32) (k0_hw103 : k0_chk103 i v629), ∀ (k0_h4 : k0_cond4 i = 1#1), ∀ a, (k0_off372 v629) a + S1x3x40x224.size a ≤ S256x3x224x224.size a := fun i v629 k0_hw103 k0_h4 => k0_hw103.2 k0_h4

def k0_off373 : Fin 5 → Nat :=
  let c13_i32_406 : BitVec 32 := 13#32
  let c4_i32_407 : BitVec 32 := 4#32
  let v628 : BitVec 32 := Scalar.remsi c13_i32_406 c4_i32_407
  let c6_i32_418 : BitVec 32 := 6#32
  let c0_i32_422 : BitVec 32 := 0#32
  let c0_i32_423 : BitVec 32 := 0#32
  let c0_i32_424 : BitVec 32 := 0#32
  ![v628.toNat, 6, 0, 0, 0]
def k0_mult104 (v657 : BitVec 32) : BitVec 32 :=
  let c0_i32_429 : BitVec 32 := 0#32
  let v659 : BitVec 1 := Scalar.cmpi .sgt v657 c0_i32_429
  let v660 : BitVec 32 := Scalar.extui v659
  let c0_i32_430 : BitVec 32 := 0#32
  let v661 : BitVec 1 := Scalar.cmpi .slt v657 c0_i32_430
  let v662 : BitVec 32 := Scalar.extui v661
  let v663 : BitVec 32 := Scalar.subi v660 v662
  let c8_i32_428 : BitVec 32 := 8#32
  let c0_i32_431 : BitVec 32 := 0#32
  let v664 : BitVec 1 := Scalar.cmpi .sgt c8_i32_428 c0_i32_431
  let v665 : BitVec 32 := Scalar.extui v664
  let c0_i32_432 : BitVec 32 := 0#32
  let v666 : BitVec 1 := Scalar.cmpi .slt c8_i32_428 c0_i32_432
  let v667 : BitVec 32 := Scalar.extui v666
  let v668 : BitVec 32 := Scalar.subi v665 v667
  let v669 : BitVec 1 := Scalar.cmpi .ne v663 v668
  let v670 : BitVec 32 := Scalar.remsi v657 c8_i32_428
  let c0_i32_433 : BitVec 32 := 0#32
  let v671 : BitVec 1 := Scalar.cmpi .ne v670 c0_i32_433
  let v672 : BitVec 1 := Scalar.andi v669 v671
  let v658 : BitVec 32 := Scalar.divsi v657 c8_i32_428
  let c1_i32_434 : BitVec 32 := 1#32
  let v673 : BitVec 32 := Scalar.subi v658 c1_i32_434
  let v674 : BitVec 32 := Scalar.select v672 v673 v658
  let c8_i32_435 : BitVec 32 := 8#32
  let v675 : BitVec 32 := Scalar.muli v674 c8_i32_435
  let c184_i32_436 : BitVec 32 := 184#32
  let v676 : BitVec 32 := Scalar.minsi v675 c184_i32_436
  v676

def k0_off374 : Fin 2 → Nat :=
  let c13_i32_425 : BitVec 32 := 13#32
  let c4_i32_426 : BitVec 32 := 4#32
  let v656 : BitVec 32 := Scalar.remsi c13_i32_425 c4_i32_426
  let c7_i32_438 : BitVec 32 := 7#32
  ![v656.toNat, 7]
def k0_off375 (v657 : BitVec 32) : Fin 4 → Nat :=
  let c215_i32 : BitVec 32 := 215#32
  let c0_i32_439 : BitVec 32 := 0#32
  let c0_i32_429 : BitVec 32 := 0#32
  let v659 : BitVec 1 := Scalar.cmpi .sgt v657 c0_i32_429
  let v660 : BitVec 32 := Scalar.extui v659
  let c0_i32_430 : BitVec 32 := 0#32
  let v661 : BitVec 1 := Scalar.cmpi .slt v657 c0_i32_430
  let v662 : BitVec 32 := Scalar.extui v661
  let v663 : BitVec 32 := Scalar.subi v660 v662
  let c8_i32_428 : BitVec 32 := 8#32
  let c0_i32_431 : BitVec 32 := 0#32
  let v664 : BitVec 1 := Scalar.cmpi .sgt c8_i32_428 c0_i32_431
  let v665 : BitVec 32 := Scalar.extui v664
  let c0_i32_432 : BitVec 32 := 0#32
  let v666 : BitVec 1 := Scalar.cmpi .slt c8_i32_428 c0_i32_432
  let v667 : BitVec 32 := Scalar.extui v666
  let v668 : BitVec 32 := Scalar.subi v665 v667
  let v669 : BitVec 1 := Scalar.cmpi .ne v663 v668
  let v670 : BitVec 32 := Scalar.remsi v657 c8_i32_428
  let c0_i32_433 : BitVec 32 := 0#32
  let v671 : BitVec 1 := Scalar.cmpi .ne v670 c0_i32_433
  let v672 : BitVec 1 := Scalar.andi v669 v671
  let v658 : BitVec 32 := Scalar.divsi v657 c8_i32_428
  let c1_i32_434 : BitVec 32 := 1#32
  let v673 : BitVec 32 := Scalar.subi v658 c1_i32_434
  let v674 : BitVec 32 := Scalar.select v672 v673 v658
  let c8_i32_435 : BitVec 32 := 8#32
  let v675 : BitVec 32 := Scalar.muli v674 c8_i32_435
  let c184_i32_436 : BitVec 32 := 184#32
  let v676 : BitVec 32 := Scalar.minsi v675 c184_i32_436
  let v677 : BitVec 32 := v676
  let c0_i32_440 : BitVec 32 := 0#32
  ![215, 0, v677.toNat, 0]

def k0_chk104 (i : grid0.Coords) (v657 : BitVec 32) : Prop :=
  (∀ (k0_h4 : k0_cond4 i = 1#1), 8 ∣ (k0_mult104 v657).toNat) ∧
  (∀ (k0_h4 : k0_cond4 i = 1#1), ∀ a, (k0_off375 v657) a + S1x3x40x224.size a ≤ S256x3x224x224.size a)
theorem k0_mult104_dvd : ∀ (i : grid0.Coords) (v657 : BitVec 32) (k0_hw104 : k0_chk104 i v657), ∀ (k0_h4 : k0_cond4 i = 1#1), 8 ∣ (k0_mult104 v657).toNat := fun i v657 k0_hw104 k0_h4 => k0_hw104.1 k0_h4
theorem k0_off375_inb : ∀ (i : grid0.Coords) (v657 : BitVec 32) (k0_hw104 : k0_chk104 i v657), ∀ (k0_h4 : k0_cond4 i = 1#1), ∀ a, (k0_off375 v657) a + S1x3x40x224.size a ≤ S256x3x224x224.size a := fun i v657 k0_hw104 k0_h4 => k0_hw104.2 k0_h4

def k0_off376 : Fin 5 → Nat :=
  let c13_i32_425 : BitVec 32 := 13#32
  let c4_i32_426 : BitVec 32 := 4#32
  let v656 : BitVec 32 := Scalar.remsi c13_i32_425 c4_i32_426
  let c7_i32_437 : BitVec 32 := 7#32
  let c0_i32_441 : BitVec 32 := 0#32
  let c0_i32_442 : BitVec 32 := 0#32
  let c0_i32_443 : BitVec 32 := 0#32
  ![v656.toNat, 7, 0, 0, 0]
def k0_mult105 (v685 : BitVec 32) : BitVec 32 :=
  let c0_i32_448 : BitVec 32 := 0#32
  let v687 : BitVec 1 := Scalar.cmpi .sgt v685 c0_i32_448
  let v688 : BitVec 32 := Scalar.extui v687
  let c0_i32_449 : BitVec 32 := 0#32
  let v689 : BitVec 1 := Scalar.cmpi .slt v685 c0_i32_449
  let v690 : BitVec 32 := Scalar.extui v689
  let v691 : BitVec 32 := Scalar.subi v688 v690
  let c8_i32_447 : BitVec 32 := 8#32
  let c0_i32_450 : BitVec 32 := 0#32
  let v692 : BitVec 1 := Scalar.cmpi .sgt c8_i32_447 c0_i32_450
  let v693 : BitVec 32 := Scalar.extui v692
  let c0_i32_451 : BitVec 32 := 0#32
  let v694 : BitVec 1 := Scalar.cmpi .slt c8_i32_447 c0_i32_451
  let v695 : BitVec 32 := Scalar.extui v694
  let v696 : BitVec 32 := Scalar.subi v693 v695
  let v697 : BitVec 1 := Scalar.cmpi .ne v691 v696
  let v698 : BitVec 32 := Scalar.remsi v685 c8_i32_447
  let c0_i32_452 : BitVec 32 := 0#32
  let v699 : BitVec 1 := Scalar.cmpi .ne v698 c0_i32_452
  let v700 : BitVec 1 := Scalar.andi v697 v699
  let v686 : BitVec 32 := Scalar.divsi v685 c8_i32_447
  let c1_i32_453 : BitVec 32 := 1#32
  let v701 : BitVec 32 := Scalar.subi v686 c1_i32_453
  let v702 : BitVec 32 := Scalar.select v700 v701 v686
  let c8_i32_454 : BitVec 32 := 8#32
  let v703 : BitVec 32 := Scalar.muli v702 c8_i32_454
  let c184_i32_455 : BitVec 32 := 184#32
  let v704 : BitVec 32 := Scalar.minsi v703 c184_i32_455
  v704

def k0_off377 : Fin 2 → Nat :=
  let c13_i32_444 : BitVec 32 := 13#32
  let c4_i32_445 : BitVec 32 := 4#32
  let v684 : BitVec 32 := Scalar.remsi c13_i32_444 c4_i32_445
  let c8_i32_457 : BitVec 32 := 8#32
  ![v684.toNat, 8]
def k0_off378 (v685 : BitVec 32) : Fin 4 → Nat :=
  let c216_i32 : BitVec 32 := 216#32
  let c0_i32_458 : BitVec 32 := 0#32
  let c0_i32_448 : BitVec 32 := 0#32
  let v687 : BitVec 1 := Scalar.cmpi .sgt v685 c0_i32_448
  let v688 : BitVec 32 := Scalar.extui v687
  let c0_i32_449 : BitVec 32 := 0#32
  let v689 : BitVec 1 := Scalar.cmpi .slt v685 c0_i32_449
  let v690 : BitVec 32 := Scalar.extui v689
  let v691 : BitVec 32 := Scalar.subi v688 v690
  let c8_i32_447 : BitVec 32 := 8#32
  let c0_i32_450 : BitVec 32 := 0#32
  let v692 : BitVec 1 := Scalar.cmpi .sgt c8_i32_447 c0_i32_450
  let v693 : BitVec 32 := Scalar.extui v692
  let c0_i32_451 : BitVec 32 := 0#32
  let v694 : BitVec 1 := Scalar.cmpi .slt c8_i32_447 c0_i32_451
  let v695 : BitVec 32 := Scalar.extui v694
  let v696 : BitVec 32 := Scalar.subi v693 v695
  let v697 : BitVec 1 := Scalar.cmpi .ne v691 v696
  let v698 : BitVec 32 := Scalar.remsi v685 c8_i32_447
  let c0_i32_452 : BitVec 32 := 0#32
  let v699 : BitVec 1 := Scalar.cmpi .ne v698 c0_i32_452
  let v700 : BitVec 1 := Scalar.andi v697 v699
  let v686 : BitVec 32 := Scalar.divsi v685 c8_i32_447
  let c1_i32_453 : BitVec 32 := 1#32
  let v701 : BitVec 32 := Scalar.subi v686 c1_i32_453
  let v702 : BitVec 32 := Scalar.select v700 v701 v686
  let c8_i32_454 : BitVec 32 := 8#32
  let v703 : BitVec 32 := Scalar.muli v702 c8_i32_454
  let c184_i32_455 : BitVec 32 := 184#32
  let v704 : BitVec 32 := Scalar.minsi v703 c184_i32_455
  let v705 : BitVec 32 := v704
  let c0_i32_459 : BitVec 32 := 0#32
  ![216, 0, v705.toNat, 0]

def k0_chk105 (i : grid0.Coords) (v685 : BitVec 32) : Prop :=
  (∀ (k0_h4 : k0_cond4 i = 1#1), 8 ∣ (k0_mult105 v685).toNat) ∧
  (∀ (k0_h4 : k0_cond4 i = 1#1), ∀ a, (k0_off378 v685) a + S1x3x40x224.size a ≤ S256x3x224x224.size a)
theorem k0_mult105_dvd : ∀ (i : grid0.Coords) (v685 : BitVec 32) (k0_hw105 : k0_chk105 i v685), ∀ (k0_h4 : k0_cond4 i = 1#1), 8 ∣ (k0_mult105 v685).toNat := fun i v685 k0_hw105 k0_h4 => k0_hw105.1 k0_h4
theorem k0_off378_inb : ∀ (i : grid0.Coords) (v685 : BitVec 32) (k0_hw105 : k0_chk105 i v685), ∀ (k0_h4 : k0_cond4 i = 1#1), ∀ a, (k0_off378 v685) a + S1x3x40x224.size a ≤ S256x3x224x224.size a := fun i v685 k0_hw105 k0_h4 => k0_hw105.2 k0_h4

def k0_off379 : Fin 5 → Nat :=
  let c13_i32_444 : BitVec 32 := 13#32
  let c4_i32_445 : BitVec 32 := 4#32
  let v684 : BitVec 32 := Scalar.remsi c13_i32_444 c4_i32_445
  let c8_i32_456 : BitVec 32 := 8#32
  let c0_i32_460 : BitVec 32 := 0#32
  let c0_i32_461 : BitVec 32 := 0#32
  let c0_i32_462 : BitVec 32 := 0#32
  ![v684.toNat, 8, 0, 0, 0]
def k0_mult106 (v713 : BitVec 32) : BitVec 32 :=
  let c0_i32_467 : BitVec 32 := 0#32
  let v715 : BitVec 1 := Scalar.cmpi .sgt v713 c0_i32_467
  let v716 : BitVec 32 := Scalar.extui v715
  let c0_i32_468 : BitVec 32 := 0#32
  let v717 : BitVec 1 := Scalar.cmpi .slt v713 c0_i32_468
  let v718 : BitVec 32 := Scalar.extui v717
  let v719 : BitVec 32 := Scalar.subi v716 v718
  let c8_i32_466 : BitVec 32 := 8#32
  let c0_i32_469 : BitVec 32 := 0#32
  let v720 : BitVec 1 := Scalar.cmpi .sgt c8_i32_466 c0_i32_469
  let v721 : BitVec 32 := Scalar.extui v720
  let c0_i32_470 : BitVec 32 := 0#32
  let v722 : BitVec 1 := Scalar.cmpi .slt c8_i32_466 c0_i32_470
  let v723 : BitVec 32 := Scalar.extui v722
  let v724 : BitVec 32 := Scalar.subi v721 v723
  let v725 : BitVec 1 := Scalar.cmpi .ne v719 v724
  let v726 : BitVec 32 := Scalar.remsi v713 c8_i32_466
  let c0_i32_471 : BitVec 32 := 0#32
  let v727 : BitVec 1 := Scalar.cmpi .ne v726 c0_i32_471
  let v728 : BitVec 1 := Scalar.andi v725 v727
  let v714 : BitVec 32 := Scalar.divsi v713 c8_i32_466
  let c1_i32_472 : BitVec 32 := 1#32
  let v729 : BitVec 32 := Scalar.subi v714 c1_i32_472
  let v730 : BitVec 32 := Scalar.select v728 v729 v714
  let c8_i32_473 : BitVec 32 := 8#32
  let v731 : BitVec 32 := Scalar.muli v730 c8_i32_473
  let c184_i32_474 : BitVec 32 := 184#32
  let v732 : BitVec 32 := Scalar.minsi v731 c184_i32_474
  v732

def k0_off380 : Fin 2 → Nat :=
  let c13_i32_463 : BitVec 32 := 13#32
  let c4_i32_464 : BitVec 32 := 4#32
  let v712 : BitVec 32 := Scalar.remsi c13_i32_463 c4_i32_464
  let c9_i32_476 : BitVec 32 := 9#32
  ![v712.toNat, 9]
def k0_off381 (v713 : BitVec 32) : Fin 4 → Nat :=
  let c217_i32 : BitVec 32 := 217#32
  let c0_i32_477 : BitVec 32 := 0#32
  let c0_i32_467 : BitVec 32 := 0#32
  let v715 : BitVec 1 := Scalar.cmpi .sgt v713 c0_i32_467
  let v716 : BitVec 32 := Scalar.extui v715
  let c0_i32_468 : BitVec 32 := 0#32
  let v717 : BitVec 1 := Scalar.cmpi .slt v713 c0_i32_468
  let v718 : BitVec 32 := Scalar.extui v717
  let v719 : BitVec 32 := Scalar.subi v716 v718
  let c8_i32_466 : BitVec 32 := 8#32
  let c0_i32_469 : BitVec 32 := 0#32
  let v720 : BitVec 1 := Scalar.cmpi .sgt c8_i32_466 c0_i32_469
  let v721 : BitVec 32 := Scalar.extui v720
  let c0_i32_470 : BitVec 32 := 0#32
  let v722 : BitVec 1 := Scalar.cmpi .slt c8_i32_466 c0_i32_470
  let v723 : BitVec 32 := Scalar.extui v722
  let v724 : BitVec 32 := Scalar.subi v721 v723
  let v725 : BitVec 1 := Scalar.cmpi .ne v719 v724
  let v726 : BitVec 32 := Scalar.remsi v713 c8_i32_466
  let c0_i32_471 : BitVec 32 := 0#32
  let v727 : BitVec 1 := Scalar.cmpi .ne v726 c0_i32_471
  let v728 : BitVec 1 := Scalar.andi v725 v727
  let v714 : BitVec 32 := Scalar.divsi v713 c8_i32_466
  let c1_i32_472 : BitVec 32 := 1#32
  let v729 : BitVec 32 := Scalar.subi v714 c1_i32_472
  let v730 : BitVec 32 := Scalar.select v728 v729 v714
  let c8_i32_473 : BitVec 32 := 8#32
  let v731 : BitVec 32 := Scalar.muli v730 c8_i32_473
  let c184_i32_474 : BitVec 32 := 184#32
  let v732 : BitVec 32 := Scalar.minsi v731 c184_i32_474
  let v733 : BitVec 32 := v732
  let c0_i32_478 : BitVec 32 := 0#32
  ![217, 0, v733.toNat, 0]

def k0_chk106 (i : grid0.Coords) (v713 : BitVec 32) : Prop :=
  (∀ (k0_h4 : k0_cond4 i = 1#1), 8 ∣ (k0_mult106 v713).toNat) ∧
  (∀ (k0_h4 : k0_cond4 i = 1#1), ∀ a, (k0_off381 v713) a + S1x3x40x224.size a ≤ S256x3x224x224.size a)
theorem k0_mult106_dvd : ∀ (i : grid0.Coords) (v713 : BitVec 32) (k0_hw106 : k0_chk106 i v713), ∀ (k0_h4 : k0_cond4 i = 1#1), 8 ∣ (k0_mult106 v713).toNat := fun i v713 k0_hw106 k0_h4 => k0_hw106.1 k0_h4
theorem k0_off381_inb : ∀ (i : grid0.Coords) (v713 : BitVec 32) (k0_hw106 : k0_chk106 i v713), ∀ (k0_h4 : k0_cond4 i = 1#1), ∀ a, (k0_off381 v713) a + S1x3x40x224.size a ≤ S256x3x224x224.size a := fun i v713 k0_hw106 k0_h4 => k0_hw106.2 k0_h4

def k0_off382 : Fin 5 → Nat :=
  let c13_i32_463 : BitVec 32 := 13#32
  let c4_i32_464 : BitVec 32 := 4#32
  let v712 : BitVec 32 := Scalar.remsi c13_i32_463 c4_i32_464
  let c9_i32_475 : BitVec 32 := 9#32
  let c0_i32_479 : BitVec 32 := 0#32
  let c0_i32_480 : BitVec 32 := 0#32
  let c0_i32_481 : BitVec 32 := 0#32
  ![v712.toNat, 9, 0, 0, 0]
def k0_mult107 (v741 : BitVec 32) : BitVec 32 :=
  let c0_i32_486 : BitVec 32 := 0#32
  let v743 : BitVec 1 := Scalar.cmpi .sgt v741 c0_i32_486
  let v744 : BitVec 32 := Scalar.extui v743
  let c0_i32_487 : BitVec 32 := 0#32
  let v745 : BitVec 1 := Scalar.cmpi .slt v741 c0_i32_487
  let v746 : BitVec 32 := Scalar.extui v745
  let v747 : BitVec 32 := Scalar.subi v744 v746
  let c8_i32_485 : BitVec 32 := 8#32
  let c0_i32_488 : BitVec 32 := 0#32
  let v748 : BitVec 1 := Scalar.cmpi .sgt c8_i32_485 c0_i32_488
  let v749 : BitVec 32 := Scalar.extui v748
  let c0_i32_489 : BitVec 32 := 0#32
  let v750 : BitVec 1 := Scalar.cmpi .slt c8_i32_485 c0_i32_489
  let v751 : BitVec 32 := Scalar.extui v750
  let v752 : BitVec 32 := Scalar.subi v749 v751
  let v753 : BitVec 1 := Scalar.cmpi .ne v747 v752
  let v754 : BitVec 32 := Scalar.remsi v741 c8_i32_485
  let c0_i32_490 : BitVec 32 := 0#32
  let v755 : BitVec 1 := Scalar.cmpi .ne v754 c0_i32_490
  let v756 : BitVec 1 := Scalar.andi v753 v755
  let v742 : BitVec 32 := Scalar.divsi v741 c8_i32_485
  let c1_i32_491 : BitVec 32 := 1#32
  let v757 : BitVec 32 := Scalar.subi v742 c1_i32_491
  let v758 : BitVec 32 := Scalar.select v756 v757 v742
  let c8_i32_492 : BitVec 32 := 8#32
  let v759 : BitVec 32 := Scalar.muli v758 c8_i32_492
  let c184_i32_493 : BitVec 32 := 184#32
  let v760 : BitVec 32 := Scalar.minsi v759 c184_i32_493
  v760

def k0_off383 : Fin 2 → Nat :=
  let c13_i32_482 : BitVec 32 := 13#32
  let c4_i32_483 : BitVec 32 := 4#32
  let v740 : BitVec 32 := Scalar.remsi c13_i32_482 c4_i32_483
  let c10_i32_495 : BitVec 32 := 10#32
  ![v740.toNat, 10]
def k0_off384 (v741 : BitVec 32) : Fin 4 → Nat :=
  let c218_i32 : BitVec 32 := 218#32
  let c0_i32_496 : BitVec 32 := 0#32
  let c0_i32_486 : BitVec 32 := 0#32
  let v743 : BitVec 1 := Scalar.cmpi .sgt v741 c0_i32_486
  let v744 : BitVec 32 := Scalar.extui v743
  let c0_i32_487 : BitVec 32 := 0#32
  let v745 : BitVec 1 := Scalar.cmpi .slt v741 c0_i32_487
  let v746 : BitVec 32 := Scalar.extui v745
  let v747 : BitVec 32 := Scalar.subi v744 v746
  let c8_i32_485 : BitVec 32 := 8#32
  let c0_i32_488 : BitVec 32 := 0#32
  let v748 : BitVec 1 := Scalar.cmpi .sgt c8_i32_485 c0_i32_488
  let v749 : BitVec 32 := Scalar.extui v748
  let c0_i32_489 : BitVec 32 := 0#32
  let v750 : BitVec 1 := Scalar.cmpi .slt c8_i32_485 c0_i32_489
  let v751 : BitVec 32 := Scalar.extui v750
  let v752 : BitVec 32 := Scalar.subi v749 v751
  let v753 : BitVec 1 := Scalar.cmpi .ne v747 v752
  let v754 : BitVec 32 := Scalar.remsi v741 c8_i32_485
  let c0_i32_490 : BitVec 32 := 0#32
  let v755 : BitVec 1 := Scalar.cmpi .ne v754 c0_i32_490
  let v756 : BitVec 1 := Scalar.andi v753 v755
  let v742 : BitVec 32 := Scalar.divsi v741 c8_i32_485
  let c1_i32_491 : BitVec 32 := 1#32
  let v757 : BitVec 32 := Scalar.subi v742 c1_i32_491
  let v758 : BitVec 32 := Scalar.select v756 v757 v742
  let c8_i32_492 : BitVec 32 := 8#32
  let v759 : BitVec 32 := Scalar.muli v758 c8_i32_492
  let c184_i32_493 : BitVec 32 := 184#32
  let v760 : BitVec 32 := Scalar.minsi v759 c184_i32_493
  let v761 : BitVec 32 := v760
  let c0_i32_497 : BitVec 32 := 0#32
  ![218, 0, v761.toNat, 0]

def k0_chk107 (i : grid0.Coords) (v741 : BitVec 32) : Prop :=
  (∀ (k0_h4 : k0_cond4 i = 1#1), 8 ∣ (k0_mult107 v741).toNat) ∧
  (∀ (k0_h4 : k0_cond4 i = 1#1), ∀ a, (k0_off384 v741) a + S1x3x40x224.size a ≤ S256x3x224x224.size a)
theorem k0_mult107_dvd : ∀ (i : grid0.Coords) (v741 : BitVec 32) (k0_hw107 : k0_chk107 i v741), ∀ (k0_h4 : k0_cond4 i = 1#1), 8 ∣ (k0_mult107 v741).toNat := fun i v741 k0_hw107 k0_h4 => k0_hw107.1 k0_h4
theorem k0_off384_inb : ∀ (i : grid0.Coords) (v741 : BitVec 32) (k0_hw107 : k0_chk107 i v741), ∀ (k0_h4 : k0_cond4 i = 1#1), ∀ a, (k0_off384 v741) a + S1x3x40x224.size a ≤ S256x3x224x224.size a := fun i v741 k0_hw107 k0_h4 => k0_hw107.2 k0_h4

def k0_off385 : Fin 5 → Nat :=
  let c13_i32_482 : BitVec 32 := 13#32
  let c4_i32_483 : BitVec 32 := 4#32
  let v740 : BitVec 32 := Scalar.remsi c13_i32_482 c4_i32_483
  let c10_i32_494 : BitVec 32 := 10#32
  let c0_i32_498 : BitVec 32 := 0#32
  let c0_i32_499 : BitVec 32 := 0#32
  let c0_i32_500 : BitVec 32 := 0#32
  ![v740.toNat, 10, 0, 0, 0]
def k0_mult108 (v769 : BitVec 32) : BitVec 32 :=
  let c0_i32_505 : BitVec 32 := 0#32
  let v771 : BitVec 1 := Scalar.cmpi .sgt v769 c0_i32_505
  let v772 : BitVec 32 := Scalar.extui v771
  let c0_i32_506 : BitVec 32 := 0#32
  let v773 : BitVec 1 := Scalar.cmpi .slt v769 c0_i32_506
  let v774 : BitVec 32 := Scalar.extui v773
  let v775 : BitVec 32 := Scalar.subi v772 v774
  let c8_i32_504 : BitVec 32 := 8#32
  let c0_i32_507 : BitVec 32 := 0#32
  let v776 : BitVec 1 := Scalar.cmpi .sgt c8_i32_504 c0_i32_507
  let v777 : BitVec 32 := Scalar.extui v776
  let c0_i32_508 : BitVec 32 := 0#32
  let v778 : BitVec 1 := Scalar.cmpi .slt c8_i32_504 c0_i32_508
  let v779 : BitVec 32 := Scalar.extui v778
  let v780 : BitVec 32 := Scalar.subi v777 v779
  let v781 : BitVec 1 := Scalar.cmpi .ne v775 v780
  let v782 : BitVec 32 := Scalar.remsi v769 c8_i32_504
  let c0_i32_509 : BitVec 32 := 0#32
  let v783 : BitVec 1 := Scalar.cmpi .ne v782 c0_i32_509
  let v784 : BitVec 1 := Scalar.andi v781 v783
  let v770 : BitVec 32 := Scalar.divsi v769 c8_i32_504
  let c1_i32_510 : BitVec 32 := 1#32
  let v785 : BitVec 32 := Scalar.subi v770 c1_i32_510
  let v786 : BitVec 32 := Scalar.select v784 v785 v770
  let c8_i32_511 : BitVec 32 := 8#32
  let v787 : BitVec 32 := Scalar.muli v786 c8_i32_511
  let c184_i32_512 : BitVec 32 := 184#32
  let v788 : BitVec 32 := Scalar.minsi v787 c184_i32_512
  v788

def k0_off386 : Fin 2 → Nat :=
  let c13_i32_501 : BitVec 32 := 13#32
  let c4_i32_502 : BitVec 32 := 4#32
  let v768 : BitVec 32 := Scalar.remsi c13_i32_501 c4_i32_502
  let c11_i32_514 : BitVec 32 := 11#32
  ![v768.toNat, 11]
def k0_off387 (v769 : BitVec 32) : Fin 4 → Nat :=
  let c219_i32 : BitVec 32 := 219#32
  let c0_i32_515 : BitVec 32 := 0#32
  let c0_i32_505 : BitVec 32 := 0#32
  let v771 : BitVec 1 := Scalar.cmpi .sgt v769 c0_i32_505
  let v772 : BitVec 32 := Scalar.extui v771
  let c0_i32_506 : BitVec 32 := 0#32
  let v773 : BitVec 1 := Scalar.cmpi .slt v769 c0_i32_506
  let v774 : BitVec 32 := Scalar.extui v773
  let v775 : BitVec 32 := Scalar.subi v772 v774
  let c8_i32_504 : BitVec 32 := 8#32
  let c0_i32_507 : BitVec 32 := 0#32
  let v776 : BitVec 1 := Scalar.cmpi .sgt c8_i32_504 c0_i32_507
  let v777 : BitVec 32 := Scalar.extui v776
  let c0_i32_508 : BitVec 32 := 0#32
  let v778 : BitVec 1 := Scalar.cmpi .slt c8_i32_504 c0_i32_508
  let v779 : BitVec 32 := Scalar.extui v778
  let v780 : BitVec 32 := Scalar.subi v777 v779
  let v781 : BitVec 1 := Scalar.cmpi .ne v775 v780
  let v782 : BitVec 32 := Scalar.remsi v769 c8_i32_504
  let c0_i32_509 : BitVec 32 := 0#32
  let v783 : BitVec 1 := Scalar.cmpi .ne v782 c0_i32_509
  let v784 : BitVec 1 := Scalar.andi v781 v783
  let v770 : BitVec 32 := Scalar.divsi v769 c8_i32_504
  let c1_i32_510 : BitVec 32 := 1#32
  let v785 : BitVec 32 := Scalar.subi v770 c1_i32_510
  let v786 : BitVec 32 := Scalar.select v784 v785 v770
  let c8_i32_511 : BitVec 32 := 8#32
  let v787 : BitVec 32 := Scalar.muli v786 c8_i32_511
  let c184_i32_512 : BitVec 32 := 184#32
  let v788 : BitVec 32 := Scalar.minsi v787 c184_i32_512
  let v789 : BitVec 32 := v788
  let c0_i32_516 : BitVec 32 := 0#32
  ![219, 0, v789.toNat, 0]

def k0_chk108 (i : grid0.Coords) (v769 : BitVec 32) : Prop :=
  (∀ (k0_h4 : k0_cond4 i = 1#1), 8 ∣ (k0_mult108 v769).toNat) ∧
  (∀ (k0_h4 : k0_cond4 i = 1#1), ∀ a, (k0_off387 v769) a + S1x3x40x224.size a ≤ S256x3x224x224.size a)
theorem k0_mult108_dvd : ∀ (i : grid0.Coords) (v769 : BitVec 32) (k0_hw108 : k0_chk108 i v769), ∀ (k0_h4 : k0_cond4 i = 1#1), 8 ∣ (k0_mult108 v769).toNat := fun i v769 k0_hw108 k0_h4 => k0_hw108.1 k0_h4
theorem k0_off387_inb : ∀ (i : grid0.Coords) (v769 : BitVec 32) (k0_hw108 : k0_chk108 i v769), ∀ (k0_h4 : k0_cond4 i = 1#1), ∀ a, (k0_off387 v769) a + S1x3x40x224.size a ≤ S256x3x224x224.size a := fun i v769 k0_hw108 k0_h4 => k0_hw108.2 k0_h4

def k0_off388 : Fin 5 → Nat :=
  let c13_i32_501 : BitVec 32 := 13#32
  let c4_i32_502 : BitVec 32 := 4#32
  let v768 : BitVec 32 := Scalar.remsi c13_i32_501 c4_i32_502
  let c11_i32_513 : BitVec 32 := 11#32
  let c0_i32_517 : BitVec 32 := 0#32
  let c0_i32_518 : BitVec 32 := 0#32
  let c0_i32_519 : BitVec 32 := 0#32
  ![v768.toNat, 11, 0, 0, 0]
def k0_mult109 (v797 : BitVec 32) : BitVec 32 :=
  let c0_i32_524 : BitVec 32 := 0#32
  let v799 : BitVec 1 := Scalar.cmpi .sgt v797 c0_i32_524
  let v800 : BitVec 32 := Scalar.extui v799
  let c0_i32_525 : BitVec 32 := 0#32
  let v801 : BitVec 1 := Scalar.cmpi .slt v797 c0_i32_525
  let v802 : BitVec 32 := Scalar.extui v801
  let v803 : BitVec 32 := Scalar.subi v800 v802
  let c8_i32_523 : BitVec 32 := 8#32
  let c0_i32_526 : BitVec 32 := 0#32
  let v804 : BitVec 1 := Scalar.cmpi .sgt c8_i32_523 c0_i32_526
  let v805 : BitVec 32 := Scalar.extui v804
  let c0_i32_527 : BitVec 32 := 0#32
  let v806 : BitVec 1 := Scalar.cmpi .slt c8_i32_523 c0_i32_527
  let v807 : BitVec 32 := Scalar.extui v806
  let v808 : BitVec 32 := Scalar.subi v805 v807
  let v809 : BitVec 1 := Scalar.cmpi .ne v803 v808
  let v810 : BitVec 32 := Scalar.remsi v797 c8_i32_523
  let c0_i32_528 : BitVec 32 := 0#32
  let v811 : BitVec 1 := Scalar.cmpi .ne v810 c0_i32_528
  let v812 : BitVec 1 := Scalar.andi v809 v811
  let v798 : BitVec 32 := Scalar.divsi v797 c8_i32_523
  let c1_i32_529 : BitVec 32 := 1#32
  let v813 : BitVec 32 := Scalar.subi v798 c1_i32_529
  let v814 : BitVec 32 := Scalar.select v812 v813 v798
  let c8_i32_530 : BitVec 32 := 8#32
  let v815 : BitVec 32 := Scalar.muli v814 c8_i32_530
  let c184_i32_531 : BitVec 32 := 184#32
  let v816 : BitVec 32 := Scalar.minsi v815 c184_i32_531
  v816

def k0_off389 : Fin 2 → Nat :=
  let c13_i32_520 : BitVec 32 := 13#32
  let c4_i32_521 : BitVec 32 := 4#32
  let v796 : BitVec 32 := Scalar.remsi c13_i32_520 c4_i32_521
  let c12_i32_533 : BitVec 32 := 12#32
  ![v796.toNat, 12]
def k0_off390 (v797 : BitVec 32) : Fin 4 → Nat :=
  let c220_i32 : BitVec 32 := 220#32
  let c0_i32_534 : BitVec 32 := 0#32
  let c0_i32_524 : BitVec 32 := 0#32
  let v799 : BitVec 1 := Scalar.cmpi .sgt v797 c0_i32_524
  let v800 : BitVec 32 := Scalar.extui v799
  let c0_i32_525 : BitVec 32 := 0#32
  let v801 : BitVec 1 := Scalar.cmpi .slt v797 c0_i32_525
  let v802 : BitVec 32 := Scalar.extui v801
  let v803 : BitVec 32 := Scalar.subi v800 v802
  let c8_i32_523 : BitVec 32 := 8#32
  let c0_i32_526 : BitVec 32 := 0#32
  let v804 : BitVec 1 := Scalar.cmpi .sgt c8_i32_523 c0_i32_526
  let v805 : BitVec 32 := Scalar.extui v804
  let c0_i32_527 : BitVec 32 := 0#32
  let v806 : BitVec 1 := Scalar.cmpi .slt c8_i32_523 c0_i32_527
  let v807 : BitVec 32 := Scalar.extui v806
  let v808 : BitVec 32 := Scalar.subi v805 v807
  let v809 : BitVec 1 := Scalar.cmpi .ne v803 v808
  let v810 : BitVec 32 := Scalar.remsi v797 c8_i32_523
  let c0_i32_528 : BitVec 32 := 0#32
  let v811 : BitVec 1 := Scalar.cmpi .ne v810 c0_i32_528
  let v812 : BitVec 1 := Scalar.andi v809 v811
  let v798 : BitVec 32 := Scalar.divsi v797 c8_i32_523
  let c1_i32_529 : BitVec 32 := 1#32
  let v813 : BitVec 32 := Scalar.subi v798 c1_i32_529
  let v814 : BitVec 32 := Scalar.select v812 v813 v798
  let c8_i32_530 : BitVec 32 := 8#32
  let v815 : BitVec 32 := Scalar.muli v814 c8_i32_530
  let c184_i32_531 : BitVec 32 := 184#32
  let v816 : BitVec 32 := Scalar.minsi v815 c184_i32_531
  let v817 : BitVec 32 := v816
  let c0_i32_535 : BitVec 32 := 0#32
  ![220, 0, v817.toNat, 0]

def k0_chk109 (i : grid0.Coords) (v797 : BitVec 32) : Prop :=
  (∀ (k0_h4 : k0_cond4 i = 1#1), 8 ∣ (k0_mult109 v797).toNat) ∧
  (∀ (k0_h4 : k0_cond4 i = 1#1), ∀ a, (k0_off390 v797) a + S1x3x40x224.size a ≤ S256x3x224x224.size a)
theorem k0_mult109_dvd : ∀ (i : grid0.Coords) (v797 : BitVec 32) (k0_hw109 : k0_chk109 i v797), ∀ (k0_h4 : k0_cond4 i = 1#1), 8 ∣ (k0_mult109 v797).toNat := fun i v797 k0_hw109 k0_h4 => k0_hw109.1 k0_h4
theorem k0_off390_inb : ∀ (i : grid0.Coords) (v797 : BitVec 32) (k0_hw109 : k0_chk109 i v797), ∀ (k0_h4 : k0_cond4 i = 1#1), ∀ a, (k0_off390 v797) a + S1x3x40x224.size a ≤ S256x3x224x224.size a := fun i v797 k0_hw109 k0_h4 => k0_hw109.2 k0_h4

def k0_off391 : Fin 5 → Nat :=
  let c13_i32_520 : BitVec 32 := 13#32
  let c4_i32_521 : BitVec 32 := 4#32
  let v796 : BitVec 32 := Scalar.remsi c13_i32_520 c4_i32_521
  let c12_i32_532 : BitVec 32 := 12#32
  let c0_i32_536 : BitVec 32 := 0#32
  let c0_i32_537 : BitVec 32 := 0#32
  let c0_i32_538 : BitVec 32 := 0#32
  ![v796.toNat, 12, 0, 0, 0]
def k0_mult110 (v825 : BitVec 32) : BitVec 32 :=
  let c0_i32_543 : BitVec 32 := 0#32
  let v827 : BitVec 1 := Scalar.cmpi .sgt v825 c0_i32_543
  let v828 : BitVec 32 := Scalar.extui v827
  let c0_i32_544 : BitVec 32 := 0#32
  let v829 : BitVec 1 := Scalar.cmpi .slt v825 c0_i32_544
  let v830 : BitVec 32 := Scalar.extui v829
  let v831 : BitVec 32 := Scalar.subi v828 v830
  let c8_i32_542 : BitVec 32 := 8#32
  let c0_i32_545 : BitVec 32 := 0#32
  let v832 : BitVec 1 := Scalar.cmpi .sgt c8_i32_542 c0_i32_545
  let v833 : BitVec 32 := Scalar.extui v832
  let c0_i32_546 : BitVec 32 := 0#32
  let v834 : BitVec 1 := Scalar.cmpi .slt c8_i32_542 c0_i32_546
  let v835 : BitVec 32 := Scalar.extui v834
  let v836 : BitVec 32 := Scalar.subi v833 v835
  let v837 : BitVec 1 := Scalar.cmpi .ne v831 v836
  let v838 : BitVec 32 := Scalar.remsi v825 c8_i32_542
  let c0_i32_547 : BitVec 32 := 0#32
  let v839 : BitVec 1 := Scalar.cmpi .ne v838 c0_i32_547
  let v840 : BitVec 1 := Scalar.andi v837 v839
  let v826 : BitVec 32 := Scalar.divsi v825 c8_i32_542
  let c1_i32_548 : BitVec 32 := 1#32
  let v841 : BitVec 32 := Scalar.subi v826 c1_i32_548
  let v842 : BitVec 32 := Scalar.select v840 v841 v826
  let c8_i32_549 : BitVec 32 := 8#32
  let v843 : BitVec 32 := Scalar.muli v842 c8_i32_549
  let c184_i32_550 : BitVec 32 := 184#32
  let v844 : BitVec 32 := Scalar.minsi v843 c184_i32_550
  v844

def k0_off392 : Fin 2 → Nat :=
  let c13_i32_539 : BitVec 32 := 13#32
  let c4_i32_540 : BitVec 32 := 4#32
  let v824 : BitVec 32 := Scalar.remsi c13_i32_539 c4_i32_540
  let c13_i32_552 : BitVec 32 := 13#32
  ![v824.toNat, 13]
def k0_off393 (v825 : BitVec 32) : Fin 4 → Nat :=
  let c221_i32 : BitVec 32 := 221#32
  let c0_i32_553 : BitVec 32 := 0#32
  let c0_i32_543 : BitVec 32 := 0#32
  let v827 : BitVec 1 := Scalar.cmpi .sgt v825 c0_i32_543
  let v828 : BitVec 32 := Scalar.extui v827
  let c0_i32_544 : BitVec 32 := 0#32
  let v829 : BitVec 1 := Scalar.cmpi .slt v825 c0_i32_544
  let v830 : BitVec 32 := Scalar.extui v829
  let v831 : BitVec 32 := Scalar.subi v828 v830
  let c8_i32_542 : BitVec 32 := 8#32
  let c0_i32_545 : BitVec 32 := 0#32
  let v832 : BitVec 1 := Scalar.cmpi .sgt c8_i32_542 c0_i32_545
  let v833 : BitVec 32 := Scalar.extui v832
  let c0_i32_546 : BitVec 32 := 0#32
  let v834 : BitVec 1 := Scalar.cmpi .slt c8_i32_542 c0_i32_546
  let v835 : BitVec 32 := Scalar.extui v834
  let v836 : BitVec 32 := Scalar.subi v833 v835
  let v837 : BitVec 1 := Scalar.cmpi .ne v831 v836
  let v838 : BitVec 32 := Scalar.remsi v825 c8_i32_542
  let c0_i32_547 : BitVec 32 := 0#32
  let v839 : BitVec 1 := Scalar.cmpi .ne v838 c0_i32_547
  let v840 : BitVec 1 := Scalar.andi v837 v839
  let v826 : BitVec 32 := Scalar.divsi v825 c8_i32_542
  let c1_i32_548 : BitVec 32 := 1#32
  let v841 : BitVec 32 := Scalar.subi v826 c1_i32_548
  let v842 : BitVec 32 := Scalar.select v840 v841 v826
  let c8_i32_549 : BitVec 32 := 8#32
  let v843 : BitVec 32 := Scalar.muli v842 c8_i32_549
  let c184_i32_550 : BitVec 32 := 184#32
  let v844 : BitVec 32 := Scalar.minsi v843 c184_i32_550
  let v845 : BitVec 32 := v844
  let c0_i32_554 : BitVec 32 := 0#32
  ![221, 0, v845.toNat, 0]

def k0_chk110 (i : grid0.Coords) (v825 : BitVec 32) : Prop :=
  (∀ (k0_h4 : k0_cond4 i = 1#1), 8 ∣ (k0_mult110 v825).toNat) ∧
  (∀ (k0_h4 : k0_cond4 i = 1#1), ∀ a, (k0_off393 v825) a + S1x3x40x224.size a ≤ S256x3x224x224.size a)
theorem k0_mult110_dvd : ∀ (i : grid0.Coords) (v825 : BitVec 32) (k0_hw110 : k0_chk110 i v825), ∀ (k0_h4 : k0_cond4 i = 1#1), 8 ∣ (k0_mult110 v825).toNat := fun i v825 k0_hw110 k0_h4 => k0_hw110.1 k0_h4
theorem k0_off393_inb : ∀ (i : grid0.Coords) (v825 : BitVec 32) (k0_hw110 : k0_chk110 i v825), ∀ (k0_h4 : k0_cond4 i = 1#1), ∀ a, (k0_off393 v825) a + S1x3x40x224.size a ≤ S256x3x224x224.size a := fun i v825 k0_hw110 k0_h4 => k0_hw110.2 k0_h4

def k0_off394 : Fin 5 → Nat :=
  let c13_i32_539 : BitVec 32 := 13#32
  let c4_i32_540 : BitVec 32 := 4#32
  let v824 : BitVec 32 := Scalar.remsi c13_i32_539 c4_i32_540
  let c13_i32_551 : BitVec 32 := 13#32
  let c0_i32_555 : BitVec 32 := 0#32
  let c0_i32_556 : BitVec 32 := 0#32
  let c0_i32_557 : BitVec 32 := 0#32
  ![v824.toNat, 13, 0, 0, 0]
def k0_mult111 (v853 : BitVec 32) : BitVec 32 :=
  let c0_i32_562 : BitVec 32 := 0#32
  let v855 : BitVec 1 := Scalar.cmpi .sgt v853 c0_i32_562
  let v856 : BitVec 32 := Scalar.extui v855
  let c0_i32_563 : BitVec 32 := 0#32
  let v857 : BitVec 1 := Scalar.cmpi .slt v853 c0_i32_563
  let v858 : BitVec 32 := Scalar.extui v857
  let v859 : BitVec 32 := Scalar.subi v856 v858
  let c8_i32_561 : BitVec 32 := 8#32
  let c0_i32_564 : BitVec 32 := 0#32
  let v860 : BitVec 1 := Scalar.cmpi .sgt c8_i32_561 c0_i32_564
  let v861 : BitVec 32 := Scalar.extui v860
  let c0_i32_565 : BitVec 32 := 0#32
  let v862 : BitVec 1 := Scalar.cmpi .slt c8_i32_561 c0_i32_565
  let v863 : BitVec 32 := Scalar.extui v862
  let v864 : BitVec 32 := Scalar.subi v861 v863
  let v865 : BitVec 1 := Scalar.cmpi .ne v859 v864
  let v866 : BitVec 32 := Scalar.remsi v853 c8_i32_561
  let c0_i32_566 : BitVec 32 := 0#32
  let v867 : BitVec 1 := Scalar.cmpi .ne v866 c0_i32_566
  let v868 : BitVec 1 := Scalar.andi v865 v867
  let v854 : BitVec 32 := Scalar.divsi v853 c8_i32_561
  let c1_i32_567 : BitVec 32 := 1#32
  let v869 : BitVec 32 := Scalar.subi v854 c1_i32_567
  let v870 : BitVec 32 := Scalar.select v868 v869 v854
  let c8_i32_568 : BitVec 32 := 8#32
  let v871 : BitVec 32 := Scalar.muli v870 c8_i32_568
  let c184_i32_569 : BitVec 32 := 184#32
  let v872 : BitVec 32 := Scalar.minsi v871 c184_i32_569
  v872

def k0_off395 : Fin 2 → Nat :=
  let c13_i32_558 : BitVec 32 := 13#32
  let c4_i32_559 : BitVec 32 := 4#32
  let v852 : BitVec 32 := Scalar.remsi c13_i32_558 c4_i32_559
  let c14_i32_571 : BitVec 32 := 14#32
  ![v852.toNat, 14]
def k0_off396 (v853 : BitVec 32) : Fin 4 → Nat :=
  let c222_i32 : BitVec 32 := 222#32
  let c0_i32_572 : BitVec 32 := 0#32
  let c0_i32_562 : BitVec 32 := 0#32
  let v855 : BitVec 1 := Scalar.cmpi .sgt v853 c0_i32_562
  let v856 : BitVec 32 := Scalar.extui v855
  let c0_i32_563 : BitVec 32 := 0#32
  let v857 : BitVec 1 := Scalar.cmpi .slt v853 c0_i32_563
  let v858 : BitVec 32 := Scalar.extui v857
  let v859 : BitVec 32 := Scalar.subi v856 v858
  let c8_i32_561 : BitVec 32 := 8#32
  let c0_i32_564 : BitVec 32 := 0#32
  let v860 : BitVec 1 := Scalar.cmpi .sgt c8_i32_561 c0_i32_564
  let v861 : BitVec 32 := Scalar.extui v860
  let c0_i32_565 : BitVec 32 := 0#32
  let v862 : BitVec 1 := Scalar.cmpi .slt c8_i32_561 c0_i32_565
  let v863 : BitVec 32 := Scalar.extui v862
  let v864 : BitVec 32 := Scalar.subi v861 v863
  let v865 : BitVec 1 := Scalar.cmpi .ne v859 v864
  let v866 : BitVec 32 := Scalar.remsi v853 c8_i32_561
  let c0_i32_566 : BitVec 32 := 0#32
  let v867 : BitVec 1 := Scalar.cmpi .ne v866 c0_i32_566
  let v868 : BitVec 1 := Scalar.andi v865 v867
  let v854 : BitVec 32 := Scalar.divsi v853 c8_i32_561
  let c1_i32_567 : BitVec 32 := 1#32
  let v869 : BitVec 32 := Scalar.subi v854 c1_i32_567
  let v870 : BitVec 32 := Scalar.select v868 v869 v854
  let c8_i32_568 : BitVec 32 := 8#32
  let v871 : BitVec 32 := Scalar.muli v870 c8_i32_568
  let c184_i32_569 : BitVec 32 := 184#32
  let v872 : BitVec 32 := Scalar.minsi v871 c184_i32_569
  let v873 : BitVec 32 := v872
  let c0_i32_573 : BitVec 32 := 0#32
  ![222, 0, v873.toNat, 0]

def k0_chk111 (i : grid0.Coords) (v853 : BitVec 32) : Prop :=
  (∀ (k0_h4 : k0_cond4 i = 1#1), 8 ∣ (k0_mult111 v853).toNat) ∧
  (∀ (k0_h4 : k0_cond4 i = 1#1), ∀ a, (k0_off396 v853) a + S1x3x40x224.size a ≤ S256x3x224x224.size a)
theorem k0_mult111_dvd : ∀ (i : grid0.Coords) (v853 : BitVec 32) (k0_hw111 : k0_chk111 i v853), ∀ (k0_h4 : k0_cond4 i = 1#1), 8 ∣ (k0_mult111 v853).toNat := fun i v853 k0_hw111 k0_h4 => k0_hw111.1 k0_h4
theorem k0_off396_inb : ∀ (i : grid0.Coords) (v853 : BitVec 32) (k0_hw111 : k0_chk111 i v853), ∀ (k0_h4 : k0_cond4 i = 1#1), ∀ a, (k0_off396 v853) a + S1x3x40x224.size a ≤ S256x3x224x224.size a := fun i v853 k0_hw111 k0_h4 => k0_hw111.2 k0_h4

def k0_off397 : Fin 5 → Nat :=
  let c13_i32_558 : BitVec 32 := 13#32
  let c4_i32_559 : BitVec 32 := 4#32
  let v852 : BitVec 32 := Scalar.remsi c13_i32_558 c4_i32_559
  let c14_i32_570 : BitVec 32 := 14#32
  let c0_i32_574 : BitVec 32 := 0#32
  let c0_i32_575 : BitVec 32 := 0#32
  let c0_i32_576 : BitVec 32 := 0#32
  ![v852.toNat, 14, 0, 0, 0]
def k0_mult112 (v881 : BitVec 32) : BitVec 32 :=
  let c0_i32_581 : BitVec 32 := 0#32
  let v883 : BitVec 1 := Scalar.cmpi .sgt v881 c0_i32_581
  let v884 : BitVec 32 := Scalar.extui v883
  let c0_i32_582 : BitVec 32 := 0#32
  let v885 : BitVec 1 := Scalar.cmpi .slt v881 c0_i32_582
  let v886 : BitVec 32 := Scalar.extui v885
  let v887 : BitVec 32 := Scalar.subi v884 v886
  let c8_i32_580 : BitVec 32 := 8#32
  let c0_i32_583 : BitVec 32 := 0#32
  let v888 : BitVec 1 := Scalar.cmpi .sgt c8_i32_580 c0_i32_583
  let v889 : BitVec 32 := Scalar.extui v888
  let c0_i32_584 : BitVec 32 := 0#32
  let v890 : BitVec 1 := Scalar.cmpi .slt c8_i32_580 c0_i32_584
  let v891 : BitVec 32 := Scalar.extui v890
  let v892 : BitVec 32 := Scalar.subi v889 v891
  let v893 : BitVec 1 := Scalar.cmpi .ne v887 v892
  let v894 : BitVec 32 := Scalar.remsi v881 c8_i32_580
  let c0_i32_585 : BitVec 32 := 0#32
  let v895 : BitVec 1 := Scalar.cmpi .ne v894 c0_i32_585
  let v896 : BitVec 1 := Scalar.andi v893 v895
  let v882 : BitVec 32 := Scalar.divsi v881 c8_i32_580
  let c1_i32_586 : BitVec 32 := 1#32
  let v897 : BitVec 32 := Scalar.subi v882 c1_i32_586
  let v898 : BitVec 32 := Scalar.select v896 v897 v882
  let c8_i32_587 : BitVec 32 := 8#32
  let v899 : BitVec 32 := Scalar.muli v898 c8_i32_587
  let c184_i32_588 : BitVec 32 := 184#32
  let v900 : BitVec 32 := Scalar.minsi v899 c184_i32_588
  v900

def k0_off398 : Fin 2 → Nat :=
  let c13_i32_577 : BitVec 32 := 13#32
  let c4_i32_578 : BitVec 32 := 4#32
  let v880 : BitVec 32 := Scalar.remsi c13_i32_577 c4_i32_578
  let c15_i32_590 : BitVec 32 := 15#32
  ![v880.toNat, 15]
def k0_off399 (v881 : BitVec 32) : Fin 4 → Nat :=
  let c223_i32 : BitVec 32 := 223#32
  let c0_i32_591 : BitVec 32 := 0#32
  let c0_i32_581 : BitVec 32 := 0#32
  let v883 : BitVec 1 := Scalar.cmpi .sgt v881 c0_i32_581
  let v884 : BitVec 32 := Scalar.extui v883
  let c0_i32_582 : BitVec 32 := 0#32
  let v885 : BitVec 1 := Scalar.cmpi .slt v881 c0_i32_582
  let v886 : BitVec 32 := Scalar.extui v885
  let v887 : BitVec 32 := Scalar.subi v884 v886
  let c8_i32_580 : BitVec 32 := 8#32
  let c0_i32_583 : BitVec 32 := 0#32
  let v888 : BitVec 1 := Scalar.cmpi .sgt c8_i32_580 c0_i32_583
  let v889 : BitVec 32 := Scalar.extui v888
  let c0_i32_584 : BitVec 32 := 0#32
  let v890 : BitVec 1 := Scalar.cmpi .slt c8_i32_580 c0_i32_584
  let v891 : BitVec 32 := Scalar.extui v890
  let v892 : BitVec 32 := Scalar.subi v889 v891
  let v893 : BitVec 1 := Scalar.cmpi .ne v887 v892
  let v894 : BitVec 32 := Scalar.remsi v881 c8_i32_580
  let c0_i32_585 : BitVec 32 := 0#32
  let v895 : BitVec 1 := Scalar.cmpi .ne v894 c0_i32_585
  let v896 : BitVec 1 := Scalar.andi v893 v895
  let v882 : BitVec 32 := Scalar.divsi v881 c8_i32_580
  let c1_i32_586 : BitVec 32 := 1#32
  let v897 : BitVec 32 := Scalar.subi v882 c1_i32_586
  let v898 : BitVec 32 := Scalar.select v896 v897 v882
  let c8_i32_587 : BitVec 32 := 8#32
  let v899 : BitVec 32 := Scalar.muli v898 c8_i32_587
  let c184_i32_588 : BitVec 32 := 184#32
  let v900 : BitVec 32 := Scalar.minsi v899 c184_i32_588
  let v901 : BitVec 32 := v900
  let c0_i32_592 : BitVec 32 := 0#32
  ![223, 0, v901.toNat, 0]

def k0_chk112 (i : grid0.Coords) (v881 : BitVec 32) : Prop :=
  (∀ (k0_h4 : k0_cond4 i = 1#1), 8 ∣ (k0_mult112 v881).toNat) ∧
  (∀ (k0_h4 : k0_cond4 i = 1#1), ∀ a, (k0_off399 v881) a + S1x3x40x224.size a ≤ S256x3x224x224.size a)
theorem k0_mult112_dvd : ∀ (i : grid0.Coords) (v881 : BitVec 32) (k0_hw112 : k0_chk112 i v881), ∀ (k0_h4 : k0_cond4 i = 1#1), 8 ∣ (k0_mult112 v881).toNat := fun i v881 k0_hw112 k0_h4 => k0_hw112.1 k0_h4
theorem k0_off399_inb : ∀ (i : grid0.Coords) (v881 : BitVec 32) (k0_hw112 : k0_chk112 i v881), ∀ (k0_h4 : k0_cond4 i = 1#1), ∀ a, (k0_off399 v881) a + S1x3x40x224.size a ≤ S256x3x224x224.size a := fun i v881 k0_hw112 k0_h4 => k0_hw112.2 k0_h4

def k0_off400 : Fin 5 → Nat :=
  let c13_i32_577 : BitVec 32 := 13#32
  let c4_i32_578 : BitVec 32 := 4#32
  let v880 : BitVec 32 := Scalar.remsi c13_i32_577 c4_i32_578
  let c15_i32_589 : BitVec 32 := 15#32
  let c0_i32_593 : BitVec 32 := 0#32
  let c0_i32_594 : BitVec 32 := 0#32
  let c0_i32_595 : BitVec 32 := 0#32
  ![v880.toNat, 15, 0, 0, 0]
def k0_mult113 (v909 : BitVec 32) : BitVec 32 :=
  let c0_i32_600 : BitVec 32 := 0#32
  let v911 : BitVec 1 := Scalar.cmpi .sgt v909 c0_i32_600
  let v912 : BitVec 32 := Scalar.extui v911
  let c0_i32_601 : BitVec 32 := 0#32
  let v913 : BitVec 1 := Scalar.cmpi .slt v909 c0_i32_601
  let v914 : BitVec 32 := Scalar.extui v913
  let v915 : BitVec 32 := Scalar.subi v912 v914
  let c8_i32_599 : BitVec 32 := 8#32
  let c0_i32_602 : BitVec 32 := 0#32
  let v916 : BitVec 1 := Scalar.cmpi .sgt c8_i32_599 c0_i32_602
  let v917 : BitVec 32 := Scalar.extui v916
  let c0_i32_603 : BitVec 32 := 0#32
  let v918 : BitVec 1 := Scalar.cmpi .slt c8_i32_599 c0_i32_603
  let v919 : BitVec 32 := Scalar.extui v918
  let v920 : BitVec 32 := Scalar.subi v917 v919
  let v921 : BitVec 1 := Scalar.cmpi .ne v915 v920
  let v922 : BitVec 32 := Scalar.remsi v909 c8_i32_599
  let c0_i32_604 : BitVec 32 := 0#32
  let v923 : BitVec 1 := Scalar.cmpi .ne v922 c0_i32_604
  let v924 : BitVec 1 := Scalar.andi v921 v923
  let v910 : BitVec 32 := Scalar.divsi v909 c8_i32_599
  let c1_i32_605 : BitVec 32 := 1#32
  let v925 : BitVec 32 := Scalar.subi v910 c1_i32_605
  let v926 : BitVec 32 := Scalar.select v924 v925 v910
  let c8_i32_606 : BitVec 32 := 8#32
  let v927 : BitVec 32 := Scalar.muli v926 c8_i32_606
  let c184_i32_607 : BitVec 32 := 184#32
  let v928 : BitVec 32 := Scalar.minsi v927 c184_i32_607
  v928

def k0_off401 : Fin 2 → Nat :=
  let c14_i32_596 : BitVec 32 := 14#32
  let c4_i32_597 : BitVec 32 := 4#32
  let v908 : BitVec 32 := Scalar.remsi c14_i32_596 c4_i32_597
  let c0_i32_609 : BitVec 32 := 0#32
  ![v908.toNat, 0]
def k0_off402 (v909 : BitVec 32) : Fin 4 → Nat :=
  let c224_i32 : BitVec 32 := 224#32
  let c0_i32_610 : BitVec 32 := 0#32
  let c0_i32_600 : BitVec 32 := 0#32
  let v911 : BitVec 1 := Scalar.cmpi .sgt v909 c0_i32_600
  let v912 : BitVec 32 := Scalar.extui v911
  let c0_i32_601 : BitVec 32 := 0#32
  let v913 : BitVec 1 := Scalar.cmpi .slt v909 c0_i32_601
  let v914 : BitVec 32 := Scalar.extui v913
  let v915 : BitVec 32 := Scalar.subi v912 v914
  let c8_i32_599 : BitVec 32 := 8#32
  let c0_i32_602 : BitVec 32 := 0#32
  let v916 : BitVec 1 := Scalar.cmpi .sgt c8_i32_599 c0_i32_602
  let v917 : BitVec 32 := Scalar.extui v916
  let c0_i32_603 : BitVec 32 := 0#32
  let v918 : BitVec 1 := Scalar.cmpi .slt c8_i32_599 c0_i32_603
  let v919 : BitVec 32 := Scalar.extui v918
  let v920 : BitVec 32 := Scalar.subi v917 v919
  let v921 : BitVec 1 := Scalar.cmpi .ne v915 v920
  let v922 : BitVec 32 := Scalar.remsi v909 c8_i32_599
  let c0_i32_604 : BitVec 32 := 0#32
  let v923 : BitVec 1 := Scalar.cmpi .ne v922 c0_i32_604
  let v924 : BitVec 1 := Scalar.andi v921 v923
  let v910 : BitVec 32 := Scalar.divsi v909 c8_i32_599
  let c1_i32_605 : BitVec 32 := 1#32
  let v925 : BitVec 32 := Scalar.subi v910 c1_i32_605
  let v926 : BitVec 32 := Scalar.select v924 v925 v910
  let c8_i32_606 : BitVec 32 := 8#32
  let v927 : BitVec 32 := Scalar.muli v926 c8_i32_606
  let c184_i32_607 : BitVec 32 := 184#32
  let v928 : BitVec 32 := Scalar.minsi v927 c184_i32_607
  let v929 : BitVec 32 := v928
  let c0_i32_611 : BitVec 32 := 0#32
  ![224, 0, v929.toNat, 0]

def k0_chk113 (i : grid0.Coords) (v909 : BitVec 32) : Prop :=
  (∀ (k0_h4 : k0_cond4 i = 1#1), 8 ∣ (k0_mult113 v909).toNat) ∧
  (∀ (k0_h4 : k0_cond4 i = 1#1), ∀ a, (k0_off402 v909) a + S1x3x40x224.size a ≤ S256x3x224x224.size a)
theorem k0_mult113_dvd : ∀ (i : grid0.Coords) (v909 : BitVec 32) (k0_hw113 : k0_chk113 i v909), ∀ (k0_h4 : k0_cond4 i = 1#1), 8 ∣ (k0_mult113 v909).toNat := fun i v909 k0_hw113 k0_h4 => k0_hw113.1 k0_h4
theorem k0_off402_inb : ∀ (i : grid0.Coords) (v909 : BitVec 32) (k0_hw113 : k0_chk113 i v909), ∀ (k0_h4 : k0_cond4 i = 1#1), ∀ a, (k0_off402 v909) a + S1x3x40x224.size a ≤ S256x3x224x224.size a := fun i v909 k0_hw113 k0_h4 => k0_hw113.2 k0_h4

def k0_off403 : Fin 5 → Nat :=
  let c14_i32_596 : BitVec 32 := 14#32
  let c4_i32_597 : BitVec 32 := 4#32
  let v908 : BitVec 32 := Scalar.remsi c14_i32_596 c4_i32_597
  let c0_i32_608 : BitVec 32 := 0#32
  let c0_i32_612 : BitVec 32 := 0#32
  let c0_i32_613 : BitVec 32 := 0#32
  let c0_i32_614 : BitVec 32 := 0#32
  ![v908.toNat, 0, 0, 0, 0]
def k0_mult114 (v937 : BitVec 32) : BitVec 32 :=
  let c0_i32_619 : BitVec 32 := 0#32
  let v939 : BitVec 1 := Scalar.cmpi .sgt v937 c0_i32_619
  let v940 : BitVec 32 := Scalar.extui v939
  let c0_i32_620 : BitVec 32 := 0#32
  let v941 : BitVec 1 := Scalar.cmpi .slt v937 c0_i32_620
  let v942 : BitVec 32 := Scalar.extui v941
  let v943 : BitVec 32 := Scalar.subi v940 v942
  let c8_i32_618 : BitVec 32 := 8#32
  let c0_i32_621 : BitVec 32 := 0#32
  let v944 : BitVec 1 := Scalar.cmpi .sgt c8_i32_618 c0_i32_621
  let v945 : BitVec 32 := Scalar.extui v944
  let c0_i32_622 : BitVec 32 := 0#32
  let v946 : BitVec 1 := Scalar.cmpi .slt c8_i32_618 c0_i32_622
  let v947 : BitVec 32 := Scalar.extui v946
  let v948 : BitVec 32 := Scalar.subi v945 v947
  let v949 : BitVec 1 := Scalar.cmpi .ne v943 v948
  let v950 : BitVec 32 := Scalar.remsi v937 c8_i32_618
  let c0_i32_623 : BitVec 32 := 0#32
  let v951 : BitVec 1 := Scalar.cmpi .ne v950 c0_i32_623
  let v952 : BitVec 1 := Scalar.andi v949 v951
  let v938 : BitVec 32 := Scalar.divsi v937 c8_i32_618
  let c1_i32_624 : BitVec 32 := 1#32
  let v953 : BitVec 32 := Scalar.subi v938 c1_i32_624
  let v954 : BitVec 32 := Scalar.select v952 v953 v938
  let c8_i32_625 : BitVec 32 := 8#32
  let v955 : BitVec 32 := Scalar.muli v954 c8_i32_625
  let c184_i32_626 : BitVec 32 := 184#32
  let v956 : BitVec 32 := Scalar.minsi v955 c184_i32_626
  v956

def k0_off404 : Fin 2 → Nat :=
  let c14_i32_615 : BitVec 32 := 14#32
  let c4_i32_616 : BitVec 32 := 4#32
  let v936 : BitVec 32 := Scalar.remsi c14_i32_615 c4_i32_616
  let c1_i32_628 : BitVec 32 := 1#32
  ![v936.toNat, 1]
def k0_off405 (v937 : BitVec 32) : Fin 4 → Nat :=
  let c225_i32 : BitVec 32 := 225#32
  let c0_i32_629 : BitVec 32 := 0#32
  let c0_i32_619 : BitVec 32 := 0#32
  let v939 : BitVec 1 := Scalar.cmpi .sgt v937 c0_i32_619
  let v940 : BitVec 32 := Scalar.extui v939
  let c0_i32_620 : BitVec 32 := 0#32
  let v941 : BitVec 1 := Scalar.cmpi .slt v937 c0_i32_620
  let v942 : BitVec 32 := Scalar.extui v941
  let v943 : BitVec 32 := Scalar.subi v940 v942
  let c8_i32_618 : BitVec 32 := 8#32
  let c0_i32_621 : BitVec 32 := 0#32
  let v944 : BitVec 1 := Scalar.cmpi .sgt c8_i32_618 c0_i32_621
  let v945 : BitVec 32 := Scalar.extui v944
  let c0_i32_622 : BitVec 32 := 0#32
  let v946 : BitVec 1 := Scalar.cmpi .slt c8_i32_618 c0_i32_622
  let v947 : BitVec 32 := Scalar.extui v946
  let v948 : BitVec 32 := Scalar.subi v945 v947
  let v949 : BitVec 1 := Scalar.cmpi .ne v943 v948
  let v950 : BitVec 32 := Scalar.remsi v937 c8_i32_618
  let c0_i32_623 : BitVec 32 := 0#32
  let v951 : BitVec 1 := Scalar.cmpi .ne v950 c0_i32_623
  let v952 : BitVec 1 := Scalar.andi v949 v951
  let v938 : BitVec 32 := Scalar.divsi v937 c8_i32_618
  let c1_i32_624 : BitVec 32 := 1#32
  let v953 : BitVec 32 := Scalar.subi v938 c1_i32_624
  let v954 : BitVec 32 := Scalar.select v952 v953 v938
  let c8_i32_625 : BitVec 32 := 8#32
  let v955 : BitVec 32 := Scalar.muli v954 c8_i32_625
  let c184_i32_626 : BitVec 32 := 184#32
  let v956 : BitVec 32 := Scalar.minsi v955 c184_i32_626
  let v957 : BitVec 32 := v956
  let c0_i32_630 : BitVec 32 := 0#32
  ![225, 0, v957.toNat, 0]

def k0_chk114 (i : grid0.Coords) (v937 : BitVec 32) : Prop :=
  (∀ (k0_h4 : k0_cond4 i = 1#1), 8 ∣ (k0_mult114 v937).toNat) ∧
  (∀ (k0_h4 : k0_cond4 i = 1#1), ∀ a, (k0_off405 v937) a + S1x3x40x224.size a ≤ S256x3x224x224.size a)
theorem k0_mult114_dvd : ∀ (i : grid0.Coords) (v937 : BitVec 32) (k0_hw114 : k0_chk114 i v937), ∀ (k0_h4 : k0_cond4 i = 1#1), 8 ∣ (k0_mult114 v937).toNat := fun i v937 k0_hw114 k0_h4 => k0_hw114.1 k0_h4
theorem k0_off405_inb : ∀ (i : grid0.Coords) (v937 : BitVec 32) (k0_hw114 : k0_chk114 i v937), ∀ (k0_h4 : k0_cond4 i = 1#1), ∀ a, (k0_off405 v937) a + S1x3x40x224.size a ≤ S256x3x224x224.size a := fun i v937 k0_hw114 k0_h4 => k0_hw114.2 k0_h4

def k0_off406 : Fin 5 → Nat :=
  let c14_i32_615 : BitVec 32 := 14#32
  let c4_i32_616 : BitVec 32 := 4#32
  let v936 : BitVec 32 := Scalar.remsi c14_i32_615 c4_i32_616
  let c1_i32_627 : BitVec 32 := 1#32
  let c0_i32_631 : BitVec 32 := 0#32
  let c0_i32_632 : BitVec 32 := 0#32
  let c0_i32_633 : BitVec 32 := 0#32
  ![v936.toNat, 1, 0, 0, 0]
def k0_mult115 (v965 : BitVec 32) : BitVec 32 :=
  let c0_i32_638 : BitVec 32 := 0#32
  let v967 : BitVec 1 := Scalar.cmpi .sgt v965 c0_i32_638
  let v968 : BitVec 32 := Scalar.extui v967
  let c0_i32_639 : BitVec 32 := 0#32
  let v969 : BitVec 1 := Scalar.cmpi .slt v965 c0_i32_639
  let v970 : BitVec 32 := Scalar.extui v969
  let v971 : BitVec 32 := Scalar.subi v968 v970
  let c8_i32_637 : BitVec 32 := 8#32
  let c0_i32_640 : BitVec 32 := 0#32
  let v972 : BitVec 1 := Scalar.cmpi .sgt c8_i32_637 c0_i32_640
  let v973 : BitVec 32 := Scalar.extui v972
  let c0_i32_641 : BitVec 32 := 0#32
  let v974 : BitVec 1 := Scalar.cmpi .slt c8_i32_637 c0_i32_641
  let v975 : BitVec 32 := Scalar.extui v974
  let v976 : BitVec 32 := Scalar.subi v973 v975
  let v977 : BitVec 1 := Scalar.cmpi .ne v971 v976
  let v978 : BitVec 32 := Scalar.remsi v965 c8_i32_637
  let c0_i32_642 : BitVec 32 := 0#32
  let v979 : BitVec 1 := Scalar.cmpi .ne v978 c0_i32_642
  let v980 : BitVec 1 := Scalar.andi v977 v979
  let v966 : BitVec 32 := Scalar.divsi v965 c8_i32_637
  let c1_i32_643 : BitVec 32 := 1#32
  let v981 : BitVec 32 := Scalar.subi v966 c1_i32_643
  let v982 : BitVec 32 := Scalar.select v980 v981 v966
  let c8_i32_644 : BitVec 32 := 8#32
  let v983 : BitVec 32 := Scalar.muli v982 c8_i32_644
  let c184_i32_645 : BitVec 32 := 184#32
  let v984 : BitVec 32 := Scalar.minsi v983 c184_i32_645
  v984

def k0_off407 : Fin 2 → Nat :=
  let c14_i32_634 : BitVec 32 := 14#32
  let c4_i32_635 : BitVec 32 := 4#32
  let v964 : BitVec 32 := Scalar.remsi c14_i32_634 c4_i32_635
  let c2_i32_647 : BitVec 32 := 2#32
  ![v964.toNat, 2]
def k0_off408 (v965 : BitVec 32) : Fin 4 → Nat :=
  let c226_i32 : BitVec 32 := 226#32
  let c0_i32_648 : BitVec 32 := 0#32
  let c0_i32_638 : BitVec 32 := 0#32
  let v967 : BitVec 1 := Scalar.cmpi .sgt v965 c0_i32_638
  let v968 : BitVec 32 := Scalar.extui v967
  let c0_i32_639 : BitVec 32 := 0#32
  let v969 : BitVec 1 := Scalar.cmpi .slt v965 c0_i32_639
  let v970 : BitVec 32 := Scalar.extui v969
  let v971 : BitVec 32 := Scalar.subi v968 v970
  let c8_i32_637 : BitVec 32 := 8#32
  let c0_i32_640 : BitVec 32 := 0#32
  let v972 : BitVec 1 := Scalar.cmpi .sgt c8_i32_637 c0_i32_640
  let v973 : BitVec 32 := Scalar.extui v972
  let c0_i32_641 : BitVec 32 := 0#32
  let v974 : BitVec 1 := Scalar.cmpi .slt c8_i32_637 c0_i32_641
  let v975 : BitVec 32 := Scalar.extui v974
  let v976 : BitVec 32 := Scalar.subi v973 v975
  let v977 : BitVec 1 := Scalar.cmpi .ne v971 v976
  let v978 : BitVec 32 := Scalar.remsi v965 c8_i32_637
  let c0_i32_642 : BitVec 32 := 0#32
  let v979 : BitVec 1 := Scalar.cmpi .ne v978 c0_i32_642
  let v980 : BitVec 1 := Scalar.andi v977 v979
  let v966 : BitVec 32 := Scalar.divsi v965 c8_i32_637
  let c1_i32_643 : BitVec 32 := 1#32
  let v981 : BitVec 32 := Scalar.subi v966 c1_i32_643
  let v982 : BitVec 32 := Scalar.select v980 v981 v966
  let c8_i32_644 : BitVec 32 := 8#32
  let v983 : BitVec 32 := Scalar.muli v982 c8_i32_644
  let c184_i32_645 : BitVec 32 := 184#32
  let v984 : BitVec 32 := Scalar.minsi v983 c184_i32_645
  let v985 : BitVec 32 := v984
  let c0_i32_649 : BitVec 32 := 0#32
  ![226, 0, v985.toNat, 0]

def k0_chk115 (i : grid0.Coords) (v965 : BitVec 32) : Prop :=
  (∀ (k0_h4 : k0_cond4 i = 1#1), 8 ∣ (k0_mult115 v965).toNat) ∧
  (∀ (k0_h4 : k0_cond4 i = 1#1), ∀ a, (k0_off408 v965) a + S1x3x40x224.size a ≤ S256x3x224x224.size a)
theorem k0_mult115_dvd : ∀ (i : grid0.Coords) (v965 : BitVec 32) (k0_hw115 : k0_chk115 i v965), ∀ (k0_h4 : k0_cond4 i = 1#1), 8 ∣ (k0_mult115 v965).toNat := fun i v965 k0_hw115 k0_h4 => k0_hw115.1 k0_h4
theorem k0_off408_inb : ∀ (i : grid0.Coords) (v965 : BitVec 32) (k0_hw115 : k0_chk115 i v965), ∀ (k0_h4 : k0_cond4 i = 1#1), ∀ a, (k0_off408 v965) a + S1x3x40x224.size a ≤ S256x3x224x224.size a := fun i v965 k0_hw115 k0_h4 => k0_hw115.2 k0_h4

def k0_off409 : Fin 5 → Nat :=
  let c14_i32_634 : BitVec 32 := 14#32
  let c4_i32_635 : BitVec 32 := 4#32
  let v964 : BitVec 32 := Scalar.remsi c14_i32_634 c4_i32_635
  let c2_i32_646 : BitVec 32 := 2#32
  let c0_i32_650 : BitVec 32 := 0#32
  let c0_i32_651 : BitVec 32 := 0#32
  let c0_i32_652 : BitVec 32 := 0#32
  ![v964.toNat, 2, 0, 0, 0]
def k0_mult116 (v993 : BitVec 32) : BitVec 32 :=
  let c0_i32_657 : BitVec 32 := 0#32
  let v995 : BitVec 1 := Scalar.cmpi .sgt v993 c0_i32_657
  let v996 : BitVec 32 := Scalar.extui v995
  let c0_i32_658 : BitVec 32 := 0#32
  let v997 : BitVec 1 := Scalar.cmpi .slt v993 c0_i32_658
  let v998 : BitVec 32 := Scalar.extui v997
  let v999 : BitVec 32 := Scalar.subi v996 v998
  let c8_i32_656 : BitVec 32 := 8#32
  let c0_i32_659 : BitVec 32 := 0#32
  let v1000 : BitVec 1 := Scalar.cmpi .sgt c8_i32_656 c0_i32_659
  let v1001 : BitVec 32 := Scalar.extui v1000
  let c0_i32_660 : BitVec 32 := 0#32
  let v1002 : BitVec 1 := Scalar.cmpi .slt c8_i32_656 c0_i32_660
  let v1003 : BitVec 32 := Scalar.extui v1002
  let v1004 : BitVec 32 := Scalar.subi v1001 v1003
  let v1005 : BitVec 1 := Scalar.cmpi .ne v999 v1004
  let v1006 : BitVec 32 := Scalar.remsi v993 c8_i32_656
  let c0_i32_661 : BitVec 32 := 0#32
  let v1007 : BitVec 1 := Scalar.cmpi .ne v1006 c0_i32_661
  let v1008 : BitVec 1 := Scalar.andi v1005 v1007
  let v994 : BitVec 32 := Scalar.divsi v993 c8_i32_656
  let c1_i32_662 : BitVec 32 := 1#32
  let v1009 : BitVec 32 := Scalar.subi v994 c1_i32_662
  let v1010 : BitVec 32 := Scalar.select v1008 v1009 v994
  let c8_i32_663 : BitVec 32 := 8#32
  let v1011 : BitVec 32 := Scalar.muli v1010 c8_i32_663
  let c184_i32_664 : BitVec 32 := 184#32
  let v1012 : BitVec 32 := Scalar.minsi v1011 c184_i32_664
  v1012

def k0_off410 : Fin 2 → Nat :=
  let c14_i32_653 : BitVec 32 := 14#32
  let c4_i32_654 : BitVec 32 := 4#32
  let v992 : BitVec 32 := Scalar.remsi c14_i32_653 c4_i32_654
  let c3_i32_666 : BitVec 32 := 3#32
  ![v992.toNat, 3]
def k0_off411 (v993 : BitVec 32) : Fin 4 → Nat :=
  let c227_i32 : BitVec 32 := 227#32
  let c0_i32_667 : BitVec 32 := 0#32
  let c0_i32_657 : BitVec 32 := 0#32
  let v995 : BitVec 1 := Scalar.cmpi .sgt v993 c0_i32_657
  let v996 : BitVec 32 := Scalar.extui v995
  let c0_i32_658 : BitVec 32 := 0#32
  let v997 : BitVec 1 := Scalar.cmpi .slt v993 c0_i32_658
  let v998 : BitVec 32 := Scalar.extui v997
  let v999 : BitVec 32 := Scalar.subi v996 v998
  let c8_i32_656 : BitVec 32 := 8#32
  let c0_i32_659 : BitVec 32 := 0#32
  let v1000 : BitVec 1 := Scalar.cmpi .sgt c8_i32_656 c0_i32_659
  let v1001 : BitVec 32 := Scalar.extui v1000
  let c0_i32_660 : BitVec 32 := 0#32
  let v1002 : BitVec 1 := Scalar.cmpi .slt c8_i32_656 c0_i32_660
  let v1003 : BitVec 32 := Scalar.extui v1002
  let v1004 : BitVec 32 := Scalar.subi v1001 v1003
  let v1005 : BitVec 1 := Scalar.cmpi .ne v999 v1004
  let v1006 : BitVec 32 := Scalar.remsi v993 c8_i32_656
  let c0_i32_661 : BitVec 32 := 0#32
  let v1007 : BitVec 1 := Scalar.cmpi .ne v1006 c0_i32_661
  let v1008 : BitVec 1 := Scalar.andi v1005 v1007
  let v994 : BitVec 32 := Scalar.divsi v993 c8_i32_656
  let c1_i32_662 : BitVec 32 := 1#32
  let v1009 : BitVec 32 := Scalar.subi v994 c1_i32_662
  let v1010 : BitVec 32 := Scalar.select v1008 v1009 v994
  let c8_i32_663 : BitVec 32 := 8#32
  let v1011 : BitVec 32 := Scalar.muli v1010 c8_i32_663
  let c184_i32_664 : BitVec 32 := 184#32
  let v1012 : BitVec 32 := Scalar.minsi v1011 c184_i32_664
  let v1013 : BitVec 32 := v1012
  let c0_i32_668 : BitVec 32 := 0#32
  ![227, 0, v1013.toNat, 0]

def k0_chk116 (i : grid0.Coords) (v993 : BitVec 32) : Prop :=
  (∀ (k0_h4 : k0_cond4 i = 1#1), 8 ∣ (k0_mult116 v993).toNat) ∧
  (∀ (k0_h4 : k0_cond4 i = 1#1), ∀ a, (k0_off411 v993) a + S1x3x40x224.size a ≤ S256x3x224x224.size a)
theorem k0_mult116_dvd : ∀ (i : grid0.Coords) (v993 : BitVec 32) (k0_hw116 : k0_chk116 i v993), ∀ (k0_h4 : k0_cond4 i = 1#1), 8 ∣ (k0_mult116 v993).toNat := fun i v993 k0_hw116 k0_h4 => k0_hw116.1 k0_h4
theorem k0_off411_inb : ∀ (i : grid0.Coords) (v993 : BitVec 32) (k0_hw116 : k0_chk116 i v993), ∀ (k0_h4 : k0_cond4 i = 1#1), ∀ a, (k0_off411 v993) a + S1x3x40x224.size a ≤ S256x3x224x224.size a := fun i v993 k0_hw116 k0_h4 => k0_hw116.2 k0_h4

def k0_off412 : Fin 5 → Nat :=
  let c14_i32_653 : BitVec 32 := 14#32
  let c4_i32_654 : BitVec 32 := 4#32
  let v992 : BitVec 32 := Scalar.remsi c14_i32_653 c4_i32_654
  let c3_i32_665 : BitVec 32 := 3#32
  let c0_i32_669 : BitVec 32 := 0#32
  let c0_i32_670 : BitVec 32 := 0#32
  let c0_i32_671 : BitVec 32 := 0#32
  ![v992.toNat, 3, 0, 0, 0]
def k0_mult117 (v1021 : BitVec 32) : BitVec 32 :=
  let c0_i32_676 : BitVec 32 := 0#32
  let v1023 : BitVec 1 := Scalar.cmpi .sgt v1021 c0_i32_676
  let v1024 : BitVec 32 := Scalar.extui v1023
  let c0_i32_677 : BitVec 32 := 0#32
  let v1025 : BitVec 1 := Scalar.cmpi .slt v1021 c0_i32_677
  let v1026 : BitVec 32 := Scalar.extui v1025
  let v1027 : BitVec 32 := Scalar.subi v1024 v1026
  let c8_i32_675 : BitVec 32 := 8#32
  let c0_i32_678 : BitVec 32 := 0#32
  let v1028 : BitVec 1 := Scalar.cmpi .sgt c8_i32_675 c0_i32_678
  let v1029 : BitVec 32 := Scalar.extui v1028
  let c0_i32_679 : BitVec 32 := 0#32
  let v1030 : BitVec 1 := Scalar.cmpi .slt c8_i32_675 c0_i32_679
  let v1031 : BitVec 32 := Scalar.extui v1030
  let v1032 : BitVec 32 := Scalar.subi v1029 v1031
  let v1033 : BitVec 1 := Scalar.cmpi .ne v1027 v1032
  let v1034 : BitVec 32 := Scalar.remsi v1021 c8_i32_675
  let c0_i32_680 : BitVec 32 := 0#32
  let v1035 : BitVec 1 := Scalar.cmpi .ne v1034 c0_i32_680
  let v1036 : BitVec 1 := Scalar.andi v1033 v1035
  let v1022 : BitVec 32 := Scalar.divsi v1021 c8_i32_675
  let c1_i32_681 : BitVec 32 := 1#32
  let v1037 : BitVec 32 := Scalar.subi v1022 c1_i32_681
  let v1038 : BitVec 32 := Scalar.select v1036 v1037 v1022
  let c8_i32_682 : BitVec 32 := 8#32
  let v1039 : BitVec 32 := Scalar.muli v1038 c8_i32_682
  let c184_i32_683 : BitVec 32 := 184#32
  let v1040 : BitVec 32 := Scalar.minsi v1039 c184_i32_683
  v1040

def k0_off413 : Fin 2 → Nat :=
  let c14_i32_672 : BitVec 32 := 14#32
  let c4_i32_673 : BitVec 32 := 4#32
  let v1020 : BitVec 32 := Scalar.remsi c14_i32_672 c4_i32_673
  let c4_i32_685 : BitVec 32 := 4#32
  ![v1020.toNat, 4]
def k0_off414 (v1021 : BitVec 32) : Fin 4 → Nat :=
  let c228_i32 : BitVec 32 := 228#32
  let c0_i32_686 : BitVec 32 := 0#32
  let c0_i32_676 : BitVec 32 := 0#32
  let v1023 : BitVec 1 := Scalar.cmpi .sgt v1021 c0_i32_676
  let v1024 : BitVec 32 := Scalar.extui v1023
  let c0_i32_677 : BitVec 32 := 0#32
  let v1025 : BitVec 1 := Scalar.cmpi .slt v1021 c0_i32_677
  let v1026 : BitVec 32 := Scalar.extui v1025
  let v1027 : BitVec 32 := Scalar.subi v1024 v1026
  let c8_i32_675 : BitVec 32 := 8#32
  let c0_i32_678 : BitVec 32 := 0#32
  let v1028 : BitVec 1 := Scalar.cmpi .sgt c8_i32_675 c0_i32_678
  let v1029 : BitVec 32 := Scalar.extui v1028
  let c0_i32_679 : BitVec 32 := 0#32
  let v1030 : BitVec 1 := Scalar.cmpi .slt c8_i32_675 c0_i32_679
  let v1031 : BitVec 32 := Scalar.extui v1030
  let v1032 : BitVec 32 := Scalar.subi v1029 v1031
  let v1033 : BitVec 1 := Scalar.cmpi .ne v1027 v1032
  let v1034 : BitVec 32 := Scalar.remsi v1021 c8_i32_675
  let c0_i32_680 : BitVec 32 := 0#32
  let v1035 : BitVec 1 := Scalar.cmpi .ne v1034 c0_i32_680
  let v1036 : BitVec 1 := Scalar.andi v1033 v1035
  let v1022 : BitVec 32 := Scalar.divsi v1021 c8_i32_675
  let c1_i32_681 : BitVec 32 := 1#32
  let v1037 : BitVec 32 := Scalar.subi v1022 c1_i32_681
  let v1038 : BitVec 32 := Scalar.select v1036 v1037 v1022
  let c8_i32_682 : BitVec 32 := 8#32
  let v1039 : BitVec 32 := Scalar.muli v1038 c8_i32_682
  let c184_i32_683 : BitVec 32 := 184#32
  let v1040 : BitVec 32 := Scalar.minsi v1039 c184_i32_683
  let v1041 : BitVec 32 := v1040
  let c0_i32_687 : BitVec 32 := 0#32
  ![228, 0, v1041.toNat, 0]

def k0_chk117 (i : grid0.Coords) (v1021 : BitVec 32) : Prop :=
  (∀ (k0_h4 : k0_cond4 i = 1#1), 8 ∣ (k0_mult117 v1021).toNat) ∧
  (∀ (k0_h4 : k0_cond4 i = 1#1), ∀ a, (k0_off414 v1021) a + S1x3x40x224.size a ≤ S256x3x224x224.size a)
theorem k0_mult117_dvd : ∀ (i : grid0.Coords) (v1021 : BitVec 32) (k0_hw117 : k0_chk117 i v1021), ∀ (k0_h4 : k0_cond4 i = 1#1), 8 ∣ (k0_mult117 v1021).toNat := fun i v1021 k0_hw117 k0_h4 => k0_hw117.1 k0_h4
theorem k0_off414_inb : ∀ (i : grid0.Coords) (v1021 : BitVec 32) (k0_hw117 : k0_chk117 i v1021), ∀ (k0_h4 : k0_cond4 i = 1#1), ∀ a, (k0_off414 v1021) a + S1x3x40x224.size a ≤ S256x3x224x224.size a := fun i v1021 k0_hw117 k0_h4 => k0_hw117.2 k0_h4

def k0_off415 : Fin 5 → Nat :=
  let c14_i32_672 : BitVec 32 := 14#32
  let c4_i32_673 : BitVec 32 := 4#32
  let v1020 : BitVec 32 := Scalar.remsi c14_i32_672 c4_i32_673
  let c4_i32_684 : BitVec 32 := 4#32
  let c0_i32_688 : BitVec 32 := 0#32
  let c0_i32_689 : BitVec 32 := 0#32
  let c0_i32_690 : BitVec 32 := 0#32
  ![v1020.toNat, 4, 0, 0, 0]
def k0_mult118 (v1049 : BitVec 32) : BitVec 32 :=
  let c0_i32_695 : BitVec 32 := 0#32
  let v1051 : BitVec 1 := Scalar.cmpi .sgt v1049 c0_i32_695
  let v1052 : BitVec 32 := Scalar.extui v1051
  let c0_i32_696 : BitVec 32 := 0#32
  let v1053 : BitVec 1 := Scalar.cmpi .slt v1049 c0_i32_696
  let v1054 : BitVec 32 := Scalar.extui v1053
  let v1055 : BitVec 32 := Scalar.subi v1052 v1054
  let c8_i32_694 : BitVec 32 := 8#32
  let c0_i32_697 : BitVec 32 := 0#32
  let v1056 : BitVec 1 := Scalar.cmpi .sgt c8_i32_694 c0_i32_697
  let v1057 : BitVec 32 := Scalar.extui v1056
  let c0_i32_698 : BitVec 32 := 0#32
  let v1058 : BitVec 1 := Scalar.cmpi .slt c8_i32_694 c0_i32_698
  let v1059 : BitVec 32 := Scalar.extui v1058
  let v1060 : BitVec 32 := Scalar.subi v1057 v1059
  let v1061 : BitVec 1 := Scalar.cmpi .ne v1055 v1060
  let v1062 : BitVec 32 := Scalar.remsi v1049 c8_i32_694
  let c0_i32_699 : BitVec 32 := 0#32
  let v1063 : BitVec 1 := Scalar.cmpi .ne v1062 c0_i32_699
  let v1064 : BitVec 1 := Scalar.andi v1061 v1063
  let v1050 : BitVec 32 := Scalar.divsi v1049 c8_i32_694
  let c1_i32_700 : BitVec 32 := 1#32
  let v1065 : BitVec 32 := Scalar.subi v1050 c1_i32_700
  let v1066 : BitVec 32 := Scalar.select v1064 v1065 v1050
  let c8_i32_701 : BitVec 32 := 8#32
  let v1067 : BitVec 32 := Scalar.muli v1066 c8_i32_701
  let c184_i32_702 : BitVec 32 := 184#32
  let v1068 : BitVec 32 := Scalar.minsi v1067 c184_i32_702
  v1068

def k0_off416 : Fin 2 → Nat :=
  let c14_i32_691 : BitVec 32 := 14#32
  let c4_i32_692 : BitVec 32 := 4#32
  let v1048 : BitVec 32 := Scalar.remsi c14_i32_691 c4_i32_692
  let c5_i32_704 : BitVec 32 := 5#32
  ![v1048.toNat, 5]
def k0_off417 (v1049 : BitVec 32) : Fin 4 → Nat :=
  let c229_i32 : BitVec 32 := 229#32
  let c0_i32_705 : BitVec 32 := 0#32
  let c0_i32_695 : BitVec 32 := 0#32
  let v1051 : BitVec 1 := Scalar.cmpi .sgt v1049 c0_i32_695
  let v1052 : BitVec 32 := Scalar.extui v1051
  let c0_i32_696 : BitVec 32 := 0#32
  let v1053 : BitVec 1 := Scalar.cmpi .slt v1049 c0_i32_696
  let v1054 : BitVec 32 := Scalar.extui v1053
  let v1055 : BitVec 32 := Scalar.subi v1052 v1054
  let c8_i32_694 : BitVec 32 := 8#32
  let c0_i32_697 : BitVec 32 := 0#32
  let v1056 : BitVec 1 := Scalar.cmpi .sgt c8_i32_694 c0_i32_697
  let v1057 : BitVec 32 := Scalar.extui v1056
  let c0_i32_698 : BitVec 32 := 0#32
  let v1058 : BitVec 1 := Scalar.cmpi .slt c8_i32_694 c0_i32_698
  let v1059 : BitVec 32 := Scalar.extui v1058
  let v1060 : BitVec 32 := Scalar.subi v1057 v1059
  let v1061 : BitVec 1 := Scalar.cmpi .ne v1055 v1060
  let v1062 : BitVec 32 := Scalar.remsi v1049 c8_i32_694
  let c0_i32_699 : BitVec 32 := 0#32
  let v1063 : BitVec 1 := Scalar.cmpi .ne v1062 c0_i32_699
  let v1064 : BitVec 1 := Scalar.andi v1061 v1063
  let v1050 : BitVec 32 := Scalar.divsi v1049 c8_i32_694
  let c1_i32_700 : BitVec 32 := 1#32
  let v1065 : BitVec 32 := Scalar.subi v1050 c1_i32_700
  let v1066 : BitVec 32 := Scalar.select v1064 v1065 v1050
  let c8_i32_701 : BitVec 32 := 8#32
  let v1067 : BitVec 32 := Scalar.muli v1066 c8_i32_701
  let c184_i32_702 : BitVec 32 := 184#32
  let v1068 : BitVec 32 := Scalar.minsi v1067 c184_i32_702
  let v1069 : BitVec 32 := v1068
  let c0_i32_706 : BitVec 32 := 0#32
  ![229, 0, v1069.toNat, 0]

def k0_chk118 (i : grid0.Coords) (v1049 : BitVec 32) : Prop :=
  (∀ (k0_h4 : k0_cond4 i = 1#1), 8 ∣ (k0_mult118 v1049).toNat) ∧
  (∀ (k0_h4 : k0_cond4 i = 1#1), ∀ a, (k0_off417 v1049) a + S1x3x40x224.size a ≤ S256x3x224x224.size a)
theorem k0_mult118_dvd : ∀ (i : grid0.Coords) (v1049 : BitVec 32) (k0_hw118 : k0_chk118 i v1049), ∀ (k0_h4 : k0_cond4 i = 1#1), 8 ∣ (k0_mult118 v1049).toNat := fun i v1049 k0_hw118 k0_h4 => k0_hw118.1 k0_h4
theorem k0_off417_inb : ∀ (i : grid0.Coords) (v1049 : BitVec 32) (k0_hw118 : k0_chk118 i v1049), ∀ (k0_h4 : k0_cond4 i = 1#1), ∀ a, (k0_off417 v1049) a + S1x3x40x224.size a ≤ S256x3x224x224.size a := fun i v1049 k0_hw118 k0_h4 => k0_hw118.2 k0_h4

def k0_off418 : Fin 5 → Nat :=
  let c14_i32_691 : BitVec 32 := 14#32
  let c4_i32_692 : BitVec 32 := 4#32
  let v1048 : BitVec 32 := Scalar.remsi c14_i32_691 c4_i32_692
  let c5_i32_703 : BitVec 32 := 5#32
  let c0_i32_707 : BitVec 32 := 0#32
  let c0_i32_708 : BitVec 32 := 0#32
  let c0_i32_709 : BitVec 32 := 0#32
  ![v1048.toNat, 5, 0, 0, 0]
def k0_mult119 (v1077 : BitVec 32) : BitVec 32 :=
  let c0_i32_714 : BitVec 32 := 0#32
  let v1079 : BitVec 1 := Scalar.cmpi .sgt v1077 c0_i32_714
  let v1080 : BitVec 32 := Scalar.extui v1079
  let c0_i32_715 : BitVec 32 := 0#32
  let v1081 : BitVec 1 := Scalar.cmpi .slt v1077 c0_i32_715
  let v1082 : BitVec 32 := Scalar.extui v1081
  let v1083 : BitVec 32 := Scalar.subi v1080 v1082
  let c8_i32_713 : BitVec 32 := 8#32
  let c0_i32_716 : BitVec 32 := 0#32
  let v1084 : BitVec 1 := Scalar.cmpi .sgt c8_i32_713 c0_i32_716
  let v1085 : BitVec 32 := Scalar.extui v1084
  let c0_i32_717 : BitVec 32 := 0#32
  let v1086 : BitVec 1 := Scalar.cmpi .slt c8_i32_713 c0_i32_717
  let v1087 : BitVec 32 := Scalar.extui v1086
  let v1088 : BitVec 32 := Scalar.subi v1085 v1087
  let v1089 : BitVec 1 := Scalar.cmpi .ne v1083 v1088
  let v1090 : BitVec 32 := Scalar.remsi v1077 c8_i32_713
  let c0_i32_718 : BitVec 32 := 0#32
  let v1091 : BitVec 1 := Scalar.cmpi .ne v1090 c0_i32_718
  let v1092 : BitVec 1 := Scalar.andi v1089 v1091
  let v1078 : BitVec 32 := Scalar.divsi v1077 c8_i32_713
  let c1_i32_719 : BitVec 32 := 1#32
  let v1093 : BitVec 32 := Scalar.subi v1078 c1_i32_719
  let v1094 : BitVec 32 := Scalar.select v1092 v1093 v1078
  let c8_i32_720 : BitVec 32 := 8#32
  let v1095 : BitVec 32 := Scalar.muli v1094 c8_i32_720
  let c184_i32_721 : BitVec 32 := 184#32
  let v1096 : BitVec 32 := Scalar.minsi v1095 c184_i32_721
  v1096

def k0_off419 : Fin 2 → Nat :=
  let c14_i32_710 : BitVec 32 := 14#32
  let c4_i32_711 : BitVec 32 := 4#32
  let v1076 : BitVec 32 := Scalar.remsi c14_i32_710 c4_i32_711
  let c6_i32_723 : BitVec 32 := 6#32
  ![v1076.toNat, 6]
def k0_off420 (v1077 : BitVec 32) : Fin 4 → Nat :=
  let c230_i32 : BitVec 32 := 230#32
  let c0_i32_724 : BitVec 32 := 0#32
  let c0_i32_714 : BitVec 32 := 0#32
  let v1079 : BitVec 1 := Scalar.cmpi .sgt v1077 c0_i32_714
  let v1080 : BitVec 32 := Scalar.extui v1079
  let c0_i32_715 : BitVec 32 := 0#32
  let v1081 : BitVec 1 := Scalar.cmpi .slt v1077 c0_i32_715
  let v1082 : BitVec 32 := Scalar.extui v1081
  let v1083 : BitVec 32 := Scalar.subi v1080 v1082
  let c8_i32_713 : BitVec 32 := 8#32
  let c0_i32_716 : BitVec 32 := 0#32
  let v1084 : BitVec 1 := Scalar.cmpi .sgt c8_i32_713 c0_i32_716
  let v1085 : BitVec 32 := Scalar.extui v1084
  let c0_i32_717 : BitVec 32 := 0#32
  let v1086 : BitVec 1 := Scalar.cmpi .slt c8_i32_713 c0_i32_717
  let v1087 : BitVec 32 := Scalar.extui v1086
  let v1088 : BitVec 32 := Scalar.subi v1085 v1087
  let v1089 : BitVec 1 := Scalar.cmpi .ne v1083 v1088
  let v1090 : BitVec 32 := Scalar.remsi v1077 c8_i32_713
  let c0_i32_718 : BitVec 32 := 0#32
  let v1091 : BitVec 1 := Scalar.cmpi .ne v1090 c0_i32_718
  let v1092 : BitVec 1 := Scalar.andi v1089 v1091
  let v1078 : BitVec 32 := Scalar.divsi v1077 c8_i32_713
  let c1_i32_719 : BitVec 32 := 1#32
  let v1093 : BitVec 32 := Scalar.subi v1078 c1_i32_719
  let v1094 : BitVec 32 := Scalar.select v1092 v1093 v1078
  let c8_i32_720 : BitVec 32 := 8#32
  let v1095 : BitVec 32 := Scalar.muli v1094 c8_i32_720
  let c184_i32_721 : BitVec 32 := 184#32
  let v1096 : BitVec 32 := Scalar.minsi v1095 c184_i32_721
  let v1097 : BitVec 32 := v1096
  let c0_i32_725 : BitVec 32 := 0#32
  ![230, 0, v1097.toNat, 0]

def k0_chk119 (i : grid0.Coords) (v1077 : BitVec 32) : Prop :=
  (∀ (k0_h4 : k0_cond4 i = 1#1), 8 ∣ (k0_mult119 v1077).toNat) ∧
  (∀ (k0_h4 : k0_cond4 i = 1#1), ∀ a, (k0_off420 v1077) a + S1x3x40x224.size a ≤ S256x3x224x224.size a)
theorem k0_mult119_dvd : ∀ (i : grid0.Coords) (v1077 : BitVec 32) (k0_hw119 : k0_chk119 i v1077), ∀ (k0_h4 : k0_cond4 i = 1#1), 8 ∣ (k0_mult119 v1077).toNat := fun i v1077 k0_hw119 k0_h4 => k0_hw119.1 k0_h4
theorem k0_off420_inb : ∀ (i : grid0.Coords) (v1077 : BitVec 32) (k0_hw119 : k0_chk119 i v1077), ∀ (k0_h4 : k0_cond4 i = 1#1), ∀ a, (k0_off420 v1077) a + S1x3x40x224.size a ≤ S256x3x224x224.size a := fun i v1077 k0_hw119 k0_h4 => k0_hw119.2 k0_h4

def k0_off421 : Fin 5 → Nat :=
  let c14_i32_710 : BitVec 32 := 14#32
  let c4_i32_711 : BitVec 32 := 4#32
  let v1076 : BitVec 32 := Scalar.remsi c14_i32_710 c4_i32_711
  let c6_i32_722 : BitVec 32 := 6#32
  let c0_i32_726 : BitVec 32 := 0#32
  let c0_i32_727 : BitVec 32 := 0#32
  let c0_i32_728 : BitVec 32 := 0#32
  ![v1076.toNat, 6, 0, 0, 0]
def k0_mult120 (v1105 : BitVec 32) : BitVec 32 :=
  let c0_i32_733 : BitVec 32 := 0#32
  let v1107 : BitVec 1 := Scalar.cmpi .sgt v1105 c0_i32_733
  let v1108 : BitVec 32 := Scalar.extui v1107
  let c0_i32_734 : BitVec 32 := 0#32
  let v1109 : BitVec 1 := Scalar.cmpi .slt v1105 c0_i32_734
  let v1110 : BitVec 32 := Scalar.extui v1109
  let v1111 : BitVec 32 := Scalar.subi v1108 v1110
  let c8_i32_732 : BitVec 32 := 8#32
  let c0_i32_735 : BitVec 32 := 0#32
  let v1112 : BitVec 1 := Scalar.cmpi .sgt c8_i32_732 c0_i32_735
  let v1113 : BitVec 32 := Scalar.extui v1112
  let c0_i32_736 : BitVec 32 := 0#32
  let v1114 : BitVec 1 := Scalar.cmpi .slt c8_i32_732 c0_i32_736
  let v1115 : BitVec 32 := Scalar.extui v1114
  let v1116 : BitVec 32 := Scalar.subi v1113 v1115
  let v1117 : BitVec 1 := Scalar.cmpi .ne v1111 v1116
  let v1118 : BitVec 32 := Scalar.remsi v1105 c8_i32_732
  let c0_i32_737 : BitVec 32 := 0#32
  let v1119 : BitVec 1 := Scalar.cmpi .ne v1118 c0_i32_737
  let v1120 : BitVec 1 := Scalar.andi v1117 v1119
  let v1106 : BitVec 32 := Scalar.divsi v1105 c8_i32_732
  let c1_i32_738 : BitVec 32 := 1#32
  let v1121 : BitVec 32 := Scalar.subi v1106 c1_i32_738
  let v1122 : BitVec 32 := Scalar.select v1120 v1121 v1106
  let c8_i32_739 : BitVec 32 := 8#32
  let v1123 : BitVec 32 := Scalar.muli v1122 c8_i32_739
  let c184_i32_740 : BitVec 32 := 184#32
  let v1124 : BitVec 32 := Scalar.minsi v1123 c184_i32_740
  v1124

def k0_off422 : Fin 2 → Nat :=
  let c14_i32_729 : BitVec 32 := 14#32
  let c4_i32_730 : BitVec 32 := 4#32
  let v1104 : BitVec 32 := Scalar.remsi c14_i32_729 c4_i32_730
  let c7_i32_742 : BitVec 32 := 7#32
  ![v1104.toNat, 7]
def k0_off423 (v1105 : BitVec 32) : Fin 4 → Nat :=
  let c231_i32 : BitVec 32 := 231#32
  let c0_i32_743 : BitVec 32 := 0#32
  let c0_i32_733 : BitVec 32 := 0#32
  let v1107 : BitVec 1 := Scalar.cmpi .sgt v1105 c0_i32_733
  let v1108 : BitVec 32 := Scalar.extui v1107
  let c0_i32_734 : BitVec 32 := 0#32
  let v1109 : BitVec 1 := Scalar.cmpi .slt v1105 c0_i32_734
  let v1110 : BitVec 32 := Scalar.extui v1109
  let v1111 : BitVec 32 := Scalar.subi v1108 v1110
  let c8_i32_732 : BitVec 32 := 8#32
  let c0_i32_735 : BitVec 32 := 0#32
  let v1112 : BitVec 1 := Scalar.cmpi .sgt c8_i32_732 c0_i32_735
  let v1113 : BitVec 32 := Scalar.extui v1112
  let c0_i32_736 : BitVec 32 := 0#32
  let v1114 : BitVec 1 := Scalar.cmpi .slt c8_i32_732 c0_i32_736
  let v1115 : BitVec 32 := Scalar.extui v1114
  let v1116 : BitVec 32 := Scalar.subi v1113 v1115
  let v1117 : BitVec 1 := Scalar.cmpi .ne v1111 v1116
  let v1118 : BitVec 32 := Scalar.remsi v1105 c8_i32_732
  let c0_i32_737 : BitVec 32 := 0#32
  let v1119 : BitVec 1 := Scalar.cmpi .ne v1118 c0_i32_737
  let v1120 : BitVec 1 := Scalar.andi v1117 v1119
  let v1106 : BitVec 32 := Scalar.divsi v1105 c8_i32_732
  let c1_i32_738 : BitVec 32 := 1#32
  let v1121 : BitVec 32 := Scalar.subi v1106 c1_i32_738
  let v1122 : BitVec 32 := Scalar.select v1120 v1121 v1106
  let c8_i32_739 : BitVec 32 := 8#32
  let v1123 : BitVec 32 := Scalar.muli v1122 c8_i32_739
  let c184_i32_740 : BitVec 32 := 184#32
  let v1124 : BitVec 32 := Scalar.minsi v1123 c184_i32_740
  let v1125 : BitVec 32 := v1124
  let c0_i32_744 : BitVec 32 := 0#32
  ![231, 0, v1125.toNat, 0]

def k0_chk120 (i : grid0.Coords) (v1105 : BitVec 32) : Prop :=
  (∀ (k0_h4 : k0_cond4 i = 1#1), 8 ∣ (k0_mult120 v1105).toNat) ∧
  (∀ (k0_h4 : k0_cond4 i = 1#1), ∀ a, (k0_off423 v1105) a + S1x3x40x224.size a ≤ S256x3x224x224.size a)
theorem k0_mult120_dvd : ∀ (i : grid0.Coords) (v1105 : BitVec 32) (k0_hw120 : k0_chk120 i v1105), ∀ (k0_h4 : k0_cond4 i = 1#1), 8 ∣ (k0_mult120 v1105).toNat := fun i v1105 k0_hw120 k0_h4 => k0_hw120.1 k0_h4
theorem k0_off423_inb : ∀ (i : grid0.Coords) (v1105 : BitVec 32) (k0_hw120 : k0_chk120 i v1105), ∀ (k0_h4 : k0_cond4 i = 1#1), ∀ a, (k0_off423 v1105) a + S1x3x40x224.size a ≤ S256x3x224x224.size a := fun i v1105 k0_hw120 k0_h4 => k0_hw120.2 k0_h4

def k0_off424 : Fin 5 → Nat :=
  let c14_i32_729 : BitVec 32 := 14#32
  let c4_i32_730 : BitVec 32 := 4#32
  let v1104 : BitVec 32 := Scalar.remsi c14_i32_729 c4_i32_730
  let c7_i32_741 : BitVec 32 := 7#32
  let c0_i32_745 : BitVec 32 := 0#32
  let c0_i32_746 : BitVec 32 := 0#32
  let c0_i32_747 : BitVec 32 := 0#32
  ![v1104.toNat, 7, 0, 0, 0]
def k0_mult121 (v1133 : BitVec 32) : BitVec 32 :=
  let c0_i32_752 : BitVec 32 := 0#32
  let v1135 : BitVec 1 := Scalar.cmpi .sgt v1133 c0_i32_752
  let v1136 : BitVec 32 := Scalar.extui v1135
  let c0_i32_753 : BitVec 32 := 0#32
  let v1137 : BitVec 1 := Scalar.cmpi .slt v1133 c0_i32_753
  let v1138 : BitVec 32 := Scalar.extui v1137
  let v1139 : BitVec 32 := Scalar.subi v1136 v1138
  let c8_i32_751 : BitVec 32 := 8#32
  let c0_i32_754 : BitVec 32 := 0#32
  let v1140 : BitVec 1 := Scalar.cmpi .sgt c8_i32_751 c0_i32_754
  let v1141 : BitVec 32 := Scalar.extui v1140
  let c0_i32_755 : BitVec 32 := 0#32
  let v1142 : BitVec 1 := Scalar.cmpi .slt c8_i32_751 c0_i32_755
  let v1143 : BitVec 32 := Scalar.extui v1142
  let v1144 : BitVec 32 := Scalar.subi v1141 v1143
  let v1145 : BitVec 1 := Scalar.cmpi .ne v1139 v1144
  let v1146 : BitVec 32 := Scalar.remsi v1133 c8_i32_751
  let c0_i32_756 : BitVec 32 := 0#32
  let v1147 : BitVec 1 := Scalar.cmpi .ne v1146 c0_i32_756
  let v1148 : BitVec 1 := Scalar.andi v1145 v1147
  let v1134 : BitVec 32 := Scalar.divsi v1133 c8_i32_751
  let c1_i32_757 : BitVec 32 := 1#32
  let v1149 : BitVec 32 := Scalar.subi v1134 c1_i32_757
  let v1150 : BitVec 32 := Scalar.select v1148 v1149 v1134
  let c8_i32_758 : BitVec 32 := 8#32
  let v1151 : BitVec 32 := Scalar.muli v1150 c8_i32_758
  let c184_i32_759 : BitVec 32 := 184#32
  let v1152 : BitVec 32 := Scalar.minsi v1151 c184_i32_759
  v1152

def k0_off425 : Fin 2 → Nat :=
  let c14_i32_748 : BitVec 32 := 14#32
  let c4_i32_749 : BitVec 32 := 4#32
  let v1132 : BitVec 32 := Scalar.remsi c14_i32_748 c4_i32_749
  let c8_i32_761 : BitVec 32 := 8#32
  ![v1132.toNat, 8]
def k0_off426 (v1133 : BitVec 32) : Fin 4 → Nat :=
  let c232_i32 : BitVec 32 := 232#32
  let c0_i32_762 : BitVec 32 := 0#32
  let c0_i32_752 : BitVec 32 := 0#32
  let v1135 : BitVec 1 := Scalar.cmpi .sgt v1133 c0_i32_752
  let v1136 : BitVec 32 := Scalar.extui v1135
  let c0_i32_753 : BitVec 32 := 0#32
  let v1137 : BitVec 1 := Scalar.cmpi .slt v1133 c0_i32_753
  let v1138 : BitVec 32 := Scalar.extui v1137
  let v1139 : BitVec 32 := Scalar.subi v1136 v1138
  let c8_i32_751 : BitVec 32 := 8#32
  let c0_i32_754 : BitVec 32 := 0#32
  let v1140 : BitVec 1 := Scalar.cmpi .sgt c8_i32_751 c0_i32_754
  let v1141 : BitVec 32 := Scalar.extui v1140
  let c0_i32_755 : BitVec 32 := 0#32
  let v1142 : BitVec 1 := Scalar.cmpi .slt c8_i32_751 c0_i32_755
  let v1143 : BitVec 32 := Scalar.extui v1142
  let v1144 : BitVec 32 := Scalar.subi v1141 v1143
  let v1145 : BitVec 1 := Scalar.cmpi .ne v1139 v1144
  let v1146 : BitVec 32 := Scalar.remsi v1133 c8_i32_751
  let c0_i32_756 : BitVec 32 := 0#32
  let v1147 : BitVec 1 := Scalar.cmpi .ne v1146 c0_i32_756
  let v1148 : BitVec 1 := Scalar.andi v1145 v1147
  let v1134 : BitVec 32 := Scalar.divsi v1133 c8_i32_751
  let c1_i32_757 : BitVec 32 := 1#32
  let v1149 : BitVec 32 := Scalar.subi v1134 c1_i32_757
  let v1150 : BitVec 32 := Scalar.select v1148 v1149 v1134
  let c8_i32_758 : BitVec 32 := 8#32
  let v1151 : BitVec 32 := Scalar.muli v1150 c8_i32_758
  let c184_i32_759 : BitVec 32 := 184#32
  let v1152 : BitVec 32 := Scalar.minsi v1151 c184_i32_759
  let v1153 : BitVec 32 := v1152
  let c0_i32_763 : BitVec 32 := 0#32
  ![232, 0, v1153.toNat, 0]

def k0_chk121 (i : grid0.Coords) (v1133 : BitVec 32) : Prop :=
  (∀ (k0_h4 : k0_cond4 i = 1#1), 8 ∣ (k0_mult121 v1133).toNat) ∧
  (∀ (k0_h4 : k0_cond4 i = 1#1), ∀ a, (k0_off426 v1133) a + S1x3x40x224.size a ≤ S256x3x224x224.size a)
theorem k0_mult121_dvd : ∀ (i : grid0.Coords) (v1133 : BitVec 32) (k0_hw121 : k0_chk121 i v1133), ∀ (k0_h4 : k0_cond4 i = 1#1), 8 ∣ (k0_mult121 v1133).toNat := fun i v1133 k0_hw121 k0_h4 => k0_hw121.1 k0_h4
theorem k0_off426_inb : ∀ (i : grid0.Coords) (v1133 : BitVec 32) (k0_hw121 : k0_chk121 i v1133), ∀ (k0_h4 : k0_cond4 i = 1#1), ∀ a, (k0_off426 v1133) a + S1x3x40x224.size a ≤ S256x3x224x224.size a := fun i v1133 k0_hw121 k0_h4 => k0_hw121.2 k0_h4

def k0_off427 : Fin 5 → Nat :=
  let c14_i32_748 : BitVec 32 := 14#32
  let c4_i32_749 : BitVec 32 := 4#32
  let v1132 : BitVec 32 := Scalar.remsi c14_i32_748 c4_i32_749
  let c8_i32_760 : BitVec 32 := 8#32
  let c0_i32_764 : BitVec 32 := 0#32
  let c0_i32_765 : BitVec 32 := 0#32
  let c0_i32_766 : BitVec 32 := 0#32
  ![v1132.toNat, 8, 0, 0, 0]
def k0_mult122 (v1161 : BitVec 32) : BitVec 32 :=
  let c0_i32_771 : BitVec 32 := 0#32
  let v1163 : BitVec 1 := Scalar.cmpi .sgt v1161 c0_i32_771
  let v1164 : BitVec 32 := Scalar.extui v1163
  let c0_i32_772 : BitVec 32 := 0#32
  let v1165 : BitVec 1 := Scalar.cmpi .slt v1161 c0_i32_772
  let v1166 : BitVec 32 := Scalar.extui v1165
  let v1167 : BitVec 32 := Scalar.subi v1164 v1166
  let c8_i32_770 : BitVec 32 := 8#32
  let c0_i32_773 : BitVec 32 := 0#32
  let v1168 : BitVec 1 := Scalar.cmpi .sgt c8_i32_770 c0_i32_773
  let v1169 : BitVec 32 := Scalar.extui v1168
  let c0_i32_774 : BitVec 32 := 0#32
  let v1170 : BitVec 1 := Scalar.cmpi .slt c8_i32_770 c0_i32_774
  let v1171 : BitVec 32 := Scalar.extui v1170
  let v1172 : BitVec 32 := Scalar.subi v1169 v1171
  let v1173 : BitVec 1 := Scalar.cmpi .ne v1167 v1172
  let v1174 : BitVec 32 := Scalar.remsi v1161 c8_i32_770
  let c0_i32_775 : BitVec 32 := 0#32
  let v1175 : BitVec 1 := Scalar.cmpi .ne v1174 c0_i32_775
  let v1176 : BitVec 1 := Scalar.andi v1173 v1175
  let v1162 : BitVec 32 := Scalar.divsi v1161 c8_i32_770
  let c1_i32_776 : BitVec 32 := 1#32
  let v1177 : BitVec 32 := Scalar.subi v1162 c1_i32_776
  let v1178 : BitVec 32 := Scalar.select v1176 v1177 v1162
  let c8_i32_777 : BitVec 32 := 8#32
  let v1179 : BitVec 32 := Scalar.muli v1178 c8_i32_777
  let c184_i32_778 : BitVec 32 := 184#32
  let v1180 : BitVec 32 := Scalar.minsi v1179 c184_i32_778
  v1180

def k0_off428 : Fin 2 → Nat :=
  let c14_i32_767 : BitVec 32 := 14#32
  let c4_i32_768 : BitVec 32 := 4#32
  let v1160 : BitVec 32 := Scalar.remsi c14_i32_767 c4_i32_768
  let c9_i32_780 : BitVec 32 := 9#32
  ![v1160.toNat, 9]
def k0_off429 (v1161 : BitVec 32) : Fin 4 → Nat :=
  let c233_i32 : BitVec 32 := 233#32
  let c0_i32_781 : BitVec 32 := 0#32
  let c0_i32_771 : BitVec 32 := 0#32
  let v1163 : BitVec 1 := Scalar.cmpi .sgt v1161 c0_i32_771
  let v1164 : BitVec 32 := Scalar.extui v1163
  let c0_i32_772 : BitVec 32 := 0#32
  let v1165 : BitVec 1 := Scalar.cmpi .slt v1161 c0_i32_772
  let v1166 : BitVec 32 := Scalar.extui v1165
  let v1167 : BitVec 32 := Scalar.subi v1164 v1166
  let c8_i32_770 : BitVec 32 := 8#32
  let c0_i32_773 : BitVec 32 := 0#32
  let v1168 : BitVec 1 := Scalar.cmpi .sgt c8_i32_770 c0_i32_773
  let v1169 : BitVec 32 := Scalar.extui v1168
  let c0_i32_774 : BitVec 32 := 0#32
  let v1170 : BitVec 1 := Scalar.cmpi .slt c8_i32_770 c0_i32_774
  let v1171 : BitVec 32 := Scalar.extui v1170
  let v1172 : BitVec 32 := Scalar.subi v1169 v1171
  let v1173 : BitVec 1 := Scalar.cmpi .ne v1167 v1172
  let v1174 : BitVec 32 := Scalar.remsi v1161 c8_i32_770
  let c0_i32_775 : BitVec 32 := 0#32
  let v1175 : BitVec 1 := Scalar.cmpi .ne v1174 c0_i32_775
  let v1176 : BitVec 1 := Scalar.andi v1173 v1175
  let v1162 : BitVec 32 := Scalar.divsi v1161 c8_i32_770
  let c1_i32_776 : BitVec 32 := 1#32
  let v1177 : BitVec 32 := Scalar.subi v1162 c1_i32_776
  let v1178 : BitVec 32 := Scalar.select v1176 v1177 v1162
  let c8_i32_777 : BitVec 32 := 8#32
  let v1179 : BitVec 32 := Scalar.muli v1178 c8_i32_777
  let c184_i32_778 : BitVec 32 := 184#32
  let v1180 : BitVec 32 := Scalar.minsi v1179 c184_i32_778
  let v1181 : BitVec 32 := v1180
  let c0_i32_782 : BitVec 32 := 0#32
  ![233, 0, v1181.toNat, 0]

def k0_chk122 (i : grid0.Coords) (v1161 : BitVec 32) : Prop :=
  (∀ (k0_h4 : k0_cond4 i = 1#1), 8 ∣ (k0_mult122 v1161).toNat) ∧
  (∀ (k0_h4 : k0_cond4 i = 1#1), ∀ a, (k0_off429 v1161) a + S1x3x40x224.size a ≤ S256x3x224x224.size a)
theorem k0_mult122_dvd : ∀ (i : grid0.Coords) (v1161 : BitVec 32) (k0_hw122 : k0_chk122 i v1161), ∀ (k0_h4 : k0_cond4 i = 1#1), 8 ∣ (k0_mult122 v1161).toNat := fun i v1161 k0_hw122 k0_h4 => k0_hw122.1 k0_h4
theorem k0_off429_inb : ∀ (i : grid0.Coords) (v1161 : BitVec 32) (k0_hw122 : k0_chk122 i v1161), ∀ (k0_h4 : k0_cond4 i = 1#1), ∀ a, (k0_off429 v1161) a + S1x3x40x224.size a ≤ S256x3x224x224.size a := fun i v1161 k0_hw122 k0_h4 => k0_hw122.2 k0_h4

def k0_off430 : Fin 5 → Nat :=
  let c14_i32_767 : BitVec 32 := 14#32
  let c4_i32_768 : BitVec 32 := 4#32
  let v1160 : BitVec 32 := Scalar.remsi c14_i32_767 c4_i32_768
  let c9_i32_779 : BitVec 32 := 9#32
  let c0_i32_783 : BitVec 32 := 0#32
  let c0_i32_784 : BitVec 32 := 0#32
  let c0_i32_785 : BitVec 32 := 0#32
  ![v1160.toNat, 9, 0, 0, 0]
def k0_mult123 (v1189 : BitVec 32) : BitVec 32 :=
  let c0_i32_790 : BitVec 32 := 0#32
  let v1191 : BitVec 1 := Scalar.cmpi .sgt v1189 c0_i32_790
  let v1192 : BitVec 32 := Scalar.extui v1191
  let c0_i32_791 : BitVec 32 := 0#32
  let v1193 : BitVec 1 := Scalar.cmpi .slt v1189 c0_i32_791
  let v1194 : BitVec 32 := Scalar.extui v1193
  let v1195 : BitVec 32 := Scalar.subi v1192 v1194
  let c8_i32_789 : BitVec 32 := 8#32
  let c0_i32_792 : BitVec 32 := 0#32
  let v1196 : BitVec 1 := Scalar.cmpi .sgt c8_i32_789 c0_i32_792
  let v1197 : BitVec 32 := Scalar.extui v1196
  let c0_i32_793 : BitVec 32 := 0#32
  let v1198 : BitVec 1 := Scalar.cmpi .slt c8_i32_789 c0_i32_793
  let v1199 : BitVec 32 := Scalar.extui v1198
  let v1200 : BitVec 32 := Scalar.subi v1197 v1199
  let v1201 : BitVec 1 := Scalar.cmpi .ne v1195 v1200
  let v1202 : BitVec 32 := Scalar.remsi v1189 c8_i32_789
  let c0_i32_794 : BitVec 32 := 0#32
  let v1203 : BitVec 1 := Scalar.cmpi .ne v1202 c0_i32_794
  let v1204 : BitVec 1 := Scalar.andi v1201 v1203
  let v1190 : BitVec 32 := Scalar.divsi v1189 c8_i32_789
  let c1_i32_795 : BitVec 32 := 1#32
  let v1205 : BitVec 32 := Scalar.subi v1190 c1_i32_795
  let v1206 : BitVec 32 := Scalar.select v1204 v1205 v1190
  let c8_i32_796 : BitVec 32 := 8#32
  let v1207 : BitVec 32 := Scalar.muli v1206 c8_i32_796
  let c184_i32_797 : BitVec 32 := 184#32
  let v1208 : BitVec 32 := Scalar.minsi v1207 c184_i32_797
  v1208

def k0_off431 : Fin 2 → Nat :=
  let c14_i32_786 : BitVec 32 := 14#32
  let c4_i32_787 : BitVec 32 := 4#32
  let v1188 : BitVec 32 := Scalar.remsi c14_i32_786 c4_i32_787
  let c10_i32_799 : BitVec 32 := 10#32
  ![v1188.toNat, 10]
def k0_off432 (v1189 : BitVec 32) : Fin 4 → Nat :=
  let c234_i32 : BitVec 32 := 234#32
  let c0_i32_800 : BitVec 32 := 0#32
  let c0_i32_790 : BitVec 32 := 0#32
  let v1191 : BitVec 1 := Scalar.cmpi .sgt v1189 c0_i32_790
  let v1192 : BitVec 32 := Scalar.extui v1191
  let c0_i32_791 : BitVec 32 := 0#32
  let v1193 : BitVec 1 := Scalar.cmpi .slt v1189 c0_i32_791
  let v1194 : BitVec 32 := Scalar.extui v1193
  let v1195 : BitVec 32 := Scalar.subi v1192 v1194
  let c8_i32_789 : BitVec 32 := 8#32
  let c0_i32_792 : BitVec 32 := 0#32
  let v1196 : BitVec 1 := Scalar.cmpi .sgt c8_i32_789 c0_i32_792
  let v1197 : BitVec 32 := Scalar.extui v1196
  let c0_i32_793 : BitVec 32 := 0#32
  let v1198 : BitVec 1 := Scalar.cmpi .slt c8_i32_789 c0_i32_793
  let v1199 : BitVec 32 := Scalar.extui v1198
  let v1200 : BitVec 32 := Scalar.subi v1197 v1199
  let v1201 : BitVec 1 := Scalar.cmpi .ne v1195 v1200
  let v1202 : BitVec 32 := Scalar.remsi v1189 c8_i32_789
  let c0_i32_794 : BitVec 32 := 0#32
  let v1203 : BitVec 1 := Scalar.cmpi .ne v1202 c0_i32_794
  let v1204 : BitVec 1 := Scalar.andi v1201 v1203
  let v1190 : BitVec 32 := Scalar.divsi v1189 c8_i32_789
  let c1_i32_795 : BitVec 32 := 1#32
  let v1205 : BitVec 32 := Scalar.subi v1190 c1_i32_795
  let v1206 : BitVec 32 := Scalar.select v1204 v1205 v1190
  let c8_i32_796 : BitVec 32 := 8#32
  let v1207 : BitVec 32 := Scalar.muli v1206 c8_i32_796
  let c184_i32_797 : BitVec 32 := 184#32
  let v1208 : BitVec 32 := Scalar.minsi v1207 c184_i32_797
  let v1209 : BitVec 32 := v1208
  let c0_i32_801 : BitVec 32 := 0#32
  ![234, 0, v1209.toNat, 0]

def k0_chk123 (i : grid0.Coords) (v1189 : BitVec 32) : Prop :=
  (∀ (k0_h4 : k0_cond4 i = 1#1), 8 ∣ (k0_mult123 v1189).toNat) ∧
  (∀ (k0_h4 : k0_cond4 i = 1#1), ∀ a, (k0_off432 v1189) a + S1x3x40x224.size a ≤ S256x3x224x224.size a)
theorem k0_mult123_dvd : ∀ (i : grid0.Coords) (v1189 : BitVec 32) (k0_hw123 : k0_chk123 i v1189), ∀ (k0_h4 : k0_cond4 i = 1#1), 8 ∣ (k0_mult123 v1189).toNat := fun i v1189 k0_hw123 k0_h4 => k0_hw123.1 k0_h4
theorem k0_off432_inb : ∀ (i : grid0.Coords) (v1189 : BitVec 32) (k0_hw123 : k0_chk123 i v1189), ∀ (k0_h4 : k0_cond4 i = 1#1), ∀ a, (k0_off432 v1189) a + S1x3x40x224.size a ≤ S256x3x224x224.size a := fun i v1189 k0_hw123 k0_h4 => k0_hw123.2 k0_h4

def k0_off433 : Fin 5 → Nat :=
  let c14_i32_786 : BitVec 32 := 14#32
  let c4_i32_787 : BitVec 32 := 4#32
  let v1188 : BitVec 32 := Scalar.remsi c14_i32_786 c4_i32_787
  let c10_i32_798 : BitVec 32 := 10#32
  let c0_i32_802 : BitVec 32 := 0#32
  let c0_i32_803 : BitVec 32 := 0#32
  let c0_i32_804 : BitVec 32 := 0#32
  ![v1188.toNat, 10, 0, 0, 0]
def k0_mult124 (v1217 : BitVec 32) : BitVec 32 :=
  let c0_i32_809 : BitVec 32 := 0#32
  let v1219 : BitVec 1 := Scalar.cmpi .sgt v1217 c0_i32_809
  let v1220 : BitVec 32 := Scalar.extui v1219
  let c0_i32_810 : BitVec 32 := 0#32
  let v1221 : BitVec 1 := Scalar.cmpi .slt v1217 c0_i32_810
  let v1222 : BitVec 32 := Scalar.extui v1221
  let v1223 : BitVec 32 := Scalar.subi v1220 v1222
  let c8_i32_808 : BitVec 32 := 8#32
  let c0_i32_811 : BitVec 32 := 0#32
  let v1224 : BitVec 1 := Scalar.cmpi .sgt c8_i32_808 c0_i32_811
  let v1225 : BitVec 32 := Scalar.extui v1224
  let c0_i32_812 : BitVec 32 := 0#32
  let v1226 : BitVec 1 := Scalar.cmpi .slt c8_i32_808 c0_i32_812
  let v1227 : BitVec 32 := Scalar.extui v1226
  let v1228 : BitVec 32 := Scalar.subi v1225 v1227
  let v1229 : BitVec 1 := Scalar.cmpi .ne v1223 v1228
  let v1230 : BitVec 32 := Scalar.remsi v1217 c8_i32_808
  let c0_i32_813 : BitVec 32 := 0#32
  let v1231 : BitVec 1 := Scalar.cmpi .ne v1230 c0_i32_813
  let v1232 : BitVec 1 := Scalar.andi v1229 v1231
  let v1218 : BitVec 32 := Scalar.divsi v1217 c8_i32_808
  let c1_i32_814 : BitVec 32 := 1#32
  let v1233 : BitVec 32 := Scalar.subi v1218 c1_i32_814
  let v1234 : BitVec 32 := Scalar.select v1232 v1233 v1218
  let c8_i32_815 : BitVec 32 := 8#32
  let v1235 : BitVec 32 := Scalar.muli v1234 c8_i32_815
  let c184_i32_816 : BitVec 32 := 184#32
  let v1236 : BitVec 32 := Scalar.minsi v1235 c184_i32_816
  v1236

def k0_off434 : Fin 2 → Nat :=
  let c14_i32_805 : BitVec 32 := 14#32
  let c4_i32_806 : BitVec 32 := 4#32
  let v1216 : BitVec 32 := Scalar.remsi c14_i32_805 c4_i32_806
  let c11_i32_818 : BitVec 32 := 11#32
  ![v1216.toNat, 11]
def k0_off435 (v1217 : BitVec 32) : Fin 4 → Nat :=
  let c235_i32 : BitVec 32 := 235#32
  let c0_i32_819 : BitVec 32 := 0#32
  let c0_i32_809 : BitVec 32 := 0#32
  let v1219 : BitVec 1 := Scalar.cmpi .sgt v1217 c0_i32_809
  let v1220 : BitVec 32 := Scalar.extui v1219
  let c0_i32_810 : BitVec 32 := 0#32
  let v1221 : BitVec 1 := Scalar.cmpi .slt v1217 c0_i32_810
  let v1222 : BitVec 32 := Scalar.extui v1221
  let v1223 : BitVec 32 := Scalar.subi v1220 v1222
  let c8_i32_808 : BitVec 32 := 8#32
  let c0_i32_811 : BitVec 32 := 0#32
  let v1224 : BitVec 1 := Scalar.cmpi .sgt c8_i32_808 c0_i32_811
  let v1225 : BitVec 32 := Scalar.extui v1224
  let c0_i32_812 : BitVec 32 := 0#32
  let v1226 : BitVec 1 := Scalar.cmpi .slt c8_i32_808 c0_i32_812
  let v1227 : BitVec 32 := Scalar.extui v1226
  let v1228 : BitVec 32 := Scalar.subi v1225 v1227
  let v1229 : BitVec 1 := Scalar.cmpi .ne v1223 v1228
  let v1230 : BitVec 32 := Scalar.remsi v1217 c8_i32_808
  let c0_i32_813 : BitVec 32 := 0#32
  let v1231 : BitVec 1 := Scalar.cmpi .ne v1230 c0_i32_813
  let v1232 : BitVec 1 := Scalar.andi v1229 v1231
  let v1218 : BitVec 32 := Scalar.divsi v1217 c8_i32_808
  let c1_i32_814 : BitVec 32 := 1#32
  let v1233 : BitVec 32 := Scalar.subi v1218 c1_i32_814
  let v1234 : BitVec 32 := Scalar.select v1232 v1233 v1218
  let c8_i32_815 : BitVec 32 := 8#32
  let v1235 : BitVec 32 := Scalar.muli v1234 c8_i32_815
  let c184_i32_816 : BitVec 32 := 184#32
  let v1236 : BitVec 32 := Scalar.minsi v1235 c184_i32_816
  let v1237 : BitVec 32 := v1236
  let c0_i32_820 : BitVec 32 := 0#32
  ![235, 0, v1237.toNat, 0]

def k0_chk124 (i : grid0.Coords) (v1217 : BitVec 32) : Prop :=
  (∀ (k0_h4 : k0_cond4 i = 1#1), 8 ∣ (k0_mult124 v1217).toNat) ∧
  (∀ (k0_h4 : k0_cond4 i = 1#1), ∀ a, (k0_off435 v1217) a + S1x3x40x224.size a ≤ S256x3x224x224.size a)
theorem k0_mult124_dvd : ∀ (i : grid0.Coords) (v1217 : BitVec 32) (k0_hw124 : k0_chk124 i v1217), ∀ (k0_h4 : k0_cond4 i = 1#1), 8 ∣ (k0_mult124 v1217).toNat := fun i v1217 k0_hw124 k0_h4 => k0_hw124.1 k0_h4
theorem k0_off435_inb : ∀ (i : grid0.Coords) (v1217 : BitVec 32) (k0_hw124 : k0_chk124 i v1217), ∀ (k0_h4 : k0_cond4 i = 1#1), ∀ a, (k0_off435 v1217) a + S1x3x40x224.size a ≤ S256x3x224x224.size a := fun i v1217 k0_hw124 k0_h4 => k0_hw124.2 k0_h4

def k0_off436 : Fin 5 → Nat :=
  let c14_i32_805 : BitVec 32 := 14#32
  let c4_i32_806 : BitVec 32 := 4#32
  let v1216 : BitVec 32 := Scalar.remsi c14_i32_805 c4_i32_806
  let c11_i32_817 : BitVec 32 := 11#32
  let c0_i32_821 : BitVec 32 := 0#32
  let c0_i32_822 : BitVec 32 := 0#32
  let c0_i32_823 : BitVec 32 := 0#32
  ![v1216.toNat, 11, 0, 0, 0]
def k0_mult125 (v1245 : BitVec 32) : BitVec 32 :=
  let c0_i32_828 : BitVec 32 := 0#32
  let v1247 : BitVec 1 := Scalar.cmpi .sgt v1245 c0_i32_828
  let v1248 : BitVec 32 := Scalar.extui v1247
  let c0_i32_829 : BitVec 32 := 0#32
  let v1249 : BitVec 1 := Scalar.cmpi .slt v1245 c0_i32_829
  let v1250 : BitVec 32 := Scalar.extui v1249
  let v1251 : BitVec 32 := Scalar.subi v1248 v1250
  let c8_i32_827 : BitVec 32 := 8#32
  let c0_i32_830 : BitVec 32 := 0#32
  let v1252 : BitVec 1 := Scalar.cmpi .sgt c8_i32_827 c0_i32_830
  let v1253 : BitVec 32 := Scalar.extui v1252
  let c0_i32_831 : BitVec 32 := 0#32
  let v1254 : BitVec 1 := Scalar.cmpi .slt c8_i32_827 c0_i32_831
  let v1255 : BitVec 32 := Scalar.extui v1254
  let v1256 : BitVec 32 := Scalar.subi v1253 v1255
  let v1257 : BitVec 1 := Scalar.cmpi .ne v1251 v1256
  let v1258 : BitVec 32 := Scalar.remsi v1245 c8_i32_827
  let c0_i32_832 : BitVec 32 := 0#32
  let v1259 : BitVec 1 := Scalar.cmpi .ne v1258 c0_i32_832
  let v1260 : BitVec 1 := Scalar.andi v1257 v1259
  let v1246 : BitVec 32 := Scalar.divsi v1245 c8_i32_827
  let c1_i32_833 : BitVec 32 := 1#32
  let v1261 : BitVec 32 := Scalar.subi v1246 c1_i32_833
  let v1262 : BitVec 32 := Scalar.select v1260 v1261 v1246
  let c8_i32_834 : BitVec 32 := 8#32
  let v1263 : BitVec 32 := Scalar.muli v1262 c8_i32_834
  let c184_i32_835 : BitVec 32 := 184#32
  let v1264 : BitVec 32 := Scalar.minsi v1263 c184_i32_835
  v1264

def k0_off437 : Fin 2 → Nat :=
  let c14_i32_824 : BitVec 32 := 14#32
  let c4_i32_825 : BitVec 32 := 4#32
  let v1244 : BitVec 32 := Scalar.remsi c14_i32_824 c4_i32_825
  let c12_i32_837 : BitVec 32 := 12#32
  ![v1244.toNat, 12]
def k0_off438 (v1245 : BitVec 32) : Fin 4 → Nat :=
  let c236_i32 : BitVec 32 := 236#32
  let c0_i32_838 : BitVec 32 := 0#32
  let c0_i32_828 : BitVec 32 := 0#32
  let v1247 : BitVec 1 := Scalar.cmpi .sgt v1245 c0_i32_828
  let v1248 : BitVec 32 := Scalar.extui v1247
  let c0_i32_829 : BitVec 32 := 0#32
  let v1249 : BitVec 1 := Scalar.cmpi .slt v1245 c0_i32_829
  let v1250 : BitVec 32 := Scalar.extui v1249
  let v1251 : BitVec 32 := Scalar.subi v1248 v1250
  let c8_i32_827 : BitVec 32 := 8#32
  let c0_i32_830 : BitVec 32 := 0#32
  let v1252 : BitVec 1 := Scalar.cmpi .sgt c8_i32_827 c0_i32_830
  let v1253 : BitVec 32 := Scalar.extui v1252
  let c0_i32_831 : BitVec 32 := 0#32
  let v1254 : BitVec 1 := Scalar.cmpi .slt c8_i32_827 c0_i32_831
  let v1255 : BitVec 32 := Scalar.extui v1254
  let v1256 : BitVec 32 := Scalar.subi v1253 v1255
  let v1257 : BitVec 1 := Scalar.cmpi .ne v1251 v1256
  let v1258 : BitVec 32 := Scalar.remsi v1245 c8_i32_827
  let c0_i32_832 : BitVec 32 := 0#32
  let v1259 : BitVec 1 := Scalar.cmpi .ne v1258 c0_i32_832
  let v1260 : BitVec 1 := Scalar.andi v1257 v1259
  let v1246 : BitVec 32 := Scalar.divsi v1245 c8_i32_827
  let c1_i32_833 : BitVec 32 := 1#32
  let v1261 : BitVec 32 := Scalar.subi v1246 c1_i32_833
  let v1262 : BitVec 32 := Scalar.select v1260 v1261 v1246
  let c8_i32_834 : BitVec 32 := 8#32
  let v1263 : BitVec 32 := Scalar.muli v1262 c8_i32_834
  let c184_i32_835 : BitVec 32 := 184#32
  let v1264 : BitVec 32 := Scalar.minsi v1263 c184_i32_835
  let v1265 : BitVec 32 := v1264
  let c0_i32_839 : BitVec 32 := 0#32
  ![236, 0, v1265.toNat, 0]

def k0_chk125 (i : grid0.Coords) (v1245 : BitVec 32) : Prop :=
  (∀ (k0_h4 : k0_cond4 i = 1#1), 8 ∣ (k0_mult125 v1245).toNat) ∧
  (∀ (k0_h4 : k0_cond4 i = 1#1), ∀ a, (k0_off438 v1245) a + S1x3x40x224.size a ≤ S256x3x224x224.size a)
theorem k0_mult125_dvd : ∀ (i : grid0.Coords) (v1245 : BitVec 32) (k0_hw125 : k0_chk125 i v1245), ∀ (k0_h4 : k0_cond4 i = 1#1), 8 ∣ (k0_mult125 v1245).toNat := fun i v1245 k0_hw125 k0_h4 => k0_hw125.1 k0_h4
theorem k0_off438_inb : ∀ (i : grid0.Coords) (v1245 : BitVec 32) (k0_hw125 : k0_chk125 i v1245), ∀ (k0_h4 : k0_cond4 i = 1#1), ∀ a, (k0_off438 v1245) a + S1x3x40x224.size a ≤ S256x3x224x224.size a := fun i v1245 k0_hw125 k0_h4 => k0_hw125.2 k0_h4

def k0_off439 : Fin 5 → Nat :=
  let c14_i32_824 : BitVec 32 := 14#32
  let c4_i32_825 : BitVec 32 := 4#32
  let v1244 : BitVec 32 := Scalar.remsi c14_i32_824 c4_i32_825
  let c12_i32_836 : BitVec 32 := 12#32
  let c0_i32_840 : BitVec 32 := 0#32
  let c0_i32_841 : BitVec 32 := 0#32
  let c0_i32_842 : BitVec 32 := 0#32
  ![v1244.toNat, 12, 0, 0, 0]
def k0_mult126 (v1273 : BitVec 32) : BitVec 32 :=
  let c0_i32_847 : BitVec 32 := 0#32
  let v1275 : BitVec 1 := Scalar.cmpi .sgt v1273 c0_i32_847
  let v1276 : BitVec 32 := Scalar.extui v1275
  let c0_i32_848 : BitVec 32 := 0#32
  let v1277 : BitVec 1 := Scalar.cmpi .slt v1273 c0_i32_848
  let v1278 : BitVec 32 := Scalar.extui v1277
  let v1279 : BitVec 32 := Scalar.subi v1276 v1278
  let c8_i32_846 : BitVec 32 := 8#32
  let c0_i32_849 : BitVec 32 := 0#32
  let v1280 : BitVec 1 := Scalar.cmpi .sgt c8_i32_846 c0_i32_849
  let v1281 : BitVec 32 := Scalar.extui v1280
  let c0_i32_850 : BitVec 32 := 0#32
  let v1282 : BitVec 1 := Scalar.cmpi .slt c8_i32_846 c0_i32_850
  let v1283 : BitVec 32 := Scalar.extui v1282
  let v1284 : BitVec 32 := Scalar.subi v1281 v1283
  let v1285 : BitVec 1 := Scalar.cmpi .ne v1279 v1284
  let v1286 : BitVec 32 := Scalar.remsi v1273 c8_i32_846
  let c0_i32_851 : BitVec 32 := 0#32
  let v1287 : BitVec 1 := Scalar.cmpi .ne v1286 c0_i32_851
  let v1288 : BitVec 1 := Scalar.andi v1285 v1287
  let v1274 : BitVec 32 := Scalar.divsi v1273 c8_i32_846
  let c1_i32_852 : BitVec 32 := 1#32
  let v1289 : BitVec 32 := Scalar.subi v1274 c1_i32_852
  let v1290 : BitVec 32 := Scalar.select v1288 v1289 v1274
  let c8_i32_853 : BitVec 32 := 8#32
  let v1291 : BitVec 32 := Scalar.muli v1290 c8_i32_853
  let c184_i32_854 : BitVec 32 := 184#32
  let v1292 : BitVec 32 := Scalar.minsi v1291 c184_i32_854
  v1292

def k0_off440 : Fin 2 → Nat :=
  let c14_i32_843 : BitVec 32 := 14#32
  let c4_i32_844 : BitVec 32 := 4#32
  let v1272 : BitVec 32 := Scalar.remsi c14_i32_843 c4_i32_844
  let c13_i32_856 : BitVec 32 := 13#32
  ![v1272.toNat, 13]
def k0_off441 (v1273 : BitVec 32) : Fin 4 → Nat :=
  let c237_i32 : BitVec 32 := 237#32
  let c0_i32_857 : BitVec 32 := 0#32
  let c0_i32_847 : BitVec 32 := 0#32
  let v1275 : BitVec 1 := Scalar.cmpi .sgt v1273 c0_i32_847
  let v1276 : BitVec 32 := Scalar.extui v1275
  let c0_i32_848 : BitVec 32 := 0#32
  let v1277 : BitVec 1 := Scalar.cmpi .slt v1273 c0_i32_848
  let v1278 : BitVec 32 := Scalar.extui v1277
  let v1279 : BitVec 32 := Scalar.subi v1276 v1278
  let c8_i32_846 : BitVec 32 := 8#32
  let c0_i32_849 : BitVec 32 := 0#32
  let v1280 : BitVec 1 := Scalar.cmpi .sgt c8_i32_846 c0_i32_849
  let v1281 : BitVec 32 := Scalar.extui v1280
  let c0_i32_850 : BitVec 32 := 0#32
  let v1282 : BitVec 1 := Scalar.cmpi .slt c8_i32_846 c0_i32_850
  let v1283 : BitVec 32 := Scalar.extui v1282
  let v1284 : BitVec 32 := Scalar.subi v1281 v1283
  let v1285 : BitVec 1 := Scalar.cmpi .ne v1279 v1284
  let v1286 : BitVec 32 := Scalar.remsi v1273 c8_i32_846
  let c0_i32_851 : BitVec 32 := 0#32
  let v1287 : BitVec 1 := Scalar.cmpi .ne v1286 c0_i32_851
  let v1288 : BitVec 1 := Scalar.andi v1285 v1287
  let v1274 : BitVec 32 := Scalar.divsi v1273 c8_i32_846
  let c1_i32_852 : BitVec 32 := 1#32
  let v1289 : BitVec 32 := Scalar.subi v1274 c1_i32_852
  let v1290 : BitVec 32 := Scalar.select v1288 v1289 v1274
  let c8_i32_853 : BitVec 32 := 8#32
  let v1291 : BitVec 32 := Scalar.muli v1290 c8_i32_853
  let c184_i32_854 : BitVec 32 := 184#32
  let v1292 : BitVec 32 := Scalar.minsi v1291 c184_i32_854
  let v1293 : BitVec 32 := v1292
  let c0_i32_858 : BitVec 32 := 0#32
  ![237, 0, v1293.toNat, 0]

def k0_chk126 (i : grid0.Coords) (v1273 : BitVec 32) : Prop :=
  (∀ (k0_h4 : k0_cond4 i = 1#1), 8 ∣ (k0_mult126 v1273).toNat) ∧
  (∀ (k0_h4 : k0_cond4 i = 1#1), ∀ a, (k0_off441 v1273) a + S1x3x40x224.size a ≤ S256x3x224x224.size a)
theorem k0_mult126_dvd : ∀ (i : grid0.Coords) (v1273 : BitVec 32) (k0_hw126 : k0_chk126 i v1273), ∀ (k0_h4 : k0_cond4 i = 1#1), 8 ∣ (k0_mult126 v1273).toNat := fun i v1273 k0_hw126 k0_h4 => k0_hw126.1 k0_h4
theorem k0_off441_inb : ∀ (i : grid0.Coords) (v1273 : BitVec 32) (k0_hw126 : k0_chk126 i v1273), ∀ (k0_h4 : k0_cond4 i = 1#1), ∀ a, (k0_off441 v1273) a + S1x3x40x224.size a ≤ S256x3x224x224.size a := fun i v1273 k0_hw126 k0_h4 => k0_hw126.2 k0_h4

def k0_off442 : Fin 5 → Nat :=
  let c14_i32_843 : BitVec 32 := 14#32
  let c4_i32_844 : BitVec 32 := 4#32
  let v1272 : BitVec 32 := Scalar.remsi c14_i32_843 c4_i32_844
  let c13_i32_855 : BitVec 32 := 13#32
  let c0_i32_859 : BitVec 32 := 0#32
  let c0_i32_860 : BitVec 32 := 0#32
  let c0_i32_861 : BitVec 32 := 0#32
  ![v1272.toNat, 13, 0, 0, 0]
def k0_mult127 (v1301 : BitVec 32) : BitVec 32 :=
  let c0_i32_866 : BitVec 32 := 0#32
  let v1303 : BitVec 1 := Scalar.cmpi .sgt v1301 c0_i32_866
  let v1304 : BitVec 32 := Scalar.extui v1303
  let c0_i32_867 : BitVec 32 := 0#32
  let v1305 : BitVec 1 := Scalar.cmpi .slt v1301 c0_i32_867
  let v1306 : BitVec 32 := Scalar.extui v1305
  let v1307 : BitVec 32 := Scalar.subi v1304 v1306
  let c8_i32_865 : BitVec 32 := 8#32
  let c0_i32_868 : BitVec 32 := 0#32
  let v1308 : BitVec 1 := Scalar.cmpi .sgt c8_i32_865 c0_i32_868
  let v1309 : BitVec 32 := Scalar.extui v1308
  let c0_i32_869 : BitVec 32 := 0#32
  let v1310 : BitVec 1 := Scalar.cmpi .slt c8_i32_865 c0_i32_869
  let v1311 : BitVec 32 := Scalar.extui v1310
  let v1312 : BitVec 32 := Scalar.subi v1309 v1311
  let v1313 : BitVec 1 := Scalar.cmpi .ne v1307 v1312
  let v1314 : BitVec 32 := Scalar.remsi v1301 c8_i32_865
  let c0_i32_870 : BitVec 32 := 0#32
  let v1315 : BitVec 1 := Scalar.cmpi .ne v1314 c0_i32_870
  let v1316 : BitVec 1 := Scalar.andi v1313 v1315
  let v1302 : BitVec 32 := Scalar.divsi v1301 c8_i32_865
  let c1_i32_871 : BitVec 32 := 1#32
  let v1317 : BitVec 32 := Scalar.subi v1302 c1_i32_871
  let v1318 : BitVec 32 := Scalar.select v1316 v1317 v1302
  let c8_i32_872 : BitVec 32 := 8#32
  let v1319 : BitVec 32 := Scalar.muli v1318 c8_i32_872
  let c184_i32_873 : BitVec 32 := 184#32
  let v1320 : BitVec 32 := Scalar.minsi v1319 c184_i32_873
  v1320

def k0_off443 : Fin 2 → Nat :=
  let c14_i32_862 : BitVec 32 := 14#32
  let c4_i32_863 : BitVec 32 := 4#32
  let v1300 : BitVec 32 := Scalar.remsi c14_i32_862 c4_i32_863
  let c14_i32_875 : BitVec 32 := 14#32
  ![v1300.toNat, 14]
def k0_off444 (v1301 : BitVec 32) : Fin 4 → Nat :=
  let c238_i32 : BitVec 32 := 238#32
  let c0_i32_876 : BitVec 32 := 0#32
  let c0_i32_866 : BitVec 32 := 0#32
  let v1303 : BitVec 1 := Scalar.cmpi .sgt v1301 c0_i32_866
  let v1304 : BitVec 32 := Scalar.extui v1303
  let c0_i32_867 : BitVec 32 := 0#32
  let v1305 : BitVec 1 := Scalar.cmpi .slt v1301 c0_i32_867
  let v1306 : BitVec 32 := Scalar.extui v1305
  let v1307 : BitVec 32 := Scalar.subi v1304 v1306
  let c8_i32_865 : BitVec 32 := 8#32
  let c0_i32_868 : BitVec 32 := 0#32
  let v1308 : BitVec 1 := Scalar.cmpi .sgt c8_i32_865 c0_i32_868
  let v1309 : BitVec 32 := Scalar.extui v1308
  let c0_i32_869 : BitVec 32 := 0#32
  let v1310 : BitVec 1 := Scalar.cmpi .slt c8_i32_865 c0_i32_869
  let v1311 : BitVec 32 := Scalar.extui v1310
  let v1312 : BitVec 32 := Scalar.subi v1309 v1311
  let v1313 : BitVec 1 := Scalar.cmpi .ne v1307 v1312
  let v1314 : BitVec 32 := Scalar.remsi v1301 c8_i32_865
  let c0_i32_870 : BitVec 32 := 0#32
  let v1315 : BitVec 1 := Scalar.cmpi .ne v1314 c0_i32_870
  let v1316 : BitVec 1 := Scalar.andi v1313 v1315
  let v1302 : BitVec 32 := Scalar.divsi v1301 c8_i32_865
  let c1_i32_871 : BitVec 32 := 1#32
  let v1317 : BitVec 32 := Scalar.subi v1302 c1_i32_871
  let v1318 : BitVec 32 := Scalar.select v1316 v1317 v1302
  let c8_i32_872 : BitVec 32 := 8#32
  let v1319 : BitVec 32 := Scalar.muli v1318 c8_i32_872
  let c184_i32_873 : BitVec 32 := 184#32
  let v1320 : BitVec 32 := Scalar.minsi v1319 c184_i32_873
  let v1321 : BitVec 32 := v1320
  let c0_i32_877 : BitVec 32 := 0#32
  ![238, 0, v1321.toNat, 0]

def k0_chk127 (i : grid0.Coords) (v1301 : BitVec 32) : Prop :=
  (∀ (k0_h4 : k0_cond4 i = 1#1), 8 ∣ (k0_mult127 v1301).toNat) ∧
  (∀ (k0_h4 : k0_cond4 i = 1#1), ∀ a, (k0_off444 v1301) a + S1x3x40x224.size a ≤ S256x3x224x224.size a)
theorem k0_mult127_dvd : ∀ (i : grid0.Coords) (v1301 : BitVec 32) (k0_hw127 : k0_chk127 i v1301), ∀ (k0_h4 : k0_cond4 i = 1#1), 8 ∣ (k0_mult127 v1301).toNat := fun i v1301 k0_hw127 k0_h4 => k0_hw127.1 k0_h4
theorem k0_off444_inb : ∀ (i : grid0.Coords) (v1301 : BitVec 32) (k0_hw127 : k0_chk127 i v1301), ∀ (k0_h4 : k0_cond4 i = 1#1), ∀ a, (k0_off444 v1301) a + S1x3x40x224.size a ≤ S256x3x224x224.size a := fun i v1301 k0_hw127 k0_h4 => k0_hw127.2 k0_h4

def k0_off445 : Fin 5 → Nat :=
  let c14_i32_862 : BitVec 32 := 14#32
  let c4_i32_863 : BitVec 32 := 4#32
  let v1300 : BitVec 32 := Scalar.remsi c14_i32_862 c4_i32_863
  let c14_i32_874 : BitVec 32 := 14#32
  let c0_i32_878 : BitVec 32 := 0#32
  let c0_i32_879 : BitVec 32 := 0#32
  let c0_i32_880 : BitVec 32 := 0#32
  ![v1300.toNat, 14, 0, 0, 0]
def k0_mult128 (v1329 : BitVec 32) : BitVec 32 :=
  let c0_i32_885 : BitVec 32 := 0#32
  let v1331 : BitVec 1 := Scalar.cmpi .sgt v1329 c0_i32_885
  let v1332 : BitVec 32 := Scalar.extui v1331
  let c0_i32_886 : BitVec 32 := 0#32
  let v1333 : BitVec 1 := Scalar.cmpi .slt v1329 c0_i32_886
  let v1334 : BitVec 32 := Scalar.extui v1333
  let v1335 : BitVec 32 := Scalar.subi v1332 v1334
  let c8_i32_884 : BitVec 32 := 8#32
  let c0_i32_887 : BitVec 32 := 0#32
  let v1336 : BitVec 1 := Scalar.cmpi .sgt c8_i32_884 c0_i32_887
  let v1337 : BitVec 32 := Scalar.extui v1336
  let c0_i32_888 : BitVec 32 := 0#32
  let v1338 : BitVec 1 := Scalar.cmpi .slt c8_i32_884 c0_i32_888
  let v1339 : BitVec 32 := Scalar.extui v1338
  let v1340 : BitVec 32 := Scalar.subi v1337 v1339
  let v1341 : BitVec 1 := Scalar.cmpi .ne v1335 v1340
  let v1342 : BitVec 32 := Scalar.remsi v1329 c8_i32_884
  let c0_i32_889 : BitVec 32 := 0#32
  let v1343 : BitVec 1 := Scalar.cmpi .ne v1342 c0_i32_889
  let v1344 : BitVec 1 := Scalar.andi v1341 v1343
  let v1330 : BitVec 32 := Scalar.divsi v1329 c8_i32_884
  let c1_i32_890 : BitVec 32 := 1#32
  let v1345 : BitVec 32 := Scalar.subi v1330 c1_i32_890
  let v1346 : BitVec 32 := Scalar.select v1344 v1345 v1330
  let c8_i32_891 : BitVec 32 := 8#32
  let v1347 : BitVec 32 := Scalar.muli v1346 c8_i32_891
  let c184_i32_892 : BitVec 32 := 184#32
  let v1348 : BitVec 32 := Scalar.minsi v1347 c184_i32_892
  v1348

def k0_off446 : Fin 2 → Nat :=
  let c14_i32_881 : BitVec 32 := 14#32
  let c4_i32_882 : BitVec 32 := 4#32
  let v1328 : BitVec 32 := Scalar.remsi c14_i32_881 c4_i32_882
  let c15_i32_894 : BitVec 32 := 15#32
  ![v1328.toNat, 15]
def k0_off447 (v1329 : BitVec 32) : Fin 4 → Nat :=
  let c239_i32 : BitVec 32 := 239#32
  let c0_i32_895 : BitVec 32 := 0#32
  let c0_i32_885 : BitVec 32 := 0#32
  let v1331 : BitVec 1 := Scalar.cmpi .sgt v1329 c0_i32_885
  let v1332 : BitVec 32 := Scalar.extui v1331
  let c0_i32_886 : BitVec 32 := 0#32
  let v1333 : BitVec 1 := Scalar.cmpi .slt v1329 c0_i32_886
  let v1334 : BitVec 32 := Scalar.extui v1333
  let v1335 : BitVec 32 := Scalar.subi v1332 v1334
  let c8_i32_884 : BitVec 32 := 8#32
  let c0_i32_887 : BitVec 32 := 0#32
  let v1336 : BitVec 1 := Scalar.cmpi .sgt c8_i32_884 c0_i32_887
  let v1337 : BitVec 32 := Scalar.extui v1336
  let c0_i32_888 : BitVec 32 := 0#32
  let v1338 : BitVec 1 := Scalar.cmpi .slt c8_i32_884 c0_i32_888
  let v1339 : BitVec 32 := Scalar.extui v1338
  let v1340 : BitVec 32 := Scalar.subi v1337 v1339
  let v1341 : BitVec 1 := Scalar.cmpi .ne v1335 v1340
  let v1342 : BitVec 32 := Scalar.remsi v1329 c8_i32_884
  let c0_i32_889 : BitVec 32 := 0#32
  let v1343 : BitVec 1 := Scalar.cmpi .ne v1342 c0_i32_889
  let v1344 : BitVec 1 := Scalar.andi v1341 v1343
  let v1330 : BitVec 32 := Scalar.divsi v1329 c8_i32_884
  let c1_i32_890 : BitVec 32 := 1#32
  let v1345 : BitVec 32 := Scalar.subi v1330 c1_i32_890
  let v1346 : BitVec 32 := Scalar.select v1344 v1345 v1330
  let c8_i32_891 : BitVec 32 := 8#32
  let v1347 : BitVec 32 := Scalar.muli v1346 c8_i32_891
  let c184_i32_892 : BitVec 32 := 184#32
  let v1348 : BitVec 32 := Scalar.minsi v1347 c184_i32_892
  let v1349 : BitVec 32 := v1348
  let c0_i32_896 : BitVec 32 := 0#32
  ![239, 0, v1349.toNat, 0]

def k0_chk128 (i : grid0.Coords) (v1329 : BitVec 32) : Prop :=
  (∀ (k0_h4 : k0_cond4 i = 1#1), 8 ∣ (k0_mult128 v1329).toNat) ∧
  (∀ (k0_h4 : k0_cond4 i = 1#1), ∀ a, (k0_off447 v1329) a + S1x3x40x224.size a ≤ S256x3x224x224.size a)
theorem k0_mult128_dvd : ∀ (i : grid0.Coords) (v1329 : BitVec 32) (k0_hw128 : k0_chk128 i v1329), ∀ (k0_h4 : k0_cond4 i = 1#1), 8 ∣ (k0_mult128 v1329).toNat := fun i v1329 k0_hw128 k0_h4 => k0_hw128.1 k0_h4
theorem k0_off447_inb : ∀ (i : grid0.Coords) (v1329 : BitVec 32) (k0_hw128 : k0_chk128 i v1329), ∀ (k0_h4 : k0_cond4 i = 1#1), ∀ a, (k0_off447 v1329) a + S1x3x40x224.size a ≤ S256x3x224x224.size a := fun i v1329 k0_hw128 k0_h4 => k0_hw128.2 k0_h4

def k0_off448 : Fin 5 → Nat :=
  let c14_i32_881 : BitVec 32 := 14#32
  let c4_i32_882 : BitVec 32 := 4#32
  let v1328 : BitVec 32 := Scalar.remsi c14_i32_881 c4_i32_882
  let c15_i32_893 : BitVec 32 := 15#32
  let c0_i32_897 : BitVec 32 := 0#32
  let c0_i32_898 : BitVec 32 := 0#32
  let c0_i32_899 : BitVec 32 := 0#32
  ![v1328.toNat, 15, 0, 0, 0]
def k0_mult129 (v1357 : BitVec 32) : BitVec 32 :=
  let c0_i32_904 : BitVec 32 := 0#32
  let v1359 : BitVec 1 := Scalar.cmpi .sgt v1357 c0_i32_904
  let v1360 : BitVec 32 := Scalar.extui v1359
  let c0_i32_905 : BitVec 32 := 0#32
  let v1361 : BitVec 1 := Scalar.cmpi .slt v1357 c0_i32_905
  let v1362 : BitVec 32 := Scalar.extui v1361
  let v1363 : BitVec 32 := Scalar.subi v1360 v1362
  let c8_i32_903 : BitVec 32 := 8#32
  let c0_i32_906 : BitVec 32 := 0#32
  let v1364 : BitVec 1 := Scalar.cmpi .sgt c8_i32_903 c0_i32_906
  let v1365 : BitVec 32 := Scalar.extui v1364
  let c0_i32_907 : BitVec 32 := 0#32
  let v1366 : BitVec 1 := Scalar.cmpi .slt c8_i32_903 c0_i32_907
  let v1367 : BitVec 32 := Scalar.extui v1366
  let v1368 : BitVec 32 := Scalar.subi v1365 v1367
  let v1369 : BitVec 1 := Scalar.cmpi .ne v1363 v1368
  let v1370 : BitVec 32 := Scalar.remsi v1357 c8_i32_903
  let c0_i32_908 : BitVec 32 := 0#32
  let v1371 : BitVec 1 := Scalar.cmpi .ne v1370 c0_i32_908
  let v1372 : BitVec 1 := Scalar.andi v1369 v1371
  let v1358 : BitVec 32 := Scalar.divsi v1357 c8_i32_903
  let c1_i32_909 : BitVec 32 := 1#32
  let v1373 : BitVec 32 := Scalar.subi v1358 c1_i32_909
  let v1374 : BitVec 32 := Scalar.select v1372 v1373 v1358
  let c8_i32_910 : BitVec 32 := 8#32
  let v1375 : BitVec 32 := Scalar.muli v1374 c8_i32_910
  let c184_i32_911 : BitVec 32 := 184#32
  let v1376 : BitVec 32 := Scalar.minsi v1375 c184_i32_911
  v1376

def k0_off449 : Fin 2 → Nat :=
  let c15_i32_900 : BitVec 32 := 15#32
  let c4_i32_901 : BitVec 32 := 4#32
  let v1356 : BitVec 32 := Scalar.remsi c15_i32_900 c4_i32_901
  let c0_i32_913 : BitVec 32 := 0#32
  ![v1356.toNat, 0]
def k0_off450 (v1357 : BitVec 32) : Fin 4 → Nat :=
  let c240_i32 : BitVec 32 := 240#32
  let c0_i32_914 : BitVec 32 := 0#32
  let c0_i32_904 : BitVec 32 := 0#32
  let v1359 : BitVec 1 := Scalar.cmpi .sgt v1357 c0_i32_904
  let v1360 : BitVec 32 := Scalar.extui v1359
  let c0_i32_905 : BitVec 32 := 0#32
  let v1361 : BitVec 1 := Scalar.cmpi .slt v1357 c0_i32_905
  let v1362 : BitVec 32 := Scalar.extui v1361
  let v1363 : BitVec 32 := Scalar.subi v1360 v1362
  let c8_i32_903 : BitVec 32 := 8#32
  let c0_i32_906 : BitVec 32 := 0#32
  let v1364 : BitVec 1 := Scalar.cmpi .sgt c8_i32_903 c0_i32_906
  let v1365 : BitVec 32 := Scalar.extui v1364
  let c0_i32_907 : BitVec 32 := 0#32
  let v1366 : BitVec 1 := Scalar.cmpi .slt c8_i32_903 c0_i32_907
  let v1367 : BitVec 32 := Scalar.extui v1366
  let v1368 : BitVec 32 := Scalar.subi v1365 v1367
  let v1369 : BitVec 1 := Scalar.cmpi .ne v1363 v1368
  let v1370 : BitVec 32 := Scalar.remsi v1357 c8_i32_903
  let c0_i32_908 : BitVec 32 := 0#32
  let v1371 : BitVec 1 := Scalar.cmpi .ne v1370 c0_i32_908
  let v1372 : BitVec 1 := Scalar.andi v1369 v1371
  let v1358 : BitVec 32 := Scalar.divsi v1357 c8_i32_903
  let c1_i32_909 : BitVec 32 := 1#32
  let v1373 : BitVec 32 := Scalar.subi v1358 c1_i32_909
  let v1374 : BitVec 32 := Scalar.select v1372 v1373 v1358
  let c8_i32_910 : BitVec 32 := 8#32
  let v1375 : BitVec 32 := Scalar.muli v1374 c8_i32_910
  let c184_i32_911 : BitVec 32 := 184#32
  let v1376 : BitVec 32 := Scalar.minsi v1375 c184_i32_911
  let v1377 : BitVec 32 := v1376
  let c0_i32_915 : BitVec 32 := 0#32
  ![240, 0, v1377.toNat, 0]

def k0_chk129 (i : grid0.Coords) (v1357 : BitVec 32) : Prop :=
  (∀ (k0_h4 : k0_cond4 i = 1#1), 8 ∣ (k0_mult129 v1357).toNat) ∧
  (∀ (k0_h4 : k0_cond4 i = 1#1), ∀ a, (k0_off450 v1357) a + S1x3x40x224.size a ≤ S256x3x224x224.size a)
theorem k0_mult129_dvd : ∀ (i : grid0.Coords) (v1357 : BitVec 32) (k0_hw129 : k0_chk129 i v1357), ∀ (k0_h4 : k0_cond4 i = 1#1), 8 ∣ (k0_mult129 v1357).toNat := fun i v1357 k0_hw129 k0_h4 => k0_hw129.1 k0_h4
theorem k0_off450_inb : ∀ (i : grid0.Coords) (v1357 : BitVec 32) (k0_hw129 : k0_chk129 i v1357), ∀ (k0_h4 : k0_cond4 i = 1#1), ∀ a, (k0_off450 v1357) a + S1x3x40x224.size a ≤ S256x3x224x224.size a := fun i v1357 k0_hw129 k0_h4 => k0_hw129.2 k0_h4

def k0_off451 : Fin 5 → Nat :=
  let c15_i32_900 : BitVec 32 := 15#32
  let c4_i32_901 : BitVec 32 := 4#32
  let v1356 : BitVec 32 := Scalar.remsi c15_i32_900 c4_i32_901
  let c0_i32_912 : BitVec 32 := 0#32
  let c0_i32_916 : BitVec 32 := 0#32
  let c0_i32_917 : BitVec 32 := 0#32
  let c0_i32_918 : BitVec 32 := 0#32
  ![v1356.toNat, 0, 0, 0, 0]
def k0_mult130 (v1385 : BitVec 32) : BitVec 32 :=
  let c0_i32_923 : BitVec 32 := 0#32
  let v1387 : BitVec 1 := Scalar.cmpi .sgt v1385 c0_i32_923
  let v1388 : BitVec 32 := Scalar.extui v1387
  let c0_i32_924 : BitVec 32 := 0#32
  let v1389 : BitVec 1 := Scalar.cmpi .slt v1385 c0_i32_924
  let v1390 : BitVec 32 := Scalar.extui v1389
  let v1391 : BitVec 32 := Scalar.subi v1388 v1390
  let c8_i32_922 : BitVec 32 := 8#32
  let c0_i32_925 : BitVec 32 := 0#32
  let v1392 : BitVec 1 := Scalar.cmpi .sgt c8_i32_922 c0_i32_925
  let v1393 : BitVec 32 := Scalar.extui v1392
  let c0_i32_926 : BitVec 32 := 0#32
  let v1394 : BitVec 1 := Scalar.cmpi .slt c8_i32_922 c0_i32_926
  let v1395 : BitVec 32 := Scalar.extui v1394
  let v1396 : BitVec 32 := Scalar.subi v1393 v1395
  let v1397 : BitVec 1 := Scalar.cmpi .ne v1391 v1396
  let v1398 : BitVec 32 := Scalar.remsi v1385 c8_i32_922
  let c0_i32_927 : BitVec 32 := 0#32
  let v1399 : BitVec 1 := Scalar.cmpi .ne v1398 c0_i32_927
  let v1400 : BitVec 1 := Scalar.andi v1397 v1399
  let v1386 : BitVec 32 := Scalar.divsi v1385 c8_i32_922
  let c1_i32_928 : BitVec 32 := 1#32
  let v1401 : BitVec 32 := Scalar.subi v1386 c1_i32_928
  let v1402 : BitVec 32 := Scalar.select v1400 v1401 v1386
  let c8_i32_929 : BitVec 32 := 8#32
  let v1403 : BitVec 32 := Scalar.muli v1402 c8_i32_929
  let c184_i32_930 : BitVec 32 := 184#32
  let v1404 : BitVec 32 := Scalar.minsi v1403 c184_i32_930
  v1404

def k0_off452 : Fin 2 → Nat :=
  let c15_i32_919 : BitVec 32 := 15#32
  let c4_i32_920 : BitVec 32 := 4#32
  let v1384 : BitVec 32 := Scalar.remsi c15_i32_919 c4_i32_920
  let c1_i32_932 : BitVec 32 := 1#32
  ![v1384.toNat, 1]
def k0_off453 (v1385 : BitVec 32) : Fin 4 → Nat :=
  let c241_i32 : BitVec 32 := 241#32
  let c0_i32_933 : BitVec 32 := 0#32
  let c0_i32_923 : BitVec 32 := 0#32
  let v1387 : BitVec 1 := Scalar.cmpi .sgt v1385 c0_i32_923
  let v1388 : BitVec 32 := Scalar.extui v1387
  let c0_i32_924 : BitVec 32 := 0#32
  let v1389 : BitVec 1 := Scalar.cmpi .slt v1385 c0_i32_924
  let v1390 : BitVec 32 := Scalar.extui v1389
  let v1391 : BitVec 32 := Scalar.subi v1388 v1390
  let c8_i32_922 : BitVec 32 := 8#32
  let c0_i32_925 : BitVec 32 := 0#32
  let v1392 : BitVec 1 := Scalar.cmpi .sgt c8_i32_922 c0_i32_925
  let v1393 : BitVec 32 := Scalar.extui v1392
  let c0_i32_926 : BitVec 32 := 0#32
  let v1394 : BitVec 1 := Scalar.cmpi .slt c8_i32_922 c0_i32_926
  let v1395 : BitVec 32 := Scalar.extui v1394
  let v1396 : BitVec 32 := Scalar.subi v1393 v1395
  let v1397 : BitVec 1 := Scalar.cmpi .ne v1391 v1396
  let v1398 : BitVec 32 := Scalar.remsi v1385 c8_i32_922
  let c0_i32_927 : BitVec 32 := 0#32
  let v1399 : BitVec 1 := Scalar.cmpi .ne v1398 c0_i32_927
  let v1400 : BitVec 1 := Scalar.andi v1397 v1399
  let v1386 : BitVec 32 := Scalar.divsi v1385 c8_i32_922
  let c1_i32_928 : BitVec 32 := 1#32
  let v1401 : BitVec 32 := Scalar.subi v1386 c1_i32_928
  let v1402 : BitVec 32 := Scalar.select v1400 v1401 v1386
  let c8_i32_929 : BitVec 32 := 8#32
  let v1403 : BitVec 32 := Scalar.muli v1402 c8_i32_929
  let c184_i32_930 : BitVec 32 := 184#32
  let v1404 : BitVec 32 := Scalar.minsi v1403 c184_i32_930
  let v1405 : BitVec 32 := v1404
  let c0_i32_934 : BitVec 32 := 0#32
  ![241, 0, v1405.toNat, 0]

def k0_chk130 (i : grid0.Coords) (v1385 : BitVec 32) : Prop :=
  (∀ (k0_h4 : k0_cond4 i = 1#1), 8 ∣ (k0_mult130 v1385).toNat) ∧
  (∀ (k0_h4 : k0_cond4 i = 1#1), ∀ a, (k0_off453 v1385) a + S1x3x40x224.size a ≤ S256x3x224x224.size a)
theorem k0_mult130_dvd : ∀ (i : grid0.Coords) (v1385 : BitVec 32) (k0_hw130 : k0_chk130 i v1385), ∀ (k0_h4 : k0_cond4 i = 1#1), 8 ∣ (k0_mult130 v1385).toNat := fun i v1385 k0_hw130 k0_h4 => k0_hw130.1 k0_h4
theorem k0_off453_inb : ∀ (i : grid0.Coords) (v1385 : BitVec 32) (k0_hw130 : k0_chk130 i v1385), ∀ (k0_h4 : k0_cond4 i = 1#1), ∀ a, (k0_off453 v1385) a + S1x3x40x224.size a ≤ S256x3x224x224.size a := fun i v1385 k0_hw130 k0_h4 => k0_hw130.2 k0_h4

def k0_off454 : Fin 5 → Nat :=
  let c15_i32_919 : BitVec 32 := 15#32
  let c4_i32_920 : BitVec 32 := 4#32
  let v1384 : BitVec 32 := Scalar.remsi c15_i32_919 c4_i32_920
  let c1_i32_931 : BitVec 32 := 1#32
  let c0_i32_935 : BitVec 32 := 0#32
  let c0_i32_936 : BitVec 32 := 0#32
  let c0_i32_937 : BitVec 32 := 0#32
  ![v1384.toNat, 1, 0, 0, 0]
def k0_mult131 (v1413 : BitVec 32) : BitVec 32 :=
  let c0_i32_942 : BitVec 32 := 0#32
  let v1415 : BitVec 1 := Scalar.cmpi .sgt v1413 c0_i32_942
  let v1416 : BitVec 32 := Scalar.extui v1415
  let c0_i32_943 : BitVec 32 := 0#32
  let v1417 : BitVec 1 := Scalar.cmpi .slt v1413 c0_i32_943
  let v1418 : BitVec 32 := Scalar.extui v1417
  let v1419 : BitVec 32 := Scalar.subi v1416 v1418
  let c8_i32_941 : BitVec 32 := 8#32
  let c0_i32_944 : BitVec 32 := 0#32
  let v1420 : BitVec 1 := Scalar.cmpi .sgt c8_i32_941 c0_i32_944
  let v1421 : BitVec 32 := Scalar.extui v1420
  let c0_i32_945 : BitVec 32 := 0#32
  let v1422 : BitVec 1 := Scalar.cmpi .slt c8_i32_941 c0_i32_945
  let v1423 : BitVec 32 := Scalar.extui v1422
  let v1424 : BitVec 32 := Scalar.subi v1421 v1423
  let v1425 : BitVec 1 := Scalar.cmpi .ne v1419 v1424
  let v1426 : BitVec 32 := Scalar.remsi v1413 c8_i32_941
  let c0_i32_946 : BitVec 32 := 0#32
  let v1427 : BitVec 1 := Scalar.cmpi .ne v1426 c0_i32_946
  let v1428 : BitVec 1 := Scalar.andi v1425 v1427
  let v1414 : BitVec 32 := Scalar.divsi v1413 c8_i32_941
  let c1_i32_947 : BitVec 32 := 1#32
  let v1429 : BitVec 32 := Scalar.subi v1414 c1_i32_947
  let v1430 : BitVec 32 := Scalar.select v1428 v1429 v1414
  let c8_i32_948 : BitVec 32 := 8#32
  let v1431 : BitVec 32 := Scalar.muli v1430 c8_i32_948
  let c184_i32_949 : BitVec 32 := 184#32
  let v1432 : BitVec 32 := Scalar.minsi v1431 c184_i32_949
  v1432

def k0_off455 : Fin 2 → Nat :=
  let c15_i32_938 : BitVec 32 := 15#32
  let c4_i32_939 : BitVec 32 := 4#32
  let v1412 : BitVec 32 := Scalar.remsi c15_i32_938 c4_i32_939
  let c2_i32_951 : BitVec 32 := 2#32
  ![v1412.toNat, 2]
def k0_off456 (v1413 : BitVec 32) : Fin 4 → Nat :=
  let c242_i32 : BitVec 32 := 242#32
  let c0_i32_952 : BitVec 32 := 0#32
  let c0_i32_942 : BitVec 32 := 0#32
  let v1415 : BitVec 1 := Scalar.cmpi .sgt v1413 c0_i32_942
  let v1416 : BitVec 32 := Scalar.extui v1415
  let c0_i32_943 : BitVec 32 := 0#32
  let v1417 : BitVec 1 := Scalar.cmpi .slt v1413 c0_i32_943
  let v1418 : BitVec 32 := Scalar.extui v1417
  let v1419 : BitVec 32 := Scalar.subi v1416 v1418
  let c8_i32_941 : BitVec 32 := 8#32
  let c0_i32_944 : BitVec 32 := 0#32
  let v1420 : BitVec 1 := Scalar.cmpi .sgt c8_i32_941 c0_i32_944
  let v1421 : BitVec 32 := Scalar.extui v1420
  let c0_i32_945 : BitVec 32 := 0#32
  let v1422 : BitVec 1 := Scalar.cmpi .slt c8_i32_941 c0_i32_945
  let v1423 : BitVec 32 := Scalar.extui v1422
  let v1424 : BitVec 32 := Scalar.subi v1421 v1423
  let v1425 : BitVec 1 := Scalar.cmpi .ne v1419 v1424
  let v1426 : BitVec 32 := Scalar.remsi v1413 c8_i32_941
  let c0_i32_946 : BitVec 32 := 0#32
  let v1427 : BitVec 1 := Scalar.cmpi .ne v1426 c0_i32_946
  let v1428 : BitVec 1 := Scalar.andi v1425 v1427
  let v1414 : BitVec 32 := Scalar.divsi v1413 c8_i32_941
  let c1_i32_947 : BitVec 32 := 1#32
  let v1429 : BitVec 32 := Scalar.subi v1414 c1_i32_947
  let v1430 : BitVec 32 := Scalar.select v1428 v1429 v1414
  let c8_i32_948 : BitVec 32 := 8#32
  let v1431 : BitVec 32 := Scalar.muli v1430 c8_i32_948
  let c184_i32_949 : BitVec 32 := 184#32
  let v1432 : BitVec 32 := Scalar.minsi v1431 c184_i32_949
  let v1433 : BitVec 32 := v1432
  let c0_i32_953 : BitVec 32 := 0#32
  ![242, 0, v1433.toNat, 0]

def k0_chk131 (i : grid0.Coords) (v1413 : BitVec 32) : Prop :=
  (∀ (k0_h4 : k0_cond4 i = 1#1), 8 ∣ (k0_mult131 v1413).toNat) ∧
  (∀ (k0_h4 : k0_cond4 i = 1#1), ∀ a, (k0_off456 v1413) a + S1x3x40x224.size a ≤ S256x3x224x224.size a)
theorem k0_mult131_dvd : ∀ (i : grid0.Coords) (v1413 : BitVec 32) (k0_hw131 : k0_chk131 i v1413), ∀ (k0_h4 : k0_cond4 i = 1#1), 8 ∣ (k0_mult131 v1413).toNat := fun i v1413 k0_hw131 k0_h4 => k0_hw131.1 k0_h4
theorem k0_off456_inb : ∀ (i : grid0.Coords) (v1413 : BitVec 32) (k0_hw131 : k0_chk131 i v1413), ∀ (k0_h4 : k0_cond4 i = 1#1), ∀ a, (k0_off456 v1413) a + S1x3x40x224.size a ≤ S256x3x224x224.size a := fun i v1413 k0_hw131 k0_h4 => k0_hw131.2 k0_h4

def k0_off457 : Fin 5 → Nat :=
  let c15_i32_938 : BitVec 32 := 15#32
  let c4_i32_939 : BitVec 32 := 4#32
  let v1412 : BitVec 32 := Scalar.remsi c15_i32_938 c4_i32_939
  let c2_i32_950 : BitVec 32 := 2#32
  let c0_i32_954 : BitVec 32 := 0#32
  let c0_i32_955 : BitVec 32 := 0#32
  let c0_i32_956 : BitVec 32 := 0#32
  ![v1412.toNat, 2, 0, 0, 0]
def k0_mult132 (v1441 : BitVec 32) : BitVec 32 :=
  let c0_i32_961 : BitVec 32 := 0#32
  let v1443 : BitVec 1 := Scalar.cmpi .sgt v1441 c0_i32_961
  let v1444 : BitVec 32 := Scalar.extui v1443
  let c0_i32_962 : BitVec 32 := 0#32
  let v1445 : BitVec 1 := Scalar.cmpi .slt v1441 c0_i32_962
  let v1446 : BitVec 32 := Scalar.extui v1445
  let v1447 : BitVec 32 := Scalar.subi v1444 v1446
  let c8_i32_960 : BitVec 32 := 8#32
  let c0_i32_963 : BitVec 32 := 0#32
  let v1448 : BitVec 1 := Scalar.cmpi .sgt c8_i32_960 c0_i32_963
  let v1449 : BitVec 32 := Scalar.extui v1448
  let c0_i32_964 : BitVec 32 := 0#32
  let v1450 : BitVec 1 := Scalar.cmpi .slt c8_i32_960 c0_i32_964
  let v1451 : BitVec 32 := Scalar.extui v1450
  let v1452 : BitVec 32 := Scalar.subi v1449 v1451
  let v1453 : BitVec 1 := Scalar.cmpi .ne v1447 v1452
  let v1454 : BitVec 32 := Scalar.remsi v1441 c8_i32_960
  let c0_i32_965 : BitVec 32 := 0#32
  let v1455 : BitVec 1 := Scalar.cmpi .ne v1454 c0_i32_965
  let v1456 : BitVec 1 := Scalar.andi v1453 v1455
  let v1442 : BitVec 32 := Scalar.divsi v1441 c8_i32_960
  let c1_i32_966 : BitVec 32 := 1#32
  let v1457 : BitVec 32 := Scalar.subi v1442 c1_i32_966
  let v1458 : BitVec 32 := Scalar.select v1456 v1457 v1442
  let c8_i32_967 : BitVec 32 := 8#32
  let v1459 : BitVec 32 := Scalar.muli v1458 c8_i32_967
  let c184_i32_968 : BitVec 32 := 184#32
  let v1460 : BitVec 32 := Scalar.minsi v1459 c184_i32_968
  v1460

def k0_off458 : Fin 2 → Nat :=
  let c15_i32_957 : BitVec 32 := 15#32
  let c4_i32_958 : BitVec 32 := 4#32
  let v1440 : BitVec 32 := Scalar.remsi c15_i32_957 c4_i32_958
  let c3_i32_970 : BitVec 32 := 3#32
  ![v1440.toNat, 3]
def k0_off459 (v1441 : BitVec 32) : Fin 4 → Nat :=
  let c243_i32 : BitVec 32 := 243#32
  let c0_i32_971 : BitVec 32 := 0#32
  let c0_i32_961 : BitVec 32 := 0#32
  let v1443 : BitVec 1 := Scalar.cmpi .sgt v1441 c0_i32_961
  let v1444 : BitVec 32 := Scalar.extui v1443
  let c0_i32_962 : BitVec 32 := 0#32
  let v1445 : BitVec 1 := Scalar.cmpi .slt v1441 c0_i32_962
  let v1446 : BitVec 32 := Scalar.extui v1445
  let v1447 : BitVec 32 := Scalar.subi v1444 v1446
  let c8_i32_960 : BitVec 32 := 8#32
  let c0_i32_963 : BitVec 32 := 0#32
  let v1448 : BitVec 1 := Scalar.cmpi .sgt c8_i32_960 c0_i32_963
  let v1449 : BitVec 32 := Scalar.extui v1448
  let c0_i32_964 : BitVec 32 := 0#32
  let v1450 : BitVec 1 := Scalar.cmpi .slt c8_i32_960 c0_i32_964
  let v1451 : BitVec 32 := Scalar.extui v1450
  let v1452 : BitVec 32 := Scalar.subi v1449 v1451
  let v1453 : BitVec 1 := Scalar.cmpi .ne v1447 v1452
  let v1454 : BitVec 32 := Scalar.remsi v1441 c8_i32_960
  let c0_i32_965 : BitVec 32 := 0#32
  let v1455 : BitVec 1 := Scalar.cmpi .ne v1454 c0_i32_965
  let v1456 : BitVec 1 := Scalar.andi v1453 v1455
  let v1442 : BitVec 32 := Scalar.divsi v1441 c8_i32_960
  let c1_i32_966 : BitVec 32 := 1#32
  let v1457 : BitVec 32 := Scalar.subi v1442 c1_i32_966
  let v1458 : BitVec 32 := Scalar.select v1456 v1457 v1442
  let c8_i32_967 : BitVec 32 := 8#32
  let v1459 : BitVec 32 := Scalar.muli v1458 c8_i32_967
  let c184_i32_968 : BitVec 32 := 184#32
  let v1460 : BitVec 32 := Scalar.minsi v1459 c184_i32_968
  let v1461 : BitVec 32 := v1460
  let c0_i32_972 : BitVec 32 := 0#32
  ![243, 0, v1461.toNat, 0]

def k0_chk132 (i : grid0.Coords) (v1441 : BitVec 32) : Prop :=
  (∀ (k0_h4 : k0_cond4 i = 1#1), 8 ∣ (k0_mult132 v1441).toNat) ∧
  (∀ (k0_h4 : k0_cond4 i = 1#1), ∀ a, (k0_off459 v1441) a + S1x3x40x224.size a ≤ S256x3x224x224.size a)
theorem k0_mult132_dvd : ∀ (i : grid0.Coords) (v1441 : BitVec 32) (k0_hw132 : k0_chk132 i v1441), ∀ (k0_h4 : k0_cond4 i = 1#1), 8 ∣ (k0_mult132 v1441).toNat := fun i v1441 k0_hw132 k0_h4 => k0_hw132.1 k0_h4
theorem k0_off459_inb : ∀ (i : grid0.Coords) (v1441 : BitVec 32) (k0_hw132 : k0_chk132 i v1441), ∀ (k0_h4 : k0_cond4 i = 1#1), ∀ a, (k0_off459 v1441) a + S1x3x40x224.size a ≤ S256x3x224x224.size a := fun i v1441 k0_hw132 k0_h4 => k0_hw132.2 k0_h4

def k0_off460 : Fin 5 → Nat :=
  let c15_i32_957 : BitVec 32 := 15#32
  let c4_i32_958 : BitVec 32 := 4#32
  let v1440 : BitVec 32 := Scalar.remsi c15_i32_957 c4_i32_958
  let c3_i32_969 : BitVec 32 := 3#32
  let c0_i32_973 : BitVec 32 := 0#32
  let c0_i32_974 : BitVec 32 := 0#32
  let c0_i32_975 : BitVec 32 := 0#32
  ![v1440.toNat, 3, 0, 0, 0]
def k0_mult133 (v1469 : BitVec 32) : BitVec 32 :=
  let c0_i32_980 : BitVec 32 := 0#32
  let v1471 : BitVec 1 := Scalar.cmpi .sgt v1469 c0_i32_980
  let v1472 : BitVec 32 := Scalar.extui v1471
  let c0_i32_981 : BitVec 32 := 0#32
  let v1473 : BitVec 1 := Scalar.cmpi .slt v1469 c0_i32_981
  let v1474 : BitVec 32 := Scalar.extui v1473
  let v1475 : BitVec 32 := Scalar.subi v1472 v1474
  let c8_i32_979 : BitVec 32 := 8#32
  let c0_i32_982 : BitVec 32 := 0#32
  let v1476 : BitVec 1 := Scalar.cmpi .sgt c8_i32_979 c0_i32_982
  let v1477 : BitVec 32 := Scalar.extui v1476
  let c0_i32_983 : BitVec 32 := 0#32
  let v1478 : BitVec 1 := Scalar.cmpi .slt c8_i32_979 c0_i32_983
  let v1479 : BitVec 32 := Scalar.extui v1478
  let v1480 : BitVec 32 := Scalar.subi v1477 v1479
  let v1481 : BitVec 1 := Scalar.cmpi .ne v1475 v1480
  let v1482 : BitVec 32 := Scalar.remsi v1469 c8_i32_979
  let c0_i32_984 : BitVec 32 := 0#32
  let v1483 : BitVec 1 := Scalar.cmpi .ne v1482 c0_i32_984
  let v1484 : BitVec 1 := Scalar.andi v1481 v1483
  let v1470 : BitVec 32 := Scalar.divsi v1469 c8_i32_979
  let c1_i32_985 : BitVec 32 := 1#32
  let v1485 : BitVec 32 := Scalar.subi v1470 c1_i32_985
  let v1486 : BitVec 32 := Scalar.select v1484 v1485 v1470
  let c8_i32_986 : BitVec 32 := 8#32
  let v1487 : BitVec 32 := Scalar.muli v1486 c8_i32_986
  let c184_i32_987 : BitVec 32 := 184#32
  let v1488 : BitVec 32 := Scalar.minsi v1487 c184_i32_987
  v1488

def k0_off461 : Fin 2 → Nat :=
  let c15_i32_976 : BitVec 32 := 15#32
  let c4_i32_977 : BitVec 32 := 4#32
  let v1468 : BitVec 32 := Scalar.remsi c15_i32_976 c4_i32_977
  let c4_i32_989 : BitVec 32 := 4#32
  ![v1468.toNat, 4]
def k0_off462 (v1469 : BitVec 32) : Fin 4 → Nat :=
  let c244_i32 : BitVec 32 := 244#32
  let c0_i32_990 : BitVec 32 := 0#32
  let c0_i32_980 : BitVec 32 := 0#32
  let v1471 : BitVec 1 := Scalar.cmpi .sgt v1469 c0_i32_980
  let v1472 : BitVec 32 := Scalar.extui v1471
  let c0_i32_981 : BitVec 32 := 0#32
  let v1473 : BitVec 1 := Scalar.cmpi .slt v1469 c0_i32_981
  let v1474 : BitVec 32 := Scalar.extui v1473
  let v1475 : BitVec 32 := Scalar.subi v1472 v1474
  let c8_i32_979 : BitVec 32 := 8#32
  let c0_i32_982 : BitVec 32 := 0#32
  let v1476 : BitVec 1 := Scalar.cmpi .sgt c8_i32_979 c0_i32_982
  let v1477 : BitVec 32 := Scalar.extui v1476
  let c0_i32_983 : BitVec 32 := 0#32
  let v1478 : BitVec 1 := Scalar.cmpi .slt c8_i32_979 c0_i32_983
  let v1479 : BitVec 32 := Scalar.extui v1478
  let v1480 : BitVec 32 := Scalar.subi v1477 v1479
  let v1481 : BitVec 1 := Scalar.cmpi .ne v1475 v1480
  let v1482 : BitVec 32 := Scalar.remsi v1469 c8_i32_979
  let c0_i32_984 : BitVec 32 := 0#32
  let v1483 : BitVec 1 := Scalar.cmpi .ne v1482 c0_i32_984
  let v1484 : BitVec 1 := Scalar.andi v1481 v1483
  let v1470 : BitVec 32 := Scalar.divsi v1469 c8_i32_979
  let c1_i32_985 : BitVec 32 := 1#32
  let v1485 : BitVec 32 := Scalar.subi v1470 c1_i32_985
  let v1486 : BitVec 32 := Scalar.select v1484 v1485 v1470
  let c8_i32_986 : BitVec 32 := 8#32
  let v1487 : BitVec 32 := Scalar.muli v1486 c8_i32_986
  let c184_i32_987 : BitVec 32 := 184#32
  let v1488 : BitVec 32 := Scalar.minsi v1487 c184_i32_987
  let v1489 : BitVec 32 := v1488
  let c0_i32_991 : BitVec 32 := 0#32
  ![244, 0, v1489.toNat, 0]

def k0_chk133 (i : grid0.Coords) (v1469 : BitVec 32) : Prop :=
  (∀ (k0_h4 : k0_cond4 i = 1#1), 8 ∣ (k0_mult133 v1469).toNat) ∧
  (∀ (k0_h4 : k0_cond4 i = 1#1), ∀ a, (k0_off462 v1469) a + S1x3x40x224.size a ≤ S256x3x224x224.size a)
theorem k0_mult133_dvd : ∀ (i : grid0.Coords) (v1469 : BitVec 32) (k0_hw133 : k0_chk133 i v1469), ∀ (k0_h4 : k0_cond4 i = 1#1), 8 ∣ (k0_mult133 v1469).toNat := fun i v1469 k0_hw133 k0_h4 => k0_hw133.1 k0_h4
theorem k0_off462_inb : ∀ (i : grid0.Coords) (v1469 : BitVec 32) (k0_hw133 : k0_chk133 i v1469), ∀ (k0_h4 : k0_cond4 i = 1#1), ∀ a, (k0_off462 v1469) a + S1x3x40x224.size a ≤ S256x3x224x224.size a := fun i v1469 k0_hw133 k0_h4 => k0_hw133.2 k0_h4

def k0_off463 : Fin 5 → Nat :=
  let c15_i32_976 : BitVec 32 := 15#32
  let c4_i32_977 : BitVec 32 := 4#32
  let v1468 : BitVec 32 := Scalar.remsi c15_i32_976 c4_i32_977
  let c4_i32_988 : BitVec 32 := 4#32
  let c0_i32_992 : BitVec 32 := 0#32
  let c0_i32_993 : BitVec 32 := 0#32
  let c0_i32_994 : BitVec 32 := 0#32
  ![v1468.toNat, 4, 0, 0, 0]
def k0_mult134 (v1497 : BitVec 32) : BitVec 32 :=
  let c0_i32_999 : BitVec 32 := 0#32
  let v1499 : BitVec 1 := Scalar.cmpi .sgt v1497 c0_i32_999
  let v1500 : BitVec 32 := Scalar.extui v1499
  let c0_i32_1000 : BitVec 32 := 0#32
  let v1501 : BitVec 1 := Scalar.cmpi .slt v1497 c0_i32_1000
  let v1502 : BitVec 32 := Scalar.extui v1501
  let v1503 : BitVec 32 := Scalar.subi v1500 v1502
  let c8_i32_998 : BitVec 32 := 8#32
  let c0_i32_1001 : BitVec 32 := 0#32
  let v1504 : BitVec 1 := Scalar.cmpi .sgt c8_i32_998 c0_i32_1001
  let v1505 : BitVec 32 := Scalar.extui v1504
  let c0_i32_1002 : BitVec 32 := 0#32
  let v1506 : BitVec 1 := Scalar.cmpi .slt c8_i32_998 c0_i32_1002
  let v1507 : BitVec 32 := Scalar.extui v1506
  let v1508 : BitVec 32 := Scalar.subi v1505 v1507
  let v1509 : BitVec 1 := Scalar.cmpi .ne v1503 v1508
  let v1510 : BitVec 32 := Scalar.remsi v1497 c8_i32_998
  let c0_i32_1003 : BitVec 32 := 0#32
  let v1511 : BitVec 1 := Scalar.cmpi .ne v1510 c0_i32_1003
  let v1512 : BitVec 1 := Scalar.andi v1509 v1511
  let v1498 : BitVec 32 := Scalar.divsi v1497 c8_i32_998
  let c1_i32_1004 : BitVec 32 := 1#32
  let v1513 : BitVec 32 := Scalar.subi v1498 c1_i32_1004
  let v1514 : BitVec 32 := Scalar.select v1512 v1513 v1498
  let c8_i32_1005 : BitVec 32 := 8#32
  let v1515 : BitVec 32 := Scalar.muli v1514 c8_i32_1005
  let c184_i32_1006 : BitVec 32 := 184#32
  let v1516 : BitVec 32 := Scalar.minsi v1515 c184_i32_1006
  v1516

def k0_off464 : Fin 2 → Nat :=
  let c15_i32_995 : BitVec 32 := 15#32
  let c4_i32_996 : BitVec 32 := 4#32
  let v1496 : BitVec 32 := Scalar.remsi c15_i32_995 c4_i32_996
  let c5_i32_1008 : BitVec 32 := 5#32
  ![v1496.toNat, 5]
def k0_off465 (v1497 : BitVec 32) : Fin 4 → Nat :=
  let c245_i32 : BitVec 32 := 245#32
  let c0_i32_1009 : BitVec 32 := 0#32
  let c0_i32_999 : BitVec 32 := 0#32
  let v1499 : BitVec 1 := Scalar.cmpi .sgt v1497 c0_i32_999
  let v1500 : BitVec 32 := Scalar.extui v1499
  let c0_i32_1000 : BitVec 32 := 0#32
  let v1501 : BitVec 1 := Scalar.cmpi .slt v1497 c0_i32_1000
  let v1502 : BitVec 32 := Scalar.extui v1501
  let v1503 : BitVec 32 := Scalar.subi v1500 v1502
  let c8_i32_998 : BitVec 32 := 8#32
  let c0_i32_1001 : BitVec 32 := 0#32
  let v1504 : BitVec 1 := Scalar.cmpi .sgt c8_i32_998 c0_i32_1001
  let v1505 : BitVec 32 := Scalar.extui v1504
  let c0_i32_1002 : BitVec 32 := 0#32
  let v1506 : BitVec 1 := Scalar.cmpi .slt c8_i32_998 c0_i32_1002
  let v1507 : BitVec 32 := Scalar.extui v1506
  let v1508 : BitVec 32 := Scalar.subi v1505 v1507
  let v1509 : BitVec 1 := Scalar.cmpi .ne v1503 v1508
  let v1510 : BitVec 32 := Scalar.remsi v1497 c8_i32_998
  let c0_i32_1003 : BitVec 32 := 0#32
  let v1511 : BitVec 1 := Scalar.cmpi .ne v1510 c0_i32_1003
  let v1512 : BitVec 1 := Scalar.andi v1509 v1511
  let v1498 : BitVec 32 := Scalar.divsi v1497 c8_i32_998
  let c1_i32_1004 : BitVec 32 := 1#32
  let v1513 : BitVec 32 := Scalar.subi v1498 c1_i32_1004
  let v1514 : BitVec 32 := Scalar.select v1512 v1513 v1498
  let c8_i32_1005 : BitVec 32 := 8#32
  let v1515 : BitVec 32 := Scalar.muli v1514 c8_i32_1005
  let c184_i32_1006 : BitVec 32 := 184#32
  let v1516 : BitVec 32 := Scalar.minsi v1515 c184_i32_1006
  let v1517 : BitVec 32 := v1516
  let c0_i32_1010 : BitVec 32 := 0#32
  ![245, 0, v1517.toNat, 0]

def k0_chk134 (i : grid0.Coords) (v1497 : BitVec 32) : Prop :=
  (∀ (k0_h4 : k0_cond4 i = 1#1), 8 ∣ (k0_mult134 v1497).toNat) ∧
  (∀ (k0_h4 : k0_cond4 i = 1#1), ∀ a, (k0_off465 v1497) a + S1x3x40x224.size a ≤ S256x3x224x224.size a)
theorem k0_mult134_dvd : ∀ (i : grid0.Coords) (v1497 : BitVec 32) (k0_hw134 : k0_chk134 i v1497), ∀ (k0_h4 : k0_cond4 i = 1#1), 8 ∣ (k0_mult134 v1497).toNat := fun i v1497 k0_hw134 k0_h4 => k0_hw134.1 k0_h4
theorem k0_off465_inb : ∀ (i : grid0.Coords) (v1497 : BitVec 32) (k0_hw134 : k0_chk134 i v1497), ∀ (k0_h4 : k0_cond4 i = 1#1), ∀ a, (k0_off465 v1497) a + S1x3x40x224.size a ≤ S256x3x224x224.size a := fun i v1497 k0_hw134 k0_h4 => k0_hw134.2 k0_h4

def k0_off466 : Fin 5 → Nat :=
  let c15_i32_995 : BitVec 32 := 15#32
  let c4_i32_996 : BitVec 32 := 4#32
  let v1496 : BitVec 32 := Scalar.remsi c15_i32_995 c4_i32_996
  let c5_i32_1007 : BitVec 32 := 5#32
  let c0_i32_1011 : BitVec 32 := 0#32
  let c0_i32_1012 : BitVec 32 := 0#32
  let c0_i32_1013 : BitVec 32 := 0#32
  ![v1496.toNat, 5, 0, 0, 0]
def k0_mult135 (v1525 : BitVec 32) : BitVec 32 :=
  let c0_i32_1018 : BitVec 32 := 0#32
  let v1527 : BitVec 1 := Scalar.cmpi .sgt v1525 c0_i32_1018
  let v1528 : BitVec 32 := Scalar.extui v1527
  let c0_i32_1019 : BitVec 32 := 0#32
  let v1529 : BitVec 1 := Scalar.cmpi .slt v1525 c0_i32_1019
  let v1530 : BitVec 32 := Scalar.extui v1529
  let v1531 : BitVec 32 := Scalar.subi v1528 v1530
  let c8_i32_1017 : BitVec 32 := 8#32
  let c0_i32_1020 : BitVec 32 := 0#32
  let v1532 : BitVec 1 := Scalar.cmpi .sgt c8_i32_1017 c0_i32_1020
  let v1533 : BitVec 32 := Scalar.extui v1532
  let c0_i32_1021 : BitVec 32 := 0#32
  let v1534 : BitVec 1 := Scalar.cmpi .slt c8_i32_1017 c0_i32_1021
  let v1535 : BitVec 32 := Scalar.extui v1534
  let v1536 : BitVec 32 := Scalar.subi v1533 v1535
  let v1537 : BitVec 1 := Scalar.cmpi .ne v1531 v1536
  let v1538 : BitVec 32 := Scalar.remsi v1525 c8_i32_1017
  let c0_i32_1022 : BitVec 32 := 0#32
  let v1539 : BitVec 1 := Scalar.cmpi .ne v1538 c0_i32_1022
  let v1540 : BitVec 1 := Scalar.andi v1537 v1539
  let v1526 : BitVec 32 := Scalar.divsi v1525 c8_i32_1017
  let c1_i32_1023 : BitVec 32 := 1#32
  let v1541 : BitVec 32 := Scalar.subi v1526 c1_i32_1023
  let v1542 : BitVec 32 := Scalar.select v1540 v1541 v1526
  let c8_i32_1024 : BitVec 32 := 8#32
  let v1543 : BitVec 32 := Scalar.muli v1542 c8_i32_1024
  let c184_i32_1025 : BitVec 32 := 184#32
  let v1544 : BitVec 32 := Scalar.minsi v1543 c184_i32_1025
  v1544

def k0_off467 : Fin 2 → Nat :=
  let c15_i32_1014 : BitVec 32 := 15#32
  let c4_i32_1015 : BitVec 32 := 4#32
  let v1524 : BitVec 32 := Scalar.remsi c15_i32_1014 c4_i32_1015
  let c6_i32_1027 : BitVec 32 := 6#32
  ![v1524.toNat, 6]
def k0_off468 (v1525 : BitVec 32) : Fin 4 → Nat :=
  let c246_i32 : BitVec 32 := 246#32
  let c0_i32_1028 : BitVec 32 := 0#32
  let c0_i32_1018 : BitVec 32 := 0#32
  let v1527 : BitVec 1 := Scalar.cmpi .sgt v1525 c0_i32_1018
  let v1528 : BitVec 32 := Scalar.extui v1527
  let c0_i32_1019 : BitVec 32 := 0#32
  let v1529 : BitVec 1 := Scalar.cmpi .slt v1525 c0_i32_1019
  let v1530 : BitVec 32 := Scalar.extui v1529
  let v1531 : BitVec 32 := Scalar.subi v1528 v1530
  let c8_i32_1017 : BitVec 32 := 8#32
  let c0_i32_1020 : BitVec 32 := 0#32
  let v1532 : BitVec 1 := Scalar.cmpi .sgt c8_i32_1017 c0_i32_1020
  let v1533 : BitVec 32 := Scalar.extui v1532
  let c0_i32_1021 : BitVec 32 := 0#32
  let v1534 : BitVec 1 := Scalar.cmpi .slt c8_i32_1017 c0_i32_1021
  let v1535 : BitVec 32 := Scalar.extui v1534
  let v1536 : BitVec 32 := Scalar.subi v1533 v1535
  let v1537 : BitVec 1 := Scalar.cmpi .ne v1531 v1536
  let v1538 : BitVec 32 := Scalar.remsi v1525 c8_i32_1017
  let c0_i32_1022 : BitVec 32 := 0#32
  let v1539 : BitVec 1 := Scalar.cmpi .ne v1538 c0_i32_1022
  let v1540 : BitVec 1 := Scalar.andi v1537 v1539
  let v1526 : BitVec 32 := Scalar.divsi v1525 c8_i32_1017
  let c1_i32_1023 : BitVec 32 := 1#32
  let v1541 : BitVec 32 := Scalar.subi v1526 c1_i32_1023
  let v1542 : BitVec 32 := Scalar.select v1540 v1541 v1526
  let c8_i32_1024 : BitVec 32 := 8#32
  let v1543 : BitVec 32 := Scalar.muli v1542 c8_i32_1024
  let c184_i32_1025 : BitVec 32 := 184#32
  let v1544 : BitVec 32 := Scalar.minsi v1543 c184_i32_1025
  let v1545 : BitVec 32 := v1544
  let c0_i32_1029 : BitVec 32 := 0#32
  ![246, 0, v1545.toNat, 0]

def k0_chk135 (i : grid0.Coords) (v1525 : BitVec 32) : Prop :=
  (∀ (k0_h4 : k0_cond4 i = 1#1), 8 ∣ (k0_mult135 v1525).toNat) ∧
  (∀ (k0_h4 : k0_cond4 i = 1#1), ∀ a, (k0_off468 v1525) a + S1x3x40x224.size a ≤ S256x3x224x224.size a)
theorem k0_mult135_dvd : ∀ (i : grid0.Coords) (v1525 : BitVec 32) (k0_hw135 : k0_chk135 i v1525), ∀ (k0_h4 : k0_cond4 i = 1#1), 8 ∣ (k0_mult135 v1525).toNat := fun i v1525 k0_hw135 k0_h4 => k0_hw135.1 k0_h4
theorem k0_off468_inb : ∀ (i : grid0.Coords) (v1525 : BitVec 32) (k0_hw135 : k0_chk135 i v1525), ∀ (k0_h4 : k0_cond4 i = 1#1), ∀ a, (k0_off468 v1525) a + S1x3x40x224.size a ≤ S256x3x224x224.size a := fun i v1525 k0_hw135 k0_h4 => k0_hw135.2 k0_h4

def k0_off469 : Fin 5 → Nat :=
  let c15_i32_1014 : BitVec 32 := 15#32
  let c4_i32_1015 : BitVec 32 := 4#32
  let v1524 : BitVec 32 := Scalar.remsi c15_i32_1014 c4_i32_1015
  let c6_i32_1026 : BitVec 32 := 6#32
  let c0_i32_1030 : BitVec 32 := 0#32
  let c0_i32_1031 : BitVec 32 := 0#32
  let c0_i32_1032 : BitVec 32 := 0#32
  ![v1524.toNat, 6, 0, 0, 0]
def k0_mult136 (v1553 : BitVec 32) : BitVec 32 :=
  let c0_i32_1037 : BitVec 32 := 0#32
  let v1555 : BitVec 1 := Scalar.cmpi .sgt v1553 c0_i32_1037
  let v1556 : BitVec 32 := Scalar.extui v1555
  let c0_i32_1038 : BitVec 32 := 0#32
  let v1557 : BitVec 1 := Scalar.cmpi .slt v1553 c0_i32_1038
  let v1558 : BitVec 32 := Scalar.extui v1557
  let v1559 : BitVec 32 := Scalar.subi v1556 v1558
  let c8_i32_1036 : BitVec 32 := 8#32
  let c0_i32_1039 : BitVec 32 := 0#32
  let v1560 : BitVec 1 := Scalar.cmpi .sgt c8_i32_1036 c0_i32_1039
  let v1561 : BitVec 32 := Scalar.extui v1560
  let c0_i32_1040 : BitVec 32 := 0#32
  let v1562 : BitVec 1 := Scalar.cmpi .slt c8_i32_1036 c0_i32_1040
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_1036
  let c0_i32_1041 : BitVec 32 := 0#32
  let v1567 : BitVec 1 := Scalar.cmpi .ne v1566 c0_i32_1041
  let v1568 : BitVec 1 := Scalar.andi v1565 v1567
  let v1554 : BitVec 32 := Scalar.divsi v1553 c8_i32_1036
  let c1_i32_1042 : BitVec 32 := 1#32
  let v1569 : BitVec 32 := Scalar.subi v1554 c1_i32_1042
  let v1570 : BitVec 32 := Scalar.select v1568 v1569 v1554
  let c8_i32_1043 : BitVec 32 := 8#32
  let v1571 : BitVec 32 := Scalar.muli v1570 c8_i32_1043
  let c184_i32_1044 : BitVec 32 := 184#32
  let v1572 : BitVec 32 := Scalar.minsi v1571 c184_i32_1044
  v1572

def k0_off470 : Fin 2 → Nat :=
  let c15_i32_1033 : BitVec 32 := 15#32
  let c4_i32_1034 : BitVec 32 := 4#32
  let v1552 : BitVec 32 := Scalar.remsi c15_i32_1033 c4_i32_1034
  let c7_i32_1046 : BitVec 32 := 7#32
  ![v1552.toNat, 7]
def k0_off471 (v1553 : BitVec 32) : Fin 4 → Nat :=
  let c247_i32 : BitVec 32 := 247#32
  let c0_i32_1047 : BitVec 32 := 0#32
  let c0_i32_1037 : BitVec 32 := 0#32
  let v1555 : BitVec 1 := Scalar.cmpi .sgt v1553 c0_i32_1037
  let v1556 : BitVec 32 := Scalar.extui v1555
  let c0_i32_1038 : BitVec 32 := 0#32
  let v1557 : BitVec 1 := Scalar.cmpi .slt v1553 c0_i32_1038
  let v1558 : BitVec 32 := Scalar.extui v1557
  let v1559 : BitVec 32 := Scalar.subi v1556 v1558
  let c8_i32_1036 : BitVec 32 := 8#32
  let c0_i32_1039 : BitVec 32 := 0#32
  let v1560 : BitVec 1 := Scalar.cmpi .sgt c8_i32_1036 c0_i32_1039
  let v1561 : BitVec 32 := Scalar.extui v1560
  let c0_i32_1040 : BitVec 32 := 0#32
  let v1562 : BitVec 1 := Scalar.cmpi .slt c8_i32_1036 c0_i32_1040
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_1036
  let c0_i32_1041 : BitVec 32 := 0#32
  let v1567 : BitVec 1 := Scalar.cmpi .ne v1566 c0_i32_1041
  let v1568 : BitVec 1 := Scalar.andi v1565 v1567
  let v1554 : BitVec 32 := Scalar.divsi v1553 c8_i32_1036
  let c1_i32_1042 : BitVec 32 := 1#32
  let v1569 : BitVec 32 := Scalar.subi v1554 c1_i32_1042
  let v1570 : BitVec 32 := Scalar.select v1568 v1569 v1554
  let c8_i32_1043 : BitVec 32 := 8#32
  let v1571 : BitVec 32 := Scalar.muli v1570 c8_i32_1043
  let c184_i32_1044 : BitVec 32 := 184#32
  let v1572 : BitVec 32 := Scalar.minsi v1571 c184_i32_1044
  let v1573 : BitVec 32 := v1572
  let c0_i32_1048 : BitVec 32 := 0#32
  ![247, 0, v1573.toNat, 0]

def k0_chk136 (i : grid0.Coords) (v1553 : BitVec 32) : Prop :=
  (∀ (k0_h4 : k0_cond4 i = 1#1), 8 ∣ (k0_mult136 v1553).toNat) ∧
  (∀ (k0_h4 : k0_cond4 i = 1#1), ∀ a, (k0_off471 v1553) a + S1x3x40x224.size a ≤ S256x3x224x224.size a)
theorem k0_mult136_dvd : ∀ (i : grid0.Coords) (v1553 : BitVec 32) (k0_hw136 : k0_chk136 i v1553), ∀ (k0_h4 : k0_cond4 i = 1#1), 8 ∣ (k0_mult136 v1553).toNat := fun i v1553 k0_hw136 k0_h4 => k0_hw136.1 k0_h4
theorem k0_off471_inb : ∀ (i : grid0.Coords) (v1553 : BitVec 32) (k0_hw136 : k0_chk136 i v1553), ∀ (k0_h4 : k0_cond4 i = 1#1), ∀ a, (k0_off471 v1553) a + S1x3x40x224.size a ≤ S256x3x224x224.size a := fun i v1553 k0_hw136 k0_h4 => k0_hw136.2 k0_h4

def k0_off472 : Fin 5 → Nat :=
  let c15_i32_1033 : BitVec 32 := 15#32
  let c4_i32_1034 : BitVec 32 := 4#32
  let v1552 : BitVec 32 := Scalar.remsi c15_i32_1033 c4_i32_1034
  let c7_i32_1045 : BitVec 32 := 7#32
  let c0_i32_1049 : BitVec 32 := 0#32
  let c0_i32_1050 : BitVec 32 := 0#32
  let c0_i32_1051 : BitVec 32 := 0#32
  ![v1552.toNat, 7, 0, 0, 0]
def k0_mult137 (v1581 : BitVec 32) : BitVec 32 :=
  let c0_i32_1056 : BitVec 32 := 0#32
  let v1583 : BitVec 1 := Scalar.cmpi .sgt v1581 c0_i32_1056
  let v1584 : BitVec 32 := Scalar.extui v1583
  let c0_i32_1057 : BitVec 32 := 0#32
  let v1585 : BitVec 1 := Scalar.cmpi .slt v1581 c0_i32_1057
  let v1586 : BitVec 32 := Scalar.extui v1585
  let v1587 : BitVec 32 := Scalar.subi v1584 v1586
  let c8_i32_1055 : BitVec 32 := 8#32
  let c0_i32_1058 : BitVec 32 := 0#32
  let v1588 : BitVec 1 := Scalar.cmpi .sgt c8_i32_1055 c0_i32_1058
  let v1589 : BitVec 32 := Scalar.extui v1588
  let c0_i32_1059 : BitVec 32 := 0#32
  let v1590 : BitVec 1 := Scalar.cmpi .slt c8_i32_1055 c0_i32_1059
  let v1591 : BitVec 32 := Scalar.extui v1590
  let v1592 : BitVec 32 := Scalar.subi v1589 v1591
  let v1593 : BitVec 1 := Scalar.cmpi .ne v1587 v1592
  let v1594 : BitVec 32 := Scalar.remsi v1581 c8_i32_1055
  let c0_i32_1060 : BitVec 32 := 0#32
  let v1595 : BitVec 1 := Scalar.cmpi .ne v1594 c0_i32_1060
  let v1596 : BitVec 1 := Scalar.andi v1593 v1595
  let v1582 : BitVec 32 := Scalar.divsi v1581 c8_i32_1055
  let c1_i32_1061 : BitVec 32 := 1#32
  let v1597 : BitVec 32 := Scalar.subi v1582 c1_i32_1061
  let v1598 : BitVec 32 := Scalar.select v1596 v1597 v1582
  let c8_i32_1062 : BitVec 32 := 8#32
  let v1599 : BitVec 32 := Scalar.muli v1598 c8_i32_1062
  let c184_i32_1063 : BitVec 32 := 184#32
  let v1600 : BitVec 32 := Scalar.minsi v1599 c184_i32_1063
  v1600

def k0_off473 : Fin 2 → Nat :=
  let c15_i32_1052 : BitVec 32 := 15#32
  let c4_i32_1053 : BitVec 32 := 4#32
  let v1580 : BitVec 32 := Scalar.remsi c15_i32_1052 c4_i32_1053
  let c8_i32_1065 : BitVec 32 := 8#32
  ![v1580.toNat, 8]
def k0_off474 (v1581 : BitVec 32) : Fin 4 → Nat :=
  let c248_i32 : BitVec 32 := 248#32
  let c0_i32_1066 : BitVec 32 := 0#32
  let c0_i32_1056 : BitVec 32 := 0#32
  let v1583 : BitVec 1 := Scalar.cmpi .sgt v1581 c0_i32_1056
  let v1584 : BitVec 32 := Scalar.extui v1583
  let c0_i32_1057 : BitVec 32 := 0#32
  let v1585 : BitVec 1 := Scalar.cmpi .slt v1581 c0_i32_1057
  let v1586 : BitVec 32 := Scalar.extui v1585
  let v1587 : BitVec 32 := Scalar.subi v1584 v1586
  let c8_i32_1055 : BitVec 32 := 8#32
  let c0_i32_1058 : BitVec 32 := 0#32
  let v1588 : BitVec 1 := Scalar.cmpi .sgt c8_i32_1055 c0_i32_1058
  let v1589 : BitVec 32 := Scalar.extui v1588
  let c0_i32_1059 : BitVec 32 := 0#32
  let v1590 : BitVec 1 := Scalar.cmpi .slt c8_i32_1055 c0_i32_1059
  let v1591 : BitVec 32 := Scalar.extui v1590
  let v1592 : BitVec 32 := Scalar.subi v1589 v1591
  let v1593 : BitVec 1 := Scalar.cmpi .ne v1587 v1592
  let v1594 : BitVec 32 := Scalar.remsi v1581 c8_i32_1055
  let c0_i32_1060 : BitVec 32 := 0#32
  let v1595 : BitVec 1 := Scalar.cmpi .ne v1594 c0_i32_1060
  let v1596 : BitVec 1 := Scalar.andi v1593 v1595
  let v1582 : BitVec 32 := Scalar.divsi v1581 c8_i32_1055
  let c1_i32_1061 : BitVec 32 := 1#32
  let v1597 : BitVec 32 := Scalar.subi v1582 c1_i32_1061
  let v1598 : BitVec 32 := Scalar.select v1596 v1597 v1582
  let c8_i32_1062 : BitVec 32 := 8#32
  let v1599 : BitVec 32 := Scalar.muli v1598 c8_i32_1062
  let c184_i32_1063 : BitVec 32 := 184#32
  let v1600 : BitVec 32 := Scalar.minsi v1599 c184_i32_1063
  let v1601 : BitVec 32 := v1600
  let c0_i32_1067 : BitVec 32 := 0#32
  ![248, 0, v1601.toNat, 0]

def k0_chk137 (i : grid0.Coords) (v1581 : BitVec 32) : Prop :=
  (∀ (k0_h4 : k0_cond4 i = 1#1), 8 ∣ (k0_mult137 v1581).toNat) ∧
  (∀ (k0_h4 : k0_cond4 i = 1#1), ∀ a, (k0_off474 v1581) a + S1x3x40x224.size a ≤ S256x3x224x224.size a)
theorem k0_mult137_dvd : ∀ (i : grid0.Coords) (v1581 : BitVec 32) (k0_hw137 : k0_chk137 i v1581), ∀ (k0_h4 : k0_cond4 i = 1#1), 8 ∣ (k0_mult137 v1581).toNat := fun i v1581 k0_hw137 k0_h4 => k0_hw137.1 k0_h4
theorem k0_off474_inb : ∀ (i : grid0.Coords) (v1581 : BitVec 32) (k0_hw137 : k0_chk137 i v1581), ∀ (k0_h4 : k0_cond4 i = 1#1), ∀ a, (k0_off474 v1581) a + S1x3x40x224.size a ≤ S256x3x224x224.size a := fun i v1581 k0_hw137 k0_h4 => k0_hw137.2 k0_h4

def k0_off475 : Fin 5 → Nat :=
  let c15_i32_1052 : BitVec 32 := 15#32
  let c4_i32_1053 : BitVec 32 := 4#32
  let v1580 : BitVec 32 := Scalar.remsi c15_i32_1052 c4_i32_1053
  let c8_i32_1064 : BitVec 32 := 8#32
  let c0_i32_1068 : BitVec 32 := 0#32
  let c0_i32_1069 : BitVec 32 := 0#32
  let c0_i32_1070 : BitVec 32 := 0#32
  ![v1580.toNat, 8, 0, 0, 0]
def k0_mult138 (v1609 : BitVec 32) : BitVec 32 :=
  let c0_i32_1075 : BitVec 32 := 0#32
  let v1611 : BitVec 1 := Scalar.cmpi .sgt v1609 c0_i32_1075
  let v1612 : BitVec 32 := Scalar.extui v1611
  let c0_i32_1076 : BitVec 32 := 0#32
  let v1613 : BitVec 1 := Scalar.cmpi .slt v1609 c0_i32_1076
  let v1614 : BitVec 32 := Scalar.extui v1613
  let v1615 : BitVec 32 := Scalar.subi v1612 v1614
  let c8_i32_1074 : BitVec 32 := 8#32
  let c0_i32_1077 : BitVec 32 := 0#32
  let v1616 : BitVec 1 := Scalar.cmpi .sgt c8_i32_1074 c0_i32_1077
  let v1617 : BitVec 32 := Scalar.extui v1616
  let c0_i32_1078 : BitVec 32 := 0#32
  let v1618 : BitVec 1 := Scalar.cmpi .slt c8_i32_1074 c0_i32_1078
  let v1619 : BitVec 32 := Scalar.extui v1618
  let v1620 : BitVec 32 := Scalar.subi v1617 v1619
  let v1621 : BitVec 1 := Scalar.cmpi .ne v1615 v1620
  let v1622 : BitVec 32 := Scalar.remsi v1609 c8_i32_1074
  let c0_i32_1079 : BitVec 32 := 0#32
  let v1623 : BitVec 1 := Scalar.cmpi .ne v1622 c0_i32_1079
  let v1624 : BitVec 1 := Scalar.andi v1621 v1623
  let v1610 : BitVec 32 := Scalar.divsi v1609 c8_i32_1074
  let c1_i32_1080 : BitVec 32 := 1#32
  let v1625 : BitVec 32 := Scalar.subi v1610 c1_i32_1080
  let v1626 : BitVec 32 := Scalar.select v1624 v1625 v1610
  let c8_i32_1081 : BitVec 32 := 8#32
  let v1627 : BitVec 32 := Scalar.muli v1626 c8_i32_1081
  let c184_i32_1082 : BitVec 32 := 184#32
  let v1628 : BitVec 32 := Scalar.minsi v1627 c184_i32_1082
  v1628

def k0_off476 : Fin 2 → Nat :=
  let c15_i32_1071 : BitVec 32 := 15#32
  let c4_i32_1072 : BitVec 32 := 4#32
  let v1608 : BitVec 32 := Scalar.remsi c15_i32_1071 c4_i32_1072
  let c9_i32_1084 : BitVec 32 := 9#32
  ![v1608.toNat, 9]
def k0_off477 (v1609 : BitVec 32) : Fin 4 → Nat :=
  let c249_i32 : BitVec 32 := 249#32
  let c0_i32_1085 : BitVec 32 := 0#32
  let c0_i32_1075 : BitVec 32 := 0#32
  let v1611 : BitVec 1 := Scalar.cmpi .sgt v1609 c0_i32_1075
  let v1612 : BitVec 32 := Scalar.extui v1611
  let c0_i32_1076 : BitVec 32 := 0#32
  let v1613 : BitVec 1 := Scalar.cmpi .slt v1609 c0_i32_1076
  let v1614 : BitVec 32 := Scalar.extui v1613
  let v1615 : BitVec 32 := Scalar.subi v1612 v1614
  let c8_i32_1074 : BitVec 32 := 8#32
  let c0_i32_1077 : BitVec 32 := 0#32
  let v1616 : BitVec 1 := Scalar.cmpi .sgt c8_i32_1074 c0_i32_1077
  let v1617 : BitVec 32 := Scalar.extui v1616
  let c0_i32_1078 : BitVec 32 := 0#32
  let v1618 : BitVec 1 := Scalar.cmpi .slt c8_i32_1074 c0_i32_1078
  let v1619 : BitVec 32 := Scalar.extui v1618
  let v1620 : BitVec 32 := Scalar.subi v1617 v1619
  let v1621 : BitVec 1 := Scalar.cmpi .ne v1615 v1620
  let v1622 : BitVec 32 := Scalar.remsi v1609 c8_i32_1074
  let c0_i32_1079 : BitVec 32 := 0#32
  let v1623 : BitVec 1 := Scalar.cmpi .ne v1622 c0_i32_1079
  let v1624 : BitVec 1 := Scalar.andi v1621 v1623
  let v1610 : BitVec 32 := Scalar.divsi v1609 c8_i32_1074
  let c1_i32_1080 : BitVec 32 := 1#32
  let v1625 : BitVec 32 := Scalar.subi v1610 c1_i32_1080
  let v1626 : BitVec 32 := Scalar.select v1624 v1625 v1610
  let c8_i32_1081 : BitVec 32 := 8#32
  let v1627 : BitVec 32 := Scalar.muli v1626 c8_i32_1081
  let c184_i32_1082 : BitVec 32 := 184#32
  let v1628 : BitVec 32 := Scalar.minsi v1627 c184_i32_1082
  let v1629 : BitVec 32 := v1628
  let c0_i32_1086 : BitVec 32 := 0#32
  ![249, 0, v1629.toNat, 0]

def k0_chk138 (i : grid0.Coords) (v1609 : BitVec 32) : Prop :=
  (∀ (k0_h4 : k0_cond4 i = 1#1), 8 ∣ (k0_mult138 v1609).toNat) ∧
  (∀ (k0_h4 : k0_cond4 i = 1#1), ∀ a, (k0_off477 v1609) a + S1x3x40x224.size a ≤ S256x3x224x224.size a)
theorem k0_mult138_dvd : ∀ (i : grid0.Coords) (v1609 : BitVec 32) (k0_hw138 : k0_chk138 i v1609), ∀ (k0_h4 : k0_cond4 i = 1#1), 8 ∣ (k0_mult138 v1609).toNat := fun i v1609 k0_hw138 k0_h4 => k0_hw138.1 k0_h4
theorem k0_off477_inb : ∀ (i : grid0.Coords) (v1609 : BitVec 32) (k0_hw138 : k0_chk138 i v1609), ∀ (k0_h4 : k0_cond4 i = 1#1), ∀ a, (k0_off477 v1609) a + S1x3x40x224.size a ≤ S256x3x224x224.size a := fun i v1609 k0_hw138 k0_h4 => k0_hw138.2 k0_h4

def k0_off478 : Fin 5 → Nat :=
  let c15_i32_1071 : BitVec 32 := 15#32
  let c4_i32_1072 : BitVec 32 := 4#32
  let v1608 : BitVec 32 := Scalar.remsi c15_i32_1071 c4_i32_1072
  let c9_i32_1083 : BitVec 32 := 9#32
  let c0_i32_1087 : BitVec 32 := 0#32
  let c0_i32_1088 : BitVec 32 := 0#32
  let c0_i32_1089 : BitVec 32 := 0#32
  ![v1608.toNat, 9, 0, 0, 0]
def k0_mult139 (v1637 : BitVec 32) : BitVec 32 :=
  let c0_i32_1094 : BitVec 32 := 0#32
  let v1639 : BitVec 1 := Scalar.cmpi .sgt v1637 c0_i32_1094
  let v1640 : BitVec 32 := Scalar.extui v1639
  let c0_i32_1095 : BitVec 32 := 0#32
  let v1641 : BitVec 1 := Scalar.cmpi .slt v1637 c0_i32_1095
  let v1642 : BitVec 32 := Scalar.extui v1641
  let v1643 : BitVec 32 := Scalar.subi v1640 v1642
  let c8_i32_1093 : BitVec 32 := 8#32
  let c0_i32_1096 : BitVec 32 := 0#32
  let v1644 : BitVec 1 := Scalar.cmpi .sgt c8_i32_1093 c0_i32_1096
  let v1645 : BitVec 32 := Scalar.extui v1644
  let c0_i32_1097 : BitVec 32 := 0#32
  let v1646 : BitVec 1 := Scalar.cmpi .slt c8_i32_1093 c0_i32_1097
  let v1647 : BitVec 32 := Scalar.extui v1646
  let v1648 : BitVec 32 := Scalar.subi v1645 v1647
  let v1649 : BitVec 1 := Scalar.cmpi .ne v1643 v1648
  let v1650 : BitVec 32 := Scalar.remsi v1637 c8_i32_1093
  let c0_i32_1098 : BitVec 32 := 0#32
  let v1651 : BitVec 1 := Scalar.cmpi .ne v1650 c0_i32_1098
  let v1652 : BitVec 1 := Scalar.andi v1649 v1651
  let v1638 : BitVec 32 := Scalar.divsi v1637 c8_i32_1093
  let c1_i32_1099 : BitVec 32 := 1#32
  let v1653 : BitVec 32 := Scalar.subi v1638 c1_i32_1099
  let v1654 : BitVec 32 := Scalar.select v1652 v1653 v1638
  let c8_i32_1100 : BitVec 32 := 8#32
  let v1655 : BitVec 32 := Scalar.muli v1654 c8_i32_1100
  let c184_i32_1101 : BitVec 32 := 184#32
  let v1656 : BitVec 32 := Scalar.minsi v1655 c184_i32_1101
  v1656

def k0_off479 : Fin 2 → Nat :=
  let c15_i32_1090 : BitVec 32 := 15#32
  let c4_i32_1091 : BitVec 32 := 4#32
  let v1636 : BitVec 32 := Scalar.remsi c15_i32_1090 c4_i32_1091
  let c10_i32_1103 : BitVec 32 := 10#32
  ![v1636.toNat, 10]
def k0_off480 (v1637 : BitVec 32) : Fin 4 → Nat :=
  let c250_i32 : BitVec 32 := 250#32
  let c0_i32_1104 : BitVec 32 := 0#32
  let c0_i32_1094 : BitVec 32 := 0#32
  let v1639 : BitVec 1 := Scalar.cmpi .sgt v1637 c0_i32_1094
  let v1640 : BitVec 32 := Scalar.extui v1639
  let c0_i32_1095 : BitVec 32 := 0#32
  let v1641 : BitVec 1 := Scalar.cmpi .slt v1637 c0_i32_1095
  let v1642 : BitVec 32 := Scalar.extui v1641
  let v1643 : BitVec 32 := Scalar.subi v1640 v1642
  let c8_i32_1093 : BitVec 32 := 8#32
  let c0_i32_1096 : BitVec 32 := 0#32
  let v1644 : BitVec 1 := Scalar.cmpi .sgt c8_i32_1093 c0_i32_1096
  let v1645 : BitVec 32 := Scalar.extui v1644
  let c0_i32_1097 : BitVec 32 := 0#32
  let v1646 : BitVec 1 := Scalar.cmpi .slt c8_i32_1093 c0_i32_1097
  let v1647 : BitVec 32 := Scalar.extui v1646
  let v1648 : BitVec 32 := Scalar.subi v1645 v1647
  let v1649 : BitVec 1 := Scalar.cmpi .ne v1643 v1648
  let v1650 : BitVec 32 := Scalar.remsi v1637 c8_i32_1093
  let c0_i32_1098 : BitVec 32 := 0#32
  let v1651 : BitVec 1 := Scalar.cmpi .ne v1650 c0_i32_1098
  let v1652 : BitVec 1 := Scalar.andi v1649 v1651
  let v1638 : BitVec 32 := Scalar.divsi v1637 c8_i32_1093
  let c1_i32_1099 : BitVec 32 := 1#32
  let v1653 : BitVec 32 := Scalar.subi v1638 c1_i32_1099
  let v1654 : BitVec 32 := Scalar.select v1652 v1653 v1638
  let c8_i32_1100 : BitVec 32 := 8#32
  let v1655 : BitVec 32 := Scalar.muli v1654 c8_i32_1100
  let c184_i32_1101 : BitVec 32 := 184#32
  let v1656 : BitVec 32 := Scalar.minsi v1655 c184_i32_1101
  let v1657 : BitVec 32 := v1656
  let c0_i32_1105 : BitVec 32 := 0#32
  ![250, 0, v1657.toNat, 0]

def k0_chk139 (i : grid0.Coords) (v1637 : BitVec 32) : Prop :=
  (∀ (k0_h4 : k0_cond4 i = 1#1), 8 ∣ (k0_mult139 v1637).toNat) ∧
  (∀ (k0_h4 : k0_cond4 i = 1#1), ∀ a, (k0_off480 v1637) a + S1x3x40x224.size a ≤ S256x3x224x224.size a)
theorem k0_mult139_dvd : ∀ (i : grid0.Coords) (v1637 : BitVec 32) (k0_hw139 : k0_chk139 i v1637), ∀ (k0_h4 : k0_cond4 i = 1#1), 8 ∣ (k0_mult139 v1637).toNat := fun i v1637 k0_hw139 k0_h4 => k0_hw139.1 k0_h4
theorem k0_off480_inb : ∀ (i : grid0.Coords) (v1637 : BitVec 32) (k0_hw139 : k0_chk139 i v1637), ∀ (k0_h4 : k0_cond4 i = 1#1), ∀ a, (k0_off480 v1637) a + S1x3x40x224.size a ≤ S256x3x224x224.size a := fun i v1637 k0_hw139 k0_h4 => k0_hw139.2 k0_h4

def k0_off481 : Fin 5 → Nat :=
  let c15_i32_1090 : BitVec 32 := 15#32
  let c4_i32_1091 : BitVec 32 := 4#32
  let v1636 : BitVec 32 := Scalar.remsi c15_i32_1090 c4_i32_1091
  let c10_i32_1102 : BitVec 32 := 10#32
  let c0_i32_1106 : BitVec 32 := 0#32
  let c0_i32_1107 : BitVec 32 := 0#32
  let c0_i32_1108 : BitVec 32 := 0#32
  ![v1636.toNat, 10, 0, 0, 0]
def k0_mult140 (v1665 : BitVec 32) : BitVec 32 :=
  let c0_i32_1113 : BitVec 32 := 0#32
  let v1667 : BitVec 1 := Scalar.cmpi .sgt v1665 c0_i32_1113
  let v1668 : BitVec 32 := Scalar.extui v1667
  let c0_i32_1114 : BitVec 32 := 0#32
  let v1669 : BitVec 1 := Scalar.cmpi .slt v1665 c0_i32_1114
  let v1670 : BitVec 32 := Scalar.extui v1669
  let v1671 : BitVec 32 := Scalar.subi v1668 v1670
  let c8_i32_1112 : BitVec 32 := 8#32
  let c0_i32_1115 : BitVec 32 := 0#32
  let v1672 : BitVec 1 := Scalar.cmpi .sgt c8_i32_1112 c0_i32_1115
  let v1673 : BitVec 32 := Scalar.extui v1672
  let c0_i32_1116 : BitVec 32 := 0#32
  let v1674 : BitVec 1 := Scalar.cmpi .slt c8_i32_1112 c0_i32_1116
  let v1675 : BitVec 32 := Scalar.extui v1674
  let v1676 : BitVec 32 := Scalar.subi v1673 v1675
  let v1677 : BitVec 1 := Scalar.cmpi .ne v1671 v1676
  let v1678 : BitVec 32 := Scalar.remsi v1665 c8_i32_1112
  let c0_i32_1117 : BitVec 32 := 0#32
  let v1679 : BitVec 1 := Scalar.cmpi .ne v1678 c0_i32_1117
  let v1680 : BitVec 1 := Scalar.andi v1677 v1679
  let v1666 : BitVec 32 := Scalar.divsi v1665 c8_i32_1112
  let c1_i32_1118 : BitVec 32 := 1#32
  let v1681 : BitVec 32 := Scalar.subi v1666 c1_i32_1118
  let v1682 : BitVec 32 := Scalar.select v1680 v1681 v1666
  let c8_i32_1119 : BitVec 32 := 8#32
  let v1683 : BitVec 32 := Scalar.muli v1682 c8_i32_1119
  let c184_i32_1120 : BitVec 32 := 184#32
  let v1684 : BitVec 32 := Scalar.minsi v1683 c184_i32_1120
  v1684

def k0_off482 : Fin 2 → Nat :=
  let c15_i32_1109 : BitVec 32 := 15#32
  let c4_i32_1110 : BitVec 32 := 4#32
  let v1664 : BitVec 32 := Scalar.remsi c15_i32_1109 c4_i32_1110
  let c11_i32_1122 : BitVec 32 := 11#32
  ![v1664.toNat, 11]
def k0_off483 (v1665 : BitVec 32) : Fin 4 → Nat :=
  let c251_i32 : BitVec 32 := 251#32
  let c0_i32_1123 : BitVec 32 := 0#32
  let c0_i32_1113 : BitVec 32 := 0#32
  let v1667 : BitVec 1 := Scalar.cmpi .sgt v1665 c0_i32_1113
  let v1668 : BitVec 32 := Scalar.extui v1667
  let c0_i32_1114 : BitVec 32 := 0#32
  let v1669 : BitVec 1 := Scalar.cmpi .slt v1665 c0_i32_1114
  let v1670 : BitVec 32 := Scalar.extui v1669
  let v1671 : BitVec 32 := Scalar.subi v1668 v1670
  let c8_i32_1112 : BitVec 32 := 8#32
  let c0_i32_1115 : BitVec 32 := 0#32
  let v1672 : BitVec 1 := Scalar.cmpi .sgt c8_i32_1112 c0_i32_1115
  let v1673 : BitVec 32 := Scalar.extui v1672
  let c0_i32_1116 : BitVec 32 := 0#32
  let v1674 : BitVec 1 := Scalar.cmpi .slt c8_i32_1112 c0_i32_1116
  let v1675 : BitVec 32 := Scalar.extui v1674
  let v1676 : BitVec 32 := Scalar.subi v1673 v1675
  let v1677 : BitVec 1 := Scalar.cmpi .ne v1671 v1676
  let v1678 : BitVec 32 := Scalar.remsi v1665 c8_i32_1112
  let c0_i32_1117 : BitVec 32 := 0#32
  let v1679 : BitVec 1 := Scalar.cmpi .ne v1678 c0_i32_1117
  let v1680 : BitVec 1 := Scalar.andi v1677 v1679
  let v1666 : BitVec 32 := Scalar.divsi v1665 c8_i32_1112
  let c1_i32_1118 : BitVec 32 := 1#32
  let v1681 : BitVec 32 := Scalar.subi v1666 c1_i32_1118
  let v1682 : BitVec 32 := Scalar.select v1680 v1681 v1666
  let c8_i32_1119 : BitVec 32 := 8#32
  let v1683 : BitVec 32 := Scalar.muli v1682 c8_i32_1119
  let c184_i32_1120 : BitVec 32 := 184#32
  let v1684 : BitVec 32 := Scalar.minsi v1683 c184_i32_1120
  let v1685 : BitVec 32 := v1684
  let c0_i32_1124 : BitVec 32 := 0#32
  ![251, 0, v1685.toNat, 0]

def k0_chk140 (i : grid0.Coords) (v1665 : BitVec 32) : Prop :=
  (∀ (k0_h4 : k0_cond4 i = 1#1), 8 ∣ (k0_mult140 v1665).toNat) ∧
  (∀ (k0_h4 : k0_cond4 i = 1#1), ∀ a, (k0_off483 v1665) a + S1x3x40x224.size a ≤ S256x3x224x224.size a)
theorem k0_mult140_dvd : ∀ (i : grid0.Coords) (v1665 : BitVec 32) (k0_hw140 : k0_chk140 i v1665), ∀ (k0_h4 : k0_cond4 i = 1#1), 8 ∣ (k0_mult140 v1665).toNat := fun i v1665 k0_hw140 k0_h4 => k0_hw140.1 k0_h4
theorem k0_off483_inb : ∀ (i : grid0.Coords) (v1665 : BitVec 32) (k0_hw140 : k0_chk140 i v1665), ∀ (k0_h4 : k0_cond4 i = 1#1), ∀ a, (k0_off483 v1665) a + S1x3x40x224.size a ≤ S256x3x224x224.size a := fun i v1665 k0_hw140 k0_h4 => k0_hw140.2 k0_h4

def k0_off484 : Fin 5 → Nat :=
  let c15_i32_1109 : BitVec 32 := 15#32
  let c4_i32_1110 : BitVec 32 := 4#32
  let v1664 : BitVec 32 := Scalar.remsi c15_i32_1109 c4_i32_1110
  let c11_i32_1121 : BitVec 32 := 11#32
  let c0_i32_1125 : BitVec 32 := 0#32
  let c0_i32_1126 : BitVec 32 := 0#32
  let c0_i32_1127 : BitVec 32 := 0#32
  ![v1664.toNat, 11, 0, 0, 0]
def k0_mult141 (v1693 : BitVec 32) : BitVec 32 :=
  let c0_i32_1132 : BitVec 32 := 0#32
  let v1695 : BitVec 1 := Scalar.cmpi .sgt v1693 c0_i32_1132
  let v1696 : BitVec 32 := Scalar.extui v1695
  let c0_i32_1133 : BitVec 32 := 0#32
  let v1697 : BitVec 1 := Scalar.cmpi .slt v1693 c0_i32_1133
  let v1698 : BitVec 32 := Scalar.extui v1697
  let v1699 : BitVec 32 := Scalar.subi v1696 v1698
  let c8_i32_1131 : BitVec 32 := 8#32
  let c0_i32_1134 : BitVec 32 := 0#32
  let v1700 : BitVec 1 := Scalar.cmpi .sgt c8_i32_1131 c0_i32_1134
  let v1701 : BitVec 32 := Scalar.extui v1700
  let c0_i32_1135 : BitVec 32 := 0#32
  let v1702 : BitVec 1 := Scalar.cmpi .slt c8_i32_1131 c0_i32_1135
  let v1703 : BitVec 32 := Scalar.extui v1702
  let v1704 : BitVec 32 := Scalar.subi v1701 v1703
  let v1705 : BitVec 1 := Scalar.cmpi .ne v1699 v1704
  let v1706 : BitVec 32 := Scalar.remsi v1693 c8_i32_1131
  let c0_i32_1136 : BitVec 32 := 0#32
  let v1707 : BitVec 1 := Scalar.cmpi .ne v1706 c0_i32_1136
  let v1708 : BitVec 1 := Scalar.andi v1705 v1707
  let v1694 : BitVec 32 := Scalar.divsi v1693 c8_i32_1131
  let c1_i32_1137 : BitVec 32 := 1#32
  let v1709 : BitVec 32 := Scalar.subi v1694 c1_i32_1137
  let v1710 : BitVec 32 := Scalar.select v1708 v1709 v1694
  let c8_i32_1138 : BitVec 32 := 8#32
  let v1711 : BitVec 32 := Scalar.muli v1710 c8_i32_1138
  let c184_i32_1139 : BitVec 32 := 184#32
  let v1712 : BitVec 32 := Scalar.minsi v1711 c184_i32_1139
  v1712

def k0_off485 : Fin 2 → Nat :=
  let c15_i32_1128 : BitVec 32 := 15#32
  let c4_i32_1129 : BitVec 32 := 4#32
  let v1692 : BitVec 32 := Scalar.remsi c15_i32_1128 c4_i32_1129
  let c12_i32_1141 : BitVec 32 := 12#32
  ![v1692.toNat, 12]
def k0_off486 (v1693 : BitVec 32) : Fin 4 → Nat :=
  let c252_i32 : BitVec 32 := 252#32
  let c0_i32_1142 : BitVec 32 := 0#32
  let c0_i32_1132 : BitVec 32 := 0#32
  let v1695 : BitVec 1 := Scalar.cmpi .sgt v1693 c0_i32_1132
  let v1696 : BitVec 32 := Scalar.extui v1695
  let c0_i32_1133 : BitVec 32 := 0#32
  let v1697 : BitVec 1 := Scalar.cmpi .slt v1693 c0_i32_1133
  let v1698 : BitVec 32 := Scalar.extui v1697
  let v1699 : BitVec 32 := Scalar.subi v1696 v1698
  let c8_i32_1131 : BitVec 32 := 8#32
  let c0_i32_1134 : BitVec 32 := 0#32
  let v1700 : BitVec 1 := Scalar.cmpi .sgt c8_i32_1131 c0_i32_1134
  let v1701 : BitVec 32 := Scalar.extui v1700
  let c0_i32_1135 : BitVec 32 := 0#32
  let v1702 : BitVec 1 := Scalar.cmpi .slt c8_i32_1131 c0_i32_1135
  let v1703 : BitVec 32 := Scalar.extui v1702
  let v1704 : BitVec 32 := Scalar.subi v1701 v1703
  let v1705 : BitVec 1 := Scalar.cmpi .ne v1699 v1704
  let v1706 : BitVec 32 := Scalar.remsi v1693 c8_i32_1131
  let c0_i32_1136 : BitVec 32 := 0#32
  let v1707 : BitVec 1 := Scalar.cmpi .ne v1706 c0_i32_1136
  let v1708 : BitVec 1 := Scalar.andi v1705 v1707
  let v1694 : BitVec 32 := Scalar.divsi v1693 c8_i32_1131
  let c1_i32_1137 : BitVec 32 := 1#32
  let v1709 : BitVec 32 := Scalar.subi v1694 c1_i32_1137
  let v1710 : BitVec 32 := Scalar.select v1708 v1709 v1694
  let c8_i32_1138 : BitVec 32 := 8#32
  let v1711 : BitVec 32 := Scalar.muli v1710 c8_i32_1138
  let c184_i32_1139 : BitVec 32 := 184#32
  let v1712 : BitVec 32 := Scalar.minsi v1711 c184_i32_1139
  let v1713 : BitVec 32 := v1712
  let c0_i32_1143 : BitVec 32 := 0#32
  ![252, 0, v1713.toNat, 0]

def k0_chk141 (i : grid0.Coords) (v1693 : BitVec 32) : Prop :=
  (∀ (k0_h4 : k0_cond4 i = 1#1), 8 ∣ (k0_mult141 v1693).toNat) ∧
  (∀ (k0_h4 : k0_cond4 i = 1#1), ∀ a, (k0_off486 v1693) a + S1x3x40x224.size a ≤ S256x3x224x224.size a)
theorem k0_mult141_dvd : ∀ (i : grid0.Coords) (v1693 : BitVec 32) (k0_hw141 : k0_chk141 i v1693), ∀ (k0_h4 : k0_cond4 i = 1#1), 8 ∣ (k0_mult141 v1693).toNat := fun i v1693 k0_hw141 k0_h4 => k0_hw141.1 k0_h4
theorem k0_off486_inb : ∀ (i : grid0.Coords) (v1693 : BitVec 32) (k0_hw141 : k0_chk141 i v1693), ∀ (k0_h4 : k0_cond4 i = 1#1), ∀ a, (k0_off486 v1693) a + S1x3x40x224.size a ≤ S256x3x224x224.size a := fun i v1693 k0_hw141 k0_h4 => k0_hw141.2 k0_h4

def k0_off487 : Fin 5 → Nat :=
  let c15_i32_1128 : BitVec 32 := 15#32
  let c4_i32_1129 : BitVec 32 := 4#32
  let v1692 : BitVec 32 := Scalar.remsi c15_i32_1128 c4_i32_1129
  let c12_i32_1140 : BitVec 32 := 12#32
  let c0_i32_1144 : BitVec 32 := 0#32
  let c0_i32_1145 : BitVec 32 := 0#32
  let c0_i32_1146 : BitVec 32 := 0#32
  ![v1692.toNat, 12, 0, 0, 0]
def k0_mult142 (v1721 : BitVec 32) : BitVec 32 :=
  let c0_i32_1151 : BitVec 32 := 0#32
  let v1723 : BitVec 1 := Scalar.cmpi .sgt v1721 c0_i32_1151
  let v1724 : BitVec 32 := Scalar.extui v1723
  let c0_i32_1152 : BitVec 32 := 0#32
  let v1725 : BitVec 1 := Scalar.cmpi .slt v1721 c0_i32_1152
  let v1726 : BitVec 32 := Scalar.extui v1725
  let v1727 : BitVec 32 := Scalar.subi v1724 v1726
  let c8_i32_1150 : BitVec 32 := 8#32
  let c0_i32_1153 : BitVec 32 := 0#32
  let v1728 : BitVec 1 := Scalar.cmpi .sgt c8_i32_1150 c0_i32_1153
  let v1729 : BitVec 32 := Scalar.extui v1728
  let c0_i32_1154 : BitVec 32 := 0#32
  let v1730 : BitVec 1 := Scalar.cmpi .slt c8_i32_1150 c0_i32_1154
  let v1731 : BitVec 32 := Scalar.extui v1730
  let v1732 : BitVec 32 := Scalar.subi v1729 v1731
  let v1733 : BitVec 1 := Scalar.cmpi .ne v1727 v1732
  let v1734 : BitVec 32 := Scalar.remsi v1721 c8_i32_1150
  let c0_i32_1155 : BitVec 32 := 0#32
  let v1735 : BitVec 1 := Scalar.cmpi .ne v1734 c0_i32_1155
  let v1736 : BitVec 1 := Scalar.andi v1733 v1735
  let v1722 : BitVec 32 := Scalar.divsi v1721 c8_i32_1150
  let c1_i32_1156 : BitVec 32 := 1#32
  let v1737 : BitVec 32 := Scalar.subi v1722 c1_i32_1156
  let v1738 : BitVec 32 := Scalar.select v1736 v1737 v1722
  let c8_i32_1157 : BitVec 32 := 8#32
  let v1739 : BitVec 32 := Scalar.muli v1738 c8_i32_1157
  let c184_i32_1158 : BitVec 32 := 184#32
  let v1740 : BitVec 32 := Scalar.minsi v1739 c184_i32_1158
  v1740

def k0_off488 : Fin 2 → Nat :=
  let c15_i32_1147 : BitVec 32 := 15#32
  let c4_i32_1148 : BitVec 32 := 4#32
  let v1720 : BitVec 32 := Scalar.remsi c15_i32_1147 c4_i32_1148
  let c13_i32_1160 : BitVec 32 := 13#32
  ![v1720.toNat, 13]
def k0_off489 (v1721 : BitVec 32) : Fin 4 → Nat :=
  let c253_i32 : BitVec 32 := 253#32
  let c0_i32_1161 : BitVec 32 := 0#32
  let c0_i32_1151 : BitVec 32 := 0#32
  let v1723 : BitVec 1 := Scalar.cmpi .sgt v1721 c0_i32_1151
  let v1724 : BitVec 32 := Scalar.extui v1723
  let c0_i32_1152 : BitVec 32 := 0#32
  let v1725 : BitVec 1 := Scalar.cmpi .slt v1721 c0_i32_1152
  let v1726 : BitVec 32 := Scalar.extui v1725
  let v1727 : BitVec 32 := Scalar.subi v1724 v1726
  let c8_i32_1150 : BitVec 32 := 8#32
  let c0_i32_1153 : BitVec 32 := 0#32
  let v1728 : BitVec 1 := Scalar.cmpi .sgt c8_i32_1150 c0_i32_1153
  let v1729 : BitVec 32 := Scalar.extui v1728
  let c0_i32_1154 : BitVec 32 := 0#32
  let v1730 : BitVec 1 := Scalar.cmpi .slt c8_i32_1150 c0_i32_1154
  let v1731 : BitVec 32 := Scalar.extui v1730
  let v1732 : BitVec 32 := Scalar.subi v1729 v1731
  let v1733 : BitVec 1 := Scalar.cmpi .ne v1727 v1732
  let v1734 : BitVec 32 := Scalar.remsi v1721 c8_i32_1150
  let c0_i32_1155 : BitVec 32 := 0#32
  let v1735 : BitVec 1 := Scalar.cmpi .ne v1734 c0_i32_1155
  let v1736 : BitVec 1 := Scalar.andi v1733 v1735
  let v1722 : BitVec 32 := Scalar.divsi v1721 c8_i32_1150
  let c1_i32_1156 : BitVec 32 := 1#32
  let v1737 : BitVec 32 := Scalar.subi v1722 c1_i32_1156
  let v1738 : BitVec 32 := Scalar.select v1736 v1737 v1722
  let c8_i32_1157 : BitVec 32 := 8#32
  let v1739 : BitVec 32 := Scalar.muli v1738 c8_i32_1157
  let c184_i32_1158 : BitVec 32 := 184#32
  let v1740 : BitVec 32 := Scalar.minsi v1739 c184_i32_1158
  let v1741 : BitVec 32 := v1740
  let c0_i32_1162 : BitVec 32 := 0#32
  ![253, 0, v1741.toNat, 0]

def k0_chk142 (i : grid0.Coords) (v1721 : BitVec 32) : Prop :=
  (∀ (k0_h4 : k0_cond4 i = 1#1), 8 ∣ (k0_mult142 v1721).toNat) ∧
  (∀ (k0_h4 : k0_cond4 i = 1#1), ∀ a, (k0_off489 v1721) a + S1x3x40x224.size a ≤ S256x3x224x224.size a)
theorem k0_mult142_dvd : ∀ (i : grid0.Coords) (v1721 : BitVec 32) (k0_hw142 : k0_chk142 i v1721), ∀ (k0_h4 : k0_cond4 i = 1#1), 8 ∣ (k0_mult142 v1721).toNat := fun i v1721 k0_hw142 k0_h4 => k0_hw142.1 k0_h4
theorem k0_off489_inb : ∀ (i : grid0.Coords) (v1721 : BitVec 32) (k0_hw142 : k0_chk142 i v1721), ∀ (k0_h4 : k0_cond4 i = 1#1), ∀ a, (k0_off489 v1721) a + S1x3x40x224.size a ≤ S256x3x224x224.size a := fun i v1721 k0_hw142 k0_h4 => k0_hw142.2 k0_h4

def k0_off490 : Fin 5 → Nat :=
  let c15_i32_1147 : BitVec 32 := 15#32
  let c4_i32_1148 : BitVec 32 := 4#32
  let v1720 : BitVec 32 := Scalar.remsi c15_i32_1147 c4_i32_1148
  let c13_i32_1159 : BitVec 32 := 13#32
  let c0_i32_1163 : BitVec 32 := 0#32
  let c0_i32_1164 : BitVec 32 := 0#32
  let c0_i32_1165 : BitVec 32 := 0#32
  ![v1720.toNat, 13, 0, 0, 0]
def k0_mult143 (v1749 : BitVec 32) : BitVec 32 :=
  let c0_i32_1170 : BitVec 32 := 0#32
  let v1751 : BitVec 1 := Scalar.cmpi .sgt v1749 c0_i32_1170
  let v1752 : BitVec 32 := Scalar.extui v1751
  let c0_i32_1171 : BitVec 32 := 0#32
  let v1753 : BitVec 1 := Scalar.cmpi .slt v1749 c0_i32_1171
  let v1754 : BitVec 32 := Scalar.extui v1753
  let v1755 : BitVec 32 := Scalar.subi v1752 v1754
  let c8_i32_1169 : BitVec 32 := 8#32
  let c0_i32_1172 : BitVec 32 := 0#32
  let v1756 : BitVec 1 := Scalar.cmpi .sgt c8_i32_1169 c0_i32_1172
  let v1757 : BitVec 32 := Scalar.extui v1756
  let c0_i32_1173 : BitVec 32 := 0#32
  let v1758 : BitVec 1 := Scalar.cmpi .slt c8_i32_1169 c0_i32_1173
  let v1759 : BitVec 32 := Scalar.extui v1758
  let v1760 : BitVec 32 := Scalar.subi v1757 v1759
  let v1761 : BitVec 1 := Scalar.cmpi .ne v1755 v1760
  let v1762 : BitVec 32 := Scalar.remsi v1749 c8_i32_1169
  let c0_i32_1174 : BitVec 32 := 0#32
  let v1763 : BitVec 1 := Scalar.cmpi .ne v1762 c0_i32_1174
  let v1764 : BitVec 1 := Scalar.andi v1761 v1763
  let v1750 : BitVec 32 := Scalar.divsi v1749 c8_i32_1169
  let c1_i32_1175 : BitVec 32 := 1#32
  let v1765 : BitVec 32 := Scalar.subi v1750 c1_i32_1175
  let v1766 : BitVec 32 := Scalar.select v1764 v1765 v1750
  let c8_i32_1176 : BitVec 32 := 8#32
  let v1767 : BitVec 32 := Scalar.muli v1766 c8_i32_1176
  let c184_i32_1177 : BitVec 32 := 184#32
  let v1768 : BitVec 32 := Scalar.minsi v1767 c184_i32_1177
  v1768

def k0_off491 : Fin 2 → Nat :=
  let c15_i32_1166 : BitVec 32 := 15#32
  let c4_i32_1167 : BitVec 32 := 4#32
  let v1748 : BitVec 32 := Scalar.remsi c15_i32_1166 c4_i32_1167
  let c14_i32_1179 : BitVec 32 := 14#32
  ![v1748.toNat, 14]
def k0_off492 (v1749 : BitVec 32) : Fin 4 → Nat :=
  let c254_i32 : BitVec 32 := 254#32
  let c0_i32_1180 : BitVec 32 := 0#32
  let c0_i32_1170 : BitVec 32 := 0#32
  let v1751 : BitVec 1 := Scalar.cmpi .sgt v1749 c0_i32_1170
  let v1752 : BitVec 32 := Scalar.extui v1751
  let c0_i32_1171 : BitVec 32 := 0#32
  let v1753 : BitVec 1 := Scalar.cmpi .slt v1749 c0_i32_1171
  let v1754 : BitVec 32 := Scalar.extui v1753
  let v1755 : BitVec 32 := Scalar.subi v1752 v1754
  let c8_i32_1169 : BitVec 32 := 8#32
  let c0_i32_1172 : BitVec 32 := 0#32
  let v1756 : BitVec 1 := Scalar.cmpi .sgt c8_i32_1169 c0_i32_1172
  let v1757 : BitVec 32 := Scalar.extui v1756
  let c0_i32_1173 : BitVec 32 := 0#32
  let v1758 : BitVec 1 := Scalar.cmpi .slt c8_i32_1169 c0_i32_1173
  let v1759 : BitVec 32 := Scalar.extui v1758
  let v1760 : BitVec 32 := Scalar.subi v1757 v1759
  let v1761 : BitVec 1 := Scalar.cmpi .ne v1755 v1760
  let v1762 : BitVec 32 := Scalar.remsi v1749 c8_i32_1169
  let c0_i32_1174 : BitVec 32 := 0#32
  let v1763 : BitVec 1 := Scalar.cmpi .ne v1762 c0_i32_1174
  let v1764 : BitVec 1 := Scalar.andi v1761 v1763
  let v1750 : BitVec 32 := Scalar.divsi v1749 c8_i32_1169
  let c1_i32_1175 : BitVec 32 := 1#32
  let v1765 : BitVec 32 := Scalar.subi v1750 c1_i32_1175
  let v1766 : BitVec 32 := Scalar.select v1764 v1765 v1750
  let c8_i32_1176 : BitVec 32 := 8#32
  let v1767 : BitVec 32 := Scalar.muli v1766 c8_i32_1176
  let c184_i32_1177 : BitVec 32 := 184#32
  let v1768 : BitVec 32 := Scalar.minsi v1767 c184_i32_1177
  let v1769 : BitVec 32 := v1768
  let c0_i32_1181 : BitVec 32 := 0#32
  ![254, 0, v1769.toNat, 0]

def k0_chk143 (i : grid0.Coords) (v1749 : BitVec 32) : Prop :=
  (∀ (k0_h4 : k0_cond4 i = 1#1), 8 ∣ (k0_mult143 v1749).toNat) ∧
  (∀ (k0_h4 : k0_cond4 i = 1#1), ∀ a, (k0_off492 v1749) a + S1x3x40x224.size a ≤ S256x3x224x224.size a)
theorem k0_mult143_dvd : ∀ (i : grid0.Coords) (v1749 : BitVec 32) (k0_hw143 : k0_chk143 i v1749), ∀ (k0_h4 : k0_cond4 i = 1#1), 8 ∣ (k0_mult143 v1749).toNat := fun i v1749 k0_hw143 k0_h4 => k0_hw143.1 k0_h4
theorem k0_off492_inb : ∀ (i : grid0.Coords) (v1749 : BitVec 32) (k0_hw143 : k0_chk143 i v1749), ∀ (k0_h4 : k0_cond4 i = 1#1), ∀ a, (k0_off492 v1749) a + S1x3x40x224.size a ≤ S256x3x224x224.size a := fun i v1749 k0_hw143 k0_h4 => k0_hw143.2 k0_h4

def k0_off493 : Fin 5 → Nat :=
  let c15_i32_1166 : BitVec 32 := 15#32
  let c4_i32_1167 : BitVec 32 := 4#32
  let v1748 : BitVec 32 := Scalar.remsi c15_i32_1166 c4_i32_1167
  let c14_i32_1178 : BitVec 32 := 14#32
  let c0_i32_1182 : BitVec 32 := 0#32
  let c0_i32_1183 : BitVec 32 := 0#32
  let c0_i32_1184 : BitVec 32 := 0#32
  ![v1748.toNat, 14, 0, 0, 0]
def k0_mult144 (v1777 : BitVec 32) : BitVec 32 :=
  let c0_i32_1189 : BitVec 32 := 0#32
  let v1779 : BitVec 1 := Scalar.cmpi .sgt v1777 c0_i32_1189
  let v1780 : BitVec 32 := Scalar.extui v1779
  let c0_i32_1190 : BitVec 32 := 0#32
  let v1781 : BitVec 1 := Scalar.cmpi .slt v1777 c0_i32_1190
  let v1782 : BitVec 32 := Scalar.extui v1781
  let v1783 : BitVec 32 := Scalar.subi v1780 v1782
  let c8_i32_1188 : BitVec 32 := 8#32
  let c0_i32_1191 : BitVec 32 := 0#32
  let v1784 : BitVec 1 := Scalar.cmpi .sgt c8_i32_1188 c0_i32_1191
  let v1785 : BitVec 32 := Scalar.extui v1784
  let c0_i32_1192 : BitVec 32 := 0#32
  let v1786 : BitVec 1 := Scalar.cmpi .slt c8_i32_1188 c0_i32_1192
  let v1787 : BitVec 32 := Scalar.extui v1786
  let v1788 : BitVec 32 := Scalar.subi v1785 v1787
  let v1789 : BitVec 1 := Scalar.cmpi .ne v1783 v1788
  let v1790 : BitVec 32 := Scalar.remsi v1777 c8_i32_1188
  let c0_i32_1193 : BitVec 32 := 0#32
  let v1791 : BitVec 1 := Scalar.cmpi .ne v1790 c0_i32_1193
  let v1792 : BitVec 1 := Scalar.andi v1789 v1791
  let v1778 : BitVec 32 := Scalar.divsi v1777 c8_i32_1188
  let c1_i32_1194 : BitVec 32 := 1#32
  let v1793 : BitVec 32 := Scalar.subi v1778 c1_i32_1194
  let v1794 : BitVec 32 := Scalar.select v1792 v1793 v1778
  let c8_i32_1195 : BitVec 32 := 8#32
  let v1795 : BitVec 32 := Scalar.muli v1794 c8_i32_1195
  let c184_i32_1196 : BitVec 32 := 184#32
  let v1796 : BitVec 32 := Scalar.minsi v1795 c184_i32_1196
  v1796

def k0_off494 : Fin 2 → Nat :=
  let c15_i32_1185 : BitVec 32 := 15#32
  let c4_i32_1186 : BitVec 32 := 4#32
  let v1776 : BitVec 32 := Scalar.remsi c15_i32_1185 c4_i32_1186
  let c15_i32_1198 : BitVec 32 := 15#32
  ![v1776.toNat, 15]
def k0_off495 (v1777 : BitVec 32) : Fin 4 → Nat :=
  let c255_i32 : BitVec 32 := 255#32
  let c0_i32_1199 : BitVec 32 := 0#32
  let c0_i32_1189 : BitVec 32 := 0#32
  let v1779 : BitVec 1 := Scalar.cmpi .sgt v1777 c0_i32_1189
  let v1780 : BitVec 32 := Scalar.extui v1779
  let c0_i32_1190 : BitVec 32 := 0#32
  let v1781 : BitVec 1 := Scalar.cmpi .slt v1777 c0_i32_1190
  let v1782 : BitVec 32 := Scalar.extui v1781
  let v1783 : BitVec 32 := Scalar.subi v1780 v1782
  let c8_i32_1188 : BitVec 32 := 8#32
  let c0_i32_1191 : BitVec 32 := 0#32
  let v1784 : BitVec 1 := Scalar.cmpi .sgt c8_i32_1188 c0_i32_1191
  let v1785 : BitVec 32 := Scalar.extui v1784
  let c0_i32_1192 : BitVec 32 := 0#32
  let v1786 : BitVec 1 := Scalar.cmpi .slt c8_i32_1188 c0_i32_1192
  let v1787 : BitVec 32 := Scalar.extui v1786
  let v1788 : BitVec 32 := Scalar.subi v1785 v1787
  let v1789 : BitVec 1 := Scalar.cmpi .ne v1783 v1788
  let v1790 : BitVec 32 := Scalar.remsi v1777 c8_i32_1188
  let c0_i32_1193 : BitVec 32 := 0#32
  let v1791 : BitVec 1 := Scalar.cmpi .ne v1790 c0_i32_1193
  let v1792 : BitVec 1 := Scalar.andi v1789 v1791
  let v1778 : BitVec 32 := Scalar.divsi v1777 c8_i32_1188
  let c1_i32_1194 : BitVec 32 := 1#32
  let v1793 : BitVec 32 := Scalar.subi v1778 c1_i32_1194
  let v1794 : BitVec 32 := Scalar.select v1792 v1793 v1778
  let c8_i32_1195 : BitVec 32 := 8#32
  let v1795 : BitVec 32 := Scalar.muli v1794 c8_i32_1195
  let c184_i32_1196 : BitVec 32 := 184#32
  let v1796 : BitVec 32 := Scalar.minsi v1795 c184_i32_1196
  let v1797 : BitVec 32 := v1796
  let c0_i32_1200 : BitVec 32 := 0#32
  ![255, 0, v1797.toNat, 0]

def k0_chk144 (i : grid0.Coords) (v1777 : BitVec 32) : Prop :=
  (∀ (k0_h4 : k0_cond4 i = 1#1), 8 ∣ (k0_mult144 v1777).toNat) ∧
  (∀ (k0_h4 : k0_cond4 i = 1#1), ∀ a, (k0_off495 v1777) a + S1x3x40x224.size a ≤ S256x3x224x224.size a)
theorem k0_mult144_dvd : ∀ (i : grid0.Coords) (v1777 : BitVec 32) (k0_hw144 : k0_chk144 i v1777), ∀ (k0_h4 : k0_cond4 i = 1#1), 8 ∣ (k0_mult144 v1777).toNat := fun i v1777 k0_hw144 k0_h4 => k0_hw144.1 k0_h4
theorem k0_off495_inb : ∀ (i : grid0.Coords) (v1777 : BitVec 32) (k0_hw144 : k0_chk144 i v1777), ∀ (k0_h4 : k0_cond4 i = 1#1), ∀ a, (k0_off495 v1777) a + S1x3x40x224.size a ≤ S256x3x224x224.size a := fun i v1777 k0_hw144 k0_h4 => k0_hw144.2 k0_h4

def k0_off496 : Fin 5 → Nat :=
  let c15_i32_1185 : BitVec 32 := 15#32
  let c4_i32_1186 : BitVec 32 := 4#32
  let v1776 : BitVec 32 := Scalar.remsi c15_i32_1185 c4_i32_1186
  let c15_i32_1197 : BitVec 32 := 15#32
  let c0_i32_1201 : BitVec 32 := 0#32
  let c0_i32_1202 : BitVec 32 := 0#32
  let c0_i32_1203 : BitVec 32 := 0#32
  ![v1776.toNat, 15, 0, 0, 0]
def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1x3x40x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S256x3x224x224 : Shape := ⟨4, ![256, 3, 224, 224]⟩
abbrev S1x3x30x30 : Shape := ⟨4, ![1, 3, 30, 30]⟩
abbrev S256x2 : Shape := ⟨2, ![256, 2]⟩
abbrev S3x30x30 : Shape := ⟨3, ![3, 30, 30]⟩
abbrev S_ : Shape := ⟨0, ![]⟩
abbrev S1x2 : Shape := ⟨2, ![1, 2]⟩
abbrev S2 : Shape := ⟨1, ![2]⟩
abbrev S3x224x224 : Shape := ⟨3, ![3, 224, 224]⟩
abbrev S1 : Shape := ⟨1, ![1]⟩
abbrev S1x3x224x224 : Shape := ⟨4, ![1, 3, 224, 224]⟩

abbrev nBuf : Space → Nat
  | .hbm => 42
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S1x3x30x30, .f32⟩
  | .hbm, ⟨2, _⟩ => ⟨S256x2, .i32⟩
  | .hbm, ⟨3, _⟩ => ⟨S3x30x30, .f32⟩
  | .hbm, ⟨4, _⟩ => ⟨S_, .f32⟩
  | .hbm, ⟨5, _⟩ => ⟨S256x3x224x224, .f32⟩
  | .hbm, ⟨6, _⟩ => ⟨S_, .i32⟩
  | .hbm, ⟨7, _⟩ => ⟨S256x2, .i32⟩
  | .hbm, ⟨8, _⟩ => ⟨S3x30x30, .f32⟩
  | .hbm, ⟨9, _⟩ => ⟨S_, .i32⟩
  | .hbm, ⟨10, _⟩ => ⟨S256x3x224x224, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x2, .i32⟩
  | .hbm, ⟨15, _⟩ => ⟨S2, .i32⟩
  | .hbm, ⟨16, _⟩ => ⟨S_, .f32⟩
  | .hbm, ⟨17, _⟩ => ⟨S3x224x224, .f32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S3x224x224, .f32⟩
  | .hbm, ⟨34, _⟩ => ⟨S1x3x224x224, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S256x3x224x224, .f32⟩
  | .hbm, ⟨39, _⟩ => ⟨S_, .i32⟩
  | .hbm, ⟨40, _⟩ => ⟨S_, .i32⟩
  | .hbm, ⟨41, _⟩ => ⟨S256x3x224x224, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_while0c_c_3 : Ref sig .tc := ⟨.hbm, 11, rfl⟩
abbrev main_while0c_v4 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v4 : Ref sig .tc := ⟨.hbm, 15, rfl⟩
abbrev main_while0b_cst_3 : Ref sig .tc := ⟨.hbm, 16, rfl⟩
abbrev main_while0b_v5 : Ref sig .tc := ⟨.hbm, 17, rfl⟩
abbrev main_while0b_v6 : Ref sig .tc := ⟨.hbm, 18, rfl⟩
abbrev main_while0b_v7 : Ref sig .tc := ⟨.hbm, 19, rfl⟩
abbrev main_while0b_v8 : Ref sig .tc := ⟨.hbm, 20, rfl⟩
abbrev main_while0b_v9 : Ref sig .tc := ⟨.hbm, 21, rfl⟩
abbrev main_while0b_c_4 : Ref sig .tc := ⟨.hbm, 22, rfl⟩
abbrev main_while0b_v10 : Ref sig .tc := ⟨.hbm, 23, rfl⟩
abbrev main_while0b_c_5 : Ref sig .tc := ⟨.hbm, 24, rfl⟩
abbrev main_while0b_v11 : Ref sig .tc := ⟨.hbm, 25, rfl⟩
abbrev main_while0b_v12 : Ref sig .tc := ⟨.hbm, 26, rfl⟩
abbrev main_while0b_c_6 : Ref sig .tc := ⟨.hbm, 27, rfl⟩
abbrev main_while0b_v13 : Ref sig .tc := ⟨.hbm, 28, rfl⟩
abbrev main_while0b_c_7 : Ref sig .tc := ⟨.hbm, 29, rfl⟩
abbrev main_while0b_v14 : Ref sig .tc := ⟨.hbm, 30, rfl⟩
abbrev main_while0b_v15 : Ref sig .tc := ⟨.hbm, 31, rfl⟩
abbrev main_while0b_c_8 : Ref sig .tc := ⟨.hbm, 32, rfl⟩
abbrev main_while0b_v16 : Ref sig .tc := ⟨.hbm, 33, rfl⟩
abbrev main_while0b_call1_v0 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_c_1 : Ref sig .tc := ⟨.hbm, 37, rfl⟩
abbrev main_while0b_v17 : Ref sig .tc := ⟨.hbm, 38, rfl⟩
abbrev main_while0b_c_9 : Ref sig .tc := ⟨.hbm, 39, rfl⟩
abbrev main_while0b_v18 : Ref sig .tc := ⟨.hbm, 40, rfl⟩
abbrev main_v3 : Ref sig .tc := ⟨.hbm, 41, rfl⟩

abbrev nD : Nat := 1
abbrev τ : Topo := Topo.v7x

variable {F : FTy → Type} [FloatOps F]

abbrev main_while0_count : Scf.Loop 32 := ⟨0#32, 256#32, 1#32⟩
-- ==== Proof.Canon.lean ====
/-
  The kernel's body in a regular form: each of its four phases as a list of steps, one step for each
  sample of a chunk, and the theorem that the printed body is this form.
-/
module

public import proofs.«01_k».proof.Proof.Gen.Kernel
public import Idealize.ShloMosaic.Lib.Pipeline.Regions

@[expose] public section

noncomputable section

namespace Cert.Kernel.Canon

open Idealize.ShloMosaic Idealize.SL.Sem Cert.Kernel
open Facts₀ Facts

variable {F : FTy → Type} [FloatOps F]

/-- The first row of the window that holds a patch placed at row `v`: `v` rounded down to a multiple of 8, at most 184. -/
abbrev rowWord (v : BitVec 32) : BitVec 32 := k0_mult1 v

/-- Where sample `b`'s window starts in the image array. -/
abbrev offWin (b : ℕ) (v : BitVec 32) : Fin 4 → ℕ := ![b, 0, (rowWord v).toNat, 0]

/-- The word of row `b`, column `k` of the placement table lies in the table. -/
abbrev InTab (b k : ℕ) : Prop := ∀ a, (![b, k] : Fin 2 → ℕ) a + S1x1.size a ≤ S256x2.size a

/-- Cell `(s, j)` lies in a 4 × 16 array of semaphores. -/
abbrev InSem (s j : ℕ) : Prop := ∀ a, (![s, j] : Fin 2 → ℕ) a + S1x1.size a ≤ S4x16.size a

/-- Tile `(s, j)` lies in the scratch ring. -/
abbrev InRing (s j : ℕ) : Prop := ∀ a, (![s, j, 0, 0, 0] : Fin 5 → ℕ) a + S1x1x3x40x224.size a ≤ S4x16x3x40x224.size a

/-- The window at row word `v` of sample `b` lies in the image array. -/
abbrev InWin (b : ℕ) (v : BitVec 32) : Prop := ∀ a, (offWin b v) a + S1x3x40x224.size a ≤ S256x3x224x224.size a

/-- What the body assumes of a word it has read, under one condition `p` of its own. -/
def chk1 (p : Prop) (b : ℕ) (v : BitVec 32) : Prop := (∀ _ : p, 8 ∣ (rowWord v).toNat) ∧ (∀ _ : p, InWin b v)

instance chk1.dec (p : Prop) [Decidable p] (b : ℕ) (v : BitVec 32) : Decidable (chk1 p b v) :=
  decidable_of_iff' _ (Iff.of_eq (chk1.eq_1 p b v))

/-- The same under two conditions. -/
def chk2 (p q : Prop) (b : ℕ) (v : BitVec 32) : Prop := (∀ _ : p, ∀ _ : q, 8 ∣ (rowWord v).toNat) ∧ (∀ _ : p, ∀ _ : q, InWin b v)

instance chk2.dec (p q : Prop) [Decidable p] [Decidable q] (b : ℕ) (v : BitVec 32) : Decidable (chk2 p q b v) :=
  decidable_of_iff' _ (Iff.of_eq (chk2.eq_1 p q b v))

/-- The alignment alone. -/
def chk0 (p : Prop) (v : BitVec 32) : Prop := ∀ _ : p, 8 ∣ (rowWord v).toNat

instance chk0.dec (p : Prop) [Decidable p] (v : BitVec 32) : Decidable (chk0 p v) :=
  decidable_of_iff' _ (Iff.of_eq (chk0.eq_1 p v))

section Steps

variable (tab : Memref sig .tc .smem S256x2 .i32) (img : Memref sig .tc .hbm S256x3x224x224 .f32)
  (ring : Memref sig .tc .vmem S4x16x3x40x224 .f32)

/-- The window of the image array at offset `(b, 0, v, 0)`. -/
abbrev win (b : ℕ) (v : BitVec 32) (h : InWin b v) : Memref sig .tc .hbm S3x40x224 .f32 :=
  (img.slice (Rect.unit (s := S256x3x224x224) (offWin b v) S1x3x40x224.size h) (fun _ => rfl)).squeeze S3x40x224 squeezes_S1x3x40x224_S3x40x224

/-- Tile `(s, j)` of the ring. -/
abbrev tile (s j : ℕ) (h : InRing s j) : Memref sig .tc .vmem S3x40x224 .f32 :=
  (ring.slice (Rect.unit (s := S4x16x3x40x224) ![s, j, 0, 0, 0] S1x1x3x40x224.size h) (fun _ => rfl)).squeeze S3x40x224 squeezes_S1x1x3x40x224_S3x40x224

/-- Cell `(s, j)` of an array of semaphores. -/
abbrev cell (sems : DmaSems sig S4x16) (s j : ℕ) (h : InSem s j) : DmaSem sig :=
  ((sems.slice (Rect.unit (s := S4x16) ![s, j] S1x1.size h)).squeeze S_ squeezes_S1x1_S_).sem

/-- The word at row `b`, column `k` of the table. -/
abbrev readTab (b k : ℕ) (h : InTab b k) : Prog (TpuEff nD τ sig (Elt F) Λ₀ .tc) (Elt F .i32) :=
  smemLoad tab (Rect.unit (s := S256x2) ![b, k] S1x1.size h) numel1_S1x1 rfl

variable (chk : BitVec 32 → Prop) (dec : ∀ v, Decidable (chk v))

/-- Wait until the transfer of tile `(s, j)` into sample `b`'s window has landed. -/
def waitOut (sems : DmaSems sig S4x16) (b s j : ℕ) (hb : InTab b 0) (hs : InSem s j) (hr : InRing s j) (hw : ∀ v, chk v → InWin b v) :
    Prog (TpuEff nD τ sig (Elt F) Λ₀ .tc) PUnit := do
  let v : Elt F .i32 ← readTab tab b 0 hb
  have h : chk v := (← Prog.lift (TpuEff.assume (chk v) (dec v))).down
  Prog.lift (.waitDma2 (cell sems s j hs) (tile ring s j hr) (win img b v (hw v h)) ((View.wordExact_bits rfl).reshape _ _) ((View.wordExact_bits rfl).reshape _ _))

/-- Wait until the transfer of sample `b`'s window into tile `(s, j)` has landed. -/
def waitIn (sems : DmaSems sig S4x16) (b s j : ℕ) (hb : InTab b 0) (hs : InSem s j) (hr : InRing s j) (hw : ∀ v, chk v → InWin b v) :
    Prog (TpuEff nD τ sig (Elt F) Λ₀ .tc) PUnit := do
  let v : Elt F .i32 ← readTab tab b 0 hb
  have h : chk v := (← Prog.lift (TpuEff.assume (chk v) (dec v))).down
  Prog.lift (.waitDma2 (cell sems s j hs) (win img b v (hw v h)) (tile ring s j hr) ((View.wordExact_bits rfl).reshape _ _) ((View.wordExact_bits rfl).reshape _ _))

/-- Start the transfer of tile `(s, j)` into sample `b`'s window. -/
def startOut (sems : DmaSems sig S4x16) (b s j : ℕ) (hb : InTab b 0) (hs : InSem s j) (hr : InRing s j) (hw : ∀ v, chk v → InWin b v) :
    Prog (TpuEff nD τ sig (Elt F) Λ₀ .tc) PUnit := do
  let v : Elt F .i32 ← readTab tab b 0 hb
  have h : chk v := (← Prog.lift (TpuEff.assume (chk v) (dec v))).down
  Prog.lift (.enqueueDma (tile ring s j hr) (.here (win img b v (hw v h))) (.dma (cell sems s j hs)) ((View.wordExact_bits rfl).reshape _ _) ((View.wordExact_bits rfl).reshape _ _) ⟨Or.inl rfl, trivial⟩)

/-- What tile `x` of the ring becomes: the padded patch `p`, rotated so that the patch stands at row `vy - rowWord vy` and
    column `vx`, added to it. -/
def placed (vy vx : BitVec 32) (p : Vec F S1x3x40x224 .f32) (x : Vec F S1x1x3x40x224 .f32) : FVec F S1x1x3x40x224 .f32 :=
  shapeCast S1x1x3x40x224 (addf (shapeCast S3x40x224 x shapeCasts_S1x1x3x40x224_S3x40x224 : FVec F S3x40x224 .f32)
    (dynamicRotate 1 (Scalar.subi vy (rowWord vy)) none
      (dynamicRotate 2 vx none (shapeCast S3x40x224 p shapeCasts_S1x3x40x224_S3x40x224 : FVec F S3x40x224 .f32) rotates_S3x40x224_d2)
      rotates_S3x40x224_d1)) shapeCasts_S3x40x224_S1x1x3x40x224

/-- Add sample `b`'s placed patch to tile `(s, j)`. -/
def addPatch (pat : Memref sig .tc .vmem S1x3x40x224 .f32) (b s j : ℕ) (hb : InTab b 0) (hb' : InTab b 1) (hr : InRing s j) :
    Prog (TpuEff nD τ sig (Elt F) Λ₀ .tc) PUnit := do
  let vy : Elt F .i32 ← readTab tab b 0 hb
  have _h : chk vy := (← Prog.lift (TpuEff.assume (chk vy) (dec vy))).down
  let vx : Elt F .i32 ← readTab tab b 1 hb'
  let p : Vec F S1x3x40x224 .f32 ← Prog.lift (.load pat (Rect.unit (s := S1x3x40x224) ![0, 0, 0, 0] S1x3x40x224.size inb_S1x3x40x224_S1x3x40x224_0_0_0_0).toLoadRect (View.loadsAt_vmem h_S1x3x40x224))
  let x : Vec F S1x1x3x40x224 .f32 ← Prog.lift (.load ring (Rect.unit (s := S4x16x3x40x224) ![s, j, 0, 0, 0] S1x1x3x40x224.size hr).toLoadRect (View.loadsAt_vmem h_S1x1x3x40x224))
  let _ : Vec F S1x1x3x40x224 .f32 ← Prog.lift (.load ring (Rect.unit (s := S4x16x3x40x224) ![s, j, 0, 0, 0] S1x1x3x40x224.size hr).toLoadRect (View.loadsAt_vmem h_S1x1x3x40x224))
  Prog.lift (.store ring (Rect.unit (s := S4x16x3x40x224) ![s, j, 0, 0, 0] S1x1x3x40x224.size hr) (placed vy vx p x) Finset.univ (View.stores_vmem_bits_univ h_S1x1x3x40x224 rfl) (.inl rfl))

/-- Start the transfer of sample `b`'s window into tile `(s, j)`. -/
def startIn (sems : DmaSems sig S4x16) (b s j : ℕ) (hb : InTab b 0) (hs : InSem s j) (hr : InRing s j) (hw : ∀ v, chk v → InWin b v) :
    Prog (TpuEff nD τ sig (Elt F) Λ₀ .tc) PUnit := do
  let v : Elt F .i32 ← readTab tab b 0 hb
  have h : chk v := (← Prog.lift (TpuEff.assume (chk v) (dec v))).down
  Prog.lift (.enqueueDma (win img b v (hw v h)) (.here (tile ring s j hr)) (.dma (cell sems s j hs)) ((View.wordExact_bits rfl).reshape _ _) ((View.wordExact_bits rfl).reshape _ _) ⟨Or.inl rfl, trivial⟩)

end Steps

/-- `n` steps, one after another. -/
def run : (n : ℕ) → (Fin n → Prog (TpuEff nD τ sig (Elt F) Λ₀ .tc) PUnit) → Prog (TpuEff nD τ sig (Elt F) Λ₀ .tc) PUnit
  | 0, _ => pure ⟨⟩
  | n + 1, f => f 0 >>= fun _ => run n fun j => f j.succ

/-! ## The numbers a grid point's words stand for -/

/-- Sample `j` of the chunk the word `cw` names. -/
abbrev sampleOf (cw : BitVec 32) (j : ℕ) : ℕ := (Scalar.addi (Scalar.muli cw 16#32) (BitVec.ofNat 32 j)).toNat

/-- The ring slot of the chunk the word `cw` names. -/
abbrev slotOf (cw : BitVec 32) : ℕ := (Scalar.remsi cw 4#32).toNat

/-- The grid point as a word. -/
abbrev pointWord (i : grid0.Coords) : BitVec 32 := BitVec.ofNat 32 (i 0).val

/-- The word `cw` names one of the 16 chunks. -/
abbrev IsChunk (cw : BitVec 32) : Prop := ∃ c : Fin 16, cw = BitVec.ofNat 32 c.val

theorem sampleOf_eq (c j : Fin 16) : sampleOf (BitVec.ofNat 32 c.val) j.val = 16 * c.val + j.val := by
  revert c j; decide

theorem slotOf_eq (c : Fin 16) : slotOf (BitVec.ofNat 32 c.val) = c.val % 4 := by
  revert c; decide

theorem inTab {b k : ℕ} (hb : b < 256) (hk : k < 2) : InTab b k := by
  intro a
  fin_cases a
  · show b + 1 ≤ 256; omega
  · show k + 1 ≤ 2; omega

theorem inSem {s j : ℕ} (hs : s < 4) (hj : j < 16) : InSem s j := by
  intro a
  fin_cases a
  · show s + 1 ≤ 4; omega
  · show j + 1 ≤ 16; omega

theorem inRing {s j : ℕ} (hs : s < 4) (hj : j < 16) : InRing s j := by
  intro a
  fin_cases a
  · show s + 1 ≤ 4; omega
  · show j + 1 ≤ 16; omega
  · show 0 + 3 ≤ 3; omega
  · show 0 + 40 ≤ 40; omega
  · show 0 + 224 ≤ 224; omega

theorem sample_lt {cw : BitVec 32} (h : IsChunk cw) (j : Fin 16) : sampleOf cw j.val < 256 := by
  obtain ⟨c, rfl⟩ := h
  rw [sampleOf_eq]; omega

theorem slot_lt {cw : BitVec 32} (h : IsChunk cw) : slotOf cw < 4 := by
  obtain ⟨c, rfl⟩ := h
  rw [slotOf_eq]; omega

/-- The grid point as a number. -/
abbrev pt (i : grid0.Coords) : Fin 18 := i 0

/-- Phases 1 and 2 run at the points before 16. -/
theorem cond1_iff (i : grid0.Coords) : k0_cond1 i = 1#1 ↔ (pt i).val < 16 := by
  have key : ∀ t : Fin 18, (Scalar.cmpi .ne (Scalar.extui (Scalar.cmpi .slt (BitVec.ofNat 32 t.val) 16#32) : BitVec 32) 0#32 = 1#1) ↔ t.val < 16 := by
    decide
  exact key (pt i)

/-- Phase 1 runs from point 4 on. -/
theorem cond2_iff (i : grid0.Coords) : k0_cond2 i = 1#1 ↔ 4 ≤ (pt i).val := by
  have key : ∀ t : Fin 18, (Scalar.cmpi .ne (Scalar.extui (Scalar.cmpi .sge (BitVec.ofNat 32 t.val) 4#32) : BitVec 32) 0#32 = 1#1) ↔ 4 ≤ t.val := by
    decide
  exact key (pt i)

/-- Phase 3 runs from point 2 on. -/
theorem cond3_iff (i : grid0.Coords) : k0_cond3 i = 1#1 ↔ 2 ≤ (pt i).val := by
  have key : ∀ t : Fin 18, (Scalar.cmpi .ne (Scalar.extui (Scalar.andi (Scalar.cmpi .sge (Scalar.subi (BitVec.ofNat 32 t.val) 2#32) 0#32)
      (Scalar.cmpi .slt (Scalar.subi (BitVec.ofNat 32 t.val) 2#32) 16#32)) : BitVec 32) 0#32 = 1#1) ↔ 2 ≤ t.val := by
    decide
  exact key (pt i)

/-- Phase 4 runs at the last point. -/
theorem cond4_iff (i : grid0.Coords) : k0_cond4 i = 1#1 ↔ (pt i).val = 17 := by
  have key : ∀ t : Fin 18, (Scalar.cmpi .ne (Scalar.extui (Scalar.cmpi .eq (BitVec.ofNat 32 t.val) 17#32) : BitVec 32) 0#32 = 1#1) ↔ t.val = 17 := by
    decide
  exact key (pt i)

/-- The word of the chunk `d` points back. -/
theorem sub_word (t : Fin 18) (d : ℕ) (hd : d ≤ t.val) (hd' : d ≤ 4) :
    Scalar.subi (BitVec.ofNat 32 t.val) (BitVec.ofNat 32 d) = BitVec.ofNat 32 (t.val - d) := by
  have key : ∀ (t : Fin 18) (d : Fin 5), d.val ≤ t.val → Scalar.subi (BitVec.ofNat 32 t.val) (BitVec.ofNat 32 d.val) = BitVec.ofNat 32 (t.val - d.val) := by
    decide
  exact key t ⟨d, by omega⟩ hd

theorem chunk_of_cond1 (i : grid0.Coords) (h : k0_cond1 i = 1#1) : IsChunk (pointWord i) :=
  ⟨⟨(pt i).val, (cond1_iff i).1 h⟩, rfl⟩

theorem chunk_of_cond2 (i : grid0.Coords) (_h1 : k0_cond1 i = 1#1) (h2 : k0_cond2 i = 1#1) : IsChunk (Scalar.subi (pointWord i) 4#32) :=
  ⟨⟨(pt i).val - 4, by have := (pt i).isLt; omega⟩, sub_word (pt i) 4 ((cond2_iff i).1 h2) le_rfl⟩

theorem chunk_of_cond3 (i : grid0.Coords) (h3 : k0_cond3 i = 1#1) : IsChunk (Scalar.subi (pointWord i) 2#32) :=
  ⟨⟨(pt i).val - 2, by have := (pt i).isLt; omega⟩, sub_word (pt i) 2 ((cond3_iff i).1 h3) (by omega)⟩

section Body

variable (i : grid0.Coords) (tab : Memref sig .tc .smem S256x2 .i32) (pat : Memref sig .tc .vmem S1x3x40x224 .f32)
  (img : Memref sig .tc .hbm S256x3x224x224 .f32) (ring : Memref sig .tc .vmem S4x16x3x40x224 .f32) (rs ws : DmaSems sig S4x16)

/-- Phase 1: the 16 outgoing transfers of the chunk four points back have landed. -/
def drain (h1 : k0_cond1 i = 1#1) (h2 : k0_cond2 i = 1#1) : Prog (TpuEff nD τ sig (Elt F) Λ₀ .tc) PUnit :=
  run 16 fun j =>
    waitOut tab img ring (chk2 (k0_cond1 i = 1#1) (k0_cond2 i = 1#1) (sampleOf (Scalar.subi (pointWord i) 4#32) j.val)) (chk2.dec _ _ _) ws
      (sampleOf (Scalar.subi (pointWord i) 4#32) j.val) (slotOf (Scalar.subi (pointWord i) 4#32)) j.val
      (inTab (sample_lt (chunk_of_cond2 i h1 h2) j) (by decide)) (inSem (slot_lt (chunk_of_cond2 i h1 h2)) j.isLt)
      (inRing (slot_lt (chunk_of_cond2 i h1 h2)) j.isLt) (fun _ h => h.2 h1 h2)

/-- One step of phase 2: sample `j`'s incoming transfer starts. -/
def fetch1 (h1 : k0_cond1 i = 1#1) (j : Fin 16) : Prog (TpuEff nD τ sig (Elt F) Λ₀ .tc) PUnit :=
  startIn tab img ring (chk1 (k0_cond1 i = 1#1) (sampleOf (pointWord i) j.val)) (chk1.dec _ _) rs
    (sampleOf (pointWord i) j.val) (slotOf (pointWord i)) j.val
    (inTab (sample_lt (chunk_of_cond1 i h1) j) (by decide)) (inSem (slot_lt (chunk_of_cond1 i h1)) j.isLt)
    (inRing (slot_lt (chunk_of_cond1 i h1)) j.isLt) (fun _ h => h.2 h1)

/-- One step of phase 3: sample `j` of the chunk two points back has arrived, gets its patch and starts back. -/
def work1 (h3 : k0_cond3 i = 1#1) (j : Fin 16) : Prog (TpuEff nD τ sig (Elt F) Λ₀ .tc) PUnit := do
  waitIn tab img ring (chk1 (k0_cond3 i = 1#1) (sampleOf (Scalar.subi (pointWord i) 2#32) j.val)) (chk1.dec _ _) rs
    (sampleOf (Scalar.subi (pointWord i) 2#32) j.val) (slotOf (Scalar.subi (pointWord i) 2#32)) j.val
    (inTab (sample_lt (chunk_of_cond3 i h3) j) (by decide)) (inSem (slot_lt (chunk_of_cond3 i h3)) j.isLt)
    (inRing (slot_lt (chunk_of_cond3 i h3)) j.isLt) (fun _ h => h.2 h3)
  addPatch tab ring (chk0 (k0_cond3 i = 1#1)) (chk0.dec _) pat
    (sampleOf (Scalar.subi (pointWord i) 2#32) j.val) (slotOf (Scalar.subi (pointWord i) 2#32)) j.val
    (inTab (sample_lt (chunk_of_cond3 i h3) j) (by decide)) (inTab (sample_lt (chunk_of_cond3 i h3) j) (by decide))
    (inRing (slot_lt (chunk_of_cond3 i h3)) j.isLt)
  startOut tab img ring (chk1 (k0_cond3 i = 1#1) (sampleOf (Scalar.subi (pointWord i) 2#32) j.val)) (chk1.dec _ _) ws
    (sampleOf (Scalar.subi (pointWord i) 2#32) j.val) (slotOf (Scalar.subi (pointWord i) 2#32)) j.val
    (inTab (sample_lt (chunk_of_cond3 i h3) j) (by decide)) (inSem (slot_lt (chunk_of_cond3 i h3)) j.isLt)
    (inRing (slot_lt (chunk_of_cond3 i h3)) j.isLt) (fun _ h => h.2 h3)

/-- One step of phase 4: sample `j`'s outgoing transfer of chunk `12 + q` has landed. -/
def last1 (h4 : k0_cond4 i = 1#1) (q : Fin 4) (j : Fin 16) : Prog (TpuEff nD τ sig (Elt F) Λ₀ .tc) PUnit :=
  waitOut tab img ring (chk1 (k0_cond4 i = 1#1) (192 + 16 * q.val + j.val)) (chk1.dec _ _) ws
    (192 + 16 * q.val + j.val) (slotOf (BitVec.ofNat 32 (12 + q.val))) j.val
    (inTab (by omega) (by decide)) (inSem (slot_lt ⟨⟨12 + q.val, by omega⟩, rfl⟩) j.isLt)
    (inRing (slot_lt ⟨⟨12 + q.val, by omega⟩, rfl⟩) j.isLt) (fun _ h => h.2 h4)

/-- Phase 1 if the point has it, and the first step of phase 2. -/
def head (h1 : k0_cond1 i = 1#1) : Prog (TpuEff nD τ sig (Elt F) Λ₀ .tc) (BitVec 32) := do
  if h2 : k0_cond2 i = 1#1 then do
    drain i tab img ring ws h1 h2
  else do
    pure ⟨⟩
  fetch1 i tab img ring rs h1 0
  pure 4#32

/-- The body of a grid point. -/
def body : Prog (TpuEff nD τ sig (Elt F) Λ₀ .tc) PUnit := do
  if h1 : k0_cond1 i = 1#1 then do
    let _ ← head i tab img ring rs ws h1
    run 15 fun j => fetch1 i tab img ring rs h1 j.succ
  else do
    pure ⟨⟩
  if h3 : k0_cond3 i = 1#1 then do
    run 16 fun j => work1 i tab pat img ring rs ws h3 j
  else do
    pure ⟨⟩
  if h4 : k0_cond4 i = 1#1 then do
    run 4 fun q => run 16 fun j => last1 i tab img ring ws h4 q j
  else do
    pure ⟨⟩
  pure ⟨⟩

set_option maxRecDepth 65536 in
/-- The printed body of a grid point is `body`. -/
theorem cc0_body_eq (harg1 : tab.IsWhole) (arg2 : Memref sig .tc .hbm S256x3x224x224 .f32) (harg2 : arg2.IsWhole) (harg3 : pat.IsWhole)
    (harg4 : img.IsWhole) (harg5 : ring.IsWhole) :
    cc0_body (F := F) i tab harg1 arg2 harg2 pat harg3 img harg4 ring harg5 rs ws = body i tab pat img ring rs ws := by chain_rfl

end Body

end Cert.Kernel.Canon

end
-- ==== Proof.Steps.lean ====
/-
  The steps of the kernel's body, one program rule each: a wait, a started transfer, the addition of a
  patch to a tile, and a sequence of steps.
-/
module

public import proofs.«01_k».proof.Proof.Canon
public import Idealize.ShloMosaic.Lib.Transfers
public import Idealize.ShloMosaic.Lib.Memref
public import Idealize.ShloMosaic.Lib.Writes
public import Idealize.ShloMosaic.Lib.Pipeline.Frame

@[expose] public section

noncomputable section

namespace Cert.Kernel.Steps

open Idealize.ShloMosaic Idealize.ShloMosaic.TcCoe Cert.Kernel Cert.Kernel.Canon
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The assertions of the proof. -/
local notation "𝕄" => MT nD τ sig Unit (Elt F) ℕ (Pipeline.UD sig nD τ) ℕ

/-- The algebra of the counters that pay for transfers. -/
abbrev EC : UEmb Counters (MT nD τ sig Unit (Elt F) ℕ (Pipeline.UD sig nD τ) ℕ) := countersEmb (U := Pipeline.UD sig nD τ)

/-- The weakest precondition of a piece of the body on core `c`. -/
abbrev WP (c : Dev nD) {α : Type} (e : Prog (TpuEff nD τ sig (Elt F) Λ₀ .tc) α) (Q : α → sProp 𝕄) : sProp 𝕄 :=
  wp frame (wpE (defs₀ (F := F)) Variants.none (c.tc : Thread nD τ) none) Set.univ e Q

/-- The placement table's buffer, as the body holds it. -/
abbrev tabM : Memref sig .tc .smem S256x2 .i32 := Memref.whole main_arg2
abbrev imgM : Memref sig .tc .hbm S256x3x224x224 .f32 := Memref.whole main_v2
abbrev ringM : Memref sig .tc .vmem S4x16x3x40x224 .f32 := Memref.whole cc0_scratch0

/-- The contents of the placement table on core `c`. -/
abbrev TabBuf (c : Dev nD) : Type := Buf (Elt F) ((c.tc : Thread nD τ).loc main_arg2)

variable (c : Dev nD)

/-- The table, at half of the full share, at contents `T`. -/
abbrev tabPt (T : TabBuf (F := F) c) : sProp 𝕄 := ((c.tc : Thread nD τ).loc main_arg2) ↦{fullShare.right} T

/-- The word of row `b`, column `k` of the table `T`. -/
def word (T : TabBuf (F := F) c) (b k : ℕ) (h : InTab b k) : BitVec 32 :=
  (tabM.access (Rect.unit (s := S256x2) ![b, k] S1x1.size h)).read (Elt F) T
    (Shape.Idx.first (show 0 < (Rect.unit (s := S256x2) ![b, k] S1x1.size h).shape.numel from numel1_S1x1.symm ▸ Nat.one_pos))

/-- The window of sample `b` at row word `v`, and tile `(s, j)`. -/
abbrev winM (b : ℕ) (v : BitVec 32) (h : InWin b v) : Memref sig .tc .hbm S3x40x224 .f32 := win imgM b v h
abbrev tileM (s j : ℕ) (h : InRing s j) : Memref sig .tc .vmem S3x40x224 .f32 := tile ringM s j h

/-- The image array's buffer on core `c`. -/
abbrev ImgBuf : Type := Buf (Elt F) ((c.tc : Thread nD τ).loc main_v2)

/-- The elements of the image array under a window, held at contents `X`. -/
abbrev winPt (b : ℕ) (v : BitVec 32) (h : InWin b v) (X : ImgBuf (F := F) c) : sProp 𝕄 :=
  (winM b v h).view.loc (c.tc : Thread nD τ) ↦[(winM b v h).view.set]{fullShare} X

/-- A tile of the ring, holding `x`. -/
abbrev tilePt (s j : ℕ) (h : InRing s j) (x : FVec F S3x40x224 .f32) : sProp 𝕄 :=
  owns (c.tc : Thread nD τ) (tileM s j h) fullShare x

/-- What a transfer between a window and a tile counts, at either end. -/
abbrev amtIn : ℕ := (Memref.whole cc0_scratch0 : Memref sig .tc .vmem S4x16x3x40x224 .f32).view.ref.dmaCredit S3x40x224 .f32
abbrev amtOut : ℕ := (Memref.whole main_v2 : Memref sig .tc .hbm S256x3x224x224 .f32).view.ref.dmaCredit S3x40x224 .f32

theorem amtIn_pos : 0 < amtIn := sig.dmaCredit_pos _ _ _ _ _ (by decide)
theorem amtOut_pos : 0 < amtOut := sig.dmaCredit_pos _ _ _ _ _ (by decide)

/-- Semaphore cell `(s, j)` of `sems`. -/
abbrev cellOf (sems : DmaSems sig S4x16) (s j : ℕ) (h : InSem s j) : SemLoc sig := .dma (cell sems s j h)

/-- A transfer in flight on a cell, `N` units, that delivers `D`. -/
abbrev Fl (sems : DmaSems sig S4x16) (s j : ℕ) (h : InSem s j) (N : ℕ) (D : sProp 𝕄) : sProp 𝕄 :=
  Transfers.Flight EC (c.tc : Thread nD τ) (cellOf sems s j h) () N D

/-- A cell that counts zero. -/
abbrev zero (sems : DmaSems sig S4x16) (s j : ℕ) (h : InSem s j) : sProp 𝕄 :=
  semVal ((c.tc : Thread nD τ), cellOf sems s j h) 0

/-- The core owes nothing; it has waited some times. -/
abbrev owes0 : sProp 𝕄 := iprop(∃ W, owes (c.tc : Thread nD τ) 0 W)

/-- A program in two parts. -/
theorem wp_seq {α β : Type} {p : Prog (TpuEff nD τ sig (Elt F) Λ₀ .tc) α} {k : α → Prog (TpuEff nD τ sig (Elt F) Λ₀ .tc) β} {Q : β → sProp 𝕄} :
    WP c (p >>= k) Q = WP c p fun a => WP c (k a) Q := wp_bind ..

/-- What the body assumes, it has. -/
theorem wp_assumed {P : Prop} {d : Decidable P} {Q : PLift P → sProp 𝕄} (h : P) :
    Q ⟨h⟩ ⊢ WP c (Prog.lift (TpuEff.assume P d)) Q :=
  (le_wp_ret _ _ _ _ _).trans (wp_assume Variants.none (c.tc : Thread nD τ) none Set.univ h)

/-- Reading a word of the table. -/
theorem wp_readTab {T : TabBuf (F := F) c} {b k : ℕ} {h : InTab b k} {Q : BitVec 32 → sProp 𝕄} :
    tabPt c T ⊢ iprop((tabPt c T -∗ Q (word c T b k h)) -∗ WP c (readTab tabM b k h) Q) := by
  unfold WP readTab smemLoad word
  iintro H Hk
  iapply (wp_smemLoadElt (m := tabM) (r := Rect.unit (s := S256x2) ![b, k] S1x1.size h) (S := Finset.univ) (q := fullShare.right) (f := T) Variants.none (c.tc : Thread nD τ) none Set.univ (Finset.subset_univ _)) $$ H
  iintro H
  rw [wp_ret]
  imodintro
  iapply Hk
  iexact H

variable (T : TabBuf (F := F) c) {chk : BitVec 32 → Prop} {dec : ∀ v, Decidable (chk v)}

/-- Waiting for an outgoing transfer gives what it delivers and its cell at zero. -/
theorem wp_waitOut {sems : DmaSems sig S4x16} {b s j : ℕ} {hb : InTab b 0} {hs : InSem s j} {hr : InRing s j} {hw : ∀ v, chk v → InWin b v}
    (hc : chk (word c T b 0 hb)) {D : sProp 𝕄} :
    iprop(tabPt c T ∗ owes0 c ∗ Fl c sems s j hs amtOut D)
      ⊢ WP c (waitOut tabM imgM ringM chk dec sems b s j hb hs hr hw) (fun _ => iprop(tabPt c T ∗ owes0 c ∗ D ∗ zero c sems s j hs)) := by
  unfold waitOut
  rw [wp_seq]
  iintro ⟨Ht, ⟨%W, HO⟩, HF⟩
  iapply (wp_readTab c) $$ Ht
  iintro Ht
  rw [wp_seq]
  iapply (wp_assumed c hc)
  iapply (Transfers.wp_waitLocal EC Variants.none (c.tc : Thread nD τ) none () (N := amtOut) rfl) $$ [HF HO]
  · isplitl [HF]; · iexact HF
    iexact HO
  iintro ⟨HD, Hz, HO⟩
  rw [wp_ret]
  imodintro
  isplitl [Ht]; · iexact Ht
  isplitl [HO]; · iexists _; iexact HO
  isplitl [HD]; · iexact HD
  iexact Hz

/-- Waiting for an incoming transfer likewise. -/
theorem wp_waitIn {sems : DmaSems sig S4x16} {b s j : ℕ} {hb : InTab b 0} {hs : InSem s j} {hr : InRing s j} {hw : ∀ v, chk v → InWin b v}
    (hc : chk (word c T b 0 hb)) {D : sProp 𝕄} :
    iprop(tabPt c T ∗ owes0 c ∗ Fl c sems s j hs amtIn D)
      ⊢ WP c (waitIn tabM imgM ringM chk dec sems b s j hb hs hr hw) (fun _ => iprop(tabPt c T ∗ owes0 c ∗ D ∗ zero c sems s j hs)) := by
  unfold waitIn
  rw [wp_seq]
  iintro ⟨Ht, ⟨%W, HO⟩, HF⟩
  iapply (wp_readTab c) $$ Ht
  iintro Ht
  rw [wp_seq]
  iapply (wp_assumed c hc)
  iapply (Transfers.wp_waitLocal EC Variants.none (c.tc : Thread nD τ) none () (N := amtIn) rfl) $$ [HF HO]
  · isplitl [HF]; · iexact HF
    iexact HO
  iintro ⟨HD, Hz, HO⟩
  rw [wp_ret]
  imodintro
  isplitl [Ht]; · iexact Ht
  isplitl [HO]; · iexists _; iexact HO
  isplitl [HD]; · iexact HD
  iexact Hz

/-- Starting the transfer of a window into an idle tile, over an idle cell: it will deliver the tile holding what the window
    held, and the window. -/
theorem wp_startIn {sems : DmaSems sig S4x16} {b s j : ℕ} {hb : InTab b 0} {hs : InSem s j} {hr : InRing s j} {hw : ∀ v, chk v → InWin b v}
    (hc : chk (word c T b 0 hb)) {X : ImgBuf (F := F) c} :
    iprop(tabPt c T ∗ winPt c b (word c T b 0 hb) (hw _ hc) X ∗ (∃ x, tilePt c s j hr x) ∗ zero c sems s j hs)
      ⊢ WP c (startIn tabM imgM ringM chk dec sems b s j hb hs hr hw) (fun _ => iprop(tabPt c T
          ∗ Fl c sems s j hs amtIn iprop(tilePt c s j hr ((winM b (word c T b 0 hb) (hw _ hc)).view.read (Elt F) X)
              ∗ winPt c b (word c T b 0 hb) (hw _ hc) X))) := by
  unfold startIn
  rw [wp_seq]
  iintro ⟨Ht, HW, ⟨%x, HT⟩, Hz⟩
  iapply (wp_readTab c) $$ Ht
  iintro Ht
  rw [wp_seq]
  iapply (wp_assumed c hc)
  unfold tilePt owns
  icases HT with ⟨%f, %hf, HT⟩
  iapply (Transfers.wp_dmaLocal EC Variants.none (c.tc : Thread nD τ) none (src := winM b (word c T b 0 hb) (hw _ hc)) (dst := tileM s j hr)
    (fs := X) (fd := f) (q := fullShare) () amtIn rfl amtIn_pos (Finset.Subset.refl _)) $$ [HW HT Hz]
  · isplitl [HW]; · iexact HW
    isplitl [HT]; · iexact HT
    iexact Hz
  iintro HF
  rw [wp_ret]
  imodintro
  isplitl [Ht]; · iexact Ht
  iapply (Transfers.Flight_mono EC (c.tc : Thread nD τ) ?_) $$ HF
  iintro ⟨HT, HW⟩
  isplitl [HT]
  · iexists _; isplitr; swap; · iexact HT
    ipureintro
    exact View.read_write_univ _ _
  iexact HW

/-- Starting the transfer of a tile into a window, over an idle cell: it will deliver the window holding what the tile held,
    and the tile. -/
theorem wp_startOut {sems : DmaSems sig S4x16} {b s j : ℕ} {hb : InTab b 0} {hs : InSem s j} {hr : InRing s j} {hw : ∀ v, chk v → InWin b v}
    (hc : chk (word c T b 0 hb)) {X : ImgBuf (F := F) c} {x : FVec F S3x40x224 .f32} :
    iprop(tabPt c T ∗ winPt c b (word c T b 0 hb) (hw _ hc) X ∗ tilePt c s j hr x ∗ zero c sems s j hs)
      ⊢ WP c (startOut tabM imgM ringM chk dec sems b s j hb hs hr hw) (fun _ => iprop(tabPt c T
          ∗ Fl c sems s j hs amtOut iprop(winPt c b (word c T b 0 hb) (hw _ hc)
                ((winM b (word c T b 0 hb) (hw _ hc)).view.write (Elt F) X x Finset.univ)
              ∗ ∃ x, tilePt c s j hr x))) := by
  unfold startOut
  rw [wp_seq]
  iintro ⟨Ht, HW, HT, Hz⟩
  iapply (wp_readTab c) $$ Ht
  iintro Ht
  rw [wp_seq]
  iapply (wp_assumed c hc)
  unfold tilePt owns
  icases HT with ⟨%f, %hf, HT⟩
  subst hf
  iapply (Transfers.wp_dmaLocal EC Variants.none (c.tc : Thread nD τ) none (src := tileM s j hr) (dst := winM b (word c T b 0 hb) (hw _ hc))
    (fs := f) (fd := X) (q := fullShare) () amtOut rfl amtOut_pos (Finset.Subset.refl _)) $$ [HW HT Hz]
  · isplitl [HT]; · iexact HT
    isplitl [HW]; · iexact HW
    iexact Hz
  iintro HF
  rw [wp_ret]
  imodintro
  isplitl [Ht]; · iexact Ht
  iapply (Transfers.Flight_mono EC (c.tc : Thread nD τ) ?_) $$ HF
  iintro ⟨HW, HT⟩
  isplitl [HW]; · iexact HW
  iexists _, _; isplitr; swap; · iexact HT
  ipureintro; rfl

/-- What a window `x` becomes: the padded patch `p`, rotated so that the patch stands at row `vy - rowWord vy` and column `vx`,
    added to it. -/
def added (vy vx : BitVec 32) (p : Vec F S1x3x40x224 .f32) (x : FVec F S3x40x224 .f32) : FVec F S3x40x224 .f32 :=
  addf x (dynamicRotate 1 (Scalar.subi vy (rowWord vy)) none
    (dynamicRotate 2 vx none (shapeCast S3x40x224 p shapeCasts_S1x3x40x224_S3x40x224 : FVec F S3x40x224 .f32) rotates_S3x40x224_d2)
    rotates_S3x40x224_d1)

theorem shapeCast_placed (vy vx : BitVec 32) (p : Vec F S1x3x40x224 .f32) (x : Vec F S1x1x3x40x224 .f32) :
    shapeCast S3x40x224 (placed vy vx p x) shapeCasts_S1x1x3x40x224_S3x40x224
      = added vy vx p (shapeCast S3x40x224 x shapeCasts_S1x1x3x40x224_S3x40x224) := by
  unfold placed added
  funext i
  unfold shapeCast
  rw [Shape.reshapeEquiv_reshapeEquiv, Shape.reshapeEquiv_self]

omit [FloatOps F] in
/-- A tile reads as its part of the ring, its axes of size one dropped. -/
theorem tile_read (s j : ℕ) (hr : InRing s j) (f : (tileM s j hr).view.ty.Contents (Elt F)) :
    (tileM s j hr).view.read (Elt F) f
      = shapeCast S3x40x224 ((ringM.access (Rect.unit (s := S4x16x3x40x224) ![s, j, 0, 0, 0] S1x1x3x40x224.size hr)).read (Elt F) f)
          shapeCasts_S1x1x3x40x224_S3x40x224 := rfl

omit [FloatOps F] in
/-- The patch's staging memref is read whole. -/
theorem pat_read (pat : Memref sig .tc .vmem S1x3x40x224 .f32) (g : pat.view.ty.Contents (Elt F)) :
    pat.view.readAt (Elt F) (Rect.unit (s := S1x3x40x224) ![0, 0, 0, 0] S1x3x40x224.size inb_S1x3x40x224_S1x3x40x224_0_0_0_0).toLoadRect g
      = pat.view.read (Elt F) g := by
  funext x
  rw [View.readAt_apply]
  congr 1
  funext a
  refine Fin.ext ?_
  fin_cases a <;> simp [Rect.unit, Rect.toLoadRect, LoadRect.idx]
  have h : (x 0).val < 1 := (x 0).isLt
  omega

/-- Adding a patch to a tile. -/
theorem wp_addPatch {pat : Memref sig .tc .vmem S1x3x40x224 .f32} {b s j : ℕ} {hb : InTab b 0} {hb' : InTab b 1} {hr : InRing s j}
    (hc : chk (word c T b 0 hb)) {p : Vec F S1x3x40x224 .f32} {x : FVec F S3x40x224 .f32} :
    iprop(tabPt c T ∗ owns (c.tc : Thread nD τ) pat fullShare p ∗ tilePt c s j hr x)
      ⊢ WP c (addPatch tabM ringM chk dec pat b s j hb hb' hr) (fun _ => iprop(tabPt c T ∗ owns (c.tc : Thread nD τ) pat fullShare p
          ∗ tilePt c s j hr (added (word c T b 0 hb) (word c T b 1 hb') p x))) := by
  unfold addPatch
  rw [wp_seq]
  iintro ⟨Ht, HP, HT⟩
  iapply (wp_readTab c) $$ Ht
  iintro Ht
  rw [wp_seq]
  iapply (wp_assumed c hc)
  rw [wp_seq]
  iapply (wp_readTab c) $$ Ht
  iintro Ht
  unfold tilePt owns
  icases HP with ⟨%g, %hg, HP⟩
  icases HT with ⟨%f, %hf, HT⟩
  have hset : (tileM s j hr).view.set = (ringM.access (Rect.unit (s := S4x16x3x40x224) ![s, j, 0, 0, 0] S1x1x3x40x224.size hr)).set :=
    View.set_reshape _ _
  rw [hset]
  rw [wp_seq]
  iapply (wp_load Variants.none (c.tc : Thread nD τ) none Set.univ (S := pat.view.set) (q := fullShare) (f := g) (m := pat)
    (r := (Rect.unit (s := S1x3x40x224) ![0, 0, 0, 0] S1x3x40x224.size inb_S1x3x40x224_S1x3x40x224_0_0_0_0).toLoadRect)
    (View.setOn_subset_set _ _)) $$ HP
  iintro HP
  rw [wp_ret]
  imodintro
  rw [wp_seq]
  iapply (wp_load_rect Variants.none (c.tc : Thread nD τ) none Set.univ (q := fullShare) (f := f) (m := ringM)
    (r := Rect.unit (s := S4x16x3x40x224) ![s, j, 0, 0, 0] S1x1x3x40x224.size hr) (Finset.Subset.refl _)) $$ HT
  iintro HT
  rw [wp_ret]
  imodintro
  rw [wp_seq]
  iapply (wp_load_rect Variants.none (c.tc : Thread nD τ) none Set.univ (q := fullShare) (f := f) (m := ringM)
    (r := Rect.unit (s := S4x16x3x40x224) ![s, j, 0, 0, 0] S1x1x3x40x224.size hr) (Finset.Subset.refl _)) $$ HT
  iintro HT
  rw [wp_ret]
  imodintro
  iapply (wp_store Variants.none (c.tc : Thread nD τ) none Set.univ (f := f) (m := ringM) (Mk := Finset.univ)
    (S := (ringM.access (Rect.unit (s := S4x16x3x40x224) ![s, j, 0, 0, 0] S1x1x3x40x224.size hr)).set)
    (r := Rect.unit (s := S4x16x3x40x224) ![s, j, 0, 0, 0] S1x1x3x40x224.size hr) (Finset.Subset.refl _)) $$ HT
  iintro HT
  rw [wp_ret]
  imodintro
  isplitl [Ht]; · iexact Ht
  isplitl [HP]
  · iexists g; isplitr; swap; · iexact HP
    ipureintro; exact hg
  iexists _; isplitr; swap; · iexact HT
  ipureintro
  rw [tile_read, View.read_write_univ, shapeCast_placed, ← tile_read, hf, pat_read, hg]

/-- A triple, used inside a longer program: its post is what the rest runs from. -/
theorem wp_use {α : Type} {p : Prog (TpuEff nD τ sig (Elt F) Λ₀ .tc) α} {P : sProp 𝕄} {Q K : α → sProp 𝕄} (h : P ⊢ WP c p Q) :
    P ⊢ iprop((∀ a, Q a -∗ K a) -∗ WP c p K) :=
  h.trans (wp_wand _ _ _)

/-- The empty program. -/
theorem wp_pure {α : Type} {a : α} {Q : α → sProp 𝕄} : Q a ⊢ WP c (pure a) Q :=
  le_wp_ret (Fr := frame) (wpE := wpE (defs₀ (F := F)) Variants.none (c.tc : Thread nD τ) none) (E := Set.univ) a Q

/-- A sequence of steps, each of which turns its own `A j` into `B j` beside a common `R`. -/
theorem wp_run {R : sProp 𝕄} : ∀ (n : ℕ) (f : Fin n → Prog (TpuEff nD τ sig (Elt F) Λ₀ .tc) PUnit) (A B : Fin n → sProp 𝕄)
    (_ : ∀ j, iprop(R ∗ A j) ⊢ WP c (f j) (fun _ => iprop(R ∗ B j))),
    iprop(R ∗ bigSep Finset.univ A) ⊢ WP c (run n f) (fun _ => iprop(R ∗ bigSep Finset.univ B))
  | 0, f, A, B, _ => by
    rw [Finset.univ_eq_empty, bigSep_empty, bigSep_empty]
    exact wp_pure c
  | n + 1, f, A, B, h => by
    have e (Φ : Fin (n + 1) → sProp 𝕄) : bigSep Finset.univ Φ = iprop(Φ 0 ∗ bigSep Finset.univ fun j : Fin n => Φ j.succ) := by
      rw [Fin.univ_succ, Finset.cons_eq_insert, bigSep_insert (by simp), bigSep_map]
      rfl
    unfold run
    rw [wp_seq, e A, e B]
    iintro ⟨HR, HA, HA'⟩
    iapply (wp_use c (h 0)) $$ [HR HA]
    · isplitl [HR]; · iexact HR
      iexact HA
    iintro %_ ⟨HR, HB⟩
    iapply (wp_use c (wp_run n (fun j => f j.succ) (fun j => A j.succ) (fun j => B j.succ) fun j => h j.succ)) $$ [HR HA']
    · isplitl [HR]; · iexact HR
      iexact HA'
    iintro %_ ⟨HR, HB'⟩
    isplitl [HR]; · iexact HR
    isplitl [HB]; · iexact HB
    iexact HB'

end Cert.Kernel.Steps

end
-- ==== Proof.Words.lean ====
/-
  The words of the placement table: what the body computes from a row between 0 and 193.
-/
module

public import proofs.«01_k».proof.Proof.Canon

@[expose] public section

noncomputable section

namespace Cert.Kernel.Words

open Idealize.ShloMosaic Cert.Kernel Cert.Kernel.Canon

/-- The first row of the window that holds a patch placed at row `n`. -/
abbrev rowOf (n : ℕ) : ℕ := min (n / 8 * 8) 184

set_option maxRecDepth 20000 in
theorem rowWord_fin : ∀ n : Fin 194, (rowWord (BitVec.ofNat 32 n.val)).toNat = rowOf n.val
    ∧ (Scalar.subi (BitVec.ofNat 32 n.val) (rowWord (BitVec.ofNat 32 n.val))).toNat = n.val - rowOf n.val := by
  decide

/-- The row word of a row in range, as a number. -/
theorem rowWord_toNat (v : BitVec 32) (h : v.toNat < 194) : (rowWord v).toNat = rowOf v.toNat := by
  have := (rowWord_fin ⟨v.toNat, h⟩).1
  rwa [BitVec.ofNat_toNat, BitVec.setWidth_eq] at this

/-- The row of the patch in its window, as a number. -/
theorem shift_toNat (v : BitVec 32) (h : v.toNat < 194) : (Scalar.subi v (rowWord v)).toNat = v.toNat - rowOf v.toNat := by
  have := (rowWord_fin ⟨v.toNat, h⟩).2
  rwa [BitVec.ofNat_toNat, BitVec.setWidth_eq] at this

theorem dvd_row (v : BitVec 32) (h : v.toNat < 194) : 8 ∣ (rowWord v).toNat := by
  rw [rowWord_toNat v h]; unfold rowOf; omega

/-- The window of a row in range lies in the image array. -/
theorem inWin {b : ℕ} (hb : b < 256) (v : BitVec 32) (h : v.toNat < 194) : InWin b v := by
  intro a
  have e := rowWord_toNat v h
  fin_cases a
  · show b + 1 ≤ 256; omega
  · show 0 + 3 ≤ 3; omega
  · show (rowWord v).toNat + 40 ≤ 224; rw [e]; unfold rowOf; omega
  · show 0 + 224 ≤ 224; omega

theorem chk1_of {p : Prop} {b : ℕ} (hb : b < 256) {v : BitVec 32} (h : v.toNat < 194) : chk1 p b v :=
  ⟨fun _ => dvd_row v h, fun _ => inWin hb v h⟩

theorem chk2_of {p q : Prop} {b : ℕ} (hb : b < 256) {v : BitVec 32} (h : v.toNat < 194) : chk2 p q b v :=
  ⟨fun _ _ => dvd_row v h, fun _ _ => inWin hb v h⟩

theorem chk0_of {p : Prop} {v : BitVec 32} (h : v.toNat < 194) : chk0 p v := fun _ => dvd_row v h

end Cert.Kernel.Words

end
-- ==== Proof.Phases.lean ====
/-
  The phases of a grid point: what each turns a chunk of 16 samples into. A sample is in one of four
  states: its window not touched, its window on the way into a tile, its tile on the way back, its window done.
-/
module

public import proofs.«01_k».proof.Proof.Steps
public import proofs.«01_k».proof.Proof.Words

@[expose] public section

noncomputable section

namespace Cert.Kernel.Phases

open Idealize.ShloMosaic Idealize.ShloMosaic.TcCoe Cert.Kernel Cert.Kernel.Canon Cert.Kernel.Steps Cert.Kernel.Words
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The assertions of the proof. -/
local notation "𝕄" => MT nD τ sig Unit (Elt F) ℕ (Pipeline.UD sig nD τ) ℕ

variable (c : Dev nD) (T : TabBuf (F := F) c)

/-- Sample `j` of chunk `k`. -/
abbrev smp (k j : Fin 16) : ℕ := 16 * k.val + j.val

theorem smp_lt (k j : Fin 16) : smp k j < 256 := by unfold smp; omega

/-- The row and the column of sample `b`'s patch. -/
abbrev vy (b : ℕ) (hb : b < 256) : BitVec 32 := word c T b 0 (inTab hb (by decide))
abbrev vx (b : ℕ) (hb : b < 256) : BitVec 32 := word c T b 1 (inTab hb (by decide))

/-- Every row of the table is one where a patch of 30 rows fits into the image. -/
def InRange : Prop := ∀ (b : ℕ) (hb : b < 256), (vy c T b hb).toNat < 194

variable {c} {T}

theorem InRange.inWin (hT : InRange c T) {b : ℕ} (hb : b < 256) : InWin b (vy c T b hb) := Words.inWin hb _ (hT b hb)

variable (hT : InRange c T) (P : Vec F S1x3x40x224 .f32) (X : ImgBuf (F := F) c)

/-- What sample `b`'s window becomes. -/
def newVal (b : ℕ) (hb : b < 256) : FVec F S3x40x224 .f32 :=
  added (vy c T b hb) (vx c T b hb) P ((winM b (vy c T b hb) (hT.inWin hb)).view.read (Elt F) X)

/-- The image array with sample `b`'s window done. -/
def imgOut (b : ℕ) (hb : b < 256) : ImgBuf (F := F) c :=
  (winM b (vy c T b hb) (hT.inWin hb)).view.write (Elt F) X (newVal hT P X b hb) Finset.univ

/-- Sample `b`'s window, at the contents `Y`. -/
abbrev piece (b : ℕ) (hb : b < 256) (Y : ImgBuf (F := F) c) : sProp 𝕄 := winPt c b (vy c T b hb) (hT.inWin hb) Y

/-- The two arrays of semaphores: of the transfers in, of the transfers out. -/
abbrev rsem : DmaSems sig S4x16 := cc0_scratch1
abbrev wsem : DmaSems sig S4x16 := cc0_scratch2

/-- The ring slot of chunk `k`. -/
abbrev slot (k : Fin 16) : Fin 4 := ⟨k.val % 4, by omega⟩

/-- A window not touched yet. -/
def fresh (k j : Fin 16) : sProp 𝕄 := piece hT (smp k j) (smp_lt k j) X

/-- A window on the way into its tile. -/
def reading (k j : Fin 16) : sProp 𝕄 :=
  iprop(Fl c rsem (slot k).val j.val (inSem (slot k).isLt j.isLt) amtIn
      iprop(tilePt c (slot k).val j.val (inRing (slot k).isLt j.isLt)
          ((winM (smp k j) (vy c T (smp k j) (smp_lt k j)) (hT.inWin (smp_lt k j))).view.read (Elt F) X)
        ∗ piece hT (smp k j) (smp_lt k j) X)
    ∗ zero c wsem (slot k).val j.val (inSem (slot k).isLt j.isLt))

/-- A tile on the way back to its window. -/
def writing (k j : Fin 16) : sProp 𝕄 :=
  iprop(Fl c wsem (slot k).val j.val (inSem (slot k).isLt j.isLt) amtOut
      iprop(piece hT (smp k j) (smp_lt k j) (imgOut hT P X (smp k j) (smp_lt k j))
        ∗ ∃ x, tilePt c (slot k).val j.val (inRing (slot k).isLt j.isLt) x)
    ∗ zero c rsem (slot k).val j.val (inSem (slot k).isLt j.isLt))

/-- A window done. -/
def finished (k j : Fin 16) : sProp 𝕄 := piece hT (smp k j) (smp_lt k j) (imgOut hT P X (smp k j) (smp_lt k j))

variable (c) in
/-- An idle tile and its two cells. -/
def idle (s : Fin 4) (j : Fin 16) : sProp 𝕄 :=
  iprop((∃ x, tilePt c s.val j.val (inRing s.isLt j.isLt) x)
    ∗ zero c rsem s.val j.val (inSem s.isLt j.isLt) ∗ zero c wsem s.val j.val (inSem s.isLt j.isLt))

variable (pat : Memref sig .tc .vmem S1x3x40x224 .f32)

/-- What every step keeps: the table, the patch, that nothing is owed. -/
def common : sProp 𝕄 := iprop(tabPt c T ∗ owns (c.tc : Thread nD τ) pat fullShare P ∗ owes0 c)

variable (T)

/-- A wait for an outgoing transfer. -/
theorem step_waitOut (k j : Fin 16) {b s : ℕ} (eb : b = smp k j) (es : s = (slot k).val) {chk : BitVec 32 → Prop} {dec : ∀ v, Decidable (chk v)}
    (hchk : ∀ v : BitVec 32, v.toNat < 194 → chk v) {hb : InTab b 0} {hs : InSem s j.val} {hr : InRing s j.val} {hw : ∀ v, chk v → InWin b v} :
    iprop(common (T := T) P pat ∗ writing hT P X k j)
      ⊢ WP c (waitOut tabM imgM ringM chk dec wsem b s j.val hb hs hr hw) (fun _ => iprop(common (T := T) P pat ∗ finished hT P X k j ∗ idle c (slot k) j)) := by
  subst eb es
  unfold common writing finished idle
  iintro ⟨⟨Ht, HP, HO⟩, HF, Hz⟩
  iapply (wp_use c (wp_waitOut c T (hchk _ (hT (smp k j) (smp_lt k j))))) $$ [Ht HO HF]
  · isplitl [Ht]; · iexact Ht
    isplitl [HO]; · iexact HO
    iexact HF
  iintro %_ ⟨Ht, HO, ⟨HD, HT⟩, Hw⟩
  isplitl [Ht HP HO]
  · isplitl [Ht]; · iexact Ht
    isplitl [HP]; · iexact HP
    iexact HO
  isplitl [HD]; · iexact HD
  isplitl [HT]; · iexact HT
  isplitl [Hz]; · iexact Hz
  iexact Hw

/-- The start of an incoming transfer. -/
theorem step_startIn (k j : Fin 16) {b s : ℕ} (eb : b = smp k j) (es : s = (slot k).val) {chk : BitVec 32 → Prop} {dec : ∀ v, Decidable (chk v)}
    (hchk : ∀ v : BitVec 32, v.toNat < 194 → chk v) {hb : InTab b 0} {hs : InSem s j.val} {hr : InRing s j.val} {hw : ∀ v, chk v → InWin b v} :
    iprop(common (T := T) P pat ∗ fresh hT X k j ∗ idle c (slot k) j)
      ⊢ WP c (startIn tabM imgM ringM chk dec rsem b s j.val hb hs hr hw) (fun _ => iprop(common (T := T) P pat ∗ reading hT X k j)) := by
  subst eb es
  unfold common fresh reading idle
  iintro ⟨⟨Ht, HP, HO⟩, HF, HT, Hr, Hw⟩
  iapply (wp_use c (wp_startIn c T (hchk _ (hT (smp k j) (smp_lt k j))) (X := X))) $$ [Ht HF HT Hr]
  · isplitl [Ht]; · iexact Ht
    isplitl [HF]; · iexact HF
    isplitl [HT]; · iexact HT
    iexact Hr
  iintro %_ ⟨Ht, HF⟩
  isplitl [Ht HP HO]
  · isplitl [Ht]; · iexact Ht
    isplitl [HP]; · iexact HP
    iexact HO
  isplitl [HF]; · iexact HF
  iexact Hw

/-- A window that has arrived gets its patch and starts back. -/
theorem step_work (k j : Fin 16) {b s : ℕ} (eb : b = smp k j) (es : s = (slot k).val) {chk chk' : BitVec 32 → Prop} {dec : ∀ v, Decidable (chk v)}
    {dec' : ∀ v, Decidable (chk' v)} (hchk : ∀ v : BitVec 32, v.toNat < 194 → chk v) (hchk' : ∀ v : BitVec 32, v.toNat < 194 → chk' v)
    {hb : InTab b 0} {hb' : InTab b 1} {hs : InSem s j.val} {hr : InRing s j.val} {hw : ∀ v, chk v → InWin b v} :
    iprop(common (T := T) P pat ∗ reading hT X k j)
      ⊢ WP c (do
          waitIn tabM imgM ringM chk dec rsem b s j.val hb hs hr hw
          addPatch tabM ringM chk' dec' pat b s j.val hb hb' hr
          startOut tabM imgM ringM chk dec wsem b s j.val hb hs hr hw) (fun _ => iprop(common (T := T) P pat ∗ writing hT P X k j)) := by
  subst eb es
  unfold common writing reading
  rw [wp_seq]
  iintro ⟨⟨Ht, HP, HO⟩, HF, Hw⟩
  iapply (wp_use c (wp_waitIn c T (hchk _ (hT (smp k j) (smp_lt k j))))) $$ [Ht HO HF]
  · isplitl [Ht]; · iexact Ht
    isplitl [HO]; · iexact HO
    iexact HF
  iintro %_ ⟨Ht, HO, ⟨HT, HD⟩, Hr⟩
  rw [wp_seq]
  iapply (wp_use c (wp_addPatch c T (hchk' _ (hT (smp k j) (smp_lt k j))))) $$ [Ht HP HT]
  · isplitl [Ht]; · iexact Ht
    isplitl [HP]; · iexact HP
    iexact HT
  iintro %_ ⟨Ht, HP, HT⟩
  iapply (wp_use c (wp_startOut c T (hchk _ (hT (smp k j) (smp_lt k j))) (X := X))) $$ [Ht HD HT Hw]
  · isplitl [Ht]; · iexact Ht
    isplitl [HD]; · iexact HD
    isplitl [HT]; · iexact HT
    iexact Hw
  iintro %_ ⟨Ht, HF⟩
  isplitl [Ht HP HO]
  · isplitl [Ht]; · iexact Ht
    isplitl [HP]; · iexact HP
    iexact HO
  isplitl [HF]; · iexact HF
  iexact Hr

end Cert.Kernel.Phases

end
-- ==== Proof.Point.lean ====
/-
  A grid point: from the states of the chunks and the ring slots on entry to those on exit.
-/
module

public import proofs.«01_k».proof.Proof.Phases

@[expose] public section

noncomputable section

namespace Cert.Kernel.Point

open Idealize.ShloMosaic Idealize.ShloMosaic.TcCoe Cert.Kernel Cert.Kernel.Canon Cert.Kernel.Steps Cert.Kernel.Words Cert.Kernel.Phases
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The assertions of the proof. -/
local notation "𝕄" => MT nD τ sig Unit (Elt F) ℕ (Pipeline.UD sig nD τ) ℕ

variable {c : Dev nD} {T : TabBuf (F := F) c} (hT : InRange c T) (P : Vec F S1x3x40x224 .f32) (X : ImgBuf (F := F) c)

/-- The four states of a chunk. -/
inductive Ph where
  | fresh | reading | writing | finished
deriving DecidableEq

/-- Sample `j` of chunk `k` in state `p`. -/
def sampleIn (p : Ph) (k j : Fin 16) : sProp 𝕄 :=
  match p with
  | .fresh => fresh hT X k j
  | .reading => reading hT X k j
  | .writing => writing hT P X k j
  | .finished => finished hT P X k j

/-- Chunk `k` in state `p`. -/
def chunkIn (p : Ph) (k : Fin 16) : sProp 𝕄 := bigSep Finset.univ fun j => sampleIn hT P X p k j

/-- Every chunk in its state. -/
def Chunks (st : Fin 16 → Ph) : sProp 𝕄 := bigSep Finset.univ fun k => chunkIn hT P X (st k) k

variable (c) in
/-- The tiles of slot `s`, if it is idle. -/
def slotIf (f : Bool) (s : Fin 4) : sProp 𝕄 := if f then bigSep Finset.univ fun j => idle c s j else iprop(emp)

variable (c) in
/-- Every idle slot. -/
def Slots (fr : Fin 4 → Bool) : sProp 𝕄 := bigSep Finset.univ fun s => slotIf c (fr s) s

theorem slotIf_true (s : Fin 4) : (slotIf c true s : sProp 𝕄) = bigSep Finset.univ fun j => idle c s j := if_pos rfl

theorem slotIf_false (s : Fin 4) : (slotIf c false s : sProp 𝕄) = iprop(emp) := if_neg Bool.false_ne_true

omit [FloatOps F] in
theorem bigSep_both (A B : Fin 16 → sProp 𝕄) :
    (bigSep Finset.univ fun j => iprop(A j ∗ B j)) ⊣⊢ iprop(bigSep Finset.univ A ∗ bigSep Finset.univ B) :=
  ⟨Entails.of_eq (bigSep_sep' _ _ _), Entails.of_eq (bigSep_sep' _ _ _).symm⟩

/-- One chunk taken out of the chunks, and put back in another state. -/
theorem Chunks_take (st : Fin 16 → Ph) (k : Fin 16) (p : Ph) :
    Chunks hT P X st ⊢ iprop(chunkIn hT P X (st k) k ∗ (chunkIn hT P X p k -∗ Chunks hT P X (Function.update st k p))) := by
  unfold Chunks
  refine (bigSep_univ_update (Ψ := fun k' => chunkIn hT P X (Function.update st k p k') k') k fun j hj => ?_).trans ?_
  · rw [Function.update_of_ne hj]
  · rw [Function.update_self]

/-- One slot likewise. -/
theorem Slots_take (fr : Fin 4 → Bool) (s : Fin 4) (f : Bool) :
    (Slots c fr : sProp 𝕄) ⊢ iprop(slotIf c (fr s) s ∗ (slotIf c f s -∗ Slots c (Function.update fr s f))) := by
  unfold Slots
  refine (bigSep_univ_update (Ψ := fun s' => slotIf c (Function.update fr s f s') s') s fun j hj => ?_).trans ?_
  · rw [Function.update_of_ne hj]
  · rw [Function.update_self]

variable (pat : Memref sig .tc .vmem S1x3x40x224 .f32) (i : grid0.Coords)

/-- The chunk `d` points back has landed: it is done and its slot idle. -/
theorem drain_ok (st : Fin 16 → Ph) (fr : Fin 4 → Bool) (h1 : k0_cond1 i = 1#1) (h2 : k0_cond2 i = 1#1) (k : Fin 16)
    (hk : k.val + 4 = (pt i).val) (hst : st k = .writing) :
    iprop(common (T := T) P pat ∗ Chunks hT P X st ∗ Slots c fr)
      ⊢ WP c (drain i tabM imgM ringM wsem h1 h2) (fun _ => iprop(common (T := T) P pat ∗ Chunks hT P X (Function.update st k .finished)
          ∗ Slots c (Function.update fr (slot k) true))) := by
  have ek : Scalar.subi (pointWord i) 4#32 = BitVec.ofNat 32 k.val := by
    rw [show k.val = (pt i).val - 4 by omega]; exact sub_word (pt i) 4 (by omega) le_rfl
  iintro ⟨HR, HC, HS⟩
  ihave HC := (Chunks_take hT P X st k .finished) $$ HC
  icases HC with ⟨HC, HC'⟩
  ihave HS := (Slots_take fr (slot k) true) $$ HS
  icases HS with ⟨-, HS'⟩
  rw [hst]
  unfold chunkIn drain
  iapply (wp_use c (wp_run c (R := common (T := T) P pat) 16 _ (fun j => sampleIn hT P X .writing k j) (fun j => iprop(finished hT P X k j ∗ idle c (slot k) j))
    fun j => step_waitOut T hT P X pat k j (by rw [ek, sampleOf_eq]) (by rw [ek, slotOf_eq]) ?_)) $$ [HR HC]
  · intro v hv; exact chk2_of (by rw [ek, sampleOf_eq]; exact smp_lt k j) hv
  · isplitl [HR]; · iexact HR
    iexact HC
  iintro %_ ⟨HR, HD⟩
  ihave HD := (bigSep_both _ _).1 $$ HD
  icases HD with ⟨HD, HI⟩
  isplitl [HR]; · iexact HR
  isplitl [HC' HD]
  · iapply HC'; iexact HD
  · iapply HS'; rw [slotIf_true]; iexact HI

/-- Chunk `k`'s transfers in start. -/
theorem fetch_ok (st : Fin 16 → Ph) (fr : Fin 4 → Bool) (h1 : k0_cond1 i = 1#1) (k : Fin 16)
    (hk : k.val = (pt i).val) (hst : st k = .fresh) (hfr : fr (slot k) = true) :
    iprop(common (T := T) P pat ∗ Chunks hT P X st ∗ Slots c fr)
      ⊢ WP c (run 16 fun j => fetch1 i tabM imgM ringM rsem h1 j) (fun _ => iprop(common (T := T) P pat ∗ Chunks hT P X (Function.update st k .reading)
          ∗ Slots c (Function.update fr (slot k) false))) := by
  have ek : pointWord i = BitVec.ofNat 32 k.val := by rw [hk]
  iintro ⟨HR, HC, HS⟩
  ihave HC := (Chunks_take hT P X st k .reading) $$ HC
  icases HC with ⟨HC, HC'⟩
  ihave HS := (Slots_take fr (slot k) false) $$ HS
  icases HS with ⟨HS, HS'⟩
  rw [hst, hfr]
  ihave HS := (Entails.of_eq (slotIf_true (F := F) (c := c) (slot k))) $$ HS
  unfold chunkIn fetch1
  iapply (wp_use c (wp_run c (R := common (T := T) P pat) 16 _ (fun j => iprop(sampleIn hT P X .fresh k j ∗ idle c (slot k) j)) (fun j => reading hT X k j)
    fun j => step_startIn T hT P X pat k j (by rw [ek, sampleOf_eq]) (by rw [ek, slotOf_eq]) ?_)) $$ [HR HC HS]
  · intro v hv; exact chk1_of (by rw [ek, sampleOf_eq]; exact smp_lt k j) hv
  · isplitl [HR]; · iexact HR
    iapply (bigSep_both _ _).2
    isplitl [HC]; · iexact HC
    iexact HS
  iintro %_ ⟨HR, HD⟩
  isplitl [HR]; · iexact HR
  isplitl [HC' HD]
  · iapply HC'; iexact HD
  · iapply HS'; rw [slotIf_false]; iempintro

/-- Chunk `k` gets its patches and starts back. -/
theorem work_ok (st : Fin 16 → Ph) (h3 : k0_cond3 i = 1#1) (k : Fin 16) (hk : k.val + 2 = (pt i).val) (hst : st k = .reading) :
    iprop(common (T := T) P pat ∗ Chunks hT P X st)
      ⊢ WP c (run 16 fun j => work1 i tabM pat imgM ringM rsem wsem h3 j) (fun _ => iprop(common (T := T) P pat ∗ Chunks hT P X (Function.update st k .writing))) := by
  have ek : Scalar.subi (pointWord i) 2#32 = BitVec.ofNat 32 k.val := by
    rw [show k.val = (pt i).val - 2 by omega]; exact sub_word (pt i) 2 (by omega) (by omega)
  iintro ⟨HR, HC⟩
  ihave HC := (Chunks_take hT P X st k .writing) $$ HC
  icases HC with ⟨HC, HC'⟩
  rw [hst]
  unfold chunkIn work1
  iapply (wp_use c (wp_run c (R := common (T := T) P pat) 16 _ (fun j => sampleIn hT P X .reading k j) (fun j => writing hT P X k j)
    fun j => step_work T hT P X pat k j (by rw [ek, sampleOf_eq]) (by rw [ek, slotOf_eq]) ?_ ?_)) $$ [HR HC]
  · intro v hv; exact chk1_of (by rw [ek, sampleOf_eq]; exact smp_lt k j) hv
  · intro v hv; exact chk0_of hv
  · isplitl [HR]; · iexact HR
    iexact HC
  iintro %_ ⟨HR, HD⟩
  isplitl [HR]; · iexact HR
  iapply HC'; iexact HD

/-- At the last point one of the last four chunks has landed. -/
theorem last_ok (st : Fin 16 → Ph) (fr : Fin 4 → Bool) (h4 : k0_cond4 i = 1#1) (q : Fin 4) (k : Fin 16) (hk : k.val = 12 + q.val) (hst : st k = .writing) :
    iprop(common (T := T) P pat ∗ Chunks hT P X st ∗ Slots c fr)
      ⊢ WP c (run 16 fun j => last1 i tabM imgM ringM wsem h4 q j) (fun _ => iprop(common (T := T) P pat ∗ Chunks hT P X (Function.update st k .finished)
          ∗ Slots c (Function.update fr (slot k) true))) := by
  have ek : BitVec.ofNat 32 (12 + q.val) = BitVec.ofNat 32 k.val := by rw [hk]
  iintro ⟨HR, HC, HS⟩
  ihave HC := (Chunks_take hT P X st k .finished) $$ HC
  icases HC with ⟨HC, HC'⟩
  ihave HS := (Slots_take fr (slot k) true) $$ HS
  icases HS with ⟨-, HS'⟩
  rw [hst]
  unfold chunkIn last1
  iapply (wp_use c (wp_run c (R := common (T := T) P pat) 16 _ (fun j => sampleIn hT P X .writing k j) (fun j => iprop(finished hT P X k j ∗ idle c (slot k) j))
    fun j => step_waitOut T hT P X pat k j (by unfold smp; omega) (by rw [ek, slotOf_eq]) ?_)) $$ [HR HC]
  · intro v hv; exact chk1_of (by have := j.isLt; have := q.isLt; omega) hv
  · isplitl [HR]; · iexact HR
    iexact HC
  iintro %_ ⟨HR, HD⟩
  ihave HD := (bigSep_both _ _).1 $$ HD
  icases HD with ⟨HD, HI⟩
  isplitl [HR]; · iexact HR
  isplitl [HC' HD]
  · iapply HC'; iexact HD
  · iapply HS'; rw [slotIf_true]; iexact HI

end Cert.Kernel.Point

end
-- ==== Proof.Body.lean ====
/-
  The body of a grid point: it takes the states of the chunks and of the ring slots from one point's entry to
  the next one's.
-/
module

public import proofs.«01_k».proof.Proof.Point

@[expose] public section

noncomputable section

namespace Cert.Kernel.Body

open Idealize.ShloMosaic Idealize.ShloMosaic.TcCoe Cert.Kernel Cert.Kernel.Canon Cert.Kernel.Steps Cert.Kernel.Words Cert.Kernel.Phases Cert.Kernel.Point
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The assertions of the proof. -/
local notation "𝕄" => MT nD τ sig Unit (Elt F) ℕ (Pipeline.UD sig nD τ) ℕ

/-- The chunks' states when the first `f` are finished, the next up to `w` on their way back, the next up to `r` on their way in. -/
def stOf (f w r : ℕ) (k : Fin 16) : Ph := if k.val < f then .finished else if k.val < w then .writing else if k.val < r then .reading else .fresh

theorem stOf_finish (k : Fin 16) (w r : ℕ) : Function.update (stOf k.val w r) k .finished = stOf (k.val + 1) w r := by
  funext k'
  by_cases e : k' = k
  · subst e; rw [Function.update_self]; unfold stOf; rw [if_pos (by omega)]
  · rw [Function.update_of_ne e]
    have e' : k'.val ≠ k.val := fun h => e (Fin.ext h)
    have e2 : (k'.val < k.val) = (k'.val < k.val + 1) := propext ⟨by omega, by omega⟩
    unfold stOf
    simp only [e2]

theorem stOf_write (k : Fin 16) (f r : ℕ) (h : f ≤ k.val) : Function.update (stOf f k.val r) k .writing = stOf f (k.val + 1) r := by
  funext k'
  by_cases e : k' = k
  · subst e; rw [Function.update_self]; unfold stOf; rw [if_neg (by omega), if_pos (by omega)]
  · rw [Function.update_of_ne e]
    have e' : k'.val ≠ k.val := fun h => e (Fin.ext h)
    have e2 : (k'.val < k.val) = (k'.val < k.val + 1) := propext ⟨by omega, by omega⟩
    unfold stOf
    simp only [e2]

theorem stOf_read (k : Fin 16) (f w : ℕ) (h : f ≤ k.val) (h' : w ≤ k.val) : Function.update (stOf f w k.val) k .reading = stOf f w (k.val + 1) := by
  funext k'
  by_cases e : k' = k
  · subst e; rw [Function.update_self]; unfold stOf; rw [if_neg (by omega), if_neg (by omega), if_pos (by omega)]
  · rw [Function.update_of_ne e]
    have e' : k'.val ≠ k.val := fun h => e (Fin.ext h)
    have e2 : (k'.val < k.val) = (k'.val < k.val + 1) := propext ⟨by omega, by omega⟩
    unfold stOf
    simp only [e2]

/-- The chunks' states on entry to point `t`. -/
def stAt (t : ℕ) : Fin 16 → Ph := stOf (if t < 18 then min (t - 4) 12 else 16) (t - 2) (min t 16)

/-- The slots that are idle on entry to point `t`. -/
def frAt (t : ℕ) (s : Fin 4) : Bool := decide (t ≤ s.val ∨ 18 ≤ t)

variable {c : Dev nD} {T : TabBuf (F := F) c} (hT : InRange c T) (P : Vec F S1x3x40x224 .f32) (X : ImgBuf (F := F) c)
variable (pat : Memref sig .tc .vmem S1x3x40x224 .f32) (i : grid0.Coords)

/-- What a point holds when the chunks are in the states `st` and the slots `fr` idle. -/
def Held (st : Fin 16 → Ph) (fr : Fin 4 → Bool) : sProp 𝕄 := iprop(common (T := T) P pat ∗ Chunks hT P X st ∗ Slots c fr)

/-- The part of a point that frees a slot and starts a chunk's transfers in. -/
def part1 : Prog (TpuEff nD τ sig (Elt F) Λ₀ .tc) PUnit :=
  if h1 : k0_cond1 i = 1#1 then
    (if h2 : k0_cond2 i = 1#1 then drain i tabM imgM ringM wsem h1 h2 else pure ⟨⟩) >>= fun _ => run 16 fun j => fetch1 i tabM imgM ringM rsem h1 j
  else pure ⟨⟩

/-- The part that adds a chunk's patches. -/
def part2 : Prog (TpuEff nD τ sig (Elt F) Λ₀ .tc) PUnit :=
  if h3 : k0_cond3 i = 1#1 then run 16 fun j => work1 i tabM pat imgM ringM rsem wsem h3 j else pure ⟨⟩

/-- The part that waits for the last chunks. -/
def part3 : Prog (TpuEff nD τ sig (Elt F) Λ₀ .tc) PUnit :=
  if h4 : k0_cond4 i = 1#1 then run 4 fun q => run 16 fun j => last1 i tabM imgM ringM wsem h4 q j else pure ⟨⟩

/-- The body is its three parts in a row. -/
theorem body_parts : body (F := F) i tabM pat imgM ringM rsem wsem = part1 i >>= fun _ => part2 pat i >>= fun _ => part3 i := by
  have e16 : ∀ f : Fin 16 → Prog (TpuEff nD τ sig (Elt F) Λ₀ .tc) PUnit, run 16 f = f 0 >>= fun _ => run 15 fun j => f j.succ := fun f => rfl
  unfold body part1 part2 part3 head
  simp only [e16]
  by_cases h1 : k0_cond1 i = 1#1 <;> by_cases h2 : k0_cond2 i = 1#1 <;> by_cases h3 : k0_cond3 i = 1#1 <;> by_cases h4 : k0_cond4 i = 1#1 <;>
    simp only [h1, h2, h3, h4, dif_pos, dif_neg, not_false_eq_true, ↓reduceDIte, bind_assoc, pure_bind, bind_pure_unit]

/-- The first part: the chunks and slots before and after it. -/
theorem part1_ok (f w : ℕ) (hf : (pt i).val < 16 → f = (pt i).val - 4) (hw : w = (pt i).val - 2) :
    Held hT P X pat (stOf f w (min (pt i).val 16)) (frAt (pt i).val)
      ⊢ WP c (part1 i) (fun _ => Held hT P X pat (stOf (if (pt i).val < 16 then (pt i).val + 1 - 4 else f) w (min ((pt i).val + 1) 16)) (fun s => decide ((pt i).val < s.val))) := by
  have ht := (pt i).isLt
  unfold part1
  by_cases h1 : k0_cond1 i = 1#1
  · have l1 := (cond1_iff i).1 h1
    rw [dif_pos h1, wp_seq, if_pos l1, Nat.min_eq_left l1.le, Nat.min_eq_left (by omega), hf l1]
    obtain ⟨k, hk⟩ : ∃ k : Fin 16, k.val = (pt i).val := ⟨⟨_, l1⟩, rfl⟩
    -- the chunk is started from any slots in which its own is idle
    have fetch : ∀ fr : Fin 4 → Bool, fr (slot k) = true → Function.update fr (slot k) false = (fun s => decide ((pt i).val < s.val)) →
        Held hT P X pat (stOf ((pt i).val + 1 - 4) w (pt i).val) fr
          ⊢ WP c (run 16 fun j => fetch1 i tabM imgM ringM rsem h1 j)
            (fun _ => Held hT P X pat (stOf ((pt i).val + 1 - 4) w ((pt i).val + 1)) (fun s => decide ((pt i).val < s.val))) := by
      intro fr e1 e2
      have := fetch_ok hT P X pat i (stOf ((pt i).val + 1 - 4) w (pt i).val) fr h1 k hk (by unfold stOf; rw [if_neg (by omega), if_neg (by omega), if_neg (by omega)]) e1
      rw [e2, ← hk, stOf_read k _ _ (by omega) (by omega), hk] at this
      exact this
    by_cases h2 : k0_cond2 i = 1#1
    · have l2 := (cond2_iff i).1 h2
      rw [dif_pos h2]
      obtain ⟨k', hk'⟩ : ∃ k' : Fin 16, k'.val + 4 = (pt i).val := ⟨⟨(pt i).val - 4, by omega⟩, by simp only; omega⟩
      have drain := drain_ok hT P X pat i (stOf ((pt i).val - 4) w (pt i).val) (frAt (pt i).val) h1 h2 k' hk'
        (by unfold stOf; rw [if_neg (by omega), if_pos (by omega)])
      rw [show (pt i).val - 4 = k'.val by omega, stOf_finish] at drain
      rw [show (pt i).val - 4 = k'.val by omega]
      rw [show (pt i).val + 1 - 4 = k'.val + 1 by omega] at fetch ⊢
      have es : slot k' = slot k := Fin.ext (by show k'.val % 4 = k.val % 4; omega)
      refine drain.trans (wp_mono _ _ _ fun _ => fetch _ ?_ ?_)
      · rw [es, Function.update_self]
      · rw [es]; funext s
        by_cases e : s = slot k
        · subst e; rw [Function.update_self]; symm; rw [decide_eq_false_iff_not]; show ¬ _ < k.val % 4; omega
        · rw [Function.update_of_ne e, Function.update_of_ne e]; unfold frAt; have := s.isLt
          rw [decide_eq_decide]; omega
    · have l2 : ¬ 4 ≤ (pt i).val := fun h => h2 ((cond2_iff i).2 h)
      rw [dif_neg h2, show (pt i).val - 4 = (pt i).val + 1 - 4 by omega]
      refine .trans (fetch _ ?_ ?_) (wp_pure c)
      · unfold frAt; rw [decide_eq_true_iff]; left; show _ ≤ k.val % 4; omega
      · funext s
        by_cases e : s = slot k
        · subst e; rw [Function.update_self]; symm; rw [decide_eq_false_iff_not]; show ¬ _ < k.val % 4; omega
        · rw [Function.update_of_ne e]; unfold frAt
          have e' : s.val ≠ k.val % 4 := fun h => e (Fin.ext h)
          rw [decide_eq_decide]; omega
  · have l1 : ¬ (pt i).val < 16 := fun h => h1 ((cond1_iff i).2 h)
    rw [dif_neg h1, if_neg l1, Nat.min_eq_right (by omega), Nat.min_eq_right (by omega)]
    rw [show frAt (pt i).val = (fun s => decide ((pt i).val < s.val)) from funext fun s => by unfold frAt; have := s.isLt; rw [decide_eq_decide]; omega]
    exact wp_pure c

/-- The second part. -/
theorem part2_ok (f r : ℕ) (fr : Fin 4 → Bool) (hf : f ≤ (pt i).val - 2) (hr : r = min ((pt i).val + 1) 16) :
    Held hT P X pat (stOf f ((pt i).val - 2) r) fr ⊢ WP c (part2 pat i) (fun _ => Held hT P X pat (stOf f ((pt i).val + 1 - 2) r) fr) := by
  have ht := (pt i).isLt
  unfold part2
  by_cases h3 : k0_cond3 i = 1#1
  · have l3 := (cond3_iff i).1 h3
    rw [dif_pos h3]
    obtain ⟨k, hk⟩ : ∃ k : Fin 16, k.val + 2 = (pt i).val := ⟨⟨(pt i).val - 2, by omega⟩, by simp only; omega⟩
    have work := work_ok hT P X pat i (stOf f ((pt i).val - 2) r) h3 k hk
      (by unfold stOf; rw [if_neg (by omega), if_neg (by omega), if_pos (by omega)])
    rw [show (pt i).val - 2 = k.val by omega, stOf_write k _ _ (by omega)] at work
    rw [show (pt i).val - 2 = k.val by omega, show (pt i).val + 1 - 2 = k.val + 1 by omega]
    unfold Held
    iintro ⟨HR, HC, HS⟩
    iapply (wp_use c work) $$ [HR HC]
    · isplitl [HR]; · iexact HR
      iexact HC
    iintro %_ ⟨HR, HC⟩
    isplitl [HR]; · iexact HR
    isplitl [HC]; · iexact HC
    iexact HS
  · have l3 : ¬ 2 ≤ (pt i).val := fun h => h3 ((cond3_iff i).2 h)
    rw [dif_neg h3, show (pt i).val + 1 - 2 = (pt i).val - 2 by omega]
    exact wp_pure c

/-- One of the last four chunks. -/
theorem last_held (h4 : k0_cond4 i = 1#1) (q : Fin 4) :
    Held hT P X pat (stOf (12 + q.val) 16 16) (fun s => decide (s.val < q.val))
      ⊢ WP c (run 16 fun j => last1 i tabM imgM ringM wsem h4 q j)
        (fun _ => Held hT P X pat (stOf (12 + (q.val + 1)) 16 16) (fun s => decide (s.val < q.val + 1))) := by
  obtain ⟨k, hk⟩ : ∃ k : Fin 16, k.val = 12 + q.val := ⟨⟨12 + q.val, by omega⟩, rfl⟩
  have := last_ok hT P X pat i (stOf (12 + q.val) 16 16) (fun s => decide (s.val < q.val)) h4 q k hk
    (by unfold stOf; rw [if_neg (by omega), if_pos (by omega)])
  rw [← hk, stOf_finish, show k.val + 1 = 12 + (q.val + 1) by omega, show Function.update (fun s : Fin 4 => decide (s.val < q.val)) (slot k) true
    = (fun s => decide (s.val < q.val + 1)) from ?_] at this
  · rw [← hk]; exact this
  · funext s
    by_cases e : s = slot k
    · subst e; rw [Function.update_self]; symm; rw [decide_eq_true_iff]; show k.val % 4 < _; omega
    · rw [Function.update_of_ne e]
      have e' : s.val ≠ k.val % 4 := fun h => e (Fin.ext h)
      rw [decide_eq_decide]; have := s.isLt; omega

/-- Repeated steps, each from what the one before it left. -/
theorem wp_iterate (R : ℕ → sProp 𝕄) : ∀ (n a : ℕ) (f : Fin n → Prog (TpuEff nD τ sig (Elt F) Λ₀ .tc) PUnit)
    (_ : ∀ j, R (a + j.val) ⊢ WP c (f j) (fun _ => R (a + (j.val + 1)))), R a ⊢ WP c (run n f) (fun _ => R (a + n))
  | 0, _, _, _ => wp_pure c
  | n + 1, a, f, h => by
    show _ ⊢ WP c (f 0 >>= fun _ => run n fun j => f j.succ) _
    rw [wp_seq]
    refine (h 0).trans (wp_mono _ _ _ fun _ => ?_)
    have := wp_iterate R n (a + 1) (fun j => f j.succ) fun j => by
      have := h j.succ
      rw [Fin.val_succ, show a + (j.val + 1) = a + 1 + j.val by omega, show a + (j.val + 1 + 1) = a + 1 + (j.val + 1) by omega] at this
      exact this
    rw [show a + 1 + n = a + (n + 1) by omega] at this
    exact this

/-- The third part. -/
theorem part3_ok (f : ℕ) (hf : (pt i).val = 17 → f = 12) :
    Held hT P X pat (stOf f ((pt i).val + 1 - 2) (min ((pt i).val + 1) 16)) (fun s => decide ((pt i).val < s.val))
      ⊢ WP c (part3 i) (fun _ => Held hT P X pat (stOf (if (pt i).val = 17 then 16 else f) ((pt i).val + 1 - 2) (min ((pt i).val + 1) 16)) (frAt ((pt i).val + 1))) := by
  have ht := (pt i).isLt
  unfold part3
  by_cases h4 : k0_cond4 i = 1#1
  · have l4 := (cond4_iff i).1 h4
    rw [dif_pos h4, hf l4, l4]
    have := wp_iterate (c := c) (fun q => Held hT P X pat (stOf (12 + q) 16 16) (fun s => decide (s.val < q))) 4 0
      (fun q => run 16 fun j => last1 i tabM imgM ringM wsem h4 q j) fun q => by
        rw [Nat.zero_add, Nat.zero_add]; exact last_held hT P X pat i h4 q
    rw [show (fun s : Fin 4 => decide (s.val < 0)) = (fun s => decide (17 < s.val)) from funext fun s => by revert s; decide] at this
    refine this.trans (wp_mono _ _ _ fun _ => ?_)
    rw [if_pos rfl, show (fun s : Fin 4 => decide (s.val < 0 + 4)) = frAt (17 + 1) from funext fun s => by revert s; decide]
    exact .rfl
  · have l4 : (pt i).val ≠ 17 := fun h => h4 ((cond4_iff i).2 h)
    rw [dif_neg h4, if_neg l4]
    rw [show frAt ((pt i).val + 1) = (fun s => decide ((pt i).val < s.val)) from funext fun s => by unfold frAt; have := s.isLt; rw [decide_eq_decide]; omega]
    exact wp_pure c

/-- The body takes a point's entry to the next point's. -/
theorem body_ok : Held hT P X pat (stAt (pt i).val) (frAt (pt i).val)
    ⊢ WP c (body (F := F) i tabM pat imgM ringM rsem wsem) (fun _ => Held hT P X pat (stAt ((pt i).val + 1)) (frAt ((pt i).val + 1))) := by
  have ht := (pt i).isLt
  rw [body_parts, wp_seq]
  unfold stAt
  rw [if_pos ht]
  refine (part1_ok hT P X pat i _ _ (fun h => by omega) rfl).trans (wp_mono _ _ _ fun _ => ?_)
  rw [wp_seq]
  refine (part2_ok hT P X pat i _ _ _ (by split <;> omega) rfl).trans (wp_mono _ _ _ fun _ => ?_)
  have := part3_ok hT P X pat i (if (pt i).val < 16 then (pt i).val + 1 - 4 else min ((pt i).val - 4) 12) (fun h => by rw [if_neg (by omega)]; omega)
  rw [show (if (pt i).val = 17 then 16 else if (pt i).val < 16 then (pt i).val + 1 - 4 else min ((pt i).val - 4) 12)
    = (if (pt i).val + 1 < 18 then min ((pt i).val + 1 - 4) 12 else 16) from ?_] at this
  · exact this
  · split <;> split <;> (try split) <;> omega

end Cert.Kernel.Body

end
-- ==== Proof.Layout.lean ====
/-
  The buffers as the body holds them: the ring as its 64 tiles, the image array as its 256 windows and what no
  window touches, the semaphores as two cells per tile.
-/
module

public import proofs.«01_k».proof.Proof.Body
public import proofs.«01_k».proof.Proof.Gen.Kernel.Launch

@[expose] public section

noncomputable section

namespace Cert.Kernel.Layout

open Idealize.ShloMosaic Idealize.ShloMosaic.TcCoe Cert.Kernel Cert.Kernel.Canon Cert.Kernel.Steps Cert.Kernel.Words Cert.Kernel.Phases Cert.Kernel.Point Cert.Kernel.Body
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-- The assertions of the proof. -/
local notation "𝕄" => MT nD τ sig Unit (Elt F) ℕ (Pipeline.UD sig nD τ) ℕ

variable {c : Dev nD}

/-! ## The ring -/

/-- The elements of tile `(s, j)` are those with first two indices `s` and `j`. -/
theorem mem_tile (s : Fin 4) (j : Fin 16) (i : S4x16x3x40x224.Idx) :
    i ∈ (tileM s.val j.val (inRing s.isLt j.isLt)).view.set ↔ i 0 = s ∧ i 1 = j := by
  have e : (tileM s.val j.val (inRing s.isLt j.isLt)).view.set
      = (Rect.unit (s := S4x16x3x40x224) ![s.val, j.val, 0, 0, 0] S1x1x3x40x224.size (inRing s.isLt j.isLt)).set := by
    exact (View.set_reshape ..).trans (View.set_slice_whole _ _)
  rw [e, Rect.mem_set_unit]
  constructor
  · intro h
    have h0 : s.val ≤ (i 0).val ∧ (i 0).val < s.val + 1 := h 0
    have h1 : j.val ≤ (i 1).val ∧ (i 1).val < j.val + 1 := h 1
    exact ⟨Fin.ext (by omega), Fin.ext (by omega)⟩
  · rintro ⟨rfl, rfl⟩ a
    fin_cases a
    · exact ⟨le_rfl, Nat.lt_succ_self _⟩
    · exact ⟨le_rfl, Nat.lt_succ_self _⟩
    · exact ⟨Nat.zero_le _, by show _ < 0 + 3; have := (i 2).isLt; exact this⟩
    · exact ⟨Nat.zero_le _, by show _ < 0 + 40; have := (i 3).isLt; simpa using this⟩
    · exact ⟨Nat.zero_le _, by show _ < 0 + 224; have := (i 4).isLt; simpa using this⟩

/-- The buffer of the ring. -/
abbrev RingBuf (c : Dev nD) : Type := Buf (Elt F) ((c.tc : Thread nD τ).loc cc0_scratch0)

abbrev tileSet (p : Fin 4 × Fin 16) : Finset (Idx ((c.tc : Thread nD τ).loc cc0_scratch0)) :=
  (tileM p.1.val p.2.val (inRing p.1.isLt p.2.isLt)).view.set

theorem tile_disjoint : ∀ p ∈ (Finset.univ : Finset (Fin 4 × Fin 16)), ∀ p' ∈ (Finset.univ : Finset (Fin 4 × Fin 16)), p ≠ p' →
    Disjoint (tileSet (c := c) p) (tileSet p') := by
  intro p _ p' _ hne
  rw [Finset.disjoint_left]
  intro i h h'
  obtain ⟨a, b⟩ := (mem_tile _ _ _).1 h
  obtain ⟨a', b'⟩ := (mem_tile _ _ _).1 h'
  exact hne (Prod.ext (a.symm.trans a') (b.symm.trans b'))

theorem tile_cover : Finset.univ.biUnion (tileSet (c := c)) = Finset.univ := by
  ext i
  simp only [Finset.mem_biUnion, Finset.mem_univ, true_and, iff_true]
  exact ⟨((i : S4x16x3x40x224.Idx) 0, (i : S4x16x3x40x224.Idx) 1), (mem_tile _ _ _).2 ⟨rfl, rfl⟩⟩

/-- A tile at some contents is its elements at some contents of the buffer. -/
theorem tile_some (p : Fin 4 × Fin 16) : iprop(∃ x, tilePt c p.1.val p.2.val (inRing p.1.isLt p.2.isLt) x)
    ⊣⊢ (iprop(∃ f : RingBuf (F := F) c, ((c.tc : Thread nD τ).loc cc0_scratch0) ↦[tileSet p]{fullShare} f) : sProp 𝕄) := by
  unfold tilePt owns
  constructor
  · iintro ⟨%x, %f, -, H⟩
    iexists f; iexact H
  · iintro ⟨%f, H⟩
    iexists _, f
    isplitr; · ipureintro; rfl
    iexact H

/-- The ring at some contents, as its tiles at some contents. -/
theorem ring_split : iprop(∃ f : RingBuf (F := F) c, ((c.tc : Thread nD τ).loc cc0_scratch0) ↦{fullShare} f)
    ⊢ (bigSep Finset.univ fun p : Fin 4 × Fin 16 => iprop(∃ x, tilePt c p.1.val p.2.val (inRing p.1.isLt p.2.isLt) x) : sProp 𝕄) := by
  iintro ⟨%f, H⟩
  iapply (show (((c.tc : Thread nD τ).loc cc0_scratch0) ↦{fullShare} f : sProp 𝕄) ⊢ _ from ?_) $$ H
  refine .trans (Q := bigSep Finset.univ fun p : Fin 4 × Fin 16 => ((c.tc : Thread nD τ).loc cc0_scratch0) ↦[tileSet p]{fullShare} f)
    (Entails.of_eq ?_) (bigSep_mono fun p _ => ?_)
  · rw [← pointsTo_biUnion _ _ tile_disjoint, tile_cover]
  · exact (exists_intro f).trans (tile_some p).2

/-- And back. -/
theorem ring_join : (bigSep Finset.univ fun p : Fin 4 × Fin 16 => iprop(∃ x, tilePt c p.1.val p.2.val (inRing p.1.isLt p.2.isLt) x) : sProp 𝕄)
    ⊢ iprop(∃ f : RingBuf (F := F) c, ((c.tc : Thread nD τ).loc cc0_scratch0) ↦{fullShare} f) := by
  refine .trans (Q := bigSep Finset.univ fun p : Fin 4 × Fin 16 => iprop(∃ f : RingBuf (F := F) c, ((c.tc : Thread nD τ).loc cc0_scratch0) ↦[tileSet p]{fullShare} f))
    (bigSep_mono fun p _ => ?_) ((BI.bigSep_exists_pi Finset.univ fun p (f : RingBuf (F := F) c) => ((c.tc : Thread nD τ).loc cc0_scratch0) ↦[tileSet p]{fullShare} f).trans ?_)
  · exact (tile_some p).1
  · iintro ⟨%fs, H⟩
    ihave H := (pointsTo_biUnion_join Finset.univ tileSet fs (fs (0, 0)) tile_disjoint) $$ H
    icases H with ⟨%g, -, H⟩
    rw [tile_cover]
    iexists g; iexact H

/-! ## The semaphores -/

/-- The kernel's own semaphores: per tile the one of the transfers in and the one of the transfers out. -/
def osem (k : Fin 4 × Fin 16 × Bool) : SemLoc sig :=
  cellOf (if k.2.2 then wsem else rsem) k.1.val k.2.1.val (inSem k.1.isLt k.2.1.isLt)

/-- A semaphore's number. -/
def semNo : SemLoc sig → ℕ
  | .dma d => d.val
  | _ => 0

theorem osem_no (k : Fin 4 × Fin 16 × Bool) : semNo (osem k) = (if k.2.2 then 65 else 1) + (16 * k.1.val + k.2.1.val) := by
  revert k; decide +kernel

theorem winSem : ∀ (w : Fin 1) (s : Fin (spec0 w).nbuf), semNo (.dma ((spec0 w).sem s)) = 0 := by decide

theorem osemFacts : Pipeline.OwnSemFacts spec0 osem := by
  refine ⟨fun k => ?_, fun k k' h => ?_, fun k w s h => ?_⟩
  · revert k; decide +kernel
  · have e := congrArg semNo h
    rw [osem_no, osem_no] at e
    obtain ⟨s, j, b⟩ := k
    obtain ⟨s', j', b'⟩ := k'
    have : b = b' := by
      cases b <;> cases b' <;> first | rfl | (simp only [Bool.false_eq_true, if_true, if_false] at e; omega)
    subst this
    simp only [Nat.add_left_cancel_iff] at e
    obtain rfl : s = s' := Fin.ext (by omega)
    obtain rfl : j = j' := Fin.ext (by omega)
    rfl
  · have e := congrArg semNo h
    rw [osem_no, show semNo (.dma ((spec0 w).sem s)) = 0 from winSem w s] at e
    split at e <;> omega

/-- The cells at zero, tile by tile. -/
theorem osem_split : (Pipeline.ownSems0 (Ix := Unit) (Name := ℕ) (U := Pipeline.UD sig nD τ) (Lvl := ℕ) (Val := Elt F) (τ := τ) osem c : sProp 𝕄)
    = bigSep Finset.univ fun p : Fin 4 × Fin 16 =>
      iprop(zero c rsem p.1.val p.2.val (inSem p.1.isLt p.2.isLt) ∗ zero c wsem p.1.val p.2.val (inSem p.1.isLt p.2.isLt)) := by
  unfold Pipeline.ownSems0
  rw [bigSep_univ_prod, bigSep_univ_prod]
  refine bigSep_congr fun s _ => ?_
  rw [bigSep_univ_prod]
  refine bigSep_congr fun j _ => ?_
  exact bigSep_univ_eq_bigSepL [false, true] (by decide) (by decide) _

/-! ## The slots at the start and at the end -/

theorem slots_all (fr : Fin 4 → Bool) (h : ∀ s, fr s = true) :
    (Slots c fr : sProp 𝕄) = iprop((bigSep Finset.univ fun p : Fin 4 × Fin 16 => iprop(∃ x, tilePt c p.1.val p.2.val (inRing p.1.isLt p.2.isLt) x))
      ∗ Pipeline.ownSems0 (Ix := Unit) (Name := ℕ) (U := Pipeline.UD sig nD τ) (Lvl := ℕ) (Val := Elt F) (τ := τ) osem c) := by
  rw [osem_split, ← bigSep_sep', bigSep_univ_prod]
  unfold Slots
  refine bigSep_congr fun s _ => ?_
  rw [h s, slotIf_true]
  rfl

/-! ## The image array -/

variable {T : TabBuf (F := F) c} (hT : InRange c T) (P : Vec F S1x3x40x224 .f32) (X : ImgBuf (F := F) c)

/-- The elements of sample `b`'s window. -/
theorem mem_win (b : ℕ) (hb : b < 256) (i : S256x3x224x224.Idx) :
    i ∈ (winM b (vy c T b hb) (hT.inWin hb)).view.set
      ↔ (i 0).val = b ∧ (rowWord (vy c T b hb)).toNat ≤ (i 2).val ∧ (i 2).val < (rowWord (vy c T b hb)).toNat + 40 := by
  have e : (winM b (vy c T b hb) (hT.inWin hb)).view.set
      = (Rect.unit (s := S256x3x224x224) (offWin b (vy c T b hb)) S1x3x40x224.size (hT.inWin hb)).set :=
    (View.set_reshape ..).trans (View.set_slice_whole _ _)
  rw [e, Rect.mem_set_unit]
  constructor
  · intro h
    have h0 : b ≤ (i 0).val ∧ (i 0).val < b + 1 := h 0
    exact ⟨by omega, h 2⟩
  · rintro ⟨rfl, h2⟩ a
    fin_cases a
    · exact ⟨le_rfl, Nat.lt_succ_self _⟩
    · exact ⟨Nat.zero_le _, by show _ < 0 + 3; have := (i 1).isLt; exact this⟩
    · exact h2
    · exact ⟨Nat.zero_le _, by show _ < 0 + 224; have := (i 3).isLt; simpa using this⟩

abbrev winSet (p : Fin 16 × Fin 16) : Finset (Idx ((c.tc : Thread nD τ).loc main_v2)) :=
  (winM (smp p.1 p.2) (vy c T (smp p.1 p.2) (smp_lt p.1 p.2)) (hT.inWin (smp_lt p.1 p.2))).view.set

theorem win_disjoint : ∀ p ∈ (Finset.univ : Finset (Fin 16 × Fin 16)), ∀ p' ∈ (Finset.univ : Finset (Fin 16 × Fin 16)), p ≠ p' →
    Disjoint (winSet hT p) (winSet hT p') := by
  intro p _ p' _ hne
  rw [Finset.disjoint_left]
  intro i h h'
  have a := ((mem_win hT _ _ _).1 h).1
  have b := ((mem_win hT _ _ _).1 h').1
  unfold smp at a b
  exact hne (Prod.ext (Fin.ext (by omega)) (Fin.ext (by omega)))

/-- All windows. -/
abbrev winAll : Finset (Idx ((c.tc : Thread nD τ).loc main_v2)) := Finset.univ.biUnion (winSet hT)

/-- What no window touches. -/
def imgRest : sProp 𝕄 := ((c.tc : Thread nD τ).loc main_v2) ↦[Finset.univ \ winAll hT]{fullShare} X

/-- The image array at the end. -/
def imgFinal : ImgBuf (F := F) c := fun i => imgOut hT P X (((i : S256x3x224x224.Idx) 0).val) ((i : S256x3x224x224.Idx) 0).isLt i

theorem imgFinal_on (p : Fin 16 × Fin 16) (i : Idx ((c.tc : Thread nD τ).loc main_v2)) (h : i ∈ winSet hT p) :
    imgFinal hT P X i = imgOut hT P X (smp p.1 p.2) (smp_lt p.1 p.2) i := by
  have e := ((mem_win hT _ _ _).1 h).1
  unfold imgFinal
  have key : ∀ (b : ℕ) (hb : b < 256), b = smp p.1 p.2 → imgOut hT P X b hb i = imgOut hT P X (smp p.1 p.2) (smp_lt p.1 p.2) i := by
    intro b hb e; subst e; rfl
  exact key _ _ e

theorem imgFinal_off (i : Idx ((c.tc : Thread nD τ).loc main_v2)) (h : i ∉ winAll hT) : imgFinal hT P X i = X i := by
  unfold imgFinal imgOut
  refine View.write_of_not_mem _ _ _ fun h' => h ?_
  rw [Finset.mem_biUnion]
  have hlt : ((i : S256x3x224x224.Idx) 0).val < 256 := ((i : S256x3x224x224.Idx) 0).isLt
  refine ⟨(⟨((i : S256x3x224x224.Idx) 0).val / 16, by omega⟩, ⟨((i : S256x3x224x224.Idx) 0).val % 16, by omega⟩), Finset.mem_univ _, ?_⟩
  have key : ∀ (b : ℕ) (hb : b < 256), b = ((i : S256x3x224x224.Idx) 0).val → i ∈ (winM b (vy c T b hb) (hT.inWin hb)).view.set := by
    intro b hb e; subst e; exact View.setOn_subset_set _ _ h'
  exact key _ _ (by show 16 * (_ / 16) + _ % 16 = _; omega)

theorem img_split : (((c.tc : Thread nD τ).loc main_v2) ↦{fullShare} X : sProp 𝕄)
    ⊢ iprop(Chunks hT P X (stAt 0) ∗ imgRest hT X) := by
  refine (pointsTo_split_subset (Finset.subset_univ (winAll hT))).1.trans (sep_mono (Entails.of_eq ?_) .rfl)
  rw [pointsTo_biUnion _ _ (win_disjoint hT), bigSep_univ_prod]
  rfl

theorem img_join : iprop(Chunks hT P X (stAt 18) ∗ imgRest hT X)
    ⊢ (((c.tc : Thread nD τ).loc main_v2) ↦{fullShare} imgFinal hT P X : sProp 𝕄) := by
  refine .trans (sep_mono (Entails.of_eq ?_) (Entails.of_eq ?_)) (pointsTo_split_subset (Finset.subset_univ (winAll hT))).2
  · rw [pointsTo_biUnion _ _ (win_disjoint hT), bigSep_univ_prod]
    unfold Chunks
    refine bigSep_congr fun k _ => ?_
    rw [show stAt 18 k = .finished by revert k; decide]
    refine bigSep_congr fun j _ => ?_
    exact pointsTo_congr fun i hi => (imgFinal_on hT P X (k, j) i hi).symm
  · exact pointsTo_congr fun i hi => (imgFinal_off hT P X i (Finset.mem_sdiff.1 hi).2).symm

end Cert.Kernel.Layout

end
-- ==== Proof.Run.lean ====
/-
  The run of the whole program: its host operations, then the pipelined call, whose every grid point is the body
  of `Body.body_ok`.
-/
module

public import proofs.«01_k».proof.Proof.Layout
public import Idealize.ShloMosaic.Lib.Pipeline.FrameValue
public import Idealize.ShloMosaic.Lib.Pipeline.FrameBody

@[expose] public section

noncomputable section

namespace Cert.Kernel.Run

open Idealize.ShloMosaic Idealize.ShloMosaic.TcCoe Cert.Kernel Cert.Kernel.Gen Cert.Kernel.Canon Cert.Kernel.Steps Cert.Kernel.Words Cert.Kernel.Phases Cert.Kernel.Point Cert.Kernel.Body Cert.Kernel.Layout
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

/-- The assertions of the proof. -/
local notation "𝕄" => MT nD τ sig Unit (Elt F) ℕ (Pipeline.UD sig nD τ) ℕ

variable (m : (ℓ : Loc nD τ sig) → Buf (Elt F) ℓ) (ρ : Dev nD → PrngReg)

/-- A core's buffers after the host operations. -/
abbrev V (c : Dev nD) (b : Ref sig .tc) : Buf (Elt F) ((c.tc : Thread nD τ).loc b) := StableHlo.after hostOps0 (fun b => m (c, b)) b

theorem hmain : Pipeline.HMainP (Ix := Unit) (Name := ℕ) (U := Pipeline.UD sig nD τ) (Lvl := ℕ) pcfgs 0 defs₀ Variants.none m (main (F := F)) (V m) :=
  Pipeline.hmainP_prefix pcfgs 0 defs₀ Variants.none m main hostOps0 hostOps0_sub ⟨rfl, rfl, rfl, rfl, rfl, rfl, rfl, rfl⟩ main_chain

/-- The host operations write none of the arguments, -/
theorem V_arg0 (c : Dev nD) : V m c main_arg0 = m ((c.tc : Thread nD τ).loc main_arg0) := rfl
theorem V_arg1 (c : Dev nD) : V m c main_arg1 = m ((c.tc : Thread nD τ).loc main_arg1) := rfl
theorem V_arg2 (c : Dev nD) : V m c main_arg2 = m ((c.tc : Thread nD τ).loc main_arg2) := rfl
/-- and copy the images. -/
theorem V_v2 (c : Dev nD) : V m c main_v2 = m ((c.tc : Thread nD τ).loc main_arg0) := rfl

/-- The placement table as the pipeline has it. -/
def adm (p : Fin 1) : (pcfgs (F := F) p).Adm := ⟨fun | 0 => V m 0 main_arg2 | ⟨_ + 1, h⟩ => absurd h (Nat.not_lt.2 (Nat.le_add_left _ _)), trivial⟩

/-- What the precondition gives: every row index is one where the patch fits. -/
def Good : Prop := ∀ c : Dev nD, InRange (F := F) c (V m c main_arg2)

variable {m} (hG : Good m)

/-- The padded patch. -/
def patch (c : Dev nD) : Vec F S1x3x40x224 .f32 := V m c main_v1

/-- What every grid point finds beside the table and the patch. -/
def inv (c : Dev nD) (n : ℕ) : sProp 𝕄 :=
  iprop((∃ r, prngReg c r) ∗ tabPt c (V m c main_arg2) ∗ Chunks (hG c) (patch (m := m) c) (V m c main_v2) (stAt n) ∗ Slots c (frAt n) ∗ imgRest (hG c) (V m c main_v2))

/-- The proof data of the pipelined call. -/
def dats (p : Fin 1) (c : Dev nD) : Dat τ (Elt F) Unit ℕ (Pipeline.UD sig nD τ) ℕ (Pipeline.pin pcfgs (adm m) p) c where
  A w := V m c (Pipeline.arrRef spec0 w)
  after w _ := match w with
    | ⟨0, _⟩ => patch (m := m) c
  Φ t := inv hG c t.val
  q _ := fullShare
  owed _ := 0

abbrev cfg1 (m : (ℓ : Loc nD τ sig) → Buf (Elt F) ℓ) := Pipeline.pin (pcfgs (F := F)) (adm m) 0

theorem A_eq (c : Dev nD) (w : Fin (cfg1 m).W) : (dats hG 0 c).A w = V m c (Pipeline.arrRef spec0 w) := rfl

/-- The window's block is the whole padded patch. -/
theorem block_eq (c : Dev nD) (t : Fin (cfg1 m).N) : (dats hG 0 c).blockOf 0 t = patch (m := m) c := by
  funext x
  refine congrArg (V m c main_v1) (funext fun a => Fin.ext ?_)
  have e : ∀ n k : ℕ, 0 * n + 1 * k = k := fun n k => by omega
  fin_cases a <;> exact e _ _

theorem before_eq (c : Dev nD) (t : Fin (cfg1 m).N) (d) : (dats hG 0 c).before 0 t d = patch (m := m) c := by
  rw [Dat.before_in_eq_fetched (dats hG 0 c) 0 rfl (fun _ => rfl) (fun _ _ _ => rfl) (fun t => (block_eq hG c t).symm) t d]
  exact block_eq hG c t

abbrev stg (t : Fin (cfg1 m).N) : Memref sig .tc .vmem S1x3x40x224 .f32 := spec0_0.stage ((cfg1 m).slots t 0)

/-- The body as the pipeline calls it. -/
theorem defs₀_row (t : Fin (cfg1 m).N) :
    defs₀ (F := F) .tc (cfg1 m).body ((cfg1 m).bodyArgs t ((cfg1 m).slots t)) = body (F := F) (grid0.coords t) tabM (stg t) imgM ringM rsem wsem := by
  unfold defs₀; rw [Defs.onTc_tc]
  exact cc0_body_eq ..

/-- Grid point `t` is number `t`. -/
theorem pt_coords : ∀ t : Fin grid0.N, (pt (grid0.coords t)).val = t.val := by decide

theorem sound_body (c : Dev nD) (t : Fin (cfg1 m).N) :
    iprop((dats hG 0 c).Φ t.castSucc ∗ (dats hG 0 c).owesAt () t.castSucc
        ∗ (∃ d, owns (c.tc : Thread nD τ) (stg (m := m) t) fullShare ((dats hG 0 c).before 0 t d)))
      ⊢ WP c (body (F := F) (grid0.coords t) tabM (stg (m := m) t) imgM ringM rsem wsem) (fun _ => iprop((dats hG 0 c).Φ t.succ ∗ (dats hG 0 c).owesAt () t.succ
        ∗ owns (c.tc : Thread nD τ) (stg (m := m) t) fullShare ((dats hG 0 c).after 0 t))) := by
  rw [show (dats hG 0 c).Φ t.castSucc = inv hG c t.val from rfl, show (dats hG 0 c).Φ t.succ = inv hG c (t.val + 1) from rfl,
    show (dats hG 0 c).after 0 t = patch (m := m) c from rfl]
  unfold Dat.owesAt Pipeline.owesWithin
  rw [show (dats hG 0 c).owed t.castSucc = 0 from rfl, show (dats hG 0 c).owed t.succ = 0 from rfl]
  have hb := body_ok (hG c) (patch (m := m) c) (V m c main_v2) (stg (m := m) t) (grid0.coords t)
  rw [pt_coords t] at hb
  unfold Held common at hb
  unfold inv
  iintro ⟨⟨Hg, HT, HC, HS, HR⟩, ⟨%W, -, HW⟩, ⟨%d, HP⟩⟩
  ihave HP := (Entails.of_eq (congrArg (fun x => owns (c.tc : Thread nD τ) (stg (m := m) t) fullShare x) (before_eq hG c t d))) $$ HP
  iapply (wp_use c hb) $$ [HT HC HS HW HP]
  · isplitl [HT HP HW]
    · isplitl [HT]; · iexact HT
      isplitl [HP]; · iexact HP
      unfold owes0; iexists W; iexact HW
    isplitl [HC]; · iexact HC
    iexact HS
  iintro %_ ⟨⟨HT, HP, HW⟩, HC, HS⟩
  isplitl [Hg HT HC HS HR]
  · isplitl [Hg]; · iexact Hg
    isplitl [HT]; · iexact HT
    isplitl [HC]; · iexact HC
    isplitl [HS]; · iexact HS
    iexact HR
  isplitl [HW]
  · unfold owes0
    icases HW with ⟨%W', HW⟩
    iexists W'
    isplitr; · ipureintro; exact fun _ _ => Or.inl trivial
    iexact HW
  iexact HP

theorem body_obligation (c : Dev nD) : BodyObligation (dats hG 0 c) (defs₀ (F := F)) Variants.none () Set.univ := fun t => by
  rw [bigSep_W0, bigSep_W0, defs₀_row]
  exact triple_restated (sound_body hG c t) rfl .rfl fun _ => .rfl

/-- The contents at the end, of the image array. -/
def G (c : Dev nD) (b : Ref sig .tc) : Buf (Elt F) ((c.tc : Thread nD τ).loc b) :=
  if h : b = main_v2 then h ▸ imgFinal (hG c) (patch (m := m) c) (V m c main_v2) else V m c b

theorem G_v2 (c : Dev nD) : G hG c main_v2 = imgFinal (hG c) (patch (m := m) c) (V m c main_v2) := by
  unfold G; rw [dif_pos rfl]

/-- What the launch hands over is the first point's entry, -/
theorem start_ok (c : Dev nD) : iprop(Pipeline.ΦDRG osem spec0 ∅ {main_v2} (V m) (V m) c ∗ Pipeline.ΦT pre0 (adm m 0).1 c) ⊢ inv hG c 0 := by
  unfold Pipeline.ΦDRG Pipeline.ΦD Pipeline.ΦT Pipeline.prefHeld inv
  rw [Pipeline.routed_singleton, scopedRest0_eq, slots_all (frAt 0) (by decide)]
  iintro ⟨⟨⟨HR, Hg, HZ, -⟩, HI⟩, HT⟩
  isplitl [Hg]; · iexact Hg
  isplitl [HT]
  · iapply (show (bigSep Finset.univ fun k : Fin 1 => ((c.tc : Thread nD τ).loc (pre0.ref k)) ↦{fullShare.right} (adm m 0).1 k : sProp 𝕄) ⊢ tabPt c (V m c main_arg2) from ?_) $$ HT
    obtain rfl : c = 0 := Subsingleton.elim _ _
    rw [bigSep_univ_eq_bigSepL [(0 : Fin 1)] (by decide) (by decide)]
    exact .rfl
  ihave HI := (img_split (hG c) (patch (m := m) c) (V m c main_v2)) $$ HI
  icases HI with ⟨HC, HX⟩
  isplitl [HC]; · iexact HC
  isplitl [HR HZ]
  · isplitl [HR]
    · iapply ring_split; iexact HR
    iexact HZ
  iexact HX

/-- and what the last point leaves is what the launch takes back. -/
theorem finish_ok (c : Dev nD) : inv hG c 18 ⊢ Pipeline.ΦDRG osem spec0 ∅ {main_v2} (V m) (G hG) c := by
  unfold Pipeline.ΦDRG Pipeline.ΦD inv
  rw [Pipeline.routed_singleton, scopedRest0_eq, slots_all (frAt 18) (by decide), G_v2, bigSep_empty]
  iintro ⟨Hg, -, HC, ⟨HR, HZ⟩, HX⟩
  isplitl [Hg HR HZ]
  · isplitl [HR]
    · iapply ring_join; iexact HR
    isplitl [Hg]; · iexact Hg
    isplitl [HZ]; · iexact HZ
    iempintro
  iapply (img_join (hG c) (patch (m := m) c) (V m c main_v2))
  isplitl [HC]; · iexact HC
  iexact HX

theorem routed_sub : ({main_v2} : Finset (Ref sig .tc)) ⊆ Pipeline.restRefsP sig pre0 spec0 \ ∅ := by decide

set_option backward.isDefEq.respectTransparency.types false in
/-- The program runs, nothing faults, and the buffers end as stated. -/
theorem run_main : θ_run defs (onTc (τ := τ) (main (F := F))) (s₀ m ρ)
    (fun r => Pipeline.FramePostRG (Pipeline.pin pcfgs (adm m)) (dats hG) 0 {main_v2} (V m) (G hG) r ∧ r.2.sem = fun _ => 0) :=
  Pipeline.θ_run_frameP_dmaRG pcfgs (adm m) (dats hG) (0 : Fin 1) launch0 osem defs₀ Variants.none osemFacts ∅ {main_v2} (Finset.empty_subset _) routed_sub m ρ main
    (hbody := fun c => (body_obligation hG c).loose) (hshare := fun c => (dats hG 0 c).share_full fun _ => rfl)
    (howed := fun _ _ => rfl) (V := V m) (hmain := hmain m) (hA := A_eq hG)
    (hpf := fun c k => by obtain rfl : c = 0 := Subsingleton.elim _ _; match k with | 0 => rfl)
    (G := G hG) (hin := start_ok hG) (hout := finish_ok hG) (Q' := _) (hQ' := fun _ h => h)

/-- The arguments are no window's array and not written. -/
theorem arg0_rest : main_arg0 ∈ Pipeline.restRefs sig spec0 \ {main_v2} := by decide
theorem arg1_rest : main_arg1 ∈ Pipeline.restRefs sig spec0 \ {main_v2} := by decide
theorem arg2_rest : main_arg2 ∈ Pipeline.restRefs sig spec0 \ {main_v2} := by decide

/-- What the program leaves: the image array as the body makes it, the arguments as they were, every semaphore at zero. -/
theorem run : θ_run defs (onTc (τ := τ) (main (F := F))) ⟨m, fun _ => 0, ρ⟩ (fun r => (∀ c : Dev nD,
      r.2.mem ((c.tc : Thread nD τ).loc main_v2) = imgFinal (hG c) (patch (m := m) c) (V m c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.2 c main_v2 (Finset.mem_singleton_self _)).trans (G_v2 hG c),
      ((h.1.1 c).2 main_arg0 arg0_rest),
      ((h.1.1 c).2 main_arg1 arg1_rest),
      ((h.1.1 c).2 main_arg2 arg2_rest)⟩, h.2⟩) (run_main ρ hG)

end Cert.Kernel.Run

end
-- ==== Proof.Pre.lean ====
/-
  The precondition, read entry by entry: every entry of the position table, as a number, is below 194, so a patch
  of 30 rows and 30 columns placed there lies in an image of 224 rows and 224 columns.
-/
module

public import proofs.«01_k».proof.Proof.Gen.Pre_in_image
public import Idealize.ShloMosaic.Lib.ReduceAll
public import Idealize.ShloMosaic.Lib.StableHlo.Predicate

@[expose] public section

noncomputable section

namespace Cert.Proof.Pre

open Idealize.ShloMosaic Cert.Pre_in_image

instance : Subsingleton S_.Idx := ⟨fun _ _ => funext fun a => a.elim0⟩

/-- A word between 0 and 193, read with its sign, is below 194 read without. -/
theorem toNat_lt {w : BitVec 32} (h0 : IntOp.cmpi .sge w 0#32 = 1#1) (h1 : IntOp.cmpi .slt w 194#32 = 1#1) : w.toNat < 194 := by
  simp only [IntOp.cmpi, StableHlo.Predicate.ofBool_eq_one_iff, BitVec.sle, BitVec.slt, decide_eq_true_eq] at h0 h1
  have e0 : (0#32 : BitVec 32).toInt = 0 := by decide
  have e1 : (194#32 : BitVec 32).toInt = 194 := by decide
  rw [e0] at h0
  rw [e1] at h1
  have h := BitVec.toInt_eq_toNat_cond w
  have := w.isLt
  split at h <;> omega

/-- Every entry of the table is below 194. -/
theorem entry_lt {F : FTy → Type} [FloatOps F] {a0 : FVec F S256x3x224x224 .f32} {a1 : FVec F S1x3x30x30 .f32} {a2 : IVec S256x2 32}
    (h : fn a0 a1 a2 = fun _ => 1#1) (i : S256x2.Idx) : (a2 i).toNat < 194 := by
  have e := congrFun h (Shape.Idx.first Facts.h_S_)
  obtain ⟨e0, e1⟩ := IntOp.andi_eq_one.1 e
  exact toNat_lt (Host.reduce_andi_all _ _ _ _ _ e0 i) (Host.reduce_andi_all _ _ _ _ _ e1 i)

end Cert.Proof.Pre

end
-- ==== Proof.Transport.lean ====
/-
  The run of the kernel program and of its idealization, from the precondition: the result array ends at
  `imgFinal`, the arguments end unchanged, every semaphore at zero. The idealization is the same text, read over the
  extended reals, so its run is that of the program.
-/
module

public import proofs.«01_k».proof.Defs
public import proofs.«01_k».proof.Proof.Run
public import proofs.«01_k».proof.Proof.Pre
public import proofs.«01_k».proof.Proof.Gen.KernelIdeal.Launch

@[expose] public section

noncomputable section

namespace Cert.Proof.Transport

open Idealize.ShloMosaic Idealize.ShloMosaic.TcCoe Idealize.SL.Sem
open Cert.Kernel Cert.Kernel.Steps Cert.Kernel.Phases Cert.Kernel.Layout Cert.Kernel.Run

variable {F : FTy → Type} [FloatOps F]

/-- A memory of the program. -/
abbrev Mem (F : FTy → Type) [FloatOps F] : Type := (ℓ : Loc nD τ sig) → Buf (Elt F) ℓ

/-- Row `b`, column `k` of a table, as the body reads it. -/
theorem word_eq (c : Dev nD) (T : TabBuf (F := F) c) (b : Fin 256) (k : Fin 2) (h : Canon.InTab b.val k.val) :
    word c T b.val k.val h = (T : S256x2.Idx → BitVec 32) (StableHlo.Predicate.ij b k) := by
  unfold word
  refine congrArg (T : S256x2.Idx → BitVec 32) (funext fun a => Fin.ext ?_)
  fin_cases a <;> rfl

/-- Where every entry of the table is below 194, the kernel's run is as proved. -/
theorem good (m : Mem F) (h : ∀ c : Dev nD, ∀ i : S256x2.Idx, ((m ((c.tc : Thread nD τ).loc main_arg2) : S256x2.Idx → BitVec 32) i).toNat < 194) : Good m := by
  intro c b hb
  have e := word_eq c (V m c main_arg2) ⟨b, hb⟩ 0 (Canon.inTab hb (by decide))
  exact (congrArg BitVec.toNat e).trans_lt (h c _)

/-- The run of the program, read over the other printed text of the same program. -/
theorem run_ideal (m : Mem Ideal) (ρ : Dev nD → PrngReg) (Q : _ → Prop)
    (h : θ_run (defs (F := Ideal)) (onTc (τ := τ) (main (F := Ideal))) ⟨m, fun _ => 0, ρ⟩ Q) :
    θ_run (Cert.KernelIdeal.defs (F := Ideal)) (onTc (τ := Cert.KernelIdeal.τ) (Cert.KernelIdeal.main (F := Ideal))) ⟨m, fun _ => 0, ρ⟩ Q := by
  have e : θ_run (defs (F := Ideal)) (onTc (τ := τ) (main (F := Ideal))) ⟨m, fun _ => 0, ρ⟩ Q
      = θ_run (Cert.KernelIdeal.defs (F := Ideal)) (onTc (τ := Cert.KernelIdeal.τ) (Cert.KernelIdeal.main (F := Ideal))) ⟨m, fun _ => 0, ρ⟩ Q := by chain_rfl
  exact e ▸ h

end Cert.Proof.Transport

end
-- ==== Proof.Place.lean ====
/-
  The prompt, entry by entry: for every sample, a patch of 30 rows and 30 columns stands at the sample's position in
  an image that is zero elsewhere.
-/
module

public import Idealize.ShloMosaic.Lib.StableHlo.Predicate
public import Idealize.ShloMosaic.Lib.Pointwise.ShapeOpsCore
public import Idealize.ShloMosaic.PureOps

@[expose] public section

noncomputable section

namespace Cert.Proof.Place

open Idealize.ShloMosaic
open StableHlo.Predicate (ij)

/-- The shapes of the images, of the patch and of the table of positions. -/
abbrev Imgs : Shape := ⟨4, ![256, 3, 224, 224]⟩
abbrev Pat : Shape := ⟨4, ![1, 3, 30, 30]⟩
abbrev Tab : Shape := ⟨2, ![256, 2]⟩

variable {F : FTy → Type} [FloatOps F]

/-- The number zero, as the programs write it. -/
abbrev zero : F .f32 := FloatOps.ofBits (F := F) .f32 0x00000000#32

/-- The row and the column of sample `b`'s patch. -/
abbrev row (T : Tab.Idx → BitVec 32) (b : Fin 256) : ℕ := (T (ij b 0)).toNat
abbrev col (T : Tab.Idx → BitVec 32) (b : Fin 256) : ℕ := (T (ij b 1)).toNat

/-- Entry `(0, k, r, s)` of the patch. -/
abbrev at4 (k : Fin 3) (r s : Fin 30) : Pat.Idx := fun | 0 => (0 : Fin 1) | 1 => k | 2 => r | 3 => s

/-- The prompt of sample `b` at channel `k`, row `r`, column `s`. -/
def prompt (T : Tab.Idx → BitVec 32) (p : Pat.Idx → F .f32) (b : Fin 256) (k : Fin 3) (r s : ℕ) : F .f32 :=
  if h : (row T b ≤ r ∧ r < row T b + 30) ∧ (col T b ≤ s ∧ s < col T b + 30) then
    p (at4 k ⟨r - row T b, by omega⟩ ⟨s - col T b, by omega⟩)
  else zero

theorem prompt_in {T : Tab.Idx → BitVec 32} {p : Pat.Idx → F .f32} {b : Fin 256} {k : Fin 3} {r s : ℕ} (r' s' : Fin 30)
    (hr : r = row T b + r'.val) (hs : s = col T b + s'.val) : prompt T p b k r s = p (at4 k r' s') := by
  subst hr hs
  unfold prompt
  rw [dif_pos ⟨⟨by omega, by omega⟩, ⟨by omega, by omega⟩⟩]
  congr 2 <;> exact Fin.ext (by simp)

theorem prompt_out {T : Tab.Idx → BitVec 32} {p : Pat.Idx → F .f32} {b : Fin 256} {k : Fin 3} {r s : ℕ}
    (h : ¬((row T b ≤ r ∧ r < row T b + 30) ∧ (col T b ≤ s ∧ s < col T b + 30))) : prompt T p b k r s = zero := by
  unfold prompt
  rw [dif_neg h]

end Cert.Proof.Place

end
-- ==== Proof.Update.lean ====
/-
  An update of part of an array, read at an index: the update inside the part, the array outside, for a part whose
  start is in range.
-/
module

public import Idealize.ShloMosaic.Lib.Pointwise.ShapeOpsCore

@[expose] public section

noncomputable section

namespace Cert.Proof.Update

open Idealize.ShloMosaic

variable {α : Type} {s u : Shape} (x : s.Idx → α) (upd : u.Idx → α) (start : Fin s.rank → Int) (h : s.Slices (fun _ => 0) u)

/-- Inside the part. -/
theorem update_in (off : Fin s.rank → ℕ) (hoff : ∀ a, start a = off a) (hfit : ∀ a, off a + u.size (a.cast h.1.symm) ≤ s.size a)
    (i : s.Idx) (j : u.Idx) (hj : ∀ a : Fin s.rank, (i a).val = off a + (j (a.cast h.1.symm)).val) :
    Host.dynamicUpdateSlice x upd start h i = upd j := by
  have e (a : Fin s.rank) : Host.clampedStart s u h.1 start a = off a := Host.clampedStart_of_le _ _ _ _ (hoff a) (hfit a)
  rw [Host.dynamicUpdateSlice_apply, dif_pos]
  · congr 1
    funext b
    refine Fin.ext ?_
    show (i (b.cast h.1)).val - Host.clampedStart s u h.1 start (b.cast h.1) = (j b).val
    rw [e, hj]
    exact Nat.add_sub_cancel_left ..
  · intro a
    rw [e, hj]
    exact ⟨Nat.le_add_right .., Nat.add_lt_add_left (j _).isLt _⟩

/-- Outside it. -/
theorem update_out (off : Fin s.rank → ℕ) (hoff : ∀ a, start a = off a) (hfit : ∀ a, off a + u.size (a.cast h.1.symm) ≤ s.size a)
    (i : s.Idx) (a : Fin s.rank) (ha : ¬(off a ≤ (i a).val ∧ (i a).val < off a + u.size (a.cast h.1.symm))) :
    Host.dynamicUpdateSlice x upd start h i = x i := by
  rw [Host.dynamicUpdateSlice_apply, dif_neg]
  intro hall
  have := hall a
  rw [Host.clampedStart_of_le _ _ _ _ (hoff a) (hfit a)] at this
  exact ha this

/-- A slice whose start is in range, read at an index. -/
theorem slice_at {t : Shape} (hs : s.Slices (fun _ => 0) t) (off : Fin s.rank → ℕ) (hoff : ∀ a, start a = off a)
    (hfit : ∀ a, off a + t.size (a.cast hs.1.symm) ≤ s.size a) (i : s.Idx) (j : t.Idx)
    (hj : ∀ a : Fin s.rank, (i a).val = off a + (j (a.cast hs.1.symm)).val) :
    Host.dynamicSlice t x start hs j = x i := by
  rw [Host.dynamicSlice_apply]
  refine congrArg x (funext fun a => Fin.ext ?_)
  show Host.clampedStart s t hs.1 start a + (j (a.cast hs.1.symm)).val = (i a).val
  rw [Host.clampedStart_of_le _ _ _ _ (hoff a) (hfit a), hj]

end Cert.Proof.Update

end
-- ==== Proof.Image.lean ====
/-
  The image array after the kernel's run, entry by entry: the entry of the image, plus the sample's prompt wherever a
  window stands; and outside every window the prompt is zero.
-/
module

public import proofs.«01_k».proof.Proof.Run
public import proofs.«01_k».proof.Proof.Transport
public import proofs.«01_k».proof.Proof.Place
public import proofs.«01_k».proof.Proof.Update
public import Idealize.ShloMosaic.Lib.StableHlo.RunRead
public import Idealize.ShloMosaic.Lib.KernelVsHost
public import Idealize.ShloMosaic.Lib.Pipeline.Value

@[expose] public section

noncomputable section

namespace Cert.Proof.Image

open Idealize.ShloMosaic Idealize.ShloMosaic.TcCoe
open Cert.Kernel.Steps hiding zero
open Cert.Kernel Cert.Kernel.Canon Cert.Kernel.Words Cert.Kernel.Phases Cert.Kernel.Layout Cert.Kernel.Run
open Cert.Proof.Place Cert.Proof.Update Cert.Proof.Transport
open StableHlo.Predicate (ij)
open Facts₀ Facts

variable {F : FTy → Type} [FloatOps F]

/-- An index of a window, and of the padded patch. -/
abbrev ixw (k : Fin 3) (r : Fin 40) (s : Fin 224) : S3x40x224.Idx := fun | 0 => k | 1 => r | 2 => s
abbrev ixq (k : Fin 3) (r : Fin 40) (s : Fin 224) : S1x3x40x224.Idx := fun | 0 => (0 : Fin 1) | 1 => k | 2 => r | 3 => s
abbrev ixi (b : Fin 256) (k : Fin 3) (r s : Fin 224) : S256x3x224x224.Idx := fun | 0 => b | 1 => k | 2 => r | 3 => s

/-! ## The padded patch -/

/-- The patch in the corner of an array of 40 rows and 224 columns, zero elsewhere. -/
def padded (p : Pat.Idx → F .f32) : S1x3x40x224.Idx → F .f32 :=
  Host.dynamicUpdateSlice (broadcastInDim S1x3x40x224 ![] bcast_S_S1x3x40x224 (constant S_ .f32 0x00000000#32)) p
    (fun k : Fin 4 => ((![constantI S_ 32 0#32, constantI S_ 32 0#32, constantI S_ 32 0#32, constantI S_ 32 0#32] : Fin 4 → S_.Idx → BitVec 32) k (Shape.Idx.first h_S_)).toInt)
    updateFits_S1x3x40x224_S1x3x30x30

theorem patch_eq (m : Mem F) (c : Dev nD) : patch (m := m) c = padded (m ((c.tc : Thread nD τ).loc main_arg1)) := by
  unfold patch V Gen.hostOps0
  after_reads_simp
  unfold padded
  refine congrArg (fun st => Host.dynamicUpdateSlice _ _ st _) (funext fun k => ?_)
  fin_cases k <;> (after_reads_simp; rfl)

theorem zero_start : ∀ a : Fin 4, ((![constantI S_ 32 0#32, constantI S_ 32 0#32, constantI S_ 32 0#32, constantI S_ 32 0#32] : Fin 4 → S_.Idx → BitVec 32) a (Shape.Idx.first h_S_)).toInt
    = ((fun _ => 0 : Fin 4 → ℕ) a : ℕ) := by
  intro a
  fin_cases a <;> exact (by decide : (0#32 : BitVec 32).toInt = 0)

theorem corner_fits : ∀ a : Fin 4, (fun _ => 0 : Fin 4 → ℕ) a + S1x3x30x30.size a ≤ S1x3x40x224.size a := by decide

theorem padded_in (p : Pat.Idx → F .f32) (k : Fin 3) (r : Fin 40) (s : Fin 224) (hr : r.val < 30) (hs : s.val < 30) :
    padded p (ixq k r s) = p (at4 k ⟨r.val, hr⟩ ⟨s.val, hs⟩) := by
  unfold padded
  refine update_in _ p _ updateFits_S1x3x40x224_S1x3x30x30 (fun _ => 0) zero_start corner_fits _ (at4 k ⟨r.val, hr⟩ ⟨s.val, hs⟩) ?_
  intro a; fin_cases a <;> exact (Nat.zero_add _).symm

theorem padded_out (p : Pat.Idx → F .f32) (k : Fin 3) (r : Fin 40) (s : Fin 224) (h : ¬(r.val < 30 ∧ s.val < 30)) :
    padded p (ixq k r s) = zero := by
  unfold padded
  by_cases hr : r.val < 30
  · exact update_out _ p _ updateFits_S1x3x40x224_S1x3x30x30 (fun _ => 0) zero_start corner_fits _ 3 fun h' =>
      h ⟨hr, by have : s.val < 0 + 30 := h'.2; omega⟩
  · exact update_out _ p _ updateFits_S1x3x40x224_S1x3x30x30 (fun _ => 0) zero_start corner_fits _ 2 fun h' =>
      hr (by have : r.val < 0 + 30 := h'.2; omega)

/-! ## Rotated into place -/

/-- The row of an array of 40 that a rotation by `d` rows brings to row `r`, and the column of 224. -/
abbrev backRow (d : ℕ) (r : Fin 40) : Fin 40 := ⟨(r.val + 40 - d % 40) % 40, Nat.mod_lt _ (by decide)⟩
abbrev backCol (d : ℕ) (s : Fin 224) : Fin 224 := ⟨(s.val + 224 - d % 224) % 224, Nat.mod_lt _ (by decide)⟩

theorem rotated (p : Vec F S1x3x40x224 .f32) (v w : BitVec 32) (k : Fin 3) (r : Fin 40) (s : Fin 224) :
    dynamicRotate 1 v none
      (dynamicRotate 2 w none (shapeCast S3x40x224 p shapeCasts_S1x3x40x224_S3x40x224 : FVec F S3x40x224 .f32) rotates_S3x40x224_d2)
      rotates_S3x40x224_d1 (ixw k r s) = (p : S1x3x40x224.Idx → F .f32) (ixq k (backRow v.toNat r) (backCol w.toNat s)) := by
  refine (dynamicRotate_apply 1 v _ _ _ (ixw k (backRow v.toNat r) s) ?_).trans ?_
  · intro a; fin_cases a <;> rfl
  refine (dynamicRotate_apply 2 w _ _ _ (ixw k (backRow v.toNat r) (backCol w.toNat s)) ?_).trans ?_
  · intro a; fin_cases a <;> rfl
  refine (shapeCast_dropUnit_apply (![3, 40, 224]) p _ _).trans (congrArg (p : S1x3x40x224.Idx → F .f32) (funext fun a => ?_))
  fin_cases a <;> rfl

/-- Row `r` of the window is row `rowOf vy + r` of the image: there the rotated patch is the prompt. -/
theorem rotated_prompt (T : Tab.Idx → BitVec 32) (p : Pat.Idx → F .f32) (b : Fin 256) (hr : row T b < 194) (hc : col T b < 194)
    (k : Fin 3) (r : Fin 40) (s : Fin 224) :
    padded p (ixq k (backRow (row T b - rowOf (row T b)) r) (backCol (col T b) s))
      = prompt T p b k (rowOf (row T b) + r.val) s.val := by
  have hrow : rowOf (row T b) ≤ row T b ∧ row T b ≤ rowOf (row T b) + 10 := by unfold rowOf; omega
  generalize rowOf (row T b) = q at hrow ⊢
  have er : (backRow (row T b - q) r).val = (r.val + 40 - (row T b - q) % 40) % 40 := rfl
  have ec : (backCol (col T b) s).val = (s.val + 224 - col T b % 224) % 224 := rfl
  have h1 := r.isLt
  have h2 := s.isLt
  rw [Nat.mod_eq_of_lt (by omega : row T b - q < 40)] at er
  rw [Nat.mod_eq_of_lt (by omega : col T b < 224)] at ec
  by_cases hin : (row T b ≤ q + r.val ∧ q + r.val < row T b + 30) ∧ (col T b ≤ s.val ∧ s.val < col T b + 30)
  · rw [padded_in p k _ _ (by omega) (by omega)]
    exact (prompt_in _ _ (by show _ = _ + (backRow (row T b - q) r).val; omega) (by show _ = _ + (backCol (col T b) s).val; omega)).symm
  · rw [prompt_out hin, padded_out]
    omega

/-! ## The image array -/

variable {c : Dev nD} {T : TabBuf (F := F) c} (hT : InRange c T)

/-- Where an index of sample `b`'s window stands in the image array. -/
theorem win_emb (b : Fin 256) (v : BitVec 32) (h : InWin b.val v) (k : Fin 3) (r : Fin 40) (s : Fin 224)
    (hrow : (rowWord v).toNat + r.val < 224) :
    (winM b.val v h).view.emb (ixw k r s) = ixi b k ⟨(rowWord v).toNat + r.val, hrow⟩ s := by
  have e : (winM b.val v h).view.emb (ixw k r s)
      = (Rect.unit (s := S256x3x224x224) (offWin b.val v) S1x3x40x224.size h).emb
          (Shape.reshapeEquiv squeezes_S1x3x40x224_S3x40x224.numel_eq (ixw k r s)) := rfl
  have eq : (Fin.cons (⟨0, Nat.one_pos⟩ : Fin 1) (ixw k r s) : S1x3x40x224.Idx) = ixq k r s := by
    funext a; fin_cases a <;> rfl
  have eq' : Shape.reshapeEquiv squeezes_S1x3x40x224_S3x40x224.numel_eq (ixw k r s) = ixq k r s :=
    (Shape.reshapeEquiv_cons_one (d := ![3, 40, 224]) _ _).trans eq
  rw [e, eq']
  funext a
  refine Fin.ext ?_
  fin_cases a
  · show b.val + 1 * 0 = b.val; omega
  · show 0 + 1 * k.val = k.val; omega
  · show (rowWord v).toNat + 1 * r.val = (rowWord v).toNat + r.val; omega
  · show 0 + 1 * s.val = s.val; omega

/-- Where a window stands, the entry is the image's plus the prompt's. -/
theorem imgFinal_in (p : Pat.Idx → F .f32) (X : ImgBuf (F := F) c) (hc : ∀ i, ((T : S256x2.Idx → BitVec 32) i).toNat < 194)
    (b : Fin 256) (k : Fin 3) (r s : Fin 224) (hr : rowOf (row T b) ≤ r.val ∧ r.val < rowOf (row T b) + 40) :
    (imgFinal hT (padded p) X : S256x3x224x224.Idx → F .f32) (ixi b k r s)
      = FloatOps.addf ((X : S256x3x224x224.Idx → F .f32) (ixi b k r s)) (prompt T p b k r.val s.val) := by
  have ey : vy c T b.val b.isLt = (T : S256x2.Idx → BitVec 32) (ij b 0) := word_eq c T b 0 _
  have ex : vx c T b.val b.isLt = (T : S256x2.Idx → BitVec 32) (ij b 1) := word_eq c T b 1 _
  have ew : (rowWord (vy c T b.val b.isLt)).toNat = rowOf (row T b) := (rowWord_toNat _ (hT b.val b.isLt)).trans (by rw [ey])
  have es : (Scalar.subi (vy c T b.val b.isLt) (rowWord (vy c T b.val b.isLt))).toNat = row T b - rowOf (row T b) :=
    (shift_toNat _ (hT b.val b.isLt)).trans (by rw [ey])
  have ei : ixi b k r s = (winM b.val (vy c T b.val b.isLt) (hT.inWin b.isLt)).view.emb (ixw k ⟨r.val - rowOf (row T b), by omega⟩ s) := by
    rw [win_emb b _ _ k ⟨r.val - rowOf (row T b), by omega⟩ s (by rw [ew]; show _ + (r.val - _) < _; omega)]
    refine congrArg (fun r => ixi b k r s) (Fin.ext ?_)
    show r.val = (rowWord _).toNat + (r.val - _)
    omega
  show imgOut hT (padded p) X b.val b.isLt (ixi b k r s) = _
  unfold imgOut
  rw [ei]
  refine (View.write_emb_of_mem _ _ (Finset.mem_univ _)).trans ?_
  unfold newVal added
  show FloatOps.addf ((winM b.val (vy c T b.val b.isLt) (hT.inWin b.isLt)).view.read (Elt F) X (ixw k ⟨r.val - rowOf (row T b), by omega⟩ s)) _ = _
  refine congrArg₂ FloatOps.addf rfl ((rotated _ _ _ _ _ _).trans ?_)
  rw [es, ex]
  refine (rotated_prompt T p b (hc _) (hc _) k _ s).trans (congrArg (fun q => prompt T p b k q s.val) ?_)
  show rowOf (row T b) + (r.val - rowOf (row T b)) = r.val
  omega

/-- Outside the sample's window the entry is the image's. -/
theorem imgFinal_out (P : Vec F S1x3x40x224 .f32) (X : ImgBuf (F := F) c)
    (b : Fin 256) (k : Fin 3) (r s : Fin 224) (hr : ¬(rowOf (row T b) ≤ r.val ∧ r.val < rowOf (row T b) + 40)) :
    (imgFinal hT P X : S256x3x224x224.Idx → F .f32) (ixi b k r s) = (X : S256x3x224x224.Idx → F .f32) (ixi b k r s) := by
  have ey : vy c T b.val b.isLt = (T : S256x2.Idx → BitVec 32) (ij b 0) := word_eq c T b 0 _
  have ew : (rowWord (vy c T b.val b.isLt)).toNat = rowOf (row T b) := (rowWord_toNat _ (hT b.val b.isLt)).trans (by rw [ey])
  show imgOut hT P X b.val b.isLt (ixi b k r s) = _
  unfold imgOut
  refine View.write_of_not_mem _ _ _ fun h' => hr ?_
  have h := ((mem_win hT b.val b.isLt _).1 (View.setOn_subset_set _ _ h')).2
  rw [ew] at h
  exact h

/-- There the prompt is zero. -/
theorem prompt_rest (T : Tab.Idx → BitVec 32) (p : Pat.Idx → F .f32) (b : Fin 256) (h : row T b < 194) (k : Fin 3) (r s : ℕ)
    (hr : ¬(rowOf (row T b) ≤ r ∧ r < rowOf (row T b) + 40)) : prompt T p b k r s = zero :=
  prompt_out fun hin => hr (by unfold rowOf; omega)

/-- Over the extended reals, the entry is the image's plus the prompt's everywhere. -/
theorem imgFinal_eq {c : Dev nD} {T : TabBuf (F := Ideal) c} (hT : InRange c T) (p : Pat.Idx → Ideal .f32) (X : ImgBuf (F := Ideal) c)
    (hc : ∀ i, ((T : S256x2.Idx → BitVec 32) i).toNat < 194) (i : S256x3x224x224.Idx) :
    (imgFinal hT (padded p) X : S256x3x224x224.Idx → Ideal .f32) i
      = FloatOps.addf ((X : S256x3x224x224.Idx → Ideal .f32) i) (prompt T p (i 0) (i 1) (i 2).val (i 3).val) := by
  have ei : i = ixi (i 0) (i 1) (i 2) (i 3) := by funext a; fin_cases a <;> rfl
  by_cases hr : rowOf (row T (i 0)) ≤ (i 2).val ∧ (i 2).val < rowOf (row T (i 0)) + 40
  · have h := imgFinal_in hT p X hc (i 0) (i 1) (i 2) (i 3) hr
    rw [← ei] at h
    exact h
  · have h := imgFinal_out hT (padded p) X (i 0) (i 1) (i 2) (i 3) hr
    rw [← ei] at h
    rw [h, prompt_rest T p (i 0) (hc _) (i 1) (i 2).val (i 3).val hr]
    have hz : (zero : Ideal .f32) = (0 : EReal) := Ideal.ofBits_zero_f32
    rw [hz]
    exact (add_zero (M := EReal) _).symm

end Cert.Proof.Image

end
-- ==== Proof.RefLoop.lean ====
/-
  The reference's loop: after `k` trips the first `k` samples of the carried array hold their prompts, the others
  are zero. Each trip reads its sample's position and writes a zero image with the patch placed there.
-/
module

public import proofs.«01_k».proof.Proof.Gen.ReferenceIdeal.Run
public import proofs.«01_k».proof.Proof.Place
public import proofs.«01_k».proof.Proof.Update
public import Idealize.ShloMosaic.Lib.Pipeline.Value

@[expose] public section

noncomputable section

namespace Cert.Proof.RefLoop

open Idealize.ShloMosaic Idealize.ShloMosaic.TcCoe Idealize.SL.Sem Idealize.ShloMosaic.StableHlo
open Cert.ReferenceIdeal Cert.ReferenceIdeal.Gen Cert.ReferenceIdeal.Value
open Cert.Proof.Place Cert.Proof.Update
open StableHlo.Predicate (ij)

variable {F : FTy → Type} [FloatOps F]

/-- What the loop carries when `k` trips are done: the table, the patch without its axis of size one, the number of
    trips, and the prompts of the first `k` samples. -/
structure Inv (T : Tab.Idx → BitVec 32) (p : Pat.Idx → F .f32) (k : ℕ) (V : Valuation τ sig (Elt F)) : Prop where
  tab : V (Proc.devRef .tc main_v2_0) = T
  pat : V (Proc.devRef .tc main_v2_1) = shapeCast S3x30x30 p shapeCasts_S1x3x30x30_S3x30x30
  cnt : V (Proc.devRef .tc main_v2_2) = constantI S_ 32 (BitVec.ofNat 32 k)
  out : ∀ (b : Fin 256) (i : Imgs.Idx), i 0 = b →
    (V (Proc.devRef .tc main_v2_3) : Imgs.Idx → F .f32) i = if b.val < k then prompt T p b (i 1) (i 2).val (i 3).val else zero

/-- The one index of a shape of rank zero. -/
abbrev o : S_.Idx := Shape.Idx.first h_S_

/-- A word below 194 is not negative, and is its own wrapped index. -/
theorem wrapped {w : BitVec 32} (h : w.toNat < 194) :
    Scalar.select (IntOp.cmpi .slt w 0#32) (IntOp.addi w 224#32) w = w := by
  have hi := Predicate.toInt_eq_toNat_of_lt (a := w) (by omega)
  have e : IntOp.cmpi .slt w 0#32 = 0#1 := by
    have e0 : (0#32 : BitVec 32).toInt = 0 := by decide
    have h' : decide ((w.toNat : Int) < 0) = false := by simp
    simp only [IntOp.cmpi, BitVec.slt, hi, e0, h']
    rfl
  rw [e]
  rfl

theorem toInt_word {w : BitVec 32} (h : w.toNat < 194) : w.toInt = w.toNat := Predicate.toInt_eq_toNat_of_lt (by omega)

variable {T : Tab.Idx → BitVec 32} {p : Pat.Idx → F .f32} {V : Valuation τ sig (Elt F)} (hT : ∀ i, (T i).toNat < 194)

/-- Entry `q` of a position. -/
abbrev ix (q : Fin 2) : S2.Idx := fun | 0 => q

/-- The position the `k`-th trip reads. -/
theorem pos_eq (b : Fin 256) (hV : Inv T p b.val V) (q : Fin 2) :
    (res_main_while0b_v4 V : S2.Idx → BitVec 32) (ix q) = T (ij b q) := by
  unfold res_main_while0b_v4
  rw [hV.tab, hV.cnt]
  refine (shapeCast_dropUnit_apply (![2]) _ _ _).trans ?_
  refine slice_at _ _ _ ![b.val, 0] ?_ ?_ _ _ ?_
  · intro a
    fin_cases a
    · exact Predicate.toInt_ofNat_small b.val (by omega)
    · exact (by decide : (0#32 : BitVec 32).toInt = 0)
  · intro a
    have := b.isLt
    fin_cases a
    · show b.val + 1 ≤ 256; omega
    · show 0 + 2 ≤ 2; omega
  · intro a
    fin_cases a
    · show b.val = b.val + 0; omega
    · show q.val = 0 + q.val; omega

theorem row_eq (b : Fin 256) (hV : Inv T p b.val V) : (res_main_while0b_v7 V : S_.Idx → BitVec 32) o = T (ij b 0) := by
  unfold res_main_while0b_v7
  refine .trans ?_ (pos_eq b hV 0)
  unfold shapeCast extractStridedSlice
  refine congrArg (res_main_while0b_v4 V : S2.Idx → BitVec 32) (funext fun a => Fin.ext ?_)
  have hl := ((Shape.reshapeEquiv shapeCasts_S1_S_ o : S1.Idx) 0).isLt
  have hl' : ((Shape.reshapeEquiv shapeCasts_S1_S_ o : S1.Idx) 0).val = 0 := Nat.lt_one_iff.1 hl
  fin_cases a
  show 0 + ((Shape.reshapeEquiv shapeCasts_S1_S_ o : S1.Idx) 0).val = 0
  rw [hl']

theorem col_eq (b : Fin 256) (hV : Inv T p b.val V) : (res_main_while0b_v9 V : S_.Idx → BitVec 32) o = T (ij b 1) := by
  unfold res_main_while0b_v9
  refine .trans ?_ (pos_eq b hV 1)
  unfold shapeCast extractStridedSlice
  refine congrArg (res_main_while0b_v4 V : S2.Idx → BitVec 32) (funext fun a => Fin.ext ?_)
  have hl := ((Shape.reshapeEquiv shapeCasts_S1_S_ o : S1.Idx) 0).isLt
  have hl' : ((Shape.reshapeEquiv shapeCasts_S1_S_ o : S1.Idx) 0).val = 0 := Nat.lt_one_iff.1 hl
  fin_cases a
  show 1 + ((Shape.reshapeEquiv shapeCasts_S1_S_ o : S1.Idx) 0).val = 1
  rw [hl']

/-- An index of an image, of a batch of one image, and of the patch. -/
abbrev ix3 (k : Fin 3) (r s : Fin 224) : S3x224x224.Idx := fun | 0 => k | 1 => r | 2 => s
abbrev ix4 (k : Fin 3) (r s : Fin 224) : S1x3x224x224.Idx := fun | 0 => (0 : Fin 1) | 1 => k | 2 => r | 3 => s
abbrev ixp (k : Fin 3) (r s : Fin 30) : S3x30x30.Idx := fun | 0 => k | 1 => r | 2 => s

/-- A zero image with the patch placed at sample `b`'s position is the sample's prompt. -/
theorem canvas_at (b : Fin 256) (hr : row T b < 194) (hc : col T b < 194) (Z : S3x224x224.Idx → F .f32) (hZ : ∀ i, Z i = zero)
    (st : Fin 3 → Int) (h0 : st 0 = 0) (h1 : st 1 = row T b) (h2 : st 2 = col T b) (k : Fin 3) (r s : Fin 224) :
    Host.dynamicUpdateSlice Z (shapeCast S3x30x30 p shapeCasts_S1x3x30x30_S3x30x30) st updateFits_S3x224x224_S3x30x30 (ix3 k r s)
      = prompt T p b k r.val s.val := by
  have hoff : ∀ a : Fin 3, st a = (![0, row T b, col T b] : Fin 3 → ℕ) a := by
    intro a; fin_cases a
    · exact h0
    · exact h1
    · exact h2
  have hfit : ∀ a : Fin 3, (![0, row T b, col T b] : Fin 3 → ℕ) a + S3x30x30.size a ≤ S3x224x224.size a := by
    intro a; fin_cases a
    · show 0 + 3 ≤ 3; omega
    · show row T b + 30 ≤ 224; omega
    · show col T b + 30 ≤ 224; omega
  by_cases hin : (row T b ≤ r.val ∧ r.val < row T b + 30) ∧ (col T b ≤ s.val ∧ s.val < col T b + 30)
  · rw [prompt_in (k := k) (⟨r.val - row T b, by omega⟩ : Fin 30) (⟨s.val - col T b, by omega⟩ : Fin 30) (by simp; omega) (by simp; omega)]
    refine (update_in Z _ st updateFits_S3x224x224_S3x30x30 (![0, row T b, col T b]) hoff hfit _
      (ixp k ⟨r.val - row T b, by omega⟩ ⟨s.val - col T b, by omega⟩) ?_).trans ?_
    · intro a; fin_cases a
      · show k.val = 0 + k.val; omega
      · show r.val = row T b + (r.val - row T b); omega
      · show s.val = col T b + (s.val - col T b); omega
    · refine (shapeCast_dropUnit_apply (![3, 30, 30]) p _ _).trans (congrArg p (funext fun a => ?_))
      fin_cases a <;> rfl
  · rw [prompt_out hin, ← hZ (ix3 k r s)]
    by_cases hrow : row T b ≤ r.val ∧ r.val < row T b + 30
    · exact update_out Z _ st updateFits_S3x224x224_S3x30x30 (![0, row T b, col T b]) hoff hfit _ 2 (fun h => hin ⟨hrow, h⟩)
    · exact update_out Z _ st updateFits_S3x224x224_S3x30x30 (![0, row T b, col T b]) hoff hfit _ 1 hrow

/-- Writing an image as sample `b` of the batch. -/
theorem write_at (b : Fin 256) (A : Imgs.Idx → F .f32) (C : S3x224x224.Idx → F .f32)
    (st : Fin 4 → Int) (h0 : st 0 = b.val) (h1 : st 1 = 0) (h2 : st 2 = 0) (h3 : st 3 = 0) (i : Imgs.Idx) :
    Host.dynamicUpdateSlice A (broadcastInDim S1x3x224x224 ![1, 2, 3] bcast_S3x224x224_S1x3x224x224_1_2_3 C) st
        updateFits_S256x3x224x224_S1x3x224x224 i
      = if (i 0).val = b.val then C (ix3 (i 1) (i 2) (i 3)) else A i := by
  have hoff : ∀ a : Fin 4, st a = (![b.val, 0, 0, 0] : Fin 4 → ℕ) a := by
    intro a; fin_cases a
    · exact h0
    · exact h1
    · exact h2
    · exact h3
  have hfit : ∀ a : Fin 4, (![b.val, 0, 0, 0] : Fin 4 → ℕ) a + S1x3x224x224.size a ≤ S256x3x224x224.size a := by
    have := b.isLt
    intro a; fin_cases a
    · show b.val + 1 ≤ 256; omega
    · show 0 + 3 ≤ 3; omega
    · show 0 + 224 ≤ 224; omega
    · show 0 + 224 ≤ 224; omega
  split
  next hb =>
    refine (update_in A _ st updateFits_S256x3x224x224_S1x3x224x224 (![b.val, 0, 0, 0]) hoff hfit i (ix4 (i 1) (i 2) (i 3)) ?_).trans ?_
    · intro a; fin_cases a
      · show (i 0).val = b.val + 0; exact hb
      · show (i 1).val = 0 + (i 1).val; omega
      · show (i 2).val = 0 + (i 2).val; omega
      · show (i 3).val = 0 + (i 3).val; omega
    · refine broadcastInDim_apply _ _ _ _ _ ?_
      intro a; fin_cases a <;> rfl
  next hb =>
    refine update_out A _ st updateFits_S256x3x224x224_S1x3x224x224 (![b.val, 0, 0, 0]) hoff hfit i 0 fun h => hb ?_
    have h1 : b.val ≤ (i 0).val := h.1
    have h2 : (i 0).val < b.val + 1 := h.2
    omega

/-- A trip. -/
theorem trip (hT : ∀ i, (T i).toNat < 194) {k : ℕ} (hk : k < 256) (hV : Inv T p k V) : Inv T p (k + 1) (STEP V) where
  tab := (STEP_main_v2_0 V).trans hV.tab
  pat := (STEP_main_v2_1 V).trans hV.pat
  cnt := by
    rw [STEP_main_v2_2]
    unfold step_main_v2_2
    rw [hV.cnt]
    funext i
    show BitVec.ofNat 32 k + 1#32 = BitVec.ofNat 32 (k + 1)
    simp only [BitVec.ofNat_add]
  out := by
    intro b' i hb'
    have hV' : Inv T p (⟨k, hk⟩ : Fin 256).val V := hV
    have er := row_eq ⟨k, hk⟩ hV'
    have ec := col_eq ⟨k, hk⟩ hV'
    rw [STEP_main_v2_3]
    unfold step_main_v2_3
    refine (write_at ⟨k, hk⟩ _ _ _ ?_ ?_ ?_ ?_ i).trans ?_
    · show BitVec.toInt ((V (Proc.devRef .tc main_v2_2) : S_.Idx → BitVec 32) o) = k
      rw [hV.cnt]
      exact Predicate.toInt_ofNat_small k (by omega)
    · exact (by decide : (0#32 : BitVec 32).toInt = 0)
    · exact (by decide : (0#32 : BitVec 32).toInt = 0)
    · exact (by decide : (0#32 : BitVec 32).toInt = 0)
    by_cases h : b'.val = k
    · obtain rfl : b' = ⟨k, hk⟩ := Fin.ext h
      rw [if_pos (congrArg Fin.val hb'), if_pos (Nat.lt_succ_self k), hV.pat]
      refine canvas_at ⟨k, hk⟩ (hT _) (hT _) _ (fun _ => rfl) _ ?_ ?_ ?_ (i 1) (i 2) (i 3)
      · exact (by decide : (0#32 : BitVec 32).toInt = 0)
      · refine .trans ?_ (toInt_word (hT (ij ⟨k, hk⟩ 0)))
        refine congrArg BitVec.toInt (.trans ?_ (wrapped (hT (ij ⟨k, hk⟩ 0))))
        rw [← er]
        rfl
      · refine .trans ?_ (toInt_word (hT (ij ⟨k, hk⟩ 1)))
        refine congrArg BitVec.toInt (.trans ?_ (wrapped (hT (ij ⟨k, hk⟩ 1))))
        rw [← ec]
        rfl
    · rw [if_neg (fun e => h ((congrArg Fin.val hb').symm.trans e)), hV.out b' i hb']
      by_cases h' : b'.val < k
      · rw [if_pos h', if_pos (by omega)]
      · rw [if_neg h', if_neg (by omega)]

variable (m : (ℓ : Loc nD τ sig) → Buf (Elt F) ℓ) (ρ : Dev nD → PrngReg)

/-- The table and the patch of a memory. -/
abbrev tabOf (c : Dev nD) : Tab.Idx → BitVec 32 := m ((c.tc : Thread nD τ).loc main_arg2)
abbrev patOf (c : Dev nD) : Pat.Idx → F .f32 := m ((c.tc : Thread nD τ).loc main_arg1)
abbrev imgOf (c : Dev nD) : Imgs.Idx → F .f32 := m ((c.tc : Thread nD τ).loc main_arg0)

set_option maxRecDepth 65536 in
/-- Before the first trip. -/
theorem start (c : Dev nD) : Inv (tabOf m c) (patOf m c) 0 (entryContents preI m c) where
  tab := by
    simp only [entryContents, afterL_cons, afterL_nil]; after_reads_simp; rfl
  pat := by
    simp only [entryContents, afterL_cons, afterL_nil]; after_reads_simp; rfl
  cnt := by
    simp only [entryContents, afterL_cons, afterL_nil]; after_reads_simp; rfl
  out := by
    intro b i _
    rw [if_neg (Nat.not_lt_zero _)]
    suffices h : (entryContents preI m c (Proc.devRef .tc main_v2_3) : Imgs.Idx → F .f32) = fun _ => zero from congrFun h i
    simp only [entryContents, afterL_cons, afterL_nil]; after_reads_simp; rfl

/-- After `k` trips. -/
theorem trips (c : Dev nD) (hT : ∀ i, (tabOf m c i).toNat < 194) :
    ∀ k, k ≤ 256 → Inv (tabOf m c) (patOf m c) k (STEP^[k] (entryContents preI m c))
  | 0, _ => start m c
  | k + 1, hk => by
    rw [Function.iterate_succ_apply']
    exact trip hT hk (trips c hT k (by omega))

/-- The reference's result: every image plus its prompt. -/
def result (c : Dev nD) : Imgs.Idx → F .f32 := fun i =>
  FloatOps.addf (imgOf m c i) (prompt (tabOf m c) (patOf m c) (i 0) (i 1) (i 2).val (i 3).val)

/-- The reference's run. -/
theorem run_ref (hT : ∀ c i, (tabOf m c i).toNat < 194) :
    θ_run (defs (F := F)) (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  refine funext fun i : Imgs.Idx => ?_
  have hv := (trips m c (hT c) 256 (le_refl _)).out (i 0) i rfl
  replace hv := hv.trans (if_pos (i 0).isLt)
  unfold out_main_v3 result
  refine congrArg₂ FloatOps.addf ?_ hv
  exact congrFun (iter_main_arg0 m c 256) i

end Cert.Proof.RefLoop

end
-- ==== Proof.lean ====
/-
  The certificate of the prompt kernel. The program's run (module Run) gives the frames of the program and of its
  idealization; the reference's run (module RefLoop) gives the reference's; and the two results agree entry by entry,
  each being the image plus the prompt (modules Image and RefLoop).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_image
public import proofs.«01_k».proof.Proof.Run
public import proofs.«01_k».proof.Proof.Pre
public import proofs.«01_k».proof.Proof.Transport
public import proofs.«01_k».proof.Proof.Image
public import proofs.«01_k».proof.Proof.RefLoop
public import Idealize.ShloMosaic.Lib.Quiescent

@[expose] public section

noncomputable section

namespace Cert.Proof

open Idealize.ShloMosaic Idealize.ShloMosaic.TcCoe Idealize.SL.Sem

/-- The program ends with its arguments unchanged and every semaphore at zero. -/
theorem frame_kernel : Cert.quiescent_Kernel := fun m g h =>
  (θ_run _ _ _).mono (fun _ hr => ⟨fun c => (hr.1 c).2, hr.2⟩)
    (Cert.Kernel.Run.run g (Transport.good m fun c i => Pre.entry_lt (h c) i))

/-- So does its idealization. -/
theorem frame_kernelIdeal : Cert.quiescent_KernelIdeal := fun m g h =>
  Transport.run_ideal m g _ ((θ_run _ _ _).mono (fun _ hr => ⟨fun c => (hr.1 c).2, hr.2⟩)
    (Cert.Kernel.Run.run g (Transport.good m fun c i => Pre.entry_lt (h c) i)))

/-- So does the reference, from any memory. -/
theorem frame_reference : Cert.quiescent_ReferenceIdeal := fun m g _ =>
  (θ_run _ _ _).mono (fun r hr => ⟨fun c => (hr c).2, sem_eq_zero_of_no_sems (by decide) r.2⟩)
    (Cert.ReferenceIdeal.Value.run (F := Ideal) m g)

/-- So does the reference under the precondition. -/
theorem frame_reference_pre : Cert.quiescent_ReferenceIdeal_pre_in_image := fun m g _ => frame_reference m g trivial

/-- Images plus prompts, from equal arguments. -/
theorem same_of {x x' : Place.Imgs.Idx → Ideal .f32} {p p' : Place.Pat.Idx → Ideal .f32} {T T' : Place.Tab.Idx → BitVec 32}
    (hx : x' = x) (hp : p' = p) (ht : T' = T) :
    (fun i : Place.Imgs.Idx => FloatOps.addf (x i) (Place.prompt T p (i 0) (i 1) (i 2).val (i 3).val))
      = fun i => FloatOps.addf (x' i) (Place.prompt T' p' (i 0) (i 1) (i 2).val (i 3).val) := by
  subst hx hp ht
  rfl

/-- The idealized kernel and the reference end with the same result. -/
theorem same_result : Cert.algebraic_KernelIdeal_ReferenceIdeal := fun m g m' g' hpre hm => by
  have hT : ∀ c : Dev Cert.KernelIdeal.nD, ∀ i : Place.Tab.Idx,
      ((m ((c.tc : Thread Cert.KernelIdeal.nD Cert.KernelIdeal.τ).loc Cert.KernelIdeal.main_arg2) : Place.Tab.Idx → BitVec 32) i).toNat < 194 :=
    fun c i => Pre.entry_lt (hpre c) i
  refine ⟨fun c => RefLoop.result m' c, ?_, ?_⟩
  · refine Transport.run_ideal m g _ ((θ_run _ _ _).mono (fun _ hr c => ⟨(hr.1 c).1.trans ?_, (hr.1 c).2⟩)
      (Cert.Kernel.Run.run g (Transport.good m hT)))
    funext i
    rw [Image.patch_eq]
    refine (Image.imgFinal_eq _ _ _ (hT c) i).trans ?_
    exact congrFun (same_of (hm c).1 (hm c).2.1 (hm c).2.2) i
  · refine RefLoop.run_ref m' g' fun c i => ?_
    unfold RefLoop.tabOf
    rw [(hm c).2.2]
    exact hT c i

theorem claim : Cert.Claim := ⟨Cert.Kernel.Gen.facts, Cert.KernelIdeal.Gen.facts, Cert.ReferenceIdeal.Gen.facts, Cert.Pre_in_image.Gen.facts,
  frame_kernel, frame_kernelIdeal, frame_reference, frame_reference_pre, trivial, same_result⟩

end Cert.Proof

end
